-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_v43) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v17) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v25) = v0 c
          ∧ r.2.mem ((c.tc : Thread Cert.Reference17Ideal.nD Cert.Reference17Ideal.τ).loc Cert.Reference17Ideal.main_v14) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v7) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v55) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v228) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  IdealRules.named_const.Statement Cert.Kernel20Ideal.κ "mask" .f32 0xF149F2CA#32 ⊥

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v91) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_finite5 : Cert.Pre_finite5.Facts) (hPre_finite8 : Cert.Pre_finite8.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
-- ==== Pre_finite.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S_ : Shape := ⟨0, ![]⟩
abbrev S1 : Shape := ⟨1, ![1]⟩
abbrev S9 : Shape := ⟨1, ![9]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x512 : S_.BroadcastsInDim S8192x512 (![] : Fin 0 → Fin S8192x512.rank)
  reducesTo_S8192x512_S_d0_1 : S8192x512.ReducesTo [0, 1] S_
  bcast_S_S512 : S_.BroadcastsInDim S512 (![] : Fin 0 → Fin S512.rank)
  reducesTo_S512_S_d0 : S512.ReducesTo [0] S_
  bcast_S_S1 : S_.BroadcastsInDim S1 (![] : Fin 0 → Fin S1.rank)
  concatenates_S1_S1_S1_S1_S1_S1_S1_S1_S1_S9_d0 : Shape.Concatenates [S1, S1, S1, S1, S1, S1, S1, S1, S1] S9 0

variable [Facts]

def fn_part2 {F : FTy → Type} [FloatOps F] (main_arg8 : FVec F S512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S9 1 :=
  let main_v32 : FVec F S512 .f32 := Host.absf main_arg8
  let main_cst_14 : FVec F S_ .f32 := constant S_ .f32 0x7F800000#32
  let main_v33 : FVec F S512 .f32 := broadcastInDim S512 ![] bcast_S_S512 main_cst_14
  let main_v34 : IVec S512 1 := cmpf .olt main_v32 main_v33
  let main_c_15 : IVec S_ 1 := constantI S_ 1 1#1
  let main_v35 : IVec S_ 1 := (fun x v => Host.reduce IntOp.andi x v reducesTo_S512_S_d0 h_S_) main_v34 main_c_15
  let main_v36 : IVec S1 1 := broadcastInDim S1 ![] bcast_S_S1 main_v3
  let main_v37 : IVec S1 1 := broadcastInDim S1 ![] bcast_S_S1 main_v7
  let main_v38 : IVec S1 1 := broadcastInDim S1 ![] bcast_S_S1 main_v11
  let main_v39 : IVec S1 1 := broadcastInDim S1 ![] bcast_S_S1 main_v15
  let main_v40 : IVec S1 1 := broadcastInDim S1 ![] bcast_S_S1 main_v19
  let main_v41 : IVec S1 1 := broadcastInDim S1 ![] bcast_S_S1 main_v23
  let main_v42 : IVec S1 1 := broadcastInDim S1 ![] bcast_S_S1 main_v27
  let main_v43 : IVec S1 1 := broadcastInDim S1 ![] bcast_S_S1 main_v31
  let main_v44 : IVec S1 1 := broadcastInDim S1 ![] bcast_S_S1 main_v35
  let main_v45 : IVec S9 1 := concatenate S9 0 [⟨S1, main_v36⟩, ⟨S1, main_v37⟩, ⟨S1, main_v38⟩, ⟨S1, main_v39⟩, ⟨S1, main_v40⟩, ⟨S1, main_v41⟩, ⟨S1, main_v42⟩, ⟨S1, main_v43⟩, ⟨S1, main_v44⟩] concatenates_S1_S1_S1_S1_S1_S1_S1_S1_S1_S9_d0
  main_v45

def fn_part1 {F : FTy → Type} [FloatOps F] (main_arg4 : FVec F S512 .f32) (main_arg5 : FVec F S512 .f32) (main_arg6 : FVec F S512 .f32) (main_arg7 : FVec F S512 .f32) (main_arg8 : FVec F S512 .f32) (main_v3 : IVec S_ 1) (main_v7 : IVec S_ 1) (main_v11 : IVec S_ 1) (main_v15 : IVec S_ 1) : IVec S9 1 :=
  let main_v16 : FVec F S512 .f32 := Host.absf main_arg4
  let main_cst_6 : FVec F S_ .f32 := constant S_ .f32 0x7F800000#32
  let main_v17 : FVec F S512 .f32 := broadcastInDim S512 ![] bcast_S_S512 main_cst_6
  let main_v18 : IVec S512 1 := cmpf .olt main_v16 main_v17
  let main_c_7 : IVec S_ 1 := constantI S_ 1 1#1
  let main_v19 : IVec S_ 1 := (fun x v => Host.reduce IntOp.andi x v reducesTo_S512_S_d0 h_S_) main_v18 main_c_7
  let main_v20 : FVec F S512 .f32 := Host.absf main_arg5
  let main_cst_8 : FVec F S_ .f32 := constant S_ .f32 0x7F800000#32
  let main_v21 : FVec F S512 .f32 := broadcastInDim S512 ![] bcast_S_S512 main_cst_8
  let main_v22 : IVec S512 1 := cmpf .olt main_v20 main_v21
  let main_c_9 : IVec S_ 1 := constantI S_ 1 1#1
  let main_v23 : IVec S_ 1 := (fun x v => Host.reduce IntOp.andi x v reducesTo_S512_S_d0 h_S_) main_v22 main_c_9
  let main_v24 : FVec F S512 .f32 := Host.absf main_arg6
  let main_cst_10 : FVec F S_ .f32 := constant S_ .f32 0x7F800000#32
  let main_v25 : FVec F S512 .f32 := broadcastInDim S512 ![] bcast_S_S512 main_cst_10
  let main_v26 : IVec S512 1 := cmpf .olt main_v24 main_v25
  let main_c_11 : IVec S_ 1 := constantI S_ 1 1#1
  let main_v27 : IVec S_ 1 := (fun x v => Host.reduce IntOp.andi x v reducesTo_S512_S_d0 h_S_) main_v26 main_c_11
  let main_v28 : FVec F S512 .f32 := Host.absf main_arg7
  let main_cst_12 : FVec F S_ .f32 := constant S_ .f32 0x7F800000#32
  let main_v29 : FVec F S512 .f32 := broadcastInDim S512 ![] bcast_S_S512 main_cst_12
  let main_v30 : IVec S512 1 := cmpf .olt main_v28 main_v29
  let main_c_13 : IVec S_ 1 := constantI S_ 1 1#1
  let main_v31 : IVec S_ 1 := (fun x v => Host.reduce IntOp.andi x v reducesTo_S512_S_d0 h_S_) main_v30 main_c_13
  fn_part2 (F := F) main_arg8 main_v3 main_v7 main_v11 main_v15 main_v19 main_v23 main_v27 main_v31

def fn {F : FTy → Type} [FloatOps F] (main_arg0 : FVec F S8192x1024 .f32) (main_arg1 : FVec F S1024x1024 .f32) (main_arg2 : FVec F S8192x512 .f32) (main_arg3 : FVec F S8192x512 .f32) (main_arg4 : FVec F S512 .f32) (main_arg5 : FVec F S512 .f32) (main_arg6 : FVec F S512 .f32) (main_arg7 : FVec F S512 .f32) (main_arg8 : FVec F S512 .f32) : IVec S9 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_arg8 main_v3 main_v7 main_v11 main_v15
-- ==== Pre_finite20.lean ====
abbrev S8192x1792 : Shape := ⟨2, ![8192, 1792]⟩
abbrev S2x512x128 : Shape := ⟨3, ![2, 512, 128]⟩
abbrev S8 : Shape := ⟨1, ![8]⟩
abbrev S64 : Shape := ⟨1, ![64]⟩
abbrev S_ : Shape := ⟨0, ![]⟩
abbrev S1 : Shape := ⟨1, ![1]⟩
abbrev S5 : Shape := ⟨1, ![5]⟩

class Facts : Prop where
  bcast_S_S8192x1792 : S_.BroadcastsInDim S8192x1792 (![] : Fin 0 → Fin S8192x1792.rank)
  reducesTo_S8192x1792_S_d0_1 : S8192x1792.ReducesTo [0, 1] S_
  h_S_ : 0 < S_.numel
  bcast_S_S2x512x128 : S_.BroadcastsInDim S2x512x128 (![] : Fin 0 → Fin S2x512x128.rank)
  reducesTo_S2x512x128_S_d0_1_2 : S2x512x128.ReducesTo [0, 1, 2] S_
  bcast_S_S8 : S_.BroadcastsInDim S8 (![] : Fin 0 → Fin S8.rank)
  reducesTo_S8_S_d0 : S8.ReducesTo [0] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S64 .f32) (main_v3 : IVec S_ 1) (main_v7 : IVec S_ 1) (main_v11 : IVec S_ 1) (main_v15 : IVec S_ 1) : IVec S5 1 :=
  let main_v16 : FVec F S64 .f32 := Host.absf main_arg4
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S8192x1792 .f32) (main_arg1 : FVec F S2x512x128 .f32) (main_arg2 : FVec F S8 .f32) (main_arg3 : FVec F S64 .f32) (main_arg4 : FVec F S64 .f32) : IVec S5 1 :=
  let main_v0 : FVec F S8192x1792 .f32 := Host.absf main_arg0
  let main_cst : FVec F S_ .f32 := constant S_ .f32 0x7F800000#32
  let main_v1 : FVec F S8192x1792 .f32 := broadcastInDim S8192x1792 ![] bcast_S_S8192x1792 main_cst
  let main_v2 : IVec S8192x1792 1 := cmpf .olt main_v0 main_v1
  let main_c : IVec S_ 1 := constantI S_ 1 1#1
  let main_v3 : IVec S_ 1 := (fun x v => Host.reduce IntOp.andi x v reducesTo_S8192x1792_S_d0_1 h_S_) main_v2 main_c
  let main_v4 : FVec F S2x512x128 .f32 := Host.absf main_arg1
  let main_cst_0 : FVec F S_ .f32 := constant S_ .f32 0x7F800000#32
  let main_v5 : FVec F S2x512x128 .f32 := broadcastInDim S2x512x128 ![] bcast_S_S2x512x128 main_cst_0
  let main_v6 : IVec S2x512x128 1 := cmpf .olt main_v4 main_v5
  let main_c_1 : IVec S_ 1 := constantI S_ 1 1#1
  let main_v7 : IVec S_ 1 := (fun x v => Host.reduce IntOp.andi x v reducesTo_S2x512x128_S_d0_1_2 h_S_) main_v6 main_c_1
  let main_v8 : FVec F S8 .f32 := Host.absf main_arg2
  let main_cst_2 : FVec F S_ .f32 := constant S_ .f32 0x7F800000#32
  let main_v9 : FVec F S8 .f32 := broadcastInDim S8 ![] bcast_S_S8 main_cst_2
  let main_v10 : IVec S8 1 := cmpf .olt main_v8 main_v9
  let main_c_3 : IVec S_ 1 := constantI S_ 1 1#1
  let main_v11 : IVec S_ 1 := (fun x v => Host.reduce IntOp.andi x v reducesTo_S8_S_d0 h_S_) main_v10 main_c_3
  let main_v12 : FVec F S64 .f32 := Host.absf main_arg3
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg4 main_v3 main_v7 main_v11 main_v15
-- ==== Pre_finite5.lean ====
abbrev S8192x4096 : Shape := ⟨2, ![8192, 4096]⟩
abbrev S2x1024x4096 : Shape := ⟨3, ![2, 1024, 4096]⟩
abbrev S8192x1024 : Shape := ⟨2, ![8192, 1024]⟩
abbrev S1024 : Shape := ⟨1, ![1024]⟩
abbrev S_ : Shape := ⟨0, ![]⟩
abbrev S1 : Shape := ⟨1, ![1]⟩
abbrev S5 : Shape := ⟨1, ![5]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg4 : FVec F S8192x1024 .f32) (main_v3 : IVec S_ 1) (main_v7 : IVec S_ 1) (main_v11 : IVec S_ 1) (main_v15 : IVec S_ 1) : IVec S5 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S8192x4096 .f32) (main_arg1 : FVec F S2x1024x4096 .f32) (main_arg2 : FVec F S8192x1024 .f32) (main_arg3 : FVec F S1024 .f32) (main_arg4 : FVec F S8192x1024 .f32) : IVec S5 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2x1024x4096 .f32 := Host.absf main_arg1
  let main_cst_0 : FVec F S_ .f32 := constant S_ .f32 0x7F800000#32
  let main_v5 : FVec F S2x1024x4096 .f32 := broadcastInDim S2x1024x4096 ![] bcast_S_S2x1024x4096 main_cst_0
  let main_v6 : IVec S2x1024x4096 1 := cmpf .olt main_v4 main_v5
  let main_c_1 : IVec S_ 1 := constantI S_ 1 1#1
  let main_v7 : IVec S_ 1 := (fun x v => Host.reduce IntOp.andi x v reducesTo_S2x1024x4096_S_d0_1_2 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1024 .f32 := Host.absf main_arg3
  let main_cst_4 : FVec F S_ .f32 := constant S_ .f32 0x7F800000#32
  let main_v13 : FVec F S1024 .f32 := broadcastInDim S1024 ![] bcast_S_S1024 main_cst_4
  let main_v14 : IVec S1024 1 := cmpf .olt main_v12 main_v13
  let main_c_5 : IVec S_ 1 := constantI S_ 1 1#1
  let main_v15 : IVec S_ 1 := (fun x v => Host.reduce IntOp.andi x v reducesTo_S1024_S_d0 h_S_) main_v14 main_c_5
  fn_part1 (F := F) main_arg4 main_v3 main_v7 main_v11 main_v15
-- ==== Pre_finite8.lean ====
abbrev S8192x512 : Shape := ⟨2, ![8192, 512]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S_ : Shape := ⟨0, ![]⟩
abbrev S1 : Shape := ⟨1, ![1]⟩
abbrev S8 : Shape := ⟨1, ![8]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S2x1024x1792 : S_.BroadcastsInDim S2x1024x1792 (![] : Fin 0 → Fin S2x1024x1792.rank)
  reducesTo_S2x1024x1792_S_d0_1_2 : S2x1024x1792.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S8 1 :=
  let main_v32 : IVec S1 1 := broadcastInDim S1 ![] bcast_S_S1 main_v3
  let main_v33 : IVec S1 1 := broadcastInDim S1 ![] bcast_S_S1 main_v7
  let main_v34 : IVec S1 1 := broadcastInDim S1 ![] bcast_S_S1 main_v11
  let main_v35 : IVec S1 1 := broadcastInDim S1 ![] bcast_S_S1 main_v15
  let main_v36 : IVec S1 1 := broadcastInDim S1 ![] bcast_S_S1 main_v19
  let main_v37 : IVec S1 1 := broadcastInDim S1 ![] bcast_S_S1 main_v23
  let main_v38 : IVec S1 1 := broadcastInDim S1 ![] bcast_S_S1 main_v27
  let main_v39 : IVec S1 1 := broadcastInDim S1 ![] bcast_S_S1 main_v31
  let main_v40 : IVec S8 1 := concatenate S8 0 [⟨S1, main_v32⟩, ⟨S1, main_v33⟩, ⟨S1, main_v34⟩, ⟨S1, main_v35⟩, ⟨S1, main_v36⟩, ⟨S1, main_v37⟩, ⟨S1, main_v38⟩, ⟨S1, main_v39⟩] concatenates_S1_S1_S1_S1_S1_S1_S1_S1_S8_d0
  main_v40

def fn_part1 {F : FTy → Type} [FloatOps F] (main_arg4 : FVec F S2x1024x1792 .f32) (main_arg5 : FVec F S8192x1024 .f32) (main_arg6 : FVec F S1024 .f32) (main_arg7 : FVec F S8192x1024 .f32) (main_v3 : IVec S_ 1) (main_v7 : IVec S_ 1) (main_v11 : IVec S_ 1) (main_v15 : IVec S_ 1) : IVec S8 1 :=
  let main_v16 : FVec F S2x1024x1792 .f32 := Host.absf main_arg4
  let main_cst_6 : FVec F S_ .f32 := constant S_ .f32 0x7F800000#32
  let main_v17 : FVec F S2x1024x1792 .f32 := broadcastInDim S2x1024x1792 ![] bcast_S_S2x1024x1792 main_cst_6
  let main_v18 : IVec S2x1024x1792 1 := cmpf .olt main_v16 main_v17
  let main_c_7 : IVec S_ 1 := constantI S_ 1 1#1
  let main_v19 : IVec S_ 1 := (fun x v => Host.reduce IntOp.andi x v reducesTo_S2x1024x1792_S_d0_1_2 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : FVec F S8192x1024 .f32 := Host.absf main_arg7
  let main_cst_12 : FVec F S_ .f32 := constant S_ .f32 0x7F800000#32
  let main_v29 : FVec F S8192x1024 .f32 := broadcastInDim S8192x1024 ![] bcast_S_S8192x1024 main_cst_12
  let main_v30 : IVec S8192x1024 1 := cmpf .olt main_v28 main_v29
  let main_c_13 : IVec S_ 1 := constantI S_ 1 1#1
  let main_v31 : IVec S_ 1 := (fun x v => Host.reduce IntOp.andi x v reducesTo_S8192x1024_S_d0_1 h_S_) main_v30 main_c_13
  fn_part2 (F := F) main_v3 main_v7 main_v11 main_v15 main_v19 main_v23 main_v27 main_v31

def fn {F : FTy → Type} [FloatOps F] (main_arg0 : FVec F S8192x512 .f32) (main_arg1 : FVec F S8192x256 .f32) (main_arg2 : FVec F S8192x512 .f32) (main_arg3 : FVec F S8192x512 .f32) (main_arg4 : FVec F S2x1024x1792 .f32) (main_arg5 : FVec F S8192x1024 .f32) (main_arg6 : FVec F S1024 .f32) (main_arg7 : FVec F S8192x1024 .f32) : IVec S8 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  fn_part1 (F := F) main_arg4 main_arg5 main_arg6 main_arg7 main_v3 main_v7 main_v11 main_v15
-- ==== Kernel.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S4x1x256x1024 : Shape := ⟨4, ![4, 1, 256, 1024]⟩
abbrev S1x512 : Shape := ⟨2, ![1, 512]⟩
abbrev S8x512 : Shape := ⟨2, ![8, 512]⟩
abbrev S512x1024 : Shape := ⟨2, ![512, 1024]⟩
abbrev S512x512 : Shape := ⟨2, ![512, 512]⟩
abbrev S1x1x256x1024 : Shape := ⟨4, ![1, 1, 256, 1024]⟩
abbrev S256x1024 : Shape := ⟨2, ![256, 1024]⟩
abbrev S512x256 : Shape := ⟨2, ![512, 256]⟩
abbrev S512x1 : Shape := ⟨2, ![512, 1]⟩
abbrev S3x512 : Shape := ⟨2, ![3, 512]⟩

abbrev nBuf : Space → Nat
  | .hbm => 22
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S1024x1024, .bf16⟩
  | .hbm, ⟨10, _⟩ => ⟨S4x1x256x1024, .bf16⟩
  | .hbm, ⟨11, _⟩ => ⟨S8192x1024, .bf16⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8x512, .f32⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S8x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v137 : BitVec 1 := Scalar.cmpi .eq arg0 c0_i32
  let v138 : BitVec 32 := Scalar.extui v137
  let c0_i32_62 : BitVec 32 := 0#32
  let v139 : BitVec 1 := Scalar.cmpi .ne v138 c0_i32_62
  v139

def k0_cond2 (i : grid0.Coords) : BitVec 1 :=
  let arg0 : BitVec 32 := BitVec.ofNat 32 (i 0).val
  let c0_i32_63 : BitVec 32 := 0#32
  let v140 : BitVec 1 := Scalar.cmpi .sgt arg0 c0_i32_63
  let v141 : BitVec 32 := Scalar.extui v140
  let c0_i32_64 : BitVec 32 := 0#32
  let v142 : BitVec 1 := Scalar.cmpi .ne v141 c0_i32_64
  v142

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1024x1024 : Shape := ⟨2, ![1024, 1024]⟩
abbrev S8192x512 : Shape := ⟨2, ![8192, 512]⟩
abbrev S512 : Shape := ⟨1, ![512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8x512 : Shape := ⟨2, ![8, 512]⟩

abbrev nBuf : Space → Nat
  | .hbm => 220
  | .vmem => 0
  | .smem => 0
  | _ => 0

abbrev hbmTy0_0 (i : Nat) : BufTy := match i % 128 with
  | 0 => ⟨S8192x1024, .f32⟩
  | 1 => ⟨S1024x1024, .f32⟩
  | 2 => ⟨S8192x512, .f32⟩
  | 3 => ⟨S8192x512, .f32⟩
  | 4 => ⟨S512, .f32⟩
  | 5 => ⟨S512, .f32⟩
  | 6 => ⟨S512, .f32⟩
  | 7 => ⟨S512, .f32⟩
  | 8 => ⟨S512, .f32⟩
  | 9 => ⟨S1x512, .f32⟩
  | 10 => ⟨S8192x512, .f32⟩
  | 11 => ⟨S8192x512, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S_, .f32⟩
  | 25 => ⟨S8192, .f32⟩
  | 26 => ⟨S8192x1, .f32⟩
  | 27 => ⟨S_, .f32⟩
  | 28 => ⟨S8192x1, .f32⟩
  | 29 => ⟨S8192x1, .f32⟩
  | 30 => ⟨S8192x512, .f32⟩
  | 31 => ⟨S8192x512, .f32⟩
  | 32 => ⟨S_, .f32⟩
  | 33 => ⟨S8192x1, .f32⟩
  | 34 => ⟨S8192x1, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x512, .f32⟩
  | 41 => ⟨S8192x512, .f32⟩
  | 42 => ⟨S1x512, .f32⟩
  | 43 => ⟨S8192x512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S8192x512, .f32⟩
  | 61 => ⟨S8192x512, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S_, .f32⟩
  | 83 => ⟨S8192, .f32⟩
  | 84 => ⟨S8192x1, .f32⟩
  | 85 => ⟨S_, .f32⟩
  | 86 => ⟨S8192x1, .f32⟩
  | 87 => ⟨S8192x1, .f32⟩
  | 88 => ⟨S_, .f32⟩
  | 89 => ⟨S8192x1, .f32⟩
  | 90 => ⟨S8192x1, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x512, .f32⟩
  | 97 => ⟨S8192x512, .f32⟩
  | 98 => ⟨S1x512, .f32⟩
  | 99 => ⟨S8192x512, .f32⟩
  | 100 => ⟨S8192x512, .f32⟩
  | 101 => ⟨S8192x1024, .f32⟩
  | 102 => ⟨S8192x1024, .f32⟩
  | 103 => ⟨S8192x1024, .f32⟩
  | 104 => ⟨S8192x512, .f32⟩
  | 105 => ⟨S8192x512, .f32⟩
  | 106 => ⟨S8192x512, .f32⟩
  | 107 => ⟨S_, .f32⟩
  | 108 => ⟨S512, .f32⟩
  | 109 => ⟨S1x512, .f32⟩
  | 110 => ⟨S8192x512, .f32⟩
  | 111 => ⟨S8192x512, .f32⟩
  | 112 => ⟨S_, .f32⟩
  | 113 => ⟨S512, .f32⟩
  | 114 => ⟨S8192x512, .f32⟩
  | 115 => ⟨S_, .f32⟩
  | 116 => ⟨S8192, .f32⟩
  | 117 => ⟨S8192x1, .f32⟩
  | 118 => ⟨S8192x512, .f32⟩
  | 119 => ⟨S8192x512, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S_, .f32⟩
  | 5 => ⟨S512, .f32⟩
  | 6 => ⟨S1x512, .f32⟩
  | 7 => ⟨S8192x512, .f32⟩
  | 8 => ⟨S8192x512, .f32⟩
  | 9 => ⟨S_, .f32⟩
  | 10 => ⟨S512, .f32⟩
  | 11 => ⟨S8192x512, .f32⟩
  | 12 => ⟨S_, .f32⟩
  | 13 => ⟨S8192, .f32⟩
  | 14 => ⟨S8192x1, .f32⟩
  | 15 => ⟨S8192x512, .f32⟩
  | 16 => ⟨S8192x512, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S_, .f32⟩
  | 36 => ⟨S512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x512, .f32⟩
  | 51 => ⟨S8192x1, .f32⟩
  | 52 => ⟨S8192x512, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S8192x512, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x512, .f32⟩
  | 75 => ⟨S8192x512, .f32⟩
  | 76 => ⟨S_, .f32⟩
  | 77 => ⟨S512, .f32⟩
  | 78 => ⟨S1x512, .f32⟩
  | 79 => ⟨S_, .f32⟩
  | 80 => ⟨S512, .f32⟩
  | 81 => ⟨S_, .f32⟩
  | 82 => ⟨S512, .f32⟩
  | 83 => ⟨S1x512, .f32⟩
  | 84 => ⟨S1x512, .f32⟩
  | 85 => ⟨S1x512, .f32⟩
  | 86 => ⟨S1x512, .f32⟩
  | 87 => ⟨S1x512, .f32⟩
  | 88 => ⟨S1x512, .f32⟩
  | 89 => ⟨S1x512, .f32⟩
  | 90 => ⟨S1x512, .f32⟩
  | 91 => ⟨S8x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_v36 : Ref sig .tc := ⟨.hbm, 66, rfl⟩
abbrev main_v37 : Ref sig .tc := ⟨.hbm, 67, rfl⟩
abbrev main_cst_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_cst_11 : Ref sig .tc := ⟨.hbm, 85, rfl⟩
abbrev main_v52 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_20 : Ref sig .tc := ⟨.hbm, 137, rfl⟩
abbrev main_v95 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_22 : Ref sig .tc := ⟨.hbm, 146, rfl⟩
abbrev main_v102 : Ref sig .tc := ⟨.hbm, 147, rfl⟩
abbrev main_v103 : Ref sig .tc := ⟨.hbm, 148, rfl⟩
abbrev main_cst_23 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v110 : Ref sig .tc := ⟨.hbm, 159, rfl⟩
abbrev main_cst_24 : Ref sig .tc := ⟨.hbm, 160, rfl⟩
abbrev main_v111 : Ref sig .tc := ⟨.hbm, 161, rfl⟩
abbrev main_v112 : Ref sig .tc := ⟨.hbm, 162, rfl⟩
abbrev main_cst_25 : Ref sig .tc := ⟨.hbm, 163, rfl⟩
abbrev main_v113 : Ref sig .tc := ⟨.hbm, 164, rfl⟩
abbrev main_v114 : Ref sig .tc := ⟨.hbm, 165, rfl⟩
abbrev main_cst_26 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_27 : Ref sig .tc := ⟨.hbm, 171, rfl⟩
abbrev main_v119 : Ref sig .tc := ⟨.hbm, 172, rfl⟩
abbrev main_v120 : Ref sig .tc := ⟨.hbm, 173, rfl⟩
abbrev main_cst_28 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_29 : Ref sig .tc := ⟨.hbm, 181, rfl⟩
abbrev main_v127 : Ref sig .tc := ⟨.hbm, 182, rfl⟩
abbrev main_v128 : Ref sig .tc := ⟨.hbm, 183, rfl⟩
abbrev main_cst_30 : Ref sig .tc := ⟨.hbm, 184, rfl⟩
abbrev main_v129 : Ref sig .tc := ⟨.hbm, 185, rfl⟩
abbrev main_v130 : Ref sig .tc := ⟨.hbm, 186, rfl⟩
abbrev main_cst_31 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_cst_32 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_33 : Ref sig .tc := ⟨.hbm, 197, rfl⟩
abbrev main_v139 : Ref sig .tc := ⟨.hbm, 198, rfl⟩
abbrev main_v140 : Ref sig .tc := ⟨.hbm, 199, rfl⟩
abbrev main_cst_34 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_35 : Ref sig .tc := ⟨.hbm, 204, rfl⟩
abbrev main_v144 : Ref sig .tc := ⟨.hbm, 205, rfl⟩
abbrev main_v145 : Ref sig .tc := ⟨.hbm, 206, rfl⟩
abbrev main_cst_36 : Ref sig .tc := ⟨.hbm, 207, rfl⟩
abbrev main_v146 : Ref sig .tc := ⟨.hbm, 208, rfl⟩
abbrev main_cst_37 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩

abbrev nD : Nat := 1
abbrev τ : Topo := Topo.v7x

variable {F : FTy → Type} [FloatOps F]
-- ==== Kernel2.lean ====
abbrev S8192x1024 : Shape := ⟨2, ![8192, 1024]⟩
abbrev S2x4096x1024 : Shape := ⟨3, ![2, 4096, 1024]⟩
abbrev S8192x4096 : Shape := ⟨2, ![8192, 4096]⟩
abbrev S2x4x1024x1024 : Shape := ⟨4, ![2, 4, 1024, 1024]⟩
abbrev S4x2x1024x1024 : Shape := ⟨4, ![4, 2, 1024, 1024]⟩
abbrev S512x1024 : Shape := ⟨2, ![512, 1024]⟩
abbrev S4x1x1024x1024 : Shape := ⟨4, ![4, 1, 1024, 1024]⟩
abbrev S512x4096 : Shape := ⟨2, ![512, 4096]⟩
abbrev S1x1x1024x1024 : Shape := ⟨4, ![1, 1, 1024, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S8192x4096, .f32⟩
  | .hbm, ⟨3, _⟩ => ⟨S8192x1024, .bf16⟩
  | .hbm, ⟨4, _⟩ => ⟨S2x4096x1024, .bf16⟩
  | .hbm, ⟨5, _⟩ => ⟨S2x4x1024x1024, .bf16⟩
  | .hbm, ⟨6, _⟩ => ⟨S4x2x1024x1024, .bf16⟩
  | .hbm, ⟨7, _⟩ => ⟨S8192x4096, .bf16⟩
  | .hbm, ⟨8, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x1024 : Shape := ⟨2, ![8192, 1024]⟩
abbrev S2x4096x1024 : Shape := ⟨3, ![2, 4096, 1024]⟩
abbrev S8192x4096 : Shape := ⟨2, ![8192, 4096]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S1x4096x1024, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4x1x1024x1024 : Shape := ⟨4, ![4, 1, 1024, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4x1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | .local _ .vmem, ⟨5, _⟩ => ⟨S1x1x1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_4 : BitVec 32 := 0#32
  let v12 : BitVec 1 := Scalar.cmpi .ne v11 c0_i32_4
  v12

def k0_cond2 (i : grid0.Coords) : BitVec 1 :=
  let arg2 : BitVec 32 := BitVec.ofNat 32 (i 2).val
  let c0_i32_5 : BitVec 32 := 0#32
  let v13 : BitVec 1 := Scalar.cmpi .sgt arg2 c0_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1x1024x1024 : Shape := ⟨4, ![4, 1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4x1x1024x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S4x1x1024x1024 : Shape := ⟨4, ![4, 1, 1024, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S4x1x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .f32⟩
  | .local _ .vmem, ⟨5, _⟩ => ⟨S1x1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference4Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1x1024x4x1024 : Shape := ⟨4, ![1, 1024, 4, 1024]⟩
abbrev S4x1x1024x1024 : Shape := ⟨4, ![4, 1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1x1024x4x1024, .f32⟩
  | .hbm, ⟨8, _⟩ => ⟨S4x1x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x4096 : Shape := ⟨2, ![8192, 4096]⟩
abbrev S2x1024x4096 : Shape := ⟨3, ![2, 1024, 4096]⟩
abbrev S8192x1024 : Shape := ⟨2, ![8192, 1024]⟩
abbrev S1024 : Shape := ⟨1, ![1024]⟩
abbrev S2x1024x4x1024 : Shape := ⟨4, ![2, 1024, 4, 1024]⟩
abbrev S4x2x1024x1024 : Shape := ⟨4, ![4, 2, 1024, 1024]⟩
abbrev S1x1024 : Shape := ⟨2, ![1, 1024]⟩
abbrev S512x4096 : Shape := ⟨2, ![512, 4096]⟩
abbrev S4x1x1024x1024 : Shape := ⟨4, ![4, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S2x1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .bf16⟩
  | .hbm, ⟨6, _⟩ => ⟨S2x1024x4096, .bf16⟩
  | .hbm, ⟨7, _⟩ => ⟨S2x1024x4x1024, .bf16⟩
  | .hbm, ⟨8, _⟩ => ⟨S4x2x1024x1024, .bf16⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_27 : BitVec 32 := 0#32
  let v41 : BitVec 1 := Scalar.cmpi .ne v40 c0_i32_27
  v41

def k0_cond2 (i : grid0.Coords) : BitVec 1 :=
  let arg0 : BitVec 32 := BitVec.ofNat 32 (i 0).val
  let c0_i32_28 : BitVec 32 := 0#32
  let v42 : BitVec 1 := Scalar.cmpi .sgt arg0 c0_i32_28
  let v43 : BitVec 32 := Scalar.extui v42
  let c0_i32_29 : BitVec 32 := 0#32
  let v44 : BitVec 1 := Scalar.cmpi .ne v43 c0_i32_29
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x4096 : Shape := ⟨2, ![8192, 4096]⟩
abbrev S2x1024x4096 : Shape := ⟨3, ![2, 1024, 4096]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩

abbrev nBuf : Space → Nat
  | .hbm => 57
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x1024x4096, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024x4096, .f32⟩
  | .hbm, ⟨26, _⟩ => ⟨S1024x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel6.lean ====
abbrev S8192x1024 : Shape := ⟨2, ![8192, 1024]⟩
abbrev S4x1x256x1024 : Shape := ⟨4, ![4, 1, 256, 1024]⟩
abbrev S2048x1024 : Shape := ⟨2, ![2048, 1024]⟩
abbrev S1024x1024 : Shape := ⟨2, ![1024, 1024]⟩
abbrev S4x256x1024 : Shape := ⟨3, ![4, 256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S4x1x256x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference6Ideal.lean ====
abbrev S8192x1024 : Shape := ⟨2, ![8192, 1024]⟩
abbrev S_ : Shape := ⟨0, ![]⟩
abbrev S1024x1024 : Shape := ⟨2, ![1024, 1024]⟩
abbrev S4x1x256x1024 : Shape := ⟨4, ![4, 1, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S4x1x256x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S8192x256 : Shape := ⟨2, ![8192, 256]⟩
abbrev S1x1024x1792 : Shape := ⟨3, ![1, 1024, 1792]⟩
abbrev S2048x1024 : Shape := ⟨2, ![2048, 1024]⟩
abbrev S2048x512 : Shape := ⟨2, ![2048, 512]⟩
abbrev S2048x256 : Shape := ⟨2, ![2048, 256]⟩
abbrev S1024x512 : Shape := ⟨2, ![1024, 512]⟩
abbrev S1024x256 : Shape := ⟨2, ![1024, 256]⟩
abbrev S1x1024x512 : Shape := ⟨3, ![1, 1024, 512]⟩
abbrev S1x1024x256 : Shape := ⟨3, ![1, 1024, 256]⟩

abbrev nBuf : Space → Nat
  | .hbm => 11
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S8192x512, .f32⟩
  | .hbm, ⟨4, _⟩ => ⟨S8192x512, .f32⟩
  | .hbm, ⟨5, _⟩ => ⟨S8192x1024, .bf16⟩
  | .hbm, ⟨6, _⟩ => ⟨S8192x512, .bf16⟩
  | .hbm, ⟨7, _⟩ => ⟨S8192x256, .bf16⟩
  | .hbm, ⟨8, _⟩ => ⟨S8192x512, .bf16⟩
  | .hbm, ⟨9, _⟩ => ⟨S8192x512, .bf16⟩
  | .hbm, ⟨10, _⟩ => ⟨S1x1024x1792, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x256, .bf16⟩
  | .local _ .vmem, ⟨5, _⟩ => ⟨S2048x256, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x1024x1792, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v14 : BitVec 1 := Scalar.cmpi .eq arg2 c0_i32
  let v15 : BitVec 32 := Scalar.extui v14
  let c0_i32_12 : BitVec 32 := 0#32
  let v16 : BitVec 1 := Scalar.cmpi .ne v15 c0_i32_12
  v16

def k0_cond2 (i : grid0.Coords) : BitVec 1 :=
  let arg2 : BitVec 32 := BitVec.ofNat 32 (i 2).val
  let c0_i32_13 : BitVec 32 := 0#32
  let v17 : BitVec 1 := Scalar.cmpi .sgt arg2 c0_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x1024x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== Reference7Ideal.lean ====
abbrev S8192x1024 : Shape := ⟨2, ![8192, 1024]⟩
abbrev S8192x512 : Shape := ⟨2, ![8192, 512]⟩
abbrev S8192x256 : Shape := ⟨2, ![8192, 256]⟩
abbrev S8192x1792 : Shape := ⟨2, ![8192, 1792]⟩
abbrev S_ : Shape := ⟨0, ![]⟩
abbrev S1024x1792 : Shape := ⟨2, ![1024, 1792]⟩
abbrev S1792x1024 : Shape := ⟨2, ![1792, 1024]⟩
abbrev S1x1024x1792 : Shape := ⟨3, ![1, 1024, 1792]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x256, .f32⟩
  | .hbm, ⟨3, _⟩ => ⟨S8192x512, .f32⟩
  | .hbm, ⟨4, _⟩ => ⟨S8192x512, .f32⟩
  | .hbm, ⟨5, _⟩ => ⟨S8192x1792, .f32⟩
  | .hbm, ⟨6, _⟩ => ⟨S_, .f32⟩
  | .hbm, ⟨7, _⟩ => ⟨S1024x1792, .f32⟩
  | .hbm, ⟨8, _⟩ => ⟨S8192x1792, .f32⟩
  | .hbm, ⟨9, _⟩ => ⟨S1792x1024, .f32⟩
  | .hbm, ⟨10, _⟩ => ⟨S1024x1792, .f32⟩
  | .hbm, ⟨11, _⟩ => ⟨S1x1024x1792, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel8.lean ====
abbrev S8192x512 : Shape := ⟨2, ![8192, 512]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x256 : Shape := ⟨2, ![512, 256]⟩
abbrev S1x1024x1792 : Shape := ⟨3, ![1, 1024, 1792]⟩
abbrev S512x1024 : Shape := ⟨2, ![512, 1024]⟩
abbrev S1x1024x512 : Shape := ⟨3, ![1, 1024, 512]⟩
abbrev S1024x512 : Shape := ⟨2, ![1024, 512]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S2x1024x1792, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x512, .bf16⟩
  | .hbm, ⟨9, _⟩ => ⟨S8192x256, .bf16⟩
  | .hbm, ⟨10, _⟩ => ⟨S8192x512, .bf16⟩
  | .hbm, ⟨11, _⟩ => ⟨S8192x512, .bf16⟩
  | .hbm, ⟨12, _⟩ => ⟨S2x1024x1792, .bf16⟩
  | .hbm, ⟨13, _⟩ => ⟨S1x1024, .f32⟩
  | .hbm, ⟨14, _⟩ => ⟨S8192x1024, .f32⟩
  | .hbm, ⟨15, _⟩ => ⟨S8192x1024, .bf16⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024x1792, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_26 : BitVec 32 := 0#32
  let v41 : BitVec 1 := Scalar.cmpi .ne v40 c0_i32_26
  v41

def k0_cond2 (i : grid0.Coords) : BitVec 1 :=
  let arg0 : BitVec 32 := BitVec.ofNat 32 (i 0).val
  let c0_i32_27 : BitVec 32 := 0#32
  let v42 : BitVec 1 := Scalar.cmpi .sgt arg0 c0_i32_27
  let v43 : BitVec 32 := Scalar.extui v42
  let c0_i32_28 : BitVec 32 := 0#32
  let v44 : BitVec 1 := Scalar.cmpi .ne v43 c0_i32_28
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x512 : Shape := ⟨2, ![8192, 512]⟩
abbrev S8192x256 : Shape := ⟨2, ![8192, 256]⟩
abbrev S2x1024x1792 : Shape := ⟨3, ![2, 1024, 1792]⟩
abbrev S8192x1024 : Shape := ⟨2, ![8192, 1024]⟩
abbrev S1024 : Shape := ⟨1, ![1024]⟩
abbrev S8192x1792 : Shape := ⟨2, ![8192, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1792 : Shape := ⟨3, ![1, 1024, 1792]⟩
abbrev S1024x1792 : Shape := ⟨2, ![1024, 1792]⟩

abbrev nBuf : Space → Nat
  | .hbm => 61
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x256, .f32⟩
  | .hbm, ⟨2, _⟩ => ⟨S8192x512, .f32⟩
  | .hbm, ⟨3, _⟩ => ⟨S8192x512, .f32⟩
  | .hbm, ⟨4, _⟩ => ⟨S2x1024x1792, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1792, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024x1792, .f32⟩
  | .hbm, ⟨30, _⟩ => ⟨S1024x1792, .f32⟩
  | .hbm, ⟨31, _⟩ => ⟨S8192x1792, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S2x1024x4096 : Shape := ⟨3, ![2, 1024, 4096]⟩
abbrev S1x1024 : Shape := ⟨2, ![1, 1024]⟩
abbrev S2x1024x4x1024 : Shape := ⟨4, ![2, 1024, 4, 1024]⟩
abbrev S4x2x1024x1024 : Shape := ⟨4, ![4, 2, 1024, 1024]⟩
abbrev S8192x4096 : Shape := ⟨2, ![8192, 4096]⟩
abbrev S512x1024 : Shape := ⟨2, ![512, 1024]⟩
abbrev S4x1x1024x1024 : Shape := ⟨4, ![4, 1, 1024, 1024]⟩
abbrev S512x4096 : Shape := ⟨2, ![512, 4096]⟩
abbrev S512 : Shape := ⟨1, ![512]⟩
abbrev S512x1 : Shape := ⟨2, ![512, 1]⟩
abbrev S1x1x1024x1024 : Shape := ⟨4, ![1, 1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x4096, .f32⟩
  | .hbm, ⟨3, _⟩ => ⟨S1x1024, .f32⟩
  | .hbm, ⟨4, _⟩ => ⟨S2x1024x4096, .bf16⟩
  | .hbm, ⟨5, _⟩ => ⟨S2x1024x4x1024, .bf16⟩
  | .hbm, ⟨6, _⟩ => ⟨S4x2x1024x1024, .bf16⟩
  | .hbm, ⟨7, _⟩ => ⟨S8192x1024, .bf16⟩
  | .hbm, ⟨8, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x1024 : Shape := ⟨2, ![8192, 1024]⟩
abbrev S1024 : Shape := ⟨1, ![1024]⟩
abbrev S2x1024x4096 : Shape := ⟨3, ![2, 1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x4096, .f32⟩
  | .hbm, ⟨21, _⟩ => ⟨S1024x4096, .f32⟩
  | .hbm, ⟨22, _⟩ => ⟨S8192x4096, .f32⟩
  | .hbm, ⟨23, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel10.lean ====
abbrev S8192x4096 : Shape := ⟨2, ![8192, 4096]⟩
abbrev S2x4096x1024 : Shape := ⟨3, ![2, 4096, 1024]⟩
abbrev S8192x1024 : Shape := ⟨2, ![8192, 1024]⟩
abbrev S2x4x1024x1024 : Shape := ⟨4, ![2, 4, 1024, 1024]⟩
abbrev S4x2x1024x1024 : Shape := ⟨4, ![4, 2, 1024, 1024]⟩
abbrev S512x4096 : Shape := ⟨2, ![512, 4096]⟩
abbrev S4x1x1024x1024 : Shape := ⟨4, ![4, 1, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2x4096x1024, .f32⟩
  | .hbm, ⟨2, _⟩ => ⟨S8192x1024, .f32⟩
  | .hbm, ⟨3, _⟩ => ⟨S8192x4096, .bf16⟩
  | .hbm, ⟨4, _⟩ => ⟨S2x4096x1024, .bf16⟩
  | .hbm, ⟨5, _⟩ => ⟨S2x4x1024x1024, .bf16⟩
  | .hbm, ⟨6, _⟩ => ⟨S4x2x1024x1024, .bf16⟩
  | .hbm, ⟨7, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x4096 : Shape := ⟨2, ![8192, 4096]⟩
abbrev S2x4096x1024 : Shape := ⟨3, ![2, 4096, 1024]⟩
abbrev S8192x1024 : Shape := ⟨2, ![8192, 1024]⟩
abbrev S_ : Shape := ⟨0, ![]⟩
abbrev S1x4096x1024 : Shape := ⟨3, ![1, 4096, 1024]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S1x4096x1024, .f32⟩
  | .hbm, ⟨8, _⟩ => ⟨S4096x1024, .f32⟩
  | .hbm, ⟨9, _⟩ => ⟨S8192x1024, .f32⟩
  | .hbm, ⟨10, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S2x1024x1792 : Shape := ⟨3, ![2, 1024, 1792]⟩
abbrev S1x1024 : Shape := ⟨2, ![1, 1024]⟩
abbrev S8192x1792 : Shape := ⟨2, ![8192, 1792]⟩
abbrev S512x1024 : Shape := ⟨2, ![512, 1024]⟩
abbrev S1x1024x1792 : Shape := ⟨3, ![1, 1024, 1792]⟩
abbrev S512x1792 : Shape := ⟨2, ![512, 1792]⟩
abbrev S512 : Shape := ⟨1, ![512]⟩
abbrev S512x1 : Shape := ⟨2, ![512, 1]⟩
abbrev S1x1024x896 : Shape := ⟨3, ![1, 1024, 896]⟩
abbrev S1024x896 : Shape := ⟨2, ![1024, 896]⟩
abbrev S512x896 : Shape := ⟨2, ![512, 896]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x1792, .f32⟩
  | .hbm, ⟨3, _⟩ => ⟨S1x1024, .f32⟩
  | .hbm, ⟨4, _⟩ => ⟨S2x1024x1792, .bf16⟩
  | .hbm, ⟨5, _⟩ => ⟨S8192x1024, .bf16⟩
  | .hbm, ⟨6, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1792, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .bf16⟩
  | .local _ .vmem, ⟨7, _⟩ => ⟨S512x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1024 : Shape := ⟨1, ![1024]⟩
abbrev S2x1024x1792 : Shape := ⟨3, ![2, 1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x1792 : Shape := ⟨3, ![1, 1024, 1792]⟩
abbrev S1024x1792 : Shape := ⟨2, ![1024, 1792]⟩
abbrev S8192x1792 : Shape := ⟨2, ![8192, 1792]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S2x1024x1792, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1x1024x1792, .f32⟩
  | .hbm, ⟨21, _⟩ => ⟨S1024x1792, .f32⟩
  | .hbm, ⟨22, _⟩ => ⟨S8192x1792, .f32⟩
  | .hbm, ⟨23, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel12.lean ====
abbrev S8192x1024 : Shape := ⟨2, ![8192, 1024]⟩
abbrev S2x1024x1024 : Shape := ⟨3, ![2, 1024, 1024]⟩
abbrev S2x4x256x1024 : Shape := ⟨4, ![2, 4, 256, 1024]⟩
abbrev S4x2x256x1024 : Shape := ⟨4, ![4, 2, 256, 1024]⟩
abbrev S512x1024 : Shape := ⟨2, ![512, 1024]⟩
abbrev S4x1x256x1024 : Shape := ⟨4, ![4, 1, 256, 1024]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S8192x1024, .bf16⟩
  | .hbm, ⟨4, _⟩ => ⟨S2x1024x1024, .bf16⟩
  | .hbm, ⟨5, _⟩ => ⟨S2x4x256x1024, .bf16⟩
  | .hbm, ⟨6, _⟩ => ⟨S4x2x256x1024, .bf16⟩
  | .hbm, ⟨7, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S4x1x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S1x1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x448 : Shape := ⟨2, ![4096, 448]⟩
abbrev S512x448 : Shape := ⟨2, ![512, 448]⟩

abbrev nBuf : Space → Nat
  | .hbm => 7
  | .vmem => 14
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S4096x448, .f32⟩
  | .hbm, ⟨5, _⟩ => ⟨S4096x448, .f32⟩
  | .hbm, ⟨6, _⟩ => ⟨S4096x448, .f32⟩
  | .local _ .vmem, ⟨0, _⟩ => ⟨S512x448, .f32⟩
  | .local _ .vmem, ⟨1, _⟩ => ⟨S512x448, .f32⟩
  | .local _ .vmem, ⟨2, _⟩ => ⟨S512x448, .f32⟩
  | .local _ .vmem, ⟨3, _⟩ => ⟨S512x448, .f32⟩
  | .local _ .vmem, ⟨4, _⟩ => ⟨S512x448, .f32⟩
  | .local _ .vmem, ⟨5, _⟩ => ⟨S512x448, .f32⟩
  | .local _ .vmem, ⟨6, _⟩ => ⟨S512x448, .f32⟩
  | .local _ .vmem, ⟨7, _⟩ => ⟨S512x448, .f32⟩
  | .local _ .vmem, ⟨8, _⟩ => ⟨S512x448, .f32⟩
  | .local _ .vmem, ⟨9, _⟩ => ⟨S512x448, .f32⟩
  | .local _ .vmem, ⟨10, _⟩ => ⟨S512x448, .f32⟩
  | .local _ .vmem, ⟨11, _⟩ => ⟨S512x448, .f32⟩
  | .local _ .vmem, ⟨12, _⟩ => ⟨S512x448, .f32⟩
  | .local _ .vmem, ⟨13, _⟩ => ⟨S512x448, .f32⟩
  | _, _ => ⟨S4096x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x448 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x448 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x448 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x448 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x448 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x448 : Shape := ⟨2, ![4096, 448]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x448, .f32⟩
  | .hbm, ⟨1, _⟩ => ⟨S4096x448, .f32⟩
  | .hbm, ⟨2, _⟩ => ⟨S4096x448, .f32⟩
  | .hbm, ⟨3, _⟩ => ⟨S4096x448, .f32⟩
  | .hbm, ⟨4, _⟩ => ⟨S_, .f32⟩
  | .hbm, ⟨5, _⟩ => ⟨S4096x448, .f32⟩
  | .hbm, ⟨6, _⟩ => ⟨S4096x448, .f32⟩
  | .hbm, ⟨7, _⟩ => ⟨S_, .f32⟩
  | .hbm, ⟨8, _⟩ => ⟨S4096x448, .f32⟩
  | .hbm, ⟨9, _⟩ => ⟨S4096x448, .f32⟩
  | .hbm, ⟨10, _⟩ => ⟨S4096x448, .f32⟩
  | .hbm, ⟨11, _⟩ => ⟨S_, .f32⟩
  | .hbm, ⟨12, _⟩ => ⟨S4096x448, .f32⟩
  | .hbm, ⟨13, _⟩ => ⟨S4096x448, .f32⟩
  | .hbm, ⟨14, _⟩ => ⟨S4096x448, .f32⟩
  | .hbm, ⟨15, _⟩ => ⟨S_, .f32⟩
  | .hbm, ⟨16, _⟩ => ⟨S4096x448, .f32⟩
  | .hbm, ⟨17, _⟩ => ⟨S4096x448, .f32⟩
  | .hbm, ⟨18, _⟩ => ⟨S4096x448, .f32⟩
  | .hbm, ⟨19, _⟩ => ⟨S_, .f32⟩
  | .hbm, ⟨20, _⟩ => ⟨S4096x448, .f32⟩
  | .hbm, ⟨21, _⟩ => ⟨S4096x448, .f32⟩
  | .hbm, ⟨22, _⟩ => ⟨S_, .f32⟩
  | .hbm, ⟨23, _⟩ => ⟨S4096x448, .f32⟩
  | .hbm, ⟨24, _⟩ => ⟨S4096x448, .f32⟩
  | .hbm, ⟨25, _⟩ => ⟨S4096x448, .f32⟩
  | .hbm, ⟨26, _⟩ => ⟨S_, .f32⟩
  | .hbm, ⟨27, _⟩ => ⟨S4096x448, .f32⟩
  | .hbm, ⟨28, _⟩ => ⟨S4096x448, .f32⟩
  | .hbm, ⟨29, _⟩ => ⟨S4096x448, .f32⟩
  | .hbm, ⟨30, _⟩ => ⟨S_, .f32⟩
  | .hbm, ⟨31, _⟩ => ⟨S4096x448, .f32⟩
  | .hbm, ⟨32, _⟩ => ⟨S4096x448, .f32⟩
  | .hbm, ⟨33, _⟩ => ⟨S4096x448, .f32⟩
  | .hbm, ⟨34, _⟩ => ⟨S_, .f32⟩
  | .hbm, ⟨35, _⟩ => ⟨S4096x448, .f32⟩
  | .hbm, ⟨36, _⟩ => ⟨S4096x448, .f32⟩
  | _, _ => ⟨S4096x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x1024 : Shape := ⟨2, ![4096, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x1024 : Shape := ⟨2, ![4096, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S280x128 : Shape := ⟨2, ![280, 128]⟩

abbrev nBuf : Space → Nat
  | .hbm => 7
  | .vmem => 7
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S280x128, .f32⟩
  | .hbm, ⟨5, _⟩ => ⟨S280x128, .f32⟩
  | .hbm, ⟨6, _⟩ => ⟨S280x128, .f32⟩
  | .local _ .vmem, ⟨0, _⟩ => ⟨S280x128, .f32⟩
  | .local _ .vmem, ⟨1, _⟩ => ⟨S280x128, .f32⟩
  | .local _ .vmem, ⟨2, _⟩ => ⟨S280x128, .f32⟩
  | .local _ .vmem, ⟨3, _⟩ => ⟨S280x128, .f32⟩
  | .local _ .vmem, ⟨4, _⟩ => ⟨S280x128, .f32⟩
  | .local _ .vmem, ⟨5, _⟩ => ⟨S280x128, .f32⟩
  | .local _ .vmem, ⟨6, _⟩ => ⟨S280x128, .f32⟩
  | _, _ => ⟨S280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S280x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S280x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S280x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S280x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S280x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S280x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S280x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S280x128 : Shape := ⟨2, ![280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S_, .f32⟩
  | .hbm, ⟨5, _⟩ => ⟨S280x128, .f32⟩
  | .hbm, ⟨6, _⟩ => ⟨S280x128, .f32⟩
  | .hbm, ⟨7, _⟩ => ⟨S_, .f32⟩
  | .hbm, ⟨8, _⟩ => ⟨S280x128, .f32⟩
  | .hbm, ⟨9, _⟩ => ⟨S280x128, .f32⟩
  | .hbm, ⟨10, _⟩ => ⟨S280x128, .f32⟩
  | .hbm, ⟨11, _⟩ => ⟨S_, .f32⟩
  | .hbm, ⟨12, _⟩ => ⟨S280x128, .f32⟩
  | .hbm, ⟨13, _⟩ => ⟨S280x128, .f32⟩
  | .hbm, ⟨14, _⟩ => ⟨S280x128, .f32⟩
  | .hbm, ⟨15, _⟩ => ⟨S_, .f32⟩
  | .hbm, ⟨16, _⟩ => ⟨S280x128, .f32⟩
  | .hbm, ⟨17, _⟩ => ⟨S280x128, .f32⟩
  | .hbm, ⟨18, _⟩ => ⟨S280x128, .f32⟩
  | .hbm, ⟨19, _⟩ => ⟨S_, .f32⟩
  | .hbm, ⟨20, _⟩ => ⟨S280x128, .f32⟩
  | .hbm, ⟨21, _⟩ => ⟨S280x128, .f32⟩
  | .hbm, ⟨22, _⟩ => ⟨S_, .f32⟩
  | .hbm, ⟨23, _⟩ => ⟨S280x128, .f32⟩
  | .hbm, ⟨24, _⟩ => ⟨S280x128, .f32⟩
  | .hbm, ⟨25, _⟩ => ⟨S280x128, .f32⟩
  | .hbm, ⟨26, _⟩ => ⟨S_, .f32⟩
  | .hbm, ⟨27, _⟩ => ⟨S280x128, .f32⟩
  | .hbm, ⟨28, _⟩ => ⟨S280x128, .f32⟩
  | .hbm, ⟨29, _⟩ => ⟨S280x128, .f32⟩
  | .hbm, ⟨30, _⟩ => ⟨S_, .f32⟩
  | .hbm, ⟨31, _⟩ => ⟨S280x128, .f32⟩
  | .hbm, ⟨32, _⟩ => ⟨S280x128, .f32⟩
  | .hbm, ⟨33, _⟩ => ⟨S280x128, .f32⟩
  | .hbm, ⟨34, _⟩ => ⟨S_, .f32⟩
  | .hbm, ⟨35, _⟩ => ⟨S280x128, .f32⟩
  | .hbm, ⟨36, _⟩ => ⟨S280x128, .f32⟩
  | _, _ => ⟨S280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S8192x1024 : Shape := ⟨2, ![8192, 1024]⟩
abbrev S16x1x128 : Shape := ⟨3, ![16, 1, 128]⟩
abbrev S512x1024 : Shape := ⟨2, ![512, 1024]⟩
abbrev S1x1x128 : Shape := ⟨3, ![1, 1, 128]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S16x1x128, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x128, .f32⟩
  | .local _ .vmem, ⟨5, _⟩ => ⟨S1x1x128, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S8192x1024 : Shape := ⟨2, ![8192, 1024]⟩
abbrev S_ : Shape := ⟨0, ![]⟩
abbrev S8192 : Shape := ⟨1, ![8192]⟩
abbrev S16x512 : Shape := ⟨2, ![16, 512]⟩
abbrev S16 : Shape := ⟨1, ![16]⟩
abbrev S16x1x1 : Shape := ⟨3, ![16, 1, 1]⟩
abbrev S16x1x128 : Shape := ⟨3, ![16, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S16x512, .f32⟩
  | .hbm, ⟨33, _⟩ => ⟨S_, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16x1x1, .f32⟩
  | .hbm, ⟨39, _⟩ => ⟨S16x1x128, .f32⟩
  | .hbm, ⟨40, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_cst_10 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel18.lean ====
abbrev S8192x512 : Shape := ⟨2, ![8192, 512]⟩
abbrev S512 : Shape := ⟨1, ![512]⟩
abbrev S1x512 : Shape := ⟨2, ![1, 512]⟩
abbrev S8192x1024 : Shape := ⟨2, ![8192, 1024]⟩
abbrev S512x512 : Shape := ⟨2, ![512, 512]⟩
abbrev S512x1024 : Shape := ⟨2, ![512, 1024]⟩
abbrev S512x1 : Shape := ⟨2, ![512, 1]⟩

abbrev nBuf : Space → Nat
  | .hbm => 15
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S8192x512 : Shape := ⟨2, ![8192, 512]⟩
abbrev S512 : Shape := ⟨1, ![512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S8192x512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x1024, .f32⟩
  | .hbm, ⟨81, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩

abbrev nD : Nat := 1
abbrev τ : Topo := Topo.v7x

variable {F : FTy → Type} [FloatOps F]
-- ==== Kernel19.lean ====
abbrev S8192x1792 : Shape := ⟨2, ![8192, 1792]⟩
abbrev S31x512 : Shape := ⟨2, ![31, 512]⟩
abbrev S512 : Shape := ⟨1, ![512]⟩
abbrev S_ : Shape := ⟨0, ![]⟩
abbrev S32x512 : Shape := ⟨2, ![32, 512]⟩
abbrev S1x512 : Shape := ⟨2, ![1, 512]⟩
abbrev S8192x512 : Shape := ⟨2, ![8192, 512]⟩
abbrev S512x256 : Shape := ⟨2, ![512, 256]⟩
abbrev S32x256 : Shape := ⟨2, ![32, 256]⟩
abbrev S1x256 : Shape := ⟨2, ![1, 256]⟩
abbrev S544x256 : Shape := ⟨2, ![544, 256]⟩
abbrev S8x544x256 : Shape := ⟨3, ![8, 544, 256]⟩
abbrev S64x256 : Shape := ⟨2, ![64, 256]⟩
abbrev S1x64x256 : Shape := ⟨3, ![1, 64, 256]⟩
abbrev S1x32x256 : Shape := ⟨3, ![1, 32, 256]⟩
abbrev S24x256 : Shape := ⟨2, ![24, 256]⟩
abbrev S1x24x256 : Shape := ⟨3, ![1, 24, 256]⟩

abbrev nBuf : Space → Nat
  | .hbm => 8
  | .vmem => 16
  | .smem => 0
  | _ => 0

abbrev bufTy : (tb : Table) → Fin (tcTables nBuf tb) → BufTy
  | .hbm, ⟨0, _⟩ => ⟨S8192x1792, .f32⟩
  | .hbm, ⟨1, _⟩ => ⟨S31x512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S32x512, .f32⟩
  | .hbm, ⟨6, _⟩ => ⟨S1x512, .f32⟩
  | .hbm, ⟨7, _⟩ => ⟨S8192x512, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S512x256, .f32⟩
  | .local _ .vmem, ⟨13, _⟩ => ⟨S512x256, .f32⟩
  | .local _ .vmem, ⟨14, _⟩ => ⟨S544x256, .f32⟩
  | .local _ .vmem, ⟨15, _⟩ => ⟨S8x544x256, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.addi c3_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S8192x1792 : Shape := ⟨2, ![8192, 1792]⟩
abbrev S31x512 : Shape := ⟨2, ![31, 512]⟩
abbrev S512 : Shape := ⟨1, ![512]⟩
abbrev S8192x512 : Shape := ⟨2, ![8192, 512]⟩
abbrev S_ : Shape := ⟨0, ![]⟩
abbrev S8222x512 : Shape := ⟨2, ![8222, 512]⟩
abbrev S1x512 : Shape := ⟨2, ![1, 512]⟩

abbrev nBuf : Space → Nat
  | .hbm => 236
  | .vmem => 0
  | .smem => 0
  | _ => 0

abbrev hbmTy0_0 (i : Nat) : BufTy := match i % 128 with
  | 0 => ⟨S8192x1792, .f32⟩
  | 1 => ⟨S31x512, .f32⟩
  | 2 => ⟨S512, .f32⟩
  | 3 => ⟨S8192x512, .f32⟩
  | 4 => ⟨S8192x512, .f32⟩
  | 5 => ⟨S8192x512, .f32⟩
  | 6 => ⟨S8192x512, .f32⟩
  | 7 => ⟨S_, .f32⟩
  | 8 => ⟨S8192x512, .f32⟩
  | 9 => ⟨S8192x512, .f32⟩
  | 10 => ⟨S_, .f32⟩
  | 11 => ⟨S8192x512, .f32⟩
  | 12 => ⟨S8192x512, .f32⟩
  | 13 => ⟨S8192x512, .f32⟩
  | 14 => ⟨S_, .i32⟩
  | 15 => ⟨S_, .f32⟩
  | 16 => ⟨S8222x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S1x512, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S8192x512, .f32⟩
  | 115 => ⟨S1x512, .f32⟩
  | 116 => ⟨S512, .f32⟩
  | 117 => ⟨S1x512, .f32⟩
  | 118 => ⟨S8192x512, .f32⟩
  | 119 => ⟨S8192x512, .f32⟩
  | 120 => ⟨S8192x512, .f32⟩
  | 121 => ⟨S8192x512, .f32⟩
  | 122 => ⟨S1x512, .f32⟩
  | 123 => ⟨S512, .f32⟩
  | 124 => ⟨S1x512, .f32⟩
  | 125 => ⟨S8192x512, .f32⟩
  | 126 => ⟨S8192x512, .f32⟩
  | 127 => ⟨S8192x512, .f32⟩
  | _ => ⟨S8192x1792, .f32⟩

abbrev hbmTy0_1 (i : Nat) : BufTy := match i % 128 with
  | 0 => ⟨S8192x512, .f32⟩
  | 1 => ⟨S1x512, .f32⟩
  | 2 => ⟨S512, .f32⟩
  | 3 => ⟨S1x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S1x512, .f32⟩
  | 16 => ⟨S512, .f32⟩
  | 17 => ⟨S1x512, .f32⟩
  | 18 => ⟨S8192x512, .f32⟩
  | 19 => ⟨S8192x512, .f32⟩
  | 20 => ⟨S8192x512, .f32⟩
  | 21 => ⟨S8192x512, .f32⟩
  | 22 => ⟨S1x512, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S1x512, .f32⟩
  | 53 => ⟨S8192x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S1x512, .f32⟩
  | 81 => ⟨S8192x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S8192x512, .f32⟩
  | 105 => ⟨S1x512, .f32⟩
  | 106 => ⟨S8192x512, .f32⟩
  | 107 => ⟨S8192x512, .f32⟩
  | _ => ⟨S8192x1792, .f32⟩

abbrev hbmTy (i : Nat) : BufTy := match i / 128 with
  | 0 => hbmTy0_0 i
  | 1 => hbmTy0_1 i
  | _ => ⟨S8192x1792, .f32⟩

abbrev bufTy : (tb : Table) → Fin (tcTables nBuf tb) → BufTy
  | .hbm, ⟨i, _⟩ => hbmTy i
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩

abbrev nD : Nat := 1
abbrev τ : Topo := Topo.v7x

variable {F : FTy → Type} [FloatOps F]
-- ==== Kernel20.lean ====
abbrev S8192x1792 : Shape := ⟨2, ![8192, 1792]⟩
abbrev S2x512x128 : Shape := ⟨3, ![2, 512, 128]⟩
abbrev S8 : Shape := ⟨1, ![8]⟩
abbrev S64 : Shape := ⟨1, ![64]⟩
abbrev S8x128 : Shape := ⟨2, ![8, 128]⟩
abbrev S1024 : Shape := ⟨1, ![1024]⟩
abbrev S2x512x1 : Shape := ⟨3, ![2, 512, 1]⟩
abbrev S1x64 : Shape := ⟨2, ![1, 64]⟩
abbrev S8192x512 : Shape := ⟨2, ![8192, 512]⟩
abbrev S512x512 : Shape := ⟨2, ![512, 512]⟩
abbrev S512x128 : Shape := ⟨2, ![512, 128]⟩
abbrev S128x128 : Shape := ⟨2, ![128, 128]⟩
abbrev S128x64 : Shape := ⟨2, ![128, 64]⟩
abbrev S128 : Shape := ⟨1, ![128]⟩
abbrev S128x1 : Shape := ⟨2, ![128, 1]⟩
abbrev S512x64 : Shape := ⟨2, ![512, 64]⟩
abbrev S512 : Shape := ⟨1, ![512]⟩
abbrev S512x1 : Shape := ⟨2, ![512, 1]⟩
abbrev S1x512x128 : Shape := ⟨3, ![1, 512, 128]⟩
abbrev S1x512x1 : Shape := ⟨3, ![1, 512, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x1792, .f32⟩
  | .hbm, ⟨1, _⟩ => ⟨S2x512x128, .f32⟩
  | .hbm, ⟨2, _⟩ => ⟨S8, .f32⟩
  | .hbm, ⟨3, _⟩ => ⟨S64, .f32⟩
  | .hbm, ⟨4, _⟩ => ⟨S64, .f32⟩
  | .hbm, ⟨5, _⟩ => ⟨S8x128, .f32⟩
  | .hbm, ⟨6, _⟩ => ⟨S1024, .f32⟩
  | .hbm, ⟨7, _⟩ => ⟨S2x512x1, .f32⟩
  | .hbm, ⟨8, _⟩ => ⟨S1x64, .f32⟩
  | .hbm, ⟨9, _⟩ => ⟨S1x64, .f32⟩
  | .hbm, ⟨10, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S2x512x128, .f32⟩
  | .local _ .vmem, ⟨11, _⟩ => ⟨S2x512x1, .f32⟩
  | .local _ .vmem, ⟨12, _⟩ => ⟨S1x64, .f32⟩
  | .local _ .vmem, ⟨13, _⟩ => ⟨S1x64, .f32⟩
  | .local _ .vmem, ⟨14, _⟩ => ⟨S512x512, .f32⟩
  | .local _ .vmem, ⟨15, _⟩ => ⟨S512x512, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c4_i32_0 : BitVec 32 := 4#32
  let c0_i32_1 : BitVec 32 := 0#32
  ![v2.toNat, c4_i32_0.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel20Ideal.lean ====
variable {F : FTy → Type} [FloatOps F] [Named F]
def κ : String → Option EReal := fun
  | "mask" => some ⊥
  | _ => none
-- ==== Reference20Ideal.lean ====
abbrev S8192x1792 : Shape := ⟨2, ![8192, 1792]⟩
abbrev S2x512x128 : Shape := ⟨3, ![2, 512, 128]⟩
abbrev S8 : Shape := ⟨1, ![8]⟩
abbrev S64 : Shape := ⟨1, ![64]⟩
abbrev S8192x512 : Shape := ⟨2, ![8192, 512]⟩
abbrev S8192x8x64 : Shape := ⟨3, ![8192, 8, 64]⟩
abbrev S_ : Shape := ⟨0, ![]⟩
abbrev S8192x8 : Shape := ⟨2, ![8192, 8]⟩
abbrev S8192x8x1 : Shape := ⟨3, ![8192, 8, 1]⟩
abbrev S1x1x64 : Shape := ⟨3, ![1, 1, 64]⟩
abbrev S8192x128 : Shape := ⟨2, ![8192, 128]⟩
abbrev S8192x2x64 : Shape := ⟨3, ![8192, 2, 64]⟩
abbrev S8192x2 : Shape := ⟨2, ![8192, 2]⟩
abbrev S8192x2x1 : Shape := ⟨3, ![8192, 2, 1]⟩
abbrev S2x512x256 : Shape := ⟨3, ![2, 512, 256]⟩
abbrev S2x4x128x256 : Shape := ⟨4, ![2, 4, 128, 256]⟩
abbrev S64x2x4x128x256 : Shape := ⟨5, ![64, 2, 4, 128, 256]⟩
abbrev S64x128x2x4x64 : Shape := ⟨5, ![64, 128, 2, 4, 64]⟩
abbrev S8320x2x64 : Shape := ⟨3, ![8320, 2, 64]⟩
abbrev S64x128x2x64 : Shape := ⟨4, ![64, 128, 2, 64]⟩
abbrev S64x256x2x64 : Shape := ⟨4, ![64, 256, 2, 64]⟩
abbrev S64x2x256x128x4 : Shape := ⟨5, ![64, 2, 256, 128, 4]⟩
abbrev S1x2x4x128x256 : Shape := ⟨5, ![1, 2, 4, 128, 256]⟩
abbrev S2x4 : Shape := ⟨2, ![2, 4]⟩
abbrev S1x2x4x1x1 : Shape := ⟨5, ![1, 2, 4, 1, 1]⟩
abbrev S64x2x4x128 : Shape := ⟨4, ![64, 2, 4, 128]⟩
abbrev S64x2x4x128x1 : Shape := ⟨5, ![64, 2, 4, 128, 1]⟩
abbrev S64x2x64x4x128 : Shape := ⟨5, ![64, 2, 64, 4, 128]⟩

abbrev nBuf : Space → Nat
  | .hbm => 119
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S2x512x128, .f32⟩
  | .hbm, ⟨2, _⟩ => ⟨S8, .f32⟩
  | .hbm, ⟨3, _⟩ => ⟨S64, .f32⟩
  | .hbm, ⟨4, _⟩ => ⟨S64, .f32⟩
  | .hbm, ⟨5, _⟩ => ⟨S8192x512, .f32⟩
  | .hbm, ⟨6, _⟩ => ⟨S8192x8x64, .f32⟩
  | .hbm, ⟨7, _⟩ => ⟨S8192x8x64, .f32⟩
  | .hbm, ⟨8, _⟩ => ⟨S_, .f32⟩
  | .hbm, ⟨9, _⟩ => ⟨S8192x8, .f32⟩
  | .hbm, ⟨10, _⟩ => ⟨S8192x8x1, .f32⟩
  | .hbm, ⟨11, _⟩ => ⟨S_, .f32⟩
  | .hbm, ⟨12, _⟩ => ⟨S8192x8x1, .f32⟩
  | .hbm, ⟨13, _⟩ => ⟨S8192x8x1, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x1, .f32⟩
  | .hbm, ⟨18, _⟩ => ⟨S8192x8x64, .f32⟩
  | .hbm, ⟨19, _⟩ => ⟨S8192x8x64, .f32⟩
  | .hbm, ⟨20, _⟩ => ⟨S1x1x64, .f32⟩
  | .hbm, ⟨21, _⟩ => ⟨S8192x8x64, .f32⟩
  | .hbm, ⟨22, _⟩ => ⟨S8192x8x64, .f32⟩
  | .hbm, ⟨23, _⟩ => ⟨S8192x128, .f32⟩
  | .hbm, ⟨24, _⟩ => ⟨S8192x2x64, .f32⟩
  | .hbm, ⟨25, _⟩ => ⟨S8192x2x64, .f32⟩
  | .hbm, ⟨26, _⟩ => ⟨S_, .f32⟩
  | .hbm, ⟨27, _⟩ => ⟨S8192x2, .f32⟩
  | .hbm, ⟨28, _⟩ => ⟨S8192x2x1, .f32⟩
  | .hbm, ⟨29, _⟩ => ⟨S_, .f32⟩
  | .hbm, ⟨30, _⟩ => ⟨S8192x2x1, .f32⟩
  | .hbm, ⟨31, _⟩ => ⟨S8192x2x1, .f32⟩
  | .hbm, ⟨32, _⟩ => ⟨S_, .f32⟩
  | .hbm, ⟨33, _⟩ => ⟨S8192x2x1, .f32⟩
  | .hbm, ⟨34, _⟩ => ⟨S8192x2x1, .f32⟩
  | .hbm, ⟨35, _⟩ => ⟨S8192x2x1, .f32⟩
  | .hbm, ⟨36, _⟩ => ⟨S8192x2x64, .f32⟩
  | .hbm, ⟨37, _⟩ => ⟨S8192x2x64, .f32⟩
  | .hbm, ⟨38, _⟩ => ⟨S1x1x64, .f32⟩
  | .hbm, ⟨39, _⟩ => ⟨S8192x2x64, .f32⟩
  | .hbm, ⟨40, _⟩ => ⟨S8192x2x64, .f32⟩
  | .hbm, ⟨41, _⟩ => ⟨S8192x128, .f32⟩
  | .hbm, ⟨42, _⟩ => ⟨S8192x2x64, .f32⟩
  | .hbm, ⟨43, _⟩ => ⟨S2x512x256, .f32⟩
  | .hbm, ⟨44, _⟩ => ⟨S2x4x128x256, .f32⟩
  | .hbm, ⟨45, _⟩ => ⟨S64x2x4x128x256, .i32⟩
  | .hbm, ⟨46, _⟩ => ⟨S64x2x4x128x256, .i32⟩
  | .hbm, ⟨47, _⟩ => ⟨S64x2x4x128x256, .i32⟩
  | .hbm, ⟨48, _⟩ => ⟨S_, .i32⟩
  | .hbm, ⟨49, _⟩ => ⟨S64x2x4x128x256, .i32⟩
  | .hbm, ⟨50, _⟩ => ⟨S64x2x4x128x256, .i32⟩
  | .hbm, ⟨51, _⟩ => ⟨S64x2x4x128x256, .i32⟩
  | .hbm, ⟨52, _⟩ => ⟨S_, .i32⟩
  | .hbm, ⟨53, _⟩ => ⟨S64x2x4x128x256, .i32⟩
  | .hbm, ⟨54, _⟩ => ⟨S64x2x4x128x256, .i1⟩
  | .hbm, ⟨55, _⟩ => ⟨S_, .i32⟩
  | .hbm, ⟨56, _⟩ => ⟨S64x2x4x128x256, .i32⟩
  | .hbm, ⟨57, _⟩ => ⟨S64x2x4x128x256, .i1⟩
  | .hbm, ⟨58, _⟩ => ⟨S64x2x4x128x256, .i1⟩
  | .hbm, ⟨59, _⟩ => ⟨S_, .i32⟩
  | .hbm, ⟨60, _⟩ => ⟨S64x2x4x128x256, .i32⟩
  | .hbm, ⟨61, _⟩ => ⟨S64x2x4x128x256, .i32⟩
  | .hbm, ⟨62, _⟩ => ⟨S_, .i32⟩
  | .hbm, ⟨63, _⟩ => ⟨S64x2x4x128x256, .i32⟩
  | .hbm, ⟨64, _⟩ => ⟨S64x2x4x128x256, .i32⟩
  | .hbm, ⟨65, _⟩ => ⟨S64x2x4x128x256, .i32⟩
  | .hbm, ⟨66, _⟩ => ⟨S_, .i32⟩
  | .hbm, ⟨67, _⟩ => ⟨S64x2x4x128x256, .i32⟩
  | .hbm, ⟨68, _⟩ => ⟨S64x2x4x128x256, .i1⟩
  | .hbm, ⟨69, _⟩ => ⟨S64x2x4x128x256, .i1⟩
  | .hbm, ⟨70, _⟩ => ⟨S64x128x2x4x64, .f32⟩
  | .hbm, ⟨71, _⟩ => ⟨S_, .i32⟩
  | .hbm, ⟨72, _⟩ => ⟨S_, .f32⟩
  | .hbm, ⟨73, _⟩ => ⟨S8320x2x64, .f32⟩
  | .hbm, ⟨74, _⟩ => ⟨S8192x2x64, .f32⟩
  | .hbm, ⟨75, _⟩ => ⟨S64x128x2x64, .f32⟩
  | .hbm, ⟨76, _⟩ => ⟨S64x128x2x64, .f32⟩
  | .hbm, ⟨77, _⟩ => ⟨S64x256x2x64, .f32⟩
  | .hbm, ⟨78, _⟩ => ⟨S64x2x256x128x4, .f32⟩
  | .hbm, ⟨79, _⟩ => ⟨S64x2x4x128x256, .f32⟩
  | .hbm, ⟨80, _⟩ => ⟨S_, .f32⟩
  | .hbm, ⟨81, _⟩ => ⟨S64x2x4x128x256, .f32⟩
  | .hbm, ⟨82, _⟩ => ⟨S64x2x4x128x256, .f32⟩
  | .hbm, ⟨83, _⟩ => ⟨S1x2x4x128x256, .f32⟩
  | .hbm, ⟨84, _⟩ => ⟨S64x2x4x128x256, .f32⟩
  | .hbm, ⟨85, _⟩ => ⟨S64x2x4x128x256, .f32⟩
  | .hbm, ⟨86, _⟩ => ⟨S_, .f32⟩
  | .hbm, ⟨87, _⟩ => ⟨S_, .f32⟩
  | .hbm, ⟨88, _⟩ => ⟨S64x2x4x128x256, .f32⟩
  | .hbm, ⟨89, _⟩ => ⟨S64x2x4x128x256, .f32⟩
  | .hbm, ⟨90, _⟩ => ⟨S2x4, .f32⟩
  | .hbm, ⟨91, _⟩ => ⟨S1x2x4x1x1, .f32⟩
  | .hbm, ⟨92, _⟩ => ⟨S_, .f32⟩
  | .hbm, ⟨93, _⟩ => ⟨S64x2x4x128, .f32⟩
  | .hbm, ⟨94, _⟩ => ⟨S64x2x4x128x1, .f32⟩
  | .hbm, ⟨95, _⟩ => ⟨S64x2x4x128x1, .f32⟩
  | .hbm, ⟨96, _⟩ => ⟨S64x2x4x128x1, .f32⟩
  | .hbm, ⟨97, _⟩ => ⟨S64x2x4x128x256, .f32⟩
  | .hbm, ⟨98, _⟩ => ⟨S64x2x4x128x256, .f32⟩
  | .hbm, ⟨99, _⟩ => ⟨S64x2x4x128x256, .f32⟩
  | .hbm, ⟨100, _⟩ => ⟨S_, .f32⟩
  | .hbm, ⟨101, _⟩ => ⟨S64x2x4x128, .f32⟩
  | .hbm, ⟨102, _⟩ => ⟨S64x2x4x128x1, .f32⟩
  | .hbm, ⟨103, _⟩ => ⟨S64x2x4x128x1, .f32⟩
  | .hbm, ⟨104, _⟩ => ⟨S64x2x4x128x1, .f32⟩
  | .hbm, ⟨105, _⟩ => ⟨S64x2x4x128x1, .f32⟩
  | .hbm, ⟨106, _⟩ => ⟨S64x2x4x128x1, .f32⟩
  | .hbm, ⟨107, _⟩ => ⟨S64x2x4x128x256, .f32⟩
  | .hbm, ⟨108, _⟩ => ⟨S64x2x4x128x256, .f32⟩
  | .hbm, ⟨109, _⟩ => ⟨S_, .i32⟩
  | .hbm, ⟨110, _⟩ => ⟨S_, .f32⟩
  | .hbm, ⟨111, _⟩ => ⟨S8320x2x64, .f32⟩
  | .hbm, ⟨112, _⟩ => ⟨S8192x2x64, .f32⟩
  | .hbm, ⟨113, _⟩ => ⟨S64x128x2x64, .f32⟩
  | .hbm, ⟨114, _⟩ => ⟨S64x128x2x64, .f32⟩
  | .hbm, ⟨115, _⟩ => ⟨S64x256x2x64, .f32⟩
  | .hbm, ⟨116, _⟩ => ⟨S64x2x64x4x128, .f32⟩
  | .hbm, ⟨117, _⟩ => ⟨S64x128x2x4x64, .f32⟩
  | .hbm, ⟨118, _⟩ => ⟨S8192x512, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_10 : Ref sig .tc := ⟨.hbm, 71, rfl⟩
abbrev main_call0_v0 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_call1_v0 : Ref sig .tc := ⟨.hbm, 87, rfl⟩
abbrev main_call1_v1 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_c_15 : Ref sig .tc := ⟨.hbm, 109, rfl⟩
abbrev main_call2_v0 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Proof.Rows.lean ====
/- Arrays of real numbers seen as arrays of extended reals, and how each pointwise operation, row sum, column sum and
   spreading acts on them. The certificate's two programs are read through these rules: where every argument is real,
   every intermediate array is the image of a real one, so the algebra can be done over the reals. -/
module

public import Idealize.ShloMosaic.PureOps.Ideal.Laws
public import Idealize.ShloMosaic.Lib.IdealHost
public import Idealize.ShloMosaic.Lib.ValueIdxCore
public import Idealize.ShloMosaic.Lib.ValueLayout
public import Idealize.ShloMosaic.Lib.Pipeline.Value
public import Idealize.ShloMosaic.Lib.Tactic

@[expose] public section

set_option maxRecDepth 16384

noncomputable section

namespace Cert.Rows

open Idealize.ShloMosaic Idealize.ShloMosaic.ValueIdx

/-- A real matrix as an array of extended reals. -/
def up2 {m n : ℕ} (f : Fin m → Fin n → ℝ) : (⟨2, ![m, n]⟩ : Shape).Idx → EReal := fun i => ((f (i 0) (i 1) : ℝ) : EReal)

/-- A real vector as an array of extended reals. -/
def up1 {n : ℕ} (f : Fin n → ℝ) : (⟨1, ![n]⟩ : Shape).Idx → EReal := fun i => ((f (i 0) : ℝ) : EReal)

theorem up2_apply {m n : ℕ} (f : Fin m → Fin n → ℝ) (p : Fin m) (k : Fin n) : up2 f (ix2 p k) = ((f p k : ℝ) : EReal) := rfl

theorem up1_apply {n : ℕ} (f : Fin n → ℝ) (k : Fin n) : up1 f (ix1 k) = ((f k : ℝ) : EReal) := rfl

/-- The image of a finite real sum is the sum of the images. -/
theorem coe_sum {ι : Type*} (t : Finset ι) (f : ι → ℝ) : ((∑ k ∈ t, f k : ℝ) : EReal) = ∑ k ∈ t, ((f k : ℝ) : EReal) := by
  classical
  induction t using Finset.induction_on with
  | empty => simp
  | insert a s ha ih => rw [Finset.sum_insert ha, Finset.sum_insert ha, EReal.coe_add, ih]

/-! ## The constants -/

/-- The small number added under each square root: the 32-bit float nearest to one millionth. -/
def eps : ℝ := 8796093 / 8796093022208

theorem eps_pos : 0 < eps := by unfold eps; norm_num

theorem bits_512 : Ideal.ofBits .f32 0x44000000#32 = ((512 : ℝ) : EReal) := by
  simp [Ideal.ofBits, Ideal.ieee, -EReal.coe_mul]; norm_num

theorem bits_1024 : Ideal.ofBits .f32 0x44800000#32 = ((1024 : ℝ) : EReal) := by
  simp [Ideal.ofBits, Ideal.ieee, -EReal.coe_mul]; norm_num

theorem bits_eps : Ideal.ofBits .f32 0x358637BD#32 = ((eps : ℝ) : EReal) := by
  unfold eps
  simp [Ideal.ofBits, Ideal.ieee, -EReal.coe_mul]; norm_num

theorem bits_one : Ideal.ofBits .f32 0x3F800000#32 = ((1 : ℝ) : EReal) := by
  rw [Ideal.ofBits_one_f32]; rfl

theorem bits_zero : Ideal.ofBits .f32 0x00000000#32 = ((0 : ℝ) : EReal) := by
  rw [Ideal.ofBits_zero_f32]; rfl

theorem bits_two : Ideal.ofBits .f32 0x40000000#32 = ((2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_inf : Ideal.ofBits .f32 0x7F800000#32 = (⊤ : EReal) := by
  simp [Ideal.ofBits, Ideal.ieee]

/-! ## Pointwise operations on matrices -/

section Pointwise

variable {m n : ℕ} {φ : FTy}

theorem addf_up (f g : Fin m → Fin n → ℝ) :
    addf (F := Ideal) (s := ⟨2, ![m, n]⟩) (φ := φ) (up2 f) (up2 g) = up2 (fun p k => f p k + g p k) := by
  funext i; exact (EReal.coe_add _ _).symm

theorem subf_up (f g : Fin m → Fin n → ℝ) :
    subf (F := Ideal) (s := ⟨2, ![m, n]⟩) (φ := φ) (up2 f) (up2 g) = up2 (fun p k => f p k - g p k) := by
  funext i; exact (EReal.coe_sub _ _).symm

theorem mulf_up (f g : Fin m → Fin n → ℝ) :
    mulf (F := Ideal) (s := ⟨2, ![m, n]⟩) (φ := φ) (up2 f) (up2 g) = up2 (fun p k => f p k * g p k) := by
  funext i; exact (EReal.coe_mul _ _).symm

theorem negf_up (f : Fin m → Fin n → ℝ) :
    negf (F := Ideal) (s := ⟨2, ![m, n]⟩) (φ := φ) (up2 f) = up2 (fun p k => -f p k) := by
  funext i; exact (EReal.coe_neg _).symm

/-- Division by a real other than zero. -/
theorem coe_div (a b : ℝ) (h : b ≠ 0) : Ideal.div ((a : ℝ) : EReal) ((b : ℝ) : EReal) = ((a / b : ℝ) : EReal) := by
  rw [Ideal.div_coe h, ← EReal.coe_mul, mul_one_div]

theorem divf_up (f : Fin m → Fin n → ℝ) (b : ℝ) (h : b ≠ 0) :
    divf (F := Ideal) (s := ⟨2, ![m, n]⟩) (φ := φ) (up2 f) (up2 fun _ _ => b) = up2 (fun p k => f p k / b) := by
  funext i; exact coe_div _ _ h

theorem divf_up_512 (f : Fin m → Fin n → ℝ) :
    divf (F := Ideal) (s := ⟨2, ![m, n]⟩) (φ := φ) (up2 f) (up2 fun _ _ => 512) = up2 (fun p k => f p k / 512) :=
  divf_up f 512 (by norm_num)

theorem divf_up_1024 (f : Fin m → Fin n → ℝ) :
    divf (F := Ideal) (s := ⟨2, ![m, n]⟩) (φ := φ) (up2 f) (up2 fun _ _ => 1024) = up2 (fun p k => f p k / 1024) :=
  divf_up f 1024 (by norm_num)

theorem coe_rsqrt (a : ℝ) (h : 0 < a) : Ideal.rsqrt ((a : ℝ) : EReal) = (((Real.sqrt a)⁻¹ : ℝ) : EReal) := by
  rw [Ideal.rsqrt_coe, if_neg (not_lt.mpr h.le), if_neg h.ne']

theorem rsqrt_up (f : Fin m → Fin n → ℝ) (h : ∀ p k, 0 < f p k) :
    rsqrt (F := Ideal) (s := ⟨2, ![m, n]⟩) (φ := φ) (up2 f) = up2 (fun p k => (Real.sqrt (f p k))⁻¹) := by
  funext i; exact coe_rsqrt _ (h _ _)

/-- The logistic function. -/
def sig (a : ℝ) : ℝ := (1 + Real.exp (-a))⁻¹

theorem logistic_up (f : Fin m → Fin n → ℝ) :
    logistic (F := Ideal) (s := ⟨2, ![m, n]⟩) (φ := φ) (up2 f) = up2 (fun p k => sig (f p k)) := by
  funext i; exact Ideal.logistic_coe _

theorem bcast_512 : broadcast (⟨2, ![m, n]⟩ : Shape) (Scalar.ofBits (F := Ideal) .f32 0x44000000#32) = up2 fun _ _ => 512 := by
  funext i; exact bits_512

theorem bcast_1024 : broadcast (⟨2, ![m, n]⟩ : Shape) (Scalar.ofBits (F := Ideal) .f32 0x44800000#32) = up2 fun _ _ => 1024 := by
  funext i; exact bits_1024

theorem bcast_eps : broadcast (⟨2, ![m, n]⟩ : Shape) (Scalar.ofBits (F := Ideal) .f32 0x358637BD#32) = up2 fun _ _ => eps := by
  funext i; exact bits_eps

theorem bcast_one : broadcast (⟨2, ![m, n]⟩ : Shape) (Scalar.ofBits (F := Ideal) .f32 0x3F800000#32) = up2 fun _ _ => 1 := by
  funext i; exact bits_one

theorem bcast_zero : broadcast (⟨2, ![m, n]⟩ : Shape) (Scalar.ofBits (F := Ideal) .f32 0x00000000#32) = up2 fun _ _ => 0 := by
  funext i; exact bits_zero

end Pointwise

/-! ## Row sums, column sums and spreading -/

section Sums

variable {m n : ℕ} {φ : FTy}

theorem lift_row (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

theorem lift_col (h : (⟨2, ![m, n]⟩ : Shape).Reduces [0] (⟨1, ![n]⟩ : Shape)) (q : Fin n)
    (k : Fin ((⟨2, ![m, n]⟩ : Shape).size 0)) : h.lift (ix1 q) k = ix2 (⟨k.val, k.isLt⟩ : Fin m) q := by
  funext c; apply Fin.ext
  fin_cases c <;> rfl

/-- The sums of the rows, as a column. -/
theorem rowsum_up (f : Fin m → Fin n → ℝ) (ax : List (Fin 2)) (hax : ax = [1]) (h : (⟨2, ![m, n]⟩ : Shape).Reduces ax ⟨1, ![m]⟩)
    (hφ : FKind.Formats .f32) (hacc : (0x00000000#32 : BitVec 32) = 0x00000000#32) (h2 : (⟨1, ![m]⟩ : Shape).ShapeCasts ⟨2, ![m, 1]⟩) :
    shapeCast ⟨2, ![m, 1]⟩ (multiReduction (F := Ideal) (φ := .f32) .add ax ⟨1, ![m]⟩ (up2 f) 0x00000000#32 h hφ hacc) h2
      = up2 (fun p _ => ∑ k, f p k) := by
  subst hax
  funext i
  obtain ⟨p, u, rfl⟩ : ∃ p u, i = ix2 p u := ⟨i 0, i 1, eq_ix2 i⟩
  rw [shapeCast_apply _ h2 (ix2 p u) (ix1 p) (by
    rw [Shape.rowMajor_val_two, Shape.rowMajor_val_one]
    have hu : u.val = 0 := by omega
    show p.val = p.val * 1 + u.val
    omega), Ideal.multiReduction_add_single _ _ _ _ hacc, up2_apply, coe_sum]
  refine Finset.sum_congr rfl fun k _ => ?_
  rw [lift_row]; rfl

/-- The sums of the columns, as a row. -/
theorem colsum_up (f : Fin m → Fin n → ℝ) (ax : List (Fin 2)) (hax : ax = [0]) (h : (⟨2, ![m, n]⟩ : Shape).Reduces ax ⟨1, ![n]⟩)
    (hφ : FKind.Formats .f32) (hacc : (0x00000000#32 : BitVec 32) = 0x00000000#32) (h2 : (⟨1, ![n]⟩ : Shape).ShapeCasts ⟨2, ![1, n]⟩) :
    shapeCast ⟨2, ![1, n]⟩ (multiReduction (F := Ideal) (φ := .f32) .add ax ⟨1, ![n]⟩ (up2 f) 0x00000000#32 h hφ hacc) h2
      = up2 (fun _ q => ∑ p, f p q) := by
  subst hax
  funext i
  obtain ⟨u, q, rfl⟩ : ∃ u q, i = ix2 u q := ⟨i 0, i 1, eq_ix2 i⟩
  rw [shapeCast_a_1a_apply, Ideal.multiReduction_add_single _ _ _ _ hacc, up2_apply, coe_sum]
  refine Finset.sum_congr rfl fun k _ => ?_
  rw [lift_col]; rfl

/-- A column spread over the rows' entries. -/
theorem spread_col (f : Fin m → Fin 1 → ℝ) (h : (⟨2, ![m, 1]⟩ : Shape).Broadcasts ⟨2, ![m, n]⟩) :
    broadcastTo ⟨2, ![m, n]⟩ (up2 f) h = up2 (fun p _ => f p 0) := by
  funext i
  obtain ⟨p, q, rfl⟩ : ∃ p q, i = ix2 p q := ⟨i 0, i 1, eq_ix2 i⟩
  refine broadcastTo_apply (up2 f) h (ix2 p q) (ix2 p 0) fun ax => ?_
  match ax with
  | ⟨0, _⟩ =>
    show p.val = if m = 1 then 0 else p.val
    split
    · omega
    · rfl
  | ⟨1, _⟩ => show (0 : ℕ) = if (1 : ℕ) = 1 then 0 else q.val; rw [if_pos rfl]

/-- A row spread over the rows. -/
theorem spread_row (f : Fin 1 → Fin n → ℝ) (h : (⟨2, ![1, n]⟩ : Shape).Broadcasts ⟨2, ![m, n]⟩) :
    broadcastTo ⟨2, ![m, n]⟩ (up2 f) h = up2 (fun _ q => f 0 q) := by
  funext i
  obtain ⟨p, q, rfl⟩ : ∃ p q, i = ix2 p q := ⟨i 0, i 1, eq_ix2 i⟩
  exact broadcastTo_1b_ab_apply (up2 f) h p q

/-- Two matrices side by side. -/
theorem beside_up {n₁ n₂ : ℕ} (f : Fin m → Fin n₁ → ℝ) (g : Fin m → Fin n₂ → ℝ) (r : Fin m → Fin n → ℝ)
    (h : Shape.Concatenates [(⟨2, ![m, n₁]⟩ : Shape), ⟨2, ![m, n₂]⟩] ⟨2, ![m, n]⟩ 1) (hn : n₁ + n₂ = n)
    (h₁ : ∀ p (k : Fin n₁), r p ⟨k.val, by omega⟩ = f p k) (h₂ : ∀ p (k : Fin n₂), r p ⟨n₁ + k.val, by omega⟩ = g p k) :
    concatenate ⟨2, ![m, n]⟩ 1 [⟨⟨2, ![m, n₁]⟩, up2 f⟩, ⟨⟨2, ![m, n₂]⟩, up2 g⟩] h = up2 r := by
  funext i
  obtain ⟨p, q, rfl⟩ : ∃ p q, i = ix2 p q := ⟨i 0, i 1, eq_ix2 i⟩
  by_cases hq : q.val < n₁
  · rw [concatenate_pair_apply_left 1 (up2 f) (up2 g) h (ix2 p q) rfl (ix2 p ⟨q.val, hq⟩) (fun b => by
      match b with
      | ⟨0, _⟩ => rfl
      | ⟨1, _⟩ => rfl), up2_apply, up2_apply, ← h₁]
  · have hlt : q.val - n₁ < n₂ := by have := q.isLt; omega
    rw [concatenate_pair_apply_right 1 (up2 f) (up2 g) h (ix2 p q) rfl rfl (ix2 p ⟨q.val - n₁, hlt⟩) (fun b hb => by
      match b with
      | ⟨0, _⟩ => rfl
      | ⟨1, _⟩ => exact absurd rfl hb) (by show q.val - n₁ + n₁ = q.val; omega), up2_apply, up2_apply, ← h₂]
    congr 2
    exact Fin.ext (by show n₁ + (q.val - n₁) = q.val; omega)

end Sums

/-! ## Products -/

section Products

variable {m n K : ℕ} {φ₁ φ₂ : FTy}

/-- The dimension numbers of `x · yᵀ`: both operands are summed over their second axis. -/
def ntDims (m n K : ℕ) (wf : DotDims.WF ⟨2, ![m, K]⟩ ⟨2, ![n, K]⟩ ⟨2, ![m, n]⟩ [1] [1] [0] [0] [] []) :
    DotDims ⟨2, ![m, K]⟩ ⟨2, ![n, K]⟩ ⟨2, ![m, n]⟩ where
  lhsContracting := [1]
  rhsContracting := [1]
  lhsNonContracting := [0]
  rhsNonContracting := [0]
  lhsBatch := []
  rhsBatch := []
  wf := wf

/-- The dimension numbers of `xᵀ · y`: both operands are summed over their first axis. -/
def tnDims (m n K : ℕ) (wf : DotDims.WF ⟨2, ![K, m]⟩ ⟨2, ![K, n]⟩ ⟨2, ![m, n]⟩ [0] [0] [1] [1] [] []) :
    DotDims ⟨2, ![K, m]⟩ ⟨2, ![K, n]⟩ ⟨2, ![m, n]⟩ where
  lhsContracting := [0]
  rhsContracting := [0]
  lhsNonContracting := [1]
  rhsNonContracting := [1]
  lhsBatch := []
  rhsBatch := []
  wf := wf

/-- `x · yᵀ` into zero, read at (p, q). -/
theorem nt_apply (wf) (prec : Option ContractPrecision) (x : FVec Ideal ⟨2, ![m, K]⟩ φ₁) (y : FVec Ideal ⟨2, ![n, K]⟩ φ₂)
    (p : Fin m) (q : Fin n) :
    FloatOps.matmul (ntDims m n K wf) prec x y (constant ⟨2, ![m, n]⟩ .f32 0x00000000#32) (ix2 p q)
      = ∑ k : Fin K, x (ix2 p k) * y (ix2 q k) := by
  rw [Ideal.matmul_constant_zero_apply, ← Equiv.sum_comp (contrEquiv1 (ntDims m n K wf) K rfl rfl).symm]
  refine Finset.sum_congr rfl fun k _ => ?_
  have hk := contrEquiv1_symm_val (ntDims m n K wf) K rfl rfl k
  have el : (ntDims m n K wf).lhsIdx (ix2 p q) ((contrEquiv1 (ntDims m n K wf) K rfl rfl).symm k) = ix2 p k := by
    funext a
    refine Fin.ext ?_
    match a with
    | ⟨0, _⟩ =>
      show ((ntDims m n K wf).lhsIdx (ix2 p q) _ 0).val = p.val
      unfold DotDims.lhsIdx
      rw [dif_neg (show ¬(0 : Fin 2) ∈ (ntDims m n K wf).lhsBatch from List.not_mem_nil),
        dif_pos (show (0 : Fin 2) ∈ (ntDims m n K wf).lhsNonContracting from List.mem_singleton.mpr rfl)]
      rfl
    | ⟨1, _⟩ => exact ((ntDims m n K wf).lhsIdx_val_of_single rfl _ _).trans hk
  have er : (ntDims m n K wf).rhsIdx (ix2 p q) ((contrEquiv1 (ntDims m n K wf) K rfl rfl).symm k) = ix2 q k := by
    funext a
    refine Fin.ext ?_
    match a with
    | ⟨0, _⟩ =>
      show ((ntDims m n K wf).rhsIdx (ix2 p q) _ 0).val = q.val
      unfold DotDims.rhsIdx
      rw [dif_neg (show ¬(0 : Fin 2) ∈ (ntDims m n K wf).rhsBatch from List.not_mem_nil),
        dif_pos (show (0 : Fin 2) ∈ (ntDims m n K wf).rhsNonContracting from List.mem_singleton.mpr rfl)]
      rfl
    | ⟨1, _⟩ => exact ((ntDims m n K wf).rhsIdx_val_of_single rfl _ _).trans hk
  rw [el, er]

/-- `xᵀ · y` into zero, read at (p, q). -/
theorem tn_apply (wf) (prec : Option ContractPrecision) (x : FVec Ideal ⟨2, ![K, m]⟩ φ₁) (y : FVec Ideal ⟨2, ![K, n]⟩ φ₂)
    (p : Fin m) (q : Fin n) :
    FloatOps.matmul (tnDims m n K wf) prec x y (constant ⟨2, ![m, n]⟩ .f32 0x00000000#32) (ix2 p q)
      = ∑ k : Fin K, x (ix2 k p) * y (ix2 k q) := by
  rw [Ideal.matmul_constant_zero_apply, ← Equiv.sum_comp (contrEquiv1 (tnDims m n K wf) K rfl rfl).symm]
  refine Finset.sum_congr rfl fun k _ => ?_
  have hk := contrEquiv1_symm_val (tnDims m n K wf) K rfl rfl k
  have el : (tnDims m n K wf).lhsIdx (ix2 p q) ((contrEquiv1 (tnDims m n K wf) K rfl rfl).symm k) = ix2 k p := by
    funext a
    refine Fin.ext ?_
    match a with
    | ⟨0, _⟩ => exact ((tnDims m n K wf).lhsIdx_val_of_single rfl _ _).trans hk
    | ⟨1, _⟩ =>
      show ((tnDims m n K wf).lhsIdx (ix2 p q) _ 1).val = p.val
      unfold DotDims.lhsIdx
      rw [dif_neg (show ¬(1 : Fin 2) ∈ (tnDims m n K wf).lhsBatch from List.not_mem_nil),
        dif_pos (show (1 : Fin 2) ∈ (tnDims m n K wf).lhsNonContracting from List.mem_singleton.mpr rfl)]
      rfl
  have er : (tnDims m n K wf).rhsIdx (ix2 p q) ((contrEquiv1 (tnDims m n K wf) K rfl rfl).symm k) = ix2 k q := by
    funext a
    refine Fin.ext ?_
    match a with
    | ⟨0, _⟩ => exact ((tnDims m n K wf).rhsIdx_val_of_single rfl _ _).trans hk
    | ⟨1, _⟩ =>
      show ((tnDims m n K wf).rhsIdx (ix2 p q) _ 1).val = q.val
      unfold DotDims.rhsIdx
      rw [dif_neg (show ¬(1 : Fin 2) ∈ (tnDims m n K wf).rhsBatch from List.not_mem_nil),
        dif_pos (show (1 : Fin 2) ∈ (tnDims m n K wf).rhsNonContracting from List.mem_singleton.mpr rfl)]
      rfl
  rw [el, er]

/-- `x · yᵀ` of real matrices. -/
theorem nt_up (wf) (prec : Option ContractPrecision) (f : Fin m → Fin K → ℝ) (g : Fin n → Fin K → ℝ) :
    FloatOps.matmul (F := Ideal) (φ₁ := φ₁) (φ₂ := φ₂) (ntDims m n K wf) prec (up2 f) (up2 g) (constant ⟨2, ![m, n]⟩ .f32 0x00000000#32)
      = up2 (fun p q => ∑ k, f p k * g q k) := by
  funext i
  obtain ⟨p, q, rfl⟩ : ∃ p q, i = ix2 p q := ⟨i 0, i 1, eq_ix2 i⟩
  rw [nt_apply, up2_apply, coe_sum]
  exact Finset.sum_congr rfl fun k _ => (EReal.coe_mul _ _).symm

end Products

/-! ## The rows' arithmetic over the reals -/

section Real

variable {n : ℕ}

/-- The mean of a row's squares, with the small number added. -/
def ms (x : Fin n → ℝ) : ℝ := (∑ k, x k * x k) / (n : ℝ) + eps

theorem ms_pos (x : Fin n → ℝ) : 0 < ms x :=
  add_pos_of_nonneg_of_pos (div_nonneg (Finset.sum_nonneg fun k _ => mul_self_nonneg _) (Nat.cast_nonneg _)) eps_pos

/-- Its inverse square root. -/
def rt (x : Fin n → ℝ) : ℝ := (Real.sqrt (ms x))⁻¹

theorem rt_sq (x : Fin n → ℝ) : rt x * rt x = (ms x)⁻¹ := by
  unfold rt
  rw [← mul_inv, Real.mul_self_sqrt (ms_pos x).le]

/-- A row divided by the root of the mean of its squares. -/
def hat (x : Fin n → ℝ) (j : Fin n) : ℝ := x j * rt x

/-- A row with its mean taken off. -/
def cen (y : Fin n → ℝ) (j : Fin n) : ℝ := y j - (∑ k, y k) / (n : ℝ)

theorem sum_cen [NeZero n] (y : Fin n → ℝ) : ∑ k, cen y k = 0 := by
  unfold cen
  rw [Finset.sum_sub_distrib, Finset.sum_const, Finset.card_univ, Fintype.card_fin, nsmul_eq_mul,
    mul_div_cancel₀ _ (Nat.cast_ne_zero.mpr (NeZero.ne n)), sub_self]

/-- What the gradient of a root-mean-square norm does with the row `w` that reaches the divided row. -/
def rmsB (x w : Fin n → ℝ) (j : Fin n) : ℝ := rt x * (w j - hat x j * ((∑ k, w k * hat x k) / (n : ℝ)))

/-- What the gradient of a layer norm does with the row `d` that reaches the centred and divided row. -/
def lnB (y d : Fin n → ℝ) (j : Fin n) : ℝ :=
  rt (cen y) * (d j - (∑ k, d k) / (n : ℝ) - hat (cen y) j * ((∑ k, d k * hat (cen y) k) / (n : ℝ)))

/-- The root-mean-square norm's gradient as the chain rule leaves it: the part through the product with the inverse
    root, and, twice, the part through the square that the inverse root is taken of. -/
theorem rmsB_chain (x w : Fin n → ℝ) (j : Fin n) :
    rmsB x w j = w j * rt x + x j * ((∑ k, x k * w k) * (-(1 / 2) * (rt x / ms x)) / (n : ℝ))
      + (∑ k, x k * w k) * (-(1 / 2) * (rt x / ms x)) / (n : ℝ) * x j := by
  have hs : ∑ k, w k * hat x k = (∑ k, x k * w k) * rt x := by
    rw [Finset.sum_mul]; exact Finset.sum_congr rfl fun k _ => by unfold hat; ring
  unfold rmsB
  rw [hs, div_eq_mul_inv (rt x), ← rt_sq]
  unfold hat
  ring

/-- The layer norm's gradient as the chain rule leaves it. -/
theorem lnB_chain [NeZero n] (y d : Fin n → ℝ) (j : Fin n) :
    lnB y d j = (d j * rt (cen y) + (∑ k, cen y k * d k) * (-(1 / 2) * (rt (cen y) / ms (cen y))) / (n : ℝ) * (2 * cen y j))
      + ((∑ k, -(d k * rt (cen y)))
        + ∑ k, -((∑ k, cen y k * d k) * (-(1 / 2) * (rt (cen y) / ms (cen y))) / (n : ℝ) * (2 * cen y k))) / (n : ℝ) := by
  have hs : ∑ k, d k * hat (cen y) k = (∑ k, cen y k * d k) * rt (cen y) := by
    rw [Finset.sum_mul]; exact Finset.sum_congr rfl fun k _ => by unfold hat; ring
  have h1 : ∑ k, -(d k * rt (cen y)) = -((∑ k, d k) * rt (cen y)) := by
    rw [Finset.sum_neg_distrib, Finset.sum_mul]
  have h2 : ∀ c : ℝ, ∑ k, -(c * (2 * cen y k)) = 0 := fun c => by
    rw [Finset.sum_neg_distrib, ← Finset.mul_sum, ← Finset.mul_sum, sum_cen]; ring
  rw [h1, h2]
  unfold lnB
  rw [hs, div_eq_mul_inv (rt (cen y)) (ms _), ← rt_sq]
  unfold hat
  ring

end Real

end Cert.Rows

end
-- ==== Proof.HostRows.lean ====
/- How the host's operations act on images of real matrices and vectors. -/
module

public import proofs.«01_k».proof.Proof.Rows

@[expose] public section

set_option maxRecDepth 16384

noncomputable section

namespace Cert.Rows

open Idealize.ShloMosaic Idealize.ShloMosaic.ValueIdx

variable {m n : ℕ}

/-- The one-entry shape of a scalar. -/
abbrev S0 : Shape := ⟨0, ![]⟩

theorem fill2 (w : BitVec 32) (r : ℝ) (hr : Ideal.ofBits .f32 w = ((r : ℝ) : EReal)) (h : S0.BroadcastsInDim ⟨2, ![m, n]⟩ ![]) :
    broadcastInDim (⟨2, ![m, n]⟩ : Shape) ![] h (constant (F := Ideal) S0 .f32 w) = up2 fun _ _ => r := by
  funext i; exact hr

theorem fill1 (w : BitVec 32) (r : ℝ) (hr : Ideal.ofBits .f32 w = ((r : ℝ) : EReal)) (h : S0.BroadcastsInDim ⟨1, ![n]⟩ ![]) :
    broadcastInDim (⟨1, ![n]⟩ : Shape) ![] h (constant (F := Ideal) S0 .f32 w) = up1 fun _ => r := by
  funext i; exact hr

theorem h_divf_up (f d : Fin m → Fin n → ℝ) (h : ∀ p k, d p k ≠ 0) :
    Host.divf (F := Ideal) (s := ⟨2, ![m, n]⟩) (φ := .f32) (up2 f) (up2 d) = up2 (fun p k => f p k / d p k) := by
  funext i; exact coe_div _ _ (h _ _)

theorem h_divf_512 (f : Fin m → Fin n → ℝ) :
    Host.divf (F := Ideal) (s := ⟨2, ![m, n]⟩) (φ := .f32) (up2 f) (up2 fun _ _ => 512) = up2 (fun p k => f p k / 512) :=
  h_divf_up f _ fun _ _ => by norm_num

theorem h_divf_1024 (f : Fin m → Fin n → ℝ) :
    Host.divf (F := Ideal) (s := ⟨2, ![m, n]⟩) (φ := .f32) (up2 f) (up2 fun _ _ => 1024) = up2 (fun p k => f p k / 1024) :=
  h_divf_up f _ fun _ _ => by norm_num

theorem h_negf_up (f : Fin m → Fin n → ℝ) :
    Host.negf (F := Ideal) (s := ⟨2, ![m, n]⟩) (φ := .f32) (up2 f) = up2 (fun p k => -f p k) := by
  funext i; exact (EReal.coe_neg _).symm

theorem h_exp_up (f : Fin m → Fin n → ℝ) :
    Host.exp (F := Ideal) (s := ⟨2, ![m, n]⟩) (φ := .f32) (up2 f) = up2 (fun p k => Real.exp (f p k)) := by
  funext i; exact Ideal.exp_coe _

theorem h_rsqrt_up (f : Fin m → Fin n → ℝ) (h : ∀ p k, 0 < f p k) :
    Host.rsqrt (F := Ideal) (s := ⟨2, ![m, n]⟩) (φ := .f32) (up2 f) = up2 (fun p k => (Real.sqrt (f p k))⁻¹) := by
  funext i; exact coe_rsqrt _ (h _ _)

theorem h_rowsum (f : Fin m → Fin n → ℝ) (ax : List (Fin 2)) (hax : ax = [1]) (h : (⟨2, ![m, n]⟩ : Shape).ReducesTo ax ⟨1, ![m]⟩)
    (hu : 0 < S0.numel) :
    Host.reduceAdd (F := Ideal) (φ := .f32) (up2 f) (constant (F := Ideal) S0 .f32 0x00000000#32) h hu = up1 (fun p => ∑ k, f p k) := by
  subst hax
  funext i
  obtain ⟨p, rfl⟩ : ∃ p, i = ix1 p := ⟨i 0, eq_ix1 i⟩
  have hr : (⟨2, ![m, n]⟩ : Shape).Reduces [1] ⟨1, ![m]⟩ := ⟨h.1, Nat.one_pos, h.2⟩
  show Ideal.hostReduceAdd h (up2 f) (Ideal.ofBits .f32 0x00000000#32) (ix1 p) = _
  rw [Ideal.hostReduceAdd_single h hr, Ideal.ofBits_zero_f32, zero_add, up1_apply, coe_sum]
  refine Finset.sum_congr rfl fun k _ => ?_
  exact congrArg (up2 f) (lift_row hr p k)

theorem h_colsum (f : Fin m → Fin n → ℝ) (ax : List (Fin 2)) (hax : ax = [0]) (h : (⟨2, ![m, n]⟩ : Shape).ReducesTo ax ⟨1, ![n]⟩)
    (hu : 0 < S0.numel) :
    Host.reduceAdd (F := Ideal) (φ := .f32) (up2 f) (constant (F := Ideal) S0 .f32 0x00000000#32) h hu = up1 (fun q => ∑ p, f p q) := by
  subst hax
  funext i
  obtain ⟨p, rfl⟩ : ∃ p, i = ix1 p := ⟨i 0, eq_ix1 i⟩
  have hr : (⟨2, ![m, n]⟩ : Shape).Reduces [0] ⟨1, ![n]⟩ := ⟨h.1, Nat.one_pos, h.2⟩
  show Ideal.hostReduceAdd h (up2 f) (Ideal.ofBits .f32 0x00000000#32) (ix1 p) = _
  rw [Ideal.hostReduceAdd_single h hr, Ideal.ofBits_zero_f32, zero_add, up1_apply, coe_sum]
  refine Finset.sum_congr rfl fun k _ => ?_
  exact congrArg (up2 f) (lift_col hr p k)

/-- A vector as a row. -/
theorem as_row (f : Fin n → ℝ) (d : Fin 1 → Fin 2) (hd : d = ![1]) (h : (⟨1, ![n]⟩ : Shape).BroadcastsInDim ⟨2, ![1, n]⟩ d) :
    broadcastInDim (⟨2, ![1, n]⟩ : Shape) d h (up1 f) = up2 fun _ k => f k := by
  subst hd
  funext i
  obtain ⟨u, k, rfl⟩ : ∃ u k, i = ix2 u k := ⟨i 0, i 1, eq_ix2 i⟩
  exact broadcastInDim_apply ![1] h (up1 f) (ix2 u k) (ix1 k) fun a => by
    match a with
    | ⟨0, _⟩ =>
      show k.val = if n = 1 then 0 else k.val
      split
      · omega
      · rfl

/-- A vector as a column. -/
theorem as_col (f : Fin m → ℝ) (d : Fin 1 → Fin 2) (hd : d = ![0]) (h : (⟨1, ![m]⟩ : Shape).BroadcastsInDim ⟨2, ![m, n]⟩ d) :
    broadcastInDim (⟨2, ![m, n]⟩ : Shape) d h (up1 f) = up2 fun p _ => f p := by
  subst hd
  funext i
  obtain ⟨p, k, rfl⟩ : ∃ p k, i = ix2 p k := ⟨i 0, i 1, eq_ix2 i⟩
  exact broadcastInDim_apply ![0] h (up1 f) (ix2 p k) (ix1 p) fun a => by
    match a with
    | ⟨0, _⟩ =>
      show p.val = if m = 1 then 0 else p.val
      split
      · omega
      · rfl

theorem h_spread_row (f : Fin 1 → Fin n → ℝ) (d : Fin 2 → Fin 2) (hd : d = ![0, 1]) (h : (⟨2, ![1, n]⟩ : Shape).BroadcastsInDim ⟨2, ![m, n]⟩ d) :
    broadcastInDim (⟨2, ![m, n]⟩ : Shape) d h (up2 f) = up2 fun _ k => f 0 k := by
  subst hd
  funext i
  obtain ⟨p, k, rfl⟩ : ∃ p k, i = ix2 p k := ⟨i 0, i 1, eq_ix2 i⟩
  exact broadcastInDim_apply ![0, 1] h (up2 f) (ix2 p k) (ix2 0 k) fun a => by
    match a with
    | ⟨0, _⟩ => rfl
    | ⟨1, _⟩ =>
      show k.val = if n = 1 then 0 else k.val
      split
      · omega
      · rfl

theorem h_spread_col (f : Fin m → Fin 1 → ℝ) (d : Fin 2 → Fin 2) (hd : d = ![0, 1]) (h : (⟨2, ![m, 1]⟩ : Shape).BroadcastsInDim ⟨2, ![m, n]⟩ d) :
    broadcastInDim (⟨2, ![m, n]⟩ : Shape) d h (up2 f) = up2 fun p _ => f p 0 := by
  subst hd
  funext i
  obtain ⟨p, k, rfl⟩ : ∃ p k, i = ix2 p k := ⟨i 0, i 1, eq_ix2 i⟩
  exact broadcastInDim_apply ![0, 1] h (up2 f) (ix2 p k) (ix2 p 0) fun a => by
    match a with
    | ⟨0, _⟩ =>
      show p.val = if m = 1 then 0 else p.val
      split
      · omega
      · rfl
    | ⟨1, _⟩ => rfl

theorem cast_row (f : Fin n → ℝ) (h : (⟨1, ![n]⟩ : Shape).ShapeCasts ⟨2, ![1, n]⟩) :
    shapeCast (⟨2, ![1, n]⟩ : Shape) (up1 f) h = up2 fun _ k => f k := by
  funext i
  obtain ⟨u, k, rfl⟩ : ∃ u k, i = ix2 u k := ⟨i 0, i 1, eq_ix2 i⟩
  rw [shapeCast_a_1a_apply]; rfl

theorem cast_col (f : Fin m → ℝ) (h : (⟨1, ![m]⟩ : Shape).ShapeCasts ⟨2, ![m, 1]⟩) :
    shapeCast (⟨2, ![m, 1]⟩ : Shape) (up1 f) h = up2 fun p _ => f p := by
  funext i
  obtain ⟨p, u, rfl⟩ : ∃ p u, i = ix2 p u := ⟨i 0, i 1, eq_ix2 i⟩
  rw [shapeCast_apply _ h (ix2 p u) (ix1 p) (by
    rw [Shape.rowMajor_val_two, Shape.rowMajor_val_one]
    have hu : u.val = 0 := by omega
    show p.val = p.val * 1 + u.val
    omega)]
  rfl

end Cert.Rows

end
-- ==== Proof.Finite.lean ====
/- The precondition read: an array each of whose entries has a magnitude below infinity holds real numbers. -/
module

public import proofs.«01_k».proof.Proof.HostRows
public import proofs.«01_k».proof.Defs
public import Idealize.ShloMosaic.Lib.ReduceAll

@[expose] public section

set_option maxRecDepth 16384

noncomputable section

namespace Cert.Finite

open Idealize.ShloMosaic Idealize.ShloMosaic.ValueIdx Cert.Rows

theorem real_of_lt (x : EReal) (h : max x (-x) < ⊤) : ((x.toReal : ℝ) : EReal) = x := by
  refine EReal.coe_toReal ?_ ?_
  · rintro rfl; simp at h
  · rintro rfl; simp at h

theorem lt_of_one (x y : EReal) (h : Ideal.cmp .olt x y = 1#1) : x < y := by
  by_contra hn
  simp [Ideal.cmp, hn] at h

instance : Subsingleton (S0.Idx) := ⟨fun _ _ => funext fun a => a.elim0⟩

variable {s : Shape}

/-- Every entry of an array that passes the test is a real number. -/
theorem all_real (x : FVec Ideal s .f32) (hb : S0.BroadcastsInDim s ![]) (ax : List (Fin s.rank)) (hr : s.ReducesTo ax S0)
    (hu : 0 < S0.numel) (j : S0.Idx)
    (e : Host.reduce IntOp.andi (cmpf .olt (Host.absf x) (broadcastInDim s ![] hb (constant (F := Ideal) S0 .f32 0x7F800000#32)))
      (constantI S0 1 1#1) hr hu j = 1#1) (i : s.Idx) : ((EReal.toReal (x i) : ℝ) : EReal) = x i := by
  have h1 : Ideal.cmp .olt (max (x i) (-(x i))) (Ideal.ofBits .f32 0x7F800000#32) = 1#1 := Host.reduce_andi_all _ _ hr hu j e i
  rw [bits_inf] at h1
  exact real_of_lt _ (lt_of_one _ _ h1)

theorem matrix {m n : ℕ} (x : FVec Ideal ⟨2, ![m, n]⟩ .f32) (hx : ∀ i, ((EReal.toReal (x i) : ℝ) : EReal) = x i) :
    x = up2 fun p k => EReal.toReal (x (ix2 p k)) := by
  funext i
  obtain ⟨p, k, rfl⟩ : ∃ p k, i = ix2 p k := ⟨i 0, i 1, eq_ix2 i⟩
  exact (hx _).symm

theorem vector {n : ℕ} (x : FVec Ideal ⟨1, ![n]⟩ .f32) (hx : ∀ i, ((EReal.toReal (x i) : ℝ) : EReal) = x i) :
    x = up1 fun k => EReal.toReal (x (ix1 k)) := by
  funext i
  obtain ⟨k, rfl⟩ : ∃ k, i = ix1 k := ⟨i 0, eq_ix1 i⟩
  exact (hx _).symm

/-- A list of single entries read at entry `p`. -/
theorem piece {N : ℕ} (xs : List ((s : Shape) × (s.Idx → BitVec 1))) (h : Shape.Concatenates (xs.map (·.1)) ⟨1, ![N]⟩ 0) (p : ℕ)
    (hp : p < xs.length) (x : S0.Idx → BitVec 1) (hb : S0.BroadcastsInDim ⟨1, ![1]⟩ ![])
    (hx : xs[p] = ⟨⟨1, ![1]⟩, broadcastInDim (⟨1, ![1]⟩ : Shape) ![] hb x⟩)
    (hpre : (((xs.take p).map (·.1)).map fun s => if h : s.rank = 1 then s.size ((0 : Fin 1).cast h.symm) else 0).sum = p) (hN : p < N) :
    concatenate (⟨1, ![N]⟩ : Shape) 0 xs h (ix1 ⟨p, hN⟩) = x fun a => a.elim0 := by
  rw [concatenate_apply_piece 0 xs h (ix1 ⟨p, hN⟩) p hp _ _ hx rfl p hpre (ix1 0) (fun b hb => absurd (Subsingleton.elim _ _) hb) rfl]
  exact congrArg x (Subsingleton.elim _ _)

/-- What the precondition says of the nine arguments. -/
theorem args_real [Cert.Pre_finite.Facts] (x0 : FVec Ideal Cert.Pre_finite.S8192x1024 .f32) (x1 : FVec Ideal Cert.Pre_finite.S1024x1024 .f32) (x2 : FVec Ideal Cert.Pre_finite.S8192x512 .f32) (x3 : FVec Ideal Cert.Pre_finite.S8192x512 .f32) (x4 : FVec Ideal Cert.Pre_finite.S512 .f32) (x5 : FVec Ideal Cert.Pre_finite.S512 .f32) (x6 : FVec Ideal Cert.Pre_finite.S512 .f32) (x7 : FVec Ideal Cert.Pre_finite.S512 .f32) (x8 : FVec Ideal Cert.Pre_finite.S512 .f32)
    (h : Cert.Pre_finite.fn (F := Ideal) x0 x1 x2 x3 x4 x5 x6 x7 x8 = fun _ => 1#1) :
    (∀ i, ((EReal.toReal (x0 i) : ℝ) : EReal) = x0 i)
      ∧ (∀ i, ((EReal.toReal (x1 i) : ℝ) : EReal) = x1 i)
      ∧ (∀ i, ((EReal.toReal (x2 i) : ℝ) : EReal) = x2 i)
      ∧ (∀ i, ((EReal.toReal (x3 i) : ℝ) : EReal) = x3 i)
      ∧ (∀ i, ((EReal.toReal (x4 i) : ℝ) : EReal) = x4 i)
      ∧ (∀ i, ((EReal.toReal (x5 i) : ℝ) : EReal) = x5 i)
      ∧ (∀ i, ((EReal.toReal (x6 i) : ℝ) : EReal) = x6 i)
      ∧ (∀ i, ((EReal.toReal (x7 i) : ℝ) : EReal) = x7 i)
      ∧ (∀ i, ((EReal.toReal (x8 i) : ℝ) : EReal) = x8 i) := by
  have e := fun p => congrFun h (ix1 p)
  unfold Cert.Pre_finite.fn Cert.Pre_finite.fn_part1 Cert.Pre_finite.fn_part2 at e
  dsimp only at e
  refine ⟨?_, ?_, ?_, ?_, ?_, ?_, ?_, ?_, ?_⟩
  · exact all_real x0 _ _ _ _ _ ((piece _ _ 0 (Nat.le_of_ble_eq_true rfl) _ _ rfl rfl (Nat.le_of_ble_eq_true rfl)).symm.trans (e 0))
  · exact all_real x1 _ _ _ _ _ ((piece _ _ 1 (Nat.le_of_ble_eq_true rfl) _ _ rfl rfl (Nat.le_of_ble_eq_true rfl)).symm.trans (e 1))
  · exact all_real x2 _ _ _ _ _ ((piece _ _ 2 (Nat.le_of_ble_eq_true rfl) _ _ rfl rfl (Nat.le_of_ble_eq_true rfl)).symm.trans (e 2))
  · exact all_real x3 _ _ _ _ _ ((piece _ _ 3 (Nat.le_of_ble_eq_true rfl) _ _ rfl rfl (Nat.le_of_ble_eq_true rfl)).symm.trans (e 3))
  · exact all_real x4 _ _ _ _ _ ((piece _ _ 4 (Nat.le_of_ble_eq_true rfl) _ _ rfl rfl (Nat.le_of_ble_eq_true rfl)).symm.trans (e 4))
  · exact all_real x5 _ _ _ _ _ ((piece _ _ 5 (Nat.le_of_ble_eq_true rfl) _ _ rfl rfl (Nat.le_of_ble_eq_true rfl)).symm.trans (e 5))
  · exact all_real x6 _ _ _ _ _ ((piece _ _ 6 (Nat.le_of_ble_eq_true rfl) _ _ rfl rfl (Nat.le_of_ble_eq_true rfl)).symm.trans (e 6))
  · exact all_real x7 _ _ _ _ _ ((piece _ _ 7 (Nat.le_of_ble_eq_true rfl) _ _ rfl rfl (Nat.le_of_ble_eq_true rfl)).symm.trans (e 7))
  · exact all_real x8 _ _ _ _ _ ((piece _ _ 8 (Nat.le_of_ble_eq_true rfl) _ _ rfl rfl (Nat.le_of_ble_eq_true rfl)).symm.trans (e 8))

end Cert.Finite

end
-- ==== Proof.Pay.lean ====
/- What the body of the gate-and-norm gradient computes from one tile, read over the reals: each named value of the body
   at real tiles is the image of a real matrix, a function of the rows. -/
module

public import proofs.«01_k».proof.Proof.Rows
public import proofs.«01_k».proof.Proof.Gen.KernelIdeal.Skeleton

@[expose] public section

set_option maxRecDepth 16384

noncomputable section

namespace Cert.Mix

open Idealize.ShloMosaic Idealize.ShloMosaic.ValueIdx Cert.Rows Cert.KernelIdeal Cert.KernelIdeal.Gen

/-! ## The rows -/

/-- The layer-normed row with scale `lg` and shift `lb`. -/
def yn (lg lb y : Fin 512 → ℝ) (j : Fin 512) : ℝ := hat (cen y) j * lg j + lb j

/-- The gate's value: the normed row times its logistic. -/
def gate (lg lb y : Fin 512 → ℝ) (j : Fin 512) : ℝ := yn lg lb y j * sig (yn lg lb y j)

/-- The gradient that reaches the normed row, from the row `d` of the mixed gradient. -/
def dyn (lg lb cg y d : Fin 512 → ℝ) (j : Fin 512) : ℝ :=
  rmsB (gate lg lb y) (fun k => d k * cg k) j * (sig (yn lg lb y j) * (1 + yn lg lb y j * (1 - sig (yn lg lb y j))))

/-- The gradient that reaches the row before its layer norm. -/
def dy (lg lb cg y d : Fin 512 → ℝ) (j : Fin 512) : ℝ := lnB y (fun k => dyn lg lb cg y d k * lg k) j

/-! ## The body's values -/

theorem pay7_up (f : Fin 512 → Fin 512 → ℝ) : k0_pay7 (F := Ideal) (up2 f) = up2 (fun p _ => rt (f p)) := by
  unfold k0_pay7
  simp only [mulf_up, rowsum_up, bcast_512, bcast_eps, divf_up_512, addf_up]
  rw [rsqrt_up _ (fun p _ => by have := ms_pos (f p); simpa only [ms, Nat.cast_ofNat] using this)]
  simp only [rt, ms, Nat.cast_ofNat]

theorem pay17_up (f : Fin 512 → Fin 512 → ℝ) : k0_pay17 (F := Ideal) (up2 f) = up2 (fun p _ => rt (f p)) := pay7_up f

theorem pay8_up (f : Fin 512 → Fin 512 → ℝ) : k0_pay8 (F := Ideal) (up2 f) = up2 (fun p k => hat (f p) k) := by
  unfold k0_pay8
  simp only [pay7_up, spread_col, mulf_up, hat]

theorem pay18_up (f : Fin 512 → Fin 512 → ℝ) : k0_pay18 (F := Ideal) (up2 f) = up2 (fun p k => hat (f p) k) := pay8_up f

theorem pay10_up (d a : Fin 512 → Fin 512 → ℝ) (g : Fin 512 → ℝ) :
    k0_pay10 (F := Ideal) (up2 d) (up2 fun p _ => rt (a p)) (up2 fun p k => hat (a p) k) (up2 fun _ k => g k)
      = up2 (fun p k => rmsB (a p) (fun k => d p k * g k) k) := by
  unfold k0_pay10
  simp only [shapeCast_self, spread_row, spread_col, mulf_up, rowsum_up, bcast_512, divf_up_512, subf_up, rmsB, Nat.cast_ofNat]

theorem pay11_up (y : Fin 512 → Fin 512 → ℝ) : k0_pay11 (F := Ideal) (up2 y) = up2 (fun p k => cen (y p) k) := by
  unfold k0_pay11
  simp only [shapeCast_self, rowsum_up, bcast_512, divf_up_512, spread_col, subf_up, cen, Nat.cast_ofNat]

theorem pay12_up (y : Fin 512 → Fin 512 → ℝ) : k0_pay12 (F := Ideal) (up2 y) = up2 (fun p _ => rt (cen (y p))) := by
  have h : k0_pay12 (F := Ideal) (up2 y) = k0_pay7 (F := Ideal) (k0_pay11 (F := Ideal) (up2 y)) := rfl
  rw [h, pay11_up]
  exact pay7_up fun p => cen (y p)

theorem pay13_up (y : Fin 512 → Fin 512 → ℝ) : k0_pay13 (F := Ideal) (up2 y) = up2 (fun p k => hat (cen (y p)) k) := by
  unfold k0_pay13
  simp only [pay11_up, pay12_up, spread_col, mulf_up, hat]

theorem pay14_up (y : Fin 512 → Fin 512 → ℝ) (lg lb : Fin 512 → ℝ) :
    k0_pay14 (F := Ideal) (up2 y) (up2 fun _ k => lg k) (up2 fun _ k => lb k) = up2 (fun p k => yn lg lb (y p) k) := by
  unfold k0_pay14
  simp only [pay13_up, shapeCast_self, spread_row, mulf_up, addf_up, yn]

theorem pay15_up (y : Fin 512 → Fin 512 → ℝ) (lg lb : Fin 512 → ℝ) :
    k0_pay15 (F := Ideal) (up2 y) (up2 fun _ k => lg k) (up2 fun _ k => lb k) = up2 (fun p k => sig (yn lg lb (y p) k)) := by
  unfold k0_pay15
  simp only [pay14_up, logistic_up]

theorem pay16_up (y : Fin 512 → Fin 512 → ℝ) (lg lb : Fin 512 → ℝ) :
    k0_pay16 (F := Ideal) (up2 y) (up2 fun _ k => lg k) (up2 fun _ k => lb k) = up2 (fun p k => gate lg lb (y p) k) := by
  unfold k0_pay16
  simp only [pay14_up, pay15_up, mulf_up, gate]

theorem pay19_up (d c : Fin 512 → Fin 512 → ℝ) :
    k0_pay19 (F := Ideal) (up2 d) (up2 c) = up2 (fun _ k => ∑ p, d p k * hat (c p) k) := by
  unfold k0_pay19
  simp only [pay18_up, mulf_up, colsum_up]

theorem pay20_up (d y : Fin 512 → Fin 512 → ℝ) (lg lb cg : Fin 512 → ℝ) :
    k0_pay20 (F := Ideal) (up2 d) (up2 fun p k => yn lg lb (y p) k) (up2 fun p k => sig (yn lg lb (y p) k))
      (up2 fun p k => gate lg lb (y p) k) (up2 fun _ k => cg k) = up2 (fun p k => dyn lg lb cg (y p) (d p) k) := by
  unfold k0_pay20
  simp only [shapeCast_self, spread_row, spread_col, pay17_up (fun p k => gate lg lb (y p) k),
    pay18_up (fun p k => gate lg lb (y p) k), mulf_up, rowsum_up, bcast_512, bcast_one, divf_up_512, subf_up, addf_up]
  simp only [dyn, rmsB, Nat.cast_ofNat]

theorem pay21_up (d y : Fin 512 → Fin 512 → ℝ) (lg lb cg : Fin 512 → ℝ) :
    k0_pay21 (F := Ideal) (up2 d) (up2 fun p k => hat (cen (y p)) k) (up2 fun p k => yn lg lb (y p) k)
      (up2 fun p k => sig (yn lg lb (y p) k)) (up2 fun p k => gate lg lb (y p) k) (up2 fun _ k => cg k)
      = up2 (fun _ k => ∑ p, dyn lg lb cg (y p) (d p) k * hat (cen (y p)) k) := by
  unfold k0_pay21
  simp only [pay20_up, mulf_up, colsum_up]

theorem pay22_up (d y : Fin 512 → Fin 512 → ℝ) (lg lb cg : Fin 512 → ℝ) :
    k0_pay22 (F := Ideal) (up2 d) (up2 fun p k => yn lg lb (y p) k)
      (up2 fun p k => sig (yn lg lb (y p) k)) (up2 fun p k => gate lg lb (y p) k) (up2 fun _ k => cg k)
      = up2 (fun _ k => ∑ p, dyn lg lb cg (y p) (d p) k) := by
  unfold k0_pay22
  simp only [pay20_up, colsum_up]

theorem pay23_up (d y : Fin 512 → Fin 512 → ℝ) (lg lb cg : Fin 512 → ℝ) :
    k0_pay23 (F := Ideal) (up2 d) (up2 fun p k => yn lg lb (y p) k)
      (up2 fun p k => sig (yn lg lb (y p) k)) (up2 fun p k => gate lg lb (y p) k) (up2 fun _ k => cg k) (up2 fun _ k => lg k)
      = up2 (fun p k => dyn lg lb cg (y p) (d p) k * lg k) := by
  unfold k0_pay23
  simp only [pay20_up, shapeCast_self, spread_row, mulf_up]

theorem pay24_up (d y : Fin 512 → Fin 512 → ℝ) (lg lb cg : Fin 512 → ℝ) :
    k0_pay24 (F := Ideal) (up2 d) (up2 fun p k => yn lg lb (y p) k)
      (up2 fun p k => sig (yn lg lb (y p) k)) (up2 fun p k => gate lg lb (y p) k) (up2 fun _ k => cg k) (up2 fun _ k => lg k)
      = up2 (fun p _ => ∑ k, dyn lg lb cg (y p) (d p) k * lg k) := by
  unfold k0_pay24
  simp only [pay23_up, rowsum_up]

theorem pay1_up (w y : Fin 512 → Fin 512 → ℝ) :
    k0_pay1 (F := Ideal) (up2 fun p _ => rt (cen (y p))) (up2 fun p k => hat (cen (y p)) k) (up2 w) (up2 fun p _ => ∑ k, w p k)
      = up2 (fun p k => lnB (y p) (w p) k) := by
  unfold k0_pay1
  simp only [bcast_512, divf_up_512, spread_col, subf_up, mulf_up, rowsum_up, lnB, Nat.cast_ofNat]

/-! ## The mixed gradient: a row of `g` times the weight's rows -/

theorem slab_up (W : Fin 256 → Fin 1024 → ℝ) (x : FVec Ideal S1x1x256x1024 .bf16)
    (hx : ∀ r k, x (ix4 (0 : Fin 1) (0 : Fin 1) r k) = ((W r k : ℝ) : EReal)) :
    shapeCast S256x1024 x shapeCasts_S1x1x256x1024_S256x1024 = up2 W := by
  funext i
  obtain ⟨r, k, rfl⟩ : ∃ r k, i = ix2 r k := ⟨i 0, i 1, eq_ix2 i⟩
  rw [shapeCast_apply x _ (ix2 r k) (ix4 (0 : Fin 1) (0 : Fin 1) r k) (by
    rw [Shape.rowMajor_val_two, Shape.rowMajor_val_four]
    show ((0 * 1 + 0) * 256 + r.val) * 1024 + k.val = r.val * 1024 + k.val
    omega), hx]
  rfl

theorem pay5_up (G : Fin 512 → Fin 1024 → ℝ) (W : Fin 512 → Fin 1024 → ℝ) (x y : FVec Ideal S1x1x256x1024 .bf16)
    (hx : ∀ r k, x (ix4 (0 : Fin 1) (0 : Fin 1) r k) = ((W ⟨r.val, by omega⟩ k : ℝ) : EReal))
    (hy : ∀ r k, y (ix4 (0 : Fin 1) (0 : Fin 1) r k) = ((W ⟨256 + r.val, by omega⟩ k : ℝ) : EReal)) :
    k0_pay5 (F := Ideal) (up2 G) x y = up2 (fun p j => ∑ k, G p k * W j k) := by
  unfold k0_pay5 k0_pay4
  have e : dot_S512x1024_S256x1024_S512x256_1_1_0_0_n_n = ntDims 512 256 1024 dot_S512x1024_S256x1024_S512x256_1_1_0_0_n_n_wf := rfl
  have hs : shapeCast S512x1024 (up2 G) shapeCasts_S512x1024_S512x1024 = up2 G := shapeCast_self _ _
  simp only [matmul]
  rw [e, hs, slab_up _ x hx, slab_up _ y hy, nt_up, nt_up]
  exact beside_up _ _ _ _ rfl (fun p k => rfl) (fun p k => rfl)

theorem pay6_up (G : Fin 512 → Fin 1024 → ℝ) (W : Fin 512 → Fin 1024 → ℝ) (x y : FVec Ideal S1x1x256x1024 .bf16)
    (hx : ∀ r k, x (ix4 (0 : Fin 1) (0 : Fin 1) r k) = ((W ⟨r.val, by omega⟩ k : ℝ) : EReal))
    (hy : ∀ r k, y (ix4 (0 : Fin 1) (0 : Fin 1) r k) = ((W ⟨256 + r.val, by omega⟩ k : ℝ) : EReal)) :
    k0_pay6 (F := Ideal) (up2 G) x y = up2 (fun p j => ∑ k, G p k * W j k) := pay5_up G W x y hx hy

theorem pay9_up (G : Fin 512 → Fin 1024 → ℝ) (W : Fin 512 → Fin 1024 → ℝ) (x y : FVec Ideal S1x1x256x1024 .bf16)
    (hx : ∀ r k, x (ix4 (0 : Fin 1) (0 : Fin 1) r k) = ((W ⟨r.val, by omega⟩ k : ℝ) : EReal))
    (hy : ∀ r k, y (ix4 (0 : Fin 1) (0 : Fin 1) r k) = ((W ⟨256 + r.val, by omega⟩ k : ℝ) : EReal)) (a : Fin 512 → Fin 512 → ℝ) :
    k0_pay9 (F := Ideal) (up2 G) x y (up2 a) = up2 (fun _ j => ∑ p, (∑ k, G p k * W j k) * hat (a p) j) := by
  unfold k0_pay9
  simp only [pay5_up G W x y hx hy, pay8_up, mulf_up, colsum_up]

end Cert.Mix

end
-- ==== Proof.Blocks.lean ====
/- What the body of the gate-and-norm gradient leaves in its three output tiles, from tiles that hold real numbers. -/
module

public import proofs.«01_k».proof.Proof.Pay
public import proofs.«01_k».proof.Proof.Gen.KernelIdeal.Value

@[expose] public section

set_option maxRecDepth 16384

noncomputable section

namespace Cert.Mix

open Idealize.ShloMosaic Idealize.ShloMosaic.ValueIdx Idealize.ShloMosaic.TcCoe Idealize.SL.Sem
open Cert.Rows Cert.KernelIdeal Cert.KernelIdeal.Gen

/-! ## The eight rows of sums -/

/-- Five rows above three rows of zeros. -/
def rows5 (a b c d e : Fin 512 → ℝ) (r : Fin 8) (k : Fin 512) : ℝ := ![a k, b k, c k, d k, e k, 0, 0, 0] r

/-- A concatenation of blocks of rows read at row `r`: the block that holds it, at the row inside the block. -/
theorem piece_row (xs : List ((s : Shape) × (s.Idx → EReal))) (h : Shape.Concatenates (xs.map (·.1)) S8x512 0)
    (p : ℕ) (hp : p < xs.length) (n : ℕ) (f : Fin n → Fin 512 → ℝ) (hx : xs[p] = ⟨⟨2, ![n, 512]⟩, up2 f⟩) (pre : ℕ)
    (hpre : (((xs.take p).map (·.1)).map fun s => if h : s.rank = S8x512.rank then s.size ((0 : Fin 2).cast h.symm) else 0).sum = pre)
    (r : Fin 8) (k : Fin 512) (u : Fin n) (hu : pre + u.val = r.val) :
    concatenate S8x512 0 xs h (ix2 r k) = ((f u k : ℝ) : EReal) :=
  concatenate_apply_piece 0 xs h (ix2 r k) p hp _ (up2 f) hx rfl pre hpre (ix2 u k) (fun b => by
    match b with
    | ⟨0, _⟩ => intro hb; exact absurd rfl hb
    | ⟨1, _⟩ => intro _; rfl) hu

theorem stack_up (a b c d e : Fin 512 → ℝ)
    (h : Shape.Concatenates [S1x512, S1x512, S1x512, S1x512, S1x512, S3x512] S8x512 0) :
    concatenate S8x512 0 [⟨S1x512, up2 fun _ k => a k⟩, ⟨S1x512, up2 fun _ k => b k⟩, ⟨S1x512, up2 fun _ k => c k⟩,
      ⟨S1x512, up2 fun _ k => d k⟩, ⟨S1x512, up2 fun _ k => e k⟩, ⟨S3x512, up2 fun _ _ => 0⟩] h = up2 (rows5 a b c d e) := by
  funext i
  obtain ⟨r, k, rfl⟩ : ∃ r k, i = ix2 r k := ⟨i 0, i 1, eq_ix2 i⟩
  let xs : List ((s : Shape) × (s.Idx → EReal)) := [⟨S1x512, up2 fun _ k => a k⟩, ⟨S1x512, up2 fun _ k => b k⟩,
    ⟨S1x512, up2 fun _ k => c k⟩, ⟨S1x512, up2 fun _ k => d k⟩, ⟨S1x512, up2 fun _ k => e k⟩, ⟨S3x512, up2 fun _ _ => 0⟩]
  match r with
  | ⟨0, _⟩ => exact piece_row xs h 0 (Nat.le_of_ble_eq_true rfl) 1 (fun _ k => a k) rfl 0 rfl _ k 0 rfl
  | ⟨1, _⟩ => exact piece_row xs h 1 (Nat.le_of_ble_eq_true rfl) 1 (fun _ k => b k) rfl 1 rfl _ k 0 rfl
  | ⟨2, _⟩ => exact piece_row xs h 2 (Nat.le_of_ble_eq_true rfl) 1 (fun _ k => c k) rfl 2 rfl _ k 0 rfl
  | ⟨3, _⟩ => exact piece_row xs h 3 (Nat.le_of_ble_eq_true rfl) 1 (fun _ k => d k) rfl 3 rfl _ k 0 rfl
  | ⟨4, _⟩ => exact piece_row xs h 4 (Nat.le_of_ble_eq_true rfl) 1 (fun _ k => e k) rfl 4 rfl _ k 0 rfl
  | ⟨5, _⟩ => exact piece_row xs h 5 (Nat.le_of_ble_eq_true rfl) 3 (fun _ _ => 0) rfl 5 rfl _ k 0 rfl
  | ⟨6, _⟩ => exact piece_row xs h 5 (Nat.le_of_ble_eq_true rfl) 3 (fun _ _ => 0) rfl 5 rfl _ k 1 rfl
  | ⟨7, _⟩ => exact piece_row xs h 5 (Nat.le_of_ble_eq_true rfl) 3 (fun _ _ => 0) rfl 5 rfl _ k 2 rfl

theorem stack_of (a b c d e : Fin 512 → ℝ) (h : Shape.Concatenates [S1x512, S1x512, S1x512, S1x512, S1x512, S3x512] S8x512 0)
    (z : S1x512.Idx → EReal) (hz : z = up2 fun _ k => e k) (o : S3x512.Idx → EReal) (ho : o = up2 fun _ _ => 0)
    (R : Fin 8 → Fin 512 → ℝ) (hR : R = rows5 a b c d e) :
    concatenate S8x512 0 [⟨S1x512, up2 fun _ k => a k⟩, ⟨S1x512, up2 fun _ k => b k⟩, ⟨S1x512, up2 fun _ k => c k⟩,
      ⟨S1x512, up2 fun _ k => d k⟩, ⟨S1x512, z⟩, ⟨S3x512, o⟩] h = up2 R := by
  subst hz ho hR
  exact stack_up a b c d e h

theorem pay2_up (w y : Fin 512 → Fin 512 → ℝ) (a b c d : Fin 512 → ℝ) :
    k0_pay2 (F := Ideal) (up2 fun _ k => a k) (up2 fun p _ => rt (cen (y p))) (up2 fun p k => hat (cen (y p)) k) (up2 fun _ k => b k)
      (up2 fun _ k => c k) (up2 fun _ k => d k) (up2 w) (up2 fun p _ => ∑ k, w p k)
      = up2 (rows5 a b c d fun k => ∑ p, lnB (y p) (w p) k) := by
  unfold k0_pay2
  dsimp only
  exact stack_of a b c d _ _ _ (by simp only [pay1_up, colsum_up]) _ bcast_zero _ rfl

theorem pay3_up (w y : Fin 512 → Fin 512 → ℝ) (a b c d : Fin 512 → ℝ) (v : Fin 8 → Fin 512 → ℝ) :
    k0_pay3 (F := Ideal) (up2 fun _ k => a k) (up2 fun p _ => rt (cen (y p))) (up2 fun p k => hat (cen (y p)) k) (up2 fun _ k => b k)
      (up2 fun _ k => c k) (up2 fun _ k => d k) (up2 w) (up2 fun p _ => ∑ k, w p k) (up2 v)
      = up2 (fun r k => v r k + rows5 a b c d (fun k => ∑ p, lnB (y p) (w p) k) r k) := by
  unfold k0_pay3
  simp only [pay2_up, shapeCast_self, addf_up]

/-! ## One tile -/

/-- The first half of the weight's rows. -/
def lo (W : Fin 1024 → Fin 1024 → ℝ) (j : Fin 512) (k : Fin 1024) : ℝ := W ⟨j.val, by omega⟩ k

/-- The second half of the weight's rows. -/
def hi (W : Fin 1024 → Fin 1024 → ℝ) (j : Fin 512) (k : Fin 1024) : ℝ := W ⟨512 + j.val, by omega⟩ k

/-- Row `r` of slab `s` of the weight. -/
def slabRow (s : Fin 4) (r : Fin 256) : Fin 1024 := ⟨s.val * 256 + r.val, by omega⟩

/-- The rows of `G` times the rows of `w`. -/
def prod {m : ℕ} (G : Fin m → Fin 1024 → ℝ) (w : Fin 512 → Fin 1024 → ℝ) (p : Fin m) (j : Fin 512) : ℝ := ∑ k, G p k * w j k

/-- What a block of `m` rows adds to the five gradients of vectors. -/
def sums {m : ℕ} (G : Fin m → Fin 1024 → ℝ) (W : Fin 1024 → Fin 1024 → ℝ) (a y : Fin m → Fin 512 → ℝ) (lg lb cg : Fin 512 → ℝ) :
    Fin 8 → Fin 512 → ℝ :=
  rows5 (fun k => ∑ p, prod G (lo W) p k * hat (a p) k) (fun k => ∑ p, prod G (hi W) p k * hat (gate lg lb (y p)) k)
    (fun k => ∑ p, dyn lg lb cg (y p) (prod G (hi W) p) k * hat (cen (y p)) k)
    (fun k => ∑ p, dyn lg lb cg (y p) (prod G (hi W) p) k) (fun k => ∑ p, dy lg lb cg (y p) (prod G (hi W) p) k)

theorem hz2 : (![0, 0] : Fin 2 → ℕ) = fun _ => 0 := funext fun a => by fin_cases a <;> rfl

/-- A slab of the weight, as the body loads it. -/
theorem ld_slab (x : Vec Ideal S4x1x256x1024 .bf16) (s : Fin 4)
    (inb : ∀ a, (![s.val, 0, 0, 0] : Fin 4 → ℕ) a + S1x1x256x1024.size a ≤ S4x1x256x1024.size a) (r : Fin 256) (k : Fin 1024) :
    View.ld x (Rect.unit ![s.val, 0, 0, 0] S1x1x256x1024.size inb) (ix4 (0 : Fin 1) (0 : Fin 1) r k) = x (ix4 s (0 : Fin 1) r k) := by
  refine congrArg x (funext fun a => Fin.ext ?_)
  match a with
  | ⟨0, _⟩ => show s.val + 1 * 0 = s.val; omega
  | ⟨1, _⟩ => rfl
  | ⟨2, _⟩ => show 0 + 1 * r.val = r.val; omega
  | ⟨3, _⟩ => show 0 + 1 * k.val = k.val; omega

section Tile

variable (c : Dev nD) (i : grid0.Coords)
  (arg1 : Memref sig .tc .vmem S512x1024 .bf16) (h1 : arg1.IsWhole) (arg2 : Memref sig .tc .vmem S4x1x256x1024 .bf16) (h2 : arg2.IsWhole)
  (arg3 : Memref sig .tc .vmem S512x512 .f32) (h3 : arg3.IsWhole) (arg4 : Memref sig .tc .vmem S512x512 .f32) (h4 : arg4.IsWhole)
  (arg5 : Memref sig .tc .vmem S1x512 .f32) (h5 : arg5.IsWhole) (arg6 : Memref sig .tc .vmem S1x512 .f32) (h6 : arg6.IsWhole)
  (arg7 : Memref sig .tc .vmem S1x512 .f32) (h7 : arg7.IsWhole) (arg8 : Memref sig .tc .vmem S1x512 .f32) (h8 : arg8.IsWhole)
  (arg9 : Memref sig .tc .vmem S512x512 .f32) (h9 : arg9.IsWhole) (arg10 : Memref sig .tc .vmem S512x512 .f32) (h10 : arg10.IsWhole)
  (arg11 : Memref sig .tc .vmem S8x512 .f32) (h11 : arg11.IsWhole)
  (G : Fin 512 → Fin 1024 → ℝ) (W : Fin 1024 → Fin 1024 → ℝ) (x1 : Vec Ideal S4x1x256x1024 .bf16)
  (hW : ∀ (s : Fin 4) (r : Fin 256) (k : Fin 1024), x1 (ix4 s (0 : Fin 1) r k) = ((W (slabRow s r) k : ℝ) : EReal))
  (a y : Fin 512 → Fin 512 → ℝ) (lg lb ag cg : Fin 512 → ℝ) (v : Fin 8 → Fin 512 → ℝ)

include hW in
theorem lo_up : k0_pay5 (F := Ideal) (up2 G)
    (View.ld x1 (Rect.unit ![0, 0, 0, 0] S1x1x256x1024.size inb_S4x1x256x1024_S1x1x256x1024_0_0_0_0))
    (View.ld x1 (Rect.unit ![1, 0, 0, 0] S1x1x256x1024.size inb_S4x1x256x1024_S1x1x256x1024_1_0_0_0)) = up2 (prod G (lo W)) :=
  pay5_up G (lo W) _ _ (fun r k => (ld_slab x1 0 _ r k).trans ((hW 0 r k).trans (by unfold lo slabRow; congr 3; show 0 * 256 + r.val = r.val; omega)))
    (fun r k => (ld_slab x1 1 _ r k).trans ((hW 1 r k).trans (by unfold lo slabRow; congr 3)))

include hW in
theorem hi_up : k0_pay6 (F := Ideal) (up2 G)
    (View.ld x1 (Rect.unit ![2, 0, 0, 0] S1x1x256x1024.size inb_S4x1x256x1024_S1x1x256x1024_2_0_0_0))
    (View.ld x1 (Rect.unit ![3, 0, 0, 0] S1x1x256x1024.size inb_S4x1x256x1024_S1x1x256x1024_3_0_0_0)) = up2 (prod G (hi W)) :=
  pay6_up G (hi W) _ _ (fun r k => (ld_slab x1 2 _ r k).trans ((hW 2 r k).trans (by unfold hi slabRow; congr 3)))
    (fun r k => (ld_slab x1 3 _ r k).trans ((hW 3 r k).trans (by unfold hi slabRow; congr 3; show 3 * 256 + r.val = 512 + (256 + r.val); omega)))

include hW in
theorem lo_sum_up : k0_pay9 (F := Ideal) (up2 G)
    (View.ld x1 (Rect.unit ![0, 0, 0, 0] S1x1x256x1024.size inb_S4x1x256x1024_S1x1x256x1024_0_0_0_0))
    (View.ld x1 (Rect.unit ![1, 0, 0, 0] S1x1x256x1024.size inb_S4x1x256x1024_S1x1x256x1024_1_0_0_0)) (up2 a)
      = up2 (fun _ k => ∑ p, prod G (lo W) p k * hat (a p) k) := by
  unfold k0_pay9
  simp only [lo_up G W x1 hW, pay8_up, mulf_up, colsum_up]

include hW in
theorem out_A_8 (hc0 hc1) : out0_A_8 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k)
    = up2 (fun p k => rmsB (a p) (fun k => prod G (lo W) p k * ag k) k) := by
  unfold out0_A_8
  rw [View.read_writes_eq_canon _ _ _ (cover0_A_8 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k))]
  unfold kernelRun0_A
  dsimp only
  sl_unfold_words
  rw [View.canon_unit_zero hz2]
  simp only [View.readAt_eq_ld, h1.read_unread, h2.read_unread, h3.read_unread, h7.read_unread, View.ld_unit_zero (S := S512x512) hz2,
    View.ld_unit_zero (S := S512x1024) hz2, View.ld_unit_zero (S := S1x512) hz2]
  rw [lo_up G W x1 hW, pay7_up, pay8_up, pay10_up]

include hW in
theorem out_A_9 (hc0 hc1) : out0_A_9 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k)
    = up2 (fun p k => dy lg lb cg (y p) (prod G (hi W) p) k) := by
  unfold out0_A_9
  rw [View.read_writes_eq_canon _ _ _ (cover0_A_9 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k))]
  unfold kernelRun0_A
  dsimp only
  sl_unfold_words
  rw [View.canon_unit_zero hz2]
  simp only [View.readAt_eq_ld, h1.read_unread, h2.read_unread, h4.read_unread, h5.read_unread, h6.read_unread, h8.read_unread,
    View.ld_unit_zero (S := S512x512) hz2, View.ld_unit_zero (S := S512x1024) hz2, View.ld_unit_zero (S := S1x512) hz2]
  simp only [hi_up G W x1 hW, pay12_up, pay13_up, pay14_up, pay15_up, pay16_up, pay23_up, pay24_up, pay1_up, dy]

include hW in
theorem out_A_10 (hc0 hc1) : out0_A_10 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k)
    = up2 (sums G W a y lg lb cg) := by
  unfold out0_A_10
  rw [View.read_writes_eq_canon _ _ _ (cover0_A_10 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k))]
  unfold kernelRun0_A
  dsimp only
  sl_unfold_words
  rw [View.canon_unit_zero hz2]
  simp only [View.readAt_eq_ld, h1.read_unread, h2.read_unread, h3.read_unread, h4.read_unread, h5.read_unread, h6.read_unread, h8.read_unread,
    View.ld_unit_zero (S := S512x512) hz2, View.ld_unit_zero (S := S512x1024) hz2, View.ld_unit_zero (S := S1x512) hz2]
  simp only [hi_up G W x1 hW, lo_sum_up G W x1 hW, pay12_up, pay13_up, pay14_up, pay15_up, pay16_up, pay19_up, pay21_up, pay22_up, pay23_up, pay24_up,
    pay2_up, sums, dy]

include hW in
theorem out_B_8 (hc0 hc1) : out0_B_8 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k) (up2 v)
    = up2 (fun p k => rmsB (a p) (fun k => prod G (lo W) p k * ag k) k) := by
  unfold out0_B_8
  rw [View.read_writes_eq_canon _ _ _ (cover0_B_8 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k) (up2 v))]
  unfold kernelRun0_B
  dsimp only
  sl_unfold_words
  rw [View.canon_unit_zero hz2]
  simp only [View.readAt_eq_ld, h1.read_unread, h2.read_unread, h3.read_unread, h7.read_unread, View.ld_unit_zero (S := S512x512) hz2,
    View.ld_unit_zero (S := S512x1024) hz2, View.ld_unit_zero (S := S1x512) hz2]
  rw [lo_up G W x1 hW, pay7_up, pay8_up, pay10_up]

include hW in
theorem out_B_9 (hc0 hc1) : out0_B_9 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k) (up2 v)
    = up2 (fun p k => dy lg lb cg (y p) (prod G (hi W) p) k) := by
  unfold out0_B_9
  rw [View.read_writes_eq_canon _ _ _ (cover0_B_9 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k) (up2 v))]
  unfold kernelRun0_B
  dsimp only
  sl_unfold_words
  rw [View.canon_unit_zero hz2]
  simp only [View.readAt_eq_ld, h1.read_unread, h2.read_unread, h4.read_unread, h5.read_unread, h6.read_unread, h8.read_unread,
    View.ld_unit_zero (S := S512x512) hz2, View.ld_unit_zero (S := S512x1024) hz2, View.ld_unit_zero (S := S1x512) hz2]
  simp only [hi_up G W x1 hW, pay12_up, pay13_up, pay14_up, pay15_up, pay16_up, pay23_up, pay24_up, pay1_up, dy]

include hW in
theorem out_B_10 (hc0 hc1) : out0_B_10 (F := Ideal) c i arg1 h1 arg2 h2 arg3 h3 arg4 h4 arg5 h5 arg6 h6 arg7 h7 arg8 h8 arg9 h9 arg10 h10 arg11 h11
      hc0 hc1 (up2 G) x1 (up2 a) (up2 y) (up2 fun _ k => lg k) (up2 fun _ k => lb k) (up2 fun _ k => ag k) (up2 fun _ k => cg k) (up2 v)
    = up2 (fun r k => v r k + sums G W a y lg lb cg r k) := by
  unfold out0_B_10
  rw [View.read_writes_eq_canon _ _ _ (cover0_B_10 c i arg1 h1 arg2 h2 arg3 h3 arg4 h4 arg5 h5 arg6 h6 arg7 h7 arg8 h8 arg9 h9 arg10 h10 arg11 h11
    hc0 hc1 (up2 G) x1 (up2 a) (up2 y) (up2 fun _ k => lg k) (up2 fun _ k => lb k) (up2 fun _ k => ag k) (up2 fun _ k => cg k) (up2 v))]
  unfold kernelRun0_B
  dsimp only
  sl_unfold_words
  rw [View.canon_unit_zero hz2]
  simp only [View.readAt_eq_ld, h1.read_unread, h2.read_unread, h3.read_unread, h4.read_unread, h5.read_unread, h6.read_unread, h8.read_unread,
    h11.read_unread, View.ld_unit_zero (S := S512x512) hz2, View.ld_unit_zero (S := S512x1024) hz2, View.ld_unit_zero (S := S1x512) hz2,
    View.ld_unit_zero (S := S8x512) hz2]
  simp only [hi_up G W x1 hW, lo_sum_up G W x1 hW, pay12_up, pay13_up, pay14_up, pay15_up, pay16_up, pay19_up, pay21_up, pay22_up, pay23_up, pay24_up,
    pay3_up, sums, dy]

end Tile

end Cert.Mix

end
-- ==== Proof.Args.lean ====
/- The gate-and-norm gradient where every argument holds real numbers: the arrays that the host code prepares, and the
   blocks of them that the tiles read. -/
module

public import proofs.«01_k».proof.Proof.Blocks

@[expose] public section

set_option maxRecDepth 16384

noncomputable section

namespace Cert.Mix

open Idealize.ShloMosaic Idealize.ShloMosaic.ValueIdx Idealize.ShloMosaic.TcCoe Idealize.SL.Sem
open Cert.Rows Cert.KernelIdeal Cert.KernelIdeal.Gen
open Idealize.ShloMosaic.Pipeline (Dat)

/-- Row `p` of block `t`. -/
def rowAt (t : ℕ) (p : Fin 512) : Fin 8192 := ⟨(t * 512 + p.val) % 8192, Nat.mod_lt _ (by norm_num)⟩

theorem rowAt_val (t : ℕ) (h : t < 16) (p : Fin 512) : (rowAt t p).val = t * 512 + p.val :=
  Nat.mod_eq_of_lt (by have := p.isLt; omega)

/-- A sum over all the rows is the sum over the blocks of the sums over their rows. -/
theorem sum_blocks (f : Fin 8192 → ℝ) : ∑ t ∈ Finset.range 16, ∑ p, f (rowAt t p) = ∑ q, f q := by
  rw [Finset.sum_range (fun t => ∑ p, f (rowAt t p)), ← Fintype.sum_prod_type']
  refine Fintype.sum_equiv (finProdFinEquiv : Fin 16 × Fin 512 ≃ Fin 8192) _ _ fun x => ?_
  refine congrArg f (Fin.ext ?_)
  rw [rowAt_val _ x.1.isLt]
  show x.1.val * 512 + x.2.val = x.2.val + 512 * x.1.val
  omega

variable (g : Fin 8192 → Fin 1024 → ℝ) (W : Fin 1024 → Fin 1024 → ℝ) (a cv : Fin 8192 → Fin 512 → ℝ)
  (b lg lb ag cg : Fin 512 → ℝ)

/-- The convolution's rows with their bias. -/
def biased (p : Fin 8192) (k : Fin 512) : ℝ := cv p k + b k

/-- The five sums of block `t`. -/
def blockSums (t : ℕ) : Fin 8 → Fin 512 → ℝ :=
  sums (fun p => g (rowAt t p)) W (fun p => a (rowAt t p)) (fun p => biased cv b (rowAt t p)) lg lb cg

theorem sum_blockSums (r : Fin 8) (k : Fin 512) :
    ∑ t ∈ Finset.range 16, blockSums g W a cv b lg lb cg t r k = sums g W a (biased cv b) lg lb cg r k := by
  unfold blockSums sums
  match r with
  | ⟨0, _⟩ => exact sum_blocks fun q => prod g (lo W) q k * hat (a q) k
  | ⟨1, _⟩ => exact sum_blocks fun q => prod g (hi W) q k * hat (gate lg lb (biased cv b q)) k
  | ⟨2, _⟩ => exact sum_blocks fun q => dyn lg lb cg (biased cv b q) (prod g (hi W) q) k * hat (cen (biased cv b q)) k
  | ⟨3, _⟩ => exact sum_blocks fun q => dyn lg lb cg (biased cv b q) (prod g (hi W) q) k
  | ⟨4, _⟩ => exact sum_blocks fun q => dy lg lb cg (biased cv b q) (prod g (hi W) q) k
  | ⟨5, _⟩ => exact Finset.sum_const_zero
  | ⟨6, _⟩ => exact Finset.sum_const_zero
  | ⟨7, _⟩ => exact Finset.sum_const_zero

variable (m : (ℓ : Loc nD τ sig) → Buf (Elt Ideal) ℓ) (c : Dev nD)

/-- At the start the arguments hold these real arrays. -/
structure Holds : Prop where
  arg0 : m ((c : Thread nD τ).loc main_arg0) = up2 g
  arg1 : m ((c : Thread nD τ).loc main_arg1) = up2 W
  arg2 : m ((c : Thread nD τ).loc main_arg2) = up2 a
  arg3 : m ((c : Thread nD τ).loc main_arg3) = up2 cv
  arg4 : m ((c : Thread nD τ).loc main_arg4) = up1 b
  arg5 : m ((c : Thread nD τ).loc main_arg5) = up1 lg
  arg6 : m ((c : Thread nD τ).loc main_arg6) = up1 lb
  arg7 : m ((c : Thread nD τ).loc main_arg7) = up1 ag
  arg8 : m ((c : Thread nD τ).loc main_arg8) = up1 cg

variable (H : Holds g W a cv b lg lb ag cg m c)

/-! ## What the tiles read -/

theorem lift1 (f : Fin 512 → ℝ) (h : (⟨1, ![512]⟩ : Shape).BroadcastsInDim S1x512 ![1]) :
    broadcastInDim S1x512 ![1] h (up1 f) = up2 fun _ k => f k := by
  funext i
  obtain ⟨u, k, rfl⟩ : ∃ u k, i = ix2 u k := ⟨i 0, i 1, eq_ix2 i⟩
  rfl

theorem lift2 (f : Fin 1 → Fin 512 → ℝ) (h : S1x512.BroadcastsInDim S8192x512 ![0, 1]) :
    broadcastInDim S8192x512 ![0, 1] h (up2 f) = up2 fun _ k => f 0 k := by
  funext i
  obtain ⟨u, k, rfl⟩ : ∃ u k, i = ix2 u k := ⟨i 0, i 1, eq_ix2 i⟩
  rfl

include H in
theorem v2_eq : V m c main_v2 = up2 g := by
  unfold_abbrev_sides
  after_results
  rw [H.arg0]; rfl

include H in
theorem v1_eq : V m c main_v1 = shapeCast S4x1x256x1024 (up2 W) shapeCasts_S1024x1024_S4x1x256x1024 := by
  unfold_abbrev_sides
  after_results
  rw [H.arg1]; rfl

include H in
theorem v5_eq : V m c main_v5 = up2 (biased cv b) := by
  unfold_abbrev_sides
  after_results
  rw [H.arg3, H.arg4, lift1, lift2, addf_up]; rfl

include H in
theorem v6_eq : V m c main_v6 = up2 fun _ k => lg k := by
  unfold_abbrev_sides
  after_results
  rw [H.arg5, lift1]

include H in
theorem v7_eq : V m c main_v7 = up2 fun _ k => lb k := by
  unfold_abbrev_sides
  after_results
  rw [H.arg6, lift1]

include H in
theorem v8_eq : V m c main_v8 = up2 fun _ k => ag k := by
  unfold_abbrev_sides
  after_results
  rw [H.arg7, lift1]

include H in
theorem v9_eq : V m c main_v9 = up2 fun _ k => cg k := by
  unfold_abbrev_sides
  after_results
  rw [H.arg8, lift1]

/-- The index maps: block `t` of the rows, and the one block of everything else. -/
theorem idx_rows (t : Fin cfg0.N) : win0_0.index t 0 = t.val ∧ win0_0.index t 1 = 0 :=
  (by decide +kernel : ∀ t : Fin grid0.N, win0_0.index t 0 = t.val ∧ win0_0.index t 1 = 0) t

theorem idx_a (t : Fin cfg0.N) : win0_2.index t 0 = t.val ∧ win0_2.index t 1 = 0 :=
  (by decide +kernel : ∀ t : Fin grid0.N, win0_2.index t 0 = t.val ∧ win0_2.index t 1 = 0) t

theorem idx_y (t : Fin cfg0.N) : win0_3.index t 0 = t.val ∧ win0_3.index t 1 = 0 :=
  (by decide +kernel : ∀ t : Fin grid0.N, win0_3.index t 0 = t.val ∧ win0_3.index t 1 = 0) t

include H in
theorem blk0 (t : Fin cfg0.N) : (iblk m c 0 t : Vec Ideal S512x1024 .bf16) = up2 fun p k => g (rowAt t.val p) k := by
  have hi := idx_rows t
  funext j
  unfold iblk
  rw [View.read_apply]
  show V m c main_v2 _ = _
  rw [v2_eq g W a cv b lg lb ag cg m c H]
  obtain ⟨p, k, rfl⟩ : ∃ p k, j = ix2 p k := ⟨j 0, j 1, eq_ix2 j⟩
  show ((g _ _ : ℝ) : EReal) = ((g _ _ : ℝ) : EReal)
  congr 3
  · apply Fin.ext
    rw [rowAt_val _ t.isLt]
    show win0_0.index t 0 * 512 + 1 * p.val = t.val * 512 + p.val
    rw [hi.1]; omega
  · apply Fin.ext
    show win0_0.index t 1 * 1024 + 1 * k.val = k.val
    rw [hi.2]; omega

include H in
theorem blk2 (t : Fin cfg0.N) : (iblk m c 2 t : Vec Ideal S512x512 .f32) = up2 fun p k => a (rowAt t.val p) k := by
  have hi := idx_a t
  funext j
  unfold iblk
  rw [View.read_apply]
  show V m c main_arg2 _ = _
  rw [V_main_arg2, H.arg2]
  obtain ⟨p, k, rfl⟩ : ∃ p k, j = ix2 p k := ⟨j 0, j 1, eq_ix2 j⟩
  show ((a _ _ : ℝ) : EReal) = ((a _ _ : ℝ) : EReal)
  congr 3
  · apply Fin.ext
    rw [rowAt_val _ t.isLt]
    show win0_2.index t 0 * 512 + 1 * p.val = t.val * 512 + p.val
    rw [hi.1]; omega
  · apply Fin.ext
    show win0_2.index t 1 * 512 + 1 * k.val = k.val
    rw [hi.2]; omega

include H in
theorem blk3 (t : Fin cfg0.N) : (iblk m c 3 t : Vec Ideal S512x512 .f32) = up2 fun p k => biased cv b (rowAt t.val p) k := by
  have hi := idx_y t
  funext j
  unfold iblk
  rw [View.read_apply]
  show V m c main_v5 _ = _
  rw [v5_eq g W a cv b lg lb ag cg m c H]
  obtain ⟨p, k, rfl⟩ : ∃ p k, j = ix2 p k := ⟨j 0, j 1, eq_ix2 j⟩
  show ((biased cv b _ _ : ℝ) : EReal) = ((biased cv b _ _ : ℝ) : EReal)
  congr 3
  · apply Fin.ext
    rw [rowAt_val _ t.isLt]
    show win0_3.index t 0 * 512 + 1 * p.val = t.val * 512 + p.val
    rw [hi.1]; omega
  · apply Fin.ext
    show win0_3.index t 1 * 512 + 1 * k.val = k.val
    rw [hi.2]; omega

include H in
theorem blk4 (t : Fin cfg0.N) : (iblk m c 4 t : Vec Ideal S1x512 .f32) = up2 fun _ k => lg k := by
  funext j
  unfold iblk
  rw [View.read_apply]
  show V m c main_v6 _ = _
  rw [v6_eq g W a cv b lg lb ag cg m c H]
  obtain ⟨p, k, rfl⟩ : ∃ p k, j = ix2 p k := ⟨j 0, j 1, eq_ix2 j⟩
  show ((lg _ : ℝ) : EReal) = ((lg _ : ℝ) : EReal)
  congr 2
  apply Fin.ext
  show 0 * 512 + 1 * k.val = k.val
  omega

include H in
theorem blk5 (t : Fin cfg0.N) : (iblk m c 5 t : Vec Ideal S1x512 .f32) = up2 fun _ k => lb k := by
  funext j
  unfold iblk
  rw [View.read_apply]
  show V m c main_v7 _ = _
  rw [v7_eq g W a cv b lg lb ag cg m c H]
  obtain ⟨p, k, rfl⟩ : ∃ p k, j = ix2 p k := ⟨j 0, j 1, eq_ix2 j⟩
  show ((lb _ : ℝ) : EReal) = ((lb _ : ℝ) : EReal)
  congr 2
  apply Fin.ext
  show 0 * 512 + 1 * k.val = k.val
  omega

include H in
theorem blk6 (t : Fin cfg0.N) : (iblk m c 6 t : Vec Ideal S1x512 .f32) = up2 fun _ k => ag k := by
  funext j
  unfold iblk
  rw [View.read_apply]
  show V m c main_v8 _ = _
  rw [v8_eq g W a cv b lg lb ag cg m c H]
  obtain ⟨p, k, rfl⟩ : ∃ p k, j = ix2 p k := ⟨j 0, j 1, eq_ix2 j⟩
  show ((ag _ : ℝ) : EReal) = ((ag _ : ℝ) : EReal)
  congr 2
  apply Fin.ext
  show 0 * 512 + 1 * k.val = k.val
  omega

include H in
theorem blk7 (t : Fin cfg0.N) : (iblk m c 7 t : Vec Ideal S1x512 .f32) = up2 fun _ k => cg k := by
  funext j
  unfold iblk
  rw [View.read_apply]
  show V m c main_v9 _ = _
  rw [v9_eq g W a cv b lg lb ag cg m c H]
  obtain ⟨p, k, rfl⟩ : ∃ p k, j = ix2 p k := ⟨j 0, j 1, eq_ix2 j⟩
  show ((cg _ : ℝ) : EReal) = ((cg _ : ℝ) : EReal)
  congr 2
  apply Fin.ext
  show 0 * 512 + 1 * k.val = k.val
  omega

include H in
theorem blk1 (t : Fin cfg0.N) (s : Fin 4) (r : Fin 256) (k : Fin 1024) :
    (iblk m c 1 t : Vec Ideal S4x1x256x1024 .bf16) (ix4 s (0 : Fin 1) r k) = ((W (slabRow s r) k : ℝ) : EReal) := by
  have e : (iblk m c 1 t : Vec Ideal S4x1x256x1024 .bf16) (ix4 s (0 : Fin 1) r k) = V m c main_v1 (ix4 s (0 : Fin 1) r k) := by
    unfold iblk
    rw [View.read_apply]
    show V m c main_v1 _ = _
    refine congrArg (V m c main_v1) (funext fun x => Fin.ext ?_)
    match x with
    | ⟨0, _⟩ => show 0 * 4 + 1 * s.val = s.val; omega
    | ⟨1, _⟩ => rfl
    | ⟨2, _⟩ => show 0 * 256 + 1 * r.val = r.val; omega
    | ⟨3, _⟩ => show 0 * 1024 + 1 * k.val = k.val; omega
  rw [e, v1_eq g W a cv b lg lb ag cg m c H, shapeCast_apply (up2 W) _ _ (ix2 (slabRow s r) k) (by
    rw [Shape.rowMajor_val_two, Shape.rowMajor_val_four]
    show (s.val * 256 + r.val) * 1024 + k.val = ((s.val * 1 + 0) * 256 + r.val) * 1024 + k.val
    omega), up2_apply]

end Cert.Mix

end
-- ==== Proof.Final.lean ====
/- The three result arrays of the gate-and-norm gradient where every argument holds real numbers. -/
module

public import proofs.«01_k».proof.Proof.Args

@[expose] public section

set_option maxRecDepth 16384

noncomputable section

namespace Cert.Mix

open Idealize.ShloMosaic Idealize.ShloMosaic.ValueIdx Idealize.ShloMosaic.TcCoe Idealize.SL.Sem
open Cert.Rows Cert.KernelIdeal Cert.KernelIdeal.Gen
open Idealize.ShloMosaic.Pipeline (Dat)

variable (g : Fin 8192 → Fin 1024 → ℝ) (W : Fin 1024 → Fin 1024 → ℝ) (a cv : Fin 8192 → Fin 512 → ℝ)
  (b lg lb ag cg : Fin 512 → ℝ)

/-- The gradient of the attention's part of the mix, row by row. -/
def resA (P : Fin 8192) : Fin 512 → ℝ := rmsB (a P) (fun k => prod g (lo W) P k * ag k)

/-- The gradient of the convolution's part of the mix, row by row. -/
def resY (P : Fin 8192) : Fin 512 → ℝ := dy lg lb cg (biased cv b P) (prod g (hi W) P)

variable (m : (ℓ : Loc nD τ sig) → Buf (Elt Ideal) ℓ) (c : Dev nD)
variable (H : Holds g W a cv b lg lb ag cg m c)

include H in
/-- What the three output tiles hold after point `n`: the blocks of the two row gradients, and the sums of the blocks so far. -/
theorem outs_eq : ∀ (n : ℕ) (h : n < cfg0.N), outsAt0 m c n h
    = (up2 fun p k => resA g W a ag (rowAt n p) k, up2 fun p k => resY g W cv b lg lb cg (rowAt n p) k,
        up2 fun r k => ∑ t ∈ Finset.range (n + 1), blockSums g W a cv b lg lb cg t r k)
  | 0, h => by
    have e := outsAt0_A m c ⟨0, h⟩ rfl (by show ¬1 ≤ 0; omega)
    rw [blk0 g W a cv b lg lb ag cg m c H, blk2 g W a cv b lg lb ag cg m c H, blk3 g W a cv b lg lb ag cg m c H,
      blk4 g W a cv b lg lb ag cg m c H, blk5 g W a cv b lg lb ag cg m c H, blk6 g W a cv b lg lb ag cg m c H,
      blk7 g W a cv b lg lb ag cg m c H, out_A_8 (hW := blk1 g W a cv b lg lb ag cg m c H _),
      out_A_9 (hW := blk1 g W a cv b lg lb ag cg m c H _), out_A_10 (hW := blk1 g W a cv b lg lb ag cg m c H _)] at e
    refine e.trans ?_
    simp only [Nat.zero_add, Finset.sum_range_one]
    rfl
  | n + 1, h => by
    have hN : cfg0.N = 16 := N_0
    have e := outsAt0_B m c ⟨n + 1, h⟩ (by show ¬(n + 1) % 16 = 0; omega) (by show 1 ≤ n + 1; omega)
    have ih : outsAt0 m c (n + 1 - 1) (Nat.lt_of_le_of_lt (Nat.sub_le _ _) h) = _ := outs_eq n (Nat.lt_of_succ_lt h)
    dsimp only at e
    rw [ih, blk0 g W a cv b lg lb ag cg m c H, blk2 g W a cv b lg lb ag cg m c H, blk3 g W a cv b lg lb ag cg m c H,
      blk4 g W a cv b lg lb ag cg m c H, blk5 g W a cv b lg lb ag cg m c H, blk6 g W a cv b lg lb ag cg m c H,
      blk7 g W a cv b lg lb ag cg m c H, out_B_8 (hW := blk1 g W a cv b lg lb ag cg m c H _),
      out_B_9 (hW := blk1 g W a cv b lg lb ag cg m c H _), out_B_10 (hW := blk1 g W a cv b lg lb ag cg m c H _)] at e
    refine e.trans ?_
    simp only [Finset.sum_range_succ _ (n + 1)]
    rfl

theorem idx_oa (t : Fin cfg0.N) : win0_8.index t 0 = t.val ∧ win0_8.index t 1 = 0 :=
  (by decide +kernel : ∀ t : Fin grid0.N, win0_8.index t 0 = t.val ∧ win0_8.index t 1 = 0) t

theorem idx_oy (t : Fin cfg0.N) : win0_9.index t 0 = t.val ∧ win0_9.index t 1 = 0 :=
  (by decide +kernel : ∀ t : Fin grid0.N, win0_9.index t 0 = t.val ∧ win0_9.index t 1 = 0) t

include H in
theorem final8 : (dats m 0 c).arrAt 8 cfg0.N = up2 (resA g W a ag) :=
  (dats m 0 c).arrAt_eq_of_cover 8 (up2 (resA g W a ag)) (fun t _ => by
    have hi := idx_oa t
    rw [Value.flushed8, outs_eq g W a cv b lg lb ag cg m c H]
    funext j
    rw [View.read_apply]
    obtain ⟨p, k, rfl⟩ : ∃ p k, j = ix2 p k := ⟨j 0, j 1, eq_ix2 j⟩
    show ((resA g W a ag (rowAt t.val p) k : ℝ) : EReal) = ((resA g W a ag _ _ : ℝ) : EReal)
    congr 2
    · apply Fin.ext
      rw [rowAt_val _ t.isLt]
      show t.val * 512 + p.val = win0_8.index t 0 * 512 + 1 * p.val
      rw [hi.1]; omega
    · apply Fin.ext
      show k.val = win0_8.index t 1 * 512 + 1 * k.val
      rw [hi.2]; omega) fun i => by
    have hN : cfg0.N = 16 := N_0
    have h0 : (i 0 : Nat) < 8192 := (i 0).isLt
    have h1 : (i 1 : Nat) < 512 := (i 1).isLt
    have ht : (i 0 : Nat) / 512 < cfg0.N := by omega
    have hi := idx_oa ⟨(i 0 : Nat) / 512, ht⟩
    refine ⟨⟨(i 0 : Nat) / 512, ht⟩, flush0_8 _, ?_⟩
    show i ∈ ((View.whole main_v10_0).slice (win0_8.rect ⟨(i 0 : Nat) / 512, ht⟩)).set
    rw [View.set_slice_whole, Rect.mem_set_unit]
    intro x
    match x with
    | ⟨0, _⟩ =>
      show win0_8.index _ 0 * 512 ≤ (i 0 : Nat) ∧ (i 0 : Nat) < win0_8.index _ 0 * 512 + 512
      rw [hi.1]; dsimp only; omega
    | ⟨1, _⟩ =>
      show win0_8.index _ 1 * 512 ≤ (i 1 : Nat) ∧ (i 1 : Nat) < win0_8.index _ 1 * 512 + 512
      rw [hi.2]; omega

include H in
theorem final9 : (dats m 0 c).arrAt 9 cfg0.N = up2 (resY g W cv b lg lb cg) :=
  (dats m 0 c).arrAt_eq_of_cover 9 (up2 (resY g W cv b lg lb cg)) (fun t _ => by
    have hi := idx_oy t
    rw [Value.flushed9, outs_eq g W a cv b lg lb ag cg m c H]
    funext j
    rw [View.read_apply]
    obtain ⟨p, k, rfl⟩ : ∃ p k, j = ix2 p k := ⟨j 0, j 1, eq_ix2 j⟩
    show ((resY g W cv b lg lb cg (rowAt t.val p) k : ℝ) : EReal) = ((resY g W cv b lg lb cg _ _ : ℝ) : EReal)
    congr 2
    · apply Fin.ext
      rw [rowAt_val _ t.isLt]
      show t.val * 512 + p.val = win0_9.index t 0 * 512 + 1 * p.val
      rw [hi.1]; omega
    · apply Fin.ext
      show k.val = win0_9.index t 1 * 512 + 1 * k.val
      rw [hi.2]; omega) fun i => by
    have hN : cfg0.N = 16 := N_0
    have h0 : (i 0 : Nat) < 8192 := (i 0).isLt
    have h1 : (i 1 : Nat) < 512 := (i 1).isLt
    have ht : (i 0 : Nat) / 512 < cfg0.N := by omega
    have hi := idx_oy ⟨(i 0 : Nat) / 512, ht⟩
    refine ⟨⟨(i 0 : Nat) / 512, ht⟩, flush0_9 _, ?_⟩
    show i ∈ ((View.whole main_v10_1).slice (win0_9.rect ⟨(i 0 : Nat) / 512, ht⟩)).set
    rw [View.set_slice_whole, Rect.mem_set_unit]
    intro x
    match x with
    | ⟨0, _⟩ =>
      show win0_9.index _ 0 * 512 ≤ (i 0 : Nat) ∧ (i 0 : Nat) < win0_9.index _ 0 * 512 + 512
      rw [hi.1]; dsimp only; omega
    | ⟨1, _⟩ =>
      show win0_9.index _ 1 * 512 ≤ (i 1 : Nat) ∧ (i 1 : Nat) < win0_9.index _ 1 * 512 + 512
      rw [hi.2]; omega

include H in
theorem final10 : (dats m 0 c).arrAt 10 cfg0.N = up2 (sums g W a (biased cv b) lg lb cg) :=
  (dats m 0 c).arrAt_eq_of_cover 10 (up2 (sums g W a (biased cv b) lg lb cg)) (fun t hf => by
    have hN : cfg0.N = 16 := N_0
    have h15 : t.val = 15 := by have := (flush0_10 t).mp hf; have := t.isLt; omega
    rw [Value.flushed10, outs_eq g W a cv b lg lb ag cg m c H]
    funext j
    rw [View.read_apply]
    obtain ⟨r, k, rfl⟩ : ∃ r k, j = ix2 r k := ⟨j 0, j 1, eq_ix2 j⟩
    show ((∑ s ∈ Finset.range (t.val + 1), blockSums g W a cv b lg lb cg s r k : ℝ) : EReal)
      = ((sums g W a (biased cv b) lg lb cg _ _ : ℝ) : EReal)
    rw [h15, sum_blockSums]
    congr 2
    · apply Fin.ext
      show r.val = 0 * 8 + 1 * r.val
      omega
    · apply Fin.ext
      show k.val = 0 * 512 + 1 * k.val
      omega) fun i => by
    have hN : cfg0.N = 16 := N_0
    have h0 : (i 0 : Nat) < 8 := (i 0).isLt
    have h1 : (i 1 : Nat) < 512 := (i 1).isLt
    have ht : 15 < cfg0.N := by omega
    refine ⟨⟨15, ht⟩, (flush0_10 _).mpr rfl, ?_⟩
    show i ∈ ((View.whole main_v10_2).slice (win0_10.rect ⟨15, ht⟩)).set
    rw [View.set_slice_whole, Rect.mem_set_unit]
    intro x
    match x with
    | ⟨0, _⟩ => show 0 * 8 ≤ (i 0 : Nat) ∧ (i 0 : Nat) < 0 * 8 + 8; omega
    | ⟨1, _⟩ => show 0 * 512 ≤ (i 1 : Nat) ∧ (i 1 : Nat) < 0 * 512 + 512; omega

end Cert.Mix

end
-- ==== Proof.Ref.lean ====
/- The plain program's values where every argument holds real numbers. -/
module

public import proofs.«01_k».proof.Proof.HostRows
public import proofs.«01_k».proof.Proof.Final
public import proofs.«01_k».proof.Proof.Gen.ReferenceIdeal.Read

@[expose] public section

set_option maxRecDepth 16384

noncomputable section

namespace Cert.Mix.Ref

open Idealize.ShloMosaic Idealize.ShloMosaic.ValueIdx Idealize.ShloMosaic.TcCoe Idealize.SL.Sem
open Cert.Rows Cert.Mix Cert.ReferenceIdeal Cert.ReferenceIdeal.Gen Cert.ReferenceIdeal.Read

section Ops

variable {m n : ℕ}

theorem h_rsqrt_ms {N : ℕ} (x : Fin m → Fin N → ℝ) :
    Host.rsqrt (F := Ideal) (s := ⟨2, ![m, 1]⟩) (φ := .f32) (up2 fun p _ => ms (x p)) = up2 fun p _ => rt (x p) :=
  h_rsqrt_up _ fun p _ => ms_pos (x p)

theorem h_divf_ms {N : ℕ} (f : Fin m → Fin 1 → ℝ) (x : Fin m → Fin N → ℝ) :
    Host.divf (F := Ideal) (s := ⟨2, ![m, 1]⟩) (φ := .f32) (up2 f) (up2 fun p _ => ms (x p)) = up2 fun p k => f p k / ms (x p) :=
  h_divf_up f _ fun p _ => (ms_pos (x p)).ne'

theorem h_divf_logistic (f : Fin m → Fin n → ℝ) :
    Host.divf (F := Ideal) (s := ⟨2, ![m, n]⟩) (φ := .f32) (up2 fun _ _ => 1) (up2 fun p k => 1 + Real.exp (-f p k)) = up2 fun p k => sig (f p k) := by
  rw [h_divf_up _ _ fun p k => (add_pos one_pos (Real.exp_pos _)).ne']
  refine congrArg up2 (funext fun p => funext fun k => ?_)
  exact one_div _

end Ops

variable (g : Fin 8192 → Fin 1024 → ℝ) (W : Fin 1024 → Fin 1024 → ℝ) (a cv : Fin 8192 → Fin 512 → ℝ)
  (b lg lb ag cg : Fin 512 → ℝ)

theorem v2_up : val_main_v2 (F := Ideal) (up2 cv) (up1 b) = up2 (biased cv b) := by
  simp only [val_main_v2, val_main_v1, val_main_v0,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v6_up : val_main_v6 (F := Ideal) (up2 cv) (up1 b) = up2 (fun p _ => (∑ k, biased cv b p k) / 512) := by
  simp only [val_main_v6, val_main_v4, val_main_v3, val_main_cst, val_main_v5, val_main_cst_0, v2_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v8_up : val_main_v8 (F := Ideal) (up2 cv) (up1 b) = up2 (fun p k => cen (biased cv b p) k) := by
  simp only [val_main_v8, val_main_v7, v2_up, v6_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [cen, Nat.cast_ofNat]

theorem v17_up : val_main_v17 (F := Ideal) (up2 cv) (up1 b) = up2 (fun p k => cen (biased cv b p) k) := by
  simp only [val_main_v17, val_main_v16, v2_up, v6_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [cen, Nat.cast_ofNat]

theorem v11_up : val_main_v11 (F := Ideal) (up2 cv) (up1 b) = up2 (fun p k => 2 * cen (biased cv b p) k) := by
  simp only [val_main_v11, val_main_v10, val_main_cst_1, v8_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v19_up : val_main_v19 (F := Ideal) (up2 cv) (up1 b) = up2 (fun p _ => ms (cen (biased cv b p))) := by
  simp only [val_main_v19, val_main_v15, val_main_v13, val_main_v12, val_main_v9, val_main_cst_2, val_main_v14, val_main_cst_3, val_main_v18, val_main_cst_4, v8_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [ms, Nat.cast_ofNat]

theorem v20_up : val_main_v20 (F := Ideal) (up2 cv) (up1 b) = up2 (fun p _ => rt (cen (biased cv b p))) := by
  simp only [val_main_v20, v19_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v23_up : val_main_v23 (F := Ideal) (up2 cv) (up1 b) = up2 (fun p _ => -(1 / 2) * (rt (cen (biased cv b p)) / ms (cen (biased cv b p)))) := by
  simp only [val_main_v23, val_main_v22, val_main_cst_5, val_main_v21, v20_up, v19_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v25_up : val_main_v25 (F := Ideal) (up2 cv) (up1 b) = up2 (fun p k => hat (cen (biased cv b p)) k) := by
  simp only [val_main_v25, val_main_v24, v17_up, v20_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | simp only [hat]

theorem v31_up : val_main_v31 (F := Ideal) (up2 cv) (up1 b) (up1 lg) (up1 lb) = up2 (fun p k => yn lg lb (biased cv b p) k) := by
  simp only [val_main_v31, val_main_v28, val_main_v27, val_main_v26, val_main_v30, val_main_v29, v25_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | simp only [yn]

theorem v32_2_up : val_main_v32_2 (F := Ideal) (up2 cv) (up1 b) (up1 lg) (up1 lb) = up2 (fun p k => sig (yn lg lb (biased cv b p) k)) := by
  simp only [val_main_v32_2, val_main_call0_v4, val_main_call0_cst_0, val_main_call0_v3, val_main_call0_v2, val_main_call0_cst, val_main_call0_v1, val_main_call0_v0, v31_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v32_1_up : val_main_v32_1 (F := Ideal) (up2 cv) (up1 b) (up1 lg) (up1 lb) = up2 (fun p k => sig (yn lg lb (biased cv b p) k) * (1 - sig (yn lg lb (biased cv b p) k))) := by
  simp only [val_main_v32_1, val_main_call0_v7, val_main_call0_v6, val_main_call0_cst_1, v32_2_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v32_0_up : val_main_v32_0 (F := Ideal) (up2 cv) (up1 b) (up1 lg) (up1 lb) = up2 (fun p k => gate lg lb (biased cv b p) k) := by
  simp only [val_main_v32_0, v31_up, v32_2_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | simp only [gate]

theorem v39_up : val_main_v39 (F := Ideal) (up2 a) = up2 (fun p _ => ms (a p)) := by
  simp only [val_main_v39, val_main_v37, val_main_v35, val_main_v34, val_main_v33, val_main_cst_6, val_main_v36, val_main_cst_7, val_main_v38, val_main_cst_8,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [ms, Nat.cast_ofNat]

theorem v40_up : val_main_v40 (F := Ideal) (up2 a) = up2 (fun p _ => rt (a p)) := by
  simp only [val_main_v40, v39_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v43_up : val_main_v43 (F := Ideal) (up2 a) = up2 (fun p _ => -(1 / 2) * (rt (a p) / ms (a p))) := by
  simp only [val_main_v43, val_main_v42, val_main_cst_9, val_main_v41, v40_up, v39_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v45_up : val_main_v45 (F := Ideal) (up2 a) = up2 (fun p k => hat (a p) k) := by
  simp only [val_main_v45, val_main_v44, v40_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | simp only [hat]

theorem v55_up : val_main_v55 (F := Ideal) (up2 cv) (up1 b) (up1 lg) (up1 lb) = up2 (fun p _ => ms (gate lg lb (biased cv b p))) := by
  simp only [val_main_v55, val_main_v53, val_main_v51, val_main_v50, val_main_v49, val_main_cst_10, val_main_v52, val_main_cst_11, val_main_v54, val_main_cst_12, v32_0_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [ms, Nat.cast_ofNat]

theorem v56_up : val_main_v56 (F := Ideal) (up2 cv) (up1 b) (up1 lg) (up1 lb) = up2 (fun p _ => rt (gate lg lb (biased cv b p))) := by
  simp only [val_main_v56, v55_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v59_up : val_main_v59 (F := Ideal) (up2 cv) (up1 b) (up1 lg) (up1 lb) = up2 (fun p _ => -(1 / 2) * (rt (gate lg lb (biased cv b p)) / ms (gate lg lb (biased cv b p)))) := by
  simp only [val_main_v59, val_main_v58, val_main_cst_13, val_main_v57, v56_up, v55_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v61_up : val_main_v61 (F := Ideal) (up2 cv) (up1 b) (up1 lg) (up1 lb) = up2 (fun p k => hat (gate lg lb (biased cv b p)) k) := by
  simp only [val_main_v61, val_main_v60, v32_0_up, v56_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | simp only [hat]

theorem v68_up : val_main_v68 (F := Ideal) (up2 g) (up2 W) = up2 (prod g (lo W)) := by
  funext i
  obtain ⟨p, k, rfl⟩ : ∃ p k, i = ix2 p k := ⟨i 0, i 1, eq_ix2 i⟩
  rw [val_main_v68_apply, val_main_v67_apply, up2_apply, prod, coe_sum]
  refine Finset.sum_congr rfl fun q _ => ?_
  have e1 : lidx_main_v67 (idx_main_v68 (ix2 p k)) q = ix2 p q := by
    funext x; apply Fin.ext; fin_cases x <;> rfl
  have e2 : ridx_main_v67 (idx_main_v68 (ix2 p k)) q = ix2 (⟨k.val, by have := k.isLt; omega⟩ : Fin 1024) q := by
    funext x; apply Fin.ext; fin_cases x <;> rfl
  rw [e1, e2]
  exact (EReal.coe_mul _ _).symm

theorem v69_up : val_main_v69 (F := Ideal) (up2 g) (up2 W) = up2 (prod g (hi W)) := by
  funext i
  obtain ⟨p, k, rfl⟩ : ∃ p k, i = ix2 p k := ⟨i 0, i 1, eq_ix2 i⟩
  rw [val_main_v69_apply, val_main_v67_apply, up2_apply, prod, coe_sum]
  refine Finset.sum_congr rfl fun q _ => ?_
  have e1 : lidx_main_v67 (idx_main_v69 (ix2 p k)) q = ix2 p q := by
    funext x; apply Fin.ext; fin_cases x <;> rfl
  have e2 : ridx_main_v67 (idx_main_v69 (ix2 p k)) q = ix2 (⟨512 + k.val, by have := k.isLt; omega⟩ : Fin 1024) q := by
    funext x; apply Fin.ext; fin_cases x <;> rfl
  rw [e1, e2]
  exact (EReal.coe_mul _ _).symm

theorem v75_up : val_main_v75 (F := Ideal) (up2 g) (up2 W) (up2 cv) (up1 b) (up1 lg) (up1 lb) = up1 (fun k => ∑ p, prod g (hi W) p k * hat (gate lg lb (biased cv b p)) k) := by
  simp only [val_main_v75, val_main_v72, val_main_v71, val_main_v70, val_main_cst_14, val_main_cst_15, v61_up, v69_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | (refine congrArg up1 (funext fun k => Finset.sum_congr rfl fun p _ => ?_); exact mul_comm _ _)

theorem v89_up : val_main_v89 (F := Ideal) (up2 g) (up2 W) (up2 cv) (up1 b) (up1 lg) (up1 lb) (up1 cg) = up2 (fun p k => rmsB (gate lg lb (biased cv b p)) (fun q => prod g (hi W) p q * cg q) k) := by
  simp only [val_main_v89, val_main_v87, val_main_v80, val_main_v74, val_main_v73, val_main_v62, val_main_v79, val_main_v86, val_main_v85, val_main_v84, val_main_v83, val_main_v81, val_main_v78, val_main_v77, val_main_v76, val_main_cst_16, val_main_v82, val_main_cst_17, val_main_cst_18, val_main_v88, v69_up, v56_up, v32_0_up, v59_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  simp only [rmsB_chain, Nat.cast_ofNat]

theorem v95_up : val_main_v95 (F := Ideal) (up2 g) (up2 W) (up2 a) = up1 (fun k => ∑ p, prod g (lo W) p k * hat (a p) k) := by
  simp only [val_main_v95, val_main_v92, val_main_v91, val_main_v90, val_main_cst_19, val_main_cst_20, v45_up, v68_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | (refine congrArg up1 (funext fun k => Finset.sum_congr rfl fun p _ => ?_); exact mul_comm _ _)

theorem v109_up : val_main_v109 (F := Ideal) (up2 g) (up2 W) (up2 a) (up1 ag) = up2 (resA g W a ag) := by
  simp only [val_main_v109, val_main_v107, val_main_v100, val_main_v94, val_main_v93, val_main_v46, val_main_v99, val_main_v106, val_main_v105, val_main_v104, val_main_v103, val_main_v101, val_main_v98, val_main_v97, val_main_v96, val_main_cst_21, val_main_v102, val_main_cst_22, val_main_cst_23, val_main_v108, v68_up, v40_up, v43_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  rw [show resA g W a ag = fun P j => rmsB (a P) (fun k => prod g (lo W) P k * ag k) j from rfl]
  simp only [rmsB_chain, Nat.cast_ofNat]

theorem v110_up : val_main_v110 (F := Ideal) (up2 g) (up2 W) (up2 cv) (up1 b) (up1 lg) (up1 lb) (up1 cg) = up2 (fun p k => dyn lg lb cg (biased cv b p) (prod g (hi W) p) k) := by
  simp only [val_main_v110, val_main_call1_v1, val_main_call1_v2, val_main_call1_v0, v89_up, v32_2_up, v31_up, v32_1_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  refine congrArg up2 (funext fun p => funext fun k => ?_)
  simp only [dyn]; ring

theorem v113_up : val_main_v113 (F := Ideal) (up2 g) (up2 W) (up2 cv) (up1 b) (up1 lg) (up1 lb) (up1 cg) = up1 (fun k => ∑ p, dyn lg lb cg (biased cv b p) (prod g (hi W) p) k) := by
  simp only [val_main_v113, val_main_v112, val_main_v111, val_main_cst_24, val_main_cst_25, v110_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem v119_up : val_main_v119 (F := Ideal) (up2 g) (up2 W) (up2 cv) (up1 b) (up1 lg) (up1 lb) (up1 cg) = up1 (fun k => ∑ p, dyn lg lb cg (biased cv b p) (prod g (hi W) p) k * hat (cen (biased cv b p)) k) := by
  simp only [val_main_v119, val_main_v116, val_main_v115, val_main_v114, val_main_cst_26, val_main_cst_27, v25_up, v110_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | (refine congrArg up1 (funext fun k => Finset.sum_congr rfl fun p _ => ?_); exact mul_comm _ _)

theorem v143_up : val_main_v143 (F := Ideal) (up2 g) (up2 W) (up2 cv) (up1 b) (up1 lg) (up1 lb) (up1 cg) = up2 (resY g W cv b lg lb cg) := by
  simp only [val_main_v143, val_main_v137, val_main_v124, val_main_v118, val_main_v117, val_main_v26, val_main_v123, val_main_v133, val_main_v132, val_main_v131, val_main_v130, val_main_v125, val_main_v122, val_main_v121, val_main_v120, val_main_cst_28, val_main_v129, val_main_cst_30, val_main_cst_31, val_main_v142, val_main_v141, val_main_v140, val_main_v138, val_main_v128, val_main_v127, val_main_v126, val_main_cst_29, val_main_v136, val_main_v135, val_main_v134, val_main_cst_32, val_main_v139, val_main_cst_33, val_main_cst_34, v110_up, v20_up, v17_up, v23_up, v11_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  unfold resY dy
  simp only [lnB_chain, Nat.cast_ofNat]

theorem v146_up : val_main_v146 (F := Ideal) (up2 g) (up2 W) (up2 cv) (up1 b) (up1 lg) (up1 lb) (up1 cg) = up1 (fun k => ∑ p, resY g W cv b lg lb cg p k) := by
  simp only [val_main_v146, val_main_v145, val_main_v144, val_main_cst_35, val_main_cst_36, v143_up,
    addf_up, subf_up, mulf_up, h_divf_512, h_divf_ms, h_divf_logistic, h_negf_up, h_exp_up, h_rsqrt_ms, h_rowsum, h_colsum, as_row, as_col, h_spread_row, h_spread_col,
    cast_row, cast_col, fill2 _ _ bits_512, fill2 _ _ bits_eps, fill2 _ _ bits_one, fill2 _ _ bits_two, fill2 _ _ bits_neg_half, Fin.sum_univ_one]
  first | rfl | skip

theorem rows8_up (f1 f2 f3 f4 f5 : Fin 512 → ℝ) (h : Shape.Concatenates [S1x512, S1x512, S1x512, S1x512, S1x512, S1x512, S1x512, S1x512] S8x512 0) :
    concatenate S8x512 0 [⟨S1x512, up2 fun _ k => f1 k⟩, ⟨S1x512, up2 fun _ k => f2 k⟩, ⟨S1x512, up2 fun _ k => f3 k⟩,
      ⟨S1x512, up2 fun _ k => f4 k⟩, ⟨S1x512, up2 fun _ k => f5 k⟩, ⟨S1x512, up2 fun _ _ => 0⟩, ⟨S1x512, up2 fun _ _ => 0⟩,
      ⟨S1x512, up2 fun _ _ => 0⟩] h = up2 (rows5 f1 f2 f3 f4 f5) := by
  funext i
  obtain ⟨r, k, rfl⟩ : ∃ r k, i = ix2 r k := ⟨i 0, i 1, eq_ix2 i⟩
  let xs : List ((s : Shape) × (s.Idx → EReal)) := [⟨S1x512, up2 fun _ k => f1 k⟩, ⟨S1x512, up2 fun _ k => f2 k⟩,
    ⟨S1x512, up2 fun _ k => f3 k⟩, ⟨S1x512, up2 fun _ k => f4 k⟩, ⟨S1x512, up2 fun _ k => f5 k⟩, ⟨S1x512, up2 fun _ _ => 0⟩,
    ⟨S1x512, up2 fun _ _ => 0⟩, ⟨S1x512, up2 fun _ _ => 0⟩]
  match r with
  | ⟨0, _⟩ => exact piece_row xs h 0 (Nat.le_of_ble_eq_true rfl) 1 (fun _ k => f1 k) rfl 0 rfl _ k 0 rfl
  | ⟨1, _⟩ => exact piece_row xs h 1 (Nat.le_of_ble_eq_true rfl) 1 (fun _ k => f2 k) rfl 1 rfl _ k 0 rfl
  | ⟨2, _⟩ => exact piece_row xs h 2 (Nat.le_of_ble_eq_true rfl) 1 (fun _ k => f3 k) rfl 2 rfl _ k 0 rfl
  | ⟨3, _⟩ => exact piece_row xs h 3 (Nat.le_of_ble_eq_true rfl) 1 (fun _ k => f4 k) rfl 3 rfl _ k 0 rfl
  | ⟨4, _⟩ => exact piece_row xs h 4 (Nat.le_of_ble_eq_true rfl) 1 (fun _ k => f5 k) rfl 4 rfl _ k 0 rfl
  | ⟨5, _⟩ => exact piece_row xs h 5 (Nat.le_of_ble_eq_true rfl) 1 (fun _ _ => 0) rfl 5 rfl _ k 0 rfl
  | ⟨6, _⟩ => exact piece_row xs h 6 (Nat.le_of_ble_eq_true rfl) 1 (fun _ _ => 0) rfl 6 rfl _ k 0 rfl
  | ⟨7, _⟩ => exact piece_row xs h 7 (Nat.le_of_ble_eq_true rfl) 1 (fun _ _ => 0) rfl 7 rfl _ k 0 rfl

theorem rows8_of (f1 f2 f3 f4 f5 : Fin 512 → ℝ) (h : Shape.Concatenates [S1x512, S1x512, S1x512, S1x512, S1x512, S1x512, S1x512, S1x512] S8x512 0)
    (z1 z2 z3 z4 z5 z6 z7 z8 : S1x512.Idx → EReal) (h1 : z1 = up2 fun _ k => f1 k) (h2 : z2 = up2 fun _ k => f2 k)
    (h3 : z3 = up2 fun _ k => f3 k) (h4 : z4 = up2 fun _ k => f4 k) (h5 : z5 = up2 fun _ k => f5 k) (h6 : z6 = up2 fun _ _ => 0)
    (h7 : z7 = up2 fun _ _ => 0) (h8 : z8 = up2 fun _ _ => 0) :
    concatenate S8x512 0 [⟨S1x512, z1⟩, ⟨S1x512, z2⟩, ⟨S1x512, z3⟩, ⟨S1x512, z4⟩, ⟨S1x512, z5⟩, ⟨S1x512, z6⟩, ⟨S1x512, z7⟩,
      ⟨S1x512, z8⟩] h = up2 (rows5 f1 f2 f3 f4 f5) := by
  subst h1 h2 h3 h4 h5 h6 h7 h8
  exact rows8_up f1 f2 f3 f4 f5 h

theorem v156_up : val_main_v156 (F := Ideal) (up2 g) (up2 W) (up2 a) (up2 cv) (up1 b) (up1 lg) (up1 lb) (up1 cg) = up2 (sums g W a (biased cv b) lg lb cg) := by
  unfold val_main_v156
  exact rows8_of _ _ _ _ _ _ _ _ _ _ _ _ _ _ (by unfold val_main_v148; rw [v95_up]; exact as_row _ _ rfl _)
    (by unfold val_main_v149; rw [v75_up]; exact as_row _ _ rfl _)
    (by unfold val_main_v150; rw [v119_up]; exact as_row _ _ rfl _)
    (by unfold val_main_v151; rw [v113_up]; exact as_row _ _ rfl _)
    (by unfold val_main_v152; rw [v146_up]; exact as_row _ _ rfl _)
    (by unfold val_main_v153 val_main_v147; rw [show val_main_cst_37 (F := Ideal) = constant (F := Ideal) S0 .f32 0x00000000#32 from rfl, fill1 _ _ bits_zero]; exact as_row _ _ rfl _)
    (by unfold val_main_v154 val_main_v147; rw [show val_main_cst_37 (F := Ideal) = constant (F := Ideal) S0 .f32 0x00000000#32 from rfl, fill1 _ _ bits_zero]; exact as_row _ _ rfl _)
    (by unfold val_main_v155 val_main_v147; rw [show val_main_cst_37 (F := Ideal) = constant (F := Ideal) S0 .f32 0x00000000#32 from rfl, fill1 _ _ bits_zero]; exact as_row _ _ rfl _)

end Cert.Mix.Ref

end
-- ==== Proof.MixClaim.lean ====
/- The gate-and-norm gradient's claims: from finite arguments both programs end with the same three arrays. -/
module

public import proofs.«01_k».proof.Proof.Finite
public import proofs.«01_k».proof.Proof.Ref
public import proofs.«01_k».proof.Proof.Gen.KernelIdeal.Value
public import proofs.«01_k».proof.Proof.Gen.ReferenceIdeal.Run

@[expose] public section

set_option maxRecDepth 16384

noncomputable section

namespace Cert.MixClaim

open Idealize.ShloMosaic Idealize.ShloMosaic.ValueIdx Idealize.ShloMosaic.TcCoe Idealize.SL.Sem Idealize.ShloMosaic.StableHlo
open Cert.Rows Cert.Mix Cert.Finite

/-- Under the precondition the arguments are images of real matrices and vectors. -/
theorem holds [Cert.Pre_finite.Facts] (m : (ℓ : Loc Cert.KernelIdeal.nD Cert.KernelIdeal.τ Cert.KernelIdeal.sig) → Buf (Elt Ideal) ℓ)
    (hp : Pre_KernelIdeal_finite m) (c : Dev Cert.KernelIdeal.nD) :
    ∃ (g : Fin 8192 → Fin 1024 → ℝ) (W : Fin 1024 → Fin 1024 → ℝ) (a cv : Fin 8192 → Fin 512 → ℝ) (b lg lb ag cg : Fin 512 → ℝ),
      Holds g W a cv b lg lb ag cg m c := by
  obtain ⟨h0, h1, h2, h3, h4, h5, h6, h7, h8⟩ := args_real _ _ _ _ _ _ _ _ _ (hp c)
  exact ⟨_, _, _, _, _, _, _, _, _, ⟨matrix _ h0, matrix _ h1, matrix _ h2, matrix _ h3, vector _ h4, vector _ h5, vector _ h6,
    vector _ h7, vector _ h8⟩⟩

/-- The reference ends with its arguments as they were; it has no semaphore. -/
theorem frame : quiescent_ReferenceIdeal (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run m g)

/-- The same under the precondition. -/
theorem frame_finite [Cert.Pre_finite.Facts] :
    quiescent_ReferenceIdeal_pre_finite (hReferenceIdeal := Cert.ReferenceIdeal.Gen.facts) := fun m g _ =>
  (θ_run Cert.ReferenceIdeal.defs _ _).mono (fun r h => ⟨fun c => (h c).2.2.2, sem_eq_zero_of_no_sems (by decide) r.2⟩)
    (Cert.ReferenceIdeal.Value.run m g)

theorem algebraic [Cert.Pre_finite.Facts] :
    algebraic_KernelIdeal_ReferenceIdeal_pre_finite (hKernelIdeal := Cert.KernelIdeal.Gen.facts) (hReferenceIdeal := Cert.ReferenceIdeal.Gen.facts) := by
  intro m g m' g' hp hargs
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, Cert.KernelIdeal.Value.run_blocks m g, ?_⟩
  refine (θ_run Cert.ReferenceIdeal.defs _ _).mono (fun r h c => ?_) (Cert.ReferenceIdeal.Value.run m' g')
  obtain ⟨G, W, a, cv, b, lg, lb, ag, cg, H⟩ := holds m hp c
  obtain ⟨e0, e1, e2, e3, e4, e5, e6, e7, e8⟩ := hargs c
  obtain ⟨r0, r1, r2, k⟩ := h c
  have a0 : launchContents m' c (Proc.devRef .tc Cert.ReferenceIdeal.main_arg0) = up2 G := e0.trans H.arg0
  have a1 : launchContents m' c (Proc.devRef .tc Cert.ReferenceIdeal.main_arg1) = up2 W := e1.trans H.arg1
  have a2 : launchContents m' c (Proc.devRef .tc Cert.ReferenceIdeal.main_arg2) = up2 a := e2.trans H.arg2
  have a3 : launchContents m' c (Proc.devRef .tc Cert.ReferenceIdeal.main_arg3) = up2 cv := e3.trans H.arg3
  have a4 : launchContents m' c (Proc.devRef .tc Cert.ReferenceIdeal.main_arg4) = up1 b := e4.trans H.arg4
  have a5 : launchContents m' c (Proc.devRef .tc Cert.ReferenceIdeal.main_arg5) = up1 lg := e5.trans H.arg5
  have a6 : launchContents m' c (Proc.devRef .tc Cert.ReferenceIdeal.main_arg6) = up1 lb := e6.trans H.arg6
  have a7 : launchContents m' c (Proc.devRef .tc Cert.ReferenceIdeal.main_arg7) = up1 ag := e7.trans H.arg7
  have a8 : launchContents m' c (Proc.devRef .tc Cert.ReferenceIdeal.main_arg8) = up1 cg := e8.trans H.arg8
  refine ⟨r0.trans ?_, r1.trans ?_, r2.trans ?_, k⟩
  · refine (Cert.ReferenceIdeal.Read.val_main_v109_eq (launchContents m' c)).trans ?_
    rw [a0, a1, a2, a7]
    exact (Ref.v109_up G W a ag).trans (final8 G W a cv b lg lb ag cg m c H).symm
  · refine (Cert.ReferenceIdeal.Read.val_main_v143_eq (launchContents m' c)).trans ?_
    rw [a0, a1, a3, a4, a5, a6, a8]
    exact (Ref.v143_up G W cv b lg lb cg).trans (final9 G W a cv b lg lb ag cg m c H).symm
  · refine (Cert.ReferenceIdeal.Read.val_main_v156_eq (launchContents m' c)).trans ?_
    rw [a0, a1, a2, a3, a4, a5, a6, a8]
    exact (Ref.v156_up G W a cv b lg lb cg).trans (final10 G W a cv b lg lb ag cg m c H).symm

end Cert.MixClaim

end
-- ==== Proof.Sums.lean ====
/- Products of two matrices and sums over blocks of rows, read at an index over the extended reals: what the calls that
   multiply matrices share. -/
module

public import proofs.«01_k».proof.Proof.Rows

@[expose] public section

set_option maxRecDepth 16384

noncomputable section

namespace Cert.Rows

open Idealize.ShloMosaic Idealize.ShloMosaic.ValueIdx

section Products

variable {m n K : ℕ} {φ₁ φ₂ : FTy}

/-- The dimension numbers of `x · y`: the left operand is summed over its last axis, the right one over its first. -/
def nnDims (m n K : ℕ) (wf : DotDims.WF ⟨2, ![m, K]⟩ ⟨2, ![K, n]⟩ ⟨2, ![m, n]⟩ [1] [0] [0] [1] [] []) :
    DotDims ⟨2, ![m, K]⟩ ⟨2, ![K, n]⟩ ⟨2, ![m, n]⟩ where
  lhsContracting := [1]
  rhsContracting := [0]
  lhsNonContracting := [0]
  rhsNonContracting := [1]
  lhsBatch := []
  rhsBatch := []
  wf := wf

/-- `x · y` into zero, read at (p, q). -/
theorem nn_apply (wf) (prec : Option ContractPrecision) (x : FVec Ideal ⟨2, ![m, K]⟩ φ₁) (y : FVec Ideal ⟨2, ![K, n]⟩ φ₂)
    (p : Fin m) (q : Fin n) :
    FloatOps.matmul (nnDims m n K wf) prec x y (constant ⟨2, ![m, n]⟩ .f32 0x00000000#32) (ix2 p q)
      = ∑ k : Fin K, x (ix2 p k) * y (ix2 k q) := by
  rw [Ideal.matmul_constant_zero_apply, ← Equiv.sum_comp (contrEquiv1 (nnDims m n K wf) K rfl rfl).symm]
  refine Finset.sum_congr rfl fun k _ => ?_
  have hk := contrEquiv1_symm_val (nnDims m n K wf) K rfl rfl k
  have el : (nnDims m n K wf).lhsIdx (ix2 p q) ((contrEquiv1 (nnDims m n K wf) K rfl rfl).symm k) = ix2 p k := by
    funext a
    refine Fin.ext ?_
    match a with
    | ⟨0, _⟩ =>
      show ((nnDims m n K wf).lhsIdx (ix2 p q) _ 0).val = p.val
      unfold DotDims.lhsIdx
      rw [dif_neg (show ¬(0 : Fin 2) ∈ (nnDims m n K wf).lhsBatch from List.not_mem_nil),
        dif_pos (show (0 : Fin 2) ∈ (nnDims m n K wf).lhsNonContracting from List.mem_singleton.mpr rfl)]
      rfl
    | ⟨1, _⟩ => exact ((nnDims m n K wf).lhsIdx_val_of_single rfl _ _).trans hk
  have er : (nnDims m n K wf).rhsIdx (ix2 p q) ((contrEquiv1 (nnDims m n K wf) K rfl rfl).symm k) = ix2 k q := by
    funext a
    refine Fin.ext ?_
    match a with
    | ⟨0, _⟩ => exact ((nnDims m n K wf).rhsIdx_val_of_single rfl _ _).trans hk
    | ⟨1, _⟩ =>
      show ((nnDims m n K wf).rhsIdx (ix2 p q) _ 1).val = q.val
      unfold DotDims.rhsIdx
      rw [dif_neg (show ¬(1 : Fin 2) ∈ (nnDims m n K wf).rhsBatch from List.not_mem_nil),
        dif_pos (show (1 : Fin 2) ∈ (nnDims m n K wf).rhsNonContracting from List.mem_singleton.mpr rfl)]
      rfl
  rw [el, er]

end Products

/-- A matrix stored with two leading axes of size one, read as a matrix. -/
theorem slab_apply {α : Type} {a b : ℕ} (x : (⟨4, ![1, 1, a, b]⟩ : Shape).Idx → α) (h) (p : Fin a) (q : Fin b) :
    shapeCast ⟨2, ![a, b]⟩ x h (ix2 p q) = x (ix4 (0 : Fin 1) (0 : Fin 1) p q) :=
  shapeCast_apply x h _ _ (by
    rewrite [Shape.rowMajor_val_four, Shape.rowMajor_val_two]
    show ((0 * 1 + 0) * a + p.val) * b + q.val = p.val * b + q.val
    simp only [Nat.zero_mul, Nat.add_zero, Nat.zero_add])

/-- A matrix read as one stored with two leading axes of size one. -/
theorem unslab_apply {α : Type} {a b : ℕ} (x : (⟨2, ![a, b]⟩ : Shape).Idx → α) (h) (u v : Fin 1) (p : Fin a) (q : Fin b) :
    shapeCast ⟨4, ![1, 1, a, b]⟩ x h (ix4 u v p q) = x (ix2 p q) :=
  shapeCast_apply x h _ _ (by
    rewrite [Shape.rowMajor_val_four, Shape.rowMajor_val_two]
    have hu : u.val = 0 := by omega
    have hv : v.val = 0 := by omega
    show p.val * b + q.val = ((u.val * 1 + v.val) * a + p.val) * b + q.val
    rw [hu, hv]; simp only [Nat.zero_mul, Nat.add_zero, Nat.zero_add])

/-- The same with one leading axis. -/
theorem slab3_apply {α : Type} {a b : ℕ} (x : (⟨3, ![1, a, b]⟩ : Shape).Idx → α) (h) (p : Fin a) (q : Fin b) :
    shapeCast ⟨2, ![a, b]⟩ x h (ix2 p q) = x (ix3 (0 : Fin 1) p q) :=
  shapeCast_apply x h _ _ (by
    rewrite [Shape.rowMajor_val_three, Shape.rowMajor_val_two]
    show (0 * a + p.val) * b + q.val = p.val * b + q.val
    simp only [Nat.zero_mul, Nat.add_zero, Nat.zero_add])

/-- A sum over `B * n` indices is the sum over `B` blocks of the sums over their `n` indices. -/
theorem sum_grid {α : Type*} [AddCommMonoid α] (B n N : ℕ) (hN : B * n = N) (f : Fin N → α) (at' : ℕ → Fin n → Fin N)
    (h : ∀ s < B, ∀ p, (at' s p).val = s * n + p.val) :
    ∑ s ∈ Finset.range B, ∑ p, f (at' s p) = ∑ q, f q := by
  subst hN
  rw [Finset.sum_range (fun t => ∑ p, f (at' t p)), ← Fintype.sum_prod_type']
  refine Fintype.sum_equiv (finProdFinEquiv : Fin B × Fin n ≃ Fin (B * n)) _ _ fun x => ?_
  refine congrArg f (Fin.ext ?_)
  rw [h _ x.1.isLt]
  show x.1.val * n + x.2.val = x.2.val + n * x.1.val
  rw [Nat.mul_comm, Nat.add_comm]

end Cert.Rows

end
-- ==== Proof.Dact.lean ====
/- The gradient of the MLP's activation: the product of the incoming gradient with the down weights, times twice the
   positive part of the up projection, index by index over the extended reals; no precondition. -/
module

public import proofs.«01_k».proof.Proof.Sums
public import proofs.«01_k».proof.Defs
public import proofs.«01_k».proof.Proof.Gen.Kernel2Ideal.Value
public import proofs.«01_k».proof.Proof.Gen.Reference2Ideal.Read
public import Idealize.ShloMosaic.Lib.Pipeline.ValueKit.Tiles

@[expose] public section

set_option maxRecDepth 16384

noncomputable section

namespace Cert.Dact

open Idealize.ShloMosaic Idealize.ShloMosaic.ValueIdx Idealize.ShloMosaic.TcCoe Idealize.SL.Sem
open Cert.Rows Cert.Kernel2Ideal Cert.Kernel2Ideal.Gen
open Idealize.ShloMosaic.Pipeline (Dat)

/-- A gradient `d` times the derivative of the squared positive part at `u`. -/
def times (d u : EReal) : EReal := d * (Ideal.ofBits .f32 0x40000000#32 * max u (Ideal.ofBits .f32 0x00000000#32))

theorem pay4_apply (g : FVec Ideal S512x1024 .bf16) (w : FVec Ideal S1x1x1024x1024 .bf16) (u : FVec Ideal S512x1024 .bf16)
    (p : Fin 512) (q : Fin 1024) :
    k0_pay4 (F := Ideal) g w u (ix2 p q) = times (∑ k, g (ix2 p k) * w (ix4 (0 : Fin 1) (0 : Fin 1) q k)) (u (ix2 p q)) := by
  have e : dot_S512x1024_S1024x1024_S512x1024_1_1_0_0_n_n = ntDims 512 1024 1024 dot_S512x1024_S1024x1024_S512x1024_1_1_0_0_n_n_wf := rfl
  unfold k0_pay4 k0_pay3
  simp only [matmul, shapeCast_self]
  rw [e]
  refine Eq.trans (b := times (∑ k, g (ix2 p k) * shapeCast S1024x1024 w shapeCasts_S1x1x1024x1024_S1024x1024 (ix2 q k)) (u (ix2 p q))) ?_ ?_
  · rw [← nt_apply (φ₁ := .bf16) (φ₂ := .bf16) dot_S512x1024_S1024x1024_S512x1024_1_1_0_0_n_n_wf none g _ p q]
    rfl
  · exact congrArg (fun d => times d (u (ix2 p q))) (Finset.sum_congr rfl fun k _ => congrArg (g (ix2 p k) * ·) (slab_apply w _ q k))

/-- The row `p` of a tile against the row `j` of the weights as the tile holds them. -/
def tile (x0 : FVec Ideal S512x1024 .bf16) (x1 : FVec Ideal S4x1x1024x1024 .bf16) (x2 : FVec Ideal S512x4096 .bf16)
    (p : Fin 512) (j : Fin 4096) : EReal :=
  times (∑ k, x0 (ix2 p k) * x1 (ix4 (⟨j.val / 1024, by omega⟩ : Fin 4) (0 : Fin 1) (⟨j.val % 1024, by omega⟩ : Fin 1024) k)) (x2 (ix2 p j))

theorem hz2 : (![0, 0] : Fin 2 → ℕ) = fun _ => 0 := by funext a; match a with | ⟨0, _⟩ => rfl | ⟨1, _⟩ => rfl

theorem part_at (x0 : FVec Ideal S512x1024 .bf16) (x1 : FVec Ideal S4x1x1024x1024 .bf16) (x2 : FVec Ideal S512x4096 .bf16)
    (p : Fin 512) (j : Fin 4096) (s : ℕ) (o : ℕ) (ho : o = 1024 * s)
    (inb1 : ∀ a, (![s, 0, 0, 0] : Fin 4 → ℕ) a + S1x1x1024x1024.size a ≤ S4x1x1024x1024.size a)
    (inb2 : ∀ a, (![0, o] : Fin 2 → ℕ) a + S512x1024.size a ≤ S512x4096.size a) :
    View.TileAt (Val := Elt Ideal) (S := S512x4096) (e := .bf16) (ix2 p j) ![0, o] S512x1024.size
      (k0_pay4 (F := Ideal) (View.ld x0 r0_0) (View.ld x1 (Rect.unit (s := S4x1x1024x1024) ![s, 0, 0, 0] S1x1x1024x1024.size inb1))
        (View.ld x2 (Rect.unit (s := S512x4096) ![0, o] S512x1024.size inb2))) (tile x0 x1 x2 p j) := by
  intro x hx
  subst ho
  obtain ⟨a, b, rfl⟩ : ∃ a b, x = ix2 a b := ⟨x 0, x 1, eq_ix2 x⟩
  have h0 : p.val = 0 + a.val := hx 0
  have h1 : j.val = 1024 * s + b.val := hx 1
  have hp : p = a := Fin.ext (by omega)
  have hb := b.isLt
  subst hp
  rw [pay4_apply]
  unfold tile
  refine congrArg₂ times (Finset.sum_congr rfl fun k _ => congrArg₂ (· * ·) ?_ ?_) ?_
  · exact congrFun (View.ld_unit_zero (Val := Elt Ideal) (e := .bf16) (S := S512x1024) hz2 _ x0) _
  · refine View.ld_unit_apply_of (Val := Elt Ideal) (e := .bf16) (S := S4x1x1024x1024) x1 _ _ _ _ _ fun c => ?_
    match c with
    | ⟨0, _⟩ => show j.val / 1024 = s + 0; omega
    | ⟨1, _⟩ => rfl
    | ⟨2, _⟩ => show j.val % 1024 = 0 + b.val; omega
    | ⟨3, _⟩ => show k.val = 0 + k.val; omega
  · exact View.ld_unit_apply_of (Val := Elt Ideal) (e := .bf16) (S := S512x4096) x2 _ _ _ _ _ fun c => hx c

theorem out_apply (x0 : FVec Ideal S512x1024 .bf16) (x1 : FVec Ideal S4x1x1024x1024 .bf16) (x2 : FVec Ideal S512x4096 .bf16)
    (p : Fin 512) (j : Fin 4096) : out0_3 (F := Ideal) x0 x1 x2 (ix2 p j) = tile x0 x1 x2 p j := by
  unfold out0_3
  refine View.canon_eq_of_allAt _ _ _ (cover0_3 _ _ _ _ _) ?_
  refine View.allAt_cons_unit _ _ _ _ _ (part_at x0 x1 x2 p j 3 3072 rfl inb_S4x1x1024x1024_S1x1x1024x1024_3_0_0_0 _) ?_
  refine View.allAt_cons_unit _ _ _ _ _ (part_at x0 x1 x2 p j 2 2048 rfl inb_S4x1x1024x1024_S1x1x1024x1024_2_0_0_0 _) ?_
  refine View.allAt_cons_unit _ _ _ _ _ (part_at x0 x1 x2 p j 1 1024 rfl inb_S4x1x1024x1024_S1x1x1024x1024_1_0_0_0 _) ?_
  refine View.allAt_cons_unit _ _ _ _ _ (part_at x0 x1 x2 p j 0 0 rfl inb_S4x1x1024x1024_S1x1x1024x1024_0_0_0_0 _) ?_
  exact View.allAt_nil _ _

variable (m : (ℓ : Loc nD τ sig) → Buf (Elt Ideal) ℓ) (c : Dev nD)

/-- The three arguments as they are at the start. -/
abbrev G : FVec Ideal S8192x1024 .f32 := m ((c : Thread nD τ).loc main_arg0)
abbrev W : FVec Ideal S2x4096x1024 .f32 := m ((c : Thread nD τ).loc main_arg1)
abbrev U : FVec Ideal S8192x4096 .f32 := m ((c : Thread nD τ).loc main_arg2)

/-- The claim's array. -/
def goal : FVec Ideal S8192x4096 .bf16 := fun i =>
  times (∑ k : Fin 1024, G m c (ix2 (i 0) k) * W m c (ix3 (0 : Fin 2) (i 1) k)) (U m c i)

theorem v0_eq : (V m c main_v0 : FVec Ideal S8192x1024 .bf16) = G m c := by
  unfold_abbrev_sides
  after_results
  rfl

theorem v4_eq : (V m c main_v4 : FVec Ideal S8192x4096 .bf16) = U m c := by
  unfold_abbrev_sides
  after_results
  rfl

theorem v3_eq : (V m c main_v3 : FVec Ideal S4x2x1024x1024 .bf16)
    = transpose S4x2x1024x1024 [1, 0, 2, 3] (shapeCast S2x4x1024x1024 (W m c) shapeCasts_S2x4096x1024_S2x4x1024x1024)
      transposes_S2x4x1024x1024_S4x2x1024x1024_1_0_2_3 := by
  unfold_abbrev_sides
  after_results
  rfl

theorem v3_apply (s : Fin 4) (q k : Fin 1024) :
    (V m c main_v3 : FVec Ideal S4x2x1024x1024 .bf16) (ix4 s (0 : Fin 2) q k) = W m c (ix3 (0 : Fin 2) (⟨s.val * 1024 + q.val, by omega⟩ : Fin 4096) k) := by
  rw [v3_eq]
  refine (transpose_apply _ _ _ _ (ix4 (0 : Fin 2) s q k) fun b => ?_).trans ?_
  · match b with
    | ⟨0, _⟩ => rfl
    | ⟨1, _⟩ => rfl
    | ⟨2, _⟩ => rfl
    | ⟨3, _⟩ => rfl
  · refine shapeCast_apply _ _ _ _ ?_
    rewrite [Shape.rowMajor_val_four, Shape.rowMajor_val_three]
    show (0 * 4096 + (s.val * 1024 + q.val)) * 1024 + k.val = ((0 * 4 + s.val) * 1024 + q.val) * 1024 + k.val
    omega

theorem idx0 (t : Fin cfg0.N) : win0_0.index t 0 = t.val ∧ win0_0.index t 1 = 0 :=
  (by decide +kernel : ∀ t : Fin grid0.N, win0_0.index t 0 = t.val ∧ win0_0.index t 1 = 0) t

theorem idx1 (t : Fin cfg0.N) : win0_1.index t 0 = 0 ∧ win0_1.index t 1 = 0 ∧ win0_1.index t 2 = 0 ∧ win0_1.index t 3 = 0 :=
  (by decide +kernel : ∀ t : Fin grid0.N, win0_1.index t 0 = 0 ∧ win0_1.index t 1 = 0 ∧ win0_1.index t 2 = 0 ∧ win0_1.index t 3 = 0) t

theorem idx2 (t : Fin cfg0.N) : win0_2.index t 0 = t.val ∧ win0_2.index t 1 = 0 :=
  (by decide +kernel : ∀ t : Fin grid0.N, win0_2.index t 0 = t.val ∧ win0_2.index t 1 = 0) t

theorem idx3 (t : Fin cfg0.N) : win0_3.index t 0 = t.val ∧ win0_3.index t 1 = 0 :=
  (by decide +kernel : ∀ t : Fin grid0.N, win0_3.index t 0 = t.val ∧ win0_3.index t 1 = 0) t

/-- Row `p` of block `t`. -/
def rowAt (t : ℕ) (p : Fin 512) : Fin 8192 := ⟨(t * 512 + p.val) % 8192, Nat.mod_lt _ (by norm_num)⟩

theorem rowAt_val (t : ℕ) (h : t < 16) (p : Fin 512) : (rowAt t p).val = t * 512 + p.val :=
  Nat.mod_eq_of_lt (by have := p.isLt; omega)

theorem blk0 (t : Fin cfg0.N) (p : Fin 512) (k : Fin 1024) :
    (iblk m c 0 t : FVec Ideal S512x1024 .bf16) (ix2 p k) = G m c (ix2 (rowAt t.val p) k) := by
  have hi := idx0 t
  have ht : t.val < 16 := lt_of_lt_of_eq t.isLt N_0
  unfold iblk
  rw [View.read_apply]
  show (V m c main_v0 : FVec Ideal S8192x1024 .bf16) _ = _
  rw [v0_eq]
  refine congrArg (G m c) (funext fun a => Fin.ext ?_)
  match a with
  | ⟨0, _⟩ =>
    show win0_0.index t 0 * 512 + 1 * p.val = (rowAt t.val p).val
    rw [rowAt_val _ ht, hi.1]; omega
  | ⟨1, _⟩ =>
    show win0_0.index t 1 * 1024 + 1 * k.val = k.val
    rw [hi.2]; omega

theorem blk1 (t : Fin cfg0.N) (s : Fin 4) (q k : Fin 1024) :
    (iblk m c 1 t : FVec Ideal S4x1x1024x1024 .bf16) (ix4 s (0 : Fin 1) q k)
      = W m c (ix3 (0 : Fin 2) (⟨s.val * 1024 + q.val, by omega⟩ : Fin 4096) k) := by
  have hi := idx1 t
  unfold iblk
  rw [View.read_apply]
  refine Eq.trans ?_ (v3_apply m c s q k)
  show (V m c main_v3 : FVec Ideal S4x2x1024x1024 .bf16) _ = _
  refine congrArg (V m c main_v3 : FVec Ideal S4x2x1024x1024 .bf16) (funext fun a => Fin.ext ?_)
  match a with
  | ⟨0, _⟩ =>
    show win0_1.index t 0 * 4 + 1 * s.val = s.val
    rw [hi.1]; omega
  | ⟨1, _⟩ =>
    show win0_1.index t 1 * 1 + 1 * 0 = 0
    rw [hi.2.1]
  | ⟨2, _⟩ =>
    show win0_1.index t 2 * 1024 + 1 * q.val = q.val
    rw [hi.2.2.1]; omega
  | ⟨3, _⟩ =>
    show win0_1.index t 3 * 1024 + 1 * k.val = k.val
    rw [hi.2.2.2]; omega

theorem blk2 (t : Fin cfg0.N) (p : Fin 512) (j : Fin 4096) :
    (iblk m c 2 t : FVec Ideal S512x4096 .bf16) (ix2 p j) = U m c (ix2 (rowAt t.val p) j) := by
  have hi := idx2 t
  have ht : t.val < 16 := lt_of_lt_of_eq t.isLt N_0
  unfold iblk
  rw [View.read_apply]
  show (V m c main_v4 : FVec Ideal S8192x4096 .bf16) _ = _
  rw [v4_eq]
  refine congrArg (U m c) (funext fun a => Fin.ext ?_)
  match a with
  | ⟨0, _⟩ =>
    show win0_2.index t 0 * 512 + 1 * p.val = (rowAt t.val p).val
    rw [rowAt_val _ ht, hi.1]; omega
  | ⟨1, _⟩ =>
    show win0_2.index t 1 * 4096 + 1 * j.val = j.val
    rw [hi.2]; omega

theorem tile_eq (t : Fin cfg0.N) (p : Fin 512) (j : Fin 4096) :
    tile (iblk m c 0 t) (iblk m c 1 t) (iblk m c 2 t) p j = goal m c (ix2 (rowAt t.val p) j) := by
  unfold tile goal
  refine congrArg₂ times (Finset.sum_congr rfl fun k _ => congrArg₂ (· * ·) (blk0 m c t p k) ?_) (blk2 m c t p j)
  refine (blk1 m c t _ _ k).trans (congrArg (fun r => W m c (ix3 (0 : Fin 2) r k)) (Fin.ext ?_))
  show j.val / 1024 * 1024 + j.val % 1024 = j.val
  omega

theorem final : (dats m 0 c).arrAt 3 cfg0.N = goal m c :=
  (dats m 0 c).arrAt_eq_of_cover 3 (goal m c) (fun t _ => by
    have hi := idx3 t
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_apply _ _ _ p k).trans (tile_eq m c t p k)).trans ?_
    refine congrArg (goal m c) (funext fun a => Fin.ext ?_)
    match a with
    | ⟨0, _⟩ =>
      show (rowAt t.val p).val = win0_3.index t 0 * 512 + 1 * p.val
      rw [rowAt_val _ ht, hi.1]; omega
    | ⟨1, _⟩ =>
      show k.val = win0_3.index t 1 * 4096 + 1 * k.val
      rw [hi.2]; omega) fun i => by
    have hN : cfg0.N = 16 := N_0
    have h0 : (i 0 : Nat) < 8192 := (i 0).isLt
    have h1 : (i 1 : Nat) < 4096 := (i 1).isLt
    have ht : (i 0 : Nat) / 512 < cfg0.N := by omega
    have hi := idx3 ⟨(i 0 : Nat) / 512, ht⟩
    refine ⟨⟨(i 0 : Nat) / 512, ht⟩, flush0_3 _, ?_⟩
    show i ∈ ((View.whole main_v5).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 4096 ≤ (i 1 : Nat) ∧ (i 1 : Nat) < win0_3.index _ 1 * 4096 + 4096
      rw [hi.2]; omega

/-! ## The reference -/

theorem choose (d u : EReal) :
    Scalar.select (Ideal.cmp .ogt u (Ideal.ofBits .f32 0x00000000#32)) (times d u) (Ideal.ofBits .f32 0x00000000#32) = times d u := by
  unfold Scalar.select
  split
  · rfl
  · next h =>
    have hu : u ≤ Ideal.ofBits .f32 0x00000000#32 := by
      by_contra hc
      exact h (by simp only [Ideal.cmp]; rw [decide_eq_true (not_le.mp hc)]; rfl)
    unfold times
    rw [max_eq_right hu, Ideal.ofBits_zero_f32, mul_zero, mul_zero]

theorem ref_eq : Cert.Reference2Ideal.Read.val_main_v14 (F := Ideal) (G m c) (W m c) (U m c) = goal m c := by
  funext i
  obtain ⟨p, j, rfl⟩ : ∃ p j, i = ix2 p j := ⟨i 0, i 1, eq_ix2 i⟩
  have e : Cert.Reference2Ideal.Read.val_main_v10 (F := Ideal) (G m c) (W m c) (ix2 p j)
      = ∑ k : Fin 1024, G m c (ix2 p k) * W m c (ix3 (0 : Fin 2) j k) := by
    rw [Cert.Reference2Ideal.Read.val_main_v10_apply]
    refine Finset.sum_congr rfl fun k _ => congrArg₂ (· * ·) (congrArg (G m c) (funext fun a => ?_)) ?_
    · match a with
      | ⟨0, _⟩ => rfl
      | ⟨1, _⟩ => rfl
    · rw [Cert.Reference2Ideal.Read.val_main_v8_apply, Cert.Reference2Ideal.Read.val_main_v7_apply]
      refine congrArg (W m c) (funext fun a => Fin.ext ?_)
      have hj := j.isLt
      have hk := k.isLt
      match a with
      | ⟨0, _⟩ => rfl
      | ⟨1, _⟩ => show (j.val * 1024 + k.val) / 1024 % 4096 = j.val; omega
      | ⟨2, _⟩ => show (j.val * 1024 + k.val) % 1024 = k.val; omega
  rw [Cert.Reference2Ideal.Read.val_main_v14_apply, Cert.Reference2Ideal.Read.val_main_v13_apply, Cert.Reference2Ideal.Read.val_main_v11_apply, e]
  exact choose _ _

/-- The reference ends with its arguments as they were; it has no semaphore. -/
theorem frame : quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run m g)

theorem algebraic :
    algebraic_Kernel2Ideal_Reference2Ideal (hKernel2Ideal := Cert.Kernel2Ideal.Gen.facts) (hReference2Ideal := Cert.Reference2Ideal.Gen.facts) := by
  intro m g m' g' _ hargs
  refine ⟨fun c => (dats m 0 c).arrAt 3 cfg0.N, Cert.Kernel2Ideal.Value.run_blocks m g, ?_⟩
  refine (θ_run Cert.Reference2Ideal.defs _ _).mono (fun r h c => ?_) (Cert.Reference2Ideal.Value.run m' g')
  obtain ⟨e0, e1, e2⟩ := hargs c
  obtain ⟨r0, k⟩ := h c
  refine ⟨r0.trans ?_, k⟩
  refine (Cert.Reference2Ideal.Read.val_main_v14_eq _ _ _).trans ?_
  rw [e0, e1, e2]
  exact (ref_eq m c).trans (final m c).symm

end Cert.Dact

end
-- ==== Proof.GwDown.lean ====
/- The gradient of the down weights: the product of the activations, transposed, with the incoming gradient,
   added up over the blocks of rows, index by index over the extended reals; no precondition. -/
module

public import proofs.«01_k».proof.Proof.Sums
public import proofs.«01_k».proof.Defs
public import proofs.«01_k».proof.Proof.Gen.Kernel3Ideal.Value
public import proofs.«01_k».proof.Proof.Gen.Reference3Ideal.Read

@[expose] public section

set_option maxRecDepth 16384

noncomputable section

namespace Cert.GwDown

open Idealize.ShloMosaic Idealize.ShloMosaic.ValueIdx Idealize.ShloMosaic.TcCoe Idealize.SL.Sem
open Cert.Rows Cert.Kernel3Ideal Cert.Kernel3Ideal.Gen
open Idealize.ShloMosaic.Pipeline (Dat)

/-- What the body does to an element of the activations before the product. -/
def act (u : EReal) : EReal := max u (Ideal.ofBits .f32 0x00000000#32) * max u (Ideal.ofBits .f32 0x00000000#32)

/-! ## The body at one point -/

/-- One block's product. -/
def prod (x : FVec Ideal S2048x1024 .bf16) (y : FVec Ideal S2048x1024 .bf16) (p q : Fin 1024) : EReal :=
  ∑ r : Fin 2048, act (x (ix2 r p)) * y (ix2 r q)

theorem pay1_apply (x y : FVec Ideal S2048x1024 .bf16) (p q : Fin 1024) : k0_pay1 (F := Ideal) x y (ix2 p q) = prod x y p q := by
  have e : dot_S2048x1024_S2048x1024_S1024x1024_0_0_1_1_n_n = tnDims 1024 1024 2048 dot_S2048x1024_S2048x1024_S1024x1024_0_0_1_1_n_n_wf := rfl
  unfold k0_pay1
  simp only [matmul, shapeCast_self]
  rw [e]
  exact tn_apply (φ₁ := .bf16) (φ₂ := .bf16) dot_S2048x1024_S2048x1024_S1024x1024_0_0_1_1_n_n_wf none _ y p q

theorem pay2_apply (x y : FVec Ideal S2048x1024 .bf16) (p q : Fin 1024) :
    k0_pay2 (F := Ideal) x y (ix4 (0 : Fin 1) (0 : Fin 1) p q) = prod x y p q := by
  unfold k0_pay2
  refine (unslab_apply _ _ _ _ p q).trans ?_
  refine (congrArg₂ (· + ·) (pay1_apply x y p q) (Ideal.ofBits_zero_f32)).trans ?_
  exact add_zero _

theorem pay3_apply (x y : FVec Ideal S2048x1024 .bf16) (v : FVec Ideal S1x1x1024x1024 .f32) (p q : Fin 1024) :
    k0_pay3 (F := Ideal) x y v (ix4 (0 : Fin 1) (0 : Fin 1) p q) = prod x y p q + v (ix4 (0 : Fin 1) (0 : Fin 1) p q) := by
  unfold k0_pay3
  refine (unslab_apply _ _ _ _ p q).trans ?_
  exact congrArg₂ (· + ·) (pay1_apply x y p q) (slab_apply v _ p q)

theorem hz2 : (![0, 0] : Fin 2 → ℕ) = fun _ => 0 := by funext a; match a with | ⟨0, _⟩ => rfl | ⟨1, _⟩ => rfl

theorem hz4 : (![0, 0, 0, 0] : Fin 4 → ℕ) = fun _ => 0 := by
  funext a; match a with | ⟨0, _⟩ => rfl | ⟨1, _⟩ => rfl | ⟨2, _⟩ => rfl | ⟨3, _⟩ => rfl

section Tile

variable (c : Dev nD) (i : grid0.Coords) (arg3 : Memref sig .tc .vmem S2048x1024 .bf16) (h3 : arg3.IsWhole) (arg4 : Memref sig .tc .vmem S2048x1024 .bf16) (h4 : arg4.IsWhole)
  (arg5 : Memref sig .tc .vmem S1x1x1024x1024 .f32) (h5 : arg5.IsWhole) (x0 x1 : Vec Ideal S2048x1024 .bf16) (xo : Vec Ideal S1x1x1024x1024 .f32)

theorem out_A (hc0 hc1) : out0_A_2 (F := Ideal) c i arg3 h3 arg4 h4 arg5 h5 hc0 hc1 x0 x1 = k0_pay2 (F := Ideal) x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S2048x1024) hz2]

theorem out_B (hc0 hc1) : out0_B_2 (F := Ideal) c i arg3 h3 arg4 h4 arg5 h5 hc0 hc1 x0 x1 xo = k0_pay3 (F := Ideal) x0 x1 xo := by
  unfold out0_B_2
  rw [View.read_writes_eq_canon _ _ _ (cover0_B_2 c i arg3 h3 arg4 h4 arg5 h5 hc0 hc1 x0 x1 xo)]
  unfold kernelRun0_B
  dsimp only
  sl_unfold_words
  rw [View.canon_unit_zero hz4]
  simp only [View.readAt_eq_ld, h3.read_unread, h4.read_unread, h5.read_unread, View.ld_unit_zero (S := S2048x1024) hz2, View.ld_unit_zero (S := S1x1x1024x1024) hz4]

end Tile

variable (m : (ℓ : Loc nD τ sig) → Buf (Elt Ideal) ℓ) (c : Dev nD)

/-- The two arguments as they are at the start. -/
abbrev X : FVec Ideal S8192x4096 .f32 := m ((c : Thread nD τ).loc main_arg0)
abbrev Y : FVec Ideal S8192x1024 .f32 := m ((c : Thread nD τ).loc main_arg1)

theorem v0_eq : (V m c main_v0 : FVec Ideal S8192x4096 .bf16) = X m c := by
  unfold_abbrev_sides
  after_results
  rfl

theorem v1_eq : (V m c main_v1 : FVec Ideal S8192x1024 .bf16) = Y m c := by
  unfold_abbrev_sides
  after_results
  rfl

/-- Row `r` of block `s` of the rows. -/
def rowAt (s : ℕ) (r : Fin 2048) : Fin 8192 := ⟨(s * 2048 + r.val) % 8192, Nat.mod_lt _ (by norm_num)⟩

theorem rowAt_val (s : ℕ) (h : s < 4) (r : Fin 2048) : (rowAt s r).val = s * 2048 + r.val :=
  Nat.mod_eq_of_lt (by have := r.isLt; omega)

/-- Column `p` of block `b` of the columns. -/
def wideAt (b : ℕ) (p : Fin 1024) : Fin 4096 := ⟨(b * 1024 + p.val) % 4096, Nat.mod_lt _ (by norm_num)⟩

theorem wideAt_val (b : ℕ) (h : b < 4) (p : Fin 1024) : (wideAt b p).val = b * 1024 + p.val :=
  Nat.mod_eq_of_lt (by have := p.isLt; omega)

def colX (b : ℕ) (p : Fin 1024) : Fin 4096 := wideAt b p
def colY (b : ℕ) (q : Fin 1024) : Fin 1024 := q

theorem idx0 (t : Fin cfg0.N) : win0_0.index t 0 = t.val % 4 ∧ win0_0.index t 1 = t.val / 4 :=
  (by decide +kernel : ∀ t : Fin grid0.N, win0_0.index t 0 = t.val % 4 ∧ win0_0.index t 1 = t.val / 4) t

theorem idx1 (t : Fin cfg0.N) : win0_1.index t 0 = t.val % 4 ∧ win0_1.index t 1 = 0 :=
  (by decide +kernel : ∀ t : Fin grid0.N, win0_1.index t 0 = t.val % 4 ∧ win0_1.index t 1 = 0) t

theorem idx2 (t : Fin cfg0.N) : win0_2.index t 0 = t.val / 4 ∧ win0_2.index t 1 = 0 ∧ win0_2.index t 2 = 0 ∧ win0_2.index t 3 = 0 :=
  (by decide +kernel : ∀ t : Fin grid0.N, win0_2.index t 0 = t.val / 4 ∧ win0_2.index t 1 = 0 ∧ win0_2.index t 2 = 0 ∧ win0_2.index t 3 = 0) t

theorem blk0 (t : Fin cfg0.N) (r : Fin 2048) (p : Fin 1024) :
    (iblk m c 0 t : FVec Ideal S2048x1024 .bf16) (ix2 r p) = X m c (ix2 (rowAt (t.val % 4) r) (colX (t.val / 4) p)) := by
  have hi := idx0 t
  have ht : t.val < 16 := lt_of_lt_of_eq t.isLt N_0
  unfold iblk
  rw [View.read_apply]
  show (V m c main_v0 : FVec Ideal S8192x4096 .bf16) _ = _
  rw [v0_eq]
  refine congrArg (X m c) (funext fun a => Fin.ext ?_)
  match a with
  | ⟨0, _⟩ =>
    show win0_0.index t 0 * 2048 + 1 * r.val = (rowAt (t.val % 4) r).val
    rw [rowAt_val _ (Nat.mod_lt _ (by norm_num)), hi.1]; omega
  | ⟨1, _⟩ =>
    show win0_0.index t 1 * 1024 + 1 * p.val = (wideAt (t.val / 4) p).val
    rw [wideAt_val _ (by omega), hi.2]; omega

theorem blk1 (t : Fin cfg0.N) (r : Fin 2048) (q : Fin 1024) :
    (iblk m c 1 t : FVec Ideal S2048x1024 .bf16) (ix2 r q) = Y m c (ix2 (rowAt (t.val % 4) r) (colY (t.val / 4) q)) := by
  have hi := idx1 t
  have ht : t.val < 16 := lt_of_lt_of_eq t.isLt N_0
  unfold iblk
  rw [View.read_apply]
  show (V m c main_v1 : FVec Ideal S8192x1024 .bf16) _ = _
  rw [v1_eq]
  refine congrArg (Y m c) (funext fun a => Fin.ext ?_)
  match a with
  | ⟨0, _⟩ =>
    show win0_1.index t 0 * 2048 + 1 * r.val = (rowAt (t.val % 4) r).val
    rw [rowAt_val _ (Nat.mod_lt _ (by norm_num)), hi.1]; omega
  | ⟨1, _⟩ =>
    show win0_1.index t 1 * 1024 + 1 * q.val = q.val
    rw [hi.2]; omega

/-- What the blocks of rows up to block `n` add to the element (p, q) of block `b`. -/
def sofar (b n : ℕ) (p q : Fin 1024) : EReal :=
  ∑ s ∈ Finset.range (n + 1), ∑ r, act (X m c (ix2 (rowAt s r) (colX b p))) * Y m c (ix2 (rowAt s r) (colY b q))

theorem prod_blk (t : Fin cfg0.N) (p q : Fin 1024) : prod (iblk m c 0 t) (iblk m c 1 t) p q
    = ∑ r, act (X m c (ix2 (rowAt (t.val % 4) r) (colX (t.val / 4) p))) * Y m c (ix2 (rowAt (t.val % 4) r) (colY (t.val / 4) q)) := by
  unfold prod
  exact Finset.sum_congr rfl fun r _ => by rw [blk0, blk1]

theorem outs_A (t : Fin cfg0.N) (h0 : t.val % 4 = 0) (p q : Fin 1024) :
    (outsAt0 m c t.val t.isLt : FVec Ideal S1x1x1024x1024 .f32) (ix4 (0 : Fin 1) (0 : Fin 1) p q) = sofar m c (t.val / 4) (t.val % 4) p q := by
  have ht : t.val < 16 := lt_of_lt_of_eq t.isLt N_0
  rw [outsAt0_A m c t h0 (by omega), out_A, pay2_apply, prod_blk]
  unfold sofar
  rw [h0, Nat.zero_add, Finset.sum_range_one]

theorem outs_eq : ∀ (n : ℕ) (h : n < cfg0.N) (p q : Fin 1024),
    (outsAt0 m c n h : FVec Ideal S1x1x1024x1024 .f32) (ix4 (0 : Fin 1) (0 : Fin 1) p q) = sofar m c (n / 4) (n % 4) p q
  | 0, h, p, q => outs_A m c ⟨0, h⟩ rfl p q
  | n + 1, h, p, q => by
    have hN : cfg0.N = 16 := N_0
    by_cases h0 : (n + 1) % 4 = 0
    · exact outs_A m c ⟨n + 1, h⟩ h0 p q
    · have e := outsAt0_B m c ⟨n + 1, h⟩ h0 (by show 1 ≤ (n + 1) % 4; omega)
      have ih := outs_eq n (Nat.lt_of_succ_lt h) p q
      refine (congrFun e _).trans ?_
      rw [out_B, pay3_apply, prod_blk]
      refine (congrArg₂ (· + ·) rfl ih).trans ?_
      unfold sofar
      have hq : (n + 1) / 4 = n / 4 := by omega
      have hm : (n + 1) % 4 = n % 4 + 1 := by omega
      show (∑ r, act (X m c (ix2 (rowAt ((n + 1) % 4) r) (colX ((n + 1) / 4) p))) * Y m c (ix2 (rowAt ((n + 1) % 4) r) (colY ((n + 1) / 4) q))) + _ = _
      rw [hq, hm, add_comm, ← Finset.sum_range_succ (fun s => ∑ r, act (X m c (ix2 (rowAt s r) (colX (n / 4) p))) * Y m c (ix2 (rowAt s r) (colY (n / 4) q)))]

/-- The claim's array. -/
def goal : FVec Ideal S4x1x1024x1024 .f32 := fun i =>
  ∑ r : Fin 8192, act (X m c (ix2 r (⟨(i 0).val * 1024 + (i 2).val, by have h0 : (i 0).val < 4 := (i 0).isLt; have h2 : (i 2).val < 1024 := (i 2).isLt; omega⟩ : Fin 4096))) * Y m c (ix2 r (i 3))

theorem sofar_all (b : ℕ) (p q : Fin 1024) :
    sofar m c b 3 p q = ∑ r : Fin 8192, act (X m c (ix2 r (colX b p))) * Y m c (ix2 r (colY b q)) :=
  sum_grid 4 2048 8192 rfl (fun r => act (X m c (ix2 r (colX b p))) * Y m c (ix2 r (colY b q))) rowAt fun s hs r => rowAt_val s hs r

theorem final : (dats m 0 c).arrAt 2 cfg0.N = goal m c :=
  (dats m 0 c).arrAt_eq_of_cover 2 (goal m c) (fun t hf => by
    have hi := idx2 t
    have h3 : t.val % 4 = 3 := (flush0_2 t).mp hf
    have ht : t.val < 16 := lt_of_lt_of_eq t.isLt N_0
    rw [Value.flushed2]
    funext j
    rw [View.read_apply]
    obtain ⟨u, v, p, q, rfl⟩ : ∃ u v p q, j = ix4 u v p q := ⟨j 0, j 1, j 2, j 3, eq_ix4 j⟩
    refine ((congrArg (outsAt0 m c t.val t.isLt : FVec Ideal S1x1x1024x1024 .f32) (show ix4 u v p q = ix4 (0 : Fin 1) (0 : Fin 1) p q by
      rw [Subsingleton.elim u 0, Subsingleton.elim v 0])).trans (outs_eq m c t.val t.isLt p q)).trans ?_
    rw [h3, sofar_all]
    show _ = ∑ r : Fin 8192, act (X m c (ix2 r _)) * Y m c (ix2 r _)
    refine Finset.sum_congr rfl fun r _ => congrArg₂ (· * ·) (congrArg (fun z => act (X m c (ix2 r z))) (Fin.ext ?_))
      (congrArg (fun z => Y m c (ix2 r z)) (Fin.ext ?_))
    · show (wideAt (t.val / 4) p).val = (win0_2.index t 0 * 1 + 1 * u.val) * 1024 + (win0_2.index t 2 * 1024 + 1 * p.val)
      rw [wideAt_val _ (by omega), hi.1, hi.2.2.1]; omega
    · show q.val = win0_2.index t 3 * 1024 + 1 * q.val
      rw [hi.2.2.2]; omega) fun i => by
    have hN : cfg0.N = 16 := N_0
    have h0 : (i 0 : Nat) < 4 := (i 0).isLt
    have h1 : (i 1 : Nat) < 1 := (i 1).isLt
    have h2 : (i 2 : Nat) < 1024 := (i 2).isLt
    have h3 : (i 3 : Nat) < 1024 := (i 3).isLt
    have ht : (i 0 : Nat) * 4 + 3 < cfg0.N := by omega
    have hi := idx2 ⟨(i 0 : Nat) * 4 + 3, ht⟩
    have hd : ((i 0 : Nat) * 4 + 3) / 4 = (i 0 : Nat) := by omega
    have hm : ((i 0 : Nat) * 4 + 3) % 4 = 3 := by omega
    refine ⟨⟨(i 0 : Nat) * 4 + 3, ht⟩, (flush0_2 _).mpr hm, ?_⟩
    show i ∈ ((View.whole main_v2).slice (win0_2.rect ⟨(i 0 : Nat) * 4 + 3, ht⟩)).set
    rw [View.set_slice_whole, Rect.mem_set_unit]
    dsimp only at hi
    intro x
    match x with
    | ⟨0, _⟩ =>
      show win0_2.index _ 0 * 1 ≤ (i 0 : Nat) ∧ (i 0 : Nat) < win0_2.index _ 0 * 1 + 1
      rw [hi.1, hd]; omega
    | ⟨1, _⟩ =>
      show win0_2.index _ 1 * 1 ≤ (i 1 : Nat) ∧ (i 1 : Nat) < win0_2.index _ 1 * 1 + 1
      rw [hi.2.1]; omega
    | ⟨2, _⟩ =>
      show win0_2.index _ 2 * 1024 ≤ (i 2 : Nat) ∧ (i 2 : Nat) < win0_2.index _ 2 * 1024 + 1024
      rw [hi.2.2.1]; omega
    | ⟨3, _⟩ =>
      show win0_2.index _ 3 * 1024 ≤ (i 3 : Nat) ∧ (i 3 : Nat) < win0_2.index _ 3 * 1024 + 1024
      rw [hi.2.2.2]; omega

/-! ## The reference -/

theorem ref_eq : Cert.Reference3Ideal.Read.val_main_v6 (F := Ideal) (X m c) (Y m c) = goal m c := by
  funext i
  obtain ⟨a, b, p, q, rfl⟩ : ∃ a b p q, i = ix4 a b p q := ⟨i 0, i 1, i 2, i 3, eq_ix4 i⟩
  have ha := a.isLt
  have hb := b.isLt
  have hp := p.isLt
  have hq := q.isLt
  rw [Cert.Reference3Ideal.Read.val_main_v6_apply, Cert.Reference3Ideal.Read.val_main_v5_apply, Cert.Reference3Ideal.Read.val_main_v4_apply]
  unfold goal
  refine Finset.sum_congr rfl fun r _ => ?_
  rw [mul_comm]
  refine congrArg₂ (· * ·) ?_ ?_
  · refine Eq.trans (b := act (X m c (Cert.Reference3Ideal.Read.ridx_main_v4 (Cert.Reference3Ideal.Read.idx_main_v5 (Cert.Reference3Ideal.Read.idx_main_v6 (ix4 a b p q))) r))) ?_ ?_
    · rfl
    · refine congrArg (fun j => act (X m c j)) (funext fun z => Fin.ext ?_)
      match z with
      | ⟨0, _⟩ => rfl
      | ⟨1, _⟩ => show (((a.val * 1 + b.val) * 1024 + p.val) * 1024 + q.val) / 1024 = a.val * 1024 + p.val; omega
  · refine congrArg (Y m c) (funext fun z => Fin.ext ?_)
    match z with
    | ⟨0, _⟩ => rfl
    | ⟨1, _⟩ => show (((a.val * 1 + b.val) * 1024 + p.val) * 1024 + q.val) % 1024 = q.val; omega

/-- The reference ends with its arguments as they were; it has no semaphore. -/
theorem frame : quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run m g)

theorem algebraic :
    algebraic_Kernel3Ideal_Reference3Ideal (hKernel3Ideal := Cert.Kernel3Ideal.Gen.facts) (hReference3Ideal := Cert.Reference3Ideal.Gen.facts) := by
  intro m g m' g' _ hargs
  refine ⟨fun c => (dats m 0 c).arrAt 2 cfg0.N, Cert.Kernel3Ideal.Value.run_blocks m g, ?_⟩
  refine (θ_run Cert.Reference3Ideal.defs _ _).mono (fun r h c => ?_) (Cert.Reference3Ideal.Value.run m' g')
  obtain ⟨e0, e1⟩ := hargs c
  obtain ⟨r0, k⟩ := h c
  refine ⟨r0.trans ?_, k⟩
  refine (Cert.Reference3Ideal.Read.val_main_v6_eq _ _).trans ?_
  rw [e0, e1]
  exact (ref_eq m c).trans (final m c).symm

end Cert.GwDown

end
-- ==== Proof.GwUp.lean ====
/- The gradient of the up weights: the product of the activations, transposed, with the incoming gradient,
   added up over the blocks of rows, index by index over the extended reals; no precondition. -/
module

public import proofs.«01_k».proof.Proof.Sums
public import proofs.«01_k».proof.Defs
public import proofs.«01_k».proof.Proof.Gen.Kernel4Ideal.Value
public import proofs.«01_k».proof.Proof.Gen.Reference4Ideal.Read

@[expose] public section

set_option maxRecDepth 16384

noncomputable section

namespace Cert.GwUp

open Idealize.ShloMosaic Idealize.ShloMosaic.ValueIdx Idealize.ShloMosaic.TcCoe Idealize.SL.Sem
open Cert.Rows Cert.Kernel4Ideal Cert.Kernel4Ideal.Gen
open Idealize.ShloMosaic.Pipeline (Dat)

/-- What the body does to an element of the activations before the product. -/
def act (u : EReal) : EReal := u

/-! ## The body at one point -/

/-- One block's product. -/
def prod (x : FVec Ideal S2048x1024 .bf16) (y : FVec Ideal S2048x1024 .bf16) (p q : Fin 1024) : EReal :=
  ∑ r : Fin 2048, act (x (ix2 r p)) * y (ix2 r q)

theorem pay1_apply (x y : FVec Ideal S2048x1024 .bf16) (p q : Fin 1024) : k0_pay1 (F := Ideal) x y (ix2 p q) = prod x y p q := by
  have e : dot_S2048x1024_S2048x1024_S1024x1024_0_0_1_1_n_n = tnDims 1024 1024 2048 dot_S2048x1024_S2048x1024_S1024x1024_0_0_1_1_n_n_wf := rfl
  unfold k0_pay1
  simp only [matmul, shapeCast_self]
  rw [e]
  exact tn_apply (φ₁ := .bf16) (φ₂ := .bf16) dot_S2048x1024_S2048x1024_S1024x1024_0_0_1_1_n_n_wf none _ y p q

theorem pay2_apply (x y : FVec Ideal S2048x1024 .bf16) (p q : Fin 1024) :
    k0_pay2 (F := Ideal) x y (ix4 (0 : Fin 1) (0 : Fin 1) p q) = prod x y p q := by
  unfold k0_pay2
  refine (unslab_apply _ _ _ _ p q).trans ?_
  refine (congrArg₂ (· + ·) (pay1_apply x y p q) (Ideal.ofBits_zero_f32)).trans ?_
  exact add_zero _

theorem pay3_apply (x y : FVec Ideal S2048x1024 .bf16) (v : FVec Ideal S1x1x1024x1024 .f32) (p q : Fin 1024) :
    k0_pay3 (F := Ideal) x y v (ix4 (0 : Fin 1) (0 : Fin 1) p q) = prod x y p q + v (ix4 (0 : Fin 1) (0 : Fin 1) p q) := by
  unfold k0_pay3
  refine (unslab_apply _ _ _ _ p q).trans ?_
  exact congrArg₂ (· + ·) (pay1_apply x y p q) (slab_apply v _ p q)

theorem hz2 : (![0, 0] : Fin 2 → ℕ) = fun _ => 0 := by funext a; match a with | ⟨0, _⟩ => rfl | ⟨1, _⟩ => rfl

theorem hz4 : (![0, 0, 0, 0] : Fin 4 → ℕ) = fun _ => 0 := by
  funext a; match a with | ⟨0, _⟩ => rfl | ⟨1, _⟩ => rfl | ⟨2, _⟩ => rfl | ⟨3, _⟩ => rfl

section Tile

variable (c : Dev nD) (i : grid0.Coords) (arg3 : Memref sig .tc .vmem S2048x1024 .bf16) (h3 : arg3.IsWhole) (arg4 : Memref sig .tc .vmem S2048x1024 .bf16) (h4 : arg4.IsWhole)
  (arg5 : Memref sig .tc .vmem S1x1x1024x1024 .f32) (h5 : arg5.IsWhole) (x0 x1 : Vec Ideal S2048x1024 .bf16) (xo : Vec Ideal S1x1x1024x1024 .f32)

theorem out_A (hc0 hc1) : out0_A_2 (F := Ideal) c i arg3 h3 arg4 h4 arg5 h5 hc0 hc1 x0 x1 = k0_pay2 (F := Ideal) x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S2048x1024) hz2]

theorem out_B (hc0 hc1) : out0_B_2 (F := Ideal) c i arg3 h3 arg4 h4 arg5 h5 hc0 hc1 x0 x1 xo = k0_pay3 (F := Ideal) x0 x1 xo := by
  unfold out0_B_2
  rw [View.read_writes_eq_canon _ _ _ (cover0_B_2 c i arg3 h3 arg4 h4 arg5 h5 hc0 hc1 x0 x1 xo)]
  unfold kernelRun0_B
  dsimp only
  sl_unfold_words
  rw [View.canon_unit_zero hz4]
  simp only [View.readAt_eq_ld, h3.read_unread, h4.read_unread, h5.read_unread, View.ld_unit_zero (S := S2048x1024) hz2, View.ld_unit_zero (S := S1x1x1024x1024) hz4]

end Tile

variable (m : (ℓ : Loc nD τ sig) → Buf (Elt Ideal) ℓ) (c : Dev nD)

/-- The two arguments as they are at the start. -/
abbrev X : FVec Ideal S8192x1024 .f32 := m ((c : Thread nD τ).loc main_arg0)
abbrev Y : FVec Ideal S8192x4096 .f32 := m ((c : Thread nD τ).loc main_arg1)

theorem v0_eq : (V m c main_v0 : FVec Ideal S8192x1024 .bf16) = X m c := by
  unfold_abbrev_sides
  after_results
  rfl

theorem v1_eq : (V m c main_v1 : FVec Ideal S8192x4096 .bf16) = Y m c := by
  unfold_abbrev_sides
  after_results
  rfl

/-- Row `r` of block `s` of the rows. -/
def rowAt (s : ℕ) (r : Fin 2048) : Fin 8192 := ⟨(s * 2048 + r.val) % 8192, Nat.mod_lt _ (by norm_num)⟩

theorem rowAt_val (s : ℕ) (h : s < 4) (r : Fin 2048) : (rowAt s r).val = s * 2048 + r.val :=
  Nat.mod_eq_of_lt (by have := r.isLt; omega)

/-- Column `p` of block `b` of the columns. -/
def wideAt (b : ℕ) (p : Fin 1024) : Fin 4096 := ⟨(b * 1024 + p.val) % 4096, Nat.mod_lt _ (by norm_num)⟩

theorem wideAt_val (b : ℕ) (h : b < 4) (p : Fin 1024) : (wideAt b p).val = b * 1024 + p.val :=
  Nat.mod_eq_of_lt (by have := p.isLt; omega)

def colX (b : ℕ) (p : Fin 1024) : Fin 1024 := p
def colY (b : ℕ) (q : Fin 1024) : Fin 4096 := wideAt b q

theorem idx0 (t : Fin cfg0.N) : win0_0.index t 0 = t.val % 4 ∧ win0_0.index t 1 = 0 :=
  (by decide +kernel : ∀ t : Fin grid0.N, win0_0.index t 0 = t.val % 4 ∧ win0_0.index t 1 = 0) t

theorem idx1 (t : Fin cfg0.N) : win0_1.index t 0 = t.val % 4 ∧ win0_1.index t 1 = t.val / 4 :=
  (by decide +kernel : ∀ t : Fin grid0.N, win0_1.index t 0 = t.val % 4 ∧ win0_1.index t 1 = t.val / 4) t

theorem idx2 (t : Fin cfg0.N) : win0_2.index t 0 = t.val / 4 ∧ win0_2.index t 1 = 0 ∧ win0_2.index t 2 = 0 ∧ win0_2.index t 3 = 0 :=
  (by decide +kernel : ∀ t : Fin grid0.N, win0_2.index t 0 = t.val / 4 ∧ win0_2.index t 1 = 0 ∧ win0_2.index t 2 = 0 ∧ win0_2.index t 3 = 0) t

theorem blk0 (t : Fin cfg0.N) (r : Fin 2048) (p : Fin 1024) :
    (iblk m c 0 t : FVec Ideal S2048x1024 .bf16) (ix2 r p) = X m c (ix2 (rowAt (t.val % 4) r) (colX (t.val / 4) p)) := by
  have hi := idx0 t
  have ht : t.val < 16 := lt_of_lt_of_eq t.isLt N_0
  unfold iblk
  rw [View.read_apply]
  show (V m c main_v0 : FVec Ideal S8192x1024 .bf16) _ = _
  rw [v0_eq]
  refine congrArg (X m c) (funext fun a => Fin.ext ?_)
  match a with
  | ⟨0, _⟩ =>
    show win0_0.index t 0 * 2048 + 1 * r.val = (rowAt (t.val % 4) r).val
    rw [rowAt_val _ (Nat.mod_lt _ (by norm_num)), hi.1]; omega
  | ⟨1, _⟩ =>
    show win0_0.index t 1 * 1024 + 1 * p.val = p.val
    rw [hi.2]; omega

theorem blk1 (t : Fin cfg0.N) (r : Fin 2048) (q : Fin 1024) :
    (iblk m c 1 t : FVec Ideal S2048x1024 .bf16) (ix2 r q) = Y m c (ix2 (rowAt (t.val % 4) r) (colY (t.val / 4) q)) := by
  have hi := idx1 t
  have ht : t.val < 16 := lt_of_lt_of_eq t.isLt N_0
  unfold iblk
  rw [View.read_apply]
  show (V m c main_v1 : FVec Ideal S8192x4096 .bf16) _ = _
  rw [v1_eq]
  refine congrArg (Y m c) (funext fun a => Fin.ext ?_)
  match a with
  | ⟨0, _⟩ =>
    show win0_1.index t 0 * 2048 + 1 * r.val = (rowAt (t.val % 4) r).val
    rw [rowAt_val _ (Nat.mod_lt _ (by norm_num)), hi.1]; omega
  | ⟨1, _⟩ =>
    show win0_1.index t 1 * 1024 + 1 * q.val = (wideAt (t.val / 4) q).val
    rw [wideAt_val _ (by omega), hi.2]; omega

/-- What the blocks of rows up to block `n` add to the element (p, q) of block `b`. -/
def sofar (b n : ℕ) (p q : Fin 1024) : EReal :=
  ∑ s ∈ Finset.range (n + 1), ∑ r, act (X m c (ix2 (rowAt s r) (colX b p))) * Y m c (ix2 (rowAt s r) (colY b q))

theorem prod_blk (t : Fin cfg0.N) (p q : Fin 1024) : prod (iblk m c 0 t) (iblk m c 1 t) p q
    = ∑ r, act (X m c (ix2 (rowAt (t.val % 4) r) (colX (t.val / 4) p))) * Y m c (ix2 (rowAt (t.val % 4) r) (colY (t.val / 4) q)) := by
  unfold prod
  exact Finset.sum_congr rfl fun r _ => by rw [blk0, blk1]

theorem outs_A (t : Fin cfg0.N) (h0 : t.val % 4 = 0) (p q : Fin 1024) :
    (outsAt0 m c t.val t.isLt : FVec Ideal S1x1x1024x1024 .f32) (ix4 (0 : Fin 1) (0 : Fin 1) p q) = sofar m c (t.val / 4) (t.val % 4) p q := by
  have ht : t.val < 16 := lt_of_lt_of_eq t.isLt N_0
  rw [outsAt0_A m c t h0 (by omega), out_A, pay2_apply, prod_blk]
  unfold sofar
  rw [h0, Nat.zero_add, Finset.sum_range_one]

theorem outs_eq : ∀ (n : ℕ) (h : n < cfg0.N) (p q : Fin 1024),
    (outsAt0 m c n h : FVec Ideal S1x1x1024x1024 .f32) (ix4 (0 : Fin 1) (0 : Fin 1) p q) = sofar m c (n / 4) (n % 4) p q
  | 0, h, p, q => outs_A m c ⟨0, h⟩ rfl p q
  | n + 1, h, p, q => by
    have hN : cfg0.N = 16 := N_0
    by_cases h0 : (n + 1) % 4 = 0
    · exact outs_A m c ⟨n + 1, h⟩ h0 p q
    · have e := outsAt0_B m c ⟨n + 1, h⟩ h0 (by show 1 ≤ (n + 1) % 4; omega)
      have ih := outs_eq n (Nat.lt_of_succ_lt h) p q
      refine (congrFun e _).trans ?_
      rw [out_B, pay3_apply, prod_blk]
      refine (congrArg₂ (· + ·) rfl ih).trans ?_
      unfold sofar
      have hq : (n + 1) / 4 = n / 4 := by omega
      have hm : (n + 1) % 4 = n % 4 + 1 := by omega
      show (∑ r, act (X m c (ix2 (rowAt ((n + 1) % 4) r) (colX ((n + 1) / 4) p))) * Y m c (ix2 (rowAt ((n + 1) % 4) r) (colY ((n + 1) / 4) q))) + _ = _
      rw [hq, hm, add_comm, ← Finset.sum_range_succ (fun s => ∑ r, act (X m c (ix2 (rowAt s r) (colX (n / 4) p))) * Y m c (ix2 (rowAt s r) (colY (n / 4) q)))]

/-- The claim's array. -/
def goal : FVec Ideal S4x1x1024x1024 .f32 := fun i =>
  ∑ r : Fin 8192, act (X m c (ix2 r (i 2))) * Y m c (ix2 r (⟨(i 0).val * 1024 + (i 3).val, by have h0 : (i 0).val < 4 := (i 0).isLt; have h3 : (i 3).val < 1024 := (i 3).isLt; omega⟩ : Fin 4096))

theorem sofar_all (b : ℕ) (p q : Fin 1024) :
    sofar m c b 3 p q = ∑ r : Fin 8192, act (X m c (ix2 r (colX b p))) * Y m c (ix2 r (colY b q)) :=
  sum_grid 4 2048 8192 rfl (fun r => act (X m c (ix2 r (colX b p))) * Y m c (ix2 r (colY b q))) rowAt fun s hs r => rowAt_val s hs r

theorem final : (dats m 0 c).arrAt 2 cfg0.N = goal m c :=
  (dats m 0 c).arrAt_eq_of_cover 2 (goal m c) (fun t hf => by
    have hi := idx2 t
    have h3 : t.val % 4 = 3 := (flush0_2 t).mp hf
    have ht : t.val < 16 := lt_of_lt_of_eq t.isLt N_0
    rw [Value.flushed2]
    funext j
    rw [View.read_apply]
    obtain ⟨u, v, p, q, rfl⟩ : ∃ u v p q, j = ix4 u v p q := ⟨j 0, j 1, j 2, j 3, eq_ix4 j⟩
    refine ((congrArg (outsAt0 m c t.val t.isLt : FVec Ideal S1x1x1024x1024 .f32) (show ix4 u v p q = ix4 (0 : Fin 1) (0 : Fin 1) p q by
      rw [Subsingleton.elim u 0, Subsingleton.elim v 0])).trans (outs_eq m c t.val t.isLt p q)).trans ?_
    rw [h3, sofar_all]
    show _ = ∑ r : Fin 8192, act (X m c (ix2 r _)) * Y m c (ix2 r _)
    refine Finset.sum_congr rfl fun r _ => congrArg₂ (· * ·) (congrArg (fun z => act (X m c (ix2 r z))) (Fin.ext ?_))
      (congrArg (fun z => Y m c (ix2 r z)) (Fin.ext ?_))
    · show p.val = win0_2.index t 2 * 1024 + 1 * p.val
      rw [hi.2.2.1]; omega
    · show (wideAt (t.val / 4) q).val = (win0_2.index t 0 * 1 + 1 * u.val) * 1024 + (win0_2.index t 3 * 1024 + 1 * q.val)
      rw [wideAt_val _ (by omega), hi.1, hi.2.2.2]; omega) fun i => by
    have hN : cfg0.N = 16 := N_0
    have h0 : (i 0 : Nat) < 4 := (i 0).isLt
    have h1 : (i 1 : Nat) < 1 := (i 1).isLt
    have h2 : (i 2 : Nat) < 1024 := (i 2).isLt
    have h3 : (i 3 : Nat) < 1024 := (i 3).isLt
    have ht : (i 0 : Nat) * 4 + 3 < cfg0.N := by omega
    have hi := idx2 ⟨(i 0 : Nat) * 4 + 3, ht⟩
    have hd : ((i 0 : Nat) * 4 + 3) / 4 = (i 0 : Nat) := by omega
    have hm : ((i 0 : Nat) * 4 + 3) % 4 = 3 := by omega
    refine ⟨⟨(i 0 : Nat) * 4 + 3, ht⟩, (flush0_2 _).mpr hm, ?_⟩
    show i ∈ ((View.whole main_v2).slice (win0_2.rect ⟨(i 0 : Nat) * 4 + 3, ht⟩)).set
    rw [View.set_slice_whole, Rect.mem_set_unit]
    dsimp only at hi
    intro x
    match x with
    | ⟨0, _⟩ =>
      show win0_2.index _ 0 * 1 ≤ (i 0 : Nat) ∧ (i 0 : Nat) < win0_2.index _ 0 * 1 + 1
      rw [hi.1, hd]; omega
    | ⟨1, _⟩ =>
      show win0_2.index _ 1 * 1 ≤ (i 1 : Nat) ∧ (i 1 : Nat) < win0_2.index _ 1 * 1 + 1
      rw [hi.2.1]; omega
    | ⟨2, _⟩ =>
      show win0_2.index _ 2 * 1024 ≤ (i 2 : Nat) ∧ (i 2 : Nat) < win0_2.index _ 2 * 1024 + 1024
      rw [hi.2.2.1]; omega
    | ⟨3, _⟩ =>
      show win0_2.index _ 3 * 1024 ≤ (i 3 : Nat) ∧ (i 3 : Nat) < win0_2.index _ 3 * 1024 + 1024
      rw [hi.2.2.2]; omega

/-! ## The reference -/

theorem ref_eq : Cert.Reference4Ideal.Read.val_main_v5 (F := Ideal) (X m c) (Y m c) = goal m c := by
  funext i
  obtain ⟨a, b, p, q, rfl⟩ : ∃ a b p q, i = ix4 a b p q := ⟨i 0, i 1, i 2, i 3, eq_ix4 i⟩
  have ha := a.isLt
  have hb := b.isLt
  have hp := p.isLt
  have hq := q.isLt
  rw [Cert.Reference4Ideal.Read.val_main_v5_apply, Cert.Reference4Ideal.Read.val_main_v4_apply, Cert.Reference4Ideal.Read.val_main_v3_apply, Cert.Reference4Ideal.Read.val_main_v2_apply]
  unfold goal
  refine Finset.sum_congr rfl fun r _ => ?_
  rw [mul_comm]
  refine congrArg₂ (· * ·) ?_ ?_
  · refine Eq.trans (b := act (X m c (Cert.Reference4Ideal.Read.ridx_main_v2 (Cert.Reference4Ideal.Read.idx_main_v3 (Cert.Reference4Ideal.Read.idx_main_v4 (Cert.Reference4Ideal.Read.idx_main_v5 (ix4 a b p q)))) r))) ?_ ?_
    · rfl
    · refine congrArg (fun j => act (X m c j)) (funext fun z => Fin.ext ?_)
      match z with
      | ⟨0, _⟩ => rfl
      | ⟨1, _⟩ => show (((b.val * 1024 + p.val) * 4 + a.val) * 1024 + q.val) / 4096 = p.val; omega
  · refine congrArg (Y m c) (funext fun z => Fin.ext ?_)
    match z with
    | ⟨0, _⟩ => rfl
    | ⟨1, _⟩ => show (((b.val * 1024 + p.val) * 4 + a.val) * 1024 + q.val) % 4096 = a.val * 1024 + q.val; omega

/-- The reference ends with its arguments as they were; it has no semaphore. -/
theorem frame : quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run m g)

theorem algebraic :
    algebraic_Kernel4Ideal_Reference4Ideal (hKernel4Ideal := Cert.Kernel4Ideal.Gen.facts) (hReference4Ideal := Cert.Reference4Ideal.Gen.facts) := by
  intro m g m' g' _ hargs
  refine ⟨fun c => (dats m 0 c).arrAt 2 cfg0.N, Cert.Kernel4Ideal.Value.run_blocks m g, ?_⟩
  refine (θ_run Cert.Reference4Ideal.defs _ _).mono (fun r h c => ?_) (Cert.Reference4Ideal.Value.run m' g')
  obtain ⟨e0, e1⟩ := hargs c
  obtain ⟨r0, k⟩ := h c
  refine ⟨r0.trans ?_, k⟩
  refine (Cert.Reference4Ideal.Read.val_main_v5_eq _ _).trans ?_
  rw [e0, e1]
  exact (ref_eq m c).trans (final m c).symm

end Cert.GwUp

end
-- ==== Proof.Norm.lean ====
/- A root-mean-square norm's gradient over blocks of 512 rows: the arrays that two of the calls share. -/
module

public import proofs.«01_k».proof.Proof.HostRows
public import proofs.«01_k».proof.Proof.Sums

@[expose] public section

set_option maxRecDepth 16384

noncomputable section

namespace Cert.Norm

open Idealize.ShloMosaic Idealize.ShloMosaic.ValueIdx Cert.Rows

/-- Row `p` of block `t`. -/
def rowAt (t : ℕ) (p : Fin 512) : Fin 8192 := ⟨(t * 512 + p.val) % 8192, Nat.mod_lt _ (by norm_num)⟩

theorem rowAt_val (t : ℕ) (h : t < 16) (p : Fin 512) : (rowAt t p).val = t * 512 + p.val :=
  Nat.mod_eq_of_lt (by have := p.isLt; omega)

theorem sum_blocks (f : Fin 8192 → ℝ) : ∑ t ∈ Finset.range 16, ∑ p, f (rowAt t p) = ∑ q, f q :=
  sum_grid 16 512 8192 rfl f rowAt fun s hs p => rowAt_val s hs p

/-- A sum over a range cut in two. -/
theorem sum_two {M : Type*} [AddCommMonoid M] (a b N : ℕ) (h : a + b = N) (f : Fin N → M) :
    ∑ q, f q = ∑ k : Fin a, f ⟨k.val, by omega⟩ + ∑ k : Fin b, f ⟨a + k.val, by omega⟩ := by
  subst h
  exact Fin.sum_univ_add f

/-- Three axes of real numbers as an array of extended reals. -/
def up3 {l m n : ℕ} (f : Fin l → Fin m → Fin n → ℝ) : (⟨3, ![l, m, n]⟩ : Shape).Idx → EReal :=
  fun i => ((f (i 0) (i 1) (i 2) : ℝ) : EReal)

theorem up3_apply {l m n : ℕ} (f : Fin l → Fin m → Fin n → ℝ) (s : Fin l) (p : Fin m) (k : Fin n) :
    up3 f (ix3 s p k) = ((f s p k : ℝ) : EReal) := rfl

theorem cube {l m n : ℕ} (x : FVec Ideal ⟨3, ![l, m, n]⟩ .f32) (hx : ∀ i, ((EReal.toReal (x i) : ℝ) : EReal) = x i) :
    x = up3 fun s p k => EReal.toReal (x (ix3 s p k)) := by
  funext i
  obtain ⟨s, p, k, rfl⟩ : ∃ s p k, i = ix3 s p k := ⟨i 0, i 1, i 2, eq_ix3 i⟩
  exact (hx _).symm

theorem hz2 : (![0, 0] : Fin 2 → ℕ) = fun _ => 0 := funext fun a => by fin_cases a <;> rfl

variable {m : ℕ}

/-- The gradient that leaves the norm: what passed beside it, and the norm's own part. -/
def res (x d ct : Fin m → Fin 1024 → ℝ) (gm : Fin 1024 → ℝ) (p : Fin m) (k : Fin 1024) : ℝ :=
  ct p k + rmsB (x p) (fun k => d p k * gm k) k

/-- The gradient of the norm's scale. -/
def gsum (x d : Fin m → Fin 1024 → ℝ) (k : Fin 1024) : ℝ := ∑ p, d p k * hat (x p) k

section Ops

variable {n : ℕ}

theorem h_rsqrt_ms {N : ℕ} (x : Fin m → Fin N → ℝ) :
    Host.rsqrt (F := Ideal) (s := ⟨2, ![m, 1]⟩) (φ := .f32) (up2 fun p _ => ms (x p)) = up2 fun p _ => rt (x p) :=
  h_rsqrt_up _ fun p _ => ms_pos (x p)

theorem h_divf_ms {N : ℕ} (f : Fin m → Fin 1 → ℝ) (x : Fin m → Fin N → ℝ) :
    Host.divf (F := Ideal) (s := ⟨2, ![m, 1]⟩) (φ := .f32) (up2 f) (up2 fun p _ => ms (x p)) = up2 fun p k => f p k / ms (x p) :=
  h_divf_up f _ fun p _ => (ms_pos (x p)).ne'

end Ops

end Cert.Norm

end
-- ==== Proof.MlpIn.lean ====
/- mlp_in_bwd: the gradient that enters the MLP: a product with the transposed weight, then a root-mean-square norm. -/
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite5
public import proofs.«01_k».proof.Proof.Finite
public import proofs.«01_k».proof.Proof.Norm
public import proofs.«01_k».proof.Defs

@[expose] public section

set_option maxRecDepth 16384

noncomputable section

namespace Cert.MlpIn

open Idealize.ShloMosaic Idealize.ShloMosaic.ValueIdx Idealize.ShloMosaic.TcCoe Idealize.SL.Sem
open Cert.Rows Cert.Norm Cert.Kernel5Ideal Cert.Kernel5Ideal.Gen
open Idealize.ShloMosaic.Pipeline (Dat)

/-! ## The four parts of the product -/

/-- Column `k` of part 0 of the weight's row. -/
def at0 (k : Fin 1024) : Fin 4096 := ⟨0 + k.val, by omega⟩

/-- Column `k` of part 1 of the weight's row. -/
def at1 (k : Fin 1024) : Fin 4096 := ⟨1024 + k.val, by omega⟩

/-- Column `k` of part 2 of the weight's row. -/
def at2 (k : Fin 1024) : Fin 4096 := ⟨2048 + k.val, by omega⟩

/-- Column `k` of part 3 of the weight's row. -/
def at3 (k : Fin 1024) : Fin 4096 := ⟨3072 + k.val, by omega⟩

/-- Four products with the weight's transpose, added. -/
def dh4 {m : ℕ} (A : Fin m → Fin 1024 → ℝ) (B : Fin m → Fin 1024 → ℝ) (C : Fin m → Fin 1024 → ℝ) (D : Fin m → Fin 1024 → ℝ)
    (W : Fin 1024 → Fin 4096 → ℝ) (p : Fin m) (j : Fin 1024) : ℝ :=
  ∑ k, A p k * W j (at0 k) + ∑ k, B p k * W j (at1 k) + ∑ k, C p k * W j (at2 k) + ∑ k, D p k * W j (at3 k)

theorem sum_four {M : Type*} [AddCommMonoid M] (f : Fin 4096 → M) :
    ∑ q, f q = ∑ k, f (at0 k) + ∑ k, f (at1 k) + ∑ k, f (at2 k) + ∑ k, f (at3 k) := by
  rw [sum_two 3072 1024 4096 rfl f, sum_two 2048 1024 3072 rfl fun k => f ⟨k.val, by omega⟩, sum_two 1024 1024 2048 rfl fun k => f ⟨k.val, by omega⟩]
  refine congrArg₂ (· + ·) (congrArg₂ (· + ·) (congrArg₂ (· + ·) (Finset.sum_congr rfl fun k _ => congrArg f (Fin.ext ?_)) rfl) rfl) rfl
  show k.val = 0 + k.val
  omega

/-! ## The body's values -/

theorem pay1_up (X : Fin 512 → Fin 1024 → ℝ) : k0_pay1 (F := Ideal) (k0_pay8 (F := Ideal) (up2 X)) = up2 (fun p _ => rt (X p)) := by
  unfold k0_pay1 k0_pay8
  simp only [mulf_up, rowsum_up, bcast_1024, bcast_eps, divf_up_1024, addf_up]
  rw [rsqrt_up _ (fun p _ => by have := ms_pos (X p); simpa only [ms, Nat.cast_ofNat] using this)]
  simp only [rt, ms, Nat.cast_ofNat]

theorem pay2_up (X : Fin 512 → Fin 1024 → ℝ) : k0_pay2 (F := Ideal) (up2 X) (k0_pay8 (F := Ideal) (up2 X)) = up2 (fun p k => hat (X p) k) := by
  unfold k0_pay2
  simp only [pay1_up, spread_col, mulf_up, hat]

theorem pay3_up (d X : Fin 512 → Fin 1024 → ℝ) : k0_pay3 (F := Ideal) (up2 d) (up2 X) (k0_pay8 (F := Ideal) (up2 X)) = up2 (fun _ k => gsum X d k) := by
  unfold k0_pay3
  simp only [pay2_up, mulf_up, colsum_up, gsum]

theorem pay4_up (d X : Fin 512 → Fin 1024 → ℝ) (v : Fin 1 → Fin 1024 → ℝ) :
    k0_pay4 (F := Ideal) (up2 d) (up2 X) (k0_pay8 (F := Ideal) (up2 X)) (up2 v) = up2 (fun r k => v r k + gsum X d k) := by
  unfold k0_pay4
  simp only [pay3_up, shapeCast_self, addf_up]

theorem pay5_up (d X ct : Fin 512 → Fin 1024 → ℝ) (gm : Fin 1024 → ℝ) :
    k0_pay5 (F := Ideal) (up2 d) (up2 X) (k0_pay8 (F := Ideal) (up2 X)) (up2 fun _ k => gm k) (up2 ct) = up2 (res X d ct gm) := by
  rw [show res X d ct gm = fun p k => ct p k + rmsB (X p) (fun k => d p k * gm k) k from rfl]
  unfold k0_pay5
  simp only [pay1_up, pay2_up, shapeCast_self, spread_row, spread_col, mulf_up, rowsum_up, bcast_1024, divf_up_1024, subf_up, addf_up, rmsB, Nat.cast_ofNat]

theorem pay6_up (d X ct : Fin 512 → Fin 1024 → ℝ) (gm : Fin 1024 → ℝ) :
    k0_pay6 (F := Ideal) (up2 d) (up2 X) (k0_pay8 (F := Ideal) (up2 X)) (up2 fun _ k => gm k) (up2 ct) = up2 (res X d ct gm) := pay5_up d X ct gm

theorem slab_up1024 (U : Fin 1024 → Fin 1024 → ℝ) (y : FVec Ideal S1x1x1024x1024 .bf16)
    (hy : ∀ r k, y (ix4 (0 : Fin 1) (0 : Fin 1) r k) = ((U r k : ℝ) : EReal)) : shapeCast S1024x1024 y shapeCasts_S1x1x1024x1024_S1024x1024 = up2 U := by
  funext i
  obtain ⟨r, k, rfl⟩ : ∃ r k, i = ix2 r k := ⟨i 0, i 1, eq_ix2 i⟩
  exact (slab_apply y _ r k).trans (hy r k)

theorem pay7_up (A : Fin 512 → Fin 1024 → ℝ) (B : Fin 512 → Fin 1024 → ℝ) (C : Fin 512 → Fin 1024 → ℝ) (D : Fin 512 → Fin 1024 → ℝ)
    (W : Fin 1024 → Fin 4096 → ℝ) (y0 : FVec Ideal S1x1x1024x1024 .bf16) (y1 : FVec Ideal S1x1x1024x1024 .bf16) (y2 : FVec Ideal S1x1x1024x1024 .bf16) (y3 : FVec Ideal S1x1x1024x1024 .bf16)
    (h0 : ∀ r k, y0 (ix4 (0 : Fin 1) (0 : Fin 1) r k) = ((W r (at0 k) : ℝ) : EReal))
    (h1 : ∀ r k, y1 (ix4 (0 : Fin 1) (0 : Fin 1) r k) = ((W r (at1 k) : ℝ) : EReal))
    (h2 : ∀ r k, y2 (ix4 (0 : Fin 1) (0 : Fin 1) r k) = ((W r (at2 k) : ℝ) : EReal))
    (h3 : ∀ r k, y3 (ix4 (0 : Fin 1) (0 : Fin 1) r k) = ((W r (at3 k) : ℝ) : EReal)) :
    k0_pay7 (F := Ideal) y0 (up2 A) y1 (up2 B) y2 (up2 C) y3 (up2 D) = up2 (dh4 A B C D W) := by
  have e1024 : dot_S512x1024_S1024x1024_S512x1024_1_1_0_0_n_n = ntDims 512 1024 1024 dot_S512x1024_S1024x1024_S512x1024_1_1_0_0_n_n_wf := rfl
  rw [show dh4 A B C D W = fun p j => ∑ k, A p k * W j (at0 k) + ∑ k, B p k * W j (at1 k) + ∑ k, C p k * W j (at2 k) + ∑ k, D p k * W j (at3 k) from rfl]
  unfold k0_pay7
  simp only [matmul, shapeCast_self]
  rw [e1024, slab_up1024 (fun r k => W r (at0 k)) y0 h0, slab_up1024 (fun r k => W r (at1 k)) y1 h1, slab_up1024 (fun r k => W r (at2 k)) y2 h2, slab_up1024 (fun r k => W r (at3 k)) y3 h3]
  simp only [nt_up, bcast_zero, addf_up, zero_add]

/-! ## One tile -/

theorem ld_w (x : Vec Ideal S4x1x1024x1024 .bf16) (s : Fin 4)
    (inb : ∀ a, (![s.val, 0, 0, 0] : Fin 4 → ℕ) a + S1x1x1024x1024.size a ≤ S4x1x1024x1024.size a) (r k : Fin 1024) :
    View.ld x (Rect.unit ![s.val, 0, 0, 0] S1x1x1024x1024.size inb) (ix4 (0 : Fin 1) (0 : Fin 1) r k) = x (ix4 s (0 : Fin 1) r k) := by
  refine congrArg x (funext fun a => Fin.ext ?_)
  match a with
  | ⟨0, _⟩ => show s.val + 1 * 0 = s.val; omega
  | ⟨1, _⟩ => rfl
  | ⟨2, _⟩ => show 0 + 1 * r.val = r.val; omega
  | ⟨3, _⟩ => show 0 + 1 * k.val = k.val; omega

theorem ld_g0 (G : Fin 512 → Fin 4096 → ℝ) : (View.ld (Val := Elt Ideal) (S := S512x4096) (e' := .bf16) (up2 G) (Rect.unit ![0, 0] S512x1024.size inb_S512x4096_S512x1024_0_0)) = up2 fun p k => G p (at0 k) := by
  funext i
  obtain ⟨p, k, rfl⟩ : ∃ p k, i = ix2 p k := ⟨i 0, i 1, eq_ix2 i⟩
  show ((G _ _ : ℝ) : EReal) = ((G _ _ : ℝ) : EReal)
  congr 3
  · apply Fin.ext
    show 0 + 1 * p.val = p.val
    omega
  · apply Fin.ext
    show 0 + 1 * k.val = 0 + k.val
    omega

theorem ld_g1 (G : Fin 512 → Fin 4096 → ℝ) : (View.ld (Val := Elt Ideal) (S := S512x4096) (e' := .bf16) (up2 G) (Rect.unit ![0, 1024] S512x1024.size inb_S512x4096_S512x1024_0_1024)) = up2 fun p k => G p (at1 k) := by
  funext i
  obtain ⟨p, k, rfl⟩ : ∃ p k, i = ix2 p k := ⟨i 0, i 1, eq_ix2 i⟩
  show ((G _ _ : ℝ) : EReal) = ((G _ _ : ℝ) : EReal)
  congr 3
  · apply Fin.ext
    show 0 + 1 * p.val = p.val
    omega
  · apply Fin.ext
    show 1024 + 1 * k.val = 1024 + k.val
    omega

theorem ld_g2 (G : Fin 512 → Fin 4096 → ℝ) : (View.ld (Val := Elt Ideal) (S := S512x4096) (e' := .bf16) (up2 G) (Rect.unit ![0, 2048] S512x1024.size inb_S512x4096_S512x1024_0_2048)) = up2 fun p k => G p (at2 k) := by
  funext i
  obtain ⟨p, k, rfl⟩ : ∃ p k, i = ix2 p k := ⟨i 0, i 1, eq_ix2 i⟩
  show ((G _ _ : ℝ) : EReal) = ((G _ _ : ℝ) : EReal)
  congr 3
  · apply Fin.ext
    show 0 + 1 * p.val = p.val
    omega
  · apply Fin.ext
    show 2048 + 1 * k.val = 2048 + k.val
    omega

theorem ld_g3 (G : Fin 512 → Fin 4096 → ℝ) : (View.ld (Val := Elt Ideal) (S := S512x4096) (e' := .bf16) (up2 G) (Rect.unit ![0, 3072] S512x1024.size inb_S512x4096_S512x1024_0_3072)) = up2 fun p k => G p (at3 k) := by
  funext i
  obtain ⟨p, k, rfl⟩ : ∃ p k, i = ix2 p k := ⟨i 0, i 1, eq_ix2 i⟩
  show ((G _ _ : ℝ) : EReal) = ((G _ _ : ℝ) : EReal)
  congr 3
  · apply Fin.ext
    show 0 + 1 * p.val = p.val
    omega
  · apply Fin.ext
    show 3072 + 1 * k.val = 3072 + k.val
    omega

section Tile

variable (c : Dev nD) (i : grid0.Coords)
  (arg1 : Memref sig .tc .vmem S512x4096 .bf16) (h1 : arg1.IsWhole)
  (arg2 : Memref sig .tc .vmem S4x1x1024x1024 .bf16) (h2 : arg2.IsWhole)
  (arg3 : Memref sig .tc .vmem S512x1024 .f32) (h3 : arg3.IsWhole)
  (arg4 : Memref sig .tc .vmem S1x1024 .f32) (h4 : arg4.IsWhole)
  (arg5 : Memref sig .tc .vmem S512x1024 .f32) (h5 : arg5.IsWhole)
  (arg6 : Memref sig .tc .vmem S512x1024 .f32) (h6 : arg6.IsWhole)
  (arg7 : Memref sig .tc .vmem S512x1024 .bf16) (h7 : arg7.IsWhole)
  (arg8 : Memref sig .tc .vmem S1x1024 .f32) (h8 : arg8.IsWhole)
  (G : Fin 512 → Fin 4096 → ℝ) (W : Fin 1024 → Fin 4096 → ℝ) (xw : Vec Ideal S4x1x1024x1024 .bf16)
  (hW : ∀ (s : Fin 4) (r k : Fin 1024), xw (ix4 s (0 : Fin 1) r k) = ((W r ⟨s.val * 1024 + k.val, by omega⟩ : ℝ) : EReal))
  (X ct : Fin 512 → Fin 1024 → ℝ) (gm : Fin 1024 → ℝ) (v : Fin 1 → Fin 1024 → ℝ)

include hW in
theorem dh_up : k0_pay7 (F := Ideal)
    (View.ld xw (Rect.unit ![0, 0, 0, 0] S1x1x1024x1024.size inb_S4x1x1024x1024_S1x1x1024x1024_0_0_0_0)) (View.ld (Val := Elt Ideal) (S := S512x4096) (e' := .bf16) (up2 G) (Rect.unit ![0, 0] S512x1024.size inb_S512x4096_S512x1024_0_0)) (View.ld xw (Rect.unit ![1, 0, 0, 0] S1x1x1024x1024.size inb_S4x1x1024x1024_S1x1x1024x1024_1_0_0_0)) (View.ld (Val := Elt Ideal) (S := S512x4096) (e' := .bf16) (up2 G) (Rect.unit ![0, 1024] S512x1024.size inb_S512x4096_S512x1024_0_1024)) (View.ld xw (Rect.unit ![2, 0, 0, 0] S1x1x1024x1024.size inb_S4x1x1024x1024_S1x1x1024x1024_2_0_0_0)) (View.ld (Val := Elt Ideal) (S := S512x4096) (e' := .bf16) (up2 G) (Rect.unit ![0, 2048] S512x1024.size inb_S512x4096_S512x1024_0_2048)) (View.ld xw (Rect.unit ![3, 0, 0, 0] S1x1x1024x1024.size inb_S4x1x1024x1024_S1x1x1024x1024_3_0_0_0)) (View.ld (Val := Elt Ideal) (S := S512x4096) (e' := .bf16) (up2 G) (Rect.unit ![0, 3072] S512x1024.size inb_S512x4096_S512x1024_0_3072))
    = up2 (dh4 (fun p k => G p (at0 k)) (fun p k => G p (at1 k)) (fun p k => G p (at2 k)) (fun p k => G p (at3 k)) W) := by
  rw [ld_g0, ld_g1, ld_g2, ld_g3]
  refine pay7_up _ _ _ _ W _ _ _ _ ?_ ?_ ?_ ?_
  · intro r k
    exact (ld_w xw 0 _ r k).trans (hW 0 r k)
  · intro r k
    exact (ld_w xw 1 _ r k).trans (hW 1 r k)
  · intro r k
    exact (ld_w xw 2 _ r k).trans (hW 2 r k)
  · intro r k
    exact (ld_w xw 3 _ r k).trans (hW 3 r k)

include hW in
theorem out_A_5 (hc0 hc1) : out0_A_5 (F := Ideal) c i arg1 h1 arg2 h2 arg3 h3 arg4 h4 arg5 h5 arg6 h6 arg7 h7 arg8 h8
      hc0 hc1 (up2 G) xw (up2 X) (up2 fun _ k => gm k) (up2 ct)
    = up2 (res X (dh4 (fun p k => G p (at0 k)) (fun p k => G p (at1 k)) (fun p k => G p (at2 k)) (fun p k => G p (at3 k)) W) ct gm) := by
  unfold out0_A_5
  rw [View.read_writes_eq_canon _ _ _ (cover0_A_5 c i arg1 h1 arg2 h2 arg3 h3 arg4 h4 arg5 h5 arg6 h6 arg7 h7 arg8 h8
    hc0 hc1 (up2 G) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rw [dh_up G W xw hW, pay5_up]

include hW in
theorem out_A_6 (hc0 hc1) : out0_A_6 (F := Ideal) c i arg1 h1 arg2 h2 arg3 h3 arg4 h4 arg5 h5 arg6 h6 arg7 h7 arg8 h8
      hc0 hc1 (up2 G) xw (up2 X) (up2 fun _ k => gm k) (up2 ct)
    = up2 (res X (dh4 (fun p k => G p (at0 k)) (fun p k => G p (at1 k)) (fun p k => G p (at2 k)) (fun p k => G p (at3 k)) W) ct gm) := by
  unfold out0_A_6
  rw [View.read_writes_eq_canon _ _ _ (cover0_A_6 c i arg1 h1 arg2 h2 arg3 h3 arg4 h4 arg5 h5 arg6 h6 arg7 h7 arg8 h8
    hc0 hc1 (up2 G) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rw [dh_up G W xw hW, pay6_up]

include hW in
theorem out_A_7 (hc0 hc1) : out0_A_7 (F := Ideal) c i arg1 h1 arg2 h2 arg3 h3 arg4 h4 arg5 h5 arg6 h6 arg7 h7 arg8 h8
      hc0 hc1 (up2 G) xw (up2 X) (up2 fun _ k => gm k) (up2 ct)
    = up2 (fun _ k => gsum X (dh4 (fun p k => G p (at0 k)) (fun p k => G p (at1 k)) (fun p k => G p (at2 k)) (fun p k => G p (at3 k)) W) k) := by
  unfold out0_A_7
  rw [View.read_writes_eq_canon _ _ _ (cover0_A_7 c i arg1 h1 arg2 h2 arg3 h3 arg4 h4 arg5 h5 arg6 h6 arg7 h7 arg8 h8
    hc0 hc1 (up2 G) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, View.ld_unit_zero (S := S512x1024) hz2, View.ld_unit_zero (S := S1x1024) hz2]
  rw [dh_up G W xw hW, pay3_up]

include hW in
theorem out_B_5 (hc0 hc1) : out0_B_5 (F := Ideal) c i arg1 h1 arg2 h2 arg3 h3 arg4 h4 arg5 h5 arg6 h6 arg7 h7 arg8 h8
      hc0 hc1 (up2 G) xw (up2 X) (up2 fun _ k => gm k) (up2 ct) (up2 v)
    = up2 (res X (dh4 (fun p k => G p (at0 k)) (fun p k => G p (at1 k)) (fun p k => G p (at2 k)) (fun p k => G p (at3 k)) W) ct gm) := by
  unfold out0_B_5
  rw [View.read_writes_eq_canon _ _ _ (cover0_B_5 c i arg1 h1 arg2 h2 arg3 h3 arg4 h4 arg5 h5 arg6 h6 arg7 h7 arg8 h8
    hc0 hc1 (up2 G) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2]
  rw [dh_up G W xw hW, pay5_up]

include hW in
theorem out_B_6 (hc0 hc1) : out0_B_6 (F := Ideal) c i arg1 h1 arg2 h2 arg3 h3 arg4 h4 arg5 h5 arg6 h6 arg7 h7 arg8 h8
      hc0 hc1 (up2 G) xw (up2 X) (up2 fun _ k => gm k) (up2 ct) (up2 v)
    = up2 (res X (dh4 (fun p k => G p (at0 k)) (fun p k => G p (at1 k)) (fun p k => G p (at2 k)) (fun p k => G p (at3 k)) W) ct gm) := by
  unfold out0_B_6
  rw [View.read_writes_eq_canon _ _ _ (cover0_B_6 c i arg1 h1 arg2 h2 arg3 h3 arg4 h4 arg5 h5 arg6 h6 arg7 h7 arg8 h8
    hc0 hc1 (up2 G) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2]
  rw [dh_up G W xw hW, pay6_up]

include hW in
theorem out_B_7 (hc0 hc1) : out0_B_7 (F := Ideal) c i arg1 h1 arg2 h2 arg3 h3 arg4 h4 arg5 h5 arg6 h6 arg7 h7 arg8 h8
      hc0 hc1 (up2 G) xw (up2 X) (up2 fun _ k => gm k) (up2 ct) (up2 v)
    = up2 (fun r k => v r k + gsum X (dh4 (fun p k => G p (at0 k)) (fun p k => G p (at1 k)) (fun p k => G p (at2 k)) (fun p k => G p (at3 k)) W) k) := by
  unfold out0_B_7
  rw [View.read_writes_eq_canon _ _ _ (cover0_B_7 c i arg1 h1 arg2 h2 arg3 h3 arg4 h4 arg5 h5 arg6 h6 arg7 h7 arg8 h8
    hc0 hc1 (up2 G) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h8.read_unread, View.ld_unit_zero (S := S512x1024) hz2, View.ld_unit_zero (S := S1x1024) hz2]
  rw [dh_up G W xw hW, pay4_up]

end Tile

/-! ## The arrays the call is given -/

section Launch

variable (G : Fin 8192 → Fin 4096 → ℝ) (W3 : Fin 2 → Fin 1024 → Fin 4096 → ℝ) (X ct : Fin 8192 → Fin 1024 → ℝ) (gm : Fin 1024 → ℝ)

/-- The weight of the first layer. -/
def wt (W3 : Fin 2 → Fin 1024 → Fin 4096 → ℝ) : Fin 1024 → Fin 4096 → ℝ := W3 0

/-- The gradient that reaches the norm's output. -/
def dz : Fin 8192 → Fin 1024 → ℝ :=
  dh4 (fun p k => G p (at0 k)) (fun p k => G p (at1 k)) (fun p k => G p (at2 k)) (fun p k => G p (at3 k)) (wt W3)

variable (m : (ℓ : Loc nD τ sig) → Buf (Elt Ideal) ℓ) (c : Dev nD)

/-- At the start the arguments hold these real arrays. -/
structure Holds : Prop where
  a0 : m ((c : Thread nD τ).loc main_arg0) = up2 G
  a1 : m ((c : Thread nD τ).loc main_arg1) = up3 W3
  a2 : m ((c : Thread nD τ).loc main_arg2) = up2 X
  a3 : m ((c : Thread nD τ).loc main_arg3) = up1 gm
  a4 : m ((c : Thread nD τ).loc main_arg4) = up2 ct

variable (H : Holds G W3 X ct gm m c)

include H in
theorem v0_eq : V m c main_v0 = up2 G := by
  unfold_abbrev_sides
  after_results
  rw [H.a0]; rfl

include H in
theorem v4_eq : V m c main_v4 = up2 fun _ k => gm k := by
  unfold_abbrev_sides
  after_results
  rw [H.a3]; exact as_row _ _ rfl _

include H in
theorem v3_apply (s : Fin 4) (r k : Fin 1024) :
    (V m c main_v3 : FVec Ideal S4x2x1024x1024 .bf16) (ix4 s (0 : Fin 2) r k) = ((wt W3 r ⟨s.val * 1024 + k.val, by omega⟩ : ℝ) : EReal) := by
  have e : V m c main_v3 = transpose S4x2x1024x1024 [2, 0, 1, 3]
      (shapeCast S2x1024x4x1024 (up3 W3 : FVec Ideal S2x1024x4096 .bf16) shapeCasts_S2x1024x4096_S2x1024x4x1024) transposes_S2x1024x4x1024_S4x2x1024x1024_2_0_1_3 := by
    unfold_abbrev_sides
    after_results
    rw [H.a1]; rfl
  rw [e]
  refine (transpose_apply _ _ _ _ (ix4 (0 : Fin 2) r s k) fun b => match b with
    | ⟨0, _⟩ => rfl
    | ⟨1, _⟩ => rfl
    | ⟨2, _⟩ => rfl
    | ⟨3, _⟩ => rfl).trans ?_
  exact (shapeCast_apply _ _ _ (ix3 (0 : Fin 2) r (⟨s.val * 1024 + k.val, by omega⟩ : Fin 4096)) (by
    rewrite [Shape.rowMajor_val_four, Shape.rowMajor_val_three]
    show (0 * 1024 + r.val) * 4096 + (s.val * 1024 + k.val) = ((0 * 1024 + r.val) * 4 + s.val) * 1024 + k.val
    omega)).trans rfl

theorem idx0 (t : Fin cfg0.N) : win0_0.index t 0 = t.val ∧ win0_0.index t 1 = 0 :=
  (by decide +kernel : ∀ t : Fin grid0.N, win0_0.index t 0 = t.val ∧ win0_0.index t 1 = 0) t

include H in
theorem blk0 (t : Fin cfg0.N) : (iblk m c 0 t : Vec Ideal S512x4096 .bf16) = up2 fun p k => G (rowAt t.val p) k := by
  have hi := idx0 t
  funext j
  unfold iblk
  rw [View.read_apply]
  show V m c main_v0 _ = _
  rw [v0_eq G W3 X ct gm m c H]
  obtain ⟨p, k, rfl⟩ : ∃ p k, j = ix2 p k := ⟨j 0, j 1, eq_ix2 j⟩
  show ((G _ _ : ℝ) : EReal) = ((G _ _ : ℝ) : EReal)
  congr 3
  · apply Fin.ext
    rw [rowAt_val _ t.isLt]
    show win0_0.index t 0 * 512 + 1 * p.val = t.val * 512 + p.val
    rw [hi.1]; omega
  · apply Fin.ext
    show win0_0.index t 1 * 4096 + 1 * k.val = k.val
    rw [hi.2]; omega

theorem idx2 (t : Fin cfg0.N) : win0_2.index t 0 = t.val ∧ win0_2.index t 1 = 0 :=
  (by decide +kernel : ∀ t : Fin grid0.N, win0_2.index t 0 = t.val ∧ win0_2.index t 1 = 0) t

include H in
theorem blk2 (t : Fin cfg0.N) : (iblk m c 2 t : Vec Ideal S512x1024 .f32) = up2 fun p k => X (rowAt t.val p) k := by
  have hi := idx2 t
  funext j
  unfold iblk
  rw [View.read_apply]
  show V m c main_arg2 _ = _
  rw [V_main_arg2, H.a2]
  obtain ⟨p, k, rfl⟩ : ∃ p k, j = ix2 p k := ⟨j 0, j 1, eq_ix2 j⟩
  show ((X _ _ : ℝ) : EReal) = ((X _ _ : ℝ) : EReal)
  congr 3
  · apply Fin.ext
    rw [rowAt_val _ t.isLt]
    show win0_2.index t 0 * 512 + 1 * p.val = t.val * 512 + p.val
    rw [hi.1]; omega
  · apply Fin.ext
    show win0_2.index t 1 * 1024 + 1 * k.val = k.val
    rw [hi.2]; omega

theorem idx4 (t : Fin cfg0.N) : win0_4.index t 0 = t.val ∧ win0_4.index t 1 = 0 :=
  (by decide +kernel : ∀ t : Fin grid0.N, win0_4.index t 0 = t.val ∧ win0_4.index t 1 = 0) t

include H in
theorem blk4 (t : Fin cfg0.N) : (iblk m c 4 t : Vec Ideal S512x1024 .f32) = up2 fun p k => ct (rowAt t.val p) k := by
  have hi := idx4 t
  funext j
  unfold iblk
  rw [View.read_apply]
  show V m c main_arg4 _ = _
  rw [V_main_arg4, H.a4]
  obtain ⟨p, k, rfl⟩ : ∃ p k, j = ix2 p k := ⟨j 0, j 1, eq_ix2 j⟩
  show ((ct _ _ : ℝ) : EReal) = ((ct _ _ : ℝ) : EReal)
  congr 3
  · apply Fin.ext
    rw [rowAt_val _ t.isLt]
    show win0_4.index t 0 * 512 + 1 * p.val = t.val * 512 + p.val
    rw [hi.1]; omega
  · apply Fin.ext
    show win0_4.index t 1 * 1024 + 1 * k.val = k.val
    rw [hi.2]; omega

include H in
theorem blk3 (t : Fin cfg0.N) : (iblk m c 3 t : Vec Ideal S1x1024 .f32) = up2 fun _ k => gm k := by
  funext j
  unfold iblk
  rw [View.read_apply]
  show V m c main_v4 _ = _
  rw [v4_eq G W3 X ct gm m c H]
  obtain ⟨p, k, rfl⟩ : ∃ p k, j = ix2 p k := ⟨j 0, j 1, eq_ix2 j⟩
  show ((gm _ : ℝ) : EReal) = ((gm _ : ℝ) : EReal)
  congr 2
  apply Fin.ext
  show 0 * 1024 + 1 * k.val = k.val
  omega

include H in
theorem blkw (t : Fin cfg0.N) (s : Fin 4) (r k : Fin 1024) :
    (iblk m c 1 t : Vec Ideal S4x1x1024x1024 .bf16) (ix4 s (0 : Fin 1) r k) = ((wt W3 r ⟨s.val * 1024 + k.val, by omega⟩ : ℝ) : EReal) := by
  refine Eq.trans ?_ (v3_apply G W3 X ct gm m c H s r k)
  unfold iblk
  rw [View.read_apply]
  show V m c main_v3 _ = _
  refine congrArg (V m c main_v3) (funext fun x => Fin.ext ?_)
  match x with
  | ⟨0, _⟩ => show 0 * 4 + 1 * s.val = s.val; omega
  | ⟨1, _⟩ => rfl
  | ⟨2, _⟩ => show 0 * 1024 + 1 * r.val = r.val; omega
  | ⟨3, _⟩ => show 0 * 1024 + 1 * k.val = k.val; omega

/-! ## What the call leaves -/

/-- What block `t` adds to the gradient of the norm's scale. -/
def part (t : ℕ) (k : Fin 1024) : ℝ := gsum (fun p => X (rowAt t p)) (fun p => dz G W3 (rowAt t p)) k

theorem sum_part (k : Fin 1024) : ∑ t ∈ Finset.range 16, part G W3 X t k = gsum X (dz G W3) k :=
  sum_blocks fun q => dz G W3 q k * hat (X q) k

include H in
theorem outs_eq : ∀ (n : ℕ) (h : n < cfg0.N), outsAt0 m c n h
    = (up2 fun p k => res X (dz G W3) ct gm (rowAt n p) k, up2 fun p k => res X (dz G W3) ct gm (rowAt n p) k,
        up2 fun _ k => ∑ t ∈ Finset.range (n + 1), part G W3 X t k)
  | 0, h => by
    have e := outsAt0_A m c ⟨0, h⟩ rfl (by show ¬1 ≤ 0; omega)
    rw [blk0 G W3 X ct gm m c H, blk2 G W3 X ct gm m c H, blk3 G W3 X ct gm m c H, blk4 G W3 X ct gm m c H,
      out_A_5 (hW := blkw G W3 X ct gm m c H _), out_A_6 (hW := blkw G W3 X ct gm m c H _), out_A_7 (hW := blkw G W3 X ct gm m c H _)] at e
    refine e.trans ?_
    simp only [Nat.zero_add, Finset.sum_range_one]
    rfl
  | n + 1, h => by
    have hN : cfg0.N = 16 := N_0
    have e := outsAt0_B m c ⟨n + 1, h⟩ (by show ¬(n + 1) % 16 = 0; omega) (by show 1 ≤ n + 1; omega)
    have ih : outsAt0 m c (n + 1 - 1) (Nat.lt_of_le_of_lt (Nat.sub_le _ _) h) = _ := outs_eq n (Nat.lt_of_succ_lt h)
    dsimp only at e
    rw [ih, blk0 G W3 X ct gm m c H, blk2 G W3 X ct gm m c H, blk3 G W3 X ct gm m c H, blk4 G W3 X ct gm m c H,
      out_B_5 (hW := blkw G W3 X ct gm m c H _), out_B_6 (hW := blkw G W3 X ct gm m c H _), out_B_7 (hW := blkw G W3 X ct gm m c H _)] at e
    refine e.trans ?_
    simp only [Finset.sum_range_succ _ (n + 1)]
    rfl

theorem idxo (t : Fin cfg0.N) : win0_5.index t 0 = t.val ∧ win0_5.index t 1 = 0 :=
  (by decide +kernel : ∀ t : Fin grid0.N, win0_5.index t 0 = t.val ∧ win0_5.index t 1 = 0) t

theorem idxo2 (t : Fin cfg0.N) : win0_6.index t 0 = t.val ∧ win0_6.index t 1 = 0 :=
  (by decide +kernel : ∀ t : Fin grid0.N, win0_6.index t 0 = t.val ∧ win0_6.index t 1 = 0) t

include H in
theorem final5 : (dats m 0 c).arrAt 5 cfg0.N = up2 (res X (dz G W3) ct gm) :=
  (dats m 0 c).arrAt_eq_of_cover 5 (up2 (res X (dz G W3) ct gm)) (fun t _ => by
    have hi := idxo t
    rw [Value.flushed5, outs_eq G W3 X ct gm m c H]
    funext j
    rw [View.read_apply]
    obtain ⟨p, k, rfl⟩ : ∃ p k, j = ix2 p k := ⟨j 0, j 1, eq_ix2 j⟩
    show ((res X (dz G W3) ct gm (rowAt t.val p) k : ℝ) : EReal) = ((res X (dz G W3) ct gm _ _ : ℝ) : EReal)
    congr 2
    · apply Fin.ext
      rw [rowAt_val _ t.isLt]
      show t.val * 512 + p.val = win0_5.index t 0 * 512 + 1 * p.val
      rw [hi.1]; omega
    · apply Fin.ext
      show k.val = win0_5.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idxo ⟨(i 0 : Nat) / 512, ht⟩
    refine ⟨⟨(i 0 : Nat) / 512, ht⟩, flush0_5 _, ?_⟩
    show i ∈ ((View.whole main_v5_0).slice (win0_5.rect ⟨(i 0 : Nat) / 512, ht⟩)).set
    rw [View.set_slice_whole, Rect.mem_set_unit]
    intro x
    match x with
    | ⟨0, _⟩ =>
      show win0_5.index _ 0 * 512 ≤ (i 0 : Nat) ∧ (i 0 : Nat) < win0_5.index _ 0 * 512 + 512
      rw [hi.1]; dsimp only; omega
    | ⟨1, _⟩ =>
      show win0_5.index _ 1 * 1024 ≤ (i 1 : Nat) ∧ (i 1 : Nat) < win0_5.index _ 1 * 1024 + 1024
      rw [hi.2]; omega

include H in
theorem final6 : (dats m 0 c).arrAt 6 cfg0.N = up2 (res X (dz G W3) ct gm) :=
  (dats m 0 c).arrAt_eq_of_cover 6 (up2 (res X (dz G W3) ct gm)) (fun t _ => by
    have hi := idxo2 t
    rw [Value.flushed6, outs_eq G W3 X ct gm m c H]
    funext j
    rw [View.read_apply]
    obtain ⟨p, k, rfl⟩ : ∃ p k, j = ix2 p k := ⟨j 0, j 1, eq_ix2 j⟩
    show ((res X (dz G W3) ct gm (rowAt t.val p) k : ℝ) : EReal) = ((res X (dz G W3) ct gm _ _ : ℝ) : EReal)
    congr 2
    · apply Fin.ext
      rw [rowAt_val _ t.isLt]
      show t.val * 512 + p.val = win0_6.index t 0 * 512 + 1 * p.val
      rw [hi.1]; omega
    · apply Fin.ext
      show k.val = win0_6.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idxo2 ⟨(i 0 : Nat) / 512, ht⟩
    refine ⟨⟨(i 0 : Nat) / 512, ht⟩, flush0_6 _, ?_⟩
    show i ∈ ((View.whole main_v5_1).slice (win0_6.rect ⟨(i 0 : Nat) / 512, ht⟩)).set
    rw [View.set_slice_whole, Rect.mem_set_unit]
    intro x
    match x with
    | ⟨0, _⟩ =>
      show win0_6.index _ 0 * 512 ≤ (i 0 : Nat) ∧ (i 0 : Nat) < win0_6.index _ 0 * 512 + 512
      rw [hi.1]; dsimp only; omega
    | ⟨1, _⟩ =>
      show win0_6.index _ 1 * 1024 ≤ (i 1 : Nat) ∧ (i 1 : Nat) < win0_6.index _ 1 * 1024 + 1024
      rw [hi.2]; omega

include H in
theorem final7 : (dats m 0 c).arrAt 7 cfg0.N = up2 fun _ k => gsum X (dz G W3) k :=
  (dats m 0 c).arrAt_eq_of_cover 7 (up2 fun _ k => gsum X (dz G W3) k) (fun t hf => by
    have hN : cfg0.N = 16 := N_0
    have h15 : t.val = 15 := by have := (flush0_7 t).mp hf; have := t.isLt; omega
    rw [Value.flushed7, outs_eq G W3 X ct gm m c H]
    funext j
    rw [View.read_apply]
    obtain ⟨r, k, rfl⟩ : ∃ r k, j = ix2 r k := ⟨j 0, j 1, eq_ix2 j⟩
    show ((∑ s ∈ Finset.range (t.val + 1), part G W3 X s k : ℝ) : EReal) = ((gsum X (dz G W3) _ : ℝ) : EReal)
    rw [h15, sum_part]
    congr 2
    apply Fin.ext
    show k.val = 0 * 1024 + 1 * k.val
    omega) fun i => by
    have hN : cfg0.N = 16 := N_0
    have h0 : (i 0 : Nat) < 1 := (i 0).isLt
    have h1 : (i 1 : Nat) < 1024 := (i 1).isLt
    have ht : 15 < cfg0.N := by omega
    refine ⟨⟨15, ht⟩, (flush0_7 _).mpr rfl, ?_⟩
    show i ∈ ((View.whole main_v5_2).slice (win0_7.rect ⟨15, ht⟩)).set
    rw [View.set_slice_whole, Rect.mem_set_unit]
    intro x
    match x with
    | ⟨0, _⟩ => show 0 * 1 ≤ (i 0 : Nat) ∧ (i 0 : Nat) < 0 * 1 + 1; omega
    | ⟨1, _⟩ => show 0 * 1024 ≤ (i 1 : Nat) ∧ (i 1 : Nat) < 0 * 1024 + 1024; omega

end Launch

/-! ## The plain program -/

section Reference

open Cert.Reference5Ideal Cert.Reference5Ideal.Gen Cert.Reference5Ideal.Read

variable (G : Fin 8192 → Fin 4096 → ℝ) (W3 : Fin 2 → Fin 1024 → Fin 4096 → ℝ) (X ct : Fin 8192 → Fin 1024 → ℝ) (gm : Fin 1024 → ℝ)

theorem v6_up : val_main_v6 (F := Ideal) (up2 X) = up2 (fun p _ => ms (X p)) := by
  simp only [val_main_v6, val_main_v0, val_main_v1, val_main_v2, val_main_v3, val_main_v4, val_main_v5, val_main_cst, val_main_cst_0, val_main_cst_1,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  simp only [ms, Nat.cast_ofNat]

theorem v7_up : val_main_v7 (F := Ideal) (up2 X) = up2 (fun p _ => rt (X p)) := by
  simp only [val_main_v7, val_main_v7, v6_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | skip

theorem v10_up : val_main_v10 (F := Ideal) (up2 X) = up2 (fun p _ => -(1 / 2) * (rt (X p) / ms (X p))) := by
  simp only [val_main_v10, val_main_v8, val_main_v9, val_main_cst_2, v7_up, v6_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | skip

theorem v12_up : val_main_v12 (F := Ideal) (up2 X) = up2 (fun p k => hat (X p) k) := by
  simp only [val_main_v12, val_main_v11, v7_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | simp only [hat]

theorem w_apply (j : Fin 1024) (k : Fin 4096) : val_main_v17 (F := Ideal) (up3 W3) (ix2 j k) = ((wt W3 j k : ℝ) : EReal) := by
  rw [val_main_v17_apply, val_main_v16_apply]
  show ((W3 _ _ _ : ℝ) : EReal) = ((W3 _ _ _ : ℝ) : EReal)
  congr 4
  · apply Fin.ext
    show (j.val * 4096 + k.val) / 4096 % 1024 = j.val
    have := j.isLt; have := k.isLt; omega
  · apply Fin.ext
    show (j.val * 4096 + k.val) % 4096 = k.val
    have := j.isLt; have := k.isLt; omega

theorem v19_up : val_main_v19 (F := Ideal) (up2 G) (up3 W3) = up2 (dz G W3) := by
  funext i
  obtain ⟨p, j, rfl⟩ : ∃ p j, i = ix2 p j := ⟨i 0, i 1, eq_ix2 i⟩
  rw [val_main_v19_apply]
  have e1 : ∀ q : Fin 4096, lidx_main_v19 (ix2 p j) q = ix2 p q := fun q => by
    funext x; apply Fin.ext; fin_cases x <;> rfl
  have e2 : ∀ q : Fin 4096, ridx_main_v19 (ix2 p j) q = ix2 j q := fun q => by
    funext x; apply Fin.ext; fin_cases x <;> rfl
  have e : ∀ q : Fin 4096, (up2 G (ix2 p q) : EReal) * val_main_v17 (F := Ideal) (up3 W3) (ix2 j q)
      = ((G p q * wt W3 j q : ℝ) : EReal) := fun q => by
    rw [w_apply]; exact (EReal.coe_mul _ _).symm
  simp only [e1, e2]
  refine (Finset.sum_congr rfl fun q _ => e q).trans ?_
  rw [← coe_sum, sum_four]
  rfl

theorem v25_up : val_main_v25 (F := Ideal) (up2 G) (up3 W3) (up2 X) = up1 (fun k => gsum X (dz G W3) k) := by
  simp only [val_main_v25, val_main_v22, val_main_v21, val_main_v20, val_main_cst_3, val_main_cst_4, v12_up, v19_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | (refine congrArg up1 (funext fun k => Finset.sum_congr rfl fun p _ => ?_); exact mul_comm _ _)

theorem v40_up : val_main_v40 (F := Ideal) (up2 G) (up3 W3) (up2 X) (up1 gm) (up2 ct) = up2 (res X (dz G W3) ct gm) := by
  simp only [val_main_v40, val_main_v38, val_main_v31, val_main_v30, val_main_v24, val_main_v23, val_main_v13, val_main_v29, val_main_v37, val_main_v36, val_main_v35, val_main_v34, val_main_v32, val_main_v28, val_main_v27, val_main_v26, val_main_v33, val_main_v39, val_main_cst_5, val_main_cst_6, val_main_cst_7, v19_up, v7_up, v10_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  rw [show res X (dz G W3) ct gm = fun p k => ct p k + rmsB (X p) (fun k => dz G W3 p k * gm k) k from rfl]
  simp only [rmsB_chain, Nat.cast_ofNat]
  refine congrArg up2 (funext fun p => funext fun k => ?_)
  ring

theorem v41_up : val_main_v41 (F := Ideal) (up2 G) (up3 W3) (up2 X) (up1 gm) (up2 ct) = up2 (res X (dz G W3) ct gm) :=
  v40_up G W3 X ct gm

theorem v42_up : val_main_v42 (F := Ideal) (up2 G) (up3 W3) (up2 X) = up2 (fun _ k => gsum X (dz G W3) k) := by
  simp only [val_main_v42, v25_up, as_row]

end Reference

/-! ## The claim -/

theorem args_real [Cert.Pre_finite5.Facts] (x0 : FVec Ideal Cert.Pre_finite5.S8192x4096 .f32)
    (x1 : FVec Ideal Cert.Pre_finite5.S2x1024x4096 .f32)
    (x2 : FVec Ideal Cert.Pre_finite5.S8192x1024 .f32)
    (x3 : FVec Ideal Cert.Pre_finite5.S1024 .f32)
    (x4 : FVec Ideal Cert.Pre_finite5.S8192x1024 .f32)
    (h : Cert.Pre_finite5.fn (F := Ideal) x0 x1 x2 x3 x4 = fun _ => 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i) ∧ (∀ i, ((EReal.toReal (x3 i) : ℝ) : EReal) = x3 i) ∧ (∀ i, ((EReal.toReal (x4 i) : ℝ) : EReal) = x4 i) := by
  have e := fun p => congrFun h (ix1 p)
  unfold Cert.Pre_finite5.fn Cert.Pre_finite5.fn_part1 at e
  dsimp only at e
  refine ⟨?_, ?_, ?_, ?_, ?_⟩
  · exact Cert.Finite.all_real x0 _ _ _ _ _ ((Cert.Finite.piece _ _ 0 (Nat.le_of_ble_eq_true rfl) _ _ rfl rfl (Nat.le_of_ble_eq_true rfl)).symm.trans (e 0))
  · exact Cert.Finite.all_real x1 _ _ _ _ _ ((Cert.Finite.piece _ _ 1 (Nat.le_of_ble_eq_true rfl) _ _ rfl rfl (Nat.le_of_ble_eq_true rfl)).symm.trans (e 1))
  · exact Cert.Finite.all_real x2 _ _ _ _ _ ((Cert.Finite.piece _ _ 2 (Nat.le_of_ble_eq_true rfl) _ _ rfl rfl (Nat.le_of_ble_eq_true rfl)).symm.trans (e 2))
  · exact Cert.Finite.all_real x3 _ _ _ _ _ ((Cert.Finite.piece _ _ 3 (Nat.le_of_ble_eq_true rfl) _ _ rfl rfl (Nat.le_of_ble_eq_true rfl)).symm.trans (e 3))
  · exact Cert.Finite.all_real x4 _ _ _ _ _ ((Cert.Finite.piece _ _ 4 (Nat.le_of_ble_eq_true rfl) _ _ rfl rfl (Nat.le_of_ble_eq_true rfl)).symm.trans (e 4))

/-- Under the precondition the arguments are images of real arrays. -/
theorem holds [Cert.Pre_finite5.Facts] (m : (ℓ : Loc nD τ sig) → Buf (Elt Ideal) ℓ)
    (hp : Pre_Kernel5Ideal_finite5 m) (c : Dev nD) : ∃ (G : Fin 8192 → Fin 4096 → ℝ) (W3 : Fin 2 → Fin 1024 → Fin 4096 → ℝ) (X ct : Fin 8192 → Fin 1024 → ℝ) (gm : Fin 1024 → ℝ), Holds G W3 X ct gm m c := by
  obtain ⟨h0, h1, h2, h3, h4⟩ := args_real _ _ _ _ _ (hp c)
  exact ⟨_, _, _, _, _, ⟨Cert.Finite.matrix _ h0, cube _ h1, Cert.Finite.matrix _ h2, Cert.Finite.vector _ h3, Cert.Finite.matrix _ h4⟩⟩

/-- The reference ends with its arguments as they were; it has no semaphore. -/
theorem frame : quiescent_Reference5Ideal (hReference5Ideal := Cert.Reference5Ideal.Gen.facts) := fun m g _ =>
  (θ_run Cert.Reference5Ideal.defs _ _).mono (fun r h => ⟨fun c => (h c).2.2.2, sem_eq_zero_of_no_sems (by decide) r.2⟩) (Cert.Reference5Ideal.Value.run m g)

/-- The same under the precondition. -/
theorem frame_finite [Cert.Pre_finite5.Facts] :
    quiescent_Reference5Ideal_pre_finite5 (hReference5Ideal := Cert.Reference5Ideal.Gen.facts) := fun m g _ =>
  (θ_run Cert.Reference5Ideal.defs _ _).mono (fun r h => ⟨fun c => (h c).2.2.2, sem_eq_zero_of_no_sems (by decide) r.2⟩) (Cert.Reference5Ideal.Value.run m g)

theorem algebraic [Cert.Pre_finite5.Facts] :
    algebraic_Kernel5Ideal_Reference5Ideal_pre_finite5 (hKernel5Ideal := Cert.Kernel5Ideal.Gen.facts) (hReference5Ideal := Cert.Reference5Ideal.Gen.facts) := by
  intro m g m' g' hp hargs
  refine ⟨fun c => (dats m 0 c).arrAt 5 cfg0.N, fun c => (dats m 0 c).arrAt 6 cfg0.N, fun c => (dats m 0 c).arrAt 7 cfg0.N, Cert.Kernel5Ideal.Value.run_blocks m g, ?_⟩
  refine (θ_run Cert.Reference5Ideal.defs _ _).mono (fun r h c => ?_) (Cert.Reference5Ideal.Value.run m' g')
  obtain ⟨G, W3, X, ct, gm, H⟩ := holds m hp c
  obtain ⟨e0, e1, e2, e3, e4⟩ := hargs c
  obtain ⟨r0, r1, r2, k⟩ := h c
  have a0 : m' ((c.tc : Thread Cert.Reference5Ideal.nD Cert.Reference5Ideal.τ).loc Cert.Reference5Ideal.main_arg0) = up2 G := e0.trans H.a0
  have a1 : m' ((c.tc : Thread Cert.Reference5Ideal.nD Cert.Reference5Ideal.τ).loc Cert.Reference5Ideal.main_arg1) = up3 W3 := e1.trans H.a1
  have a2 : m' ((c.tc : Thread Cert.Reference5Ideal.nD Cert.Reference5Ideal.τ).loc Cert.Reference5Ideal.main_arg2) = up2 X := e2.trans H.a2
  have a3 : m' ((c.tc : Thread Cert.Reference5Ideal.nD Cert.Reference5Ideal.τ).loc Cert.Reference5Ideal.main_arg3) = up1 gm := e3.trans H.a3
  have a4 : m' ((c.tc : Thread Cert.Reference5Ideal.nD Cert.Reference5Ideal.τ).loc Cert.Reference5Ideal.main_arg4) = up2 ct := e4.trans H.a4
  refine ⟨r0.trans ?_, r1.trans ?_, r2.trans ?_, k⟩
  · refine (Cert.Reference5Ideal.Read.val_main_v40_eq m' c).trans ?_
    rw [a0, a1, a2, a3, a4]
    exact (v40_up G W3 X ct gm).trans (final5 G W3 X ct gm m c H).symm
  · refine (Cert.Reference5Ideal.Read.val_main_v41_eq m' c).trans ?_
    rw [a0, a1, a2, a3, a4]
    exact (v41_up G W3 X ct gm).trans (final6 G W3 X ct gm m c H).symm
  · refine (Cert.Reference5Ideal.Read.val_main_v42_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))).trans ?_
    rw [a0, a1, a2]
    exact (v42_up G W3 X).trans (final7 G W3 X ct gm m c H).symm

end Cert.MlpIn

end
-- ==== Proof.GwOut.lean ====
/- The gradient of the mixer's output weights: the product of the activations, transposed, with the incoming gradient,
   added up over the blocks of rows, index by index over the extended reals; no precondition. -/
module

public import proofs.«01_k».proof.Proof.Sums
public import proofs.«01_k».proof.Defs
public import proofs.«01_k».proof.Proof.Gen.Kernel6Ideal.Value
public import proofs.«01_k».proof.Proof.Gen.Reference6Ideal.Read

@[expose] public section

set_option maxRecDepth 16384

noncomputable section

namespace Cert.GwOut

open Idealize.ShloMosaic Idealize.ShloMosaic.ValueIdx Idealize.ShloMosaic.TcCoe Idealize.SL.Sem
open Cert.Rows Cert.Kernel6Ideal Cert.Kernel6Ideal.Gen
open Idealize.ShloMosaic.Pipeline (Dat)

/-- What the body does to an element of the activations before the product. -/
def act (u : EReal) : EReal := u

/-! ## The body at one point -/

/-- One block's product. -/
def prod (x : FVec Ideal S2048x1024 .bf16) (y : FVec Ideal S2048x1024 .bf16) (p q : Fin 1024) : EReal :=
  ∑ r : Fin 2048, act (x (ix2 r p)) * y (ix2 r q)

theorem pay1_apply (x y : FVec Ideal S2048x1024 .bf16) (p q : Fin 1024) : k0_pay1 (F := Ideal) x y (ix2 p q) = prod x y p q := by
  have e : dot_S2048x1024_S2048x1024_S1024x1024_0_0_1_1_n_n = tnDims 1024 1024 2048 dot_S2048x1024_S2048x1024_S1024x1024_0_0_1_1_n_n_wf := rfl
  unfold k0_pay1
  simp only [matmul, shapeCast_self]
  rw [e]
  exact tn_apply (φ₁ := .bf16) (φ₂ := .bf16) dot_S2048x1024_S2048x1024_S1024x1024_0_0_1_1_n_n_wf none _ y p q

/-- Row `p` of the `a`-th of four slabs of rows. -/
def slabRow (a : Fin 4) (p : Fin 256) : Fin 1024 := ⟨a.val * 256 + p.val, by omega⟩

theorem slabs_apply (v : FVec Ideal S1024x1024 .f32) (h) (a : Fin 4) (p : Fin 256) (q : Fin 1024) :
    shapeCast S4x256x1024 v h (ix3 a p q) = v (ix2 (slabRow a p) q) :=
  shapeCast_apply v h _ _ (by rewrite [Shape.rowMajor_val_two, Shape.rowMajor_val_three]; rfl)

theorem lead_apply (v : FVec Ideal S4x256x1024 .f32) (h) (a : Fin 4) (p : Fin 256) (q : Fin 1024) :
    shapeCast S4x1x256x1024 v h (ix4 a (0 : Fin 1) p q) = v (ix3 a p q) :=
  shapeCast_apply v h _ _ (by
    rewrite [Shape.rowMajor_val_four, Shape.rowMajor_val_three]
    show (a.val * 256 + p.val) * 1024 + q.val = ((a.val * 1 + 0) * 256 + p.val) * 1024 + q.val
    omega)

theorem unlead_apply (v : FVec Ideal S4x1x256x1024 .f32) (h) (a : Fin 4) (p : Fin 256) (q : Fin 1024) :
    shapeCast S4x256x1024 v h (ix3 a p q) = v (ix4 a (0 : Fin 1) p q) :=
  shapeCast_apply v h _ _ (by
    rewrite [Shape.rowMajor_val_four, Shape.rowMajor_val_three]
    show ((a.val * 1 + 0) * 256 + p.val) * 1024 + q.val = (a.val * 256 + p.val) * 1024 + q.val
    omega)

theorem pay2_apply (x y : FVec Ideal S2048x1024 .bf16) (a : Fin 4) (p : Fin 256) (q : Fin 1024) :
    k0_pay2 (F := Ideal) x y (ix4 a (0 : Fin 1) p q) = prod x y (slabRow a p) q := by
  unfold k0_pay2
  refine (lead_apply _ _ a p q).trans ?_
  refine (congrArg₂ (· + ·) ((slabs_apply _ _ a p q).trans (pay1_apply x y _ q)) (Ideal.ofBits_zero_f32)).trans ?_
  exact add_zero _

theorem pay3_apply (x y : FVec Ideal S2048x1024 .bf16) (v : FVec Ideal S4x1x256x1024 .f32) (a : Fin 4) (p : Fin 256) (q : Fin 1024) :
    k0_pay3 (F := Ideal) x y v (ix4 a (0 : Fin 1) p q) = prod x y (slabRow a p) q + v (ix4 a (0 : Fin 1) p q) := by
  unfold k0_pay3
  refine (lead_apply _ _ a p q).trans ?_
  exact congrArg₂ (· + ·) ((slabs_apply _ _ a p q).trans (pay1_apply x y _ q)) (unlead_apply v _ a p q)

theorem hz2 : (![0, 0] : Fin 2 → ℕ) = fun _ => 0 := by funext a; match a with | ⟨0, _⟩ => rfl | ⟨1, _⟩ => rfl

theorem hz4 : (![0, 0, 0, 0] : Fin 4 → ℕ) = fun _ => 0 := by
  funext a; match a with | ⟨0, _⟩ => rfl | ⟨1, _⟩ => rfl | ⟨2, _⟩ => rfl | ⟨3, _⟩ => rfl

section Tile

variable (c : Dev nD) (i : grid0.Coords) (arg3 : Memref sig .tc .vmem S2048x1024 .bf16) (h3 : arg3.IsWhole) (arg4 : Memref sig .tc .vmem S2048x1024 .bf16) (h4 : arg4.IsWhole)
  (arg5 : Memref sig .tc .vmem S4x1x256x1024 .f32) (h5 : arg5.IsWhole) (x0 x1 : Vec Ideal S2048x1024 .bf16) (xo : Vec Ideal S4x1x256x1024 .f32)

theorem out_A (hc0 hc1) : out0_A_2 (F := Ideal) c i arg3 h3 arg4 h4 arg5 h5 hc0 hc1 x0 x1 = k0_pay2 (F := Ideal) x0 x1 := by
  unfold out0_A_2
  rw [View.read_writes_eq_canon _ _ _ (cover0_A_2 c i arg3 h3 arg4 h4 arg5 h5 hc0 hc1 x0 x1)]
  unfold kernelRun0_A
  dsimp only
  sl_unfold_words
  rw [View.canon_unit_zero hz4]
  simp only [View.readAt_eq_ld, h3.read_unread, h4.read_unread, View.ld_unit_zero (S := S2048x1024) hz2]

theorem out_B (hc0 hc1) : out0_B_2 (F := Ideal) c i arg3 h3 arg4 h4 arg5 h5 hc0 hc1 x0 x1 xo = k0_pay3 (F := Ideal) x0 x1 xo := by
  unfold out0_B_2
  rw [View.read_writes_eq_canon _ _ _ (cover0_B_2 c i arg3 h3 arg4 h4 arg5 h5 hc0 hc1 x0 x1 xo)]
  unfold kernelRun0_B
  dsimp only
  sl_unfold_words
  rw [View.canon_unit_zero hz4]
  simp only [View.readAt_eq_ld, h3.read_unread, h4.read_unread, h5.read_unread, View.ld_unit_zero (S := S2048x1024) hz2, View.ld_unit_zero (S := S4x1x256x1024) hz4]

end Tile

variable (m : (ℓ : Loc nD τ sig) → Buf (Elt Ideal) ℓ) (c : Dev nD)

/-- The two arguments as they are at the start. -/
abbrev X : FVec Ideal S8192x1024 .f32 := m ((c : Thread nD τ).loc main_arg0)
abbrev Y : FVec Ideal S8192x1024 .f32 := m ((c : Thread nD τ).loc main_arg1)

theorem v0_eq : (V m c main_v0 : FVec Ideal S8192x1024 .bf16) = X m c := by
  unfold_abbrev_sides
  after_results
  rfl

theorem v1_eq : (V m c main_v1 : FVec Ideal S8192x1024 .bf16) = Y m c := by
  unfold_abbrev_sides
  after_results
  rfl

/-- Row `r` of block `s` of the rows. -/
def rowAt (s : ℕ) (r : Fin 2048) : Fin 8192 := ⟨(s * 2048 + r.val) % 8192, Nat.mod_lt _ (by norm_num)⟩

theorem rowAt_val (s : ℕ) (h : s < 4) (r : Fin 2048) : (rowAt s r).val = s * 2048 + r.val :=
  Nat.mod_eq_of_lt (by have := r.isLt; omega)

/-- Column `p` of block `b` of the columns. -/
def wideAt (b : ℕ) (p : Fin 1024) : Fin 4096 := ⟨(b * 1024 + p.val) % 4096, Nat.mod_lt _ (by norm_num)⟩

theorem wideAt_val (b : ℕ) (h : b < 4) (p : Fin 1024) : (wideAt b p).val = b * 1024 + p.val :=
  Nat.mod_eq_of_lt (by have := p.isLt; omega)

def colX (b : ℕ) (p : Fin 1024) : Fin 1024 := p
def colY (b : ℕ) (q : Fin 1024) : Fin 1024 := q

theorem idx0 (t : Fin cfg0.N) : win0_0.index t 0 = t.val % 4 ∧ win0_0.index t 1 = 0 :=
  (by decide +kernel : ∀ t : Fin grid0.N, win0_0.index t 0 = t.val % 4 ∧ win0_0.index t 1 = 0) t

theorem idx1 (t : Fin cfg0.N) : win0_1.index t 0 = t.val % 4 ∧ win0_1.index t 1 = 0 :=
  (by decide +kernel : ∀ t : Fin grid0.N, win0_1.index t 0 = t.val % 4 ∧ win0_1.index t 1 = 0) t

theorem idx2 (t : Fin cfg0.N) : win0_2.index t 0 = t.val / 4 ∧ win0_2.index t 1 = 0 ∧ win0_2.index t 2 = 0 ∧ win0_2.index t 3 = 0 :=
  (by decide +kernel : ∀ t : Fin grid0.N, win0_2.index t 0 = t.val / 4 ∧ win0_2.index t 1 = 0 ∧ win0_2.index t 2 = 0 ∧ win0_2.index t 3 = 0) t

theorem blk0 (t : Fin cfg0.N) (r : Fin 2048) (p : Fin 1024) :
    (iblk m c 0 t : FVec Ideal S2048x1024 .bf16) (ix2 r p) = X m c (ix2 (rowAt (t.val % 4) r) (colX (t.val / 4) p)) := by
  have hi := idx0 t
  have ht : t.val < 4 := lt_of_lt_of_eq t.isLt N_0
  unfold iblk
  rw [View.read_apply]
  show (V m c main_v0 : FVec Ideal S8192x1024 .bf16) _ = _
  rw [v0_eq]
  refine congrArg (X m c) (funext fun a => Fin.ext ?_)
  match a with
  | ⟨0, _⟩ =>
    show win0_0.index t 0 * 2048 + 1 * r.val = (rowAt (t.val % 4) r).val
    rw [rowAt_val _ (Nat.mod_lt _ (by norm_num)), hi.1]; omega
  | ⟨1, _⟩ =>
    show win0_0.index t 1 * 1024 + 1 * p.val = p.val
    rw [hi.2]; omega

theorem blk1 (t : Fin cfg0.N) (r : Fin 2048) (q : Fin 1024) :
    (iblk m c 1 t : FVec Ideal S2048x1024 .bf16) (ix2 r q) = Y m c (ix2 (rowAt (t.val % 4) r) (colY (t.val / 4) q)) := by
  have hi := idx1 t
  have ht : t.val < 4 := lt_of_lt_of_eq t.isLt N_0
  unfold iblk
  rw [View.read_apply]
  show (V m c main_v1 : FVec Ideal S8192x1024 .bf16) _ = _
  rw [v1_eq]
  refine congrArg (Y m c) (funext fun a => Fin.ext ?_)
  match a with
  | ⟨0, _⟩ =>
    show win0_1.index t 0 * 2048 + 1 * r.val = (rowAt (t.val % 4) r).val
    rw [rowAt_val _ (Nat.mod_lt _ (by norm_num)), hi.1]; omega
  | ⟨1, _⟩ =>
    show win0_1.index t 1 * 1024 + 1 * q.val = q.val
    rw [hi.2]; omega

/-- What the blocks of rows up to block `n` add to the element (p, q) of block `b`. -/
def sofar (b n : ℕ) (p q : Fin 1024) : EReal :=
  ∑ s ∈ Finset.range (n + 1), ∑ r, act (X m c (ix2 (rowAt s r) (colX b p))) * Y m c (ix2 (rowAt s r) (colY b q))

theorem prod_blk (t : Fin cfg0.N) (p q : Fin 1024) : prod (iblk m c 0 t) (iblk m c 1 t) p q
    = ∑ r, act (X m c (ix2 (rowAt (t.val % 4) r) (colX (t.val / 4) p))) * Y m c (ix2 (rowAt (t.val % 4) r) (colY (t.val / 4) q)) := by
  unfold prod
  exact Finset.sum_congr rfl fun r _ => by rw [blk0, blk1]

theorem outs_A (t : Fin cfg0.N) (h0 : t.val % 4 = 0) (a : Fin 4) (p : Fin 256) (q : Fin 1024) :
    (outsAt0 m c t.val t.isLt : FVec Ideal S4x1x256x1024 .f32) (ix4 a (0 : Fin 1) p q) = sofar m c (t.val / 4) (t.val % 4) (slabRow a p) q := by
  have ht : t.val < 4 := lt_of_lt_of_eq t.isLt N_0
  rw [outsAt0_A m c t h0 (by omega), out_A, pay2_apply, prod_blk]
  unfold sofar
  rw [h0, Nat.zero_add, Finset.sum_range_one]

theorem outs_eq : ∀ (n : ℕ) (h : n < cfg0.N) (a : Fin 4) (p : Fin 256) (q : Fin 1024),
    (outsAt0 m c n h : FVec Ideal S4x1x256x1024 .f32) (ix4 a (0 : Fin 1) p q) = sofar m c (n / 4) (n % 4) (slabRow a p) q
  | 0, h, a, p, q => outs_A m c ⟨0, h⟩ rfl a p q
  | n + 1, h, a, p, q => by
    have hN : cfg0.N = 4 := N_0
    by_cases h0 : (n + 1) % 4 = 0
    · exact outs_A m c ⟨n + 1, h⟩ h0 a p q
    · have e := outsAt0_B m c ⟨n + 1, h⟩ h0 (by show 1 ≤ n + 1; omega)
      have ih := outs_eq n (Nat.lt_of_succ_lt h) a p q
      refine (congrFun e _).trans ?_
      rw [out_B, pay3_apply, prod_blk]
      refine (congrArg₂ (· + ·) rfl ih).trans ?_
      unfold sofar
      have hq : (n + 1) / 4 = n / 4 := by omega
      have hm : (n + 1) % 4 = n % 4 + 1 := by omega
      show (∑ r, act (X m c (ix2 (rowAt ((n + 1) % 4) r) (colX ((n + 1) / 4) (slabRow a p)))) * Y m c (ix2 (rowAt ((n + 1) % 4) r) (colY ((n + 1) / 4) q))) + _ = _
      rw [hq, hm, add_comm, ← Finset.sum_range_succ (fun s => ∑ r, act (X m c (ix2 (rowAt s r) (colX (n / 4) (slabRow a p)))) * Y m c (ix2 (rowAt s r) (colY (n / 4) q)))]

/-- The claim's array. -/
def goal : FVec Ideal S4x1x256x1024 .f32 := fun i =>
  ∑ r : Fin 8192, act (X m c (ix2 r (slabRow (i 0) (i 2)))) * Y m c (ix2 r (i 3))

theorem sofar_all (b : ℕ) (p q : Fin 1024) :
    sofar m c b 3 p q = ∑ r : Fin 8192, act (X m c (ix2 r (colX b p))) * Y m c (ix2 r (colY b q)) :=
  sum_grid 4 2048 8192 rfl (fun r => act (X m c (ix2 r (colX b p))) * Y m c (ix2 r (colY b q))) rowAt fun s hs r => rowAt_val s hs r

theorem final : (dats m 0 c).arrAt 2 cfg0.N = goal m c :=
  (dats m 0 c).arrAt_eq_of_cover 2 (goal m c) (fun t hf => by
    have hi := idx2 t
    have h3 : t.val % 4 = 3 := (flush0_2 t).mp hf
    have ht : t.val < 4 := lt_of_lt_of_eq t.isLt N_0
    rw [Value.flushed2]
    funext j
    rw [View.read_apply]
    obtain ⟨u, v, p, q, rfl⟩ : ∃ u v p q, j = ix4 u v p q := ⟨j 0, j 1, j 2, j 3, eq_ix4 j⟩
    refine ((congrArg (fun z : Fin 1 => (outsAt0 m c t.val t.isLt : FVec Ideal S4x1x256x1024 .f32) (ix4 u z p q)) (Subsingleton.elim v 0)).trans (outs_eq m c t.val t.isLt u p q)).trans ?_
    rw [h3, sofar_all]
    show _ = ∑ r : Fin 8192, act (X m c (ix2 r _)) * Y m c (ix2 r _)
    refine Finset.sum_congr rfl fun r _ => congrArg₂ (· * ·) (congrArg (fun z => act (X m c (ix2 r z))) (Fin.ext ?_))
      (congrArg (fun z => Y m c (ix2 r z)) (Fin.ext ?_))
    · show u.val * 256 + p.val = (win0_2.index t 0 * 4 + 1 * u.val) * 256 + (win0_2.index t 2 * 256 + 1 * p.val)
      rw [hi.1, hi.2.2.1]; omega
    · show q.val = win0_2.index t 3 * 1024 + 1 * q.val
      rw [hi.2.2.2]; omega) fun i => by
    have hN : cfg0.N = 4 := N_0
    have h0 : (i 0 : Nat) < 4 := (i 0).isLt
    have h1 : (i 1 : Nat) < 1 := (i 1).isLt
    have h2 : (i 2 : Nat) < 256 := (i 2).isLt
    have h3 : (i 3 : Nat) < 1024 := (i 3).isLt
    have ht : 3 < cfg0.N := by omega
    have hi := idx2 ⟨3, ht⟩
    have hd : (3) / 4 = 0 := by omega
    have hm : (3) % 4 = 3 := by omega
    refine ⟨⟨3, ht⟩, (flush0_2 _).mpr hm, ?_⟩
    show i ∈ ((View.whole main_v2).slice (win0_2.rect ⟨3, ht⟩)).set
    rw [View.set_slice_whole, Rect.mem_set_unit]
    dsimp only at hi
    intro x
    match x with
    | ⟨0, _⟩ =>
      show win0_2.index _ 0 * 4 ≤ (i 0 : Nat) ∧ (i 0 : Nat) < win0_2.index _ 0 * 4 + 4
      rw [hi.1, hd]; omega
    | ⟨1, _⟩ =>
      show win0_2.index _ 1 * 1 ≤ (i 1 : Nat) ∧ (i 1 : Nat) < win0_2.index _ 1 * 1 + 1
      rw [hi.2.1]; omega
    | ⟨2, _⟩ =>
      show win0_2.index _ 2 * 256 ≤ (i 2 : Nat) ∧ (i 2 : Nat) < win0_2.index _ 2 * 256 + 256
      rw [hi.2.2.1]; omega
    | ⟨3, _⟩ =>
      show win0_2.index _ 3 * 1024 ≤ (i 3 : Nat) ∧ (i 3 : Nat) < win0_2.index _ 3 * 1024 + 1024
      rw [hi.2.2.2]; omega

/-! ## The reference -/

theorem ref_eq : Cert.Reference6Ideal.Read.val_main_v4 (F := Ideal) (X m c) (Y m c) = goal m c := by
  funext i
  obtain ⟨a, b, p, q, rfl⟩ : ∃ a b p q, i = ix4 a b p q := ⟨i 0, i 1, i 2, i 3, eq_ix4 i⟩
  have ha := a.isLt
  have hb := b.isLt
  have hp := p.isLt
  have hq := q.isLt
  rw [Cert.Reference6Ideal.Read.val_main_v4_apply, Cert.Reference6Ideal.Read.val_main_v3_apply, Cert.Reference6Ideal.Read.val_main_v2_apply]
  unfold goal
  refine Finset.sum_congr rfl fun r _ => ?_
  rw [mul_comm]
  refine congrArg₂ (· * ·) ?_ ?_
  · refine Eq.trans (b := act (X m c (Cert.Reference6Ideal.Read.ridx_main_v2 (Cert.Reference6Ideal.Read.idx_main_v3 (Cert.Reference6Ideal.Read.idx_main_v4 (ix4 a b p q))) r))) ?_ ?_
    · rfl
    · refine congrArg (fun j => act (X m c j)) (funext fun z => Fin.ext ?_)
      match z with
      | ⟨0, _⟩ => rfl
      | ⟨1, _⟩ => show (((a.val * 1 + b.val) * 256 + p.val) * 1024 + q.val) / 1024 = a.val * 256 + p.val; omega
  · refine congrArg (Y m c) (funext fun z => Fin.ext ?_)
    match z with
    | ⟨0, _⟩ => rfl
    | ⟨1, _⟩ => show (((a.val * 1 + b.val) * 256 + p.val) * 1024 + q.val) % 1024 = q.val; omega

/-- The reference ends with its arguments as they were; it has no semaphore. -/
theorem frame : quiescent_Reference6Ideal (hReference6Ideal := Cert.Reference6Ideal.Gen.facts) := fun m g _ =>
  (θ_run Cert.Reference6Ideal.defs _ _).mono (fun r h => ⟨fun c => (h c).2, sem_eq_zero_of_no_sems (by decide) r.2⟩)
    (Cert.Reference6Ideal.Value.run m g)

theorem algebraic :
    algebraic_Kernel6Ideal_Reference6Ideal (hKernel6Ideal := Cert.Kernel6Ideal.Gen.facts) (hReference6Ideal := Cert.Reference6Ideal.Gen.facts) := by
  intro m g m' g' _ hargs
  refine ⟨fun c => (dats m 0 c).arrAt 2 cfg0.N, Cert.Kernel6Ideal.Value.run_blocks m g, ?_⟩
  refine (θ_run Cert.Reference6Ideal.defs _ _).mono (fun r h c => ?_) (Cert.Reference6Ideal.Value.run m' g')
  obtain ⟨e0, e1⟩ := hargs c
  obtain ⟨r0, k⟩ := h c
  refine ⟨r0.trans ?_, k⟩
  refine (Cert.Reference6Ideal.Read.val_main_v4_eq _ _).trans ?_
  rw [e0, e1]
  exact (ref_eq m c).trans (final m c).symm

end Cert.GwOut

end
-- ==== Proof.GwIn.lean ====
/- The gradient of the mixing part's in weights: the normed rows against four pieces side by side, summed over the 8192 rows
   in four blocks, index by index over the extended reals; no precondition. -/
module

public import proofs.«01_k».proof.Proof.Sums
public import proofs.«01_k».proof.Defs
public import proofs.«01_k».proof.Proof.Gen.Kernel7Ideal.Value
public import proofs.«01_k».proof.Proof.Gen.Reference7Ideal.Read
public import Idealize.ShloMosaic.Lib.Pipeline.ValueKit.Tiles

@[expose] public section

set_option maxRecDepth 16384

noncomputable section

namespace Cert.GwIn

open Idealize.ShloMosaic Idealize.ShloMosaic.ValueIdx Idealize.ShloMosaic.TcCoe Idealize.SL.Sem
open Cert.Rows Cert.Kernel7Ideal Cert.Kernel7Ideal.Gen
open Idealize.ShloMosaic.Pipeline (Dat)

/-- Entry `j` of the row `r` of four pieces side by side. -/
def col {R : ℕ} (a : Fin R → Fin 512 → EReal) (b : Fin R → Fin 256 → EReal) (d e : Fin R → Fin 512 → EReal) (r : Fin R) (j : Fin 1792) : EReal :=
  if h0 : j.val < 512 then a r ⟨j.val, h0⟩
  else if h1 : j.val < 768 then b r ⟨j.val - 512, by omega⟩
  else if h2 : j.val < 1280 then d r ⟨j.val - 768, by omega⟩
  else e r ⟨j.val - 1280, by omega⟩

section Col

variable {R : ℕ} (a : Fin R → Fin 512 → EReal) (b : Fin R → Fin 256 → EReal) (d e : Fin R → Fin 512 → EReal) (r : Fin R) (j : Fin 1792)

theorem col_0 (k : Fin 512) (h : j.val = 0 + k.val) : a r k = col a b d e r j := by
  unfold col
  rw [dif_pos (by omega)]
  exact congrArg (a r) (Fin.ext (by show k.val = j.val; omega))

theorem col_1 (k : Fin 256) (h : j.val = 512 + k.val) : b r k = col a b d e r j := by
  unfold col
  rw [dif_neg (by omega), dif_pos (by omega)]
  exact congrArg (b r) (Fin.ext (by show k.val = j.val - 512; omega))

theorem col_2 (k : Fin 512) (h : j.val = 768 + k.val) : d r k = col a b d e r j := by
  unfold col
  rw [dif_neg (by omega), dif_neg (by omega), dif_pos (by omega)]
  exact congrArg (d r) (Fin.ext (by show k.val = j.val - 768; omega))

theorem col_3 (k : Fin 512) (h : j.val = 1280 + k.val) : e r k = col a b d e r j := by
  unfold col
  rw [dif_neg (by omega), dif_neg (by omega), dif_neg (by omega)]
  exact congrArg (e r) (Fin.ext (by show k.val = j.val - 1280; omega))

end Col

theorem unslab3_apply {α : Type} {a b : ℕ} (x : (⟨2, ![a, b]⟩ : Shape).Idx → α) (h) (u : Fin 1) (p : Fin a) (q : Fin b) :
    shapeCast ⟨3, ![1, a, b]⟩ x h (ix3 u p q) = x (ix2 p q) :=
  shapeCast_apply x h _ _ (by
    rewrite [Shape.rowMajor_val_three, Shape.rowMajor_val_two]
    have hu : u.val = 0 := by omega
    show p.val * b + q.val = (u.val * a + p.val) * b + q.val
    rw [hu]
    simp only [Nat.zero_mul, Nat.zero_add])

/-! ## The body at one point -/

/-- One block's product. -/
def prod {w : ℕ} (x : FVec Ideal S2048x1024 .bf16) (y : FVec Ideal ⟨2, ![2048, w]⟩ .bf16) (p : Fin 1024) (q : Fin w) : EReal :=
  ∑ r : Fin 2048, x (ix2 r p) * y (ix2 r q)

theorem pay2_apply (x : FVec Ideal S2048x1024 .bf16) (y : FVec Ideal S2048x512 .bf16) (p : Fin 1024) (q : Fin 512) :
    k0_pay2 (F := Ideal) x y (ix2 p q) = prod x y p q := by
  have e : dot_S2048x1024_S2048x512_S1024x512_0_0_1_1_n_n = tnDims 1024 512 2048 dot_S2048x1024_S2048x512_S1024x512_0_0_1_1_n_n_wf := rfl
  unfold k0_pay2 k0_pay1
  simp only [matmul, shapeCast_self]
  rw [e]
  exact tn_apply (φ₁ := .bf16) (φ₂ := .bf16) dot_S2048x1024_S2048x512_S1024x512_0_0_1_1_n_n_wf none x y p q

theorem first2_apply (x : FVec Ideal S2048x1024 .bf16) (y : FVec Ideal S2048x512 .bf16) (p : Fin 1024) (q : Fin 512) :
    k0_pay6 (F := Ideal) x y (ix3 (0 : Fin 1) p q) = prod x y p q := by
  unfold k0_pay6
  refine (unslab3_apply _ _ (0 : Fin 1) p q).trans ?_
  exact (congrArg₂ (· + ·) (pay2_apply x y p q) Ideal.ofBits_zero_f32).trans (add_zero _)

theorem later2_apply (x : FVec Ideal S2048x1024 .bf16) (y : FVec Ideal S2048x512 .bf16) (v : FVec Ideal S1x1024x512 .f32) (p : Fin 1024) (q : Fin 512) :
    k0_pay10 (F := Ideal) x y v (ix3 (0 : Fin 1) p q) = prod x y p q + v (ix3 (0 : Fin 1) p q) := by
  unfold k0_pay10
  refine (unslab3_apply _ _ (0 : Fin 1) p q).trans ?_
  exact congrArg₂ (· + ·) (pay2_apply x y p q) (slab3_apply v _ p q)

theorem pay3_apply (x : FVec Ideal S2048x1024 .bf16) (y : FVec Ideal S2048x256 .bf16) (p : Fin 1024) (q : Fin 256) :
    k0_pay3 (F := Ideal) x y (ix2 p q) = prod x y p q := by
  have e : dot_S2048x1024_S2048x256_S1024x256_0_0_1_1_n_n = tnDims 1024 256 2048 dot_S2048x1024_S2048x256_S1024x256_0_0_1_1_n_n_wf := rfl
  unfold k0_pay3 k0_pay1
  simp only [matmul, shapeCast_self]
  rw [e]
  exact tn_apply (φ₁ := .bf16) (φ₂ := .bf16) dot_S2048x1024_S2048x256_S1024x256_0_0_1_1_n_n_wf none x y p q

theorem first3_apply (x : FVec Ideal S2048x1024 .bf16) (y : FVec Ideal S2048x256 .bf16) (p : Fin 1024) (q : Fin 256) :
    k0_pay7 (F := Ideal) x y (ix3 (0 : Fin 1) p q) = prod x y p q := by
  unfold k0_pay7
  refine (unslab3_apply _ _ (0 : Fin 1) p q).trans ?_
  exact (congrArg₂ (· + ·) (pay3_apply x y p q) Ideal.ofBits_zero_f32).trans (add_zero _)

theorem later3_apply (x : FVec Ideal S2048x1024 .bf16) (y : FVec Ideal S2048x256 .bf16) (v : FVec Ideal S1x1024x256 .f32) (p : Fin 1024) (q : Fin 256) :
    k0_pay11 (F := Ideal) x y v (ix3 (0 : Fin 1) p q) = prod x y p q + v (ix3 (0 : Fin 1) p q) := by
  unfold k0_pay11
  refine (unslab3_apply _ _ (0 : Fin 1) p q).trans ?_
  exact congrArg₂ (· + ·) (pay3_apply x y p q) (slab3_apply v _ p q)

theorem pay4_apply (x : FVec Ideal S2048x1024 .bf16) (y : FVec Ideal S2048x512 .bf16) (p : Fin 1024) (q : Fin 512) :
    k0_pay4 (F := Ideal) x y (ix2 p q) = prod x y p q := by
  have e : dot_S2048x1024_S2048x512_S1024x512_0_0_1_1_n_n = tnDims 1024 512 2048 dot_S2048x1024_S2048x512_S1024x512_0_0_1_1_n_n_wf := rfl
  unfold k0_pay4 k0_pay1
  simp only [matmul, shapeCast_self]
  rw [e]
  exact tn_apply (φ₁ := .bf16) (φ₂ := .bf16) dot_S2048x1024_S2048x512_S1024x512_0_0_1_1_n_n_wf none x y p q

theorem first4_apply (x : FVec Ideal S2048x1024 .bf16) (y : FVec Ideal S2048x512 .bf16) (p : Fin 1024) (q : Fin 512) :
    k0_pay8 (F := Ideal) x y (ix3 (0 : Fin 1) p q) = prod x y p q := by
  unfold k0_pay8
  refine (unslab3_apply _ _ (0 : Fin 1) p q).trans ?_
  exact (congrArg₂ (· + ·) (pay4_apply x y p q) Ideal.ofBits_zero_f32).trans (add_zero _)

theorem later4_apply (x : FVec Ideal S2048x1024 .bf16) (y : FVec Ideal S2048x512 .bf16) (v : FVec Ideal S1x1024x512 .f32) (p : Fin 1024) (q : Fin 512) :
    k0_pay12 (F := Ideal) x y v (ix3 (0 : Fin 1) p q) = prod x y p q + v (ix3 (0 : Fin 1) p q) := by
  unfold k0_pay12
  refine (unslab3_apply _ _ (0 : Fin 1) p q).trans ?_
  exact congrArg₂ (· + ·) (pay4_apply x y p q) (slab3_apply v _ p q)

theorem pay5_apply (x : FVec Ideal S2048x1024 .bf16) (y : FVec Ideal S2048x512 .bf16) (p : Fin 1024) (q : Fin 512) :
    k0_pay5 (F := Ideal) x y (ix2 p q) = prod x y p q := by
  have e : dot_S2048x1024_S2048x512_S1024x512_0_0_1_1_n_n = tnDims 1024 512 2048 dot_S2048x1024_S2048x512_S1024x512_0_0_1_1_n_n_wf := rfl
  unfold k0_pay5 k0_pay1
  simp only [matmul, shapeCast_self]
  rw [e]
  exact tn_apply (φ₁ := .bf16) (φ₂ := .bf16) dot_S2048x1024_S2048x512_S1024x512_0_0_1_1_n_n_wf none x y p q

theorem first5_apply (x : FVec Ideal S2048x1024 .bf16) (y : FVec Ideal S2048x512 .bf16) (p : Fin 1024) (q : Fin 512) :
    k0_pay9 (F := Ideal) x y (ix3 (0 : Fin 1) p q) = prod x y p q := by
  unfold k0_pay9
  refine (unslab3_apply _ _ (0 : Fin 1) p q).trans ?_
  exact (congrArg₂ (· + ·) (pay5_apply x y p q) Ideal.ofBits_zero_f32).trans (add_zero _)

theorem later5_apply (x : FVec Ideal S2048x1024 .bf16) (y : FVec Ideal S2048x512 .bf16) (v : FVec Ideal S1x1024x512 .f32) (p : Fin 1024) (q : Fin 512) :
    k0_pay13 (F := Ideal) x y v (ix3 (0 : Fin 1) p q) = prod x y p q + v (ix3 (0 : Fin 1) p q) := by
  unfold k0_pay13
  refine (unslab3_apply _ _ (0 : Fin 1) p q).trans ?_
  exact congrArg₂ (· + ·) (pay5_apply x y p q) (slab3_apply v _ p q)

theorem hz2 : (![0, 0] : Fin 2 → ℕ) = fun _ => 0 := by funext a; match a with | ⟨0, _⟩ => rfl | ⟨1, _⟩ => rfl

theorem part_at {w : ℕ} (o : ℕ) (p : Fin 1024) (j : Fin 1792) (P : FVec Ideal ⟨3, ![1, 1024, w]⟩ .f32) (T : EReal)
    (hT : ∀ k : Fin w, j.val = o + k.val → P (ix3 (0 : Fin 1) p k) = T) :
    View.TileAt (Val := Elt Ideal) (S := S1x1024x1792) (e := .f32) (ix3 (0 : Fin 1) p j) ![0, 0, o] ![1, 1024, w] P T := by
  intro x hx
  obtain ⟨u, a, b, rfl⟩ : ∃ u a b, x = ix3 u a b := ⟨x 0, x 1, x 2, eq_ix3 x⟩
  have h1 : p.val = 0 + a.val := hx 1
  have h2 : j.val = o + b.val := hx 2
  have hp : p = a := Fin.ext (by omega)
  have hu : u = (0 : Fin 1) := Subsingleton.elim _ _
  subst hp hu
  exact hT b h2

section Tile

variable (c : Dev nD) (i : grid0.Coords) (arg3 : Memref sig .tc .vmem S2048x1024 .bf16) (h3 : arg3.IsWhole) (arg4 : Memref sig .tc .vmem S2048x512 .bf16) (h4 : arg4.IsWhole)
  (arg5 : Memref sig .tc .vmem S2048x256 .bf16) (h5 : arg5.IsWhole) (arg6 : Memref sig .tc .vmem S2048x512 .bf16) (h6 : arg6.IsWhole)
  (arg7 : Memref sig .tc .vmem S2048x512 .bf16) (h7 : arg7.IsWhole) (arg8 : Memref sig .tc .vmem S1x1024x1792 .f32) (h8 : arg8.IsWhole)
  (x0 : Vec Ideal S2048x1024 .bf16) (x1 : Vec Ideal S2048x512 .bf16) (x2 : Vec Ideal S2048x256 .bf16) (x3 x4 : Vec Ideal S2048x512 .bf16) (xo : Vec Ideal S1x1024x1792 .f32)

/-- One block's product with the four pieces side by side. -/
def tile (p : Fin 1024) (j : Fin 1792) : EReal :=
  ∑ r : Fin 2048, (x0 (ix2 r p) : EReal) * col (fun r k => x1 (ix2 r k)) (fun r k => x2 (ix2 r k)) (fun r k => x3 (ix2 r k)) (fun r k => x4 (ix2 r k)) r j

theorem prod_0 (p : Fin 1024) (j : Fin 1792) (k : Fin 512) (h : j.val = 0 + k.val) : prod x0 x1 p k = tile x0 x1 x2 x3 x4 p j :=
  Finset.sum_congr rfl fun r _ => congrArg (fun z => ((x0 (ix2 r p) : EReal) * z)) (col_0 (fun r k => x1 (ix2 r k)) (fun r k => x2 (ix2 r k)) (fun r k => x3 (ix2 r k)) (fun r k => x4 (ix2 r k)) r j k h)

theorem prod_1 (p : Fin 1024) (j : Fin 1792) (k : Fin 256) (h : j.val = 512 + k.val) : prod x0 x2 p k = tile x0 x1 x2 x3 x4 p j :=
  Finset.sum_congr rfl fun r _ => congrArg (fun z => ((x0 (ix2 r p) : EReal) * z)) (col_1 (fun r k => x1 (ix2 r k)) (fun r k => x2 (ix2 r k)) (fun r k => x3 (ix2 r k)) (fun r k => x4 (ix2 r k)) r j k h)

theorem prod_2 (p : Fin 1024) (j : Fin 1792) (k : Fin 512) (h : j.val = 768 + k.val) : prod x0 x3 p k = tile x0 x1 x2 x3 x4 p j :=
  Finset.sum_congr rfl fun r _ => congrArg (fun z => ((x0 (ix2 r p) : EReal) * z)) (col_2 (fun r k => x1 (ix2 r k)) (fun r k => x2 (ix2 r k)) (fun r k => x3 (ix2 r k)) (fun r k => x4 (ix2 r k)) r j k h)

theorem prod_3 (p : Fin 1024) (j : Fin 1792) (k : Fin 512) (h : j.val = 1280 + k.val) : prod x0 x4 p k = tile x0 x1 x2 x3 x4 p j :=
  Finset.sum_congr rfl fun r _ => congrArg (fun z => ((x0 (ix2 r p) : EReal) * z)) (col_3 (fun r k => x1 (ix2 r k)) (fun r k => x2 (ix2 r k)) (fun r k => x3 (ix2 r k)) (fun r k => x4 (ix2 r k)) r j k h)

theorem out_A (hc0 hc1) (p : Fin 1024) (j : Fin 1792) :
    out0_A_5 (F := Ideal) c i arg3 h3 arg4 h4 arg5 h5 arg6 h6 arg7 h7 arg8 h8 hc0 hc1 x0 x1 x2 x3 x4 (ix3 (0 : Fin 1) p j) = tile x0 x1 x2 x3 x4 p j := by
  unfold out0_A_5
  rw [View.read_writes_eq_canon _ _ _ (cover0_A_5 c i arg3 h3 arg4 h4 arg5 h5 arg6 h6 arg7 h7 arg8 h8 hc0 hc1 x0 x1 x2 x3 x4)]
  refine View.canon_eq_of_allAt _ _ _ (cover0_A_5 c i arg3 h3 arg4 h4 arg5 h5 arg6 h6 arg7 h7 arg8 h8 hc0 hc1 x0 x1 x2 x3 x4 _) ?_
  unfold kernelRun0_A
  dsimp only
  sl_unfold_words
  simp only [View.readAt_eq_ld, h3.read_unread, h4.read_unread, h5.read_unread, h6.read_unread, h7.read_unread, View.ld_unit_zero (S := S2048x1024) hz2, View.ld_unit_zero (S := S2048x512) hz2, View.ld_unit_zero (S := S2048x256) hz2]
  refine View.allAt_cons_unit _ _ _ _ _ (part_at 1280 p j _ _ fun k h => (first5_apply x0 x4 p k).trans (prod_3 x0 x1 x2 x3 x4 p j k h)) ?_
  refine View.allAt_cons_unit _ _ _ _ _ (part_at 768 p j _ _ fun k h => (first4_apply x0 x3 p k).trans (prod_2 x0 x1 x2 x3 x4 p j k h)) ?_
  refine View.allAt_cons_unit _ _ _ _ _ (part_at 512 p j _ _ fun k h => (first3_apply x0 x2 p k).trans (prod_1 x0 x1 x2 x3 x4 p j k h)) ?_
  refine View.allAt_cons_unit _ _ _ _ _ (part_at 0 p j _ _ fun k h => (first2_apply x0 x1 p k).trans (prod_0 x0 x1 x2 x3 x4 p j k h)) ?_
  exact View.allAt_nil _ _

theorem old_at {w : ℕ} (o : ℕ) (inb : ∀ a, (![0, 0, o] : Fin 3 → ℕ) a + (![1, 1024, w] : Fin 3 → ℕ) a ≤ S1x1024x1792.size a) (p : Fin 1024) (j : Fin 1792) (k : Fin w) (h : j.val = o + k.val) :
    View.ld (Val := Elt Ideal) (S := S1x1024x1792) (e' := .f32) xo (Rect.unit (s := S1x1024x1792) ![0, 0, o] ![1, 1024, w] inb) (ix3 (0 : Fin 1) p k) = xo (ix3 (0 : Fin 1) p j) :=
  View.ld_unit_apply_of (Val := Elt Ideal) (e := .f32) (S := S1x1024x1792) xo _ _ _ _ _ fun a => match a with
    | ⟨0, _⟩ => rfl
    | ⟨1, _⟩ => by show p.val = 0 + p.val; omega
    | ⟨2, _⟩ => h

theorem out_B (hc0 hc1) (p : Fin 1024) (j : Fin 1792) :
    out0_B_5 (F := Ideal) c i arg3 h3 arg4 h4 arg5 h5 arg6 h6 arg7 h7 arg8 h8 hc0 hc1 x0 x1 x2 x3 x4 xo (ix3 (0 : Fin 1) p j)
      = (tile x0 x1 x2 x3 x4 p j + xo (ix3 (0 : Fin 1) p j) : EReal) := by
  unfold out0_B_5
  rw [View.read_writes_eq_canon _ _ _ (cover0_B_5 c i arg3 h3 arg4 h4 arg5 h5 arg6 h6 arg7 h7 arg8 h8 hc0 hc1 x0 x1 x2 x3 x4 xo)]
  refine View.canon_eq_of_allAt _ _ _ (cover0_B_5 c i arg3 h3 arg4 h4 arg5 h5 arg6 h6 arg7 h7 arg8 h8 hc0 hc1 x0 x1 x2 x3 x4 xo _) ?_
  unfold kernelRun0_B
  dsimp only
  sl_unfold_words
  simp only [View.readAt_eq_ld, h3.read_unread, h4.read_unread, h5.read_unread, h6.read_unread, h7.read_unread, h8.read_unread, View.ld_unit_zero (S := S2048x1024) hz2, View.ld_unit_zero (S := S2048x512) hz2, View.ld_unit_zero (S := S2048x256) hz2]
  refine View.allAt_cons_unit _ _ _ _ _ (part_at 1280 p j _ _ fun k h => (later5_apply x0 x4 _ p k).trans (congrArg₂ (· + ·) (prod_3 x0 x1 x2 x3 x4 p j k h) (old_at xo 1280 inb_S1x1024x1792_S1x1024x512_0_0_1280 p j k h))) ?_
  refine View.allAt_cons_unit _ _ _ _ _ (part_at 768 p j _ _ fun k h => (later4_apply x0 x3 _ p k).trans (congrArg₂ (· + ·) (prod_2 x0 x1 x2 x3 x4 p j k h) (old_at xo 768 inb_S1x1024x1792_S1x1024x512_0_0_768 p j k h))) ?_
  refine View.allAt_cons_unit _ _ _ _ _ (part_at 512 p j _ _ fun k h => (later3_apply x0 x2 _ p k).trans (congrArg₂ (· + ·) (prod_1 x0 x1 x2 x3 x4 p j k h) (old_at xo 512 inb_S1x1024x1792_S1x1024x256_0_0_512 p j k h))) ?_
  refine View.allAt_cons_unit _ _ _ _ _ (part_at 0 p j _ _ fun k h => (later2_apply x0 x1 _ p k).trans (congrArg₂ (· + ·) (prod_0 x0 x1 x2 x3 x4 p j k h) (old_at xo 0 inb_S1x1024x1792_S1x1024x512_0_0_0 p j k h))) ?_
  exact View.allAt_nil _ _

end Tile

variable (m : (ℓ : Loc nD τ sig) → Buf (Elt Ideal) ℓ) (c : Dev nD)

/-- The five arguments as they are at the start. -/
abbrev A0 : FVec Ideal S8192x1024 .f32 := m ((c : Thread nD τ).loc main_arg0)
abbrev A1 : FVec Ideal S8192x512 .f32 := m ((c : Thread nD τ).loc main_arg1)
abbrev A2 : FVec Ideal S8192x256 .f32 := m ((c : Thread nD τ).loc main_arg2)
abbrev A3 : FVec Ideal S8192x512 .f32 := m ((c : Thread nD τ).loc main_arg3)
abbrev A4 : FVec Ideal S8192x512 .f32 := m ((c : Thread nD τ).loc main_arg4)

/-- The four pieces side by side. -/
def wide (r : Fin 8192) (j : Fin 1792) : EReal :=
  col (fun r k => A1 m c (ix2 r k)) (fun r k => A2 m c (ix2 r k)) (fun r k => A3 m c (ix2 r k)) (fun r k => A4 m c (ix2 r k)) r j

/-- Row `r` of block `s` of the rows. -/
def rowAt (s : ℕ) (r : Fin 2048) : Fin 8192 := ⟨(s * 2048 + r.val) % 8192, Nat.mod_lt _ (by norm_num)⟩

theorem rowAt_val (s : ℕ) (h : s < 4) (r : Fin 2048) : (rowAt s r).val = s * 2048 + r.val :=
  Nat.mod_eq_of_lt (by have := r.isLt; omega)

theorem v0_eq : (V m c main_v0 : FVec Ideal S8192x1024 .bf16) = A0 m c := by
  unfold_abbrev_sides
  after_results
  rfl

theorem idx0 (t : Fin cfg0.N) : win0_0.index t 0 = t.val ∧ win0_0.index t 1 = 0 :=
  (by decide +kernel : ∀ t : Fin grid0.N, win0_0.index t 0 = t.val ∧ win0_0.index t 1 = 0) t

theorem blk0 (t : Fin cfg0.N) (r : Fin 2048) (p : Fin 1024) :
    (iblk m c 0 t : FVec Ideal S2048x1024 .bf16) (ix2 r p) = A0 m c (ix2 (rowAt t.val r) p) := by
  have hi := idx0 t
  have ht : t.val < 4 := lt_of_lt_of_eq t.isLt N_0
  unfold iblk
  rw [View.read_apply]
  show (V m c main_v0 : FVec Ideal S8192x1024 .bf16) _ = _
  rw [v0_eq]
  refine congrArg (A0 m c) (funext fun a => Fin.ext ?_)
  match a with
  | ⟨0, _⟩ =>
    show win0_0.index t 0 * 2048 + 1 * r.val = (rowAt t.val r).val
    rw [rowAt_val _ ht, hi.1]; omega
  | ⟨1, _⟩ =>
    show win0_0.index t 1 * 1024 + 1 * p.val = p.val
    rw [hi.2]; omega

theorem v1_eq : (V m c main_v1 : FVec Ideal S8192x512 .bf16) = A1 m c := by
  unfold_abbrev_sides
  after_results
  rfl

theorem idx1 (t : Fin cfg0.N) : win0_1.index t 0 = t.val ∧ win0_1.index t 1 = 0 :=
  (by decide +kernel : ∀ t : Fin grid0.N, win0_1.index t 0 = t.val ∧ win0_1.index t 1 = 0) t

theorem blk1 (t : Fin cfg0.N) (r : Fin 2048) (p : Fin 512) :
    (iblk m c 1 t : FVec Ideal S2048x512 .bf16) (ix2 r p) = A1 m c (ix2 (rowAt t.val r) p) := by
  have hi := idx1 t
  have ht : t.val < 4 := lt_of_lt_of_eq t.isLt N_0
  unfold iblk
  rw [View.read_apply]
  show (V m c main_v1 : FVec Ideal S8192x512 .bf16) _ = _
  rw [v1_eq]
  refine congrArg (A1 m c) (funext fun a => Fin.ext ?_)
  match a with
  | ⟨0, _⟩ =>
    show win0_1.index t 0 * 2048 + 1 * r.val = (rowAt t.val r).val
    rw [rowAt_val _ ht, hi.1]; omega
  | ⟨1, _⟩ =>
    show win0_1.index t 1 * 512 + 1 * p.val = p.val
    rw [hi.2]; omega

theorem v2_eq : (V m c main_v2 : FVec Ideal S8192x256 .bf16) = A2 m c := by
  unfold_abbrev_sides
  after_results
  rfl

theorem idx2 (t : Fin cfg0.N) : win0_2.index t 0 = t.val ∧ win0_2.index t 1 = 0 :=
  (by decide +kernel : ∀ t : Fin grid0.N, win0_2.index t 0 = t.val ∧ win0_2.index t 1 = 0) t

theorem blk2 (t : Fin cfg0.N) (r : Fin 2048) (p : Fin 256) :
    (iblk m c 2 t : FVec Ideal S2048x256 .bf16) (ix2 r p) = A2 m c (ix2 (rowAt t.val r) p) := by
  have hi := idx2 t
  have ht : t.val < 4 := lt_of_lt_of_eq t.isLt N_0
  unfold iblk
  rw [View.read_apply]
  show (V m c main_v2 : FVec Ideal S8192x256 .bf16) _ = _
  rw [v2_eq]
  refine congrArg (A2 m c) (funext fun a => Fin.ext ?_)
  match a with
  | ⟨0, _⟩ =>
    show win0_2.index t 0 * 2048 + 1 * r.val = (rowAt t.val r).val
    rw [rowAt_val _ ht, hi.1]; omega
  | ⟨1, _⟩ =>
    show win0_2.index t 1 * 256 + 1 * p.val = p.val
    rw [hi.2]; omega

theorem v3_eq : (V m c main_v3 : FVec Ideal S8192x512 .bf16) = A3 m c := by
  unfold_abbrev_sides
  after_results
  rfl

theorem idx3 (t : Fin cfg0.N) : win0_3.index t 0 = t.val ∧ win0_3.index t 1 = 0 :=
  (by decide +kernel : ∀ t : Fin grid0.N, win0_3.index t 0 = t.val ∧ win0_3.index t 1 = 0) t

theorem blk3 (t : Fin cfg0.N) (r : Fin 2048) (p : Fin 512) :
    (iblk m c 3 t : FVec Ideal S2048x512 .bf16) (ix2 r p) = A3 m c (ix2 (rowAt t.val r) p) := by
  have hi := idx3 t
  have ht : t.val < 4 := lt_of_lt_of_eq t.isLt N_0
  unfold iblk
  rw [View.read_apply]
  show (V m c main_v3 : FVec Ideal S8192x512 .bf16) _ = _
  rw [v3_eq]
  refine congrArg (A3 m c) (funext fun a => Fin.ext ?_)
  match a with
  | ⟨0, _⟩ =>
    show win0_3.index t 0 * 2048 + 1 * r.val = (rowAt t.val r).val
    rw [rowAt_val _ ht, hi.1]; omega
  | ⟨1, _⟩ =>
    show win0_3.index t 1 * 512 + 1 * p.val = p.val
    rw [hi.2]; omega

theorem v4_eq : (V m c main_v4 : FVec Ideal S8192x512 .bf16) = A4 m c := by
  unfold_abbrev_sides
  after_results
  rfl

theorem idx4 (t : Fin cfg0.N) : win0_4.index t 0 = t.val ∧ win0_4.index t 1 = 0 :=
  (by decide +kernel : ∀ t : Fin grid0.N, win0_4.index t 0 = t.val ∧ win0_4.index t 1 = 0) t

theorem blk4 (t : Fin cfg0.N) (r : Fin 2048) (p : Fin 512) :
    (iblk m c 4 t : FVec Ideal S2048x512 .bf16) (ix2 r p) = A4 m c (ix2 (rowAt t.val r) p) := by
  have hi := idx4 t
  have ht : t.val < 4 := lt_of_lt_of_eq t.isLt N_0
  unfold iblk
  rw [View.read_apply]
  show (V m c main_v4 : FVec Ideal S8192x512 .bf16) _ = _
  rw [v4_eq]
  refine congrArg (A4 m c) (funext fun a => Fin.ext ?_)
  match a with
  | ⟨0, _⟩ =>
    show win0_4.index t 0 * 2048 + 1 * r.val = (rowAt t.val r).val
    rw [rowAt_val _ ht, hi.1]; omega
  | ⟨1, _⟩ =>
    show win0_4.index t 1 * 512 + 1 * p.val = p.val
    rw [hi.2]; omega

theorem idx5 (t : Fin cfg0.N) : win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0) t

/-- What the blocks of rows up to block `n` add to the element (p, j). -/
def sofar (n : ℕ) (p : Fin 1024) (j : Fin 1792) : EReal :=
  ∑ s ∈ Finset.range (n + 1), ∑ r, A0 m c (ix2 (rowAt s r) p) * wide m c (rowAt s r) j

theorem tile_blk (t : Fin cfg0.N) (p : Fin 1024) (j : Fin 1792) :
    tile (iblk m c 0 t) (iblk m c 1 t) (iblk m c 2 t) (iblk m c 3 t) (iblk m c 4 t) p j
      = ∑ r, A0 m c (ix2 (rowAt t.val r) p) * wide m c (rowAt t.val r) j := by
  unfold tile
  refine Finset.sum_congr rfl fun r _ => congrArg₂ (· * ·) (blk0 m c t r p) ?_
  refine Eq.trans (b := col (fun r k => A1 m c (ix2 (rowAt t.val r) k)) (fun r k => A2 m c (ix2 (rowAt t.val r) k))
    (fun r k => A3 m c (ix2 (rowAt t.val r) k)) (fun r k => A4 m c (ix2 (rowAt t.val r) k)) r j) ?_ rfl
  congr 1
  · funext r k; exact blk1 m c t r k
  · funext r k; exact blk2 m c t r k
  · funext r k; exact blk3 m c t r k
  · funext r k; exact blk4 m c t r k

theorem outs_eq : ∀ (n : ℕ) (h : n < cfg0.N) (p : Fin 1024) (j : Fin 1792),
    (outsAt0 m c n h : FVec Ideal S1x1024x1792 .f32) (ix3 (0 : Fin 1) p j) = sofar m c n p j
  | 0, h, p, j => by
    refine (congrFun (outsAt0_A m c ⟨0, h⟩ rfl (by show ¬1 ≤ 0; omega)) _).trans ?_
    rw [out_A, tile_blk]
    unfold sofar
    rw [Nat.zero_add, Finset.sum_range_one]
  | n + 1, h, p, j => by
    have hN : cfg0.N = 4 := N_0
    have e := outsAt0_B m c ⟨n + 1, h⟩ (by show ¬(n + 1) % 4 = 0; omega) (by show 1 ≤ n + 1; omega)
    have ih := outs_eq n (Nat.lt_of_succ_lt h) p j
    refine (congrFun e _).trans ?_
    rw [out_B, tile_blk]
    refine (congrArg₂ (· + ·) rfl ih).trans ?_
    unfold sofar
    show (∑ r, A0 m c (ix2 (rowAt (n + 1) r) p) * wide m c (rowAt (n + 1) r) j) + _ = _
    rw [add_comm, ← Finset.sum_range_succ (fun s => ∑ r, A0 m c (ix2 (rowAt s r) p) * wide m c (rowAt s r) j)]

/-- The claim's array. -/
def goal : FVec Ideal S1x1024x1792 .f32 := fun i => ∑ r : Fin 8192, A0 m c (ix2 r (i 1)) * wide m c r (i 2)

theorem sofar_all (p : Fin 1024) (j : Fin 1792) : sofar m c 3 p j = ∑ r : Fin 8192, A0 m c (ix2 r p) * wide m c r j :=
  sum_grid 4 2048 8192 rfl (fun r => A0 m c (ix2 r p) * wide m c r j) rowAt fun s hs r => rowAt_val s hs r

theorem final : (dats m 0 c).arrAt 5 cfg0.N = goal m c :=
  (dats m 0 c).arrAt_eq_of_cover 5 (goal m c) (fun t hf => by
    have hi := idx5 t
    have h3 : t.val % 4 = 3 := (flush0_5 t).mp hf
    have ht : t.val < 4 := lt_of_lt_of_eq t.isLt N_0
    have h3' : t.val = 3 := by omega
    rw [Value.flushed5]
    funext j
    rw [View.read_apply]
    obtain ⟨u, p, q, rfl⟩ : ∃ u p q, j = ix3 u p q := ⟨j 0, j 1, j 2, eq_ix3 j⟩
    refine ((congrArg (fun z : Fin 1 => (outsAt0 m c t.val t.isLt : FVec Ideal S1x1024x1792 .f32) (ix3 z p q)) (Subsingleton.elim u 0)).trans (outs_eq m c t.val t.isLt p q)).trans ?_
    rw [h3', sofar_all]
    show _ = ∑ r : Fin 8192, A0 m c (ix2 r _) * wide m c r _
    refine Finset.sum_congr rfl fun r _ => congrArg₂ (· * ·) (congrArg (fun z => A0 m c (ix2 r z)) (Fin.ext ?_))
      (congrArg (fun z => wide m c r z) (Fin.ext ?_))
    · show p.val = win0_5.index t 1 * 1024 + 1 * p.val
      rw [hi.2.1]; omega
    · show q.val = win0_5.index t 2 * 1792 + 1 * q.val
      rw [hi.2.2]; omega) fun i => by
    have hN : cfg0.N = 4 := N_0
    have h0 : (i 0 : Nat) < 1 := (i 0).isLt
    have h1 : (i 1 : Nat) < 1024 := (i 1).isLt
    have h2 : (i 2 : Nat) < 1792 := (i 2).isLt
    have ht : 3 < cfg0.N := by omega
    have hi := idx5 ⟨3, ht⟩
    refine ⟨⟨3, ht⟩, (flush0_5 _).mpr rfl, ?_⟩
    show i ∈ ((View.whole main_v5).slice (win0_5.rect ⟨3, ht⟩)).set
    rw [View.set_slice_whole, Rect.mem_set_unit]
    intro x
    match x with
    | ⟨0, _⟩ =>
      show win0_5.index _ 0 * 1 ≤ (i 0 : Nat) ∧ (i 0 : Nat) < win0_5.index _ 0 * 1 + 1
      rw [hi.1]; omega
    | ⟨1, _⟩ =>
      show win0_5.index _ 1 * 1024 ≤ (i 1 : Nat) ∧ (i 1 : Nat) < win0_5.index _ 1 * 1024 + 1024
      rw [hi.2.1]; omega
    | ⟨2, _⟩ =>
      show win0_5.index _ 2 * 1792 ≤ (i 2 : Nat) ∧ (i 2 : Nat) < win0_5.index _ 2 * 1792 + 1792
      rw [hi.2.2]; omega

/-! ## The reference -/

theorem side_0 (r : Fin 8192) (j : Fin 1792) (k : Fin 512) (h : j.val = 0 + k.val) :
    Cert.Reference7Ideal.Read.val_main_v0 (F := Ideal) (A1 m c) (A2 m c) (A3 m c) (A4 m c) (ix2 r j) = A1 m c (ix2 r k) := by
  unfold Cert.Reference7Ideal.Read.val_main_v0
  refine concatenate_apply_piece (1 : Fin 2) _ _ (ix2 r j) 0 ?_ S8192x512 (A1 m c) ?_ ?_ 0 ?_ (ix2 r k) ?_ ?_
  · exact Nat.le_of_ble_eq_true rfl
  · rfl
  · rfl
  · rfl
  · intro b
    match b with
    | ⟨0, _⟩ => intro _; rfl
    | ⟨1, _⟩ => intro hb; exact absurd rfl hb
  · exact h.symm

theorem side_1 (r : Fin 8192) (j : Fin 1792) (k : Fin 256) (h : j.val = 512 + k.val) :
    Cert.Reference7Ideal.Read.val_main_v0 (F := Ideal) (A1 m c) (A2 m c) (A3 m c) (A4 m c) (ix2 r j) = A2 m c (ix2 r k) := by
  unfold Cert.Reference7Ideal.Read.val_main_v0
  refine concatenate_apply_piece (1 : Fin 2) _ _ (ix2 r j) 1 ?_ S8192x256 (A2 m c) ?_ ?_ 512 ?_ (ix2 r k) ?_ ?_
  · exact Nat.le_of_ble_eq_true rfl
  · rfl
  · rfl
  · rfl
  · intro b
    match b with
    | ⟨0, _⟩ => intro _; rfl
    | ⟨1, _⟩ => intro hb; exact absurd rfl hb
  · exact h.symm

theorem side_2 (r : Fin 8192) (j : Fin 1792) (k : Fin 512) (h : j.val = 768 + k.val) :
    Cert.Reference7Ideal.Read.val_main_v0 (F := Ideal) (A1 m c) (A2 m c) (A3 m c) (A4 m c) (ix2 r j) = A3 m c (ix2 r k) := by
  unfold Cert.Reference7Ideal.Read.val_main_v0
  refine concatenate_apply_piece (1 : Fin 2) _ _ (ix2 r j) 2 ?_ S8192x512 (A3 m c) ?_ ?_ 768 ?_ (ix2 r k) ?_ ?_
  · exact Nat.le_of_ble_eq_true rfl
  · rfl
  · rfl
  · rfl
  · intro b
    match b with
    | ⟨0, _⟩ => intro _; rfl
    | ⟨1, _⟩ => intro hb; exact absurd rfl hb
  · exact h.symm

theorem side_3 (r : Fin 8192) (j : Fin 1792) (k : Fin 512) (h : j.val = 1280 + k.val) :
    Cert.Reference7Ideal.Read.val_main_v0 (F := Ideal) (A1 m c) (A2 m c) (A3 m c) (A4 m c) (ix2 r j) = A4 m c (ix2 r k) := by
  unfold Cert.Reference7Ideal.Read.val_main_v0
  refine concatenate_apply_piece (1 : Fin 2) _ _ (ix2 r j) 3 ?_ S8192x512 (A4 m c) ?_ ?_ 1280 ?_ (ix2 r k) ?_ ?_
  · exact Nat.le_of_ble_eq_true rfl
  · rfl
  · rfl
  · rfl
  · intro b
    match b with
    | ⟨0, _⟩ => intro _; rfl
    | ⟨1, _⟩ => intro hb; exact absurd rfl hb
  · exact h.symm

theorem side_eq (r : Fin 8192) (j : Fin 1792) :
    Cert.Reference7Ideal.Read.val_main_v0 (F := Ideal) (A1 m c) (A2 m c) (A3 m c) (A4 m c) (ix2 r j) = wide m c r j := by
  have hj := j.isLt
  by_cases h0 : j.val < 512
  · exact (side_0 m c r j ⟨j.val, h0⟩ (by show j.val = 0 + j.val; omega)).trans (col_0 (fun r k => A1 m c (ix2 r k)) (fun r k => A2 m c (ix2 r k)) (fun r k => A3 m c (ix2 r k)) (fun r k => A4 m c (ix2 r k)) r j ⟨j.val, h0⟩ (by show j.val = 0 + j.val; omega))
  · by_cases h1 : j.val < 768
    · exact (side_1 m c r j ⟨j.val - 512, by omega⟩ (by show j.val = 512 + (j.val - 512); omega)).trans
        (col_1 (fun r k => A1 m c (ix2 r k)) (fun r k => A2 m c (ix2 r k)) (fun r k => A3 m c (ix2 r k)) (fun r k => A4 m c (ix2 r k)) r j ⟨j.val - 512, by omega⟩ (by show j.val = 512 + (j.val - 512); omega))
    · by_cases h2 : j.val < 1280
      · exact (side_2 m c r j ⟨j.val - 768, by omega⟩ (by show j.val = 768 + (j.val - 768); omega)).trans
          (col_2 (fun r k => A1 m c (ix2 r k)) (fun r k => A2 m c (ix2 r k)) (fun r k => A3 m c (ix2 r k)) (fun r k => A4 m c (ix2 r k)) r j ⟨j.val - 768, by omega⟩ (by show j.val = 768 + (j.val - 768); omega))
      · exact (side_3 m c r j ⟨j.val - 1280, by omega⟩ (by show j.val = 1280 + (j.val - 1280); omega)).trans
          (col_3 (fun r k => A1 m c (ix2 r k)) (fun r k => A2 m c (ix2 r k)) (fun r k => A3 m c (ix2 r k)) (fun r k => A4 m c (ix2 r k)) r j ⟨j.val - 1280, by omega⟩ (by show j.val = 1280 + (j.val - 1280); omega))

theorem ref_eq : Cert.Reference7Ideal.Read.val_main_v5 (F := Ideal) (A0 m c) (A1 m c) (A2 m c) (A3 m c) (A4 m c) = goal m c := by
  funext i
  obtain ⟨u, p, j, rfl⟩ : ∃ u p j, i = ix3 u p j := ⟨i 0, i 1, i 2, eq_ix3 i⟩
  rw [Cert.Reference7Ideal.Read.val_main_v5_apply, Cert.Reference7Ideal.Read.val_main_v4_apply, Cert.Reference7Ideal.Read.val_main_v3_apply]
  unfold goal
  refine Finset.sum_congr rfl fun r _ => ?_
  rw [mul_comm]
  refine congrArg₂ (· * ·) ?_ ?_
  · refine congrArg (A0 m c) (funext fun z => ?_)
    match z with
    | ⟨0, _⟩ => rfl
    | ⟨1, _⟩ => rfl
  · refine (congrArg (Cert.Reference7Ideal.Read.val_main_v0 (F := Ideal) (A1 m c) (A2 m c) (A3 m c) (A4 m c)) (funext fun z => ?_)).trans (side_eq m c r j)
    match z with
    | ⟨0, _⟩ => rfl
    | ⟨1, _⟩ => rfl

/-- The reference ends with its arguments as they were; it has no semaphore. -/
theorem frame : quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run m g)

theorem algebraic :
    algebraic_Kernel7Ideal_Reference7Ideal (hKernel7Ideal := Cert.Kernel7Ideal.Gen.facts) (hReference7Ideal := Cert.Reference7Ideal.Gen.facts) := by
  intro m g m' g' _ hargs
  refine ⟨fun c => (dats m 0 c).arrAt 5 cfg0.N, Cert.Kernel7Ideal.Value.run_blocks m g, ?_⟩
  refine (θ_run Cert.Reference7Ideal.defs _ _).mono (fun r h c => ?_) (Cert.Reference7Ideal.Value.run m' g')
  obtain ⟨e0, e1, e2, e3, e4⟩ := hargs c
  obtain ⟨r0, k⟩ := h c
  refine ⟨r0.trans ?_, k⟩
  refine (Cert.Reference7Ideal.Read.val_main_v5_eq _ _ _ _ _).trans ?_
  rw [e0, e1, e2, e3, e4]
  exact (ref_eq m c).trans (final m c).symm

end Cert.GwIn

end
-- ==== Proof.MixIn.lean ====
/- mix_in_bwd: the gradient that enters a layer: four products with the transposed weight, then a root-mean-square norm. -/
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Pre_finite8
public import proofs.«01_k».proof.Proof.Finite
public import proofs.«01_k».proof.Proof.Norm
public import proofs.«01_k».proof.Defs

@[expose] public section

set_option maxRecDepth 16384

noncomputable section

namespace Cert.MixIn

open Idealize.ShloMosaic Idealize.ShloMosaic.ValueIdx Idealize.ShloMosaic.TcCoe Idealize.SL.Sem
open Cert.Rows Cert.Norm Cert.Kernel8Ideal Cert.Kernel8Ideal.Gen
open Idealize.ShloMosaic.Pipeline (Dat)

/-! ## The four parts of the product -/

/-- Column `k` of part 0 of the weight's row. -/
def at0 (k : Fin 512) : Fin 1792 := ⟨0 + k.val, by omega⟩

/-- Column `k` of part 1 of the weight's row. -/
def at1 (k : Fin 256) : Fin 1792 := ⟨512 + k.val, by omega⟩

/-- Column `k` of part 2 of the weight's row. -/
def at2 (k : Fin 512) : Fin 1792 := ⟨768 + k.val, by omega⟩

/-- Column `k` of part 3 of the weight's row. -/
def at3 (k : Fin 512) : Fin 1792 := ⟨1280 + k.val, by omega⟩

/-- Four products with the weight's transpose, added. -/
def dh4 {m : ℕ} (A : Fin m → Fin 512 → ℝ) (B : Fin m → Fin 256 → ℝ) (C : Fin m → Fin 512 → ℝ) (D : Fin m → Fin 512 → ℝ)
    (W : Fin 1024 → Fin 1792 → ℝ) (p : Fin m) (j : Fin 1024) : ℝ :=
  ∑ k, A p k * W j (at0 k) + ∑ k, B p k * W j (at1 k) + ∑ k, C p k * W j (at2 k) + ∑ k, D p k * W j (at3 k)

theorem sum_four {M : Type*} [AddCommMonoid M] (f : Fin 1792 → M) :
    ∑ q, f q = ∑ k, f (at0 k) + ∑ k, f (at1 k) + ∑ k, f (at2 k) + ∑ k, f (at3 k) := by
  rw [sum_two 1280 512 1792 rfl f, sum_two 768 512 1280 rfl fun k => f ⟨k.val, by omega⟩, sum_two 512 256 768 rfl fun k => f ⟨k.val, by omega⟩]
  refine congrArg₂ (· + ·) (congrArg₂ (· + ·) (congrArg₂ (· + ·) (Finset.sum_congr rfl fun k _ => congrArg f (Fin.ext ?_)) rfl) rfl) rfl
  show k.val = 0 + k.val
  omega

/-! ## The body's values -/

theorem pay1_up (X : Fin 512 → Fin 1024 → ℝ) : k0_pay1 (F := Ideal) (k0_pay8 (F := Ideal) (up2 X)) (k0_pay9 (F := Ideal)) = up2 (fun p _ => rt (X p)) := by
  unfold k0_pay1 k0_pay8 k0_pay9
  simp only [mulf_up, rowsum_up, bcast_1024, bcast_eps, divf_up_1024, addf_up]
  rw [rsqrt_up _ (fun p _ => by have := ms_pos (X p); simpa only [ms, Nat.cast_ofNat] using this)]
  simp only [rt, ms, Nat.cast_ofNat]

theorem pay2_up (X : Fin 512 → Fin 1024 → ℝ) : k0_pay2 (F := Ideal) (up2 X) (k0_pay8 (F := Ideal) (up2 X)) (k0_pay9 (F := Ideal)) = up2 (fun p k => hat (X p) k) := by
  unfold k0_pay2
  simp only [pay1_up, spread_col, mulf_up, hat]

theorem pay3_up (d X : Fin 512 → Fin 1024 → ℝ) : k0_pay3 (F := Ideal) (up2 d) (up2 X) (k0_pay8 (F := Ideal) (up2 X)) (k0_pay9 (F := Ideal)) = up2 (fun _ k => gsum X d k) := by
  unfold k0_pay3
  simp only [pay2_up, mulf_up, colsum_up, gsum]

theorem pay4_up (d X : Fin 512 → Fin 1024 → ℝ) (v : Fin 1 → Fin 1024 → ℝ) :
    k0_pay4 (F := Ideal) (up2 d) (up2 X) (k0_pay8 (F := Ideal) (up2 X)) (k0_pay9 (F := Ideal)) (up2 v) = up2 (fun r k => v r k + gsum X d k) := by
  unfold k0_pay4
  simp only [pay3_up, shapeCast_self, addf_up]

theorem pay5_up (d X ct : Fin 512 → Fin 1024 → ℝ) (gm : Fin 1024 → ℝ) :
    k0_pay5 (F := Ideal) (up2 d) (up2 X) (k0_pay8 (F := Ideal) (up2 X)) (k0_pay9 (F := Ideal)) (up2 fun _ k => gm k) (up2 ct) = up2 (res X d ct gm) := by
  rw [show res X d ct gm = fun p k => ct p k + rmsB (X p) (fun k => d p k * gm k) k from rfl]
  unfold k0_pay5
  simp only [pay1_up, pay2_up, shapeCast_self, spread_row, spread_col, mulf_up, rowsum_up, bcast_1024, divf_up_1024, subf_up, addf_up, rmsB, Nat.cast_ofNat]

theorem pay6_up (d X ct : Fin 512 → Fin 1024 → ℝ) (gm : Fin 1024 → ℝ) :
    k0_pay6 (F := Ideal) (up2 d) (up2 X) (k0_pay8 (F := Ideal) (up2 X)) (k0_pay9 (F := Ideal)) (up2 fun _ k => gm k) (up2 ct) = up2 (res X d ct gm) := pay5_up d X ct gm

theorem slab_up256 (U : Fin 1024 → Fin 256 → ℝ) (y : FVec Ideal S1x1024x256 .bf16)
    (hy : ∀ r k, y (ix3 (0 : Fin 1) r k) = ((U r k : ℝ) : EReal)) : shapeCast S1024x256 y shapeCasts_S1x1024x256_S1024x256 = up2 U := by
  funext i
  obtain ⟨r, k, rfl⟩ : ∃ r k, i = ix2 r k := ⟨i 0, i 1, eq_ix2 i⟩
  exact (slab3_apply y _ r k).trans (hy r k)

theorem slab_up512 (U : Fin 1024 → Fin 512 → ℝ) (y : FVec Ideal S1x1024x512 .bf16)
    (hy : ∀ r k, y (ix3 (0 : Fin 1) r k) = ((U r k : ℝ) : EReal)) : shapeCast S1024x512 y shapeCasts_S1x1024x512_S1024x512 = up2 U := by
  funext i
  obtain ⟨r, k, rfl⟩ : ∃ r k, i = ix2 r k := ⟨i 0, i 1, eq_ix2 i⟩
  exact (slab3_apply y _ r k).trans (hy r k)

theorem pay7_up (A : Fin 512 → Fin 512 → ℝ) (B : Fin 512 → Fin 256 → ℝ) (C : Fin 512 → Fin 512 → ℝ) (D : Fin 512 → Fin 512 → ℝ)
    (W : Fin 1024 → Fin 1792 → ℝ) (y0 : FVec Ideal S1x1024x512 .bf16) (y1 : FVec Ideal S1x1024x256 .bf16) (y2 : FVec Ideal S1x1024x512 .bf16) (y3 : FVec Ideal S1x1024x512 .bf16)
    (h0 : ∀ r k, y0 (ix3 (0 : Fin 1) r k) = ((W r (at0 k) : ℝ) : EReal))
    (h1 : ∀ r k, y1 (ix3 (0 : Fin 1) r k) = ((W r (at1 k) : ℝ) : EReal))
    (h2 : ∀ r k, y2 (ix3 (0 : Fin 1) r k) = ((W r (at2 k) : ℝ) : EReal))
    (h3 : ∀ r k, y3 (ix3 (0 : Fin 1) r k) = ((W r (at3 k) : ℝ) : EReal)) :
    k0_pay7 (F := Ideal) y0 (up2 A) y1 (up2 B) y2 (up2 C) y3 (up2 D) = up2 (dh4 A B C D W) := by
  have e512 : dot_S512x512_S1024x512_S512x1024_1_1_0_0_n_n = ntDims 512 1024 512 dot_S512x512_S1024x512_S512x1024_1_1_0_0_n_n_wf := rfl
  have e256 : dot_S512x256_S1024x256_S512x1024_1_1_0_0_n_n = ntDims 512 1024 256 dot_S512x256_S1024x256_S512x1024_1_1_0_0_n_n_wf := rfl
  rw [show dh4 A B C D W = fun p j => ∑ k, A p k * W j (at0 k) + ∑ k, B p k * W j (at1 k) + ∑ k, C p k * W j (at2 k) + ∑ k, D p k * W j (at3 k) from rfl]
  unfold k0_pay7
  simp only [matmul, shapeCast_self]
  rw [e512, e256, slab_up512 (fun r k => W r (at0 k)) y0 h0, slab_up256 (fun r k => W r (at1 k)) y1 h1, slab_up512 (fun r k => W r (at2 k)) y2 h2, slab_up512 (fun r k => W r (at3 k)) y3 h3]
  simp only [nt_up, bcast_zero, addf_up, zero_add]

/-! ## One tile -/

theorem ld_w0 (x : Vec Ideal S1x1024x1792 .bf16) (r : Fin 1024) (k : Fin 512) :
    View.ld x (Rect.unit ![0, 0, 0] S1x1024x512.size inb_S1x1024x1792_S1x1024x512_0_0_0) (ix3 (0 : Fin 1) r k) = x (ix3 (0 : Fin 1) r (at0 k)) := by
  refine congrArg x (funext fun a => Fin.ext ?_)
  match a with
  | ⟨0, _⟩ => rfl
  | ⟨1, _⟩ => show 0 + 1 * r.val = r.val; omega
  | ⟨2, _⟩ => show 0 + 1 * k.val = 0 + k.val; omega

theorem ld_w1 (x : Vec Ideal S1x1024x1792 .bf16) (r : Fin 1024) (k : Fin 256) :
    View.ld x (Rect.unit ![0, 0, 512] S1x1024x256.size inb_S1x1024x1792_S1x1024x256_0_0_512) (ix3 (0 : Fin 1) r k) = x (ix3 (0 : Fin 1) r (at1 k)) := by
  refine congrArg x (funext fun a => Fin.ext ?_)
  match a with
  | ⟨0, _⟩ => rfl
  | ⟨1, _⟩ => show 0 + 1 * r.val = r.val; omega
  | ⟨2, _⟩ => show 512 + 1 * k.val = 512 + k.val; omega

theorem ld_w2 (x : Vec Ideal S1x1024x1792 .bf16) (r : Fin 1024) (k : Fin 512) :
    View.ld x (Rect.unit ![0, 0, 768] S1x1024x512.size inb_S1x1024x1792_S1x1024x512_0_0_768) (ix3 (0 : Fin 1) r k) = x (ix3 (0 : Fin 1) r (at2 k)) := by
  refine congrArg x (funext fun a => Fin.ext ?_)
  match a with
  | ⟨0, _⟩ => rfl
  | ⟨1, _⟩ => show 0 + 1 * r.val = r.val; omega
  | ⟨2, _⟩ => show 768 + 1 * k.val = 768 + k.val; omega

theorem ld_w3 (x : Vec Ideal S1x1024x1792 .bf16) (r : Fin 1024) (k : Fin 512) :
    View.ld x (Rect.unit ![0, 0, 1280] S1x1024x512.size inb_S1x1024x1792_S1x1024x512_0_0_1280) (ix3 (0 : Fin 1) r k) = x (ix3 (0 : Fin 1) r (at3 k)) := by
  refine congrArg x (funext fun a => Fin.ext ?_)
  match a with
  | ⟨0, _⟩ => rfl
  | ⟨1, _⟩ => show 0 + 1 * r.val = r.val; omega
  | ⟨2, _⟩ => show 1280 + 1 * k.val = 1280 + k.val; omega

section Tile

variable (c : Dev nD) (i : grid0.Coords)
  (arg1 : Memref sig .tc .vmem S512x512 .bf16) (h1 : arg1.IsWhole)
  (arg2 : Memref sig .tc .vmem S512x256 .bf16) (h2 : arg2.IsWhole)
  (arg3 : Memref sig .tc .vmem S512x512 .bf16) (h3 : arg3.IsWhole)
  (arg4 : Memref sig .tc .vmem S512x512 .bf16) (h4 : arg4.IsWhole)
  (arg5 : Memref sig .tc .vmem S1x1024x1792 .bf16) (h5 : arg5.IsWhole)
  (arg6 : Memref sig .tc .vmem S512x1024 .f32) (h6 : arg6.IsWhole)
  (arg7 : Memref sig .tc .vmem S1x1024 .f32) (h7 : arg7.IsWhole)
  (arg8 : Memref sig .tc .vmem S512x1024 .f32) (h8 : arg8.IsWhole)
  (arg9 : Memref sig .tc .vmem S512x1024 .f32) (h9 : arg9.IsWhole)
  (arg10 : Memref sig .tc .vmem S512x1024 .bf16) (h10 : arg10.IsWhole)
  (arg11 : Memref sig .tc .vmem S1x1024 .f32) (h11 : arg11.IsWhole)
  (P0 : Fin 512 → Fin 512 → ℝ) (P1 : Fin 512 → Fin 256 → ℝ) (P2 : Fin 512 → Fin 512 → ℝ) (P3 : Fin 512 → Fin 512 → ℝ) (W : Fin 1024 → Fin 1792 → ℝ) (xw : Vec Ideal S1x1024x1792 .bf16)
  (hW : ∀ (r : Fin 1024) (k : Fin 1792), xw (ix3 (0 : Fin 1) r k) = ((W r k : ℝ) : EReal))
  (X ct : Fin 512 → Fin 1024 → ℝ) (gm : Fin 1024 → ℝ) (v : Fin 1 → Fin 1024 → ℝ)

include hW in
theorem dh_up : k0_pay7 (F := Ideal)
    (View.ld xw (Rect.unit ![0, 0, 0] S1x1024x512.size inb_S1x1024x1792_S1x1024x512_0_0_0)) (up2 P0) (View.ld xw (Rect.unit ![0, 0, 512] S1x1024x256.size inb_S1x1024x1792_S1x1024x256_0_0_512)) (up2 P1) (View.ld xw (Rect.unit ![0, 0, 768] S1x1024x512.size inb_S1x1024x1792_S1x1024x512_0_0_768)) (up2 P2) (View.ld xw (Rect.unit ![0, 0, 1280] S1x1024x512.size inb_S1x1024x1792_S1x1024x512_0_0_1280)) (up2 P3)
    = up2 (dh4 P0 P1 P2 P3 W) := by
  exact pay7_up _ _ _ _ W _ _ _ _ (fun r k => (ld_w0 xw r k).trans (hW r _)) (fun r k => (ld_w1 xw r k).trans (hW r _)) (fun r k => (ld_w2 xw r k).trans (hW r _)) (fun r k => (ld_w3 xw r k).trans (hW r _))

include hW in
theorem out_A_8 (hc0 hc1) : out0_A_8 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct)
    = up2 (res X (dh4 P0 P1 P2 P3 W) ct gm) := by
  unfold out0_A_8
  rw [View.read_writes_eq_canon _ _ _ (cover0_A_8 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay5_up]

include hW in
theorem out_A_9 (hc0 hc1) : out0_A_9 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct)
    = up2 (res X (dh4 P0 P1 P2 P3 W) ct gm) := by
  unfold out0_A_9
  rw [View.read_writes_eq_canon _ _ _ (cover0_A_9 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay6_up]

include hW in
theorem out_A_10 (hc0 hc1) : out0_A_10 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct)
    = up2 (fun _ k => gsum X (dh4 P0 P1 P2 P3 W) k) := by
  unfold out0_A_10
  rw [View.read_writes_eq_canon _ _ _ (cover0_A_10 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct))]
  unfold kernelRun0_A
  dsimp only
  sl_unfold_words
  rw [View.canon_unit_zero hz2]
  simp only [View.readAt_eq_ld, h1.read_unread, h2.read_unread, h3.read_unread, h4.read_unread, h5.read_unread, h6.read_unread, h7.read_unread, h8.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay3_up]

include hW in
theorem out_B_8 (hc0 hc1) : out0_B_8 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct) (up2 v)
    = up2 (res X (dh4 P0 P1 P2 P3 W) ct gm) := by
  unfold out0_B_8
  rw [View.read_writes_eq_canon _ _ _ (cover0_B_8 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay5_up]

include hW in
theorem out_B_9 (hc0 hc1) : out0_B_9 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct) (up2 v)
    = up2 (res X (dh4 P0 P1 P2 P3 W) ct gm) := by
  unfold out0_B_9
  rw [View.read_writes_eq_canon _ _ _ (cover0_B_9 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay6_up]

include hW in
theorem out_B_10 (hc0 hc1) : out0_B_10 (F := Ideal) c i arg1 h1 arg2 h2 arg3 h3 arg4 h4 arg5 h5 arg6 h6 arg7 h7 arg8 h8 arg9 h9 arg10 h10 arg11 h11
      hc0 hc1 (up2 P0) (up2 P1) (up2 P2) (up2 P3) xw (up2 X) (up2 fun _ k => gm k) (up2 ct) (up2 v)
    = up2 (fun r k => v r k + gsum X (dh4 P0 P1 P2 P3 W) k) := by
  unfold out0_B_10
  rw [View.read_writes_eq_canon _ _ _ (cover0_B_10 c i arg1 h1 arg2 h2 arg3 h3 arg4 h4 arg5 h5 arg6 h6 arg7 h7 arg8 h8 arg9 h9 arg10 h10 arg11 h11
    hc0 hc1 (up2 P0) (up2 P1) (up2 P2) (up2 P3) xw (up2 X) (up2 fun _ k => gm k) (up2 ct) (up2 v))]
  unfold kernelRun0_B
  dsimp only
  sl_unfold_words
  rw [View.canon_unit_zero hz2]
  simp only [View.readAt_eq_ld, h1.read_unread, h2.read_unread, h3.read_unread, h4.read_unread, h5.read_unread, h6.read_unread, h7.read_unread, h8.read_unread, h11.read_unread, View.ld_unit_zero (S := S512x1024) hz2, View.ld_unit_zero (S := S1x1024) hz2, View.ld_unit_zero (S := S512x512) hz2, View.ld_unit_zero (S := S512x256) hz2]
  rw [dh_up P0 P1 P2 P3 W xw hW, pay4_up]

end Tile

/-! ## The arrays the call is given -/

section Launch

variable (P0 : Fin 8192 → Fin 512 → ℝ) (P1 : Fin 8192 → Fin 256 → ℝ) (P2 : Fin 8192 → Fin 512 → ℝ) (P3 : Fin 8192 → Fin 512 → ℝ) (W3 : Fin 2 → Fin 1024 → Fin 1792 → ℝ) (X ct : Fin 8192 → Fin 1024 → ℝ) (gm : Fin 1024 → ℝ)

/-- The weight of the first layer. -/
def wt (W3 : Fin 2 → Fin 1024 → Fin 1792 → ℝ) : Fin 1024 → Fin 1792 → ℝ := W3 0

/-- The gradient that reaches the norm's output. -/
def dz : Fin 8192 → Fin 1024 → ℝ :=
  dh4 P0 P1 P2 P3 (wt W3)

variable (m : (ℓ : Loc nD τ sig) → Buf (Elt Ideal) ℓ) (c : Dev nD)

/-- At the start the arguments hold these real arrays. -/
structure Holds : Prop where
  a0 : m ((c : Thread nD τ).loc main_arg0) = up2 P0
  a1 : m ((c : Thread nD τ).loc main_arg1) = up2 P1
  a2 : m ((c : Thread nD τ).loc main_arg2) = up2 P2
  a3 : m ((c : Thread nD τ).loc main_arg3) = up2 P3
  a4 : m ((c : Thread nD τ).loc main_arg4) = up3 W3
  a5 : m ((c : Thread nD τ).loc main_arg5) = up2 X
  a6 : m ((c : Thread nD τ).loc main_arg6) = up1 gm
  a7 : m ((c : Thread nD τ).loc main_arg7) = up2 ct

variable (H : Holds P0 P1 P2 P3 W3 X ct gm m c)

include H in
theorem v0_eq : V m c main_v0 = up2 P0 := by
  unfold_abbrev_sides
  after_results
  rw [H.a0]; rfl

include H in
theorem v1_eq : V m c main_v1 = up2 P1 := by
  unfold_abbrev_sides
  after_results
  rw [H.a1]; rfl

include H in
theorem v2_eq : V m c main_v2 = up2 P2 := by
  unfold_abbrev_sides
  after_results
  rw [H.a2]; rfl

include H in
theorem v3_eq : V m c main_v3 = up2 P3 := by
  unfold_abbrev_sides
  after_results
  rw [H.a3]; rfl

include H in
theorem v5_eq : V m c main_v5 = up2 fun _ k => gm k := by
  unfold_abbrev_sides
  after_results
  rw [H.a6]; exact as_row _ _ rfl _

include H in
theorem v4_eq : V m c main_v4 = (up3 W3 : FVec Ideal S2x1024x1792 .bf16) := by
  unfold_abbrev_sides
  after_results
  rw [H.a4]; rfl

theorem idx0 (t : Fin cfg0.N) : win0_0.index t 0 = t.val ∧ win0_0.index t 1 = 0 :=
  (by decide +kernel : ∀ t : Fin grid0.N, win0_0.index t 0 = t.val ∧ win0_0.index t 1 = 0) t

include H in
theorem blk0 (t : Fin cfg0.N) : (iblk m c 0 t : Vec Ideal S512x512 .bf16) = up2 fun p k => P0 (rowAt t.val p) k := by
  have hi := idx0 t
  funext j
  unfold iblk
  rw [View.read_apply]
  show V m c main_v0 _ = _
  rw [v0_eq P0 P1 P2 P3 W3 X ct gm m c H]
  obtain ⟨p, k, rfl⟩ : ∃ p k, j = ix2 p k := ⟨j 0, j 1, eq_ix2 j⟩
  show ((P0 _ _ : ℝ) : EReal) = ((P0 _ _ : ℝ) : EReal)
  congr 3
  · apply Fin.ext
    rw [rowAt_val _ t.isLt]
    show win0_0.index t 0 * 512 + 1 * p.val = t.val * 512 + p.val
    rw [hi.1]; omega
  · apply Fin.ext
    show win0_0.index t 1 * 512 + 1 * k.val = k.val
    rw [hi.2]; omega

theorem idx1 (t : Fin cfg0.N) : win0_1.index t 0 = t.val ∧ win0_1.index t 1 = 0 :=
  (by decide +kernel : ∀ t : Fin grid0.N, win0_1.index t 0 = t.val ∧ win0_1.index t 1 = 0) t

include H in
theorem blk1 (t : Fin cfg0.N) : (iblk m c 1 t : Vec Ideal S512x256 .bf16) = up2 fun p k => P1 (rowAt t.val p) k := by
  have hi := idx1 t
  funext j
  unfold iblk
  rw [View.read_apply]
  show V m c main_v1 _ = _
  rw [v1_eq P0 P1 P2 P3 W3 X ct gm m c H]
  obtain ⟨p, k, rfl⟩ : ∃ p k, j = ix2 p k := ⟨j 0, j 1, eq_ix2 j⟩
  show ((P1 _ _ : ℝ) : EReal) = ((P1 _ _ : ℝ) : EReal)
  congr 3
  · apply Fin.ext
    rw [rowAt_val _ t.isLt]
    show win0_1.index t 0 * 512 + 1 * p.val = t.val * 512 + p.val
    rw [hi.1]; omega
  · apply Fin.ext
    show win0_1.index t 1 * 256 + 1 * k.val = k.val
    rw [hi.2]; omega

theorem idx2 (t : Fin cfg0.N) : win0_2.index t 0 = t.val ∧ win0_2.index t 1 = 0 :=
  (by decide +kernel : ∀ t : Fin grid0.N, win0_2.index t 0 = t.val ∧ win0_2.index t 1 = 0) t

include H in
theorem blk2 (t : Fin cfg0.N) : (iblk m c 2 t : Vec Ideal S512x512 .bf16) = up2 fun p k => P2 (rowAt t.val p) k := by
  have hi := idx2 t
  funext j
  unfold iblk
  rw [View.read_apply]
  show V m c main_v2 _ = _
  rw [v2_eq P0 P1 P2 P3 W3 X ct gm m c H]
  obtain ⟨p, k, rfl⟩ : ∃ p k, j = ix2 p k := ⟨j 0, j 1, eq_ix2 j⟩
  show ((P2 _ _ : ℝ) : EReal) = ((P2 _ _ : ℝ) : EReal)
  congr 3
  · apply Fin.ext
    rw [rowAt_val _ t.isLt]
    show win0_2.index t 0 * 512 + 1 * p.val = t.val * 512 + p.val
    rw [hi.1]; omega
  · apply Fin.ext
    show win0_2.index t 1 * 512 + 1 * k.val = k.val
    rw [hi.2]; omega

theorem idx3 (t : Fin cfg0.N) : win0_3.index t 0 = t.val ∧ win0_3.index t 1 = 0 :=
  (by decide +kernel : ∀ t : Fin grid0.N, win0_3.index t 0 = t.val ∧ win0_3.index t 1 = 0) t

include H in
theorem blk3 (t : Fin cfg0.N) : (iblk m c 3 t : Vec Ideal S512x512 .bf16) = up2 fun p k => P3 (rowAt t.val p) k := by
  have hi := idx3 t
  funext j
  unfold iblk
  rw [View.read_apply]
  show V m c main_v3 _ = _
  rw [v3_eq P0 P1 P2 P3 W3 X ct gm m c H]
  obtain ⟨p, k, rfl⟩ : ∃ p k, j = ix2 p k := ⟨j 0, j 1, eq_ix2 j⟩
  show ((P3 _ _ : ℝ) : EReal) = ((P3 _ _ : ℝ) : EReal)
  congr 3
  · apply Fin.ext
    rw [rowAt_val _ t.isLt]
    show win0_3.index t 0 * 512 + 1 * p.val = t.val * 512 + p.val
    rw [hi.1]; omega
  · apply Fin.ext
    show win0_3.index t 1 * 512 + 1 * k.val = k.val
    rw [hi.2]; omega

theorem idx5 (t : Fin cfg0.N) : win0_5.index t 0 = t.val ∧ win0_5.index t 1 = 0 :=
  (by decide +kernel : ∀ t : Fin grid0.N, win0_5.index t 0 = t.val ∧ win0_5.index t 1 = 0) t

include H in
theorem blk5 (t : Fin cfg0.N) : (iblk m c 5 t : Vec Ideal S512x1024 .f32) = up2 fun p k => X (rowAt t.val p) k := by
  have hi := idx5 t
  funext j
  unfold iblk
  rw [View.read_apply]
  show V m c main_arg5 _ = _
  rw [V_main_arg5, H.a5]
  obtain ⟨p, k, rfl⟩ : ∃ p k, j = ix2 p k := ⟨j 0, j 1, eq_ix2 j⟩
  show ((X _ _ : ℝ) : EReal) = ((X _ _ : ℝ) : EReal)
  congr 3
  · apply Fin.ext
    rw [rowAt_val _ t.isLt]
    show win0_5.index t 0 * 512 + 1 * p.val = t.val * 512 + p.val
    rw [hi.1]; omega
  · apply Fin.ext
    show win0_5.index t 1 * 1024 + 1 * k.val = k.val
    rw [hi.2]; omega

theorem idx7 (t : Fin cfg0.N) : win0_7.index t 0 = t.val ∧ win0_7.index t 1 = 0 :=
  (by decide +kernel : ∀ t : Fin grid0.N, win0_7.index t 0 = t.val ∧ win0_7.index t 1 = 0) t

include H in
theorem blk7 (t : Fin cfg0.N) : (iblk m c 7 t : Vec Ideal S512x1024 .f32) = up2 fun p k => ct (rowAt t.val p) k := by
  have hi := idx7 t
  funext j
  unfold iblk
  rw [View.read_apply]
  show V m c main_arg7 _ = _
  rw [V_main_arg7, H.a7]
  obtain ⟨p, k, rfl⟩ : ∃ p k, j = ix2 p k := ⟨j 0, j 1, eq_ix2 j⟩
  show ((ct _ _ : ℝ) : EReal) = ((ct _ _ : ℝ) : EReal)
  congr 3
  · apply Fin.ext
    rw [rowAt_val _ t.isLt]
    show win0_7.index t 0 * 512 + 1 * p.val = t.val * 512 + p.val
    rw [hi.1]; omega
  · apply Fin.ext
    show win0_7.index t 1 * 1024 + 1 * k.val = k.val
    rw [hi.2]; omega

include H in
theorem blk6 (t : Fin cfg0.N) : (iblk m c 6 t : Vec Ideal S1x1024 .f32) = up2 fun _ k => gm k := by
  funext j
  unfold iblk
  rw [View.read_apply]
  show V m c main_v5 _ = _
  rw [v5_eq P0 P1 P2 P3 W3 X ct gm m c H]
  obtain ⟨p, k, rfl⟩ : ∃ p k, j = ix2 p k := ⟨j 0, j 1, eq_ix2 j⟩
  show ((gm _ : ℝ) : EReal) = ((gm _ : ℝ) : EReal)
  congr 2
  apply Fin.ext
  show 0 * 1024 + 1 * k.val = k.val
  omega

include H in
theorem blkw (t : Fin cfg0.N) (r : Fin 1024) (k : Fin 1792) :
    (iblk m c 4 t : Vec Ideal S1x1024x1792 .bf16) (ix3 (0 : Fin 1) r k) = ((wt W3 r k : ℝ) : EReal) := by
  unfold iblk
  rw [View.read_apply]
  show V m c main_v4 _ = _
  rw [v4_eq P0 P1 P2 P3 W3 X ct gm m c H]
  show ((W3 _ _ _ : ℝ) : EReal) = ((W3 _ _ _ : ℝ) : EReal)
  congr 4
  · apply Fin.ext
    show 0 * 1024 + 1 * r.val = r.val
    omega
  · apply Fin.ext
    show 0 * 1792 + 1 * k.val = k.val
    omega

/-! ## What the call leaves -/

/-- What block `t` adds to the gradient of the norm's scale. -/
def part (t : ℕ) (k : Fin 1024) : ℝ := gsum (fun p => X (rowAt t p)) (fun p => dz P0 P1 P2 P3 W3 (rowAt t p)) k

theorem sum_part (k : Fin 1024) : ∑ t ∈ Finset.range 16, part P0 P1 P2 P3 W3 X t k = gsum X (dz P0 P1 P2 P3 W3) k :=
  sum_blocks fun q => dz P0 P1 P2 P3 W3 q k * hat (X q) k

include H in
theorem outs_eq : ∀ (n : ℕ) (h : n < cfg0.N), outsAt0 m c n h
    = (up2 fun p k => res X (dz P0 P1 P2 P3 W3) ct gm (rowAt n p) k, up2 fun p k => res X (dz P0 P1 P2 P3 W3) ct gm (rowAt n p) k,
        up2 fun _ k => ∑ t ∈ Finset.range (n + 1), part P0 P1 P2 P3 W3 X t k)
  | 0, h => by
    have e := outsAt0_A m c ⟨0, h⟩ rfl (by show ¬1 ≤ 0; omega)
    rw [blk0 P0 P1 P2 P3 W3 X ct gm m c H, blk1 P0 P1 P2 P3 W3 X ct gm m c H, blk2 P0 P1 P2 P3 W3 X ct gm m c H, blk3 P0 P1 P2 P3 W3 X ct gm m c H, blk5 P0 P1 P2 P3 W3 X ct gm m c H, blk6 P0 P1 P2 P3 W3 X ct gm m c H, blk7 P0 P1 P2 P3 W3 X ct gm m c H,
      out_A_8 (hW := blkw P0 P1 P2 P3 W3 X ct gm m c H _), out_A_9 (hW := blkw P0 P1 P2 P3 W3 X ct gm m c H _), out_A_10 (hW := blkw P0 P1 P2 P3 W3 X ct gm m c H _)] at e
    refine e.trans ?_
    simp only [Nat.zero_add, Finset.sum_range_one]
    rfl
  | n + 1, h => by
    have hN : cfg0.N = 16 := N_0
    have e := outsAt0_B m c ⟨n + 1, h⟩ (by show ¬(n + 1) % 16 = 0; omega) (by show 1 ≤ n + 1; omega)
    have ih : outsAt0 m c (n + 1 - 1) (Nat.lt_of_le_of_lt (Nat.sub_le _ _) h) = _ := outs_eq n (Nat.lt_of_succ_lt h)
    dsimp only at e
    rw [ih, blk0 P0 P1 P2 P3 W3 X ct gm m c H, blk1 P0 P1 P2 P3 W3 X ct gm m c H, blk2 P0 P1 P2 P3 W3 X ct gm m c H, blk3 P0 P1 P2 P3 W3 X ct gm m c H, blk5 P0 P1 P2 P3 W3 X ct gm m c H, blk6 P0 P1 P2 P3 W3 X ct gm m c H, blk7 P0 P1 P2 P3 W3 X ct gm m c H,
      out_B_8 (hW := blkw P0 P1 P2 P3 W3 X ct gm m c H _), out_B_9 (hW := blkw P0 P1 P2 P3 W3 X ct gm m c H _), out_B_10 (hW := blkw P0 P1 P2 P3 W3 X ct gm m c H _)] at e
    refine e.trans ?_
    simp only [Finset.sum_range_succ _ (n + 1)]
    rfl

theorem idxo (t : Fin cfg0.N) : win0_8.index t 0 = t.val ∧ win0_8.index t 1 = 0 :=
  (by decide +kernel : ∀ t : Fin grid0.N, win0_8.index t 0 = t.val ∧ win0_8.index t 1 = 0) t

theorem idxo2 (t : Fin cfg0.N) : win0_9.index t 0 = t.val ∧ win0_9.index t 1 = 0 :=
  (by decide +kernel : ∀ t : Fin grid0.N, win0_9.index t 0 = t.val ∧ win0_9.index t 1 = 0) t

include H in
theorem final8 : (dats m 0 c).arrAt 8 cfg0.N = up2 (res X (dz P0 P1 P2 P3 W3) ct gm) :=
  (dats m 0 c).arrAt_eq_of_cover 8 (up2 (res X (dz P0 P1 P2 P3 W3) ct gm)) (fun t _ => by
    have hi := idxo t
    rw [Value.flushed8, outs_eq P0 P1 P2 P3 W3 X ct gm m c H]
    funext j
    rw [View.read_apply]
    obtain ⟨p, k, rfl⟩ : ∃ p k, j = ix2 p k := ⟨j 0, j 1, eq_ix2 j⟩
    show ((res X (dz P0 P1 P2 P3 W3) ct gm (rowAt t.val p) k : ℝ) : EReal) = ((res X (dz P0 P1 P2 P3 W3) ct gm _ _ : ℝ) : EReal)
    congr 2
    · apply Fin.ext
      rw [rowAt_val _ t.isLt]
      show t.val * 512 + p.val = win0_8.index t 0 * 512 + 1 * p.val
      rw [hi.1]; omega
    · apply Fin.ext
      show k.val = win0_8.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idxo ⟨(i 0 : Nat) / 512, ht⟩
    refine ⟨⟨(i 0 : Nat) / 512, ht⟩, flush0_8 _, ?_⟩
    show i ∈ ((View.whole main_v6_0).slice (win0_8.rect ⟨(i 0 : Nat) / 512, ht⟩)).set
    rw [View.set_slice_whole, Rect.mem_set_unit]
    intro x
    match x with
    | ⟨0, _⟩ =>
      show win0_8.index _ 0 * 512 ≤ (i 0 : Nat) ∧ (i 0 : Nat) < win0_8.index _ 0 * 512 + 512
      rw [hi.1]; dsimp only; omega
    | ⟨1, _⟩ =>
      show win0_8.index _ 1 * 1024 ≤ (i 1 : Nat) ∧ (i 1 : Nat) < win0_8.index _ 1 * 1024 + 1024
      rw [hi.2]; omega

include H in
theorem final9 : (dats m 0 c).arrAt 9 cfg0.N = up2 (res X (dz P0 P1 P2 P3 W3) ct gm) :=
  (dats m 0 c).arrAt_eq_of_cover 9 (up2 (res X (dz P0 P1 P2 P3 W3) ct gm)) (fun t _ => by
    have hi := idxo2 t
    rw [Value.flushed9, outs_eq P0 P1 P2 P3 W3 X ct gm m c H]
    funext j
    rw [View.read_apply]
    obtain ⟨p, k, rfl⟩ : ∃ p k, j = ix2 p k := ⟨j 0, j 1, eq_ix2 j⟩
    show ((res X (dz P0 P1 P2 P3 W3) ct gm (rowAt t.val p) k : ℝ) : EReal) = ((res X (dz P0 P1 P2 P3 W3) ct gm _ _ : ℝ) : EReal)
    congr 2
    · apply Fin.ext
      rw [rowAt_val _ t.isLt]
      show t.val * 512 + p.val = win0_9.index t 0 * 512 + 1 * p.val
      rw [hi.1]; omega
    · apply Fin.ext
      show k.val = win0_9.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idxo2 ⟨(i 0 : Nat) / 512, ht⟩
    refine ⟨⟨(i 0 : Nat) / 512, ht⟩, flush0_9 _, ?_⟩
    show i ∈ ((View.whole main_v6_1).slice (win0_9.rect ⟨(i 0 : Nat) / 512, ht⟩)).set
    rw [View.set_slice_whole, Rect.mem_set_unit]
    intro x
    match x with
    | ⟨0, _⟩ =>
      show win0_9.index _ 0 * 512 ≤ (i 0 : Nat) ∧ (i 0 : Nat) < win0_9.index _ 0 * 512 + 512
      rw [hi.1]; dsimp only; omega
    | ⟨1, _⟩ =>
      show win0_9.index _ 1 * 1024 ≤ (i 1 : Nat) ∧ (i 1 : Nat) < win0_9.index _ 1 * 1024 + 1024
      rw [hi.2]; omega

include H in
theorem final10 : (dats m 0 c).arrAt 10 cfg0.N = up2 fun _ k => gsum X (dz P0 P1 P2 P3 W3) k :=
  (dats m 0 c).arrAt_eq_of_cover 10 (up2 fun _ k => gsum X (dz P0 P1 P2 P3 W3) k) (fun t hf => by
    have hN : cfg0.N = 16 := N_0
    have h15 : t.val = 15 := by have := (flush0_10 t).mp hf; have := t.isLt; omega
    rw [Value.flushed10, outs_eq P0 P1 P2 P3 W3 X ct gm m c H]
    funext j
    rw [View.read_apply]
    obtain ⟨r, k, rfl⟩ : ∃ r k, j = ix2 r k := ⟨j 0, j 1, eq_ix2 j⟩
    show ((∑ s ∈ Finset.range (t.val + 1), part P0 P1 P2 P3 W3 X s k : ℝ) : EReal) = ((gsum X (dz P0 P1 P2 P3 W3) _ : ℝ) : EReal)
    rw [h15, sum_part]
    congr 2
    apply Fin.ext
    show k.val = 0 * 1024 + 1 * k.val
    omega) fun i => by
    have hN : cfg0.N = 16 := N_0
    have h0 : (i 0 : Nat) < 1 := (i 0).isLt
    have h1 : (i 1 : Nat) < 1024 := (i 1).isLt
    have ht : 15 < cfg0.N := by omega
    refine ⟨⟨15, ht⟩, (flush0_10 _).mpr rfl, ?_⟩
    show i ∈ ((View.whole main_v6_2).slice (win0_10.rect ⟨15, ht⟩)).set
    rw [View.set_slice_whole, Rect.mem_set_unit]
    intro x
    match x with
    | ⟨0, _⟩ => show 0 * 1 ≤ (i 0 : Nat) ∧ (i 0 : Nat) < 0 * 1 + 1; omega
    | ⟨1, _⟩ => show 0 * 1024 ≤ (i 1 : Nat) ∧ (i 1 : Nat) < 0 * 1024 + 1024; omega

end Launch

/-! ## The plain program -/

section Reference

open Cert.Reference8Ideal Cert.Reference8Ideal.Gen Cert.Reference8Ideal.Read

variable (P0 : Fin 8192 → Fin 512 → ℝ) (P1 : Fin 8192 → Fin 256 → ℝ) (P2 : Fin 8192 → Fin 512 → ℝ) (P3 : Fin 8192 → Fin 512 → ℝ) (W3 : Fin 2 → Fin 1024 → Fin 1792 → ℝ) (X ct : Fin 8192 → Fin 1024 → ℝ) (gm : Fin 1024 → ℝ)

theorem v7_up : val_main_v7 (F := Ideal) (up2 X) = up2 (fun p _ => ms (X p)) := by
  simp only [val_main_v7, val_main_v1, val_main_v2, val_main_v3, val_main_v4, val_main_v5, val_main_v6, val_main_cst, val_main_cst_0, val_main_cst_1,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  simp only [ms, Nat.cast_ofNat]

theorem v8_up : val_main_v8 (F := Ideal) (up2 X) = up2 (fun p _ => rt (X p)) := by
  simp only [val_main_v8, val_main_v8, v7_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | skip

theorem v11_up : val_main_v11 (F := Ideal) (up2 X) = up2 (fun p _ => -(1 / 2) * (rt (X p) / ms (X p))) := by
  simp only [val_main_v11, val_main_v9, val_main_v10, val_main_cst_2, v8_up, v7_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | skip

theorem v13_up : val_main_v13 (F := Ideal) (up2 X) = up2 (fun p k => hat (X p) k) := by
  simp only [val_main_v13, val_main_v12, v8_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | simp only [hat]

theorem w_apply (j : Fin 1024) (k : Fin 1792) : val_main_v18 (F := Ideal) (up3 W3) (ix2 j k) = ((wt W3 j k : ℝ) : EReal) := by
  rw [val_main_v18_apply, val_main_v17_apply]
  show ((W3 _ _ _ : ℝ) : EReal) = ((W3 _ _ _ : ℝ) : EReal)
  congr 4
  · apply Fin.ext
    show (j.val * 1792 + k.val) / 1792 % 1024 = j.val
    have := j.isLt; have := k.isLt; omega
  · apply Fin.ext
    show (j.val * 1792 + k.val) % 1792 = k.val
    have := j.isLt; have := k.isLt; omega

theorem cat0 (p : Fin 8192) (k : Fin 512) : val_main_v0 (F := Ideal) (up2 P0) (up2 P1) (up2 P2) (up2 P3) (ix2 p (at0 k)) = ((P0 p k : ℝ) : EReal) := by
  unfold val_main_v0
  refine concatenate_apply_piece (1 : Fin 2) _ _ (ix2 p (at0 k)) 0 ?_ Cert.Reference8Ideal.S8192x512 (up2 P0) ?_ ?_ 0 ?_ (ix2 p k) ?_ ?_
  · exact Nat.le_of_ble_eq_true rfl
  · rfl
  · rfl
  · rfl
  · intro b
    match b with
    | ⟨0, _⟩ => intro _; rfl
    | ⟨1, _⟩ => intro hb; exact absurd rfl hb
  · rfl

theorem cat1 (p : Fin 8192) (k : Fin 256) : val_main_v0 (F := Ideal) (up2 P0) (up2 P1) (up2 P2) (up2 P3) (ix2 p (at1 k)) = ((P1 p k : ℝ) : EReal) := by
  unfold val_main_v0
  refine concatenate_apply_piece (1 : Fin 2) _ _ (ix2 p (at1 k)) 1 ?_ Cert.Reference8Ideal.S8192x256 (up2 P1) ?_ ?_ 512 ?_ (ix2 p k) ?_ ?_
  · exact Nat.le_of_ble_eq_true rfl
  · rfl
  · rfl
  · rfl
  · intro b
    match b with
    | ⟨0, _⟩ => intro _; rfl
    | ⟨1, _⟩ => intro hb; exact absurd rfl hb
  · rfl

theorem cat2 (p : Fin 8192) (k : Fin 512) : val_main_v0 (F := Ideal) (up2 P0) (up2 P1) (up2 P2) (up2 P3) (ix2 p (at2 k)) = ((P2 p k : ℝ) : EReal) := by
  unfold val_main_v0
  refine concatenate_apply_piece (1 : Fin 2) _ _ (ix2 p (at2 k)) 2 ?_ Cert.Reference8Ideal.S8192x512 (up2 P2) ?_ ?_ 768 ?_ (ix2 p k) ?_ ?_
  · exact Nat.le_of_ble_eq_true rfl
  · rfl
  · rfl
  · rfl
  · intro b
    match b with
    | ⟨0, _⟩ => intro _; rfl
    | ⟨1, _⟩ => intro hb; exact absurd rfl hb
  · rfl

theorem cat3 (p : Fin 8192) (k : Fin 512) : val_main_v0 (F := Ideal) (up2 P0) (up2 P1) (up2 P2) (up2 P3) (ix2 p (at3 k)) = ((P3 p k : ℝ) : EReal) := by
  unfold val_main_v0
  refine concatenate_apply_piece (1 : Fin 2) _ _ (ix2 p (at3 k)) 3 ?_ Cert.Reference8Ideal.S8192x512 (up2 P3) ?_ ?_ 1280 ?_ (ix2 p k) ?_ ?_
  · exact Nat.le_of_ble_eq_true rfl
  · rfl
  · rfl
  · rfl
  · intro b
    match b with
    | ⟨0, _⟩ => intro _; rfl
    | ⟨1, _⟩ => intro hb; exact absurd rfl hb
  · rfl

theorem v20_up : val_main_v20 (F := Ideal) (up2 P0) (up2 P1) (up2 P2) (up2 P3) (up3 W3) = up2 (dz P0 P1 P2 P3 W3) := by
  funext i
  obtain ⟨p, j, rfl⟩ : ∃ p j, i = ix2 p j := ⟨i 0, i 1, eq_ix2 i⟩
  rw [val_main_v20_apply]
  have e1 : ∀ q : Fin 1792, lidx_main_v20 (ix2 p j) q = ix2 p q := fun q => by
    funext x; apply Fin.ext; fin_cases x <;> rfl
  have e2 : ∀ q : Fin 1792, ridx_main_v20 (ix2 p j) q = ix2 j q := fun q => by
    funext x; apply Fin.ext; fin_cases x <;> rfl
  have e : ∀ q : Fin 1792, (val_main_v0 (F := Ideal) (up2 P0) (up2 P1) (up2 P2) (up2 P3) (ix2 p q) : EReal) * val_main_v18 (F := Ideal) (up3 W3) (ix2 j q)
      = val_main_v0 (F := Ideal) (up2 P0) (up2 P1) (up2 P2) (up2 P3) (ix2 p q) * ((wt W3 j q : ℝ) : EReal) := fun q => by
    rw [w_apply]
  simp only [e1, e2]
  refine (Finset.sum_congr rfl fun q _ => e q).trans ?_
  rw [sum_four]
  simp only [cat0, cat1, cat2, cat3, ← EReal.coe_mul, ← coe_sum, ← EReal.coe_add]
  rfl

theorem v26_up : val_main_v26 (F := Ideal) (up2 P0) (up2 P1) (up2 P2) (up2 P3) (up3 W3) (up2 X) = up1 (fun k => gsum X (dz P0 P1 P2 P3 W3) k) := by
  simp only [val_main_v26, val_main_v23, val_main_v22, val_main_v21, val_main_cst_3, val_main_cst_4, v13_up, v20_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  first | rfl | (refine congrArg up1 (funext fun k => Finset.sum_congr rfl fun p _ => ?_); exact mul_comm _ _)

theorem v41_up : val_main_v41 (F := Ideal) (up2 P0) (up2 P1) (up2 P2) (up2 P3) (up3 W3) (up2 X) (up1 gm) (up2 ct) = up2 (res X (dz P0 P1 P2 P3 W3) ct gm) := by
  simp only [val_main_v41, val_main_v39, val_main_v32, val_main_v31, val_main_v25, val_main_v24, val_main_v14, val_main_v30, val_main_v38, val_main_v37, val_main_v36, val_main_v35, val_main_v33, val_main_v29, val_main_v28, val_main_v27, val_main_v34, val_main_v40, val_main_cst_5, val_main_cst_6, val_main_cst_7, v20_up, v8_up, v11_up,
    addf_up, subf_up, mulf_up, h_divf_1024, h_divf_ms, h_rsqrt_ms, h_rowsum, h_colsum, as_row, as_col, h_spread_row, h_spread_col,
    cast_row, cast_col, fill2 _ _ bits_1024, fill2 _ _ bits_eps, fill2 _ _ bits_neg_half, Fin.sum_univ_one]
  rw [show res X (dz P0 P1 P2 P3 W3) ct gm = fun p k => ct p k + rmsB (X p) (fun k => dz P0 P1 P2 P3 W3 p k * gm k) k from rfl]
  simp only [rmsB_chain, Nat.cast_ofNat]
  refine congrArg up2 (funext fun p => funext fun k => ?_)
  ring

theorem v42_up : val_main_v42 (F := Ideal) (up2 P0) (up2 P1) (up2 P2) (up2 P3) (up3 W3) (up2 X) (up1 gm) (up2 ct) = up2 (res X (dz P0 P1 P2 P3 W3) ct gm) :=
  v41_up P0 P1 P2 P3 W3 X ct gm

theorem v43_up : val_main_v43 (F := Ideal) (up2 P0) (up2 P1) (up2 P2) (up2 P3) (up3 W3) (up2 X) = up2 (fun _ k => gsum X (dz P0 P1 P2 P3 W3) k) := by
  simp only [val_main_v43, v26_up, as_row]

end Reference

/-! ## The claim -/

theorem args_real [Cert.Pre_finite8.Facts] (x0 : FVec Ideal Cert.Pre_finite8.S8192x512 .f32)
    (x1 : FVec Ideal Cert.Pre_finite8.S8192x256 .f32)
    (x2 : FVec Ideal Cert.Pre_finite8.S8192x512 .f32)
    (x3 : FVec Ideal Cert.Pre_finite8.S8192x512 .f32)
    (x4 : FVec Ideal Cert.Pre_finite8.S2x1024x1792 .f32)
    (x5 : FVec Ideal Cert.Pre_finite8.S8192x1024 .f32)
    (x6 : FVec Ideal Cert.Pre_finite8.S1024 .f32)
    (x7 : FVec Ideal Cert.Pre_finite8.S8192x1024 .f32)
    (h : Cert.Pre_finite8.fn (F := Ideal) x0 x1 x2 x3 x4 x5 x6 x7 = fun _ => 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i) ∧ (∀ i, ((EReal.toReal (x3 i) : ℝ) : EReal) = x3 i) ∧ (∀ i, ((EReal.toReal (x4 i) : ℝ) : EReal) = x4 i) ∧ (∀ i, ((EReal.toReal (x5 i) : ℝ) : EReal) = x5 i) ∧ (∀ i, ((EReal.toReal (x6 i) : ℝ) : EReal) = x6 i) ∧ (∀ i, ((EReal.toReal (x7 i) : ℝ) : EReal) = x7 i) := by
  have e := fun p => congrFun h (ix1 p)
  unfold Cert.Pre_finite8.fn Cert.Pre_finite8.fn_part1 Cert.Pre_finite8.fn_part2 at e
  dsimp only at e
  refine ⟨?_, ?_, ?_, ?_, ?_, ?_, ?_, ?_⟩
  · exact Cert.Finite.all_real x0 _ _ _ _ _ ((Cert.Finite.piece _ _ 0 (Nat.le_of_ble_eq_true rfl) _ _ rfl rfl (Nat.le_of_ble_eq_true rfl)).symm.trans (e 0))
  · exact Cert.Finite.all_real x1 _ _ _ _ _ ((Cert.Finite.piece _ _ 1 (Nat.le_of_ble_eq_true rfl) _ _ rfl rfl (Nat.le_of_ble_eq_true rfl)).symm.trans (e 1))
  · exact Cert.Finite.all_real x2 _ _ _ _ _ ((Cert.Finite.piece _ _ 2 (Nat.le_of_ble_eq_true rfl) _ _ rfl rfl (Nat.le_of_ble_eq_true rfl)).symm.trans (e 2))
  · exact Cert.Finite.all_real x3 _ _ _ _ _ ((Cert.Finite.piece _ _ 3 (Nat.le_of_ble_eq_true rfl) _ _ rfl rfl (Nat.le_of_ble_eq_true rfl)).symm.trans (e 3))
  · exact Cert.Finite.all_real x4 _ _ _ _ _ ((Cert.Finite.piece _ _ 4 (Nat.le_of_ble_eq_true rfl) _ _ rfl rfl (Nat.le_of_ble_eq_true rfl)).symm.trans (e 4))
  · exact Cert.Finite.all_real x5 _ _ _ _ _ ((Cert.Finite.piece _ _ 5 (Nat.le_of_ble_eq_true rfl) _ _ rfl rfl (Nat.le_of_ble_eq_true rfl)).symm.trans (e 5))
  · exact Cert.Finite.all_real x6 _ _ _ _ _ ((Cert.Finite.piece _ _ 6 (Nat.le_of_ble_eq_true rfl) _ _ rfl rfl (Nat.le_of_ble_eq_true rfl)).symm.trans (e 6))
  · exact Cert.Finite.all_real x7 _ _ _ _ _ ((Cert.Finite.piece _ _ 7 (Nat.le_of_ble_eq_true rfl) _ _ rfl rfl (Nat.le_of_ble_eq_true rfl)).symm.trans (e 7))

/-- Under the precondition the arguments are images of real arrays. -/
theorem holds [Cert.Pre_finite8.Facts] (m : (ℓ : Loc nD τ sig) → Buf (Elt Ideal) ℓ)
    (hp : Pre_Kernel8Ideal_finite8 m) (c : Dev nD) : ∃ (P0 : Fin 8192 → Fin 512 → ℝ) (P1 : Fin 8192 → Fin 256 → ℝ) (P2 : Fin 8192 → Fin 512 → ℝ) (P3 : Fin 8192 → Fin 512 → ℝ) (W3 : Fin 2 → Fin 1024 → Fin 1792 → ℝ) (X ct : Fin 8192 → Fin 1024 → ℝ) (gm : Fin 1024 → ℝ), Holds P0 P1 P2 P3 W3 X ct gm m c := by
  obtain ⟨h0, h1, h2, h3, h4, h5, h6, h7⟩ := args_real _ _ _ _ _ _ _ _ (hp c)
  exact ⟨_, _, _, _, _, _, _, _, ⟨Cert.Finite.matrix _ h0, Cert.Finite.matrix _ h1, Cert.Finite.matrix _ h2, Cert.Finite.matrix _ h3, cube _ h4, Cert.Finite.matrix _ h5, Cert.Finite.vector _ h6, Cert.Finite.matrix _ h7⟩⟩

/-- The reference ends with its arguments as they were; it has no semaphore. -/
theorem frame : quiescent_Reference8Ideal (hReference8Ideal := Cert.Reference8Ideal.Gen.facts) := fun m g _ =>
  (θ_run Cert.Reference8Ideal.defs _ _).mono (fun r h => ⟨fun c => (h c).2.2.2, sem_eq_zero_of_no_sems (by decide) r.2⟩) (Cert.Reference8Ideal.Value.run m g)

/-- The same under the precondition. -/
theorem frame_finite [Cert.Pre_finite8.Facts] :
    quiescent_Reference8Ideal_pre_finite8 (hReference8Ideal := Cert.Reference8Ideal.Gen.facts) := fun m g _ =>
  (θ_run Cert.Reference8Ideal.defs _ _).mono (fun r h => ⟨fun c => (h c).2.2.2, sem_eq_zero_of_no_sems (by decide) r.2⟩) (Cert.Reference8Ideal.Value.run m g)

theorem algebraic [Cert.Pre_finite8.Facts] :
    algebraic_Kernel8Ideal_Reference8Ideal_pre_finite8 (hKernel8Ideal := Cert.Kernel8Ideal.Gen.facts) (hReference8Ideal := Cert.Reference8Ideal.Gen.facts) := by
  intro m g m' g' hp hargs
  refine ⟨fun c => (dats m 0 c).arrAt 8 cfg0.N, fun c => (dats m 0 c).arrAt 9 cfg0.N, fun c => (dats m 0 c).arrAt 10 cfg0.N, Cert.Kernel8Ideal.Value.run_blocks m g, ?_⟩
  refine (θ_run Cert.Reference8Ideal.defs _ _).mono (fun r h c => ?_) (Cert.Reference8Ideal.Value.run m' g')
  obtain ⟨P0, P1, P2, P3, W3, X, ct, gm, H⟩ := holds m hp c
  obtain ⟨e0, e1, e2, e3, e4, e5, e6, e7⟩ := hargs c
  obtain ⟨r0, r1, r2, k⟩ := h c
  have a0 : m' ((c.tc : Thread Cert.Reference8Ideal.nD Cert.Reference8Ideal.τ).loc Cert.Reference8Ideal.main_arg0) = up2 P0 := e0.trans H.a0
  have a1 : m' ((c.tc : Thread Cert.Reference8Ideal.nD Cert.Reference8Ideal.τ).loc Cert.Reference8Ideal.main_arg1) = up2 P1 := e1.trans H.a1
  have a2 : m' ((c.tc : Thread Cert.Reference8Ideal.nD Cert.Reference8Ideal.τ).loc Cert.Reference8Ideal.main_arg2) = up2 P2 := e2.trans H.a2
  have a3 : m' ((c.tc : Thread Cert.Reference8Ideal.nD Cert.Reference8Ideal.τ).loc Cert.Reference8Ideal.main_arg3) = up2 P3 := e3.trans H.a3
  have a4 : m' ((c.tc : Thread Cert.Reference8Ideal.nD Cert.Reference8Ideal.τ).loc Cert.Reference8Ideal.main_arg4) = up3 W3 := e4.trans H.a4
  have a5 : m' ((c.tc : Thread Cert.Reference8Ideal.nD Cert.Reference8Ideal.τ).loc Cert.Reference8Ideal.main_arg5) = up2 X := e5.trans H.a5
  have a6 : m' ((c.tc : Thread Cert.Reference8Ideal.nD Cert.Reference8Ideal.τ).loc Cert.Reference8Ideal.main_arg6) = up1 gm := e6.trans H.a6
  have a7 : m' ((c.tc : Thread Cert.Reference8Ideal.nD Cert.Reference8Ideal.τ).loc Cert.Reference8Ideal.main_arg7) = up2 ct := e7.trans H.a7
  refine ⟨r0.trans ?_, r1.trans ?_, r2.trans ?_, k⟩
  · refine (Cert.Reference8Ideal.Read.val_main_v41_eq m' c).trans ?_
    rw [a0, a1, a2, a3, a4, a5, a6, a7]
    exact (v41_up P0 P1 P2 P3 W3 X ct gm).trans (final8 P0 P1 P2 P3 W3 X ct gm m c H).symm
  · refine (Cert.Reference8Ideal.Read.val_main_v42_eq m' c).trans ?_
    rw [a0, a1, a2, a3, a4, a5, a6, a7]
    exact (v42_up P0 P1 P2 P3 W3 X ct gm).trans (final9 P0 P1 P2 P3 W3 X ct gm m c H).symm
  · refine (Cert.Reference8Ideal.Read.val_main_v43_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5))).trans ?_
    rw [a0, a1, a2, a3, a4, a5]
    exact (v43_up P0 P1 P2 P3 W3 X).trans (final10 P0 P1 P2 P3 W3 X ct gm m c H).symm

end Cert.MixIn

end
-- ==== Proof.MlpUp.lean ====
/- The MLP's way up: every row over its root mean square, times the gain, and the product with the up weights in four
   parts; index by index over the extended reals, no precondition. -/
module

public import proofs.«01_k».proof.Proof.Sums
public import proofs.«01_k».proof.Defs
public import proofs.«01_k».proof.Proof.Gen.Kernel9Ideal.Value
public import proofs.«01_k».proof.Proof.Gen.Reference9Ideal.Read
public import Idealize.ShloMosaic.Lib.Pipeline.ValueKit.Tiles

@[expose] public section

set_option maxRecDepth 16384

noncomputable section

namespace Cert.MlpUp

open Idealize.ShloMosaic Idealize.ShloMosaic.ValueIdx Idealize.ShloMosaic.TcCoe Idealize.SL.Sem
open Cert.Rows Cert.Kernel9Ideal Cert.Kernel9Ideal.Gen
open Idealize.ShloMosaic.Pipeline (Dat)

/-- Entry `k` of the row `r` over its root mean square, times the gain `g`. -/
def nrm (r : Fin 1024 → EReal) (g : EReal) (k : Fin 1024) : EReal :=
  r k * Ideal.rsqrt (Ideal.div (∑ q, r q * r q) (Ideal.ofBits .f32 0x44800000#32) + Ideal.ofBits .f32 0x358637BD#32) * g

theorem rowsum_at {a b : ℕ} (x : FVec Ideal ⟨2, ![a, b]⟩ .f32) (ax : List (Fin 2)) (hax : ax = [1]) (h : (⟨2, ![a, b]⟩ : Shape).Reduces ax ⟨1, ![a]⟩)
    (hφ : FKind.Formats .f32) (hacc : (0x00000000#32 : BitVec 32) = 0x00000000#32) (h2 : (⟨1, ![a]⟩ : Shape).ShapeCasts ⟨2, ![a, 1]⟩) (p : Fin a) (u : Fin 1) :
    shapeCast ⟨2, ![a, 1]⟩ (multiReduction (F := Ideal) (φ := .f32) .add ax ⟨1, ![a]⟩ x 0x00000000#32 h hφ hacc) h2 (ix2 p u)
      = ∑ k, x (ix2 p k) := by
  subst hax
  rw [shapeCast_apply _ h2 (ix2 p u) (ix1 p) (by
    rw [Shape.rowMajor_val_two, Shape.rowMajor_val_one]
    have hu : u.val = 0 := by omega
    show p.val = p.val * 1 + u.val
    omega), Ideal.multiReduction_add_single _ _ _ _ hacc]
  refine Finset.sum_congr rfl fun k _ => ?_
  rw [lift_row]; rfl

theorem mulf_at {s : Shape} (x y : FVec Ideal s .f32) (i : s.Idx) : mulf x y i = (x i * y i : EReal) := rfl

theorem spread_at {a b : ℕ} (x : FVec Ideal ⟨2, ![a, 1]⟩ .f32) (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p 0) fun ax => ?_
  match ax with
  | ⟨0, _⟩ =>
    show p.val = if a = 1 then 0 else p.val
    split
    · omega
    · rfl
  | ⟨1, _⟩ => show (0 : ℕ) = if (1 : ℕ) = 1 then 0 else q.val; rw [if_pos rfl]

theorem h_apply (x : FVec Ideal S512x1024 .f32) (g : FVec Ideal S1x1024 .f32) (p : Fin 512) (k : Fin 1024) :
    k0_pay3 (F := Ideal) x g (ix2 p k) = nrm (fun q => x (ix2 p q)) (g (ix2 (0 : Fin 1) k)) k := by
  unfold k0_pay3
  simp only [shapeCast_self]
  show (x (ix2 p k) * broadcastTo S512x1024 _ broadcasts_S512x1_S512x1024 (ix2 p k) * broadcastTo S512x1024 g broadcasts_S1x1024_S512x1024 (ix2 p k) : EReal) = _
  rw [spread_at, broadcastTo_1b_ab_apply g broadcasts_S1x1024_S512x1024 p k]
  unfold nrm
  refine congrArg (fun s => (x (ix2 p k) * Ideal.rsqrt (Ideal.div s (Ideal.ofBits .f32 0x44800000#32) + Ideal.ofBits .f32 0x358637BD#32) * g (ix2 (0 : Fin 1) k) : EReal)) ?_
  exact rowsum_at _ _ rfl _ _ _ _ p 0

theorem z_apply (x : FVec Ideal S512x1024 .f32) (g : FVec Ideal S1x1024 .f32) (w : FVec Ideal S1x1x1024x1024 .bf16) (p : Fin 512) (j : Fin 1024) :
    k0_pay2 (F := Ideal) (k0_pay3 (F := Ideal) x g) w (ix2 p j) = ∑ k, nrm (fun q => x (ix2 p q)) (g (ix2 (0 : Fin 1) k)) k * w (ix4 (0 : Fin 1) (0 : Fin 1) k j) := by
  have e : dot_S512x1024_S1024x1024_S512x1024_1_0_0_1_n_n = nnDims 512 1024 1024 dot_S512x1024_S1024x1024_S512x1024_1_0_0_1_n_n_wf := rfl
  unfold k0_pay2
  simp only [matmul]
  rw [e]
  refine (nn_apply (φ₁ := .bf16) (φ₂ := .bf16) dot_S512x1024_S1024x1024_S512x1024_1_0_0_1_n_n_wf none (k0_pay3 (F := Ideal) x g) _ p j).trans ?_
  exact Finset.sum_congr rfl fun k _ => congrArg₂ (· * ·) (h_apply x g p k) (slab_apply w _ k j)

/-- The normed row `p` of a tile against the column `j` of the weights as the tile holds them. -/
def tile (x0 : FVec Ideal S512x1024 .f32) (x1 : FVec Ideal S1x1024 .f32) (x2 : FVec Ideal S4x1x1024x1024 .bf16) (p : Fin 512) (j : Fin 4096) : EReal :=
  ∑ k, nrm (fun q => x0 (ix2 p q)) (x1 (ix2 (0 : Fin 1) k)) k * x2 (ix4 (⟨j.val / 1024, by omega⟩ : Fin 4) (0 : Fin 1) k (⟨j.val % 1024, by omega⟩ : Fin 1024))

theorem hz2 : (![0, 0] : Fin 2 → ℕ) = fun _ => 0 := by funext a; match a with | ⟨0, _⟩ => rfl | ⟨1, _⟩ => rfl

theorem part_at (x0 : FVec Ideal S512x1024 .f32) (x1 : FVec Ideal S1x1024 .f32) (x2 : FVec Ideal S4x1x1024x1024 .bf16)
    (p : Fin 512) (j : Fin 4096) (s : ℕ) (o : ℕ) (ho : o = 1024 * s)
    (inb1 : ∀ a, (![s, 0, 0, 0] : Fin 4 → ℕ) a + (S1x1x1024x1024 : Shape).size a ≤ (S4x1x1024x1024 : Shape).size a)
    (inb2 : ∀ a, (![0, o] : Fin 2 → ℕ) a + S512x1024.size a ≤ S512x4096.size a) :
    View.TileAt (Val := Elt Ideal) (S := S512x4096) (e := .bf16) (ix2 p j) ![0, o] S512x1024.size
      (k0_pay2 (F := Ideal) (k0_pay3 (F := Ideal) (View.ld x0 r0_0) (View.ld x1 r0_1)) (View.ld x2 (Rect.unit (s := S4x1x1024x1024) ![s, 0, 0, 0] S1x1x1024x1024.size inb1))) (tile x0 x1 x2 p j) := by
  intro x hx
  subst ho
  obtain ⟨a, b, rfl⟩ : ∃ a b, x = ix2 a b := ⟨x 0, x 1, eq_ix2 x⟩
  have h0 : p.val = 0 + a.val := hx 0
  have h1 : j.val = 1024 * s + b.val := hx 1
  have hp : p = a := Fin.ext (by omega)
  have hb := b.isLt
  subst hp
  rw [z_apply, View.ld_unit_zero (Val := Elt Ideal) (e := .f32) (S := S512x1024) hz2 _ x0,
    View.ld_unit_zero (Val := Elt Ideal) (e := .f32) (S := S1x1024) hz2 _ x1]
  unfold tile
  refine Finset.sum_congr rfl fun k _ => congrArg₂ (· * ·) rfl ?_
  refine View.ld_unit_apply_of (Val := Elt Ideal) (e := .bf16) (S := S4x1x1024x1024) x2 _ _ _ _ _ fun c => ?_
  match c with
  | ⟨0, _⟩ => show j.val / 1024 = s + 0; omega
  | ⟨1, _⟩ => rfl
  | ⟨2, _⟩ => show k.val = 0 + k.val; omega
  | ⟨3, _⟩ => show j.val % 1024 = 0 + b.val; omega

theorem out_h (x0 : FVec Ideal S512x1024 .f32) (x1 : FVec Ideal S1x1024 .f32) (x2 : FVec Ideal S4x1x1024x1024 .bf16)
    (p : Fin 512) (k : Fin 1024) : out0_3 (F := Ideal) x0 x1 x2 (ix2 p k) = nrm (fun q => x0 (ix2 p q)) (x1 (ix2 (0 : Fin 1) k)) k := by
  unfold out0_3
  rw [View.canon_unit_zero hz2, h_apply, View.ld_unit_zero (Val := Elt Ideal) (e := .f32) (S := S512x1024) hz2 _ x0,
    View.ld_unit_zero (Val := Elt Ideal) (e := .f32) (S := S1x1024) hz2 _ x1]

theorem out_z (x0 : FVec Ideal S512x1024 .f32) (x1 : FVec Ideal S1x1024 .f32) (x2 : FVec Ideal S4x1x1024x1024 .bf16)
    (p : Fin 512) (j : Fin 4096) : out0_4 (F := Ideal) x0 x1 x2 (ix2 p j) = tile x0 x1 x2 p j := by
  unfold out0_4
  refine View.canon_eq_of_allAt _ _ _ (cover0_4 _ _ _ _ _) ?_
  refine View.allAt_cons_unit _ _ _ _ _ (part_at x0 x1 x2 p j 3 3072 rfl inb_S4x1x1024x1024_S1x1x1024x1024_3_0_0_0 inb_S512x4096_S512x1024_0_3072) ?_
  refine View.allAt_cons_unit _ _ _ _ _ (part_at x0 x1 x2 p j 2 2048 rfl inb_S4x1x1024x1024_S1x1x1024x1024_2_0_0_0 inb_S512x4096_S512x1024_0_2048) ?_
  refine View.allAt_cons_unit _ _ _ _ _ (part_at x0 x1 x2 p j 1 1024 rfl inb_S4x1x1024x1024_S1x1x1024x1024_1_0_0_0 inb_S512x4096_S512x1024_0_1024) ?_
  refine View.allAt_cons_unit _ _ _ _ _ (part_at x0 x1 x2 p j 0 0 rfl inb_S4x1x1024x1024_S1x1x1024x1024_0_0_0_0 inb_S512x4096_S512x1024_0_0) ?_
  exact View.allAt_nil _ _

variable (m : (ℓ : Loc nD τ sig) → Buf (Elt Ideal) ℓ) (c : Dev nD)

/-- The three arguments as they are at the start. -/
abbrev X : FVec Ideal S8192x1024 .f32 := m ((c : Thread nD τ).loc main_arg0)
abbrev Y : FVec Ideal S1024 .f32 := m ((c : Thread nD τ).loc main_arg1)
abbrev W : FVec Ideal S2x1024x4096 .f32 := m ((c : Thread nD τ).loc main_arg2)

/-- The normed rows. -/
def goalH : FVec Ideal S8192x1024 .bf16 := fun i => nrm (fun q => X m c (ix2 (i 0) q)) (Y m c (ix1 (i 1))) (i 1)

/-- Their product with the weights. -/
def goalZ : FVec Ideal S8192x4096 .bf16 := fun i =>
  ∑ k : Fin 1024, nrm (fun q => X m c (ix2 (i 0) q)) (Y m c (ix1 k)) k * W m c (ix3 (0 : Fin 2) k (i 1))

theorem v0_apply (k : Fin 1024) : (V m c main_v0 : FVec Ideal S1x1024 .f32) (ix2 (0 : Fin 1) k) = Y m c (ix1 k) := by
  have e : (V m c main_v0 : FVec Ideal S1x1024 .f32) = broadcastInDim S1x1024 ![1] bcast_S1024_S1x1024_1 (Y m c) := by
    unfold_abbrev_sides
    after_results
    all_goals rfl
  rw [e]
  exact broadcastInDim_apply _ bcast_S1024_S1x1024_1 (Y m c) (ix2 (0 : Fin 1) k) (ix1 k) (fun a => match a with
    | ⟨0, _⟩ => by show k.val = if (1024 : ℕ) = 1 then 0 else k.val; rw [if_neg (by decide)])

theorem v3_apply (s : Fin 4) (k q : Fin 1024) :
    (V m c main_v3 : FVec Ideal S4x2x1024x1024 .bf16) (ix4 s (0 : Fin 2) k q) = W m c (ix3 (0 : Fin 2) k (⟨s.val * 1024 + q.val, by omega⟩ : Fin 4096)) := by
  have e : (V m c main_v3 : FVec Ideal S4x2x1024x1024 .bf16) = transpose S4x2x1024x1024 [2, 0, 1, 3]
      (shapeCast S2x1024x4x1024 (W m c) shapeCasts_S2x1024x4096_S2x1024x4x1024) transposes_S2x1024x4x1024_S4x2x1024x1024_2_0_1_3 := by
    unfold_abbrev_sides
    after_results
    rfl
  rw [e]
  refine (transpose_apply _ _ _ _ (ix4 (0 : Fin 2) k s q) fun b => match b with
    | ⟨0, _⟩ => rfl
    | ⟨1, _⟩ => rfl
    | ⟨2, _⟩ => rfl
    | ⟨3, _⟩ => rfl).trans ?_
  refine shapeCast_apply _ _ _ _ ?_
  rewrite [Shape.rowMajor_val_four, Shape.rowMajor_val_three]
  show (0 * 1024 + k.val) * 4096 + (s.val * 1024 + q.val) = ((0 * 1024 + k.val) * 4 + s.val) * 1024 + q.val
  omega

theorem idx0 (t : Fin cfg0.N) : win0_0.index t 0 = t.val ∧ win0_0.index t 1 = 0 :=
  (by decide +kernel : ∀ t : Fin grid0.N, win0_0.index t 0 = t.val ∧ win0_0.index t 1 = 0) t

theorem idx1 (t : Fin cfg0.N) : win0_1.index t 0 = 0 ∧ win0_1.index t 1 = 0 :=
  (by decide +kernel : ∀ t : Fin grid0.N, win0_1.index t 0 = 0 ∧ win0_1.index t 1 = 0) t

theorem idx2 (t : Fin cfg0.N) : win0_2.index t 0 = 0 ∧ win0_2.index t 1 = 0 ∧ win0_2.index t 2 = 0 ∧ win0_2.index t 3 = 0 :=
  (by decide +kernel : ∀ t : Fin grid0.N, win0_2.index t 0 = 0 ∧ win0_2.index t 1 = 0 ∧ win0_2.index t 2 = 0 ∧ win0_2.index t 3 = 0) t

theorem idx3 (t : Fin cfg0.N) : win0_3.index t 0 = t.val ∧ win0_3.index t 1 = 0 :=
  (by decide +kernel : ∀ t : Fin grid0.N, win0_3.index t 0 = t.val ∧ win0_3.index t 1 = 0) t

theorem idx4 (t : Fin cfg0.N) : win0_4.index t 0 = t.val ∧ win0_4.index t 1 = 0 :=
  (by decide +kernel : ∀ t : Fin grid0.N, win0_4.index t 0 = t.val ∧ win0_4.index t 1 = 0) t

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

theorem blk0 (t : Fin cfg0.N) (p : Fin 512) (k : Fin 1024) :
    (iblk m c 0 t : FVec Ideal S512x1024 .f32) (ix2 p k) = X m c (ix2 (rowOf t.val p) k) := by
  have hi := idx0 t
  have ht : t.val < 16 := lt_of_lt_of_eq t.isLt N_0
  unfold iblk
  rw [View.read_apply]
  show (V m c main_arg0 : FVec Ideal S8192x1024 .f32) _ = _
  rw [V_main_arg0]
  refine congrArg (X m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 1024 + 1 * k.val = k.val
    rw [hi.2]; omega

theorem blk1 (t : Fin cfg0.N) (k : Fin 1024) : (iblk m c 1 t : FVec Ideal S1x1024 .f32) (ix2 (0 : Fin 1) k) = Y m c (ix1 k) := by
  have hi := idx1 t
  unfold iblk
  rw [View.read_apply]
  refine Eq.trans ?_ (v0_apply m c k)
  show (V m c main_v0 : FVec Ideal S1x1024 .f32) _ = _
  refine congrArg (V m c main_v0 : FVec Ideal S1x1024 .f32) (funext fun a => Fin.ext ?_)
  match a with
  | ⟨0, _⟩ =>
    show win0_1.index t 0 * 1 + 1 * 0 = 0
    rw [hi.1]
  | ⟨1, _⟩ =>
    show win0_1.index t 1 * 1024 + 1 * k.val = k.val
    rw [hi.2]; omega

theorem blk2 (t : Fin cfg0.N) (s : Fin 4) (k q : Fin 1024) :
    (iblk m c 2 t : FVec Ideal S4x1x1024x1024 .bf16) (ix4 s (0 : Fin 1) k q) = W m c (ix3 (0 : Fin 2) k (⟨s.val * 1024 + q.val, by omega⟩ : Fin 4096)) := by
  have hi := idx2 t
  unfold iblk
  rw [View.read_apply]
  refine Eq.trans ?_ (v3_apply m c s k q)
  show (V m c main_v3 : FVec Ideal S4x2x1024x1024 .bf16) _ = _
  refine congrArg (V m c main_v3 : FVec Ideal S4x2x1024x1024 .bf16) (funext fun a => Fin.ext ?_)
  match a with
  | ⟨0, _⟩ =>
    show win0_2.index t 0 * 4 + 1 * s.val = s.val
    rw [hi.1]; omega
  | ⟨1, _⟩ =>
    show win0_2.index t 1 * 1 + 1 * 0 = 0
    rw [hi.2.1]
  | ⟨2, _⟩ =>
    show win0_2.index t 2 * 1024 + 1 * k.val = k.val
    rw [hi.2.2.1]; omega
  | ⟨3, _⟩ =>
    show win0_2.index t 3 * 1024 + 1 * q.val = q.val
    rw [hi.2.2.2]; omega

theorem row_eq (t : Fin cfg0.N) (p : Fin 512) (k : Fin 1024) :
    nrm (fun q => (iblk m c 0 t : FVec Ideal S512x1024 .f32) (ix2 p q)) ((iblk m c 1 t : FVec Ideal S1x1024 .f32) (ix2 (0 : Fin 1) k)) k
      = nrm (fun q => X m c (ix2 (rowOf t.val p) q)) (Y m c (ix1 k)) k := by
  rw [blk1, (funext fun q => blk0 m c t p q : (fun q => (iblk m c 0 t : FVec Ideal S512x1024 .f32) (ix2 p q)) = fun q => X m c (ix2 (rowOf t.val p) q))]

theorem rowH_eq (t : Fin cfg0.N) (p : Fin 512) (k : Fin 1024) :
    nrm (fun q => (iblk m c 0 t : FVec Ideal S512x1024 .f32) (ix2 p q)) ((iblk m c 1 t : FVec Ideal S1x1024 .f32) (ix2 (0 : Fin 1) k)) k
      = goalH m c (ix2 (rowOf t.val p) k) := row_eq m c t p k

theorem tile_eq (t : Fin cfg0.N) (p : Fin 512) (j : Fin 4096) :
    tile (iblk m c 0 t) (iblk m c 1 t) (iblk m c 2 t) p j = goalZ m c (ix2 (rowOf t.val p) j) := by
  unfold tile goalZ
  exact Finset.sum_congr rfl fun k _ => congrArg₂ (· * ·) (row_eq m c t p k) ((blk2 m c t _ k _).trans (congrArg (fun r => W m c (ix3 (0 : Fin 2) k r)) (Fin.ext (by show j.val / 1024 * 1024 + j.val % 1024 = j.val; omega))))

theorem final3 : (dats m 0 c).arrAt 3 cfg0.N = goalH m c :=
  (dats m 0 c).arrAt_eq_of_cover 3 (goalH m c) (fun t _ => by
    have hi := idx3 t
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_h _ _ _ p k).trans (rowH_eq m c t p k)).trans ?_
    refine congrArg (goalH m c) (funext fun a => Fin.ext ?_)
    match a with
    | ⟨0, _⟩ =>
      show (rowOf t.val p).val = win0_3.index t 0 * 512 + 1 * p.val
      rw [rowOf_val _ ht, hi.1]; omega
    | ⟨1, _⟩ =>
      show k.val = win0_3.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idx3 ⟨(i 0 : Nat) / 512, ht⟩
    refine ⟨⟨(i 0 : Nat) / 512, ht⟩, flush0_3 _, ?_⟩
    show i ∈ ((View.whole main_v4_0).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 1024 ≤ (i 1 : Nat) ∧ (i 1 : Nat) < win0_3.index _ 1 * 1024 + 1024
      rw [hi.2]; omega

theorem final4 : (dats m 0 c).arrAt 4 cfg0.N = goalZ m c :=
  (dats m 0 c).arrAt_eq_of_cover 4 (goalZ m c) (fun t _ => by
    have hi := idx4 t
    have ht : t.val < 16 := lt_of_lt_of_eq t.isLt N_0
    rw [Value.flushed4]
    funext j
    rw [View.read_apply]
    obtain ⟨p, k, rfl⟩ : ∃ p k, j = ix2 p k := ⟨j 0, j 1, eq_ix2 j⟩
    refine ((out_z _ _ _ p k).trans (tile_eq m c t p k)).trans ?_
    refine congrArg (goalZ m c) (funext fun a => Fin.ext ?_)
    match a with
    | ⟨0, _⟩ =>
      show (rowOf t.val p).val = win0_4.index t 0 * 512 + 1 * p.val
      rw [rowOf_val _ ht, hi.1]; omega
    | ⟨1, _⟩ =>
      show k.val = win0_4.index t 1 * 4096 + 1 * k.val
      rw [hi.2]; omega) fun i => by
    have hN : cfg0.N = 16 := N_0
    have h0 : (i 0 : Nat) < 8192 := (i 0).isLt
    have h1 : (i 1 : Nat) < 4096 := (i 1).isLt
    have ht : (i 0 : Nat) / 512 < cfg0.N := by omega
    have hi := idx4 ⟨(i 0 : Nat) / 512, ht⟩
    refine ⟨⟨(i 0 : Nat) / 512, ht⟩, flush0_4 _, ?_⟩
    show i ∈ ((View.whole main_v4_1).slice (win0_4.rect ⟨(i 0 : Nat) / 512, ht⟩)).set
    rw [View.set_slice_whole, Rect.mem_set_unit]
    intro x
    match x with
    | ⟨0, _⟩ =>
      show win0_4.index _ 0 * 512 ≤ (i 0 : Nat) ∧ (i 0 : Nat) < win0_4.index _ 0 * 512 + 512
      rw [hi.1]; dsimp only; omega
    | ⟨1, _⟩ =>
      show win0_4.index _ 1 * 4096 ≤ (i 1 : Nat) ∧ (i 1 : Nat) < win0_4.index _ 1 * 4096 + 4096
      rw [hi.2]; omega

/-! ## The reference -/

theorem ref_h_at (p : Fin 8192) (k : Fin 1024) : Cert.Reference9Ideal.Read.val_main_v12 (F := Ideal) (X m c) (Y m c) (ix2 p k)
    = nrm (fun q => X m c (ix2 p q)) (Y m c (ix1 k)) k := by
  rw [Cert.Reference9Ideal.Read.val_main_v12_apply, Cert.Reference9Ideal.Read.val_main_v9_apply, Cert.Reference9Ideal.Read.val_main_v8_apply,
    Cert.Reference9Ideal.Read.val_main_v7_apply, Cert.Reference9Ideal.Read.val_main_v6_apply, Cert.Reference9Ideal.Read.val_main_v4_apply,
    Cert.Reference9Ideal.Read.val_main_v2_apply, Cert.Reference9Ideal.Read.val_main_v1_apply, Cert.Reference9Ideal.Read.val_main_v3_apply,
    Cert.Reference9Ideal.Read.val_main_v5_apply, Cert.Reference9Ideal.Read.val_main_v11_apply, Cert.Reference9Ideal.Read.val_main_v10_apply]
  unfold nrm
  refine congrArg₂ (fun s g => (X m c (ix2 p k) * Ideal.rsqrt (Ideal.div s (Ideal.ofBits .f32 0x44800000#32) + Ideal.ofBits .f32 0x358637BD#32) * g : EReal)) ?_ ?_
  · refine Eq.trans (b := ((0 : EReal) + ∑ q, X m c (ix2 p q) * X m c (ix2 p q))) ?_ (zero_add _)
    refine congrArg₂ (· + ·) Ideal.ofBits_zero_f32 (Finset.sum_congr rfl fun q _ => ?_)
    rw [Cert.Reference9Ideal.Read.val_main_v0_apply]
    refine congrArg (fun i => (X m c i * X m c i : EReal)) (funext fun a => ?_)
    match a with
    | ⟨0, _⟩ => rfl
    | ⟨1, _⟩ => rfl
  · refine congrArg (Y m c) (funext fun a => ?_)
    match a with
    | ⟨0, _⟩ => rfl

theorem ref_h : Cert.Reference9Ideal.Read.val_main_v13 (F := Ideal) (X m c) (Y m c) = goalH m c := by
  funext i
  obtain ⟨p, k, rfl⟩ : ∃ p k, i = ix2 p k := ⟨i 0, i 1, eq_ix2 i⟩
  rw [Cert.Reference9Ideal.Read.val_main_v13_apply]
  exact ref_h_at m c p k

theorem ref_z : Cert.Reference9Ideal.Read.val_main_v17 (F := Ideal) (X m c) (Y m c) (W m c) = goalZ m c := by
  funext i
  obtain ⟨p, j, rfl⟩ : ∃ p j, i = ix2 p j := ⟨i 0, i 1, eq_ix2 i⟩
  rw [Cert.Reference9Ideal.Read.val_main_v17_apply]
  refine (Cert.Reference9Ideal.Read.val_main_v16_apply _ _ _ _).trans ?_
  refine Finset.sum_congr rfl fun k _ => congrArg₂ (· * ·) (Eq.trans (congrArg _ (funext fun a => ?_)) (ref_h_at m c p k)) ?_
  · match a with
    | ⟨0, _⟩ => rfl
    | ⟨1, _⟩ => rfl
  · rw [Cert.Reference9Ideal.Read.val_main_v15_apply, Cert.Reference9Ideal.Read.val_main_v14_apply]
    refine congrArg (W m c) (funext fun a => Fin.ext ?_)
    have hj := j.isLt
    have hk := k.isLt
    match a with
    | ⟨0, _⟩ => rfl
    | ⟨1, _⟩ => show (k.val * 4096 + j.val) / 4096 % 1024 = k.val; omega
    | ⟨2, _⟩ => show (k.val * 4096 + j.val) % 4096 = j.val; omega

/-- The reference ends with its arguments as they were; it has no semaphore. -/
theorem frame : quiescent_Reference9Ideal (hReference9Ideal := Cert.Reference9Ideal.Gen.facts) := fun m g _ =>
  (θ_run Cert.Reference9Ideal.defs _ _).mono (fun r h => ⟨fun c => (h c).2.2, sem_eq_zero_of_no_sems (by decide) r.2⟩)
    (Cert.Reference9Ideal.Value.run m g)

theorem algebraic :
    algebraic_Kernel9Ideal_Reference9Ideal (hKernel9Ideal := Cert.Kernel9Ideal.Gen.facts) (hReference9Ideal := Cert.Reference9Ideal.Gen.facts) := by
  intro m g m' g' _ hargs
  refine ⟨fun c => (dats m 0 c).arrAt 3 cfg0.N, fun c => (dats m 0 c).arrAt 4 cfg0.N, Cert.Kernel9Ideal.Value.run_blocks m g, ?_⟩
  refine (θ_run Cert.Reference9Ideal.defs _ _).mono (fun r h c => ?_) (Cert.Reference9Ideal.Value.run m' g')
  obtain ⟨e0, e1, e2⟩ := hargs c
  obtain ⟨r0, r1, k⟩ := h c
  refine ⟨r0.trans ?_, r1.trans ?_, k⟩
  · refine (Cert.Reference9Ideal.Read.val_main_v13_eq _ _).trans ?_
    rw [e0, e1]
    exact (ref_h m c).trans (final3 m c).symm
  · refine (Cert.Reference9Ideal.Read.val_main_v17_eq _ _ _).trans ?_
    rw [e0, e1, e2]
    exact (ref_z m c).trans (final4 m c).symm

end Cert.MlpUp

end
-- ==== Proof.MlpDown.lean ====
/- The MLP's way down: the squared positive part of the up projection times the down weights, in four parts, added one
   after the other onto what passes by; index by index over the extended reals, no precondition. -/
module

public import proofs.«01_k».proof.Proof.Sums
public import proofs.«01_k».proof.Defs
public import proofs.«01_k».proof.Proof.Gen.Kernel10Ideal.Value
public import proofs.«01_k».proof.Proof.Gen.Reference10Ideal.Read
public import Idealize.ShloMosaic.Lib.Pipeline.ValueKit.Tiles

@[expose] public section

set_option maxRecDepth 16384

noncomputable section

namespace Cert.MlpDown

open Idealize.ShloMosaic Idealize.ShloMosaic.ValueIdx Idealize.ShloMosaic.TcCoe Idealize.SL.Sem
open Cert.Rows Cert.Kernel10Ideal Cert.Kernel10Ideal.Gen
open Idealize.ShloMosaic.Pipeline (Dat)

/-- The square of the positive part. -/
def act (u : EReal) : EReal := max u (Ideal.ofBits .f32 0x00000000#32) * max u (Ideal.ofBits .f32 0x00000000#32)

/-- A sum over a range cut in two. -/
theorem sum_cut {M : Type*} [AddCommMonoid M] (a b N : ℕ) (h : a + b = N) (f : Fin N → M) :
    ∑ q, f q = ∑ k : Fin a, f ⟨k.val, by omega⟩ + ∑ k : Fin b, f ⟨a + k.val, by omega⟩ := by
  subst h
  exact Fin.sum_univ_add f

/-- Place `k` of part `s`. -/
def place (s : Fin 4) (k : Fin 1024) : Fin 4096 := ⟨s.val * 1024 + k.val, by omega⟩

theorem sum_four {M : Type*} [AddCommMonoid M] (f : Fin 4096 → M) :
    ∑ q, f q = ∑ k, f (place 0 k) + ∑ k, f (place 1 k) + ∑ k, f (place 2 k) + ∑ k, f (place 3 k) := by
  rw [sum_cut 3072 1024 4096 rfl f, sum_cut 2048 1024 3072 rfl fun k => f ⟨k.val, by omega⟩, sum_cut 1024 1024 2048 rfl fun k => f ⟨k.val, by omega⟩]
  refine congrArg₂ (· + ·) (congrArg₂ (· + ·) (congrArg₂ (· + ·) (Finset.sum_congr rfl fun k _ => congrArg f (Fin.ext ?_)) rfl) rfl) rfl
  show k.val = 0 * 1024 + k.val
  omega

theorem addf_at {s : Shape} (x y : FVec Ideal s .f32) (i : s.Idx) : addf x y i = (x i + y i : EReal) := rfl

/-- One part of the product at (p, j). -/
def part (u : FVec Ideal S512x1024 .bf16) (w : FVec Ideal S1x1x1024x1024 .bf16) (p : Fin 512) (j : Fin 1024) : EReal :=
  ∑ k, act (u (ix2 p k)) * w (ix4 (0 : Fin 1) (0 : Fin 1) k j)

theorem part_apply (u : FVec Ideal S512x1024 .bf16) (w : FVec Ideal S1x1x1024x1024 .bf16) (X : FVec Ideal S512x1024 .bf16)
    (hX : ∀ i, X i = act (u i)) (p : Fin 512) (j : Fin 1024) :
    FloatOps.matmul dot_S512x1024_S1024x1024_S512x1024_1_0_0_1_n_n none X (shapeCast S1024x1024 w shapeCasts_S1x1x1024x1024_S1024x1024)
      (constant S512x1024 .f32 0x00000000#32) (ix2 p j) = part u w p j := by
  have e : dot_S512x1024_S1024x1024_S512x1024_1_0_0_1_n_n = nnDims 512 1024 1024 dot_S512x1024_S1024x1024_S512x1024_1_0_0_1_n_n_wf := rfl
  rw [e]
  refine (nn_apply (φ₁ := .bf16) (φ₂ := .bf16) dot_S512x1024_S1024x1024_S512x1024_1_0_0_1_n_n_wf none X _ p j).trans ?_
  exact Finset.sum_congr rfl fun k _ => congrArg₂ (· * ·) (hX _) (slab_apply w _ k j)

theorem pay_apply (r : FVec Ideal S512x1024 .f32) (u0 u1 u2 u3 : FVec Ideal S512x1024 .bf16) (w0 w1 w2 w3 : FVec Ideal S1x1x1024x1024 .bf16)
    (p : Fin 512) (j : Fin 1024) :
    k0_pay1 (F := Ideal) (k0_pay2 (F := Ideal) r u0 w0 u1 w1) (k0_pay3 (F := Ideal) u2 w2) u3 w3 (ix2 p j)
      = r (ix2 p j) + part u0 w0 p j + part u1 w1 p j + part u2 w2 p j + part u3 w3 p j := by
  unfold k0_pay1 k0_pay2 k0_pay3
  simp only [matmul, shapeCast_self, addf_at]
  exact congrArg₂ (· + ·) (congrArg₂ (· + ·) (congrArg₂ (· + ·) (congrArg₂ (· + ·) rfl (part_apply u0 w0 _ (fun _ => rfl) p j))
    (part_apply u1 w1 _ (fun _ => rfl) p j)) (part_apply u2 w2 _ (fun _ => rfl) p j)) (part_apply u3 w3 _ (fun _ => rfl) p j)

/-- The row `p` of a tile against the column `j` of the weights as the tile holds them, on top of what passes by. -/
def tile (x0 : FVec Ideal S512x4096 .bf16) (x1 : FVec Ideal S4x1x1024x1024 .bf16) (x2 : FVec Ideal S512x1024 .f32)
    (p : Fin 512) (j : Fin 1024) : EReal :=
  x2 (ix2 p j) + ∑ q, act (x0 (ix2 p q)) * x1 (ix4 (⟨q.val / 1024, by omega⟩ : Fin 4) (0 : Fin 1) (⟨q.val % 1024, by omega⟩ : Fin 1024) j)

theorem hz2 : (![0, 0] : Fin 2 → ℕ) = fun _ => 0 := by funext a; match a with | ⟨0, _⟩ => rfl | ⟨1, _⟩ => rfl

theorem part_at (x0 : FVec Ideal S512x4096 .bf16) (x1 : FVec Ideal S4x1x1024x1024 .bf16) (p : Fin 512) (j : Fin 1024) (s : Fin 4) (o n : ℕ)
    (ho : o = s.val * 1024) (hn : n = s.val)
    (inb1 : ∀ a, (![0, o] : Fin 2 → ℕ) a + S512x1024.size a ≤ S512x4096.size a)
    (inb2 : ∀ a, (![n, 0, 0, 0] : Fin 4 → ℕ) a + S1x1x1024x1024.size a ≤ S4x1x1024x1024.size a) :
    part (View.ld (Val := Elt Ideal) (S := S512x4096) (e' := .bf16) x0 (Rect.unit (s := S512x4096) ![0, o] S512x1024.size inb1))
        (View.ld (Val := Elt Ideal) (S := S4x1x1024x1024) (e' := .bf16) x1 (Rect.unit (s := S4x1x1024x1024) ![n, 0, 0, 0] S1x1x1024x1024.size inb2)) p j
      = ∑ k, act (x0 (ix2 p (place s k))) * x1 (ix4 (⟨(place s k).val / 1024, by omega⟩ : Fin 4) (0 : Fin 1) (⟨(place s k).val % 1024, by omega⟩ : Fin 1024) j) := by
  subst ho hn
  unfold part
  refine Finset.sum_congr rfl fun k _ => congrArg₂ (· * ·) (congrArg act ?_) ?_
  · refine View.ld_unit_apply_of (Val := Elt Ideal) (e := .bf16) (S := S512x4096) x0 _ _ _ _ _ fun a => ?_
    match a with
    | ⟨0, _⟩ => show p.val = 0 + p.val; omega
    | ⟨1, _⟩ => rfl
  · refine View.ld_unit_apply_of (Val := Elt Ideal) (e := .bf16) (S := S4x1x1024x1024) x1 _ _ _ _ _ fun a => ?_
    have hk := k.isLt
    match a with
    | ⟨0, _⟩ => show (s.val * 1024 + k.val) / 1024 = s.val + 0; omega
    | ⟨1, _⟩ => rfl
    | ⟨2, _⟩ => show (s.val * 1024 + k.val) % 1024 = 0 + k.val; omega
    | ⟨3, _⟩ => show j.val = 0 + j.val; omega

theorem out_apply (x0 : FVec Ideal S512x4096 .bf16) (x1 : FVec Ideal S4x1x1024x1024 .bf16) (x2 : FVec Ideal S512x1024 .f32)
    (p : Fin 512) (j : Fin 1024) : out0_3 (F := Ideal) x0 x1 x2 (ix2 p j) = tile x0 x1 x2 p j := by
  unfold out0_3
  rw [View.canon_unit_zero hz2]
  refine (pay_apply _ _ _ _ _ _ _ _ _ p j).trans ?_
  unfold tile
  rw [sum_four, ← add_assoc, ← add_assoc, ← add_assoc]
  exact congrArg₂ (· + ·) (congrArg₂ (· + ·) (congrArg₂ (· + ·) (congrArg₂ (· + ·)
    (congrFun (View.ld_unit_zero (Val := Elt Ideal) (e := .f32) (S := S512x1024) hz2 _ x2) _)
    (part_at x0 x1 p j 0 0 0 rfl rfl inb_S512x4096_S512x1024_0_0 inb_S4x1x1024x1024_S1x1x1024x1024_0_0_0_0))
    (part_at x0 x1 p j 1 1024 1 rfl rfl inb_S512x4096_S512x1024_0_1024 inb_S4x1x1024x1024_S1x1x1024x1024_1_0_0_0))
    (part_at x0 x1 p j 2 2048 2 rfl rfl inb_S512x4096_S512x1024_0_2048 inb_S4x1x1024x1024_S1x1x1024x1024_2_0_0_0))
    (part_at x0 x1 p j 3 3072 3 rfl rfl inb_S512x4096_S512x1024_0_3072 inb_S4x1x1024x1024_S1x1x1024x1024_3_0_0_0)

variable (m : (ℓ : Loc nD τ sig) → Buf (Elt Ideal) ℓ) (c : Dev nD)

/-- The three arguments as they are at the start. -/
abbrev U : FVec Ideal S8192x4096 .f32 := m ((c : Thread nD τ).loc main_arg0)
abbrev W : FVec Ideal S2x4096x1024 .f32 := m ((c : Thread nD τ).loc main_arg1)
abbrev R : FVec Ideal S8192x1024 .f32 := m ((c : Thread nD τ).loc main_arg2)

/-- The claim's array. -/
def goal : FVec Ideal S8192x1024 .f32 := fun i =>
  R m c i + ∑ q : Fin 4096, act (U m c (ix2 (i 0) q)) * W m c (ix3 (0 : Fin 2) q (i 1))

theorem v0_eq : (V m c main_v0 : FVec Ideal S8192x4096 .bf16) = U m c := by
  unfold_abbrev_sides
  after_results
  rfl

theorem v3_eq : (V m c main_v3 : FVec Ideal S4x2x1024x1024 .bf16)
    = transpose S4x2x1024x1024 [1, 0, 2, 3] (shapeCast S2x4x1024x1024 (W m c) shapeCasts_S2x4096x1024_S2x4x1024x1024)
      transposes_S2x4x1024x1024_S4x2x1024x1024_1_0_2_3 := by
  unfold_abbrev_sides
  after_results
  rfl

theorem v3_apply (s : Fin 4) (q : Fin 1024) (k : Fin 1024) :
    (V m c main_v3 : FVec Ideal S4x2x1024x1024 .bf16) (ix4 s (0 : Fin 2) q k) = W m c (ix3 (0 : Fin 2) (place s q) k) := by
  rw [v3_eq]
  refine (transpose_apply _ _ _ _ (ix4 (0 : Fin 2) s q k) fun b => ?_).trans ?_
  · match b with
    | ⟨0, _⟩ => rfl
    | ⟨1, _⟩ => rfl
    | ⟨2, _⟩ => rfl
    | ⟨3, _⟩ => rfl
  · refine shapeCast_apply _ _ _ _ ?_
    rewrite [Shape.rowMajor_val_four, Shape.rowMajor_val_three]
    show (0 * 4096 + (s.val * 1024 + q.val)) * 1024 + k.val = ((0 * 4 + s.val) * 1024 + q.val) * 1024 + k.val
    omega

theorem idx0 (t : Fin cfg0.N) : win0_0.index t 0 = t.val ∧ win0_0.index t 1 = 0 :=
  (by decide +kernel : ∀ t : Fin grid0.N, win0_0.index t 0 = t.val ∧ win0_0.index t 1 = 0) t

theorem idx1 (t : Fin cfg0.N) : win0_1.index t 0 = 0 ∧ win0_1.index t 1 = 0 ∧ win0_1.index t 2 = 0 ∧ win0_1.index t 3 = 0 :=
  (by decide +kernel : ∀ t : Fin grid0.N, win0_1.index t 0 = 0 ∧ win0_1.index t 1 = 0 ∧ win0_1.index t 2 = 0 ∧ win0_1.index t 3 = 0) t

theorem idx2 (t : Fin cfg0.N) : win0_2.index t 0 = t.val ∧ win0_2.index t 1 = 0 :=
  (by decide +kernel : ∀ t : Fin grid0.N, win0_2.index t 0 = t.val ∧ win0_2.index t 1 = 0) t

theorem idx3 (t : Fin cfg0.N) : win0_3.index t 0 = t.val ∧ win0_3.index t 1 = 0 :=
  (by decide +kernel : ∀ t : Fin grid0.N, win0_3.index t 0 = t.val ∧ win0_3.index t 1 = 0) t

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

theorem blk0 (t : Fin cfg0.N) (p : Fin 512) (k : Fin 4096) :
    (iblk m c 0 t : FVec Ideal S512x4096 .bf16) (ix2 p k) = U m c (ix2 (rowOf t.val p) k) := by
  have hi := idx0 t
  have ht : t.val < 16 := lt_of_lt_of_eq t.isLt N_0
  unfold iblk
  rw [View.read_apply]
  show (V m c main_v0 : FVec Ideal S8192x4096 .bf16) _ = _
  rw [v0_eq]
  refine congrArg (U m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 4096 + 1 * k.val = k.val
    rw [hi.2]; omega

theorem blk1 (t : Fin cfg0.N) (s : Fin 4) (q : Fin 1024) (k : Fin 1024) :
    (iblk m c 1 t : FVec Ideal S4x1x1024x1024 .bf16) (ix4 s (0 : Fin 1) q k) = W m c (ix3 (0 : Fin 2) (place s q) k) := by
  have hi := idx1 t
  unfold iblk
  rw [View.read_apply]
  refine Eq.trans ?_ (v3_apply m c s q k)
  show (V m c main_v3 : FVec Ideal S4x2x1024x1024 .bf16) _ = _
  refine congrArg (V m c main_v3 : FVec Ideal S4x2x1024x1024 .bf16) (funext fun a => Fin.ext ?_)
  match a with
  | ⟨0, _⟩ =>
    show win0_1.index t 0 * 4 + 1 * s.val = s.val
    rw [hi.1]; omega
  | ⟨1, _⟩ =>
    show win0_1.index t 1 * 1 + 1 * 0 = 0
    rw [hi.2.1]
  | ⟨2, _⟩ =>
    show win0_1.index t 2 * 1024 + 1 * q.val = q.val
    rw [hi.2.2.1]; omega
  | ⟨3, _⟩ =>
    show win0_1.index t 3 * 1024 + 1 * k.val = k.val
    rw [hi.2.2.2]; omega

theorem blk2 (t : Fin cfg0.N) (p : Fin 512) (j : Fin 1024) :
    (iblk m c 2 t : FVec Ideal S512x1024 .f32) (ix2 p j) = R m c (ix2 (rowOf t.val p) j) := by
  have hi := idx2 t
  have ht : t.val < 16 := lt_of_lt_of_eq t.isLt N_0
  unfold iblk
  rw [View.read_apply]
  show (V m c main_arg2 : FVec Ideal S8192x1024 .f32) _ = _
  rw [V_main_arg2]
  refine congrArg (R m c) (funext fun a => Fin.ext ?_)
  match a with
  | ⟨0, _⟩ =>
    show win0_2.index t 0 * 512 + 1 * p.val = (rowOf t.val p).val
    rw [rowOf_val _ ht, hi.1]; omega
  | ⟨1, _⟩ =>
    show win0_2.index t 1 * 1024 + 1 * j.val = j.val
    rw [hi.2]; omega

theorem tile_eq (t : Fin cfg0.N) (p : Fin 512) (j : Fin 1024) :
    tile (iblk m c 0 t) (iblk m c 1 t) (iblk m c 2 t) p j = goal m c (ix2 (rowOf t.val p) j) := by
  unfold tile goal
  refine congrArg₂ (· + ·) (blk2 m c t p j) (Finset.sum_congr rfl fun q _ => congrArg₂ (· * ·) (congrArg act (blk0 m c t p q)) ?_)
  refine (blk1 m c t _ _ j).trans (congrArg (fun r => W m c (ix3 (0 : Fin 2) r j)) (Fin.ext ?_))
  show q.val / 1024 * 1024 + q.val % 1024 = q.val
  omega

theorem final : (dats m 0 c).arrAt 3 cfg0.N = goal m c :=
  (dats m 0 c).arrAt_eq_of_cover 3 (goal m c) (fun t _ => by
    have hi := idx3 t
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_apply _ _ _ p k).trans (tile_eq m c t p k)).trans ?_
    refine congrArg (goal m c) (funext fun a => Fin.ext ?_)
    match a with
    | ⟨0, _⟩ =>
      show (rowOf t.val p).val = win0_3.index t 0 * 512 + 1 * p.val
      rw [rowOf_val _ ht, hi.1]; omega
    | ⟨1, _⟩ =>
      show k.val = win0_3.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idx3 ⟨(i 0 : Nat) / 512, ht⟩
    refine ⟨⟨(i 0 : Nat) / 512, ht⟩, flush0_3 _, ?_⟩
    show i ∈ ((View.whole main_v4).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 1024 ≤ (i 1 : Nat) ∧ (i 1 : Nat) < win0_3.index _ 1 * 1024 + 1024
      rw [hi.2]; omega

/-! ## The reference -/

theorem ref_eq : Cert.Reference10Ideal.Read.val_main_v5 (F := Ideal) (U m c) (W m c) (R m c) = goal m c := by
  funext i
  obtain ⟨p, j, rfl⟩ : ∃ p j, i = ix2 p j := ⟨i 0, i 1, eq_ix2 i⟩
  rw [Cert.Reference10Ideal.Read.val_main_v5_apply]
  refine congrArg (fun s => (R m c (ix2 p j) + s : EReal)) ?_
  rw [Cert.Reference10Ideal.Read.val_main_v4_apply]
  refine Finset.sum_congr rfl fun k _ => congrArg₂ (· * ·) ?_ ?_
  · refine Eq.trans ?_ (congrArg (fun z => act (U m c z)) (?_ : Cert.Reference10Ideal.Read.lidx_main_v4 (ix2 p j) k = ix2 p k))
    · rw [Cert.Reference10Ideal.Read.val_main_v1_apply, Cert.Reference10Ideal.Read.val_main_v0_apply, Cert.Reference10Ideal.Read.val_main_call0_v0_apply]; rfl
    · funext a
      match a with
      | ⟨0, _⟩ => rfl
      | ⟨1, _⟩ => rfl
  · rw [Cert.Reference10Ideal.Read.val_main_v3_apply, Cert.Reference10Ideal.Read.val_main_v2_apply]
    refine congrArg (W m c) (funext fun a => Fin.ext ?_)
    have hj := j.isLt
    have hk := k.isLt
    match a with
    | ⟨0, _⟩ => rfl
    | ⟨1, _⟩ => show (k.val * 1024 + j.val) / 1024 % 4096 = k.val; omega
    | ⟨2, _⟩ => show (k.val * 1024 + j.val) % 1024 = j.val; omega

/-- The reference ends with its arguments as they were; it has no semaphore. -/
theorem frame : quiescent_Reference10Ideal (hReference10Ideal := Cert.Reference10Ideal.Gen.facts) := fun m g _ =>
  (θ_run Cert.Reference10Ideal.defs _ _).mono (fun r h => ⟨fun c => (h c).2, sem_eq_zero_of_no_sems (by decide) r.2⟩)
    (Cert.Reference10Ideal.Value.run m g)

theorem algebraic :
    algebraic_Kernel10Ideal_Reference10Ideal (hKernel10Ideal := Cert.Kernel10Ideal.Gen.facts) (hReference10Ideal := Cert.Reference10Ideal.Gen.facts) := by
  intro m g m' g' _ hargs
  refine ⟨fun c => (dats m 0 c).arrAt 3 cfg0.N, Cert.Kernel10Ideal.Value.run_blocks m g, ?_⟩
  refine (θ_run Cert.Reference10Ideal.defs _ _).mono (fun r h c => ?_) (Cert.Reference10Ideal.Value.run m' g')
  obtain ⟨e0, e1, e2⟩ := hargs c
  obtain ⟨r0, k⟩ := h c
  refine ⟨r0.trans ?_, k⟩
  refine (Cert.Reference10Ideal.Read.val_main_v5_eq _ _ _).trans ?_
  rw [e0, e1, e2]
  exact (ref_eq m c).trans (final m c).symm

end Cert.MlpDown

end
-- ==== Proof.MixProj.lean ====
/- The way into the mixing part: every row over its root mean square, times the gain, and the product with the in weights
   in two halves; index by index over the extended reals, no precondition. -/
module

public import proofs.«01_k».proof.Proof.Sums
public import proofs.«01_k».proof.Defs
public import proofs.«01_k».proof.Proof.Gen.Kernel11Ideal.Value
public import proofs.«01_k».proof.Proof.Gen.Reference11Ideal.Read
public import Idealize.ShloMosaic.Lib.Pipeline.ValueKit.Tiles

@[expose] public section

set_option maxRecDepth 16384

noncomputable section

namespace Cert.MixProj

open Idealize.ShloMosaic Idealize.ShloMosaic.ValueIdx Idealize.ShloMosaic.TcCoe Idealize.SL.Sem
open Cert.Rows Cert.Kernel11Ideal Cert.Kernel11Ideal.Gen
open Idealize.ShloMosaic.Pipeline (Dat)

/-- Entry `k` of the row `r` over its root mean square, times the gain `g`. -/
def nrm (r : Fin 1024 → EReal) (g : EReal) (k : Fin 1024) : EReal :=
  r k * Ideal.rsqrt (Ideal.div (∑ q, r q * r q) (Ideal.ofBits .f32 0x44800000#32) + Ideal.ofBits .f32 0x358637BD#32) * g

theorem rowsum_at {a b : ℕ} (x : FVec Ideal ⟨2, ![a, b]⟩ .f32) (ax : List (Fin 2)) (hax : ax = [1]) (h : (⟨2, ![a, b]⟩ : Shape).Reduces ax ⟨1, ![a]⟩)
    (hφ : FKind.Formats .f32) (hacc : (0x00000000#32 : BitVec 32) = 0x00000000#32) (h2 : (⟨1, ![a]⟩ : Shape).ShapeCasts ⟨2, ![a, 1]⟩) (p : Fin a) (u : Fin 1) :
    shapeCast ⟨2, ![a, 1]⟩ (multiReduction (F := Ideal) (φ := .f32) .add ax ⟨1, ![a]⟩ x 0x00000000#32 h hφ hacc) h2 (ix2 p u)
      = ∑ k, x (ix2 p k) := by
  subst hax
  rw [shapeCast_apply _ h2 (ix2 p u) (ix1 p) (by
    rw [Shape.rowMajor_val_two, Shape.rowMajor_val_one]
    have hu : u.val = 0 := by omega
    show p.val = p.val * 1 + u.val
    omega), Ideal.multiReduction_add_single _ _ _ _ hacc]
  refine Finset.sum_congr rfl fun k _ => ?_
  rw [lift_row]; rfl

theorem mulf_at {s : Shape} (x y : FVec Ideal s .f32) (i : s.Idx) : mulf x y i = (x i * y i : EReal) := rfl

theorem spread_at {a b : ℕ} (x : FVec Ideal ⟨2, ![a, 1]⟩ .f32) (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p 0) fun ax => ?_
  match ax with
  | ⟨0, _⟩ =>
    show p.val = if a = 1 then 0 else p.val
    split
    · omega
    · rfl
  | ⟨1, _⟩ => show (0 : ℕ) = if (1 : ℕ) = 1 then 0 else q.val; rw [if_pos rfl]

theorem h_apply (x : FVec Ideal S512x1024 .f32) (g : FVec Ideal S1x1024 .f32) (p : Fin 512) (k : Fin 1024) :
    k0_pay1 (F := Ideal) x g (ix2 p k) = nrm (fun q => x (ix2 p q)) (g (ix2 (0 : Fin 1) k)) k := by
  unfold k0_pay1
  simp only [shapeCast_self]
  show (x (ix2 p k) * broadcastTo S512x1024 _ broadcasts_S512x1_S512x1024 (ix2 p k) * broadcastTo S512x1024 g broadcasts_S1x1024_S512x1024 (ix2 p k) : EReal) = _
  rw [spread_at, broadcastTo_1b_ab_apply g broadcasts_S1x1024_S512x1024 p k]
  unfold nrm
  refine congrArg (fun s => (x (ix2 p k) * Ideal.rsqrt (Ideal.div s (Ideal.ofBits .f32 0x44800000#32) + Ideal.ofBits .f32 0x358637BD#32) * g (ix2 (0 : Fin 1) k) : EReal)) ?_
  exact rowsum_at _ _ rfl _ _ _ _ p 0

theorem z_apply (x : FVec Ideal S512x1024 .f32) (g : FVec Ideal S1x1024 .f32) (w : FVec Ideal S1x1024x896 .bf16) (p : Fin 512) (j : Fin 896) :
    k0_pay2 (F := Ideal) x g w (ix2 p j) = ∑ k, nrm (fun q => x (ix2 p q)) (g (ix2 (0 : Fin 1) k)) k * w (ix3 (0 : Fin 1) k j) := by
  have e : dot_S512x1024_S1024x896_S512x896_1_0_0_1_n_n = nnDims 512 896 1024 dot_S512x1024_S1024x896_S512x896_1_0_0_1_n_n_wf := rfl
  unfold k0_pay2
  simp only [matmul]
  rw [e]
  refine (nn_apply (φ₁ := .bf16) (φ₂ := .bf16) dot_S512x1024_S1024x896_S512x896_1_0_0_1_n_n_wf none (k0_pay1 (F := Ideal) x g) _ p j).trans ?_
  exact Finset.sum_congr rfl fun k _ => congrArg₂ (· * ·) (h_apply x g p k) (slab3_apply w _ k j)

/-- The normed row `p` of a tile against the column `j` of the weights as the tile holds them. -/
def tile (x0 : FVec Ideal S512x1024 .f32) (x1 : FVec Ideal S1x1024 .f32) (x2 : FVec Ideal S1x1024x1792 .bf16) (p : Fin 512) (j : Fin 1792) : EReal :=
  ∑ k, nrm (fun q => x0 (ix2 p q)) (x1 (ix2 (0 : Fin 1) k)) k * x2 (ix3 (0 : Fin 1) k j)

theorem hz2 : (![0, 0] : Fin 2 → ℕ) = fun _ => 0 := by funext a; match a with | ⟨0, _⟩ => rfl | ⟨1, _⟩ => rfl

theorem part_at (x0 : FVec Ideal S512x1024 .f32) (x1 : FVec Ideal S1x1024 .f32) (x2 : FVec Ideal S1x1024x1792 .bf16)
    (p : Fin 512) (j : Fin 1792) (s : ℕ) (o : ℕ) (ho : o = 896 * s)
    (inb1 : ∀ a, (![0, 0, o] : Fin 3 → ℕ) a + (S1x1024x896 : Shape).size a ≤ (S1x1024x1792 : Shape).size a)
    (inb2 : ∀ a, (![0, o] : Fin 2 → ℕ) a + S512x896.size a ≤ S512x1792.size a) :
    View.TileAt (Val := Elt Ideal) (S := S512x1792) (e := .bf16) (ix2 p j) ![0, o] S512x896.size
      (k0_pay2 (F := Ideal) (View.ld x0 r0_0) (View.ld x1 r0_1) (View.ld x2 (Rect.unit (s := S1x1024x1792) ![0, 0, o] S1x1024x896.size inb1))) (tile x0 x1 x2 p j) := by
  intro x hx
  subst ho
  obtain ⟨a, b, rfl⟩ : ∃ a b, x = ix2 a b := ⟨x 0, x 1, eq_ix2 x⟩
  have h0 : p.val = 0 + a.val := hx 0
  have h1 : j.val = 896 * s + b.val := hx 1
  have hp : p = a := Fin.ext (by omega)
  have hb := b.isLt
  subst hp
  rw [z_apply, View.ld_unit_zero (Val := Elt Ideal) (e := .f32) (S := S512x1024) hz2 _ x0,
    View.ld_unit_zero (Val := Elt Ideal) (e := .f32) (S := S1x1024) hz2 _ x1]
  unfold tile
  refine Finset.sum_congr rfl fun k _ => congrArg₂ (· * ·) rfl ?_
  refine View.ld_unit_apply_of (Val := Elt Ideal) (e := .bf16) (S := S1x1024x1792) x2 _ _ _ _ _ fun c => ?_
  match c with
  | ⟨0, _⟩ => rfl
  | ⟨1, _⟩ => show k.val = 0 + k.val; omega
  | ⟨2, _⟩ => exact h1

theorem out_h (x0 : FVec Ideal S512x1024 .f32) (x1 : FVec Ideal S1x1024 .f32) (x2 : FVec Ideal S1x1024x1792 .bf16)
    (p : Fin 512) (k : Fin 1024) : out0_3 (F := Ideal) x0 x1 x2 (ix2 p k) = nrm (fun q => x0 (ix2 p q)) (x1 (ix2 (0 : Fin 1) k)) k := by
  unfold out0_3
  rw [View.canon_unit_zero hz2, h_apply, View.ld_unit_zero (Val := Elt Ideal) (e := .f32) (S := S512x1024) hz2 _ x0,
    View.ld_unit_zero (Val := Elt Ideal) (e := .f32) (S := S1x1024) hz2 _ x1]

theorem out_z (x0 : FVec Ideal S512x1024 .f32) (x1 : FVec Ideal S1x1024 .f32) (x2 : FVec Ideal S1x1024x1792 .bf16)
    (p : Fin 512) (j : Fin 1792) : out0_4 (F := Ideal) x0 x1 x2 (ix2 p j) = tile x0 x1 x2 p j := by
  unfold out0_4
  refine View.canon_eq_of_allAt _ _ _ (cover0_4 _ _ _) ?_
  refine View.allAt_cons_unit _ _ _ _ _ (part_at x0 x1 x2 p j 1 896 rfl inb_S1x1024x1792_S1x1024x896_0_0_896 inb_S512x1792_S512x896_0_896) ?_
  refine View.allAt_cons_unit _ _ _ _ _ (part_at x0 x1 x2 p j 0 0 rfl inb_S1x1024x1792_S1x1024x896_0_0_0 inb_S512x1792_S512x896_0_0) ?_
  exact View.allAt_nil _ _

variable (m : (ℓ : Loc nD τ sig) → Buf (Elt Ideal) ℓ) (c : Dev nD)

/-- The three arguments as they are at the start. -/
abbrev X : FVec Ideal S8192x1024 .f32 := m ((c : Thread nD τ).loc main_arg0)
abbrev Y : FVec Ideal S1024 .f32 := m ((c : Thread nD τ).loc main_arg1)
abbrev W : FVec Ideal S2x1024x1792 .f32 := m ((c : Thread nD τ).loc main_arg2)

/-- The normed rows. -/
def goalH : FVec Ideal S8192x1024 .bf16 := fun i => nrm (fun q => X m c (ix2 (i 0) q)) (Y m c (ix1 (i 1))) (i 1)

/-- Their product with the weights. -/
def goalZ : FVec Ideal S8192x1792 .bf16 := fun i =>
  ∑ k : Fin 1024, nrm (fun q => X m c (ix2 (i 0) q)) (Y m c (ix1 k)) k * W m c (ix3 (0 : Fin 2) k (i 1))

theorem v0_apply (k : Fin 1024) : (V m c main_v0 : FVec Ideal S1x1024 .f32) (ix2 (0 : Fin 1) k) = Y m c (ix1 k) := by
  have e : (V m c main_v0 : FVec Ideal S1x1024 .f32) = broadcastInDim S1x1024 ![1] bcast_S1024_S1x1024_1 (Y m c) := by
    unfold_abbrev_sides
    after_results
    all_goals rfl
  rw [e]
  exact broadcastInDim_apply _ bcast_S1024_S1x1024_1 (Y m c) (ix2 (0 : Fin 1) k) (ix1 k) (fun a => match a with
    | ⟨0, _⟩ => by show k.val = if (1024 : ℕ) = 1 then 0 else k.val; rw [if_neg (by decide)])

theorem v1_apply (k : Fin 1024) (q : Fin 1792) :
    (V m c main_v1 : FVec Ideal S2x1024x1792 .bf16) (ix3 (0 : Fin 2) k q) = W m c (ix3 (0 : Fin 2) k q) := by
  have e : (V m c main_v1 : FVec Ideal S2x1024x1792 .bf16) = W m c := by
    unfold_abbrev_sides
    after_results
    rfl
  rw [e]

theorem idx0 (t : Fin cfg0.N) : win0_0.index t 0 = t.val ∧ win0_0.index t 1 = 0 :=
  (by decide +kernel : ∀ t : Fin grid0.N, win0_0.index t 0 = t.val ∧ win0_0.index t 1 = 0) t

theorem idx1 (t : Fin cfg0.N) : win0_1.index t 0 = 0 ∧ win0_1.index t 1 = 0 :=
  (by decide +kernel : ∀ t : Fin grid0.N, win0_1.index t 0 = 0 ∧ win0_1.index t 1 = 0) t

theorem idx2 (t : Fin cfg0.N) : win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0) t

theorem idx3 (t : Fin cfg0.N) : win0_3.index t 0 = t.val ∧ win0_3.index t 1 = 0 :=
  (by decide +kernel : ∀ t : Fin grid0.N, win0_3.index t 0 = t.val ∧ win0_3.index t 1 = 0) t

theorem idx4 (t : Fin cfg0.N) : win0_4.index t 0 = t.val ∧ win0_4.index t 1 = 0 :=
  (by decide +kernel : ∀ t : Fin grid0.N, win0_4.index t 0 = t.val ∧ win0_4.index t 1 = 0) t

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

theorem blk0 (t : Fin cfg0.N) (p : Fin 512) (k : Fin 1024) :
    (iblk m c 0 t : FVec Ideal S512x1024 .f32) (ix2 p k) = X m c (ix2 (rowOf t.val p) k) := by
  have hi := idx0 t
  have ht : t.val < 16 := lt_of_lt_of_eq t.isLt N_0
  unfold iblk
  rw [View.read_apply]
  show (V m c main_arg0 : FVec Ideal S8192x1024 .f32) _ = _
  rw [V_main_arg0]
  refine congrArg (X m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 1024 + 1 * k.val = k.val
    rw [hi.2]; omega

theorem blk1 (t : Fin cfg0.N) (k : Fin 1024) : (iblk m c 1 t : FVec Ideal S1x1024 .f32) (ix2 (0 : Fin 1) k) = Y m c (ix1 k) := by
  have hi := idx1 t
  unfold iblk
  rw [View.read_apply]
  refine Eq.trans ?_ (v0_apply m c k)
  show (V m c main_v0 : FVec Ideal S1x1024 .f32) _ = _
  refine congrArg (V m c main_v0 : FVec Ideal S1x1024 .f32) (funext fun a => Fin.ext ?_)
  match a with
  | ⟨0, _⟩ =>
    show win0_1.index t 0 * 1 + 1 * 0 = 0
    rw [hi.1]
  | ⟨1, _⟩ =>
    show win0_1.index t 1 * 1024 + 1 * k.val = k.val
    rw [hi.2]; omega

theorem blk2 (t : Fin cfg0.N) (k : Fin 1024) (q : Fin 1792) :
    (iblk m c 2 t : FVec Ideal S1x1024x1792 .bf16) (ix3 (0 : Fin 1) k q) = W m c (ix3 (0 : Fin 2) k q) := by
  have hi := idx2 t
  unfold iblk
  rw [View.read_apply]
  refine Eq.trans ?_ (v1_apply m c k q)
  show (V m c main_v1 : FVec Ideal S2x1024x1792 .bf16) _ = _
  refine congrArg (V m c main_v1 : FVec Ideal S2x1024x1792 .bf16) (funext fun a => Fin.ext ?_)
  match a with
  | ⟨0, _⟩ =>
    show win0_2.index t 0 * 1 + 1 * 0 = 0
    rw [hi.1]
  | ⟨1, _⟩ =>
    show win0_2.index t 1 * 1024 + 1 * k.val = k.val
    rw [hi.2.1]; omega
  | ⟨2, _⟩ =>
    show win0_2.index t 2 * 1792 + 1 * q.val = q.val
    rw [hi.2.2]; omega

theorem row_eq (t : Fin cfg0.N) (p : Fin 512) (k : Fin 1024) :
    nrm (fun q => (iblk m c 0 t : FVec Ideal S512x1024 .f32) (ix2 p q)) ((iblk m c 1 t : FVec Ideal S1x1024 .f32) (ix2 (0 : Fin 1) k)) k
      = nrm (fun q => X m c (ix2 (rowOf t.val p) q)) (Y m c (ix1 k)) k := by
  rw [blk1, (funext fun q => blk0 m c t p q : (fun q => (iblk m c 0 t : FVec Ideal S512x1024 .f32) (ix2 p q)) = fun q => X m c (ix2 (rowOf t.val p) q))]

theorem rowH_eq (t : Fin cfg0.N) (p : Fin 512) (k : Fin 1024) :
    nrm (fun q => (iblk m c 0 t : FVec Ideal S512x1024 .f32) (ix2 p q)) ((iblk m c 1 t : FVec Ideal S1x1024 .f32) (ix2 (0 : Fin 1) k)) k
      = goalH m c (ix2 (rowOf t.val p) k) := row_eq m c t p k

theorem tile_eq (t : Fin cfg0.N) (p : Fin 512) (j : Fin 1792) :
    tile (iblk m c 0 t) (iblk m c 1 t) (iblk m c 2 t) p j = goalZ m c (ix2 (rowOf t.val p) j) := by
  unfold tile goalZ
  exact Finset.sum_congr rfl fun k _ => congrArg₂ (· * ·) (row_eq m c t p k) (blk2 m c t k j)

theorem final3 : (dats m 0 c).arrAt 3 cfg0.N = goalH m c :=
  (dats m 0 c).arrAt_eq_of_cover 3 (goalH m c) (fun t _ => by
    have hi := idx3 t
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_h _ _ _ p k).trans (rowH_eq m c t p k)).trans ?_
    refine congrArg (goalH m c) (funext fun a => Fin.ext ?_)
    match a with
    | ⟨0, _⟩ =>
      show (rowOf t.val p).val = win0_3.index t 0 * 512 + 1 * p.val
      rw [rowOf_val _ ht, hi.1]; omega
    | ⟨1, _⟩ =>
      show k.val = win0_3.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idx3 ⟨(i 0 : Nat) / 512, ht⟩
    refine ⟨⟨(i 0 : Nat) / 512, ht⟩, flush0_3 _, ?_⟩
    show i ∈ ((View.whole main_v2_0).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 1024 ≤ (i 1 : Nat) ∧ (i 1 : Nat) < win0_3.index _ 1 * 1024 + 1024
      rw [hi.2]; omega

theorem final4 : (dats m 0 c).arrAt 4 cfg0.N = goalZ m c :=
  (dats m 0 c).arrAt_eq_of_cover 4 (goalZ m c) (fun t _ => by
    have hi := idx4 t
    have ht : t.val < 16 := lt_of_lt_of_eq t.isLt N_0
    rw [Value.flushed4]
    funext j
    rw [View.read_apply]
    obtain ⟨p, k, rfl⟩ : ∃ p k, j = ix2 p k := ⟨j 0, j 1, eq_ix2 j⟩
    refine ((out_z _ _ _ p k).trans (tile_eq m c t p k)).trans ?_
    refine congrArg (goalZ m c) (funext fun a => Fin.ext ?_)
    match a with
    | ⟨0, _⟩ =>
      show (rowOf t.val p).val = win0_4.index t 0 * 512 + 1 * p.val
      rw [rowOf_val _ ht, hi.1]; omega
    | ⟨1, _⟩ =>
      show k.val = win0_4.index t 1 * 1792 + 1 * k.val
      rw [hi.2]; omega) fun i => by
    have hN : cfg0.N = 16 := N_0
    have h0 : (i 0 : Nat) < 8192 := (i 0).isLt
    have h1 : (i 1 : Nat) < 1792 := (i 1).isLt
    have ht : (i 0 : Nat) / 512 < cfg0.N := by omega
    have hi := idx4 ⟨(i 0 : Nat) / 512, ht⟩
    refine ⟨⟨(i 0 : Nat) / 512, ht⟩, flush0_4 _, ?_⟩
    show i ∈ ((View.whole main_v2_1).slice (win0_4.rect ⟨(i 0 : Nat) / 512, ht⟩)).set
    rw [View.set_slice_whole, Rect.mem_set_unit]
    intro x
    match x with
    | ⟨0, _⟩ =>
      show win0_4.index _ 0 * 512 ≤ (i 0 : Nat) ∧ (i 0 : Nat) < win0_4.index _ 0 * 512 + 512
      rw [hi.1]; dsimp only; omega
    | ⟨1, _⟩ =>
      show win0_4.index _ 1 * 1792 ≤ (i 1 : Nat) ∧ (i 1 : Nat) < win0_4.index _ 1 * 1792 + 1792
      rw [hi.2]; omega

/-! ## The reference -/

theorem ref_h_at (p : Fin 8192) (k : Fin 1024) : Cert.Reference11Ideal.Read.val_main_v12 (F := Ideal) (X m c) (Y m c) (ix2 p k)
    = nrm (fun q => X m c (ix2 p q)) (Y m c (ix1 k)) k := by
  rw [Cert.Reference11Ideal.Read.val_main_v12_apply, Cert.Reference11Ideal.Read.val_main_v9_apply, Cert.Reference11Ideal.Read.val_main_v8_apply,
    Cert.Reference11Ideal.Read.val_main_v7_apply, Cert.Reference11Ideal.Read.val_main_v6_apply, Cert.Reference11Ideal.Read.val_main_v4_apply,
    Cert.Reference11Ideal.Read.val_main_v2_apply, Cert.Reference11Ideal.Read.val_main_v1_apply, Cert.Reference11Ideal.Read.val_main_v3_apply,
    Cert.Reference11Ideal.Read.val_main_v5_apply, Cert.Reference11Ideal.Read.val_main_v11_apply, Cert.Reference11Ideal.Read.val_main_v10_apply]
  unfold nrm
  refine congrArg₂ (fun s g => (X m c (ix2 p k) * Ideal.rsqrt (Ideal.div s (Ideal.ofBits .f32 0x44800000#32) + Ideal.ofBits .f32 0x358637BD#32) * g : EReal)) ?_ ?_
  · refine Eq.trans (b := ((0 : EReal) + ∑ q, X m c (ix2 p q) * X m c (ix2 p q))) ?_ (zero_add _)
    refine congrArg₂ (· + ·) Ideal.ofBits_zero_f32 (Finset.sum_congr rfl fun q _ => ?_)
    rw [Cert.Reference11Ideal.Read.val_main_v0_apply]
    refine congrArg (fun i => (X m c i * X m c i : EReal)) (funext fun a => ?_)
    match a with
    | ⟨0, _⟩ => rfl
    | ⟨1, _⟩ => rfl
  · refine congrArg (Y m c) (funext fun a => ?_)
    match a with
    | ⟨0, _⟩ => rfl

theorem ref_h : Cert.Reference11Ideal.Read.val_main_v13 (F := Ideal) (X m c) (Y m c) = goalH m c := by
  funext i
  obtain ⟨p, k, rfl⟩ : ∃ p k, i = ix2 p k := ⟨i 0, i 1, eq_ix2 i⟩
  rw [Cert.Reference11Ideal.Read.val_main_v13_apply]
  exact ref_h_at m c p k

theorem ref_z : Cert.Reference11Ideal.Read.val_main_v17 (F := Ideal) (X m c) (Y m c) (W m c) = goalZ m c := by
  funext i
  obtain ⟨p, j, rfl⟩ : ∃ p j, i = ix2 p j := ⟨i 0, i 1, eq_ix2 i⟩
  rw [Cert.Reference11Ideal.Read.val_main_v17_apply]
  refine (Cert.Reference11Ideal.Read.val_main_v16_apply _ _ _ _).trans ?_
  refine Finset.sum_congr rfl fun k _ => congrArg₂ (· * ·) (Eq.trans (congrArg _ (funext fun a => ?_)) (ref_h_at m c p k)) ?_
  · match a with
    | ⟨0, _⟩ => rfl
    | ⟨1, _⟩ => rfl
  · rw [Cert.Reference11Ideal.Read.val_main_v15_apply, Cert.Reference11Ideal.Read.val_main_v14_apply]
    refine congrArg (W m c) (funext fun a => Fin.ext ?_)
    have hj := j.isLt
    have hk := k.isLt
    match a with
    | ⟨0, _⟩ => rfl
    | ⟨1, _⟩ => show (k.val * 1792 + j.val) / 1792 % 1024 = k.val; omega
    | ⟨2, _⟩ => show (k.val * 1792 + j.val) % 1792 = j.val; omega

/-- The reference ends with its arguments as they were; it has no semaphore. -/
theorem frame : quiescent_Reference11Ideal (hReference11Ideal := Cert.Reference11Ideal.Gen.facts) := fun m g _ =>
  (θ_run Cert.Reference11Ideal.defs _ _).mono (fun r h => ⟨fun c => (h c).2.2, sem_eq_zero_of_no_sems (by decide) r.2⟩)
    (Cert.Reference11Ideal.Value.run m g)

theorem algebraic :
    algebraic_Kernel11Ideal_Reference11Ideal (hKernel11Ideal := Cert.Kernel11Ideal.Gen.facts) (hReference11Ideal := Cert.Reference11Ideal.Gen.facts) := by
  intro m g m' g' _ hargs
  refine ⟨fun c => (dats m 0 c).arrAt 3 cfg0.N, fun c => (dats m 0 c).arrAt 4 cfg0.N, Cert.Kernel11Ideal.Value.run_blocks m g, ?_⟩
  refine (θ_run Cert.Reference11Ideal.defs _ _).mono (fun r h c => ?_) (Cert.Reference11Ideal.Value.run m' g')
  obtain ⟨e0, e1, e2⟩ := hargs c
  obtain ⟨r0, r1, k⟩ := h c
  refine ⟨r0.trans ?_, r1.trans ?_, k⟩
  · refine (Cert.Reference11Ideal.Read.val_main_v13_eq _ _).trans ?_
    rw [e0, e1]
    exact (ref_h m c).trans (final3 m c).symm
  · refine (Cert.Reference11Ideal.Read.val_main_v17_eq _ _ _).trans ?_
    rw [e0, e1, e2]
    exact (ref_z m c).trans (final4 m c).symm

end Cert.MixProj

end
-- ==== Proof.MixOut.lean ====
/- The way out of the mixing part: the mixed values times the out weights, in four parts, added one after the other onto
   what passes by; index by index over the extended reals, no precondition. -/
module

public import proofs.«01_k».proof.Proof.Sums
public import proofs.«01_k».proof.Defs
public import proofs.«01_k».proof.Proof.Gen.Kernel12Ideal.Value
public import proofs.«01_k».proof.Proof.Gen.Reference12Ideal.Read
public import Idealize.ShloMosaic.Lib.Pipeline.ValueKit.Tiles

@[expose] public section

set_option maxRecDepth 16384

noncomputable section

namespace Cert.MixOut

open Idealize.ShloMosaic Idealize.ShloMosaic.ValueIdx Idealize.ShloMosaic.TcCoe Idealize.SL.Sem
open Cert.Rows Cert.Kernel12Ideal Cert.Kernel12Ideal.Gen
open Idealize.ShloMosaic.Pipeline (Dat)

/-- The mixed values go into the product as they are. -/
def act (u : EReal) : EReal := u

/-- A sum over a range cut in two. -/
theorem sum_cut {M : Type*} [AddCommMonoid M] (a b N : ℕ) (h : a + b = N) (f : Fin N → M) :
    ∑ q, f q = ∑ k : Fin a, f ⟨k.val, by omega⟩ + ∑ k : Fin b, f ⟨a + k.val, by omega⟩ := by
  subst h
  exact Fin.sum_univ_add f

/-- Place `k` of part `s`. -/
def place (s : Fin 4) (k : Fin 256) : Fin 1024 := ⟨s.val * 256 + k.val, by omega⟩

theorem sum_four {M : Type*} [AddCommMonoid M] (f : Fin 1024 → M) :
    ∑ q, f q = ∑ k, f (place 0 k) + ∑ k, f (place 1 k) + ∑ k, f (place 2 k) + ∑ k, f (place 3 k) := by
  rw [sum_cut 768 256 1024 rfl f, sum_cut 512 256 768 rfl fun k => f ⟨k.val, by omega⟩, sum_cut 256 256 512 rfl fun k => f ⟨k.val, by omega⟩]
  refine congrArg₂ (· + ·) (congrArg₂ (· + ·) (congrArg₂ (· + ·) (Finset.sum_congr rfl fun k _ => congrArg f (Fin.ext ?_)) rfl) rfl) rfl
  show k.val = 0 * 256 + k.val
  omega

theorem addf_at {s : Shape} (x y : FVec Ideal s .f32) (i : s.Idx) : addf x y i = (x i + y i : EReal) := rfl

/-- One part of the product at (p, j). -/
def part (u : FVec Ideal S512x256 .bf16) (w : FVec Ideal S1x1x256x1024 .bf16) (p : Fin 512) (j : Fin 1024) : EReal :=
  ∑ k, act (u (ix2 p k)) * w (ix4 (0 : Fin 1) (0 : Fin 1) k j)

theorem part_apply (u : FVec Ideal S512x256 .bf16) (w : FVec Ideal S1x1x256x1024 .bf16) (X : FVec Ideal S512x256 .bf16)
    (hX : ∀ i, X i = act (u i)) (p : Fin 512) (j : Fin 1024) :
    FloatOps.matmul dot_S512x256_S256x1024_S512x1024_1_0_0_1_n_n none X (shapeCast S256x1024 w shapeCasts_S1x1x256x1024_S256x1024)
      (constant S512x1024 .f32 0x00000000#32) (ix2 p j) = part u w p j := by
  have e : dot_S512x256_S256x1024_S512x1024_1_0_0_1_n_n = nnDims 512 1024 256 dot_S512x256_S256x1024_S512x1024_1_0_0_1_n_n_wf := rfl
  rw [e]
  refine (nn_apply (φ₁ := .bf16) (φ₂ := .bf16) dot_S512x256_S256x1024_S512x1024_1_0_0_1_n_n_wf none X _ p j).trans ?_
  exact Finset.sum_congr rfl fun k _ => congrArg₂ (· * ·) (hX _) (slab_apply w _ k j)

theorem pay_apply (r : FVec Ideal S512x1024 .f32) (u0 u1 u2 u3 : FVec Ideal S512x256 .bf16) (w0 w1 w2 w3 : FVec Ideal S1x1x256x1024 .bf16)
    (p : Fin 512) (j : Fin 1024) :
    k0_pay1 (F := Ideal) r u0 w0 u1 w1 u2 w2 u3 w3 (ix2 p j)
      = r (ix2 p j) + part u0 w0 p j + part u1 w1 p j + part u2 w2 p j + part u3 w3 p j := by
  unfold k0_pay1
  simp only [matmul, shapeCast_self, addf_at]
  exact congrArg₂ (· + ·) (congrArg₂ (· + ·) (congrArg₂ (· + ·) (congrArg₂ (· + ·) rfl (part_apply u0 w0 _ (fun _ => rfl) p j))
    (part_apply u1 w1 _ (fun _ => rfl) p j)) (part_apply u2 w2 _ (fun _ => rfl) p j)) (part_apply u3 w3 _ (fun _ => rfl) p j)

/-- The row `p` of a tile against the column `j` of the weights as the tile holds them, on top of what passes by. -/
def tile (x0 : FVec Ideal S512x1024 .bf16) (x1 : FVec Ideal S4x1x256x1024 .bf16) (x2 : FVec Ideal S512x1024 .f32)
    (p : Fin 512) (j : Fin 1024) : EReal :=
  x2 (ix2 p j) + ∑ q, act (x0 (ix2 p q)) * x1 (ix4 (⟨q.val / 256, by omega⟩ : Fin 4) (0 : Fin 1) (⟨q.val % 256, by omega⟩ : Fin 256) j)

theorem hz2 : (![0, 0] : Fin 2 → ℕ) = fun _ => 0 := by funext a; match a with | ⟨0, _⟩ => rfl | ⟨1, _⟩ => rfl

theorem part_at (x0 : FVec Ideal S512x1024 .bf16) (x1 : FVec Ideal S4x1x256x1024 .bf16) (p : Fin 512) (j : Fin 1024) (s : Fin 4) (o n : ℕ)
    (ho : o = s.val * 256) (hn : n = s.val)
    (inb1 : ∀ a, (![0, o] : Fin 2 → ℕ) a + S512x256.size a ≤ S512x1024.size a)
    (inb2 : ∀ a, (![n, 0, 0, 0] : Fin 4 → ℕ) a + S1x1x256x1024.size a ≤ S4x1x256x1024.size a) :
    part (View.ld (Val := Elt Ideal) (S := S512x1024) (e' := .bf16) x0 (Rect.unit (s := S512x1024) ![0, o] S512x256.size inb1))
        (View.ld (Val := Elt Ideal) (S := S4x1x256x1024) (e' := .bf16) x1 (Rect.unit (s := S4x1x256x1024) ![n, 0, 0, 0] S1x1x256x1024.size inb2)) p j
      = ∑ k, act (x0 (ix2 p (place s k))) * x1 (ix4 (⟨(place s k).val / 256, by omega⟩ : Fin 4) (0 : Fin 1) (⟨(place s k).val % 256, by omega⟩ : Fin 256) j) := by
  subst ho hn
  unfold part
  refine Finset.sum_congr rfl fun k _ => congrArg₂ (· * ·) (congrArg act ?_) ?_
  · refine View.ld_unit_apply_of (Val := Elt Ideal) (e := .bf16) (S := S512x1024) x0 _ _ _ _ _ fun a => ?_
    match a with
    | ⟨0, _⟩ => show p.val = 0 + p.val; omega
    | ⟨1, _⟩ => rfl
  · refine View.ld_unit_apply_of (Val := Elt Ideal) (e := .bf16) (S := S4x1x256x1024) x1 _ _ _ _ _ fun a => ?_
    have hk := k.isLt
    match a with
    | ⟨0, _⟩ => show (s.val * 256 + k.val) / 256 = s.val + 0; omega
    | ⟨1, _⟩ => rfl
    | ⟨2, _⟩ => show (s.val * 256 + k.val) % 256 = 0 + k.val; omega
    | ⟨3, _⟩ => show j.val = 0 + j.val; omega

theorem out_apply (x0 : FVec Ideal S512x1024 .bf16) (x1 : FVec Ideal S4x1x256x1024 .bf16) (x2 : FVec Ideal S512x1024 .f32)
    (p : Fin 512) (j : Fin 1024) : out0_3 (F := Ideal) x0 x1 x2 (ix2 p j) = tile x0 x1 x2 p j := by
  unfold out0_3
  rw [View.canon_unit_zero hz2]
  refine (pay_apply _ _ _ _ _ _ _ _ _ p j).trans ?_
  unfold tile
  rw [sum_four, ← add_assoc, ← add_assoc, ← add_assoc]
  exact congrArg₂ (· + ·) (congrArg₂ (· + ·) (congrArg₂ (· + ·) (congrArg₂ (· + ·)
    (congrFun (View.ld_unit_zero (Val := Elt Ideal) (e := .f32) (S := S512x1024) hz2 _ x2) _)
    (part_at x0 x1 p j 0 0 0 rfl rfl inb_S512x1024_S512x256_0_0 inb_S4x1x256x1024_S1x1x256x1024_0_0_0_0))
    (part_at x0 x1 p j 1 256 1 rfl rfl inb_S512x1024_S512x256_0_256 inb_S4x1x256x1024_S1x1x256x1024_1_0_0_0))
    (part_at x0 x1 p j 2 512 2 rfl rfl inb_S512x1024_S512x256_0_512 inb_S4x1x256x1024_S1x1x256x1024_2_0_0_0))
    (part_at x0 x1 p j 3 768 3 rfl rfl inb_S512x1024_S512x256_0_768 inb_S4x1x256x1024_S1x1x256x1024_3_0_0_0)

variable (m : (ℓ : Loc nD τ sig) → Buf (Elt Ideal) ℓ) (c : Dev nD)

/-- The three arguments as they are at the start. -/
abbrev U : FVec Ideal S8192x1024 .f32 := m ((c : Thread nD τ).loc main_arg0)
abbrev W : FVec Ideal S2x1024x1024 .f32 := m ((c : Thread nD τ).loc main_arg1)
abbrev R : FVec Ideal S8192x1024 .f32 := m ((c : Thread nD τ).loc main_arg2)

/-- The claim's array. -/
def goal : FVec Ideal S8192x1024 .f32 := fun i =>
  R m c i + ∑ q : Fin 1024, act (U m c (ix2 (i 0) q)) * W m c (ix3 (0 : Fin 2) q (i 1))

theorem v0_eq : (V m c main_v0 : FVec Ideal S8192x1024 .bf16) = U m c := by
  unfold_abbrev_sides
  after_results
  rfl

theorem v3_eq : (V m c main_v3 : FVec Ideal S4x2x256x1024 .bf16)
    = transpose S4x2x256x1024 [1, 0, 2, 3] (shapeCast S2x4x256x1024 (W m c) shapeCasts_S2x1024x1024_S2x4x256x1024)
      transposes_S2x4x256x1024_S4x2x256x1024_1_0_2_3 := by
  unfold_abbrev_sides
  after_results
  rfl

theorem v3_apply (s : Fin 4) (q : Fin 256) (k : Fin 1024) :
    (V m c main_v3 : FVec Ideal S4x2x256x1024 .bf16) (ix4 s (0 : Fin 2) q k) = W m c (ix3 (0 : Fin 2) (place s q) k) := by
  rw [v3_eq]
  refine (transpose_apply _ _ _ _ (ix4 (0 : Fin 2) s q k) fun b => ?_).trans ?_
  · match b with
    | ⟨0, _⟩ => rfl
    | ⟨1, _⟩ => rfl
    | ⟨2, _⟩ => rfl
    | ⟨3, _⟩ => rfl
  · refine shapeCast_apply _ _ _ _ ?_
    rewrite [Shape.rowMajor_val_four, Shape.rowMajor_val_three]
    show (0 * 1024 + (s.val * 256 + q.val)) * 1024 + k.val = ((0 * 4 + s.val) * 256 + q.val) * 1024 + k.val
    omega

theorem idx0 (t : Fin cfg0.N) : win0_0.index t 0 = t.val ∧ win0_0.index t 1 = 0 :=
  (by decide +kernel : ∀ t : Fin grid0.N, win0_0.index t 0 = t.val ∧ win0_0.index t 1 = 0) t

theorem idx1 (t : Fin cfg0.N) : win0_1.index t 0 = 0 ∧ win0_1.index t 1 = 0 ∧ win0_1.index t 2 = 0 ∧ win0_1.index t 3 = 0 :=
  (by decide +kernel : ∀ t : Fin grid0.N, win0_1.index t 0 = 0 ∧ win0_1.index t 1 = 0 ∧ win0_1.index t 2 = 0 ∧ win0_1.index t 3 = 0) t

theorem idx2 (t : Fin cfg0.N) : win0_2.index t 0 = t.val ∧ win0_2.index t 1 = 0 :=
  (by decide +kernel : ∀ t : Fin grid0.N, win0_2.index t 0 = t.val ∧ win0_2.index t 1 = 0) t

theorem idx3 (t : Fin cfg0.N) : win0_3.index t 0 = t.val ∧ win0_3.index t 1 = 0 :=
  (by decide +kernel : ∀ t : Fin grid0.N, win0_3.index t 0 = t.val ∧ win0_3.index t 1 = 0) t

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

theorem blk0 (t : Fin cfg0.N) (p : Fin 512) (k : Fin 1024) :
    (iblk m c 0 t : FVec Ideal S512x1024 .bf16) (ix2 p k) = U m c (ix2 (rowOf t.val p) k) := by
  have hi := idx0 t
  have ht : t.val < 16 := lt_of_lt_of_eq t.isLt N_0
  unfold iblk
  rw [View.read_apply]
  show (V m c main_v0 : FVec Ideal S8192x1024 .bf16) _ = _
  rw [v0_eq]
  refine congrArg (U m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 1024 + 1 * k.val = k.val
    rw [hi.2]; omega

theorem blk1 (t : Fin cfg0.N) (s : Fin 4) (q : Fin 256) (k : Fin 1024) :
    (iblk m c 1 t : FVec Ideal S4x1x256x1024 .bf16) (ix4 s (0 : Fin 1) q k) = W m c (ix3 (0 : Fin 2) (place s q) k) := by
  have hi := idx1 t
  unfold iblk
  rw [View.read_apply]
  refine Eq.trans ?_ (v3_apply m c s q k)
  show (V m c main_v3 : FVec Ideal S4x2x256x1024 .bf16) _ = _
  refine congrArg (V m c main_v3 : FVec Ideal S4x2x256x1024 .bf16) (funext fun a => Fin.ext ?_)
  match a with
  | ⟨0, _⟩ =>
    show win0_1.index t 0 * 4 + 1 * s.val = s.val
    rw [hi.1]; omega
  | ⟨1, _⟩ =>
    show win0_1.index t 1 * 1 + 1 * 0 = 0
    rw [hi.2.1]
  | ⟨2, _⟩ =>
    show win0_1.index t 2 * 256 + 1 * q.val = q.val
    rw [hi.2.2.1]; omega
  | ⟨3, _⟩ =>
    show win0_1.index t 3 * 1024 + 1 * k.val = k.val
    rw [hi.2.2.2]; omega

theorem blk2 (t : Fin cfg0.N) (p : Fin 512) (j : Fin 1024) :
    (iblk m c 2 t : FVec Ideal S512x1024 .f32) (ix2 p j) = R m c (ix2 (rowOf t.val p) j) := by
  have hi := idx2 t
  have ht : t.val < 16 := lt_of_lt_of_eq t.isLt N_0
  unfold iblk
  rw [View.read_apply]
  show (V m c main_arg2 : FVec Ideal S8192x1024 .f32) _ = _
  rw [V_main_arg2]
  refine congrArg (R m c) (funext fun a => Fin.ext ?_)
  match a with
  | ⟨0, _⟩ =>
    show win0_2.index t 0 * 512 + 1 * p.val = (rowOf t.val p).val
    rw [rowOf_val _ ht, hi.1]; omega
  | ⟨1, _⟩ =>
    show win0_2.index t 1 * 1024 + 1 * j.val = j.val
    rw [hi.2]; omega

theorem tile_eq (t : Fin cfg0.N) (p : Fin 512) (j : Fin 1024) :
    tile (iblk m c 0 t) (iblk m c 1 t) (iblk m c 2 t) p j = goal m c (ix2 (rowOf t.val p) j) := by
  unfold tile goal
  refine congrArg₂ (· + ·) (blk2 m c t p j) (Finset.sum_congr rfl fun q _ => congrArg₂ (· * ·) (congrArg act (blk0 m c t p q)) ?_)
  refine (blk1 m c t _ _ j).trans (congrArg (fun r => W m c (ix3 (0 : Fin 2) r j)) (Fin.ext ?_))
  show q.val / 256 * 256 + q.val % 256 = q.val
  omega

theorem final : (dats m 0 c).arrAt 3 cfg0.N = goal m c :=
  (dats m 0 c).arrAt_eq_of_cover 3 (goal m c) (fun t _ => by
    have hi := idx3 t
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_apply _ _ _ p k).trans (tile_eq m c t p k)).trans ?_
    refine congrArg (goal m c) (funext fun a => Fin.ext ?_)
    match a with
    | ⟨0, _⟩ =>
      show (rowOf t.val p).val = win0_3.index t 0 * 512 + 1 * p.val
      rw [rowOf_val _ ht, hi.1]; omega
    | ⟨1, _⟩ =>
      show k.val = win0_3.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := idx3 ⟨(i 0 : Nat) / 512, ht⟩
    refine ⟨⟨(i 0 : Nat) / 512, ht⟩, flush0_3 _, ?_⟩
    show i ∈ ((View.whole main_v4).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 1024 ≤ (i 1 : Nat) ∧ (i 1 : Nat) < win0_3.index _ 1 * 1024 + 1024
      rw [hi.2]; omega

/-! ## The reference -/

theorem ref_eq : Cert.Reference12Ideal.Read.val_main_v3 (F := Ideal) (U m c) (W m c) (R m c) = goal m c := by
  funext i
  obtain ⟨p, j, rfl⟩ : ∃ p j, i = ix2 p j := ⟨i 0, i 1, eq_ix2 i⟩
  rw [Cert.Reference12Ideal.Read.val_main_v3_apply]
  refine congrArg (fun s => (R m c (ix2 p j) + s : EReal)) ?_
  rw [Cert.Reference12Ideal.Read.val_main_v2_apply]
  refine Finset.sum_congr rfl fun k _ => congrArg₂ (· * ·) ?_ ?_
  · refine Eq.trans ?_ (congrArg (fun z => act (U m c z)) (?_ : Cert.Reference12Ideal.Read.lidx_main_v2 (ix2 p j) k = ix2 p k))
    · rfl
    · funext a
      match a with
      | ⟨0, _⟩ => rfl
      | ⟨1, _⟩ => rfl
  · rw [Cert.Reference12Ideal.Read.val_main_v1_apply, Cert.Reference12Ideal.Read.val_main_v0_apply]
    refine congrArg (W m c) (funext fun a => Fin.ext ?_)
    have hj := j.isLt
    have hk := k.isLt
    match a with
    | ⟨0, _⟩ => rfl
    | ⟨1, _⟩ => show (k.val * 1024 + j.val) / 1024 % 1024 = k.val; omega
    | ⟨2, _⟩ => show (k.val * 1024 + j.val) % 1024 = j.val; omega

/-- The reference ends with its arguments as they were; it has no semaphore. -/
theorem frame : quiescent_Reference12Ideal (hReference12Ideal := Cert.Reference12Ideal.Gen.facts) := fun m g _ =>
  (θ_run Cert.Reference12Ideal.defs _ _).mono (fun r h => ⟨fun c => (h c).2, sem_eq_zero_of_no_sems (by decide) r.2⟩)
    (Cert.Reference12Ideal.Value.run m g)

theorem algebraic :
    algebraic_Kernel12Ideal_Reference12Ideal (hKernel12Ideal := Cert.Kernel12Ideal.Gen.facts) (hReference12Ideal := Cert.Reference12Ideal.Gen.facts) := by
  intro m g m' g' _ hargs
  refine ⟨fun c => (dats m 0 c).arrAt 3 cfg0.N, Cert.Kernel12Ideal.Value.run_blocks m g, ?_⟩
  refine (θ_run Cert.Reference12Ideal.defs _ _).mono (fun r h c => ?_) (Cert.Reference12Ideal.Value.run m' g')
  obtain ⟨e0, e1, e2⟩ := hargs c
  obtain ⟨r0, k⟩ := h c
  refine ⟨r0.trans ?_, k⟩
  refine (Cert.Reference12Ideal.Read.val_main_v3_eq _ _ _).trans ?_
  rw [e0, e1, e2]
  exact (ref_eq m c).trans (final m c).symm

end Cert.MixOut

end
-- ==== Proof.AdamIn.lean ====
/- The AdamW update of w_in: the call's blocks against the reference's arrays, entry by entry over the extended reals; no
   precondition. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read

@[expose] public section

noncomputable section

namespace Cert.AdamIn

open Idealize.ShloMosaic Idealize.ShloMosaic.TcCoe Idealize.SL.Sem
open Cert.Kernel13Ideal.Value

variable (w g m v : (⟨Cert.Reference13Ideal.S4096x448, .f32⟩ : BufTy).Contents (Elt Ideal))

theorem moment1_eq : Cert.Reference13Ideal.Read.val_main_v4 (F := Ideal) g m = G5 g m := by
  funext i
  rfl

theorem moment2_eq : Cert.Reference13Ideal.Read.val_main_v10 (F := Ideal) g v = G6 g v := by
  funext i
  rfl

theorem delta_eq : Cert.Reference13Ideal.Read.val_main_v23 (F := Ideal) w g m v = G4 g m v w := by
  funext i
  rfl

/-- The reference ends with its arguments as they were; it has no semaphore. -/
theorem frame : quiescent_Reference13Ideal (hReference13Ideal := Cert.Reference13Ideal.Gen.facts) := fun m g _ =>
  (θ_run Cert.Reference13Ideal.defs _ _).mono (fun r h => ⟨fun c => (h c).2.2.2, sem_eq_zero_of_no_sems (by decide) r.2⟩)
    (Cert.Reference13Ideal.Value.run m g)

theorem algebraic :
    algebraic_Kernel13Ideal_Reference13Ideal (hKernel13Ideal := Cert.Kernel13Ideal.Gen.facts) (hReference13Ideal := Cert.Reference13Ideal.Gen.facts) := by
  intro m g m' g' _ hargs
  refine ⟨_, _, _, Cert.Kernel13Ideal.Value.run m g, ?_⟩
  refine (θ_run Cert.Reference13Ideal.defs _ _).mono (fun r h c => ?_) (Cert.Reference13Ideal.Value.run m' g')
  obtain ⟨e0, e1, e2, e3⟩ := hargs c
  obtain ⟨r0, r1, r2, k⟩ := h c
  refine ⟨r0.trans ?_, r1.trans ?_, r2.trans ?_, k⟩
  · rw [e0, e1, e2, e3]
    exact (Cert.Reference13Ideal.Read.val_main_v23_eq _ _ _ _).trans (delta_eq _ _ _ _)
  · rw [e1, e2]
    exact (Cert.Reference13Ideal.Read.val_main_v4_eq _ _).trans (moment1_eq _ _)
  · rw [e1, e3]
    exact (Cert.Reference13Ideal.Read.val_main_v10_eq _ _).trans (moment2_eq _ _)

end Cert.AdamIn

end
-- ==== Proof.AdamOut.lean ====
/- The AdamW update of w_out: the call's blocks against the reference's arrays, entry by entry over the extended reals; no
   precondition. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read

@[expose] public section

noncomputable section

namespace Cert.AdamOut

open Idealize.ShloMosaic Idealize.ShloMosaic.TcCoe Idealize.SL.Sem
open Cert.Kernel14Ideal.Value

variable (w g m v : (⟨Cert.Reference14Ideal.S1024x1024, .f32⟩ : BufTy).Contents (Elt Ideal))

theorem moment1_eq : Cert.Reference14Ideal.Read.val_main_v4 (F := Ideal) g m = G5 g m := by
  funext i
  rfl

theorem moment2_eq : Cert.Reference14Ideal.Read.val_main_v10 (F := Ideal) g v = G6 g v := by
  funext i
  rfl

theorem delta_eq : Cert.Reference14Ideal.Read.val_main_v23 (F := Ideal) w g m v = G4 g m v w := by
  funext i
  rfl

/-- The reference ends with its arguments as they were; it has no semaphore. -/
theorem frame : quiescent_Reference14Ideal (hReference14Ideal := Cert.Reference14Ideal.Gen.facts) := fun m g _ =>
  (θ_run Cert.Reference14Ideal.defs _ _).mono (fun r h => ⟨fun c => (h c).2.2.2, sem_eq_zero_of_no_sems (by decide) r.2⟩)
    (Cert.Reference14Ideal.Value.run m g)

theorem algebraic :
    algebraic_Kernel14Ideal_Reference14Ideal (hKernel14Ideal := Cert.Kernel14Ideal.Gen.facts) (hReference14Ideal := Cert.Reference14Ideal.Gen.facts) := by
  intro m g m' g' _ hargs
  refine ⟨_, _, _, Cert.Kernel14Ideal.Value.run m g, ?_⟩
  refine (θ_run Cert.Reference14Ideal.defs _ _).mono (fun r h c => ?_) (Cert.Reference14Ideal.Value.run m' g')
  obtain ⟨e0, e1, e2, e3⟩ := hargs c
  obtain ⟨r0, r1, r2, k⟩ := h c
  refine ⟨r0.trans ?_, r1.trans ?_, r2.trans ?_, k⟩
  · rw [e0, e1, e2, e3]
    exact (Cert.Reference14Ideal.Read.val_main_v23_eq _ _ _ _).trans (delta_eq _ _ _ _)
  · rw [e1, e2]
    exact (Cert.Reference14Ideal.Read.val_main_v4_eq _ _).trans (moment1_eq _ _)
  · rw [e1, e3]
    exact (Cert.Reference14Ideal.Read.val_main_v10_eq _ _).trans (moment2_eq _ _)

end Cert.AdamOut

end
-- ==== Proof.AdamMlp.lean ====
/- The AdamW update of w_mlp_up and of w_mlp_down: the call's blocks against the reference's arrays, entry by entry over the extended reals; no
   precondition. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read

@[expose] public section

noncomputable section

namespace Cert.AdamMlp

open Idealize.ShloMosaic Idealize.ShloMosaic.TcCoe Idealize.SL.Sem
open Cert.Kernel15Ideal.Value

variable (w g m v : (⟨Cert.Reference15Ideal.S4096x1024, .f32⟩ : BufTy).Contents (Elt Ideal))

theorem moment1_eq : Cert.Reference15Ideal.Read.val_main_v4 (F := Ideal) g m = G5 g m := by
  funext i
  rfl

theorem moment2_eq : Cert.Reference15Ideal.Read.val_main_v10 (F := Ideal) g v = G6 g v := by
  funext i
  rfl

theorem delta_eq : Cert.Reference15Ideal.Read.val_main_v23 (F := Ideal) w g m v = G4 g m v w := by
  funext i
  rfl

/-- The reference ends with its arguments as they were; it has no semaphore. -/
theorem frame : quiescent_Reference15Ideal (hReference15Ideal := Cert.Reference15Ideal.Gen.facts) := fun m g _ =>
  (θ_run Cert.Reference15Ideal.defs _ _).mono (fun r h => ⟨fun c => (h c).2.2.2, sem_eq_zero_of_no_sems (by decide) r.2⟩)
    (Cert.Reference15Ideal.Value.run m g)

theorem algebraic :
    algebraic_Kernel15Ideal_Reference15Ideal (hKernel15Ideal := Cert.Kernel15Ideal.Gen.facts) (hReference15Ideal := Cert.Reference15Ideal.Gen.facts) := by
  intro m g m' g' _ hargs
  refine ⟨_, _, _, Cert.Kernel15Ideal.Value.run m g, ?_⟩
  refine (θ_run Cert.Reference15Ideal.defs _ _).mono (fun r h c => ?_) (Cert.Reference15Ideal.Value.run m' g')
  obtain ⟨e0, e1, e2, e3⟩ := hargs c
  obtain ⟨r0, r1, r2, k⟩ := h c
  refine ⟨r0.trans ?_, r1.trans ?_, r2.trans ?_, k⟩
  · rw [e0, e1, e2, e3]
    exact (Cert.Reference15Ideal.Read.val_main_v23_eq _ _ _ _).trans (delta_eq _ _ _ _)
  · rw [e1, e2]
    exact (Cert.Reference15Ideal.Read.val_main_v4_eq _ _).trans (moment1_eq _ _)
  · rw [e1, e3]
    exact (Cert.Reference15Ideal.Read.val_main_v10_eq _ _).trans (moment2_eq _ _)

end Cert.AdamMlp

end
-- ==== Proof.AdamSmall.lean ====
/- The AdamW update of the small weights, packed as rows: the call's blocks against the reference's arrays, entry by entry over the extended reals; no
   precondition. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read

@[expose] public section

noncomputable section

namespace Cert.AdamSmall

open Idealize.ShloMosaic Idealize.ShloMosaic.TcCoe Idealize.SL.Sem
open Cert.Kernel16Ideal.Value

variable (w g m v : (⟨Cert.Reference16Ideal.S280x128, .f32⟩ : BufTy).Contents (Elt Ideal))

theorem moment1_eq : Cert.Reference16Ideal.Read.val_main_v4 (F := Ideal) g m = G5 g m := by
  funext i
  rfl

theorem moment2_eq : Cert.Reference16Ideal.Read.val_main_v10 (F := Ideal) g v = G6 g v := by
  funext i
  rfl

theorem delta_eq : Cert.Reference16Ideal.Read.val_main_v23 (F := Ideal) w g m v = G4 g m v w := by
  funext i
  rfl

/-- The reference ends with its arguments as they were; it has no semaphore. -/
theorem frame : quiescent_Reference16Ideal (hReference16Ideal := Cert.Reference16Ideal.Gen.facts) := fun m g _ =>
  (θ_run Cert.Reference16Ideal.defs _ _).mono (fun r h => ⟨fun c => (h c).2.2.2, sem_eq_zero_of_no_sems (by decide) r.2⟩)
    (Cert.Reference16Ideal.Value.run m g)

theorem algebraic :
    algebraic_Kernel16Ideal_Reference16Ideal (hKernel16Ideal := Cert.Kernel16Ideal.Gen.facts) (hReference16Ideal := Cert.Reference16Ideal.Gen.facts) := by
  intro m g m' g' _ hargs
  refine ⟨_, _, _, Cert.Kernel16Ideal.Value.run m g, ?_⟩
  refine (θ_run Cert.Reference16Ideal.defs _ _).mono (fun r h c => ?_) (Cert.Reference16Ideal.Value.run m' g')
  obtain ⟨e0, e1, e2, e3⟩ := hargs c
  obtain ⟨r0, r1, r2, k⟩ := h c
  refine ⟨r0.trans ?_, r1.trans ?_, r2.trans ?_, k⟩
  · rw [e0, e1, e2, e3]
    exact (Cert.Reference16Ideal.Read.val_main_v23_eq _ _ _ _).trans (delta_eq _ _ _ _)
  · rw [e1, e2]
    exact (Cert.Reference16Ideal.Read.val_main_v4_eq _ _).trans (moment1_eq _ _)
  · rw [e1, e3]
    exact (Cert.Reference16Ideal.Read.val_main_v10_eq _ _).trans (moment2_eq _ _)

end Cert.AdamSmall

end
-- ==== Proof.RowOps.lean ====
/- Row sums kept as columns, and columns spread over rows, index by index over the extended reals. -/
module

public import proofs.«01_k».proof.Proof.Sums
public import Idealize.ShloMosaic.Lib.Pipeline.ValueKit.Tiles

@[expose] public section

noncomputable section

namespace Cert.RowOps

open Idealize.ShloMosaic Idealize.ShloMosaic.ValueIdx Idealize.ShloMosaic.TcCoe Idealize.SL.Sem
open Cert.Rows

theorem rowsum_at {a b : ℕ} (x : FVec Ideal ⟨2, ![a, b]⟩ .f32) (ax : List (Fin 2)) (hax : ax = [1]) (h : (⟨2, ![a, b]⟩ : Shape).Reduces ax ⟨1, ![a]⟩)
    (hφ : FKind.Formats .f32) (hacc : (0x00000000#32 : BitVec 32) = 0x00000000#32) (h2 : (⟨1, ![a]⟩ : Shape).ShapeCasts ⟨2, ![a, 1]⟩) (p : Fin a) (u : Fin 1) :
    shapeCast ⟨2, ![a, 1]⟩ (multiReduction (F := Ideal) (φ := .f32) .add ax ⟨1, ![a]⟩ x 0x00000000#32 h hφ hacc) h2 (ix2 p u)
      = ∑ k, x (ix2 p k) := by
  subst hax
  rw [shapeCast_apply _ h2 (ix2 p u) (ix1 p) (by
    rw [Shape.rowMajor_val_two, Shape.rowMajor_val_one]
    have hu : u.val = 0 := by omega
    show p.val = p.val * 1 + u.val
    omega), Ideal.multiReduction_add_single _ _ _ _ hacc]
  refine Finset.sum_congr rfl fun k _ => ?_
  rw [lift_row]; rfl

theorem mulf_at {s : Shape} (x y : FVec Ideal s .f32) (i : s.Idx) : mulf x y i = (x i * y i : EReal) := rfl

theorem spread_at {a b : ℕ} (x : FVec Ideal ⟨2, ![a, 1]⟩ .f32) (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p 0) fun ax => ?_
  match ax with
  | ⟨0, _⟩ =>
    show p.val = if a = 1 then 0 else p.val
    split
    · omega
    · rfl
  | ⟨1, _⟩ => show (0 : ℕ) = if (1 : ℕ) = 1 then 0 else q.val; rw [if_pos rfl]

theorem hz2 : (![0, 0] : Fin 2 → ℕ) = fun _ => 0 := by funext a; match a with | ⟨0, _⟩ => rfl | ⟨1, _⟩ => rfl

/-- The number that the word of 512 stands for, and the one of the small number below the square root. -/
abbrev n512 : EReal := Ideal.ofBits .f32 0x44000000#32
abbrev epsW : EReal := Ideal.ofBits .f32 0x358637BD#32

/-- Entry `k` of a row over its root mean square, times the gain `g`; the row has 512 entries. -/
def rms (r : Fin 512 → EReal) (g : EReal) (k : Fin 512) : EReal :=
  r k * Ideal.rsqrt (Ideal.div (∑ q, r q * r q) n512 + epsW) * g

/-- Entry `k` of a row less the row's mean. -/
def centre (r : Fin 512 → EReal) (k : Fin 512) : EReal := r k - Ideal.div (∑ q, r q) n512

/-- One over the deviation of a row. -/
def invDev (r : Fin 512 → EReal) : EReal := Ideal.rsqrt (Ideal.div (∑ q, centre r q * centre r q) n512 + epsW)

/-- The silu gate. -/
def silu (x : EReal) : EReal := x * Ideal.logistic x

/-- Entry `k` of the gated layer norm of a row. -/
def gated (r g b : Fin 512 → EReal) (k : Fin 512) : EReal := silu (centre r k * invDev r * g k + b k)

end Cert.RowOps

end
-- ==== Proof.LossGrad.lean ====
/- The loss head: half the sum of the tokens' mean squared errors, in sixteen parts, and the loss's gradient in the
   output; index by index over the extended reals, no precondition. -/
module

public import proofs.«01_k».proof.Proof.RowOps
public import proofs.«01_k».proof.Defs
public import proofs.«01_k».proof.Proof.Gen.Kernel17Ideal.Value
public import proofs.«01_k».proof.Proof.Gen.Reference17Ideal.Read
public import Idealize.ShloMosaic.Lib.Pipeline.ValueKit.Tiles

@[expose] public section

set_option maxRecDepth 16384

noncomputable section

namespace Cert.LossGrad

open Idealize.ShloMosaic Idealize.ShloMosaic.ValueIdx Idealize.ShloMosaic.TcCoe Idealize.SL.Sem
open Cert.Rows Cert.RowOps Cert.Kernel17Ideal Cert.Kernel17Ideal.Gen
open Idealize.ShloMosaic.Pipeline (Dat)

/-- The number that the word of 1024 stands for. -/
abbrev n1024 : EReal := Ideal.ofBits .f32 0x44800000#32

/-- One half. -/
abbrev half : EReal := Ideal.ofBits .f32 0x3F000000#32

/-- The mean squared difference of two rows. -/
def token (y t : Fin 1024 → EReal) : EReal := Ideal.div (∑ q, (y q - t q) * (y q - t q)) n1024

/-- Two sums: over the 512 rows of a column of one matrix, and over the row's number. -/
theorem sum_col (f : (⟨3, ![1, 512, 1]⟩ : Shape).Idx → EReal) : ∑ i, f i = ∑ r : Fin 512, f (ix3 (0 : Fin 1) r (0 : Fin 1)) := by
  refine (Fintype.sum_bijective (fun r : Fin 512 => (ix3 (0 : Fin 1) r (0 : Fin 1) : (⟨3, ![1, 512, 1]⟩ : Shape).Idx)) ⟨fun a b h => ?_, fun i => ⟨i 1, ?_⟩⟩ _ _ fun _ => rfl).symm
  · exact congrFun h 1
  · refine funext fun a => ?_
    match a with
    | ⟨0, _⟩ => exact (Subsingleton.elim (α := Fin 1) _ _)
    | ⟨1, _⟩ => rfl
    | ⟨2, _⟩ => exact (Subsingleton.elim (α := Fin 1) _ _)

theorem part_apply (y t : FVec Ideal S512x1024 .f32) (l : Fin 128) :
    k0_pay4 (F := Ideal) y t (ix3 (0 : Fin 1) (0 : Fin 1) l) = half * ∑ p : Fin 512, token (fun q => y (ix2 p q)) (fun q => t (ix2 p q)) := by
  unfold k0_pay4
  dsimp only
  refine (shapeCast_apply _ shapeCasts_S1x128_S1x1x128 (ix3 (0 : Fin 1) (0 : Fin 1) l) (ix2 (0 : Fin 1) l) (by
    rw [Shape.rowMajor_val_two, Shape.rowMajor_val_three]
    show 0 * 128 + l.val = (0 * 1 + 0) * 128 + l.val
    omega)).trans ?_
  show (Ideal.ofBits .f32 0x00000000#32 + half * _ : EReal) = _
  refine (congrArg₂ (· + ·) Ideal.ofBits_zero_f32 rfl).trans ((zero_add _).trans ?_)
  refine congrArg (fun s => (half * s : EReal)) ?_
  unfold extractAt
  refine (shapeCast_apply _ shapeCasts_S1_S1x1x1 _ (ix1 (0 : Fin 1)) (by
    rw [Shape.rowMajor_val_one, Shape.rowMajor_val_three]; rfl)).trans ?_
  refine (Ideal.multiReduction_add_total _ _ _ (fun b => by match b with | ⟨0, _⟩ => rfl) _ _ _).trans ?_
  rw [sum_col]
  refine Finset.sum_congr rfl fun p _ => ?_
  refine (shapeCast_apply _ shapeCasts_S512x1_S1x512x1 (ix3 (0 : Fin 1) p (0 : Fin 1)) (ix2 p (0 : Fin 1)) (by
    rw [Shape.rowMajor_val_two, Shape.rowMajor_val_three]
    show p.val * 1 + 0 = (0 * 512 + p.val) * 1 + 0
    omega)).trans ?_
  unfold token
  refine congrArg (fun s => Ideal.div s n1024) ?_
  exact rowsum_at _ _ rfl _ _ _ _ p 0

theorem hz3 : (![0, 0, 0] : Fin 3 → ℕ) = fun _ => 0 := by funext a; match a with | ⟨0, _⟩ => rfl | ⟨1, _⟩ => rfl | ⟨2, _⟩ => rfl

theorem out_part (y t : FVec Ideal S512x1024 .f32) (l : Fin 128) :
    out0_2 (F := Ideal) y t (ix3 (0 : Fin 1) (0 : Fin 1) l) = half * ∑ p : Fin 512, token (fun q => y (ix2 p q)) (fun q => t (ix2 p q)) := by
  unfold out0_2
  rw [View.canon_unit_zero hz3, part_apply, View.ld_unit_zero (Val := Elt Ideal) (e := .f32) (S := S512x1024) hz2 _ y,
    View.ld_unit_zero (Val := Elt Ideal) (e := .f32) (S := S512x1024) hz2 _ t]

theorem out_grad (y t : FVec Ideal S512x1024 .f32) (p : Fin 512) (k : Fin 1024) :
    out0_3 (F := Ideal) y t (ix2 p k) = Ideal.div (y (ix2 p k) - t (ix2 p k)) n1024 := by
  unfold out0_3
  rw [View.canon_unit_zero hz2, View.ld_unit_zero (Val := Elt Ideal) (e := .f32) (S := S512x1024) hz2 _ y,
    View.ld_unit_zero (Val := Elt Ideal) (e := .f32) (S := S512x1024) hz2 _ t]
  rfl

theorem out_copy (y t : FVec Ideal S512x1024 .f32) (p : Fin 512) (k : Fin 1024) :
    out0_4 (F := Ideal) y t (ix2 p k) = Ideal.div (y (ix2 p k) - t (ix2 p k)) n1024 := by
  unfold out0_4
  rw [View.canon_unit_zero hz2, View.ld_unit_zero (Val := Elt Ideal) (e := .f32) (S := S512x1024) hz2 _ y,
    View.ld_unit_zero (Val := Elt Ideal) (e := .f32) (S := S512x1024) hz2 _ t]
  rfl

variable (m : (ℓ : Loc nD τ sig) → Buf (Elt Ideal) ℓ) (c : Dev nD)

/-- The output and the target as they are at the start. -/
abbrev Y : FVec Ideal S8192x1024 .f32 := m ((c : Thread nD τ).loc main_arg0)
abbrev T : FVec Ideal S8192x1024 .f32 := m ((c : Thread nD τ).loc main_arg1)

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

/-- The sixteen parts of the loss, each 128 times. -/
def goalP : FVec Ideal S16x1x128 .f32 := fun i =>
  half * ∑ p : Fin 512, token (fun q => Y m c (ix2 (rowOf (i 0).val p) q)) (fun q => T m c (ix2 (rowOf (i 0).val p) q))

/-- The gradient, and its copy in the short format. -/
def goalG : FVec Ideal S8192x1024 .f32 := fun i => Ideal.div (Y m c i - T m c i) n1024
def goalB : FVec Ideal S8192x1024 .bf16 := fun i => Ideal.div (Y m c i - T m c i) n1024

theorem idx (t : Fin cfg0.N) : (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0)
    ∧ (win0_2.index t 0 = t.val ∧ win0_2.index t 1 = 0 ∧ win0_2.index t 2 = 0) :=
  (by decide +kernel : ∀ t : Fin grid0.N, (win0_0.index t 0 = t.val ∧ win0_0.index t 1 = 0) ∧ (win0_1.index t 0 = t.val ∧ win0_1.index t 1 = 0)
    ∧ (win0_3.index t 0 = t.val ∧ win0_3.index t 1 = 0) ∧ (win0_4.index t 0 = t.val ∧ win0_4.index t 1 = 0)
    ∧ (win0_2.index t 0 = t.val ∧ win0_2.index t 1 = 0 ∧ win0_2.index t 2 = 0)) t

theorem blk0 (t : Fin cfg0.N) (p : Fin 512) (k : Fin 1024) :
    (iblk m c 0 t : FVec Ideal S512x1024 .f32) (ix2 p k) = Y m c (ix2 (rowOf t.val p) k) := by
  have hi := (idx t).1
  have ht : t.val < 16 := lt_of_lt_of_eq t.isLt N_0
  unfold iblk
  rw [View.read_apply]
  show (V m c main_arg0 : FVec Ideal S8192x1024 .f32) _ = _
  rw [V_main_arg0]
  refine congrArg (Y m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 1024 + 1 * k.val = k.val
    rw [hi.2]; omega

theorem blk1 (t : Fin cfg0.N) (p : Fin 512) (k : Fin 1024) :
    (iblk m c 1 t : FVec Ideal S512x1024 .f32) (ix2 p k) = T m c (ix2 (rowOf t.val p) k) := by
  have hi := (idx t).2.1
  have ht : t.val < 16 := lt_of_lt_of_eq t.isLt N_0
  unfold iblk
  rw [View.read_apply]
  show (V m c main_arg1 : FVec Ideal S8192x1024 .f32) _ = _
  rw [V_main_arg1]
  refine congrArg (T m c) (funext fun a => Fin.ext ?_)
  match a with
  | ⟨0, _⟩ =>
    show win0_1.index t 0 * 512 + 1 * p.val = (rowOf t.val p).val
    rw [rowOf_val _ ht, hi.1]; omega
  | ⟨1, _⟩ =>
    show win0_1.index t 1 * 1024 + 1 * k.val = k.val
    rw [hi.2]; omega

theorem grad_eq (t : Fin cfg0.N) (p : Fin 512) (k : Fin 1024) :
    Ideal.div (HSub.hSub (α := EReal) (β := EReal) (γ := EReal) ((iblk m c 0 t : FVec Ideal S512x1024 .f32) (ix2 p k)) ((iblk m c 1 t : FVec Ideal S512x1024 .f32) (ix2 p k))) n1024
      = Ideal.div (Y m c (ix2 (rowOf t.val p) k) - T m c (ix2 (rowOf t.val p) k)) n1024 := by
  rw [blk0, blk1]

theorem final3 : (dats m 0 c).arrAt 3 cfg0.N = goalG m c :=
  (dats m 0 c).arrAt_eq_of_cover 3 (goalG m c) (fun t _ => by
    have hi := (idx t).2.2.1
    have ht : t.val < 16 := lt_of_lt_of_eq t.isLt N_0
    rw [Value.flushed3]
    funext j
    rw [View.read_apply]
    obtain ⟨p, k, rfl⟩ : ∃ p k, j = ix2 p k := ⟨j 0, j 1, eq_ix2 j⟩
    refine ((out_grad _ _ p k).trans (grad_eq m c t p k)).trans ?_
    refine congrArg (goalG m c) (funext fun a => Fin.ext ?_)
    match a with
    | ⟨0, _⟩ =>
      show (rowOf t.val p).val = win0_3.index t 0 * 512 + 1 * p.val
      rw [rowOf_val _ ht, hi.1]; omega
    | ⟨1, _⟩ =>
      show k.val = win0_3.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := (idx ⟨(i 0 : Nat) / 512, ht⟩).2.2.1
    refine ⟨⟨(i 0 : Nat) / 512, ht⟩, flush0_3 _, ?_⟩
    show i ∈ ((View.whole main_v0_1).slice (win0_3.rect ⟨(i 0 : Nat) / 512, ht⟩)).set
    rw [View.set_slice_whole, Rect.mem_set_unit]
    intro x
    match x with
    | ⟨0, _⟩ =>
      show win0_3.index _ 0 * 512 ≤ (i 0 : Nat) ∧ (i 0 : Nat) < win0_3.index _ 0 * 512 + 512
      rw [hi.1]; dsimp only; omega
    | ⟨1, _⟩ =>
      show win0_3.index _ 1 * 1024 ≤ (i 1 : Nat) ∧ (i 1 : Nat) < win0_3.index _ 1 * 1024 + 1024
      rw [hi.2]; omega

theorem final4 : (dats m 0 c).arrAt 4 cfg0.N = goalB m c :=
  (dats m 0 c).arrAt_eq_of_cover 4 (goalB m c) (fun t _ => by
    have hi := (idx t).2.2.2.1
    have ht : t.val < 16 := lt_of_lt_of_eq t.isLt N_0
    rw [Value.flushed4]
    funext j
    rw [View.read_apply]
    obtain ⟨p, k, rfl⟩ : ∃ p k, j = ix2 p k := ⟨j 0, j 1, eq_ix2 j⟩
    refine ((out_copy _ _ p k).trans (grad_eq m c t p k)).trans ?_
    refine congrArg (goalB m c) (funext fun a => Fin.ext ?_)
    match a with
    | ⟨0, _⟩ =>
      show (rowOf t.val p).val = win0_4.index t 0 * 512 + 1 * p.val
      rw [rowOf_val _ ht, hi.1]; omega
    | ⟨1, _⟩ =>
      show k.val = win0_4.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := (idx ⟨(i 0 : Nat) / 512, ht⟩).2.2.2.1
    refine ⟨⟨(i 0 : Nat) / 512, ht⟩, flush0_4 _, ?_⟩
    show i ∈ ((View.whole main_v0_2).slice (win0_4.rect ⟨(i 0 : Nat) / 512, ht⟩)).set
    rw [View.set_slice_whole, Rect.mem_set_unit]
    intro x
    match x with
    | ⟨0, _⟩ =>
      show win0_4.index _ 0 * 512 ≤ (i 0 : Nat) ∧ (i 0 : Nat) < win0_4.index _ 0 * 512 + 512
      rw [hi.1]; dsimp only; omega
    | ⟨1, _⟩ =>
      show win0_4.index _ 1 * 1024 ≤ (i 1 : Nat) ∧ (i 1 : Nat) < win0_4.index _ 1 * 1024 + 1024
      rw [hi.2]; omega

theorem final2 : (dats m 0 c).arrAt 2 cfg0.N = goalP m c :=
  (dats m 0 c).arrAt_eq_of_cover 2 (goalP m c) (fun t _ => by
    have hi := (idx t).2.2.2.2
    rw [Value.flushed2]
    funext j
    rw [View.read_apply]
    obtain ⟨u, v, l, rfl⟩ : ∃ u v l, j = ix3 u v l := ⟨j 0, j 1, j 2, eq_ix3 j⟩
    have hu : u = 0 := Subsingleton.elim _ _
    have hv : v = 0 := Subsingleton.elim _ _
    subst hu hv
    refine (out_part _ _ l).trans ?_
    simp only [blk0, blk1]
    have e : (t.val : ℕ) = win0_2.index t 0 * 1 + 1 * 0 := by rw [hi.1]; omega
    show half * ∑ p : Fin 512, token (fun q => Y m c (ix2 (rowOf t.val p) q)) (fun q => T m c (ix2 (rowOf t.val p) q))
      = half * ∑ p : Fin 512, token (fun q => Y m c (ix2 (rowOf (win0_2.index t 0 * 1 + 1 * 0) p) q)) (fun q => T m c (ix2 (rowOf (win0_2.index t 0 * 1 + 1 * 0) p) q))
    rw [← e]) fun i => by
    have hN : cfg0.N = 16 := N_0
    have h0 : (i 0 : Nat) < 16 := (i 0).isLt
    have h1 : (i 1 : Nat) < 1 := (i 1).isLt
    have h2 : (i 2 : Nat) < 128 := (i 2).isLt
    have ht : (i 0 : Nat) < cfg0.N := by omega
    have hi := (idx ⟨(i 0 : Nat), ht⟩).2.2.2.2
    refine ⟨⟨(i 0 : Nat), ht⟩, flush0_2 _, ?_⟩
    show i ∈ ((View.whole main_v0_0).slice (win0_2.rect ⟨(i 0 : Nat), ht⟩)).set
    rw [View.set_slice_whole, Rect.mem_set_unit]
    intro x
    match x with
    | ⟨0, _⟩ =>
      show win0_2.index _ 0 * 1 ≤ (i 0 : Nat) ∧ (i 0 : Nat) < win0_2.index _ 0 * 1 + 1
      rw [hi.1]; dsimp only; omega
    | ⟨1, _⟩ =>
      show win0_2.index _ 1 * 1 ≤ (i 1 : Nat) ∧ (i 1 : Nat) < win0_2.index _ 1 * 1 + 1
      rw [hi.2.1]; omega
    | ⟨2, _⟩ =>
      show win0_2.index _ 2 * 128 ≤ (i 2 : Nat) ∧ (i 2 : Nat) < win0_2.index _ 2 * 128 + 128
      rw [hi.2.2]; omega

/-! ## The reference -/

open Cert.Reference17Ideal.Read in
theorem ref_token (r : Fin 8192) : val_main_v19 (F := Ideal) (Y m c) (T m c) (ix1 r) = token (fun q => Y m c (ix2 r q)) (fun q => T m c (ix2 r q)) := by
  rw [val_main_v19_apply, val_main_v18_apply, val_main_v17_apply]
  unfold token
  refine congrArg (fun s => Ideal.div s n1024) ?_
  refine (congrArg₂ (· + ·) Ideal.ofBits_zero_f32 (Finset.sum_congr rfl fun q _ => ?_)).trans (zero_add _)
  rw [val_main_v16_apply, val_main_v15_apply]
  refine congrArg (fun i => ((Y m c i - T m c i) * (Y m c i - T m c i) : EReal)) (funext fun a => ?_)
  match a with
  | ⟨0, _⟩ => rfl
  | ⟨1, _⟩ => rfl

open Cert.Reference17Ideal.Read in
theorem ref_part : val_main_v25 (F := Ideal) (Y m c) (T m c) = goalP m c := by
  funext i
  rw [val_main_v25_apply, val_main_v24_apply, val_main_v23_apply, val_main_v22_apply, val_main_v21_apply]
  unfold goalP
  refine congrArg (fun s => (half * s : EReal)) ?_
  refine (congrArg₂ (· + ·) Ideal.ofBits_zero_f32 (Finset.sum_congr rfl fun p _ => ?_)).trans (zero_add _)
  rw [val_main_v20_apply]
  refine Eq.trans (congrArg _ (funext fun a => Fin.ext ?_)) (ref_token m c _)
  have h0 : (i 0 : Nat) < 16 := (i 0).isLt
  match a with
  | ⟨0, _⟩ =>
    show (i 0).val * 512 + p.val = (rowOf (i 0).val p).val
    rw [rowOf_val _ h0]

theorem half_eq : half = ((1 / 2 : ℝ) : EReal) := by
  simp [half, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem n1024_eq : n1024 = ((1024 : ℝ) : EReal) := by
  simp [n1024, Ideal.ofBits, Ideal.ieee, -EReal.coe_mul]; norm_num

/-- The gradient of half the mean square: a half over 1024, times twice the difference. -/
theorem scale (d : EReal) : Ideal.div (half * Ideal.ofBits .f32 0x3F800000#32) n1024 * (Ideal.ofBits .f32 0x40000000#32 * d) = Ideal.div d n1024 := by
  rw [Ideal.ofBits_one_f32, mul_one, n1024_eq, two_eq, half_eq, Ideal.div_coe (by norm_num), Ideal.div_coe (by norm_num), ← mul_assoc, ← EReal.coe_mul,
    ← EReal.coe_mul, mul_comm]
  exact congrArg (fun s : ℝ => d * (s : EReal)) (by norm_num)

open Cert.Reference17Ideal.Read in
theorem ref_grad (i : S8192x1024.Idx) : val_main_v14 (F := Ideal) (Y m c) (T m c) i = Ideal.div (Y m c i - T m c i) n1024 := by
  rw [val_main_v14_apply, val_main_v13_apply, val_main_v12_apply, val_main_v11_apply, val_main_v10_apply, val_main_v9_apply, val_main_v3_apply,
    val_main_v2_apply, val_main_v0_apply]
  exact scale _

open Cert.Reference17Ideal.Read in
theorem ref_goalG : val_main_v14 (F := Ideal) (Y m c) (T m c) = goalG m c := funext fun i => ref_grad m c i

open Cert.Reference17Ideal.Read in
theorem ref_goalB : val_main_v26 (F := Ideal) (Y m c) (T m c) = goalB m c := funext fun i => (val_main_v26_apply _ _ i).trans (ref_grad m c i)

/-- The reference ends with its arguments as they were; it has no semaphore. -/
theorem frame : quiescent_Reference17Ideal (hReference17Ideal := Cert.Reference17Ideal.Gen.facts) := fun m g _ =>
  (θ_run Cert.Reference17Ideal.defs _ _).mono (fun r h => ⟨fun c => (h c).2.2.2, sem_eq_zero_of_no_sems (by decide) r.2⟩)
    (Cert.Reference17Ideal.Value.run m g)

theorem algebraic :
    algebraic_Kernel17Ideal_Reference17Ideal (hKernel17Ideal := Cert.Kernel17Ideal.Gen.facts) (hReference17Ideal := Cert.Reference17Ideal.Gen.facts) := by
  intro m g m' g' _ hargs
  refine ⟨fun c => (dats m 0 c).arrAt 2 cfg0.N, fun c => (dats m 0 c).arrAt 3 cfg0.N, fun c => (dats m 0 c).arrAt 4 cfg0.N,
    Cert.Kernel17Ideal.Value.run_blocks m g, ?_⟩
  refine (θ_run Cert.Reference17Ideal.defs _ _).mono (fun r h c => ?_) (Cert.Reference17Ideal.Value.run m' g')
  obtain ⟨e0, e1⟩ := hargs c
  obtain ⟨r0, r1, r2, k⟩ := h c
  refine ⟨r0.trans ?_, r1.trans ?_, r2.trans ?_, k⟩
  · refine (Cert.Reference17Ideal.Read.val_main_v25_eq _ _).trans ?_
    rw [e0, e1]
    exact (ref_part m c).trans (final2 m c).symm
  · refine (Cert.Reference17Ideal.Read.val_main_v14_eq _ _).trans ?_
    rw [e0, e1]
    exact (ref_goalG m c).trans (final3 m c).symm
  · refine (Cert.Reference17Ideal.Read.val_main_v26_eq _ _).trans ?_
    rw [e0, e1]
    exact (ref_goalB m c).trans (final4 m c).symm

end Cert.LossGrad

end
-- ==== Proof.MixNorm.lean ====
/- The mixing part's norms: the attention's output over its root mean square, and beside it the convolution's output
   through layer norm, silu and RMS norm; index by index over the extended reals, no precondition. -/
module

public import proofs.«01_k».proof.Proof.RowOps
public import proofs.«01_k».proof.Defs
public import proofs.«01_k».proof.Proof.Gen.Kernel18Ideal.Value
public import proofs.«01_k».proof.Proof.Gen.Reference18Ideal.Read
public import Idealize.ShloMosaic.Lib.Pipeline.ValueKit.Tiles

@[expose] public section

set_option maxRecDepth 16384

noncomputable section

namespace Cert.MixNorm

open Idealize.ShloMosaic Idealize.ShloMosaic.ValueIdx Idealize.ShloMosaic.TcCoe Idealize.SL.Sem
open Cert.Rows Cert.RowOps Cert.Kernel18Ideal Cert.Kernel18Ideal.Gen
open Idealize.ShloMosaic.Pipeline (Dat)

theorem a_apply (x : FVec Ideal S512x512 .f32) (g : FVec Ideal S1x512 .f32) (p k : Fin 512) :
    k0_pay2 (F := Ideal) x g (ix2 p k) = rms (fun q => x (ix2 p q)) (g (ix2 (0 : Fin 1) k)) k := by
  unfold k0_pay2
  simp only [shapeCast_self]
  show (x (ix2 p k) * broadcastTo S512x512 _ broadcasts_S512x1_S512x512 (ix2 p k) * broadcastTo S512x512 g broadcasts_S1x512_S512x512 (ix2 p k) : EReal) = _
  rw [spread_at, broadcastTo_1b_ab_apply g broadcasts_S1x512_S512x512 p k]
  unfold rms
  refine congrArg (fun s => (x (ix2 p k) * Ideal.rsqrt (Ideal.div s n512 + epsW) * g (ix2 (0 : Fin 1) k) : EReal)) ?_
  exact rowsum_at _ _ rfl _ _ _ _ p 0

theorem d_apply (x : FVec Ideal S512x512 .f32) (p k : Fin 512) :
    k0_pay5 (F := Ideal) x (ix2 p k) = centre (fun q => x (ix2 p q)) k := by
  unfold k0_pay5
  simp only [shapeCast_self]
  show (x (ix2 p k) - broadcastTo S512x512 _ broadcasts_S512x1_S512x512 (ix2 p k) : EReal) = _
  rw [spread_at]
  unfold centre
  refine congrArg (fun s => (x (ix2 p k) - Ideal.div s n512 : EReal)) ?_
  exact rowsum_at _ _ rfl _ _ _ _ p 0

theorem i_apply (x : FVec Ideal S512x512 .f32) (p k : Fin 512) :
    k0_pay6 (F := Ideal) x (ix2 p k) = invDev (fun q => x (ix2 p q)) := by
  unfold k0_pay6
  dsimp only
  rw [spread_at]
  unfold invDev
  refine congrArg (fun s => Ideal.rsqrt (Ideal.div s n512 + epsW)) ?_
  refine (rowsum_at _ _ rfl _ _ _ _ p 0).trans (Finset.sum_congr rfl fun q _ => ?_)
  exact congrArg₂ (· * ·) (d_apply x p q) (d_apply x p q)

theorem c_apply (x : FVec Ideal S512x512 .f32) (g b w : FVec Ideal S1x512 .f32) (p k : Fin 512) :
    k0_pay1 (F := Ideal) (k0_pay3 g) (k0_pay4 b) (k0_pay5 x) (k0_pay6 x) w (ix2 p k)
      = rms (gated (fun q => x (ix2 p q)) (fun q => g (ix2 (0 : Fin 1) q)) fun q => b (ix2 (0 : Fin 1) q)) (w (ix2 (0 : Fin 1) k)) k := by
  have hg : ∀ q, gated (fun q => x (ix2 p q)) (fun q => g (ix2 (0 : Fin 1) q)) (fun q => b (ix2 (0 : Fin 1) q)) q
      = silu (k0_pay5 (F := Ideal) x (ix2 p q) * k0_pay6 (F := Ideal) x (ix2 p q) * broadcastTo S512x512 g broadcasts_S1x512_S512x512 (ix2 p q)
        + broadcastTo S512x512 b broadcasts_S1x512_S512x512 (ix2 p q)) := fun q => by
    rw [d_apply, i_apply, broadcastTo_1b_ab_apply g broadcasts_S1x512_S512x512 p q, broadcastTo_1b_ab_apply b broadcasts_S1x512_S512x512 p q]
    rfl
  unfold rms
  simp only [hg]
  unfold k0_pay1 k0_pay3 k0_pay4
  simp only [shapeCast_self]
  show (silu _ * broadcastTo S512x512 _ broadcasts_S512x1_S512x512 (ix2 p k) * broadcastTo S512x512 w broadcasts_S1x512_S512x512 (ix2 p k) : EReal) = _
  rw [spread_at, broadcastTo_1b_ab_apply w broadcasts_S1x512_S512x512 p k]
  refine congrArg (fun s => (silu (k0_pay5 (F := Ideal) x (ix2 p k) * k0_pay6 (F := Ideal) x (ix2 p k) * broadcastTo S512x512 g broadcasts_S1x512_S512x512 (ix2 p k)
        + broadcastTo S512x512 b broadcasts_S1x512_S512x512 (ix2 p k)) * Ideal.rsqrt (Ideal.div s n512 + epsW) * w (ix2 (0 : Fin 1) k) : EReal)) ?_
  exact rowsum_at _ _ rfl _ _ _ _ p 0

/-- Entry `j` of a row of the two halves: 512 entries of the attention's part, then 512 of the convolution's. -/
def both (a r g b ag cg : Fin 512 → EReal) (j : Fin 1024) : EReal :=
  if h : j.val < 512 then rms a (ag ⟨j.val, h⟩) ⟨j.val, h⟩
  else rms (gated r g b) (cg ⟨j.val - 512, by omega⟩) ⟨j.val - 512, by omega⟩

theorem both_lo (a r g b ag cg : Fin 512 → EReal) (j : Fin 1024) (k : Fin 512) (h : j.val = k.val) : both a r g b ag cg j = rms a (ag k) k := by
  have e : j.val < 512 := by omega
  unfold both
  rw [dif_pos e]
  have e' : (⟨j.val, e⟩ : Fin 512) = k := Fin.ext h
  rw [e']

theorem both_hi (a r g b ag cg : Fin 512 → EReal) (j : Fin 1024) (k : Fin 512) (h : j.val = 512 + k.val) :
    both a r g b ag cg j = rms (gated r g b) (cg k) k := by
  have e : ¬ j.val < 512 := by omega
  unfold both
  rw [dif_neg e]
  have e' : (⟨j.val - 512, by omega⟩ : Fin 512) = k := Fin.ext (by show j.val - 512 = k.val; omega)
  rw [e']

/-- The tile's entry. -/
def tile (x0 x1 : FVec Ideal S512x512 .f32) (x2 x3 x4 x5 : FVec Ideal S1x512 .f32) (p : Fin 512) (j : Fin 1024) : EReal :=
  both (fun q => x0 (ix2 p q)) (fun q => x1 (ix2 p q)) (fun q => x2 (ix2 (0 : Fin 1) q)) (fun q => x3 (ix2 (0 : Fin 1) q))
    (fun q => x4 (ix2 (0 : Fin 1) q)) (fun q => x5 (ix2 (0 : Fin 1) q)) j

theorem hi_at (x0 x1 : FVec Ideal S512x512 .f32) (x2 x3 x4 x5 : FVec Ideal S1x512 .f32) (p : Fin 512) (j : Fin 1024) :
    View.TileAt (Val := Elt Ideal) (S := S512x1024) (e := .bf16) (ix2 p j) ![0, 512] S512x512.size
      (k0_pay1 (F := Ideal) (k0_pay3 (View.ld x2 r0_1)) (k0_pay4 (View.ld x3 r0_1)) (k0_pay5 (View.ld x1 r0_0)) (k0_pay6 (View.ld x1 r0_0)) (View.ld x5 r0_1))
      (tile x0 x1 x2 x3 x4 x5 p j) := by
  intro x hx
  obtain ⟨a, b, rfl⟩ : ∃ a b, x = ix2 a b := ⟨x 0, x 1, eq_ix2 x⟩
  have h0 : p.val = 0 + a.val := hx 0
  have h1 : j.val = 512 + b.val := hx 1
  have hp : p = a := Fin.ext (by omega)
  subst hp
  rw [c_apply, View.ld_unit_zero (Val := Elt Ideal) (e := .f32) (S := S512x512) hz2 _ x1,
    View.ld_unit_zero (Val := Elt Ideal) (e := .f32) (S := S1x512) hz2 _ x2,
    View.ld_unit_zero (Val := Elt Ideal) (e := .f32) (S := S1x512) hz2 _ x3,
    View.ld_unit_zero (Val := Elt Ideal) (e := .f32) (S := S1x512) hz2 _ x5]
  unfold tile
  rw [both_hi _ _ _ _ _ _ j b h1]

theorem lo_at (x0 x1 : FVec Ideal S512x512 .f32) (x2 x3 x4 x5 : FVec Ideal S1x512 .f32) (p : Fin 512) (j : Fin 1024) :
    View.TileAt (Val := Elt Ideal) (S := S512x1024) (e := .bf16) (ix2 p j) ![0, 0] S512x512.size
      (k0_pay2 (F := Ideal) (View.ld x0 r0_0) (View.ld x4 r0_1)) (tile x0 x1 x2 x3 x4 x5 p j) := by
  intro x hx
  obtain ⟨a, b, rfl⟩ : ∃ a b, x = ix2 a b := ⟨x 0, x 1, eq_ix2 x⟩
  have h0 : p.val = 0 + a.val := hx 0
  have h1 : j.val = 0 + b.val := hx 1
  have hp : p = a := Fin.ext (by omega)
  subst hp
  rw [a_apply, View.ld_unit_zero (Val := Elt Ideal) (e := .f32) (S := S512x512) hz2 _ x0,
    View.ld_unit_zero (Val := Elt Ideal) (e := .f32) (S := S1x512) hz2 _ x4]
  unfold tile
  rw [both_lo _ _ _ _ _ _ j b (by omega)]

theorem out_at (x0 x1 : FVec Ideal S512x512 .f32) (x2 x3 x4 x5 : FVec Ideal S1x512 .f32) (p : Fin 512) (j : Fin 1024) :
    out0_6 (F := Ideal) x0 x1 x2 x3 x4 x5 (ix2 p j) = tile x0 x1 x2 x3 x4 x5 p j := by
  unfold out0_6
  refine View.canon_eq_of_allAt _ _ _ (cover0_6 _ _ _) ?_
  refine View.allAt_cons_unit _ _ _ _ _ (hi_at x0 x1 x2 x3 x4 x5 p j) ?_
  refine View.allAt_cons_unit _ _ _ _ _ (lo_at x0 x1 x2 x3 x4 x5 p j) ?_
  exact View.allAt_nil _ _

variable (m : (ℓ : Loc nD τ sig) → Buf (Elt Ideal) ℓ) (c : Dev nD)

/-- The seven arguments as they are at the start. -/
abbrev A : FVec Ideal S8192x512 .f32 := m ((c : Thread nD τ).loc main_arg0)
abbrev Cv : FVec Ideal S8192x512 .f32 := m ((c : Thread nD τ).loc main_arg1)
abbrev Cb : FVec Ideal S512 .f32 := m ((c : Thread nD τ).loc main_arg2)
abbrev Lg : FVec Ideal S512 .f32 := m ((c : Thread nD τ).loc main_arg3)
abbrev Lb : FVec Ideal S512 .f32 := m ((c : Thread nD τ).loc main_arg4)
abbrev Ag : FVec Ideal S512 .f32 := m ((c : Thread nD τ).loc main_arg5)
abbrev Cg : FVec Ideal S512 .f32 := m ((c : Thread nD τ).loc main_arg6)

/-- Row `p` of the convolution's output with the bias. -/
def crow (p : Fin 8192) (q : Fin 512) : EReal := Cv m c (ix2 p q) + Cb m c (ix1 q)

/-- The result. -/
def goal : FVec Ideal S8192x1024 .bf16 := fun i =>
  both (fun q => A m c (ix2 (i 0) q)) (crow m c (i 0)) (fun q => Lg m c (ix1 q)) (fun q => Lb m c (ix1 q))
    (fun q => Ag m c (ix1 q)) (fun q => Cg m c (ix1 q)) (i 1)

theorem as_row (v : FVec Ideal S512 .f32) (k : Fin 512) : broadcastInDim S1x512 ![1] bcast_S512_S1x512_1 v (ix2 (0 : Fin 1) k) = v (ix1 k) :=
  broadcastInDim_apply _ bcast_S512_S1x512_1 v (ix2 (0 : Fin 1) k) (ix1 k) (fun a => match a with
    | ⟨0, _⟩ => by show k.val = if (512 : ℕ) = 1 then 0 else k.val; rw [if_neg (by decide)])

theorem v2_apply (p : Fin 8192) (k : Fin 512) : (V m c main_v2 : FVec Ideal S8192x512 .f32) (ix2 p k) = crow m c p k := by
  have e : (V m c main_v2 : FVec Ideal S8192x512 .f32) = addf (Cv m c)
      (broadcastInDim S8192x512 ![0, 1] bcast_S1x512_S8192x512_0_1 (broadcastInDim S1x512 ![1] bcast_S512_S1x512_1 (Cb m c))) := by
    unfold_abbrev_sides
    after_results
    all_goals rfl
  rw [e]
  unfold crow
  refine congrArg (fun s => (Cv m c (ix2 p k) + s : EReal)) (Eq.trans ?_ (as_row (Cb m c) k))
  exact broadcastInDim_apply _ bcast_S1x512_S8192x512_0_1 _ (ix2 p k) (ix2 (0 : Fin 1) k) (fun a => match a with
    | ⟨0, _⟩ => by show (0 : ℕ) = if (1 : ℕ) = 1 then 0 else p.val; rw [if_pos rfl]
    | ⟨1, _⟩ => by show k.val = if (512 : ℕ) = 1 then 0 else k.val; rw [if_neg (by decide)])

theorem v3_eq : (V m c main_v3 : FVec Ideal S1x512 .f32) = broadcastInDim S1x512 ![1] bcast_S512_S1x512_1 (Lg m c) := by
  unfold_abbrev_sides
  after_results
  all_goals rfl

theorem v4_eq : (V m c main_v4 : FVec Ideal S1x512 .f32) = broadcastInDim S1x512 ![1] bcast_S512_S1x512_1 (Lb m c) := by
  unfold_abbrev_sides
  after_results
  all_goals rfl

theorem v5_eq : (V m c main_v5 : FVec Ideal S1x512 .f32) = broadcastInDim S1x512 ![1] bcast_S512_S1x512_1 (Ag m c) := by
  unfold_abbrev_sides
  after_results
  all_goals rfl

theorem v6_eq : (V m c main_v6 : FVec Ideal S1x512 .f32) = broadcastInDim S1x512 ![1] bcast_S512_S1x512_1 (Cg m c) := by
  unfold_abbrev_sides
  after_results
  all_goals rfl

theorem idx (t : Fin cfg0.N) : (win0_0.index t 0 = t.val ∧ win0_0.index t 1 = 0) ∧ (win0_1.index t 0 = t.val ∧ win0_1.index t 1 = 0)
    ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_6.index t 0 = t.val ∧ win0_6.index t 1 = 0)) t

theorem idxR (t : Fin cfg0.N) : (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)) t

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

theorem blk0 (t : Fin cfg0.N) (p k : Fin 512) :
    (iblk m c 0 t : FVec Ideal S512x512 .f32) (ix2 p k) = A m c (ix2 (rowOf t.val p) k) := by
  have hi := (idx t).1
  have ht : t.val < 16 := lt_of_lt_of_eq t.isLt N_0
  unfold iblk
  rw [View.read_apply]
  show (V m c main_arg0 : FVec Ideal S8192x512 .f32) _ = _
  rw [V_main_arg0]
  refine congrArg (A m c) (funext fun a => Fin.ext ?_)
  match a with
  | ⟨0, _⟩ =>
    show win0_0.index t 0 * 512 + 1 * p.val = (rowOf t.val p).val
    rw [rowOf_val _ ht, hi.1]; omega
  | ⟨1, _⟩ =>
    show win0_0.index t 1 * 512 + 1 * k.val = k.val
    rw [hi.2]; omega

theorem blk1 (t : Fin cfg0.N) (p k : Fin 512) :
    (iblk m c 1 t : FVec Ideal S512x512 .f32) (ix2 p k) = crow m c (rowOf t.val p) k := by
  have hi := (idx t).2.1
  have ht : t.val < 16 := lt_of_lt_of_eq t.isLt N_0
  unfold iblk
  rw [View.read_apply]
  refine Eq.trans ?_ (v2_apply m c _ k)
  show (V m c main_v2 : FVec Ideal S8192x512 .f32) _ = _
  refine congrArg (V m c main_v2 : FVec Ideal S8192x512 .f32) (funext fun a => Fin.ext ?_)
  match a with
  | ⟨0, _⟩ =>
    show win0_1.index t 0 * 512 + 1 * p.val = (rowOf t.val p).val
    rw [rowOf_val _ ht, hi.1]; omega
  | ⟨1, _⟩ =>
    show win0_1.index t 1 * 512 + 1 * k.val = k.val
    rw [hi.2]; omega

theorem blk2 (t : Fin cfg0.N) (k : Fin 512) : (iblk m c 2 t : FVec Ideal S1x512 .f32) (ix2 (0 : Fin 1) k) = Lg m c (ix1 k) := by
  have hi := (idxR t).1
  unfold iblk
  rw [View.read_apply]
  refine Eq.trans ?_ ((congrFun (v3_eq m c) (ix2 (0 : Fin 1) k)).trans (as_row _ k))
  show (V m c main_v3 : FVec Ideal S1x512 .f32) _ = _
  refine congrArg (V m c main_v3 : FVec Ideal S1x512 .f32) (funext fun a => Fin.ext ?_)
  match a with
  | ⟨0, _⟩ => show win0_2.index t 0 * 1 + 1 * 0 = 0; rw [hi.1]
  | ⟨1, _⟩ => show win0_2.index t 1 * 512 + 1 * k.val = k.val; rw [hi.2]; omega

theorem blk3 (t : Fin cfg0.N) (k : Fin 512) : (iblk m c 3 t : FVec Ideal S1x512 .f32) (ix2 (0 : Fin 1) k) = Lb m c (ix1 k) := by
  have hi := (idxR t).2.1
  unfold iblk
  rw [View.read_apply]
  refine Eq.trans ?_ ((congrFun (v4_eq m c) (ix2 (0 : Fin 1) k)).trans (as_row _ k))
  show (V m c main_v4 : FVec Ideal S1x512 .f32) _ = _
  refine congrArg (V m c main_v4 : FVec Ideal S1x512 .f32) (funext fun a => Fin.ext ?_)
  match a with
  | ⟨0, _⟩ => show win0_3.index t 0 * 1 + 1 * 0 = 0; rw [hi.1]
  | ⟨1, _⟩ => show win0_3.index t 1 * 512 + 1 * k.val = k.val; rw [hi.2]; omega

theorem blk4 (t : Fin cfg0.N) (k : Fin 512) : (iblk m c 4 t : FVec Ideal S1x512 .f32) (ix2 (0 : Fin 1) k) = Ag m c (ix1 k) := by
  have hi := (idxR t).2.2.1
  unfold iblk
  rw [View.read_apply]
  refine Eq.trans ?_ ((congrFun (v5_eq m c) (ix2 (0 : Fin 1) k)).trans (as_row _ k))
  show (V m c main_v5 : FVec Ideal S1x512 .f32) _ = _
  refine congrArg (V m c main_v5 : FVec Ideal S1x512 .f32) (funext fun a => Fin.ext ?_)
  match a with
  | ⟨0, _⟩ => show win0_4.index t 0 * 1 + 1 * 0 = 0; rw [hi.1]
  | ⟨1, _⟩ => show win0_4.index t 1 * 512 + 1 * k.val = k.val; rw [hi.2]; omega

theorem blk5 (t : Fin cfg0.N) (k : Fin 512) : (iblk m c 5 t : FVec Ideal S1x512 .f32) (ix2 (0 : Fin 1) k) = Cg m c (ix1 k) := by
  have hi := (idxR t).2.2.2
  unfold iblk
  rw [View.read_apply]
  refine Eq.trans ?_ ((congrFun (v6_eq m c) (ix2 (0 : Fin 1) k)).trans (as_row _ k))
  show (V m c main_v6 : FVec Ideal S1x512 .f32) _ = _
  refine congrArg (V m c main_v6 : FVec Ideal S1x512 .f32) (funext fun a => Fin.ext ?_)
  match a with
  | ⟨0, _⟩ => show win0_5.index t 0 * 1 + 1 * 0 = 0; rw [hi.1]
  | ⟨1, _⟩ => show win0_5.index t 1 * 512 + 1 * k.val = k.val; rw [hi.2]; omega

theorem tile_eq (t : Fin cfg0.N) (p : Fin 512) (j : Fin 1024) :
    tile (iblk m c 0 t) (iblk m c 1 t) (iblk m c 2 t) (iblk m c 3 t) (iblk m c 4 t) (iblk m c 5 t) p j = goal m c (ix2 (rowOf t.val p) j) := by
  unfold tile goal
  simp only [blk0, blk1, blk2, blk3, blk4, blk5]

theorem final6 : (dats m 0 c).arrAt 6 cfg0.N = goal m c :=
  (dats m 0 c).arrAt_eq_of_cover 6 (goal m c) (fun t _ => by
    have hi := (idx t).2.2
    have ht : t.val < 16 := lt_of_lt_of_eq t.isLt N_0
    rw [Value.flushed6]
    funext j
    rw [View.read_apply]
    obtain ⟨p, k, rfl⟩ : ∃ p k, j = ix2 p k := ⟨j 0, j 1, eq_ix2 j⟩
    refine ((out_at _ _ _ _ _ _ p k).trans (tile_eq m c t p k)).trans ?_
    refine congrArg (goal m c) (funext fun a => Fin.ext ?_)
    match a with
    | ⟨0, _⟩ =>
      show (rowOf t.val p).val = win0_6.index t 0 * 512 + 1 * p.val
      rw [rowOf_val _ ht, hi.1]; omega
    | ⟨1, _⟩ =>
      show k.val = win0_6.index t 1 * 1024 + 1 * k.val
      rw [hi.2]; omega) fun i => by
    have hN : cfg0.N = 16 := N_0
    have h0 : (i 0 : Nat) < 8192 := (i 0).isLt
    have h1 : (i 1 : Nat) < 1024 := (i 1).isLt
    have ht : (i 0 : Nat) / 512 < cfg0.N := by omega
    have hi := (idx ⟨(i 0 : Nat) / 512, ht⟩).2.2
    refine ⟨⟨(i 0 : Nat) / 512, ht⟩, flush0_6 _, ?_⟩
    show i ∈ ((View.whole main_v7).slice (win0_6.rect ⟨(i 0 : Nat) / 512, ht⟩)).set
    rw [View.set_slice_whole, Rect.mem_set_unit]
    intro x
    match x with
    | ⟨0, _⟩ =>
      show win0_6.index _ 0 * 512 ≤ (i 0 : Nat) ∧ (i 0 : Nat) < win0_6.index _ 0 * 512 + 512
      rw [hi.1]; dsimp only; omega
    | ⟨1, _⟩ =>
      show win0_6.index _ 1 * 1024 ≤ (i 1 : Nat) ∧ (i 1 : Nat) < win0_6.index _ 1 * 1024 + 1024
      rw [hi.2]; omega

/-! ## The reference -/

open Cert.Reference18Ideal.Read in
theorem ref_x (i : S8192x512.Idx) : val_main_v2 (F := Ideal) (Cv m c) (Cb m c) i = crow m c (i 0) (i 1) := by
  rw [val_main_v2_apply, val_main_v1_apply, val_main_v0_apply]
  refine congrArg₂ (fun a b => (Cv m c a + Cb m c b : EReal)) (eq_ix2 i) (funext fun a => ?_)
  match a with
  | ⟨0, _⟩ => rfl

open Cert.Reference18Ideal.Read in
theorem ref_mean (i : Cert.Reference18Ideal.S8192x1.Idx) : val_main_v6 (F := Ideal) (Cv m c) (Cb m c) i = Ideal.div (∑ q, crow m c (i 0) q) n512 := by
  rw [val_main_v6_apply, val_main_v5_apply, val_main_v4_apply, val_main_v3_apply]
  refine congrArg (fun s => Ideal.div s n512) ?_
  refine (congrArg₂ (· + ·) Ideal.ofBits_zero_f32 (Finset.sum_congr rfl fun q _ => ?_)).trans (zero_add _)
  exact ref_x m c _

open Cert.Reference18Ideal.Read in
theorem ref_centre (i : S8192x512.Idx) : val_main_v8 (F := Ideal) (Cv m c) (Cb m c) i = centre (crow m c (i 0)) (i 1)
    ∧ val_main_v15 (F := Ideal) (Cv m c) (Cb m c) i = centre (crow m c (i 0)) (i 1) := by
  constructor
  · rw [val_main_v8_apply, val_main_v7_apply, ref_x, ref_mean]; rfl
  · rw [val_main_v15_apply, val_main_v14_apply, ref_x, ref_mean]; rfl

open Cert.Reference18Ideal.Read in
theorem ref_dev (i : Cert.Reference18Ideal.S8192x1.Idx) : val_main_v18 (F := Ideal) (Cv m c) (Cb m c) i = invDev (crow m c (i 0)) := by
  rw [val_main_v18_apply, val_main_v17_apply, val_main_v16_apply, val_main_v13_apply, val_main_v12_apply, val_main_v11_apply, val_main_v10_apply]
  refine congrArg (fun s => Ideal.rsqrt (Ideal.div s n512 + epsW)) ?_
  refine (congrArg₂ (· + ·) Ideal.ofBits_zero_f32 (Finset.sum_congr rfl fun q _ => ?_)).trans (zero_add _)
  rw [val_main_v9_apply]
  exact congrArg₂ (· * ·) (ref_centre m c _).1 (ref_centre m c _).1

/-- The row after layer norm and silu. -/
abbrev grow (p : Fin 8192) : Fin 512 → EReal := gated (crow m c p) (fun q => Lg m c (ix1 q)) fun q => Lb m c (ix1 q)

open Cert.Reference18Ideal.Read in
theorem ref_ln (i : S8192x512.Idx) : val_main_v26 (F := Ideal) (Cv m c) (Cb m c) (Lg m c) (Lb m c) i
    = centre (crow m c (i 0)) (i 1) * invDev (crow m c (i 0)) * Lg m c (ix1 (i 1)) + Lb m c (ix1 (i 1)) := by
  rw [val_main_v26_apply, val_main_v25_apply, val_main_v24_apply, val_main_v23_apply, val_main_v22_apply, val_main_v21_apply, val_main_v20_apply,
    val_main_v19_apply, (ref_centre m c i).2, ref_dev]
  refine congrArg₂ (fun a b => (centre (crow m c (i 0)) (i 1) * invDev (crow m c (i 0)) * Lg m c a + Lb m c b : EReal)) (funext fun a => ?_) (funext fun a => ?_)
  · match a with
    | ⟨0, _⟩ => rfl
  · match a with
    | ⟨0, _⟩ => rfl

open Cert.Reference18Ideal.Read in
theorem ref_silu (i : S8192x512.Idx) : val_main_v27 (F := Ideal) (Cv m c) (Cb m c) (Lg m c) (Lb m c) i = grow m c (i 0) (i 1) := by
  rw [val_main_v27_apply, val_main_call0_v5_apply, val_main_call0_v4_apply, val_main_call0_v3_apply, val_main_call0_v2_apply, val_main_call0_v1_apply,
    val_main_call0_v0_apply, ref_ln]
  unfold grow gated silu Ideal.logistic
  rw [← Ideal.ofBits_one_f32]
  rfl

open Cert.Reference18Ideal.Read in
theorem ref_a (p : Fin 8192) (k : Fin 512) : val_main_v40 (F := Ideal) (A m c) (Ag m c) (ix2 p k) = rms (fun q => A m c (ix2 p q)) (Ag m c (ix1 k)) k := by
  rw [val_main_v40_apply, val_main_v39_apply, val_main_v38_apply, val_main_v37_apply, val_main_v36_apply, val_main_v35_apply, val_main_v34_apply,
    val_main_v33_apply, val_main_v32_apply, val_main_v31_apply, val_main_v30_apply, val_main_v29_apply]
  unfold rms
  refine congrArg₂ (fun s g => (A m c (ix2 p k) * Ideal.rsqrt (Ideal.div s n512 + epsW) * g : EReal)) ?_ (congrArg (Ag m c) (funext fun a => ?_))
  · refine (congrArg₂ (· + ·) Ideal.ofBits_zero_f32 (Finset.sum_congr rfl fun q _ => ?_)).trans (zero_add _)
    rw [val_main_v28_apply]
    refine congrArg (fun i => (A m c i * A m c i : EReal)) (funext fun a => ?_)
    match a with
    | ⟨0, _⟩ => rfl
    | ⟨1, _⟩ => rfl
  · match a with
    | ⟨0, _⟩ => rfl

open Cert.Reference18Ideal.Read in
theorem ref_c (p : Fin 8192) (k : Fin 512) :
    val_main_v53 (F := Ideal) (Cv m c) (Cb m c) (Lg m c) (Lb m c) (Cg m c) (ix2 p k) = rms (grow m c p) (Cg m c (ix1 k)) k := by
  rw [val_main_v53_apply, val_main_v52_apply, val_main_v51_apply, val_main_v50_apply, val_main_v49_apply, val_main_v48_apply, val_main_v47_apply,
    val_main_v46_apply, val_main_v45_apply, val_main_v44_apply, val_main_v43_apply, val_main_v42_apply, ref_silu]
  unfold rms
  refine congrArg₂ (fun s g => (grow m c p k * Ideal.rsqrt (Ideal.div s n512 + epsW) * g : EReal)) ?_ (congrArg (Cg m c) (funext fun a => ?_))
  · refine (congrArg₂ (· + ·) Ideal.ofBits_zero_f32 (Finset.sum_congr rfl fun q _ => ?_)).trans (zero_add _)
    rw [val_main_v41_apply]
    exact congrArg₂ (· * ·) (ref_silu m c _) (ref_silu m c _)
  · match a with
    | ⟨0, _⟩ => rfl

open Cert.Reference18Ideal.Read in
theorem ref_goal : val_main_v55 (F := Ideal) (A m c) (Cv m c) (Cb m c) (Lg m c) (Lb m c) (Ag m c) (Cg m c) = goal m c := by
  funext i
  obtain ⟨p, j, rfl⟩ : ∃ p j, i = ix2 p j := ⟨i 0, i 1, eq_ix2 i⟩
  rw [val_main_v55_apply]
  show val_main_v54 (F := Ideal) (A m c) (Cv m c) (Cb m c) (Lg m c) (Lb m c) (Ag m c) (Cg m c) (ix2 p j) = both (fun q => A m c (ix2 p q)) (crow m c p) (fun q => Lg m c (ix1 q)) (fun q => Lb m c (ix1 q)) (fun q => Ag m c (ix1 q)) (fun q => Cg m c (ix1 q)) j
  unfold val_main_v54
  have hj := j.isLt
  by_cases h : j.val < 512
  · rw [both_lo _ _ _ _ _ _ j ⟨j.val, h⟩ rfl]
    refine (concatenate_pair_apply_left (t := Cert.Reference18Ideal.S8192x1024) (s₁ := Cert.Reference18Ideal.S8192x512) (s₂ := Cert.Reference18Ideal.S8192x512) (1 : Fin 2) _ _ _ (ix2 p j) rfl (ix2 p (⟨j.val, h⟩ : Fin 512)) fun a => ?_).trans (ref_a m c p _)
    match a with
    | ⟨0, _⟩ => rfl
    | ⟨1, _⟩ => rfl
  · rw [both_hi _ _ _ _ _ _ j ⟨j.val - 512, by omega⟩ (by show j.val = 512 + (j.val - 512); omega)]
    refine (concatenate_pair_apply_right (t := Cert.Reference18Ideal.S8192x1024) (s₁ := Cert.Reference18Ideal.S8192x512) (s₂ := Cert.Reference18Ideal.S8192x512) (1 : Fin 2) _ _ _ (ix2 p j) rfl rfl (ix2 p (⟨j.val - 512, by omega⟩ : Fin 512)) (fun a => ?_) ?_).trans (ref_c m c p _)
    · match a with
      | ⟨0, _⟩ => exact fun _ => rfl
      | ⟨1, _⟩ => exact fun h => absurd rfl h
    · show j.val - 512 + 512 = j.val
      omega

/-- The reference ends with its arguments as they were; it has no semaphore. -/
theorem frame : quiescent_Reference18Ideal (hReference18Ideal := Cert.Reference18Ideal.Gen.facts) := fun m g _ =>
  (θ_run Cert.Reference18Ideal.defs _ _).mono (fun r h => ⟨fun c => (h c).2, sem_eq_zero_of_no_sems (by decide) r.2⟩)
    (Cert.Reference18Ideal.Value.run m g)

theorem algebraic :
    algebraic_Kernel18Ideal_Reference18Ideal (hKernel18Ideal := Cert.Kernel18Ideal.Gen.facts) (hReference18Ideal := Cert.Reference18Ideal.Gen.facts) := by
  intro m g m' g' _ hargs
  refine ⟨fun c => (dats m 0 c).arrAt 6 cfg0.N, Cert.Kernel18Ideal.Value.run_blocks m g, ?_⟩
  refine (θ_run Cert.Reference18Ideal.defs _ _).mono (fun r h c => ?_) (Cert.Reference18Ideal.Value.run m' g')
  obtain ⟨e0, e1, e2, e3, e4, e5, e6⟩ := hargs c
  obtain ⟨r0, k⟩ := h c
  refine ⟨r0.trans ?_, k⟩
  refine (Cert.Reference18Ideal.Read.val_main_v55_eq _ _).trans ?_
  rw [e0, e1, e2, e3, e4, e5, e6]
  exact (ref_goal m c).trans (final6 m c).symm

end Cert.MixNorm

end
-- ==== Proof.ConvTile.lean ====
/- What the convolution's forward kernel leaves in its output block: eight chunks of rows, each the sum of 31 shifted copies
   of the gated input under the weights. The shifted copies are read from eight staggered slabs of the gated input. -/
module

public import proofs.«01_k».proof.Proof.Gen.Kernel19Ideal.Value
public import proofs.«01_k».proof.Proof.Rows
public import proofs.«01_k».proof.Proof.RowOps

@[expose] public section

set_option maxRecDepth 65536
set_option maxHeartbeats 0

noncomputable section

namespace Cert.ConvTile

open Idealize.ShloMosaic Idealize.ShloMosaic.ValueIdx Idealize.ShloMosaic.TcCoe Idealize.SL.Sem
open Cert.Rows Cert.RowOps Cert.Kernel19Ideal Cert.Kernel19Ideal.Gen

/-- An entry of a matrix at a numbered row. -/
def row {m n : ℕ} [NeZero m] (x : FVec Ideal ⟨2, ![m, n]⟩ .f32) (r : ℕ) (c : Fin n) : EReal := x (ix2 (Fin.ofNat m r) c)

theorem row_eq {m n : ℕ} [NeZero m] (x : FVec Ideal ⟨2, ![m, n]⟩ .f32) (r : ℕ) (p : Fin m) (hp : p.val = r) (c : Fin n) : row x r c = x (ix2 p c) := by
  subst hp
  exact congrArg (fun a => x (ix2 a c)) (Fin.ext (Nat.mod_eq_of_lt p.isLt))

/-- A value under its gate. -/
def gated (u g : EReal) : EReal := u * Ideal.logistic g

/-- The sum of the bias and the first taps at row `p`. -/
def part {n : ℕ} (h w : ℕ → Fin n → EReal) (b : Fin n → EReal) (p : ℕ) : ℕ → Fin n → EReal
  | 0, c => b c
  | k + 1, c => part h w b p k c + h (p + 2 + k) c * w k c

/-! ## The stores that fill the slabs -/

/-- A store that copies rows of one buffer, shifted by `s`, into slab `s` of another. -/
theorem shifted (h : ℕ → Fin 256 → EReal) (arg9 : Memref sig .tc .vmem S544x256 .f32) (M : List (View.Piece (Elt Ideal) S544x256 .f32))
    (H : ∀ (r : Fin 544) (c : Fin 256), View.canon M (ix2 r c) = h r.val c) (s o o' nr : ℕ) (y : S8x544x256.Idx)
    (inb : ∀ a, (![o', 0] : Fin 2 → ℕ) a + (![nr, 256] : Fin 2 → ℕ) a ≤ S544x256.size a)
    (hc : (⟨2, ![nr, 256]⟩ : Shape).ShapeCasts ⟨3, ![1, nr, 256]⟩) (ho : o' = o + s) :
    View.TileAt (Val := Elt Ideal) (S := S8x544x256) (e := .f32) y ![s, o, 0] ![1, nr, 256]
      (shapeCast ⟨3, ![1, nr, 256]⟩ (arg9.view.readCov M (Rect.unit (s := S544x256) ![o', 0] ![nr, 256] inb).toLoadRect : FVec Ideal ⟨2, ![nr, 256]⟩ .f32) hc)
      (h ((y 1).val + (y 0).val) (y 2)) := by
  intro x hx
  obtain ⟨a, b, c, rfl⟩ : ∃ (a : Fin 1) (b : Fin nr) (c : Fin 256), x = ix3 a b c := ⟨x 0, x 1, x 2, eq_ix3 x⟩
  have h0 : (y 0).val = s + a.val := hx 0
  have h1 : (y 1).val = o + b.val := hx 1
  have h2 : (y 2).val = 0 + c.val := hx 2
  have ha : a.val = 0 := by omega
  have hb := b.isLt
  have hi : o' + nr ≤ 544 := inb 0
  refine (shapeCast_apply (t := ⟨3, ![1, nr, 256]⟩) (s := ⟨2, ![nr, 256]⟩) _ hc (ix3 a b c) (ix2 b c) ?_).trans ?_
  · rw [Shape.rowMajor_val_two, Shape.rowMajor_val_three]
    show b.val * 256 + c.val = (a.val * nr + b.val) * 256 + c.val
    rw [ha]; omega
  rw [View.readCov_eq_canon']
  refine Eq.trans ?_ ((H ⟨o' + b.val, by omega⟩ c).trans ?_)
  · refine congrArg (View.canon M) (funext fun t => Fin.ext ?_)
    match t with
    | ⟨0, _⟩ => show o' + 1 * b.val = o' + b.val; omega
    | ⟨1, _⟩ => show 0 + 1 * c.val = c.val; omega
  · refine congrArg₂ h (show o' + b.val = _ by omega) (Fin.ext ?_)
    show c.val = (y 2).val
    omega

/-- The certificate that the stores cover the slabs: nine stores to a slab. -/
def rows (s : ℕ) : ℕ → ℕ → LoadRect.Cov
  | 0, q => .leaf (71 - (9 * s + q))
  | n + 1, q => .split 1 64 (.leaf (71 - (9 * s + q))) (rows s n (q + 1))

def slabs : ℕ → ℕ → LoadRect.Cov
  | 0, s => rows s 8 0
  | n + 1, s => .split 0 1 (rows s 8 0) (slabs n (s + 1))

theorem covered {s : Shape} {e : EltTy} (L : List (View.Piece (Elt Ideal) s e)) (B : LoadRect s) (t : LoadRect.Cov) (h : LoadRect.covChk (L.map Sigma.fst) B t = true)
    (j : B.shape.Idx) (y : s.Idx) (hy : B.idx j = y) : ∃ p ∈ L, y ∈ p.1.set := hy ▸ LoadRect.cover_of_covChk L B t h j

/-! ## A tap -/

section Tap

variable (h w : ℕ → Fin 256 → EReal) (b : Fin 256 → EReal)

/-- A chunk of rows has the bias and the first `k` taps. -/
def Acc (r0 : ℕ) (acc : FVec Ideal S64x256 .f32) (k : ℕ) : Prop := ∀ (a : Fin 64) (c : Fin 256), acc (ix2 a c) = part h w b (r0 + a.val) k c

/-- What the slabs hold. -/
def Slabs (L : List (View.Piece (Elt Ideal) S8x544x256 .f32)) : Prop :=
  ∀ (s : Fin 8) (r : Fin 544) (c : Fin 256), (r.val < 536 ∨ s.val = 0) → View.canon L (ix3 s r c) = h (r.val + s.val) c

theorem acc_succ (x4 : FVec Ideal S32x256 .f32) (hw : ∀ k c, w k c = row x4 k c)
    {L : List (View.Piece (Elt Ideal) S8x544x256 .f32)} (HL : Slabs h L) {arg10 : Memref sig .tc .vmem S8x544x256 .f32}
    {arg6 : Memref sig .tc .vmem S32x256 .f32} {h6 : arg6.IsWhole} {r0 k s o : ℕ} {acc : FVec Ideal S64x256 .f32}
    {inb : ∀ a, (![s, o, 0] : Fin 3 → ℕ) a + S1x64x256.size a ≤ S8x544x256.size a} {inb' : ∀ a, (![k, 0] : Fin 2 → ℕ) a + S1x256.size a ≤ S32x256.size a}
    (hn : r0 + 2 + k = o + s ∧ (o + 64 ≤ 536 ∨ s = 0)) (H : Acc h w b r0 acc k) :
    Acc h w b r0 (addf acc (mulf (shapeCast S64x256 (arg10.view.readCov L (Rect.unit (s := S8x544x256) ![s, o, 0] S1x64x256.size inb).toLoadRect) shapeCasts_S1x64x256_S64x256)
      (broadcastTo S64x256 (shapeCast S1x256 (View.readAt (Elt Ideal) arg6.view (Rect.unit (s := S32x256) ![k, 0] S1x256.size inb').toLoadRect (h6.unread x4))
        shapeCasts_S1x256_S1x256) broadcasts_S1x256_S64x256))) (k + 1) := by
  intro a c
  have hi0 : s + 1 ≤ 8 := inb 0
  have hi1 : o + 64 ≤ 544 := inb 1
  have hk : k + 1 ≤ 32 := inb' 0
  have ha := a.isLt
  refine congrArg₂ (· + ·) (H a c) (congrArg₂ (· * ·) ?_ ?_)
  · refine (shapeCast_apply (t := S64x256) (s := S1x64x256) _ shapeCasts_S1x64x256_S64x256 (ix2 a c) (ix3 (0 : Fin 1) a c) ?_).trans ?_
    · rw [Shape.rowMajor_val_two, Shape.rowMajor_val_three]
      show (0 * 64 + a.val) * 256 + c.val = a.val * 256 + c.val
      omega
    rw [View.readCov_eq_canon']
    refine Eq.trans ?_ ((HL ⟨s, by omega⟩ ⟨o + a.val, by omega⟩ c (by show o + a.val < 536 ∨ s = 0; omega)).trans ?_)
    · refine congrArg (View.canon L) (funext fun t => Fin.ext ?_)
      match t with
      | ⟨0, _⟩ => show s + 1 * 0 = s; omega
      | ⟨1, _⟩ => show o + 1 * a.val = o + a.val; omega
      | ⟨2, _⟩ => show 0 + 1 * c.val = c.val; omega
    · refine congrArg (fun n => h n c) ?_
      show o + a.val + s = r0 + a.val + 2 + k
      omega
  · refine (broadcastTo_apply _ broadcasts_S1x256_S64x256 (ix2 a c) (ix2 (0 : Fin 1) c) fun t => ?_).trans ?_
    · match t with
      | ⟨0, _⟩ => rfl
      | ⟨1, _⟩ => rfl
    refine (congrFun (shapeCast_self _ shapeCasts_S1x256_S1x256) _).trans ?_
    rw [hw, View.readAt_eq_ld, h6.read_unread, row_eq x4 k ⟨k, by omega⟩ rfl c]
    exact View.ld_unit_apply_of (Val := Elt Ideal) (e := .f32) (S := S32x256) x4 _ _ _ _ _ fun t => match t with
      | ⟨0, _⟩ => rfl
      | ⟨1, _⟩ => (Nat.zero_add _).symm

theorem acc_zero (x5 : FVec Ideal S1x256 .f32) (hb : ∀ c, b c = x5 (ix2 (0 : Fin 1) c)) {arg7 : Memref sig .tc .vmem S1x256 .f32} {h7 : arg7.IsWhole} {r0 : ℕ} {z : Ideal .f32} (hz : z = (0 : EReal))
    {inb : ∀ a, (![0, 0] : Fin 2 → ℕ) a + S1x256.size a ≤ S1x256.size a} :
    Acc h w b r0 (addf (broadcast S64x256 z)
      (broadcastTo S64x256 (shapeCast S1x256 (View.readAt (Elt Ideal) arg7.view (Rect.unit (s := S1x256) ![0, 0] S1x256.size inb).toLoadRect (h7.unread x5))
        shapeCasts_S1x256_S1x256) broadcasts_S1x256_S64x256)) 0 := by
  intro a c
  refine (congrArg₂ (· + ·) hz ?_).trans (zero_add _)
  refine (broadcastTo_apply _ broadcasts_S1x256_S64x256 (ix2 a c) (ix2 (0 : Fin 1) c) fun t => ?_).trans ?_
  · match t with
    | ⟨0, _⟩ => rfl
    | ⟨1, _⟩ => rfl
  refine (congrFun (shapeCast_self _ shapeCasts_S1x256_S1x256) _).trans ?_
  rw [View.readAt_eq_ld, h7.read_unread, View.ld_unit_zero (S := S1x256) hz2]
  exact (hb c).symm

theorem acc_tile (r0 : ℕ) (acc : FVec Ideal S64x256 .f32) (H : Acc h w b r0 acc 31) (p : Fin 512) (j : Fin 256) :
    View.TileAt (Val := Elt Ideal) (S := S512x256) (e := .f32) (ix2 p j) ![r0, 0] S64x256.size acc (part h w b p.val 31 j) := by
  intro x hx
  obtain ⟨a, c, rfl⟩ : ∃ (a : Fin 64) (c : Fin 256), x = ix2 a c := ⟨x 0, x 1, eq_ix2 x⟩
  have h0 : p.val = r0 + a.val := hx 0
  have h1 : j.val = 0 + c.val := hx 1
  refine (H a c).trans ?_
  rw [h0]
  exact congrArg (part h w b _ 31) (Fin.ext (by omega))

end Tap

/-! ## The kernel's buffers -/

variable (c : Dev nD) (i : grid0.Coords) (arg2 : Memref sig .tc .vmem S512x256 .f32) (h2 : arg2.IsWhole) (arg3 : Memref sig .tc .vmem S512x256 .f32) (h3 : arg3.IsWhole)
  (arg4 : Memref sig .tc .vmem S32x256 .f32) (h4 : arg4.IsWhole) (arg5 : Memref sig .tc .vmem S32x256 .f32) (h5 : arg5.IsWhole)
  (arg6 : Memref sig .tc .vmem S32x256 .f32) (h6 : arg6.IsWhole) (arg7 : Memref sig .tc .vmem S1x256 .f32) (h7 : arg7.IsWhole)
  (arg8 : Memref sig .tc .vmem S512x256 .f32) (h8 : arg8.IsWhole) (arg9 : Memref sig .tc .vmem S544x256 .f32) (h9 : arg9.IsWhole)
  (arg10 : Memref sig .tc .vmem S8x544x256 .f32) (h10 : arg10.IsWhole)
  (x0 x1 : FVec Ideal S512x256 .f32) (x2 x3 x4 : FVec Ideal S32x256 .f32) (x5 : FVec Ideal S1x256 .f32)

/-- The gated input of a block behind the 32 rows before it. -/
def hrow (n : ℕ) (r : ℕ) (q : Fin 256) : EReal :=
  if r < 32 then if n = 0 then 0 else gated (row x2 r q) (row x3 r q) else gated (row x0 (r - 32) q) (row x1 (r - 32) q)

theorem halo_at (n : ℕ) (hn : n < 16) (hi : (i 0).val = n) (r : Fin 32) (q : Fin 256) :
    k0_pay2 (F := Ideal) i x2 x3 (ix2 r q) = if n = 0 then 0 else gated (x2 (ix2 r q)) (x3 (ix2 r q)) := by
  unfold k0_pay2
  dsimp only
  rw [shapeCast_self, hi]
  by_cases h0 : n = 0
  · subst h0
    rw [if_pos rfl]
    exact Ideal.ofBits_zero_f32
  · rw [if_neg h0, show Scalar.cmpi .sgt (BitVec.ofNat 32 n) 0#32 = 1#1 by
      interval_cases n <;> first | exact absurd rfl h0 | rfl]
    rfl

theorem block_at (r : Fin 512) (q : Fin 256) : k0_pay3 (F := Ideal) x0 x1 (ix2 r q) = gated (x0 (ix2 r q)) (x1 (ix2 r q)) := by
  unfold k0_pay3
  rw [shapeCast_self]
  rfl

theorem input_at (n : ℕ) (hn : n < 16) (hi : (i 0).val = n) (r : Fin 544) (q : Fin 256) :
    View.canon (kernelRun0_A.sl.HS0_2 (F := Ideal) c i arg2 h2 arg3 h3 arg4 h4 arg5 h5 x0 x1 x2 x3) (ix2 r q) = hrow x0 x1 x2 x3 n r.val q := by
  refine View.canon_eq_of_allAt _ _ _ (covered (kernelRun0_A.sl.HS0_2 (F := Ideal) c i arg2 h2 arg3 h3 arg4 h4 arg5 h5 x0 x1 x2 x3) (LoadRect.whole S544x256)
    (.split 0 32 (.leaf 1) (.leaf 0)) (by sl_kernel_rfl) (ix2 r q) _ (by rw [LoadRect.idx_whole])) ?_
  unfold kernelRun0_A.sl.HS0_2
  sl_unfold_words
  simp only [View.readAt_eq_ld, h2.read_unread, h3.read_unread, h4.read_unread, h5.read_unread, View.ld_unit_zero (S := S512x256) hz2, View.ld_unit_zero (S := S32x256) hz2]
  refine View.allAt_cons_unit _ _ _ _ _ ?_ (View.allAt_cons_unit _ _ _ _ _ ?_ (View.allAt_nil _ _))
  · intro x hx
    obtain ⟨a, d, rfl⟩ : ∃ (a : Fin 512) (d : Fin 256), x = ix2 a d := ⟨x 0, x 1, eq_ix2 x⟩
    have e0 : r.val = 32 + a.val := hx 0
    have e1 : q.val = 0 + d.val := hx 1
    obtain rfl : q = d := Fin.ext (by omega)
    refine (block_at x0 x1 a q).trans ?_
    unfold hrow
    rw [if_neg (by omega), row_eq x0 _ a (by omega), row_eq x1 _ a (by omega)]
  · intro x hx
    obtain ⟨a, d, rfl⟩ : ∃ (a : Fin 32) (d : Fin 256), x = ix2 a d := ⟨x 0, x 1, eq_ix2 x⟩
    have e0 : r.val = 0 + a.val := hx 0
    have e1 : q.val = 0 + d.val := hx 1
    have ha := a.isLt
    obtain rfl : q = d := Fin.ext (by omega)
    refine (halo_at i x2 x3 n hn hi a q).trans ?_
    have hr : r.val < 32 := by omega
    unfold hrow
    rw [if_pos hr, row_eq x2 _ a (by omega), row_eq x3 _ a (by omega)]

theorem slabs_at (n : ℕ) (hn : n < 16) (hi : (i 0).val = n) :
    Slabs (hrow x0 x1 x2 x3 n) (kernelRun0_A.sl.HS1_72 (F := Ideal) c i arg2 h2 arg3 h3 arg4 h4 arg5 h5 arg9 x0 x1 x2 x3) := by
  intro s r q hr
  refine View.canon_eq_of_allAt _ _ _ ?_ ?_
  · by_cases h0 : s.val = 0
    · refine covered (kernelRun0_A.sl.HS1_72 (F := Ideal) c i arg2 h2 arg3 h3 arg4 h4 arg5 h5 arg9 x0 x1 x2 x3)
        (Rect.unit (s := S8x544x256) ![0, 0, 0] ![1, 544, 256] (by decide)).toLoadRect (rows 0 8 0) (by sl_kernel_rfl) (ix3 (0 : Fin 1) (r : Fin 544) q) _ ?_
      funext t
      refine Fin.ext ?_
      match t with
      | ⟨0, _⟩ => show 0 + 1 * 0 = s.val; omega
      | ⟨1, _⟩ => show 0 + 1 * r.val = r.val; omega
      | ⟨2, _⟩ => show 0 + 1 * q.val = q.val; omega
    · have hs := s.isLt
      refine covered (kernelRun0_A.sl.HS1_72 (F := Ideal) c i arg2 h2 arg3 h3 arg4 h4 arg5 h5 arg9 x0 x1 x2 x3)
        (Rect.unit (s := S8x544x256) ![1, 0, 0] ![7, 536, 256] (by decide)).toLoadRect (slabs 6 1) (by sl_kernel_rfl)
        (ix3 (⟨s.val - 1, by omega⟩ : Fin 7) (⟨r.val, by omega⟩ : Fin 536) q) _ ?_
      funext t
      refine Fin.ext ?_
      match t with
      | ⟨0, _⟩ => show 1 + 1 * (s.val - 1) = s.val; omega
      | ⟨1, _⟩ => show 0 + 1 * r.val = r.val; omega
      | ⟨2, _⟩ => show 0 + 1 * q.val = q.val; omega
  · have H := input_at c i arg2 h2 arg3 h3 arg4 h4 arg5 h5 x0 x1 x2 x3 n hn hi
    unfold kernelRun0_A.sl.HS1_72
    iterate 72 refine View.allAt_cons_unit _ _ _ _ _ (shifted (hrow x0 x1 x2 x3 n) arg9 _ H _ _ _ _ (ix3 s r q) _ _ (by decide)) ?_
    exact View.allAt_nil _ _

theorem out_at (n : ℕ) (hn : n < 16) (hi : (i 0).val = n) (p : Fin 512) (j : Fin 256) :
    out0_A_6 (F := Ideal) c i arg2 h2 arg3 h3 arg4 h4 arg5 h5 arg6 h6 arg7 h7 arg8 h8 arg9 h9 arg10 h10 x0 x1 x2 x3 x4 x5 (ix2 p j)
      = part (hrow x0 x1 x2 x3 n) (row x4) (fun c => x5 (ix2 (0 : Fin 1) c)) p.val 31 j := by
  have HS := slabs_at c i arg2 h2 arg3 h3 arg4 h4 arg5 h5 arg9 x0 x1 x2 x3 n hn hi
  unfold out0_A_6
  refine (congrFun (View.read_writes_eq_canon VO0_6 VO0_6.junk _ (cover0_A_6 (F := Ideal) c i arg2 h2 arg3 h3 arg4 h4 arg5 h5 arg6 h6 arg7 h7 arg8 h8 arg9 h9 arg10 h10 x0 x1 x2 x3 x4 x5)) (ix2 p j)).trans ?_
  refine View.canon_eq_of_allAt _ _ _ (cover0_A_6 (F := Ideal) c i arg2 h2 arg3 h3 arg4 h4 arg5 h5 arg6 h6 arg7 h7 arg8 h8 arg9 h9 arg10 h10 x0 x1 x2 x3 x4 x5 _) ?_
  unfold kernelRun0_A
  dsimp only
  iterate 8
    refine View.allAt_cons_unit _ _ _ _ _ (acc_tile _ _ _ _ _ ?_ p j) ?_
    · iterate 31 refine acc_succ _ _ _ x4 (fun _ _ => rfl) HS (by decide) ?_
      exact acc_zero _ _ _ x5 (fun _ => rfl) Ideal.ofBits_zero_f32
  exact View.allAt_nil _ _

end Cert.ConvTile

end
-- ==== Proof.ConvGoal.lean ====
/- The convolution's forward kernel on whole arrays: the array it leaves is, at every entry, the bias and 31 earlier rows of
   the gated input under the weights. -/
module

public import proofs.«01_k».proof.Proof.ConvTile
public import Idealize.ShloMosaic.Lib.KernelVsHost

@[expose] public section

set_option maxRecDepth 16384

noncomputable section

namespace Cert.ConvGoal

open Idealize.ShloMosaic Idealize.ShloMosaic.ValueIdx Idealize.ShloMosaic.TcCoe Idealize.SL.Sem
open Cert.Rows Cert.RowOps Cert.ConvTile Cert.Kernel19Ideal Cert.Kernel19Ideal.Gen
open Idealize.ShloMosaic.Pipeline (Dat)

/-- The gated input behind 32 rows of nothing. -/
def input (Z : FVec Ideal S8192x1792 .f32) (r : ℕ) (q : Fin 512) : EReal :=
  if r < 32 then 0 else gated (row Z (r - 32) ⟨768 + q.val, by omega⟩) (row Z (r - 32) ⟨1280 + q.val, by omega⟩)

/-- The result. -/
def goal (Z : FVec Ideal S8192x1792 .f32) (W : FVec Ideal S31x512 .f32) (B : FVec Ideal S512 .f32) : FVec Ideal S8192x512 .f32 := fun i =>
  part (input Z) (row W) (fun q => B (ix1 q)) (i 0).val 31 (i 1)

theorem part_congr {n n' : ℕ} {h w : ℕ → Fin n → EReal} {b : Fin n → EReal} {h' w' : ℕ → Fin n' → EReal} {b' : Fin n' → EReal} {q : Fin n} {q' : Fin n'} {p p' : ℕ}
    (hb : b q = b' q') : ∀ k, (∀ j < k, h (p + 2 + j) q = h' (p' + 2 + j) q') → (∀ j < k, w j q = w' j q') → part h w b p k q = part h' w' b' p' k q'
  | 0, _, _ => hb
  | k + 1, hh, hw => by
    unfold part
    rw [part_congr hb k (fun j hj => hh j (Nat.lt_succ_of_lt hj)) (fun j hj => hw j (Nat.lt_succ_of_lt hj)), hh k (Nat.lt_succ_self k), hw k (Nat.lt_succ_self k)]

variable (m : (ℓ : Loc nD τ sig) → Buf (Elt Ideal) ℓ) (c : Dev nD)

/-- The three arguments as they are at the start. -/
abbrev Z : FVec Ideal S8192x1792 .f32 := m ((c : Thread nD τ).loc main_arg0)
abbrev W : FVec Ideal S31x512 .f32 := m ((c : Thread nD τ).loc main_arg1)
abbrev B : FVec Ideal S512 .f32 := m ((c : Thread nD τ).loc main_arg2)

theorem v0_apply (k : Fin 31) (k' : Fin 32) (hk : k'.val = k.val) (q : Fin 512) : (V m c main_v0 : FVec Ideal S32x512 .f32) (ix2 k' q) = W m c (ix2 k q) := by
  have e : (V m c main_v0 : FVec Ideal S32x512 .f32) = pad S32x512 ![0, 0] ![1, 0] ![0, 0] (W m c) (sitofp (F := Ideal) .f32 (constantI S_ 32 0#32)) pads_S31x512_S32x512_010_000 h_S_ := by
    show StableHlo.after (hostOps0 ++ (hostOps0_1 ++ (hostOps0_2 ++ []))) _ _ = _
    simp only [hostOps0, hostOps0_1, hostOps0_2, List.cons_append, List.nil_append]
    after_results
    all_goals rfl
  rw [e]
  refine pad_apply_of_inside _ _ _ (W m c) _ _ _ _ (ix2 k q) fun a => ?_
  match a with
  | ⟨0, _⟩ => show k'.val = 0 + k.val * (0 + 1); omega
  | ⟨1, _⟩ => show q.val = 0 + q.val * (0 + 1); omega

theorem v1_apply (q : Fin 512) : (V m c main_v1 : FVec Ideal S1x512 .f32) (ix2 (0 : Fin 1) q) = B m c (ix1 q) := by
  have e : (V m c main_v1 : FVec Ideal S1x512 .f32) = broadcastInDim S1x512 ![1] bcast_S512_S1x512_1 (B m c) := by
    unfold_abbrev_sides
    after_results
    all_goals rfl
  rw [e]
  exact broadcastInDim_apply _ bcast_S512_S1x512_1 (B m c) (ix2 (0 : Fin 1) q) (ix1 q) (fun a => match a with
    | ⟨0, _⟩ => by show q.val = if (512 : ℕ) = 1 then 0 else q.val; rw [if_neg (by decide)])

theorem idx (t : Fin cfg0.N) : (win0_0.index t 0 = t.val / 2 ∧ win0_0.index t 1 = 3 + t.val % 2) ∧ (win0_1.index t 0 = t.val / 2 ∧ win0_1.index t 1 = 5 + t.val % 2)
    ∧ (win0_2.index t 0 = 16 * (t.val / 2) - 1 ∧ win0_2.index t 1 = 3 + t.val % 2) ∧ (win0_3.index t 0 = 16 * (t.val / 2) - 1 ∧ win0_3.index t 1 = 5 + t.val % 2)
    ∧ (win0_4.index t 0 = 0 ∧ win0_4.index t 1 = t.val % 2) ∧ (win0_5.index t 0 = 0 ∧ win0_5.index t 1 = t.val % 2)
    ∧ (win0_6.index t 0 = t.val / 2 ∧ win0_6.index t 1 = t.val % 2) ∧ (grid0.coords t 0).val = t.val / 2 :=
  (by decide +kernel : ∀ t : Fin grid0.N, (win0_0.index t 0 = t.val / 2 ∧ win0_0.index t 1 = 3 + t.val % 2) ∧ (win0_1.index t 0 = t.val / 2 ∧ win0_1.index t 1 = 5 + t.val % 2)
    ∧ (win0_2.index t 0 = 16 * (t.val / 2) - 1 ∧ win0_2.index t 1 = 3 + t.val % 2) ∧ (win0_3.index t 0 = 16 * (t.val / 2) - 1 ∧ win0_3.index t 1 = 5 + t.val % 2)
    ∧ (win0_4.index t 0 = 0 ∧ win0_4.index t 1 = t.val % 2) ∧ (win0_5.index t 0 = 0 ∧ win0_5.index t 1 = t.val % 2)
    ∧ (win0_6.index t 0 = t.val / 2 ∧ win0_6.index t 1 = t.val % 2) ∧ (grid0.coords t 0).val = t.val / 2) t

theorem blk0 (t : Fin cfg0.N) (r : Fin 512) (q : Fin 256) (R : Fin 8192) (hR : R.val = 512 * (t.val / 2) + r.val) (Q : Fin 1792) (hQ : Q.val = 768 + 256 * (t.val % 2) + q.val) :
    (iblk m c 0 t : FVec Ideal S512x256 .f32) (ix2 r q) = Z m c (ix2 R Q) := by
  have hi := (idx t).1
  unfold iblk
  rw [View.read_apply]
  show (V m c main_arg0 : FVec Ideal S8192x1792 .f32) _ = _
  rw [V_main_arg0]
  refine congrArg (Z m c) (funext fun a => Fin.ext ?_)
  match a with
  | ⟨0, _⟩ => show win0_0.index t 0 * 512 + 1 * r.val = R.val; rw [hi.1]; omega
  | ⟨1, _⟩ => show win0_0.index t 1 * 256 + 1 * q.val = Q.val; rw [hi.2]; omega

theorem blk1 (t : Fin cfg0.N) (r : Fin 512) (q : Fin 256) (R : Fin 8192) (hR : R.val = 512 * (t.val / 2) + r.val) (Q : Fin 1792) (hQ : Q.val = 1280 + 256 * (t.val % 2) + q.val) :
    (iblk m c 1 t : FVec Ideal S512x256 .f32) (ix2 r q) = Z m c (ix2 R Q) := by
  have hi := (idx t).2.1
  unfold iblk
  rw [View.read_apply]
  show (V m c main_arg0 : FVec Ideal S8192x1792 .f32) _ = _
  rw [V_main_arg0]
  refine congrArg (Z m c) (funext fun a => Fin.ext ?_)
  match a with
  | ⟨0, _⟩ => show win0_1.index t 0 * 512 + 1 * r.val = R.val; rw [hi.1]; omega
  | ⟨1, _⟩ => show win0_1.index t 1 * 256 + 1 * q.val = Q.val; rw [hi.2]; omega

theorem blk2 (t : Fin cfg0.N) (h0 : t.val / 2 ≠ 0) (r : Fin 32) (q : Fin 256) (R : Fin 8192) (hR : R.val + 32 = 512 * (t.val / 2) + r.val) (Q : Fin 1792) (hQ : Q.val = 768 + 256 * (t.val % 2) + q.val) :
    (iblk m c 2 t : FVec Ideal S32x256 .f32) (ix2 r q) = Z m c (ix2 R Q) := by
  have hi := (idx t).2.2.1
  unfold iblk
  rw [View.read_apply]
  show (V m c main_arg0 : FVec Ideal S8192x1792 .f32) _ = _
  rw [V_main_arg0]
  refine congrArg (Z m c) (funext fun a => Fin.ext ?_)
  match a with
  | ⟨0, _⟩ => show win0_2.index t 0 * 32 + 1 * r.val = R.val; rw [hi.1]; omega
  | ⟨1, _⟩ => show win0_2.index t 1 * 256 + 1 * q.val = Q.val; rw [hi.2]; omega

theorem blk3 (t : Fin cfg0.N) (h0 : t.val / 2 ≠ 0) (r : Fin 32) (q : Fin 256) (R : Fin 8192) (hR : R.val + 32 = 512 * (t.val / 2) + r.val) (Q : Fin 1792) (hQ : Q.val = 1280 + 256 * (t.val % 2) + q.val) :
    (iblk m c 3 t : FVec Ideal S32x256 .f32) (ix2 r q) = Z m c (ix2 R Q) := by
  have hi := (idx t).2.2.2.1
  unfold iblk
  rw [View.read_apply]
  show (V m c main_arg0 : FVec Ideal S8192x1792 .f32) _ = _
  rw [V_main_arg0]
  refine congrArg (Z m c) (funext fun a => Fin.ext ?_)
  match a with
  | ⟨0, _⟩ => show win0_3.index t 0 * 32 + 1 * r.val = R.val; rw [hi.1]; omega
  | ⟨1, _⟩ => show win0_3.index t 1 * 256 + 1 * q.val = Q.val; rw [hi.2]; omega

theorem blk4 (t : Fin cfg0.N) (k : Fin 31) (k' : Fin 32) (hk : k'.val = k.val) (q : Fin 256) (Q : Fin 512) (hQ : Q.val = 256 * (t.val % 2) + q.val) :
    (iblk m c 4 t : FVec Ideal S32x256 .f32) (ix2 k' q) = W m c (ix2 k Q) := by
  have hi := (idx t).2.2.2.2.1
  unfold iblk
  rw [View.read_apply]
  refine Eq.trans ?_ (v0_apply m c k k' hk Q)
  show (V m c main_v0 : FVec Ideal S32x512 .f32) _ = _
  refine congrArg (V m c main_v0 : FVec Ideal S32x512 .f32) (funext fun a => Fin.ext ?_)
  match a with
  | ⟨0, _⟩ => show win0_4.index t 0 * 32 + 1 * k'.val = k'.val; rw [hi.1]; omega
  | ⟨1, _⟩ => show win0_4.index t 1 * 256 + 1 * q.val = Q.val; rw [hi.2]; omega

theorem blk5 (t : Fin cfg0.N) (q : Fin 256) (Q : Fin 512) (hQ : Q.val = 256 * (t.val % 2) + q.val) :
    (iblk m c 5 t : FVec Ideal S1x256 .f32) (ix2 (0 : Fin 1) q) = B m c (ix1 Q) := by
  have hi := (idx t).2.2.2.2.2.1
  unfold iblk
  rw [View.read_apply]
  refine Eq.trans ?_ (v1_apply m c Q)
  show (V m c main_v1 : FVec Ideal S1x512 .f32) _ = _
  refine congrArg (V m c main_v1 : FVec Ideal S1x512 .f32) (funext fun a => Fin.ext ?_)
  match a with
  | ⟨0, _⟩ => show win0_5.index t 0 * 1 + 1 * 0 = 0; rw [hi.1]
  | ⟨1, _⟩ => show win0_5.index t 1 * 256 + 1 * q.val = Q.val; rw [hi.2]; omega

/-- The gated input of a block is a stretch of the array's. -/
theorem hrow_eq (t : Fin cfg0.N) (r : ℕ) (hr : r < 544) (q : Fin 256) (Q : Fin 512) (hQ : Q.val = 256 * (t.val % 2) + q.val) :
    hrow (iblk m c 0 t) (iblk m c 1 t) (iblk m c 2 t) (iblk m c 3 t) (t.val / 2) r q = input (Z m c) (512 * (t.val / 2) + r) Q := by
  have ht : t.val < 32 := lt_of_lt_of_eq t.isLt N_0
  have hq := q.isLt
  unfold hrow input
  by_cases h : r < 32
  · rw [if_pos h]
    by_cases h0 : t.val / 2 = 0
    · rw [if_pos h0, if_pos (show 512 * (t.val / 2) + r < 32 by omega)]
    · rw [if_neg h0, if_neg (show ¬ 512 * (t.val / 2) + r < 32 by omega),
        row_eq (iblk m c 2 t : FVec Ideal S32x256 .f32) r ⟨r, h⟩ rfl, row_eq (iblk m c 3 t : FVec Ideal S32x256 .f32) r ⟨r, h⟩ rfl,
        row_eq (Z m c) _ ⟨512 * (t.val / 2) + r - 32, by omega⟩ rfl, row_eq (Z m c) _ ⟨512 * (t.val / 2) + r - 32, by omega⟩ rfl]
      exact congrArg₂ ConvTile.gated (blk2 m c t h0 _ q _ (by show 512 * (t.val / 2) + r - 32 + 32 = 512 * (t.val / 2) + r; omega) _ (by show 768 + Q.val = _; omega))
        (blk3 m c t h0 _ q _ (by show 512 * (t.val / 2) + r - 32 + 32 = 512 * (t.val / 2) + r; omega) _ (by show 1280 + Q.val = _; omega))
  · rw [if_neg h, if_neg (show ¬ 512 * (t.val / 2) + r < 32 by omega),
      row_eq (iblk m c 0 t : FVec Ideal S512x256 .f32) _ ⟨r - 32, by omega⟩ rfl, row_eq (iblk m c 1 t : FVec Ideal S512x256 .f32) _ ⟨r - 32, by omega⟩ rfl,
      row_eq (Z m c) _ ⟨512 * (t.val / 2) + r - 32, by omega⟩ rfl, row_eq (Z m c) _ ⟨512 * (t.val / 2) + r - 32, by omega⟩ rfl]
    exact congrArg₂ ConvTile.gated (blk0 m c t _ q _ (by show 512 * (t.val / 2) + r - 32 = 512 * (t.val / 2) + (r - 32); omega) _ (by show 768 + Q.val = _; omega))
      (blk1 m c t _ q _ (by show 512 * (t.val / 2) + r - 32 = 512 * (t.val / 2) + (r - 32); omega) _ (by show 1280 + Q.val = _; omega))

theorem tile_eq (t : Fin cfg0.N) (p : Fin 512) (q : Fin 256) (P : Fin 8192) (hP : P.val = 512 * (t.val / 2) + p.val) (Q : Fin 512) (hQ : Q.val = 256 * (t.val % 2) + q.val) :
    part (hrow (iblk m c 0 t) (iblk m c 1 t) (iblk m c 2 t) (iblk m c 3 t) (t.val / 2)) (row (iblk m c 4 t : FVec Ideal S32x256 .f32))
      (fun q => (iblk m c 5 t : FVec Ideal S1x256 .f32) (ix2 (0 : Fin 1) q)) p.val 31 q = goal (Z m c) (W m c) (B m c) (ix2 P Q) := by
  have hp := p.isLt
  refine part_congr (blk5 m c t q Q hQ) 31 (fun k hk => ?_) (fun k hk => ?_)
  · refine (hrow_eq m c t _ (by omega) q Q hQ).trans (congrArg (fun n => input (Z m c) n Q) ?_)
    show 512 * (t.val / 2) + (p.val + 2 + k) = P.val + 2 + k
    omega
  · rw [row_eq (iblk m c 4 t : FVec Ideal S32x256 .f32) k ⟨k, by omega⟩ rfl q, row_eq (W m c) k ⟨k, hk⟩ rfl Q]
    exact blk4 m c t _ _ rfl q Q hQ

theorem final6 : (dats m 0 c).arrAt 6 cfg0.N = goal (Z m c) (W m c) (B m c) :=
  (dats m 0 c).arrAt_eq_of_cover 6 (goal (Z m c) (W m c) (B m c)) (fun t _ => by
    have hi := (idx t).2.2.2.2.2.2
    have ht : t.val < 32 := lt_of_lt_of_eq t.isLt N_0
    rw [Value.flushed6_A]
    funext j
    rw [View.read_apply]
    obtain ⟨p, q, rfl⟩ : ∃ p q, j = ix2 p q := ⟨j 0, j 1, eq_ix2 j⟩
    have hp : p.val < 512 := p.isLt
    have hq : q.val < 256 := q.isLt
    refine ((out_at c (grid0.coords t) _ _ _ _ _ _ _ _ _ _ _ _ _ _ _ _ _ _ _ _ _ _ _ _ (t.val / 2) (by omega) hi.2 p q).trans
      (tile_eq m c t p q ⟨512 * (t.val / 2) + p.val, by omega⟩ rfl ⟨256 * (t.val % 2) + q.val, by omega⟩ rfl)).trans ?_
    refine congrArg (goal (Z m c) (W m c) (B m c)) (funext fun a => Fin.ext ?_)
    match a with
    | ⟨0, _⟩ =>
      show 512 * (t.val / 2) + p.val = win0_6.index t 0 * 512 + 1 * p.val
      rw [hi.1.1]; omega
    | ⟨1, _⟩ =>
      show 256 * (t.val % 2) + q.val = win0_6.index t 1 * 256 + 1 * q.val
      rw [hi.1.2]; omega) fun i => by
    have hN : cfg0.N = 32 := N_0
    have h0 : (i 0 : Nat) < 8192 := (i 0).isLt
    have h1 : (i 1 : Nat) < 512 := (i 1).isLt
    have ht : 2 * ((i 0 : Nat) / 512) + (i 1 : Nat) / 256 < cfg0.N := by omega
    have hi := (idx ⟨2 * ((i 0 : Nat) / 512) + (i 1 : Nat) / 256, ht⟩).2.2.2.2.2.2.1
    refine ⟨⟨2 * ((i 0 : Nat) / 512) + (i 1 : Nat) / 256, ht⟩, flush0_6 _, ?_⟩
    show i ∈ ((View.whole main_v2).slice (win0_6.rect ⟨2 * ((i 0 : Nat) / 512) + (i 1 : Nat) / 256, ht⟩)).set
    rw [View.set_slice_whole, Rect.mem_set_unit]
    intro x
    match x with
    | ⟨0, _⟩ =>
      show win0_6.index _ 0 * 512 ≤ (i 0 : Nat) ∧ (i 0 : Nat) < win0_6.index _ 0 * 512 + 512
      rw [hi.1]; dsimp only; omega
    | ⟨1, _⟩ =>
      show win0_6.index _ 1 * 256 ≤ (i 1 : Nat) ∧ (i 1 : Nat) < win0_6.index _ 1 * 256 + 256
      rw [hi.2]; dsimp only; omega

end Cert.ConvGoal

end
-- ==== Proof.ConvFwd.lean ====
/- The convolution's forward kernel and its reference have the same results. Both add the same 31 products; the kernel starts
   from the bias and the reference ends with it. -/
module

public import proofs.«01_k».proof.Proof.ConvGoal
public import proofs.«01_k».proof.Proof.Gen.Reference19Ideal.Run
public import proofs.«01_k».proof.Proof.Gen.Reference19Ideal.Read
public import proofs.«01_k».proof.Defs

@[expose] public section

set_option maxRecDepth 16384

noncomputable section

namespace Cert.ConvFwd

open Idealize.ShloMosaic Idealize.ShloMosaic.ValueIdx Idealize.ShloMosaic.TcCoe Idealize.SL.Sem
open Cert.ConvTile Cert.ConvGoal

/-- The bias may be added last. -/
theorem part_bias {n : ℕ} (h w : ℕ → Fin n → EReal) (b : Fin n → EReal) (p : ℕ) (q : Fin n) : ∀ k, part h w (fun _ => 0) p k q + b q = part h w b p k q
  | 0 => zero_add _
  | k + 1 => (add_right_comm _ _ _).trans (congrArg (fun t => t + h (p + 2 + k) q * w k q) (part_bias h w b p q k))

section Reference

open Cert.Reference19Ideal Cert.Reference19Ideal.Gen Cert.Reference19Ideal.Read

variable (Z : FVec Ideal S8192x1792 .f32) (W : FVec Ideal S31x512 .f32) (B : FVec Ideal S512 .f32)

theorem v8_at (r : Fin 8192) (q : Fin 512) :
    val_main_v8 (F := Ideal) Z (ix2 r q) = gated (Z (ix2 r ⟨768 + q.val, by omega⟩)) (Z (ix2 r ⟨1280 + q.val, by omega⟩)) := by
  rw [val_main_v8_apply, val_main_v0_apply, val_main_v7_apply, val_main_v6_apply, val_main_cst_0_apply, val_main_v5_apply, val_main_v4_apply, val_main_cst_apply,
    val_main_v3_apply, val_main_v2_apply, val_main_v1_apply]
  have e0 : idx_main_v0 (ix2 r q) = ix2 r (⟨768 + q.val, by omega⟩ : Fin 1792) := funext fun a => match a with
    | ⟨0, _⟩ => rfl
    | ⟨1, _⟩ => rfl
  have e1 : idx_main_v1 (ix2 r q) = ix2 r (⟨1280 + q.val, by omega⟩ : Fin 1792) := funext fun a => match a with
    | ⟨0, _⟩ => rfl
    | ⟨1, _⟩ => rfl
  rw [e0, e1]
  refine congrArg (Z _ * ·) ?_
  show Ideal.div (Ideal.ofBits .f32 0x3F800000#32) (Ideal.ofBits .f32 0x3F800000#32 + Ideal.exp (-(Z _))) = Ideal.logistic (Z _)
  rw [Ideal.ofBits_one_f32]
  rfl

theorem v9_at (r : Fin 8222) (q : Fin 512) : val_main_v9 (F := Ideal) Z (ix2 r q) = input Z (r.val + 2) q := by
  have hr := r.isLt
  unfold val_main_v9 input
  by_cases h : r.val < 30
  · rw [if_pos (by omega)]
    refine (pad_apply_of_not_inside _ _ _ _ _ _ _ _ (0 : Fin 2) fun hh => ?_).trans ?_
    · have : 30 ≤ r.val := hh.1
      omega
    · show (((0#32 : BitVec 32).toInt : ℝ) : EReal) = 0
      simp
  · rw [if_neg (by omega)]
    refine (pad_apply_of_inside _ _ _ _ _ _ _ _ (ix2 (⟨r.val - 30, by omega⟩ : Fin 8192) q) fun a => ?_).trans ((v8_at Z _ q).trans ?_)
    · match a with
      | ⟨0, _⟩ => show r.val = 30 + (r.val - 30) * (0 + 1); omega
      | ⟨1, _⟩ => show q.val = 0 + q.val * (0 + 1); omega
    · rw [row_eq Z (r.val + 2 - 32) (⟨r.val - 30, by omega⟩ : Fin 8192) (by show r.val - 30 = r.val + 2 - 32; omega),
        row_eq Z (r.val + 2 - 32) (⟨r.val - 30, by omega⟩ : Fin 8192) (by show r.val - 30 = r.val + 2 - 32; omega)]

/-- An array has the first `k` taps. -/
def Acc (acc : FVec Ideal S8192x512 .f32) (k : ℕ) : Prop := ∀ (p : Fin 8192) (q : Fin 512), acc (ix2 p q) = part (input Z) (row W) (fun _ => 0) p.val k q

theorem tap_at (k : ℕ) (hs : S8222x512.Slices ![k, 0] S8192x512) (hw : S31x512.Slices ![k, 0] S1x512) (hk : k < 31) (p : Fin 8192) (q : Fin 512) :
    mulf (extractStridedSlice S8192x512 ![k, 0] (val_main_v9 (F := Ideal) Z) hs)
      (broadcastInDim S8192x512 ![0, 1] bcast_S1x512_S8192x512_0_1 (broadcastInDim S1x512 ![1] bcast_S512_S1x512_1
        (shapeCast S512 (extractStridedSlice S1x512 ![k, 0] W hw) shapeCasts_S1x512_S512))) (ix2 p q) = input Z (p.val + 2 + k) q * row W k q := by
  have hp := p.isLt
  refine congrArg₂ (· * ·) ?_ ?_
  · refine (extractStridedSlice_apply ![k, 0] (val_main_v9 (F := Ideal) Z) hs (ix2 p q) (ix2 (⟨p.val + k, by omega⟩ : Fin 8222) q) fun a => ?_).trans ((v9_at Z _ q).trans ?_)
    · match a with
      | ⟨0, _⟩ => show p.val + k = k + p.val; omega
      | ⟨1, _⟩ => show q.val = 0 + q.val; omega
    · refine congrArg (fun n => input Z n q) ?_
      show p.val + k + 2 = p.val + 2 + k
      omega
  · refine (broadcastInDim_apply _ bcast_S1x512_S8192x512_0_1 _ (ix2 p q) (ix2 (0 : Fin 1) q) (fun a => match a with
      | ⟨0, _⟩ => by show 0 = if (1 : ℕ) = 1 then 0 else p.val; rw [if_pos rfl]
      | ⟨1, _⟩ => by show q.val = if (512 : ℕ) = 1 then 0 else q.val; rw [if_neg (by decide)])).trans ?_
    refine (broadcastInDim_apply _ bcast_S512_S1x512_1 _ (ix2 (0 : Fin 1) q) (ix1 q) (fun a => match a with
      | ⟨0, _⟩ => by show q.val = if (512 : ℕ) = 1 then 0 else q.val; rw [if_neg (by decide)])).trans ?_
    refine (shapeCast_apply (t := S512) (s := S1x512) _ shapeCasts_S1x512_S512 (ix1 q) (ix2 (0 : Fin 1) q) ?_).trans ?_
    · rw [Shape.rowMajor_val_one, Shape.rowMajor_val_two]
      show 0 * 512 + q.val = q.val
      omega
    rw [row_eq W k ⟨k, hk⟩ rfl q]
    exact extractStridedSlice_apply ![k, 0] W hw (ix2 (0 : Fin 1) q) (ix2 (⟨k, hk⟩ : Fin 31) q) fun a => match a with
      | ⟨0, _⟩ => rfl
      | ⟨1, _⟩ => (Nat.zero_add _).symm

theorem acc_one {hs : S8222x512.Slices ![0, 0] S8192x512} {hw : S31x512.Slices ![0, 0] S1x512} :
    Acc Z W (mulf (extractStridedSlice S8192x512 ![0, 0] (val_main_v9 (F := Ideal) Z) hs)
      (broadcastInDim S8192x512 ![0, 1] bcast_S1x512_S8192x512_0_1 (broadcastInDim S1x512 ![1] bcast_S512_S1x512_1
        (shapeCast S512 (extractStridedSlice S1x512 ![0, 0] W hw) shapeCasts_S1x512_S512)))) 1 := fun p q =>
  (tap_at Z W 0 hs hw (by decide) p q).trans (zero_add _).symm

theorem acc_succ {k : ℕ} {acc : FVec Ideal S8192x512 .f32} {hs : S8222x512.Slices ![k, 0] S8192x512} {hw : S31x512.Slices ![k, 0] S1x512} (hk : k < 31) (H : Acc Z W acc k) :
    Acc Z W (addf acc (mulf (extractStridedSlice S8192x512 ![k, 0] (val_main_v9 (F := Ideal) Z) hs)
      (broadcastInDim S8192x512 ![0, 1] bcast_S1x512_S8192x512_0_1 (broadcastInDim S1x512 ![1] bcast_S512_S1x512_1
        (shapeCast S512 (extractStridedSlice S1x512 ![k, 0] W hw) shapeCasts_S1x512_S512))))) (k + 1) := fun p q =>
  congrArg₂ (· + ·) (H p q) (tap_at Z W k hs hw hk p q)

theorem taps : Acc Z W (val_main_v225 (F := Ideal) Z W) 31 := by
  iterate 30 refine acc_succ Z W (by decide) ?_
  exact acc_one Z W

theorem result_eq : val_main_v228 (F := Ideal) Z W B = goal Z W B := by
  funext i
  obtain ⟨p, q, rfl⟩ : ∃ (p : Fin 8192) (q : Fin 512), i = ix2 p q := ⟨i 0, i 1, eq_ix2 i⟩
  rw [val_main_v228_apply, val_main_v227_apply, val_main_v226_apply]
  refine (congrArg₂ (· + ·) (taps Z W p q) (congrArg B (a₂ := ix1 q) (funext fun a => ?_))).trans (part_bias (input Z) (row W) (fun q => B (ix1 q)) p.val q 31)
  match a with
  | ⟨0, _⟩ => rfl

end Reference

/-! ## The claims -/

open Cert.Kernel19Ideal Cert.Kernel19Ideal.Gen
open Idealize.ShloMosaic.Pipeline (Dat)

/-- The reference ends with its arguments as they were; it has no semaphore. -/
theorem frame : quiescent_Reference19Ideal (hReference19Ideal := Cert.Reference19Ideal.Gen.facts) := fun m g _ =>
  (θ_run Cert.Reference19Ideal.defs _ _).mono (fun r h => ⟨fun c => (h c).2, sem_eq_zero_of_no_sems (by decide) r.2⟩) (Cert.Reference19Ideal.Value.run m g)

theorem algebraic :
    algebraic_Kernel19Ideal_Reference19Ideal (hKernel19Ideal := Cert.Kernel19Ideal.Gen.facts) (hReference19Ideal := Cert.Reference19Ideal.Gen.facts) := by
  intro m g m' g' _ hargs
  refine ⟨fun c => (dats m 0 c).arrAt 6 cfg0.N, Cert.Kernel19Ideal.Value.run_blocks m g, ?_⟩
  refine (θ_run Cert.Reference19Ideal.defs _ _).mono (fun r h c => ?_) (Cert.Reference19Ideal.Value.run m' g')
  obtain ⟨e0, e1, e2⟩ := hargs c
  obtain ⟨r0, k⟩ := h c
  refine ⟨r0.trans ?_, k⟩
  refine (Cert.Reference19Ideal.Read.val_main_v228_eq (StableHlo.launchContents m' c)).trans ?_
  rw [StableHlo.launchContents_devRef, StableHlo.launchContents_devRef, StableHlo.launchContents_devRef, e0, e1, e2]
  exact (result_eq _ _ _).trans (final6 m c).symm

end Cert.ConvFwd

end
-- ==== Proof.AttnMath.lean ====
/- One row of attention over two stretches of keys, written in two ways. In the wide way the row has a logit for each of
   the 256 keys, minus infinity where the key may not be looked at. In the folded way it has 128 logits: at each place
   exactly one of the two keys that share the place may be looked at, and the place takes its logit. The two ways give
   the same row as long as the sink's logit is real and no other logit is infinite upwards. -/
module

public import proofs.«01_k».proof.Proof.Rows

@[expose] public section

set_option maxRecDepth 16384

noncomputable section

namespace Cert.AttnMath

open Idealize.ShloMosaic Idealize.ShloMosaic.ValueIdx Cert.Rows

/-- The number of entries of a head, 64. -/
abbrev n64 : EReal := Ideal.ofBits .f32 0x42800000#32
/-- The small number under the square root. -/
abbrev tiny : EReal := Ideal.ofBits .f32 0x358637BD#32
/-- The scale of the logits, an eighth. -/
abbrev eighth : EReal := Ideal.ofBits .f32 0x3E000000#32

theorem n64_eq : n64 = ((64 : ℝ) : EReal) := by
  simp [n64, Ideal.ofBits, Ideal.ieee, -EReal.coe_mul]; norm_num

theorem eighth_eq : eighth = ((1 / 8 : ℝ) : EReal) := by
  simp [eighth, Ideal.ofBits, Ideal.ieee, -EReal.coe_mul]; norm_num

/-- A head's vector divided by its root mean square, times the scale. -/
def unit (t g : Fin 64 → EReal) (d : Fin 64) : EReal :=
  t d * Ideal.rsqrt (Ideal.div (∑ e, t e * t e) n64 + tiny) * g d

/-- The product of a query and a key. -/
def dot (q k : Fin 64 → EReal) : EReal := ∑ d, q d * k d

/-- The largest of the logits and the sink. -/
def peak {n : ℕ} (s : Fin n → EReal) (sink : EReal) : EReal := max (Finset.univ.sup s) sink

/-- The sum the weights are divided by. -/
def total {n : ℕ} (s : Fin n → EReal) (sink : EReal) : EReal :=
  (∑ i, Ideal.exp (s i - peak s sink)) + Ideal.exp (sink - peak s sink)

/-- The weight of a key. -/
def prob {n : ℕ} (s : Fin n → EReal) (sink : EReal) (j : Fin n) : EReal :=
  Ideal.div (Ideal.exp (s j - peak s sink)) (total s sink)

/-- The folded logits of the row at place `r` of its block. -/
def logit (first : Prop) [Decidable first] (r : ℕ) (q : Fin 64 → EReal) (kc kp : Fin 128 → Fin 64 → EReal)
    (b : Fin 128 → EReal) (j : Fin 128) : EReal :=
  if j.val ≤ r then dot q (kc j) * eighth + b j else if first then ⊥ else dot q (kp j) * eighth + b j

theorem logit_congr {P Q : Prop} [Decidable P] [Decidable Q] (h : P ↔ Q) : logit P = logit Q := by
  funext r q kc kp b j
  unfold logit
  by_cases hq : Q
  · rw [if_pos hq, if_pos (h.mpr hq)]
  · rw [if_neg hq, if_neg fun hp => hq (h.mp hp)]

/-- The folded row's result. -/
def entry (r : ℕ) (s : Fin 128 → EReal) (sink : EReal) (vc vp : Fin 128 → EReal) : EReal :=
  (∑ j : Fin 128, (if j.val ≤ r then prob s sink j else 0) * vc j)
    + ∑ j : Fin 128, (if j.val ≤ r then 0 else prob s sink j) * vp j

/-- The wide row's result. -/
def wide {n : ℕ} (s : Fin n → EReal) (sink : EReal) (v : Fin n → EReal) : EReal := ∑ j, prob s sink j * v j

/-! ## Reality -/

theorem unit_real {t g : Fin 64 → EReal} (ht : ∃ f : Fin 64 → ℝ, t = fun d => (f d : EReal)) (hg : ∃ f : Fin 64 → ℝ, g = fun d => (f d : EReal)) :
    ∃ f : Fin 64 → ℝ, unit t g = fun d => (f d : EReal) := by
  obtain ⟨f, rfl⟩ := ht
  obtain ⟨h, rfl⟩ := hg
  have e : Ideal.rsqrt (Ideal.div (∑ e, (f e : EReal) * (f e : EReal)) n64 + tiny)
      = (((Real.sqrt ((∑ e, f e * f e) / 64 + eps))⁻¹ : ℝ) : EReal) := by
    rw [n64_eq, show tiny = ((eps : ℝ) : EReal) from bits_eps]
    simp only [← EReal.coe_mul]
    rw [← coe_sum, coe_div _ _ (by norm_num), ← EReal.coe_add]
    refine coe_rsqrt _ (add_pos_of_nonneg_of_pos (div_nonneg (Finset.sum_nonneg fun i _ => mul_self_nonneg _) (by norm_num)) eps_pos)
  refine ⟨fun d => f d * (Real.sqrt ((∑ e, f e * f e) / 64 + eps))⁻¹ * h d, funext fun d => ?_⟩
  unfold unit
  rw [e, EReal.coe_mul, EReal.coe_mul]

theorem dot_real {q k : Fin 64 → EReal} (hq : ∃ f : Fin 64 → ℝ, q = fun d => (f d : EReal)) (hk : ∃ f : Fin 64 → ℝ, k = fun d => (f d : EReal)) :
    ∃ a : ℝ, dot q k = (a : EReal) := by
  obtain ⟨f, rfl⟩ := hq
  obtain ⟨h, rfl⟩ := hk
  refine ⟨∑ d, f d * h d, ?_⟩
  unfold dot
  simp only [← EReal.coe_mul]
  rw [← coe_sum]

theorem scaled_ne_top {a b : EReal} (ha : ∃ x : ℝ, a = (x : EReal)) (hb : ∃ x : ℝ, b = (x : EReal)) : a * eighth + b ≠ ⊤ := by
  obtain ⟨x, rfl⟩ := ha
  obtain ⟨y, rfl⟩ := hb
  rw [eighth_eq, ← EReal.coe_mul, ← EReal.coe_add]
  exact EReal.coe_ne_top _

/-! ## A masked key has no weight -/

theorem exp_nonneg (x : EReal) : 0 ≤ Ideal.exp x := by
  induction x with
  | bot => exact le_rfl
  | top => exact le_top
  | coe x => exact EReal.coe_nonneg.mpr (Real.exp_pos x).le

theorem exp_bot_sub (m : EReal) : Ideal.exp (⊥ - m) = 0 := by
  rw [sub_eq_add_neg, EReal.bot_add]; rfl

section

variable {n : ℕ} {s : Fin n → EReal} {sink : EReal}

theorem peak_real (hs : ∀ j, s j ≠ ⊤) (hk : ∃ x : ℝ, sink = (x : EReal)) : ∃ x : ℝ, peak s sink = (x : EReal) := by
  obtain ⟨x, rfl⟩ := hk
  have h1 : peak s (x : EReal) ≠ ⊤ := by
    refine ne_of_lt (max_lt ?_ (EReal.coe_lt_top x))
    exact (Finset.sup_lt_iff (bot_lt_top)).mpr fun j _ => lt_top_iff_ne_top.mpr (hs j)
  have h2 : peak s (x : EReal) ≠ ⊥ := ne_of_gt (lt_of_lt_of_le (EReal.bot_lt_coe x) (le_max_right _ _))
  exact ⟨_, (EReal.coe_toReal h1 h2).symm⟩

theorem total_pos (hs : ∀ j, s j ≠ ⊤) (hk : ∃ x : ℝ, sink = (x : EReal)) : 0 < total s sink := by
  obtain ⟨m, hm⟩ := peak_real hs hk
  obtain ⟨x, rfl⟩ := hk
  have h1 : (0 : EReal) < Ideal.exp ((x : EReal) - peak s (x : EReal)) := by
    rw [hm, ← EReal.coe_sub]
    exact EReal.coe_pos.mpr (Real.exp_pos _)
  have h2 : (0 : EReal) ≤ ∑ i, Ideal.exp (s i - peak s (x : EReal)) := Finset.sum_nonneg fun i _ => exp_nonneg _
  unfold total
  exact lt_of_lt_of_le h1 (le_add_of_nonneg_left h2)

theorem prob_bot (hs : ∀ j, s j ≠ ⊤) (hk : ∃ x : ℝ, sink = (x : EReal)) {j : Fin n} (hj : s j = ⊥) : prob s sink j = 0 := by
  unfold prob
  rw [hj, exp_bot_sub]
  unfold Ideal.div
  rw [if_neg (total_pos hs hk).ne', zero_mul]

end

/-! ## The wide row is the folded row -/

section Fold

variable (r : ℕ) (s : Fin 128 → EReal) (S : Fin (128 + 128) → EReal) (sink : EReal)
  (lo : ∀ j : Fin 128, S (Fin.castAdd 128 j) = if j.val ≤ r then ⊥ else s j)
  (hi : ∀ j : Fin 128, S (Fin.natAdd 128 j) = if j.val ≤ r then s j else ⊥)

include lo hi

theorem peak_fold : peak S sink = peak s sink := by
  unfold peak
  congr 1
  apply le_antisymm
  · refine Finset.sup_le fun i _ => ?_
    induction i using Fin.addCases with
    | left j =>
      rw [lo]; split
      · exact bot_le
      · exact Finset.le_sup (f := s) (Finset.mem_univ j)
    | right j =>
      rw [hi]; split
      · exact Finset.le_sup (f := s) (Finset.mem_univ j)
      · exact bot_le
  · refine Finset.sup_le fun j _ => ?_
    by_cases h : j.val ≤ r
    · have e := hi j
      rw [if_pos h] at e
      rw [← e]; exact Finset.le_sup (f := S) (Finset.mem_univ _)
    · have e := lo j
      rw [if_neg h] at e
      rw [← e]; exact Finset.le_sup (f := S) (Finset.mem_univ _)

theorem total_fold : total S sink = total s sink := by
  unfold total
  rw [peak_fold r s S sink lo hi, Fin.sum_univ_add, ← Finset.sum_add_distrib]
  congr 1
  refine Finset.sum_congr rfl fun j _ => ?_
  rw [lo, hi]
  split
  · rw [exp_bot_sub, zero_add]
  · rw [exp_bot_sub, add_zero]

theorem wide_fold (hs : ∀ j, s j ≠ ⊤) (hk : ∃ x : ℝ, sink = (x : EReal)) (v : Fin (128 + 128) → EReal) (vc vp : Fin 128 → EReal)
    (hc : ∀ j, v (Fin.natAdd 128 j) = vc j) (hp : ∀ j : Fin 128, ¬ j.val ≤ r → v (Fin.castAdd 128 j) = vp j ∨ s j = ⊥) :
    wide S sink v = entry r s sink vc vp := by
  have hS : ∀ j, S j ≠ ⊤ := fun i => by
    induction i using Fin.addCases with
    | left j => rw [lo]; split; exacts [bot_ne_top, hs j]
    | right j => rw [hi]; split; exacts [hs j, bot_ne_top]
  have same : ∀ (i : Fin (128 + 128)) (j : Fin 128), S i = s j → prob S sink i = prob s sink j := fun i j e => by
    unfold prob
    rw [total_fold r s S sink lo hi, peak_fold r s S sink lo hi, e]
  unfold wide entry
  rw [Fin.sum_univ_add, add_comm]
  congr 1
  · refine Finset.sum_congr rfl fun j _ => ?_
    rw [hc]
    by_cases h : j.val ≤ r
    · rw [if_pos h, same _ j ((hi j).trans (if_pos h))]
    · rw [if_neg h, prob_bot hS hk ((hi j).trans (if_neg h))]
  · refine Finset.sum_congr rfl fun j _ => ?_
    by_cases h : j.val ≤ r
    · rw [if_pos h, prob_bot hS hk ((lo j).trans (if_pos h)), zero_mul, zero_mul]
    · rw [if_neg h, same _ j ((lo j).trans (if_neg h))]
      rcases hp j h with e | e
      · rw [e]
      · rw [prob_bot hs hk e, zero_mul, zero_mul]

end Fold

end Cert.AttnMath

end
-- ==== Proof.AttnTile.lean ====
/- One group of heads of one block of queries in the attention's forward kernel, read index by index: row `p` of the group
   is the folded row of attention. -/
module

public import proofs.«01_k».proof.Proof.RowOps
public import proofs.«01_k».proof.Proof.AttnMath
public import proofs.«01_k».proof.Defs
public import proofs.«01_k».proof.Proof.Gen.Kernel20Ideal.Value
public import Idealize.ShloMosaic.Lib.MatmulPlain
public import Idealize.ShloMosaic.Lib.WordCmp
public import Idealize.ShloMosaic.Lib.Pipeline.ValueKit.Tiles

@[expose] public section

set_option maxRecDepth 16384

noncomputable section

namespace Cert.AttnTile

open Idealize.ShloMosaic Idealize.ShloMosaic.ValueIdx Idealize.ShloMosaic.TcCoe Idealize.SL.Sem
open Cert.Rows Cert.RowOps Cert.AttnMath Cert.Kernel20Ideal Cert.Kernel20Ideal.Gen

/-! ## Operations at an index -/

theorem rowmax_at {a b : ℕ} (x : FVec Ideal ⟨2, ![a, b]⟩ .f32) (ax : List (Fin 2)) (hax : ax = [1]) (h : (⟨2, ![a, b]⟩ : Shape).Reduces ax ⟨1, ![a]⟩)
    (hφ : FKind.Formats .f32) (hacc : (0xFF800000#32 : BitVec 32) = 0xFF800000#32) (h2 : (⟨1, ![a]⟩ : Shape).ShapeCasts ⟨2, ![a, 1]⟩) (p : Fin a) (u : Fin 1) :
    shapeCast ⟨2, ![a, 1]⟩ (multiReduction (F := Ideal) (φ := .f32) .maximumf ax ⟨1, ![a]⟩ x 0xFF800000#32 h hφ hacc) h2 (ix2 p u)
      = Finset.univ.sup fun k => (x (ix2 p k) : EReal) := by
  subst hax
  rw [shapeCast_apply _ h2 (ix2 p u) (ix1 p) (by
    rw [Shape.rowMajor_val_two, Shape.rowMajor_val_one]
    have hu : u.val = 0 := by omega
    show p.val = p.val * 1 + u.val
    omega), Ideal.multiReduction_maximumf_single _ _ _ _ hacc]
  have e0 : (FloatOps.ofBits (F := Ideal) .f32 0xFF800000#32 : EReal) = ⊥ := by
    show Ideal.ofBits .f32 0xFF800000#32 = ⊥
    simp [Ideal.ofBits, Ideal.ieee]
  rw [e0]
  show (Finset.univ : Finset (Fin b)).sup _ = _
  refine congrArg (Finset.univ : Finset (Fin b)).sup (funext fun k => ?_)
  show x _ = x _
  rw [lift_row]; rfl

theorem unit_at {a : ℕ} (x : FVec Ideal ⟨2, ![a, 64]⟩ .f32) (g : FVec Ideal S1x64 .f32) (h1 : (⟨2, ![a, 64]⟩ : Shape).Reduces [1] ⟨1, ![a]⟩)
    (hφ : FKind.Formats .f32) (hacc : (0x00000000#32 : BitVec 32) = 0x00000000#32) (h2 : (⟨1, ![a]⟩ : Shape).ShapeCasts ⟨2, ![a, 1]⟩)
    (h3 : (⟨2, ![a, 1]⟩ : Shape).Broadcasts ⟨2, ![a, 64]⟩) (h4 : S1x64.Broadcasts ⟨2, ![a, 64]⟩) (p : Fin a) (d : Fin 64) :
    mulf (mulf x (broadcastTo ⟨2, ![a, 64]⟩ (rsqrt (addf (divf (shapeCast ⟨2, ![a, 1]⟩
      (multiReduction (F := Ideal) (φ := .f32) .add [1] ⟨1, ![a]⟩ (mulf x x) 0x00000000#32 h1 hφ hacc) h2)
      (broadcast ⟨2, ![a, 1]⟩ (Scalar.ofBits .f32 0x42800000#32))) (broadcast ⟨2, ![a, 1]⟩ (Scalar.ofBits .f32 0x358637BD#32)))) h3))
      (broadcastTo ⟨2, ![a, 64]⟩ g h4) (ix2 p d)
      = unit (fun e => x (ix2 p e)) (fun e => g (ix2 (0 : Fin 1) e)) d := by
  show (x (ix2 p d) * broadcastTo ⟨2, ![a, 64]⟩ _ h3 (ix2 p d) * broadcastTo ⟨2, ![a, 64]⟩ g h4 (ix2 p d) : EReal) = _
  rw [spread_at, broadcastTo_1b_ab_apply g h4 p d]
  unfold unit
  refine congrArg (fun s => (x (ix2 p d) * Ideal.rsqrt (Ideal.div s n64 + tiny) * g (ix2 (0 : Fin 1) d) : EReal)) ?_
  exact rowsum_at _ _ rfl _ _ _ _ p 0

theorem key_at (x : FVec Ideal S128x64 .f32) (g : FVec Ideal S1x64 .f32) (p : Fin 128) (d : Fin 64) :
    k0_pay5 (F := Ideal) x g (ix2 p d) = unit (fun e => x (ix2 p e)) (fun e => g (ix2 (0 : Fin 1) e)) d := by
  unfold k0_pay5
  simp only [shapeCast_self]
  exact unit_at x g _ _ _ _ _ _ p d

/-- Four tiles of queries, one below the other. -/
abbrev stack (t0 t1 t2 t3 : FVec Ideal S128x64 .f32) : FVec Ideal S512x64 .f32 :=
  concatenate S512x64 0 [⟨S128x64, t0⟩, ⟨S128x64, t1⟩, ⟨S128x64, t2⟩, ⟨S128x64, t3⟩] concatenates_S128x64_S128x64_S128x64_S128x64_S512x64_d0

theorem query_at (t0 t1 t2 t3 : FVec Ideal S128x64 .f32) (g : FVec Ideal S1x64 .f32) (p : Fin 512) (d : Fin 64) :
    k0_pay34 (F := Ideal) t0 t1 t2 t3 g (ix2 p d) = unit (fun e => stack t0 t1 t2 t3 (ix2 p e)) (fun e => g (ix2 (0 : Fin 1) e)) d := by
  unfold k0_pay34
  simp only [shapeCast_self]
  exact unit_at (stack t0 t1 t2 t3) g _ _ _ _ _ _ p d

/-- The places that belong to the query's own block. -/
theorem own_at (p : Fin 512) (j : Fin 128) : k0_pay4 (ix2 p j) = BitVec.ofBool (decide (j.val ≤ p.val % 128)) := by
  unfold k0_pay4
  show IntOp.cmpi .sge (BitVec.ofNat 32 (0 * 512 + p.val) &&& 127#32) (BitVec.ofNat 32 (0 * 128 + j.val)) = _
  have e : (BitVec.ofNat 32 (0 * 512 + p.val) &&& 127#32) = BitVec.ofNat 32 (p.val % 128) := by
    apply BitVec.eq_of_toNat_eq
    have hp := p.isLt
    rw [BitVec.toNat_and, BitVec.toNat_ofNat, BitVec.toNat_ofNat, BitVec.toNat_ofNat]
    rw [show (127 % 2 ^ 32 : ℕ) = 2 ^ 7 - 1 from rfl, Nat.and_two_pow_sub_one_eq_mod]
    omega
  rw [e, WordCmp.cmpi_sge_ofNat (by omega) (by have := j.isLt; omega)]
  simp

theorem pick {α : Type} (P : Prop) [Decidable P] (a b : α) : Scalar.select (BitVec.ofBool (decide P)) a b = if P then a else b := by
  by_cases h : P
  · rw [if_pos h, decide_eq_true h]; rfl
  · rw [if_neg h, decide_eq_false h]; rfl

theorem own_pick {α : Type} (a b : S512x128.Idx → α) (p : Fin 512) (j : Fin 128) :
    select k0_pay4 a b (ix2 p j) = if j.val ≤ p.val % 128 then a (ix2 p j) else b (ix2 p j) := by
  rw [select_apply, own_at, pick]

theorem score_at (Q : FVec Ideal S512x64 .bf16) (K : FVec Ideal S128x64 .bf16) (p : Fin 512) (j : Fin 128) :
    k0_pay44 (F := Ideal) K Q (ix2 p j) = dot (fun d => Q (ix2 p d)) fun d => K (ix2 j d) := by
  unfold k0_pay44
  refine (Ideal.matmul_transposedRhs_apply none Q K _ p j).trans ?_
  exact (congrArg (fun s => (s + dot (fun d => Q (ix2 p d)) (fun d => K (ix2 j d)) : EReal)) Ideal.ofBits_zero_f32).trans (zero_add _)

theorem mix_at (W : FVec Ideal S512x128 .bf16) (V : FVec Ideal S128x64 .bf16) (p : Fin 512) (d : Fin 64) :
    k0_pay88 (F := Ideal) V W (ix2 p d) = ∑ j : Fin 128, (W (ix2 p j) * V (ix2 j d) : EReal) := by
  unfold k0_pay88
  refine (Ideal.matmul_plain_apply none W V _ p d).trans ?_
  exact (congrArg (fun s => (s + ∑ j : Fin 128, (W (ix2 p j) * V (ix2 j d) : EReal) : EReal)) Ideal.ofBits_zero_f32).trans (zero_add _)

/-! ## The softmax of a group -/

/-- The largest logit of each row, as a column. -/
abbrev top (L : FVec Ideal S512x128 .f32) : FVec Ideal S512x1 .f32 :=
  shapeCast S512x1 (multiReduction .maximumf [1] S512 L 0xFF800000#32 reduces_S512x128_S512 (.inl rfl) rfl) shapeCasts_S512_S512x1

theorem soft_at (L : FVec Ideal S512x128 .f32) (s : FVec Ideal S512x1 .f32) (p : Fin 512) (j : Fin 128) :
    k0_pay61 (F := Ideal) s L (top L) (ix2 p j) = prob (fun j => L (ix2 p j)) (s (ix2 p (0 : Fin 1))) j := by
  have hm : ∀ u : Fin 1, maximumf (top L) s (ix2 p u) = peak (fun j => L (ix2 p j)) (s (ix2 p u)) := fun u =>
    congrArg (fun x => (max x (s (ix2 p u)) : EReal)) (rowmax_at L _ rfl _ _ _ _ p u)
  have he : ∀ k : Fin 128, exp (F := Ideal) (subf L (broadcastTo S512x128 (maximumf (top L) s) broadcasts_S512x1_S512x128)) (ix2 p k)
      = Ideal.exp (L (ix2 p k) - peak (fun j => L (ix2 p j)) (s (ix2 p (0 : Fin 1)))) := fun k => by
    show Ideal.exp (L (ix2 p k) - broadcastTo S512x128 (maximumf (top L) s) broadcasts_S512x1_S512x128 (ix2 p k)) = _
    rw [spread_at, hm]
  unfold k0_pay61
  show Ideal.div (exp (F := Ideal) (subf L (broadcastTo S512x128 (maximumf (top L) s) broadcasts_S512x1_S512x128)) (ix2 p j)) (broadcastTo S512x128 _ broadcasts_S512x1_S512x128 (ix2 p j)) = _
  rw [spread_at, he]
  unfold prob total
  refine congrArg₂ (fun a b => Ideal.div (Ideal.exp (L (ix2 p j) - peak (fun j => L (ix2 p j)) (s (ix2 p (0 : Fin 1))))) (a + b)) ?_ ?_
  · refine (rowsum_at _ _ rfl _ _ _ _ p 0).trans (Finset.sum_congr rfl fun k _ => he k)
  · show Ideal.exp (s (ix2 p (0 : Fin 1)) - maximumf (top L) s (ix2 p (0 : Fin 1))) = _
    rw [hm]

/-! ## The logits of a group -/

section Logits

variable (Q : FVec Ideal S512x64 .bf16) (KC KP : FVec Ideal S128x64 .bf16) (b : FVec Ideal S1x512x128 .f32)

/-- The logits where every place may be looked at. -/
def plainLogits : FVec Ideal S512x128 .f32 :=
  addf (mulf (select k0_pay4 (k0_pay44 (F := Ideal) KC Q) (k0_pay44 (F := Ideal) KP Q)) (broadcast S512x128 (Scalar.ofBits .f32 0x3E000000#32)))
    (shapeCast S512x128 b shapeCasts_S1x512x128_S512x128)

theorem bias_at (p : Fin 512) (j : Fin 128) : shapeCast S512x128 b shapeCasts_S1x512x128_S512x128 (ix2 p j) = b (ix3 (0 : Fin 1) p j) :=
  shapeCast_apply b _ (ix2 p j) (ix3 (0 : Fin 1) p j) (by
    rw [Shape.rowMajor_val_three, Shape.rowMajor_val_two]
    show (0 * 512 + p.val) * 128 + j.val = p.val * 128 + j.val
    omega)

theorem sink_at (s : FVec Ideal S1x512x1 .f32) (p : Fin 512) (u : Fin 1) : k0_pay58 (F := Ideal) s (ix2 p u) = s (ix3 (0 : Fin 1) p u) :=
  shapeCast_apply s _ (ix2 p u) (ix3 (0 : Fin 1) p u) (by
    rw [Shape.rowMajor_val_three, Shape.rowMajor_val_two]
    show (0 * 512 + p.val) * 1 + u.val = p.val * 1 + u.val
    omega)

theorem plain_at (p : Fin 512) (j : Fin 128) :
    plainLogits Q KC KP b (ix2 p j) = logit False (p.val % 128) (fun d => Q (ix2 p d)) (fun j d => KC (ix2 j d)) (fun j d => KP (ix2 j d))
      (fun j => b (ix3 (0 : Fin 1) p j)) j := by
  show (select k0_pay4 (k0_pay44 (F := Ideal) KC Q) (k0_pay44 (F := Ideal) KP Q) (ix2 p j) * eighth
    + shapeCast S512x128 b shapeCasts_S1x512x128_S512x128 (ix2 p j) : EReal) = _
  rw [own_pick, bias_at, score_at, score_at]
  unfold logit
  rw [if_neg not_false]
  split <;> rfl

/-- The logits of the first tile of a block of rows, where the keys before it may be missing. -/
def maskedLogits (n : BitVec 32) : FVec Ideal S512x128 .f32 :=
  select (ori k0_pay4 (broadcast S512x128 (Scalar.xori (Scalar.cmpi .eq n 0#32) 1#1))) (plainLogits Q KC KP b)
    (broadcast S512x128 (Named.named κ "mask" 0xF149F2CA#32))

theorem masked_at (n : ℕ) (hn : n < 16) (p : Fin 512) (j : Fin 128) :
    maskedLogits Q KC KP b (BitVec.ofNat 32 n) (ix2 p j) = logit (n = 0) (p.val % 128) (fun d => Q (ix2 p d)) (fun j d => KC (ix2 j d)) (fun j d => KP (ix2 j d))
      (fun j => b (ix3 (0 : Fin 1) p j)) j := by
  have hw : (Named.named κ "mask" 0xF149F2CA#32 : Ideal .f32) = (⊥ : EReal) := IdealRules.named_const.ideal_named_scalar _ _ _ _ rfl
  unfold maskedLogits
  rw [select_apply]
  show Scalar.select (k0_pay4 (ix2 p j) ||| (IntOp.cmpi .eq (BitVec.ofNat 32 n) (BitVec.ofNat 32 0) ^^^ 1#1)) _ (Named.named κ "mask" 0xF149F2CA#32 : Ideal .f32) = _
  rw [hw, own_at, WordCmp.cmpi_eq_ofNat (by omega) (by omega), plain_at]
  unfold logit
  by_cases h : j.val ≤ p.val % 128 <;> by_cases h0 : n = 0 <;> simp [h, h0, Scalar.select]

end Logits

/-! ## A group's result -/

/-- The weights on the own block times its values, plus the weights on the block before times its. -/
def groupOf (W : FVec Ideal S512x128 .f32) (VC VP : FVec Ideal S128x64 .bf16) : FVec Ideal S512x64 .f32 :=
  addf (k0_pay88 (F := Ideal) VC (k0_pay72 k0_pay4 W)) (k0_pay88 (F := Ideal) VP (k0_pay80 k0_pay4 W))

theorem group_at (W : FVec Ideal S512x128 .f32) (VC VP : FVec Ideal S128x64 .bf16) (s : Fin 128 → EReal) (sink : EReal) (p : Fin 512) (d : Fin 64)
    (h : ∀ j, W (ix2 p j) = prob s sink j) :
    groupOf W VC VP (ix2 p d) = entry (p.val % 128) s sink (fun j => VC (ix2 j d)) fun j => VP (ix2 j d) := by
  have z : (Scalar.ofBits (F := Ideal) .f32 0x00000000#32 : EReal) = 0 := Ideal.ofBits_zero_f32
  show (k0_pay88 (F := Ideal) VC (k0_pay72 k0_pay4 W) (ix2 p d) + k0_pay88 (F := Ideal) VP (k0_pay80 k0_pay4 W) (ix2 p d) : EReal) = _
  rw [mix_at, mix_at]
  unfold entry
  refine congrArg₂ (· + ·) (Finset.sum_congr rfl fun j _ => ?_) (Finset.sum_congr rfl fun j _ => ?_)
  · refine congrArg (fun w => (w * VC (ix2 j d) : EReal)) ?_
    show select k0_pay4 W (broadcast S512x128 (Scalar.ofBits (F := Ideal) .f32 0x00000000#32)) (ix2 p j) = _
    rw [own_pick, h]
    exact congrArg (fun z => if j.val ≤ p.val % 128 then prob s sink j else z) z
  · refine congrArg (fun w => (w * VP (ix2 j d) : EReal)) ?_
    show select k0_pay4 (broadcast S512x128 (Scalar.ofBits (F := Ideal) .f32 0x00000000#32)) W (ix2 p j) = _
    rw [own_pick, h]
    exact congrArg (fun z => if j.val ≤ p.val % 128 then z else prob s sink j) z

section Heads

variable (n : BitVec 32) (t0 t1 t2 t3 kc kp vc vp : FVec Ideal S128x64 .f32) (qg kg : FVec Ideal S1x64 .f32)
  (b : FVec Ideal S1x512x128 .f32) (s : FVec Ideal S1x512x1 .f32)

abbrev plainL : FVec Ideal S512x128 .f32 := plainLogits (k0_pay34 (F := Ideal) t0 t1 t2 t3 qg) (k0_pay5 (F := Ideal) kc kg) (k0_pay5 (F := Ideal) kp kg) b
abbrev maskedL : FVec Ideal S512x128 .f32 := maskedLogits (k0_pay34 (F := Ideal) t0 t1 t2 t3 qg) (k0_pay5 (F := Ideal) kc kg) (k0_pay5 (F := Ideal) kp kg) b n

/-- The four heads of a group, in a tile with keys before it. -/
def headsB : FVec Ideal S512x64 .f32 :=
  groupOf (k0_pay61 (F := Ideal) (k0_pay58 s) (plainL t0 t1 t2 t3 kc kp qg kg b) (top (plainL t0 t1 t2 t3 kc kp qg kg b))) (k0_pay6 (F := Ideal) vc) (k0_pay6 (F := Ideal) vp)

/-- The four heads of a group, in the first tile of a block of rows. -/
def headsA : FVec Ideal S512x64 .f32 :=
  groupOf (k0_pay61 (F := Ideal) (k0_pay58 s) (maskedL n t0 t1 t2 t3 kc kp qg kg b) (top (maskedL n t0 t1 t2 t3 kc kp qg kg b))) (k0_pay6 (F := Ideal) vc) (k0_pay6 (F := Ideal) vp)

/-- The row's result. -/
def result (first : Prop) [Decidable first] (p : Fin 512) (d : Fin 64) : EReal :=
  entry (p.val % 128)
    (logit first (p.val % 128) (unit (fun e => stack t0 t1 t2 t3 (ix2 p e)) fun e => qg (ix2 (0 : Fin 1) e))
      (fun j => unit (fun e => kc (ix2 j e)) fun e => kg (ix2 (0 : Fin 1) e)) (fun j => unit (fun e => kp (ix2 j e)) fun e => kg (ix2 (0 : Fin 1) e))
      fun j => b (ix3 (0 : Fin 1) p j))
    (s (ix3 (0 : Fin 1) p (0 : Fin 1))) (fun j => vc (ix2 j d)) fun j => vp (ix2 j d)

theorem headsB_at (p : Fin 512) (d : Fin 64) :
    headsB t0 t1 t2 t3 kc kp vc vp qg kg b s (ix2 p d) = result t0 t1 t2 t3 kc kp vc vp qg kg b s False p d := by
  unfold headsB result
  refine group_at _ _ _ _ _ p d fun j => ?_
  rw [soft_at, sink_at]
  refine congrArg (fun L => prob L (s (ix3 (0 : Fin 1) p (0 : Fin 1))) j) (funext fun k => ?_)
  refine (plain_at _ _ _ _ p k).trans ?_
  simp only [query_at, key_at]

theorem headsA_at (n : ℕ) (hn : n < 16) (p : Fin 512) (d : Fin 64) :
    headsA (BitVec.ofNat 32 n) t0 t1 t2 t3 kc kp vc vp qg kg b s (ix2 p d) = result t0 t1 t2 t3 kc kp vc vp qg kg b s (n = 0) p d := by
  unfold headsA result
  refine group_at _ _ _ _ _ p d fun j => ?_
  rw [soft_at, sink_at]
  refine congrArg (fun L => prob L (s (ix3 (0 : Fin 1) p (0 : Fin 1))) j) (funext fun k => ?_)
  refine (masked_at _ _ _ _ n hn p k).trans ?_
  simp only [query_at, key_at]

theorem stack_at (g : ℕ) (hg : g < 4) (a : Fin 128) (p : Fin 512) (hp : p.val = 128 * g + a.val) (e : Fin 64) (t : FVec Ideal S128x64 .f32)
    (ht : [t0, t1, t2, t3][g] = t) : stack t0 t1 t2 t3 (ix2 p e) = t (ix2 a e) := by
  refine concatenate_apply_piece (t := S512x64) (0 : Fin 2) [⟨S128x64, t0⟩, ⟨S128x64, t1⟩, ⟨S128x64, t2⟩, ⟨S128x64, t3⟩] _ (ix2 p e) g hg S128x64 t ?_ rfl (128 * g) ?_ (ix2 a e) ?_ ?_
  · subst ht
    match g, hg with
    | 0, _ => rfl
    | 1, _ => rfl
    | 2, _ => rfl
    | 3, _ => rfl
  · match g, hg with
    | 0, _ => rfl
    | 1, _ => rfl
    | 2, _ => rfl
    | 3, _ => rfl
  · intro b hb
    match b with
    | ⟨0, _⟩ => exact absurd rfl hb
    | ⟨1, _⟩ => rfl
  · exact hp.symm

end Heads

end Cert.AttnTile

end
-- ==== Proof.AttnOut.lean ====
/- What the attention's forward kernel leaves in its output block: each of the 32 stored tiles is one head of one tile of
   queries, and the block's entry is the folded row of attention of the input blocks. -/
module

public import proofs.«01_k».proof.Proof.AttnTile

@[expose] public section

set_option maxRecDepth 16384

noncomputable section

namespace Cert.AttnOut

open Idealize.ShloMosaic Idealize.ShloMosaic.ValueIdx Idealize.ShloMosaic.TcCoe Idealize.SL.Sem
open Cert.Rows Cert.RowOps Cert.AttnMath Cert.AttnTile Cert.Kernel20Ideal Cert.Kernel20Ideal.Gen

/-- An entry of a matrix at two numbers. -/
def cell {m n : ℕ} [NeZero m] [NeZero n] (x : FVec Ideal ⟨2, ![m, n]⟩ .f32) (r c : ℕ) : EReal := x (ix2 (Fin.ofNat m r) (Fin.ofNat n c))

theorem cell_eq {m n : ℕ} [NeZero m] [NeZero n] (x : FVec Ideal ⟨2, ![m, n]⟩ .f32) (r c : ℕ) (p : Fin m) (q : Fin n) (hp : p.val = r) (hq : q.val = c) :
    cell x r c = x (ix2 p q) := by
  subst hp hq
  unfold cell
  refine congrArg₂ (fun a b => x (ix2 a b)) (Fin.ext ?_) (Fin.ext ?_)
  · exact Nat.mod_eq_of_lt p.isLt
  · exact Nat.mod_eq_of_lt q.isLt

theorem ld_cell {m n a b : ℕ} [NeZero m] [NeZero n] (x : FVec Ideal ⟨2, ![m, n]⟩ .f32) (o p : ℕ)
    (inb : ∀ t, (![o, p] : Fin 2 → ℕ) t + (![a, b] : Fin 2 → ℕ) t ≤ (⟨2, ![m, n]⟩ : Shape).size t) (r : Fin a) (c : Fin b) :
    View.ld (Val := Elt Ideal) (S := ⟨2, ![m, n]⟩) (e' := .f32) x (Rect.unit (s := ⟨2, ![m, n]⟩) ![o, p] ![a, b] inb) (ix2 r c) = cell x (o + r.val) (p + c.val) := by
  have h0 : o + a ≤ m := inb 0
  have h1 : p + b ≤ n := inb 1
  have hr := r.isLt
  have hc := c.isLt
  rw [cell_eq x _ _ ⟨o + r.val, by omega⟩ ⟨p + c.val, by omega⟩ rfl rfl]
  exact View.ld_unit_apply_of (Val := Elt Ideal) (e := .f32) (S := ⟨2, ![m, n]⟩) x _ _ _ _ _ fun t => match t with
    | ⟨0, _⟩ => rfl
    | ⟨1, _⟩ => rfl

theorem ld_slab {l m n : ℕ} (x : FVec Ideal ⟨3, ![l, m, n]⟩ .f32) (o : ℕ)
    (inb : ∀ t, (![o, 0, 0] : Fin 3 → ℕ) t + (![1, m, n] : Fin 3 → ℕ) t ≤ (⟨3, ![l, m, n]⟩ : Shape).size t) (k : Fin l) (hk : k.val = o) (r : Fin m) (c : Fin n) :
    View.ld (Val := Elt Ideal) (S := ⟨3, ![l, m, n]⟩) (e' := .f32) x (Rect.unit (s := ⟨3, ![l, m, n]⟩) ![o, 0, 0] ![1, m, n] inb) (ix3 (0 : Fin 1) r c) = x (ix3 k r c) :=
  View.ld_unit_apply_of (Val := Elt Ideal) (e := .f32) (S := ⟨3, ![l, m, n]⟩) x _ _ _ _ _ fun t => match t with
    | ⟨0, _⟩ => hk
    | ⟨1, _⟩ => (Nat.zero_add _).symm
    | ⟨2, _⟩ => (Nat.zero_add _).symm

theorem inb2 {m n a b o p : ℕ} (h : o + a ≤ m) (h' : p + b ≤ n) : ∀ t, (![o, p] : Fin 2 → ℕ) t + (![a, b] : Fin 2 → ℕ) t ≤ (⟨2, ![m, n]⟩ : Shape).size t := fun t =>
  match t with
  | ⟨0, _⟩ => h
  | ⟨1, _⟩ => h'

theorem inb3 {l m n o : ℕ} (h : o + 1 ≤ l) : ∀ t, (![o, 0, 0] : Fin 3 → ℕ) t + (![1, m, n] : Fin 3 → ℕ) t ≤ (⟨3, ![l, m, n]⟩ : Shape).size t := fun t =>
  match t with
  | ⟨0, _⟩ => h
  | ⟨1, _⟩ => (Nat.zero_add m).le
  | ⟨2, _⟩ => (Nat.zero_add n).le

theorem sl (g : ℕ) (hg : g < 4) : S512x64.Slices ![128 * g, 0] S128x64 :=
  match g, hg with
  | 0, _ => slices_S512x64_o0_0_S128x64
  | 1, _ => slices_S512x64_o128_0_S128x64
  | 2, _ => slices_S512x64_o256_0_S128x64
  | 3, _ => slices_S512x64_o384_0_S128x64

section Tile

variable (n : ℕ) (x0 : FVec Ideal S512x512 .f32) (x1 : FVec Ideal S512x128 .f32) (x2 : FVec Ideal S128x128 .f32) (x3 : FVec Ideal S512x128 .f32)
  (x4 : FVec Ideal S128x128 .f32) (x5 : FVec Ideal S2x512x128 .f32) (x6 : FVec Ideal S2x512x1 .f32) (x7 x8 : FVec Ideal S1x64 .f32)

/-- The queries of tile `i`, head `h`. -/
abbrev lq (i h : ℕ) (hi : i < 4) (hh : h < 8) : FVec Ideal S128x64 .f32 :=
  View.ld (Val := Elt Ideal) (S := S512x512) (e' := .f32) x0 (Rect.unit (s := S512x512) ![128 * i, 64 * h] S128x64.size (inb2 (by omega) (by omega)))
/-- The keys or values of tile `i`, group `k`. -/
abbrev lk (x : FVec Ideal S512x128 .f32) (i k : ℕ) (hi : i < 4) (hk : k < 2) : FVec Ideal S128x64 .f32 :=
  View.ld (Val := Elt Ideal) (S := S512x128) (e' := .f32) x (Rect.unit (s := S512x128) ![128 * i, 64 * k] S128x64.size (inb2 (by omega) (by omega)))
/-- The keys or values before the block, group `k`. -/
abbrev lp (x : FVec Ideal S128x128 .f32) (k : ℕ) (hk : k < 2) : FVec Ideal S128x64 .f32 :=
  View.ld (Val := Elt Ideal) (S := S128x128) (e' := .f32) x (Rect.unit (s := S128x128) ![0, 64 * k] S128x64.size (inb2 (by omega) (by omega)))
abbrev lb (k : ℕ) (hk : k < 2) : FVec Ideal S1x512x128 .f32 :=
  View.ld (Val := Elt Ideal) (S := S2x512x128) (e' := .f32) x5 (Rect.unit (s := S2x512x128) ![k, 0, 0] S1x512x128.size (inb3 (by omega)))
abbrev ls (k : ℕ) (hk : k < 2) : FVec Ideal S1x512x1 .f32 :=
  View.ld (Val := Elt Ideal) (S := S2x512x1) (e' := .f32) x6 (Rect.unit (s := S2x512x1) ![k, 0, 0] S1x512x1.size (inb3 (by omega)))

/-- The heads of group `k` in tile `i + 1`. -/
def HB (i k : ℕ) (hi : i < 3) (hk : k < 2) : FVec Ideal S512x64 .f32 :=
  headsB (lq x0 (i + 1) (4 * k + 0) (by omega) (by omega)) (lq x0 (i + 1) (4 * k + 1) (by omega) (by omega)) (lq x0 (i + 1) (4 * k + 2) (by omega) (by omega))
    (lq x0 (i + 1) (4 * k + 3) (by omega) (by omega)) (lk x1 (i + 1) k (by omega) hk) (lk x1 i k (by omega) hk) (lk x3 (i + 1) k (by omega) hk) (lk x3 i k (by omega) hk)
    x7 x8 (lb x5 k hk) (ls x6 k hk)

/-- The heads of group `k` in the first tile. -/
def HA (k : ℕ) (hk : k < 2) : FVec Ideal S512x64 .f32 :=
  headsA (BitVec.ofNat 32 n) (lq x0 0 (4 * k + 0) (by omega) (by omega)) (lq x0 0 (4 * k + 1) (by omega) (by omega)) (lq x0 0 (4 * k + 2) (by omega) (by omega))
    (lq x0 0 (4 * k + 3) (by omega) (by omega)) (lk x1 0 k (by omega) hk) (lp x2 k hk) (lk x3 0 k (by omega) hk) (lp x4 k hk)
    x7 x8 (lb x5 k hk) (ls x6 k hk)

/-- The entry before: in the first tile it lies in the block before, in the others in the tile before. -/
def before (x : FVec Ideal S128x128 .f32) (y : FVec Ideal S512x128 .f32) : ℕ → ℕ → ℕ → EReal
  | 0, r, c => cell x r c
  | i + 1, r, c => cell y (128 * i + r) c

/-- Row `a` of tile `i` for head `g` of group `k`. -/
def row (i : ℕ) (k : Fin 2) (g a : ℕ) (q : Fin 512) (d : Fin 64) : EReal :=
  entry a
    (logit (i = 0 ∧ n = 0) a (unit (fun e => cell x0 (128 * i + a) (64 * (4 * k.val + g) + e.val)) fun e => x7 (ix2 (0 : Fin 1) e))
      (fun j => unit (fun e => cell x1 (128 * i + j.val) (64 * k.val + e.val)) fun e => x8 (ix2 (0 : Fin 1) e))
      (fun j => unit (fun e => before x2 x1 i j.val (64 * k.val + e.val)) fun e => x8 (ix2 (0 : Fin 1) e))
      fun j => x5 (ix3 k q j))
    (x6 (ix3 k q (0 : Fin 1))) (fun j => cell x3 (128 * i + j.val) (64 * k.val + d.val)) fun j => before x4 x3 i j.val (64 * k.val + d.val)

/-- The block's entry. -/
def tile (p j : Fin 512) : EReal :=
  row n x0 x1 x2 x3 x4 x5 x6 x7 x8 (p.val / 128) ⟨j.val / 256, by omega⟩ (j.val / 64 % 4) (p.val % 128) ⟨128 * (j.val / 64 % 4) + p.val % 128, by omega⟩ ⟨j.val % 64, by omega⟩

theorem tile_at (i : ℕ) (hi : i < 4) (k : Fin 2) (g : ℕ) (hg : g < 4) (a : Fin 128) (b : Fin 64) (p j : Fin 512) (hp : p.val = 128 * i + a.val) (hj : j.val = 64 * (4 * k.val + g) + b.val) :
    tile n x0 x1 x2 x3 x4 x5 x6 x7 x8 p j = row n x0 x1 x2 x3 x4 x5 x6 x7 x8 i k g a.val ⟨128 * g + a.val, by omega⟩ b := by
  have h1 : p.val / 128 = i := by omega
  have h2 : p.val % 128 = a.val := by omega
  have h3 : j.val / 64 % 4 = g := by have := k.isLt; omega
  have h4 : (⟨j.val / 256, by omega⟩ : Fin 2) = k := Fin.ext (by show j.val / 256 = k.val; omega)
  have h5 : (⟨j.val % 64, by omega⟩ : Fin 64) = b := Fin.ext (by show j.val % 64 = b.val; omega)
  unfold tile
  simp only [h1, h2, h3, h4, h5]

theorem pieceB (i : ℕ) (hi : i < 3) (k : ℕ) (hk : k < 2) (g : ℕ) (hg : g < 4) (p j : Fin 512) :
    View.TileAt (Val := Elt Ideal) (S := S512x512) (e := .f32) (ix2 p j) ![128 * (i + 1), 64 * (4 * k + g)] S128x64.size
      (extractStridedSlice S128x64 ![128 * g, 0] (HB x0 x1 x3 x5 x6 x7 x8 i k hi hk) (sl g hg)) (tile n x0 x1 x2 x3 x4 x5 x6 x7 x8 p j) := by
  intro x hx
  obtain ⟨a, b, rfl⟩ : ∃ a b, x = ix2 a b := ⟨x 0, x 1, eq_ix2 x⟩
  have h0 : p.val = 128 * (i + 1) + a.val := hx 0
  have h1 : j.val = 64 * (4 * k + g) + b.val := hx 1
  have ha : a.val < 128 := a.isLt
  rw [tile_at n x0 x1 x2 x3 x4 x5 x6 x7 x8 (i + 1) (by omega) ⟨k, hk⟩ g hg a b p j h0 h1]
  refine (extractStridedSlice_apply ![128 * g, 0] _ (sl g hg) (ix2 a b) (ix2 (⟨128 * g + a.val, by omega⟩ : Fin 512) b) fun t => match t with
    | ⟨0, _⟩ => rfl
    | ⟨1, _⟩ => (Nat.zero_add _).symm).trans ?_
  unfold HB
  rw [headsB_at]
  have hm : (128 * g + a.val) % 128 = a.val := by omega
  have hs : ∀ e : Fin 64, stack (lq x0 (i + 1) (4 * k + 0) (by omega) (by omega)) (lq x0 (i + 1) (4 * k + 1) (by omega) (by omega)) (lq x0 (i + 1) (4 * k + 2) (by omega) (by omega))
      (lq x0 (i + 1) (4 * k + 3) (by omega) (by omega)) (ix2 (⟨128 * g + a.val, by omega⟩ : Fin 512) e) = cell x0 (128 * (i + 1) + a.val) (64 * (4 * k + g) + e.val) := fun e => by
    refine (stack_at _ _ _ _ g hg a _ rfl e (lq x0 (i + 1) (4 * k + g) (by omega) (by omega)) ?_).trans (ld_cell x0 _ _ _ a e)
    match g, hg with
    | 0, _ => rfl
    | 1, _ => rfl
    | 2, _ => rfl
    | 3, _ => rfl
  unfold result row
  simp only [hm, hs]
  have hc : ∀ (x : FVec Ideal S512x128 .f32) (i' : ℕ) (h : i' < 4) (j : Fin 128) (e : Fin 64), lk x i' k h hk (ix2 j e) = cell x (128 * i' + j.val) (64 * k + e.val) :=
    fun x i' h j e => ld_cell x _ _ _ j e
  have hb : ∀ j : Fin 128, lb x5 k hk (ix3 (0 : Fin 1) (⟨128 * g + a.val, by omega⟩ : Fin 512) j) = x5 (ix3 (⟨k, hk⟩ : Fin 2) (⟨128 * g + a.val, by omega⟩ : Fin 512) j) :=
    fun j => ld_slab x5 k _ ⟨k, hk⟩ rfl _ j
  have hl : ls x6 k hk (ix3 (0 : Fin 1) (⟨128 * g + a.val, by omega⟩ : Fin 512) (0 : Fin 1)) = x6 (ix3 (⟨k, hk⟩ : Fin 2) (⟨128 * g + a.val, by omega⟩ : Fin 512) (0 : Fin 1)) :=
    ld_slab x6 k _ ⟨k, hk⟩ rfl _ 0
  rw [logit_congr (P := i + 1 = 0 ∧ n = 0) (Q := False) (by simp)]
  simp only [hc x1 (i + 1) (by omega), hc x1 i (by omega), hc x3 (i + 1) (by omega), hc x3 i (by omega), hb, hl, before]

theorem pieceA (hn : n < 16) (k : ℕ) (hk : k < 2) (g : ℕ) (hg : g < 4) (p j : Fin 512) :
    View.TileAt (Val := Elt Ideal) (S := S512x512) (e := .f32) (ix2 p j) ![0, 64 * (4 * k + g)] S128x64.size
      (extractStridedSlice S128x64 ![128 * g, 0] (HA n x0 x1 x2 x3 x4 x5 x6 x7 x8 k hk) (sl g hg)) (tile n x0 x1 x2 x3 x4 x5 x6 x7 x8 p j) := by
  intro x hx
  obtain ⟨a, b, rfl⟩ : ∃ a b, x = ix2 a b := ⟨x 0, x 1, eq_ix2 x⟩
  have h0 : p.val = 0 + a.val := hx 0
  have h1 : j.val = 64 * (4 * k + g) + b.val := hx 1
  have ha : a.val < 128 := a.isLt
  rw [tile_at n x0 x1 x2 x3 x4 x5 x6 x7 x8 0 (by omega) ⟨k, hk⟩ g hg a b p j h0 h1]
  refine (extractStridedSlice_apply ![128 * g, 0] _ (sl g hg) (ix2 a b) (ix2 (⟨128 * g + a.val, by omega⟩ : Fin 512) b) fun t => match t with
    | ⟨0, _⟩ => rfl
    | ⟨1, _⟩ => (Nat.zero_add _).symm).trans ?_
  unfold HA
  rw [headsA_at _ _ _ _ _ _ _ _ _ _ _ _ n hn]
  have hm : (128 * g + a.val) % 128 = a.val := by omega
  have hs : ∀ e : Fin 64, stack (lq x0 0 (4 * k + 0) (by omega) (by omega)) (lq x0 0 (4 * k + 1) (by omega) (by omega)) (lq x0 0 (4 * k + 2) (by omega) (by omega))
      (lq x0 0 (4 * k + 3) (by omega) (by omega)) (ix2 (⟨128 * g + a.val, by omega⟩ : Fin 512) e) = cell x0 (128 * 0 + a.val) (64 * (4 * k + g) + e.val) := fun e => by
    refine (stack_at _ _ _ _ g hg a _ rfl e (lq x0 0 (4 * k + g) (by omega) (by omega)) ?_).trans (ld_cell x0 _ _ _ a e)
    match g, hg with
    | 0, _ => rfl
    | 1, _ => rfl
    | 2, _ => rfl
    | 3, _ => rfl
  unfold result row
  simp only [hm, hs]
  have hc : ∀ (x : FVec Ideal S512x128 .f32) (j : Fin 128) (e : Fin 64), lk x 0 k (by omega) hk (ix2 j e) = cell x (128 * 0 + j.val) (64 * k + e.val) :=
    fun x j e => ld_cell x _ _ _ j e
  have hq : ∀ (x : FVec Ideal S128x128 .f32) (j : Fin 128) (e : Fin 64), lp x k hk (ix2 j e) = cell x j.val (64 * k + e.val) :=
    fun x j e => (ld_cell x _ _ _ j e).trans (congrArg (fun r => cell x r (64 * k + e.val)) (Nat.zero_add _))
  have hb : ∀ j : Fin 128, lb x5 k hk (ix3 (0 : Fin 1) (⟨128 * g + a.val, by omega⟩ : Fin 512) j) = x5 (ix3 (⟨k, hk⟩ : Fin 2) (⟨128 * g + a.val, by omega⟩ : Fin 512) j) :=
    fun j => ld_slab x5 k _ ⟨k, hk⟩ rfl _ j
  have hl : ls x6 k hk (ix3 (0 : Fin 1) (⟨128 * g + a.val, by omega⟩ : Fin 512) (0 : Fin 1)) = x6 (ix3 (⟨k, hk⟩ : Fin 2) (⟨128 * g + a.val, by omega⟩ : Fin 512) (0 : Fin 1)) :=
    ld_slab x6 k _ ⟨k, hk⟩ rfl _ 0
  rw [logit_congr (P := 0 = 0 ∧ n = 0) (Q := n = 0) (by simp)]
  simp only [hc x1, hc x3, hq x2, hq x4, hb, hl, before]

end Tile

end Cert.AttnOut

end
-- ==== Proof.AttnBlock.lean ====
/- The attention's forward kernel at one grid point: the 32 tiles it stores are the heads of the tiles of queries, so its
   output block is the folded row of attention at every entry. -/
module

public import proofs.«01_k».proof.Proof.AttnOut

@[expose] public section

set_option maxRecDepth 65536
set_option maxHeartbeats 0

noncomputable section

namespace Cert.AttnBlock

open Idealize.ShloMosaic Idealize.ShloMosaic.ValueIdx Idealize.ShloMosaic.TcCoe Idealize.SL.Sem
open Cert.Rows Cert.RowOps Cert.AttnMath Cert.AttnTile Cert.AttnOut Cert.Kernel20Ideal Cert.Kernel20Ideal.Gen

variable (c : Dev nD) (i : grid0.Coords) (arg1 : Memref sig .tc .vmem S512x512 .f32) (h1 : arg1.IsWhole) (arg2 : Memref sig .tc .vmem S512x128 .f32) (h2 : arg2.IsWhole) (arg3 : Memref sig .tc .vmem S128x128 .f32) (h3 : arg3.IsWhole) (arg4 : Memref sig .tc .vmem S512x128 .f32) (h4 : arg4.IsWhole) (arg5 : Memref sig .tc .vmem S128x128 .f32) (h5 : arg5.IsWhole) (arg6 : Memref sig .tc .vmem S2x512x128 .f32) (h6 : arg6.IsWhole) (arg7 : Memref sig .tc .vmem S2x512x1 .f32) (h7 : arg7.IsWhole) (arg8 : Memref sig .tc .vmem S1x64 .f32) (h8 : arg8.IsWhole) (arg9 : Memref sig .tc .vmem S1x64 .f32) (h9 : arg9.IsWhole) (arg10 : Memref sig .tc .vmem S512x512 .f32) (h10 : arg10.IsWhole)
  (x0 : FVec Ideal S512x512 .f32) (x1 : FVec Ideal S512x128 .f32) (x2 : FVec Ideal S128x128 .f32) (x3 : FVec Ideal S512x128 .f32)
  (x4 : FVec Ideal S128x128 .f32) (x5 : FVec Ideal S2x512x128 .f32) (x6 : FVec Ideal S2x512x1 .f32) (x7 x8 : FVec Ideal S1x64 .f32)

theorem out_at (n : ℕ) (hn : n < 16) (hi : (i 0).val = n) (p j : Fin 512) :
    out0_A_9 (F := Ideal) c i arg1 h1 arg2 h2 arg3 h3 arg4 h4 arg5 h5 arg6 h6 arg7 h7 arg8 h8 arg9 h9 arg10 h10 x0 x1 x2 x3 x4 x5 x6 x7 x8 (ix2 p j)
      = tile n x0 x1 x2 x3 x4 x5 x6 x7 x8 p j := by
  subst hi
  unfold out0_A_9
  refine (congrFun (View.read_writes_eq_canon VO0_9 VO0_9.junk _ (cover0_A_9 (F := Ideal) c i arg1 h1 arg2 h2 arg3 h3 arg4 h4 arg5 h5 arg6 h6 arg7 h7 arg8 h8 arg9 h9 arg10 h10 x0 x1 x2 x3 x4 x5 x6 x7 x8)) (ix2 p j)).trans ?_
  refine View.canon_eq_of_allAt _ _ _ (cover0_A_9 (F := Ideal) c i arg1 h1 arg2 h2 arg3 h3 arg4 h4 arg5 h5 arg6 h6 arg7 h7 arg8 h8 arg9 h9 arg10 h10 x0 x1 x2 x3 x4 x5 x6 x7 x8 _) ?_
  unfold kernelRun0_A
  dsimp only
  sl_unfold_words
  simp only [View.readAt_eq_ld, h1.read_unread, h2.read_unread, h3.read_unread, h4.read_unread, h5.read_unread, h6.read_unread, h7.read_unread, h8.read_unread, h9.read_unread, View.ld_unit_zero (S := S1x64) hz2]
  refine View.allAt_cons_unit _ _ _ _ _ (pieceB (i 0).val x0 x1 x2 x3 x4 x5 x6 x7 x8 2 (by decide) 1 (by decide) 3 (by decide) p j) ?_
  refine View.allAt_cons_unit _ _ _ _ _ (pieceB (i 0).val x0 x1 x2 x3 x4 x5 x6 x7 x8 2 (by decide) 1 (by decide) 2 (by decide) p j) ?_
  refine View.allAt_cons_unit _ _ _ _ _ (pieceB (i 0).val x0 x1 x2 x3 x4 x5 x6 x7 x8 2 (by decide) 1 (by decide) 1 (by decide) p j) ?_
  refine View.allAt_cons_unit _ _ _ _ _ (pieceB (i 0).val x0 x1 x2 x3 x4 x5 x6 x7 x8 2 (by decide) 1 (by decide) 0 (by decide) p j) ?_
  refine View.allAt_cons_unit _ _ _ _ _ (pieceB (i 0).val x0 x1 x2 x3 x4 x5 x6 x7 x8 2 (by decide) 0 (by decide) 3 (by decide) p j) ?_
  refine View.allAt_cons_unit _ _ _ _ _ (pieceB (i 0).val x0 x1 x2 x3 x4 x5 x6 x7 x8 2 (by decide) 0 (by decide) 2 (by decide) p j) ?_
  refine View.allAt_cons_unit _ _ _ _ _ (pieceB (i 0).val x0 x1 x2 x3 x4 x5 x6 x7 x8 2 (by decide) 0 (by decide) 1 (by decide) p j) ?_
  refine View.allAt_cons_unit _ _ _ _ _ (pieceB (i 0).val x0 x1 x2 x3 x4 x5 x6 x7 x8 2 (by decide) 0 (by decide) 0 (by decide) p j) ?_
  refine View.allAt_cons_unit _ _ _ _ _ (pieceB (i 0).val x0 x1 x2 x3 x4 x5 x6 x7 x8 1 (by decide) 1 (by decide) 3 (by decide) p j) ?_
  refine View.allAt_cons_unit _ _ _ _ _ (pieceB (i 0).val x0 x1 x2 x3 x4 x5 x6 x7 x8 1 (by decide) 1 (by decide) 2 (by decide) p j) ?_
  refine View.allAt_cons_unit _ _ _ _ _ (pieceB (i 0).val x0 x1 x2 x3 x4 x5 x6 x7 x8 1 (by decide) 1 (by decide) 1 (by decide) p j) ?_
  refine View.allAt_cons_unit _ _ _ _ _ (pieceB (i 0).val x0 x1 x2 x3 x4 x5 x6 x7 x8 1 (by decide) 1 (by decide) 0 (by decide) p j) ?_
  refine View.allAt_cons_unit _ _ _ _ _ (pieceB (i 0).val x0 x1 x2 x3 x4 x5 x6 x7 x8 1 (by decide) 0 (by decide) 3 (by decide) p j) ?_
  refine View.allAt_cons_unit _ _ _ _ _ (pieceB (i 0).val x0 x1 x2 x3 x4 x5 x6 x7 x8 1 (by decide) 0 (by decide) 2 (by decide) p j) ?_
  refine View.allAt_cons_unit _ _ _ _ _ (pieceB (i 0).val x0 x1 x2 x3 x4 x5 x6 x7 x8 1 (by decide) 0 (by decide) 1 (by decide) p j) ?_
  refine View.allAt_cons_unit _ _ _ _ _ (pieceB (i 0).val x0 x1 x2 x3 x4 x5 x6 x7 x8 1 (by decide) 0 (by decide) 0 (by decide) p j) ?_
  refine View.allAt_cons_unit _ _ _ _ _ (pieceB (i 0).val x0 x1 x2 x3 x4 x5 x6 x7 x8 0 (by decide) 1 (by decide) 3 (by decide) p j) ?_
  refine View.allAt_cons_unit _ _ _ _ _ (pieceB (i 0).val x0 x1 x2 x3 x4 x5 x6 x7 x8 0 (by decide) 1 (by decide) 2 (by decide) p j) ?_
  refine View.allAt_cons_unit _ _ _ _ _ (pieceB (i 0).val x0 x1 x2 x3 x4 x5 x6 x7 x8 0 (by decide) 1 (by decide) 1 (by decide) p j) ?_
  refine View.allAt_cons_unit _ _ _ _ _ (pieceB (i 0).val x0 x1 x2 x3 x4 x5 x6 x7 x8 0 (by decide) 1 (by decide) 0 (by decide) p j) ?_
  refine View.allAt_cons_unit _ _ _ _ _ (pieceB (i 0).val x0 x1 x2 x3 x4 x5 x6 x7 x8 0 (by decide) 0 (by decide) 3 (by decide) p j) ?_
  refine View.allAt_cons_unit _ _ _ _ _ (pieceB (i 0).val x0 x1 x2 x3 x4 x5 x6 x7 x8 0 (by decide) 0 (by decide) 2 (by decide) p j) ?_
  refine View.allAt_cons_unit _ _ _ _ _ (pieceB (i 0).val x0 x1 x2 x3 x4 x5 x6 x7 x8 0 (by decide) 0 (by decide) 1 (by decide) p j) ?_
  refine View.allAt_cons_unit _ _ _ _ _ (pieceB (i 0).val x0 x1 x2 x3 x4 x5 x6 x7 x8 0 (by decide) 0 (by decide) 0 (by decide) p j) ?_
  refine View.allAt_cons_unit _ _ _ _ _ (pieceA (i 0).val x0 x1 x2 x3 x4 x5 x6 x7 x8 hn 1 (by decide) 3 (by decide) p j) ?_
  refine View.allAt_cons_unit _ _ _ _ _ (pieceA (i 0).val x0 x1 x2 x3 x4 x5 x6 x7 x8 hn 1 (by decide) 2 (by decide) p j) ?_
  refine View.allAt_cons_unit _ _ _ _ _ (pieceA (i 0).val x0 x1 x2 x3 x4 x5 x6 x7 x8 hn 1 (by decide) 1 (by decide) p j) ?_
  refine View.allAt_cons_unit _ _ _ _ _ (pieceA (i 0).val x0 x1 x2 x3 x4 x5 x6 x7 x8 hn 1 (by decide) 0 (by decide) p j) ?_
  refine View.allAt_cons_unit _ _ _ _ _ (pieceA (i 0).val x0 x1 x2 x3 x4 x5 x6 x7 x8 hn 0 (by decide) 3 (by decide) p j) ?_
  refine View.allAt_cons_unit _ _ _ _ _ (pieceA (i 0).val x0 x1 x2 x3 x4 x5 x6 x7 x8 hn 0 (by decide) 2 (by decide) p j) ?_
  refine View.allAt_cons_unit _ _ _ _ _ (pieceA (i 0).val x0 x1 x2 x3 x4 x5 x6 x7 x8 hn 0 (by decide) 1 (by decide) p j) ?_
  refine View.allAt_cons_unit _ _ _ _ _ (pieceA (i 0).val x0 x1 x2 x3 x4 x5 x6 x7 x8 hn 0 (by decide) 0 (by decide) p j) ?_
  exact View.allAt_nil _ _

end Cert.AttnBlock

end
-- ==== Proof.AttnGoal.lean ====
/- The attention's forward kernel on whole arrays: the array it leaves is, at every entry, the folded row of attention of
   the arguments. -/
module

public import proofs.«01_k».proof.Proof.AttnBlock
public import proofs.«01_k».proof.Proof.Gen.Kernel20Ideal.Value

@[expose] public section

set_option maxRecDepth 16384

noncomputable section

namespace Cert.AttnGoal

open Idealize.ShloMosaic Idealize.ShloMosaic.ValueIdx Idealize.ShloMosaic.TcCoe Idealize.SL.Sem
open Cert.Rows Cert.RowOps Cert.AttnMath Cert.AttnTile Cert.AttnOut Cert.AttnBlock Cert.Kernel20Ideal Cert.Kernel20Ideal.Gen
open Idealize.ShloMosaic.Pipeline (Dat)

section Goal

variable (Z : FVec Ideal S8192x1792 .f32) (B : FVec Ideal S2x512x128 .f32) (Sk : FVec Ideal S8 .f32) (Qg Kg : FVec Ideal S64 .f32)

/-- The query at row `r` of the array, for head `h`. -/
def query (r h : ℕ) : Fin 64 → EReal := unit (fun e => cell Z r (64 * h + e.val)) fun e => Qg (ix1 e)
/-- The key at row `r` of the array, for group `k`. -/
def key (r k : ℕ) : Fin 64 → EReal := unit (fun e => cell Z r (512 + (64 * k + e.val))) fun e => Kg (ix1 e)
/-- The value at row `r` of the array, for group `k`. -/
def value (r k : ℕ) (d : Fin 64) : EReal := cell Z r (640 + (64 * k + d.val))

/-- The logits of row `a` of block `b`, for head `g` of group `k`. -/
def logits (b : ℕ) (k : Fin 2) (g a : ℕ) (q : Fin 512) : Fin 128 → EReal :=
  logit (b = 0) a (query Z Qg (128 * b + a) (4 * k.val + g)) (fun j => key Z Kg (128 * b + j.val) k.val)
    (fun j => key Z Kg (128 * (b - 1) + j.val) k.val) fun j => B (ix3 k q j)

def whole (b : ℕ) (k : Fin 2) (g a : ℕ) (q : Fin 512) (d : Fin 64) : EReal :=
  entry a (logits Z B Qg Kg b k g a q) (Sk (ix1 ⟨4 * k.val + q.val / 128, by omega⟩))
    (fun j => value Z (128 * b + j.val) k.val d) fun j => value Z (128 * (b - 1) + j.val) k.val d

/-- The result. -/
def goal : FVec Ideal S8192x512 .f32 := fun i =>
  whole Z B Sk Qg Kg ((i 0).val / 128) ⟨(i 1).val / 256, by have : (i 1).val < 512 := (i 1).isLt; omega⟩ ((i 1).val / 64 % 4) ((i 0).val % 128)
    ⟨128 * ((i 1).val / 64 % 4) + (i 0).val % 128, by omega⟩ ⟨(i 1).val % 64, by omega⟩

end Goal

variable (m : (ℓ : Loc nD τ sig) → Buf (Elt Ideal) ℓ) (c : Dev nD)

/-- The five arguments as they are at the start. -/
abbrev Z : FVec Ideal S8192x1792 .f32 := m ((c : Thread nD τ).loc main_arg0)
abbrev B : FVec Ideal S2x512x128 .f32 := m ((c : Thread nD τ).loc main_arg1)
abbrev Sk : FVec Ideal S8 .f32 := m ((c : Thread nD τ).loc main_arg2)
abbrev Qg : FVec Ideal S64 .f32 := m ((c : Thread nD τ).loc main_arg3)
abbrev Kg : FVec Ideal S64 .f32 := m ((c : Thread nD τ).loc main_arg4)

theorem as_row (v : FVec Ideal S64 .f32) (k : Fin 64) : broadcastInDim S1x64 ![1] bcast_S64_S1x64_1 v (ix2 (0 : Fin 1) k) = v (ix1 k) :=
  broadcastInDim_apply _ bcast_S64_S1x64_1 v (ix2 (0 : Fin 1) k) (ix1 k) (fun a => match a with
    | ⟨0, _⟩ => by show k.val = if (64 : ℕ) = 1 then 0 else k.val; rw [if_neg (by decide)])

theorem v3_eq : (V m c main_v3 : FVec Ideal S1x64 .f32) = broadcastInDim S1x64 ![1] bcast_S64_S1x64_1 (Qg m c) := by
  unfold_abbrev_sides
  after_results
  all_goals rfl

theorem v4_eq : (V m c main_v4 : FVec Ideal S1x64 .f32) = broadcastInDim S1x64 ![1] bcast_S64_S1x64_1 (Kg m c) := by
  unfold_abbrev_sides
  after_results
  all_goals rfl

theorem v2_apply (k : Fin 2) (q : Fin 512) : (V m c main_v2 : FVec Ideal S2x512x1 .f32) (ix3 k q (0 : Fin 1)) = Sk m c (ix1 ⟨4 * k.val + q.val / 128, by omega⟩) := by
  have e : (V m c main_v2 : FVec Ideal S2x512x1 .f32) = shapeCast S2x512x1 (shapeCast S1024 (broadcastInDim S8x128 ![0] bcast_S8_S8x128_0 (Sk m c)) shapeCasts_S8x128_S1024) shapeCasts_S1024_S2x512x1 := by
    unfold_abbrev_sides
    after_results
    all_goals rfl
  rw [e]
  have hq := q.isLt
  have hk := k.isLt
  refine (shapeCast_apply (t := S2x512x1) (s := S1024) _ shapeCasts_S1024_S2x512x1 (ix3 k q (0 : Fin 1)) (ix1 (⟨512 * k.val + q.val, by omega⟩ : Fin 1024)) ?_).trans ?_
  · rw [Shape.rowMajor_val_one, Shape.rowMajor_val_three]
    show 512 * k.val + q.val = (k.val * 512 + q.val) * 1 + 0
    omega
  refine (shapeCast_apply (t := S1024) (s := S8x128) _ shapeCasts_S8x128_S1024 _ (ix2 (⟨4 * k.val + q.val / 128, by omega⟩ : Fin 8) (⟨q.val % 128, by omega⟩ : Fin 128)) ?_).trans ?_
  · rw [Shape.rowMajor_val_one, Shape.rowMajor_val_two]
    show (4 * k.val + q.val / 128) * 128 + q.val % 128 = 512 * k.val + q.val
    omega
  exact broadcastInDim_apply _ bcast_S8_S8x128_0 (Sk m c) _ _ (fun a => match a with
    | ⟨0, _⟩ => by show 4 * k.val + q.val / 128 = if (8 : ℕ) = 1 then 0 else 4 * k.val + q.val / 128; rw [if_neg (by decide)])

theorem idx (t : Fin cfg0.N) : (win0_0.index t 0 = t.val ∧ win0_0.index t 1 = 0) ∧ (win0_1.index t 0 = t.val ∧ win0_1.index t 1 = 4)
    ∧ (win0_2.index t 0 = 4 * t.val - 1 ∧ win0_2.index t 1 = 4) ∧ (win0_3.index t 0 = t.val ∧ win0_3.index t 1 = 5)
    ∧ (win0_4.index t 0 = 4 * t.val - 1 ∧ win0_4.index t 1 = 5) ∧ (win0_9.index t 0 = t.val ∧ win0_9.index t 1 = 0) ∧ (grid0.coords t 0).val = t.val :=
  (by decide +kernel : ∀ t : Fin grid0.N, (win0_0.index t 0 = t.val ∧ win0_0.index t 1 = 0) ∧ (win0_1.index t 0 = t.val ∧ win0_1.index t 1 = 4)
    ∧ (win0_2.index t 0 = 4 * t.val - 1 ∧ win0_2.index t 1 = 4) ∧ (win0_3.index t 0 = t.val ∧ win0_3.index t 1 = 5)
    ∧ (win0_4.index t 0 = 4 * t.val - 1 ∧ win0_4.index t 1 = 5) ∧ (win0_9.index t 0 = t.val ∧ win0_9.index t 1 = 0) ∧ (grid0.coords t 0).val = t.val) t

theorem idxR (t : Fin cfg0.N) : (win0_5.index t 0 = 0 ∧ win0_5.index t 1 = 0 ∧ win0_5.index t 2 = 0) ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0) :=
  (by decide +kernel : ∀ t : Fin grid0.N, (win0_5.index t 0 = 0 ∧ win0_5.index t 1 = 0 ∧ win0_5.index t 2 = 0) ∧ (win0_6.index t 0 = 0 ∧ win0_6.index t 1 = 0 ∧ win0_6.index t 2 = 0)
    ∧ (win0_7.index t 0 = 0 ∧ win0_7.index t 1 = 0) ∧ (win0_8.index t 0 = 0 ∧ win0_8.index t 1 = 0)) t

theorem blk0 (t : Fin cfg0.N) (r q : ℕ) (hr : r < 512) (hq : q < 512) :
    cell (X0_0 m c t : FVec Ideal S512x512 .f32) r q = cell (Z m c) (512 * t.val + r) q := by
  have hi := (idx t).1
  have ht : t.val < 16 := lt_of_lt_of_eq t.isLt N_0
  rw [cell_eq (X0_0 m c t : FVec Ideal S512x512 .f32) r q ⟨r, hr⟩ ⟨q, hq⟩ rfl rfl, cell_eq (Z m c) _ _ ⟨512 * t.val + r, by omega⟩ ⟨q, by omega⟩ rfl rfl]
  unfold X0_0 Pipeline.Window.fill
  rw [dif_pos (moved0_0 t _)]
  unfold iblk
  rw [View.read_apply]
  show (V m c main_arg0 : FVec Ideal S8192x1792 .f32) _ = _
  rw [V_main_arg0]
  refine congrArg (Z m c) (funext fun a => Fin.ext ?_)
  match a with
  | ⟨0, _⟩ =>
    show win0_0.index t 0 * 512 + 1 * r = 512 * t.val + r
    rw [hi.1]; omega
  | ⟨1, _⟩ =>
    show win0_0.index t 1 * 512 + 1 * q = q
    rw [hi.2]; omega

theorem blk1 (t : Fin cfg0.N) (r q : ℕ) (hr : r < 512) (hq : q < 128) :
    cell (iblk m c 1 t : FVec Ideal S512x128 .f32) r q = cell (Z m c) (512 * t.val + r) (512 + q) := by
  have hi := (idx t).2.1
  have ht : t.val < 16 := lt_of_lt_of_eq t.isLt N_0
  rw [cell_eq (iblk m c 1 t : FVec Ideal S512x128 .f32) r q ⟨r, hr⟩ ⟨q, hq⟩ rfl rfl, cell_eq (Z m c) _ _ ⟨512 * t.val + r, by omega⟩ ⟨512 + q, by omega⟩ rfl rfl]
  unfold iblk
  rw [View.read_apply]
  show (V m c main_arg0 : FVec Ideal S8192x1792 .f32) _ = _
  rw [V_main_arg0]
  refine congrArg (Z m c) (funext fun a => Fin.ext ?_)
  match a with
  | ⟨0, _⟩ =>
    show win0_1.index t 0 * 512 + 1 * r = 512 * t.val + r
    rw [hi.1]; omega
  | ⟨1, _⟩ =>
    show win0_1.index t 1 * 128 + 1 * q = 512 + q
    rw [hi.2]; omega

theorem blk3 (t : Fin cfg0.N) (r q : ℕ) (hr : r < 512) (hq : q < 128) :
    cell (iblk m c 3 t : FVec Ideal S512x128 .f32) r q = cell (Z m c) (512 * t.val + r) (640 + q) := by
  have hi := (idx t).2.2.2.1
  have ht : t.val < 16 := lt_of_lt_of_eq t.isLt N_0
  rw [cell_eq (iblk m c 3 t : FVec Ideal S512x128 .f32) r q ⟨r, hr⟩ ⟨q, hq⟩ rfl rfl, cell_eq (Z m c) _ _ ⟨512 * t.val + r, by omega⟩ ⟨640 + q, by omega⟩ rfl rfl]
  unfold iblk
  rw [View.read_apply]
  show (V m c main_arg0 : FVec Ideal S8192x1792 .f32) _ = _
  rw [V_main_arg0]
  refine congrArg (Z m c) (funext fun a => Fin.ext ?_)
  match a with
  | ⟨0, _⟩ =>
    show win0_3.index t 0 * 512 + 1 * r = 512 * t.val + r
    rw [hi.1]; omega
  | ⟨1, _⟩ =>
    show win0_3.index t 1 * 128 + 1 * q = 640 + q
    rw [hi.2]; omega

theorem blk2 (t : Fin cfg0.N) (r q : ℕ) (hr : r < 128) (hq : q < 128) :
    cell (iblk m c 2 t : FVec Ideal S128x128 .f32) r q = cell (Z m c) (128 * (4 * t.val - 1) + r) (512 + q) := by
  have hi := (idx t).2.2.1
  have ht : t.val < 16 := lt_of_lt_of_eq t.isLt N_0
  rw [cell_eq (iblk m c 2 t : FVec Ideal S128x128 .f32) r q ⟨r, hr⟩ ⟨q, hq⟩ rfl rfl, cell_eq (Z m c) _ _ ⟨128 * (4 * t.val - 1) + r, by omega⟩ ⟨512 + q, by omega⟩ rfl rfl]
  unfold iblk
  rw [View.read_apply]
  show (V m c main_arg0 : FVec Ideal S8192x1792 .f32) _ = _
  rw [V_main_arg0]
  refine congrArg (Z m c) (funext fun a => Fin.ext ?_)
  match a with
  | ⟨0, _⟩ =>
    show win0_2.index t 0 * 128 + 1 * r = 128 * (4 * t.val - 1) + r
    rw [hi.1]; omega
  | ⟨1, _⟩ =>
    show win0_2.index t 1 * 128 + 1 * q = 512 + q
    rw [hi.2]; omega

theorem blk4 (t : Fin cfg0.N) (r q : ℕ) (hr : r < 128) (hq : q < 128) :
    cell (iblk m c 4 t : FVec Ideal S128x128 .f32) r q = cell (Z m c) (128 * (4 * t.val - 1) + r) (640 + q) := by
  have hi := (idx t).2.2.2.2.1
  have ht : t.val < 16 := lt_of_lt_of_eq t.isLt N_0
  rw [cell_eq (iblk m c 4 t : FVec Ideal S128x128 .f32) r q ⟨r, hr⟩ ⟨q, hq⟩ rfl rfl, cell_eq (Z m c) _ _ ⟨128 * (4 * t.val - 1) + r, by omega⟩ ⟨640 + q, by omega⟩ rfl rfl]
  unfold iblk
  rw [View.read_apply]
  show (V m c main_arg0 : FVec Ideal S8192x1792 .f32) _ = _
  rw [V_main_arg0]
  refine congrArg (Z m c) (funext fun a => Fin.ext ?_)
  match a with
  | ⟨0, _⟩ =>
    show win0_4.index t 0 * 128 + 1 * r = 128 * (4 * t.val - 1) + r
    rw [hi.1]; omega
  | ⟨1, _⟩ =>
    show win0_4.index t 1 * 128 + 1 * q = 640 + q
    rw [hi.2]; omega

theorem blk5 (t : Fin cfg0.N) (k : Fin 2) (q : Fin 512) (j : Fin 128) : (iblk m c 5 t : FVec Ideal S2x512x128 .f32) (ix3 k q j) = B m c (ix3 k q j) := by
  have hi := (idxR t).1
  unfold iblk
  rw [View.read_apply]
  show (V m c main_arg1 : FVec Ideal S2x512x128 .f32) _ = _
  rw [V_main_arg1]
  refine congrArg (B m c) (funext fun a => Fin.ext ?_)
  match a with
  | ⟨0, _⟩ => show win0_5.index t 0 * 2 + 1 * k.val = k.val; rw [hi.1]; omega
  | ⟨1, _⟩ => show win0_5.index t 1 * 512 + 1 * q.val = q.val; rw [hi.2.1]; omega
  | ⟨2, _⟩ => show win0_5.index t 2 * 128 + 1 * j.val = j.val; rw [hi.2.2]; omega

theorem blk6 (t : Fin cfg0.N) (k : Fin 2) (q : Fin 512) :
    (iblk m c 6 t : FVec Ideal S2x512x1 .f32) (ix3 k q (0 : Fin 1)) = Sk m c (ix1 ⟨4 * k.val + q.val / 128, by omega⟩) := by
  have hi := (idxR t).2.1
  unfold iblk
  rw [View.read_apply]
  refine Eq.trans ?_ (v2_apply m c k q)
  show (V m c main_v2 : FVec Ideal S2x512x1 .f32) _ = _
  refine congrArg (V m c main_v2 : FVec Ideal S2x512x1 .f32) (funext fun a => Fin.ext ?_)
  match a with
  | ⟨0, _⟩ => show win0_6.index t 0 * 2 + 1 * k.val = k.val; rw [hi.1]; omega
  | ⟨1, _⟩ => show win0_6.index t 1 * 512 + 1 * q.val = q.val; rw [hi.2.1]; omega
  | ⟨2, _⟩ => show win0_6.index t 2 * 1 + 1 * 0 = 0; rw [hi.2.2]

theorem blk7 (t : Fin cfg0.N) (k : Fin 64) : (iblk m c 7 t : FVec Ideal S1x64 .f32) (ix2 (0 : Fin 1) k) = Qg m c (ix1 k) := by
  have hi := (idxR t).2.2.1
  unfold iblk
  rw [View.read_apply]
  refine Eq.trans ?_ ((congrFun (v3_eq m c) (ix2 (0 : Fin 1) k)).trans (as_row _ k))
  show (V m c main_v3 : FVec Ideal S1x64 .f32) _ = _
  refine congrArg (V m c main_v3 : FVec Ideal S1x64 .f32) (funext fun a => Fin.ext ?_)
  match a with
  | ⟨0, _⟩ => show win0_7.index t 0 * 1 + 1 * 0 = 0; rw [hi.1]
  | ⟨1, _⟩ => show win0_7.index t 1 * 64 + 1 * k.val = k.val; rw [hi.2]; omega

theorem blk8 (t : Fin cfg0.N) (k : Fin 64) : (iblk m c 8 t : FVec Ideal S1x64 .f32) (ix2 (0 : Fin 1) k) = Kg m c (ix1 k) := by
  have hi := (idxR t).2.2.2
  unfold iblk
  rw [View.read_apply]
  refine Eq.trans ?_ ((congrFun (v4_eq m c) (ix2 (0 : Fin 1) k)).trans (as_row _ k))
  show (V m c main_v4 : FVec Ideal S1x64 .f32) _ = _
  refine congrArg (V m c main_v4 : FVec Ideal S1x64 .f32) (funext fun a => Fin.ext ?_)
  match a with
  | ⟨0, _⟩ => show win0_8.index t 0 * 1 + 1 * 0 = 0; rw [hi.1]
  | ⟨1, _⟩ => show win0_8.index t 1 * 64 + 1 * k.val = k.val; rw [hi.2]; omega

/-- What lies before a tile's entry, in the whole array. -/
theorem before_at (x : FVec Ideal S128x128 .f32) (y : FVec Ideal S512x128 .f32) (o t : ℕ)
    (hx : ∀ r q, r < 128 → q < 128 → cell x r q = cell (Z m c) (128 * (4 * t - 1) + r) (o + q))
    (hy : ∀ r q, r < 512 → q < 128 → cell y r q = cell (Z m c) (512 * t + r) (o + q)) (i : ℕ) (hi : i < 4) (r q : ℕ) (hr : r < 128) (hq : q < 128) :
    before x y i r q = cell (Z m c) (128 * (4 * t + i - 1) + r) (o + q) := by
  match i, hi with
  | 0, _ => exact hx r q hr hq
  | i + 1, hi =>
    refine (hy (128 * i + r) q (by omega) hq).trans (congrArg (fun n => cell (Z m c) n (o + q)) ?_)
    omega

theorem row_eq (t : Fin cfg0.N) (i : ℕ) (hi : i < 4) (k : Fin 2) (g a : ℕ) (hg : g < 4) (ha : a < 128) (q : Fin 512) (d : Fin 64) :
    row t.val (X0_0 m c t) (iblk m c 1 t) (iblk m c 2 t) (iblk m c 3 t) (iblk m c 4 t) (iblk m c 5 t) (iblk m c 6 t) (iblk m c 7 t) (iblk m c 8 t) i k g a q d
      = whole (Z m c) (B m c) (Sk m c) (Qg m c) (Kg m c) (4 * t.val + i) k g a q d := by
  have hk := k.isLt
  have eq : ∀ e : Fin 64, cell (X0_0 m c t : FVec Ideal S512x512 .f32) (128 * i + a) (64 * (4 * k.val + g) + e.val)
      = cell (Z m c) (128 * (4 * t.val + i) + a) (64 * (4 * k.val + g) + e.val) := fun e => by
    have he := e.isLt
    refine (blk0 m c t _ _ (by omega) (by omega)).trans (congrArg (fun n => cell (Z m c) n _) ?_)
    omega
  have ek : ∀ (j : Fin 128) (e : Fin 64), cell (iblk m c 1 t : FVec Ideal S512x128 .f32) (128 * i + j.val) (64 * k.val + e.val)
      = cell (Z m c) (128 * (4 * t.val + i) + j.val) (512 + (64 * k.val + e.val)) := fun j e => by
    have he := e.isLt
    have hj := j.isLt
    refine (blk1 m c t _ _ (by omega) (by omega)).trans (congrArg (fun n => cell (Z m c) n _) ?_)
    omega
  have ev : ∀ (j : Fin 128) (e : Fin 64), cell (iblk m c 3 t : FVec Ideal S512x128 .f32) (128 * i + j.val) (64 * k.val + e.val)
      = cell (Z m c) (128 * (4 * t.val + i) + j.val) (640 + (64 * k.val + e.val)) := fun j e => by
    have he := e.isLt
    have hj := j.isLt
    refine (blk3 m c t _ _ (by omega) (by omega)).trans (congrArg (fun n => cell (Z m c) n _) ?_)
    omega
  have bk : ∀ (j : Fin 128) (e : Fin 64), before (iblk m c 2 t) (iblk m c 1 t) i j.val (64 * k.val + e.val)
      = cell (Z m c) (128 * (4 * t.val + i - 1) + j.val) (512 + (64 * k.val + e.val)) := fun j e => by
    have he := e.isLt
    exact before_at m c _ _ 512 t.val (blk2 m c t) (blk1 m c t) i hi _ _ j.isLt (by omega)
  have bv : ∀ (j : Fin 128) (e : Fin 64), before (iblk m c 4 t) (iblk m c 3 t) i j.val (64 * k.val + e.val)
      = cell (Z m c) (128 * (4 * t.val + i - 1) + j.val) (640 + (64 * k.val + e.val)) := fun j e => by
    have he := e.isLt
    exact before_at m c _ _ 640 t.val (blk4 m c t) (blk3 m c t) i hi _ _ j.isLt (by omega)
  unfold row whole logits query key value
  rw [logit_congr (P := i = 0 ∧ t.val = 0) (Q := 4 * t.val + i = 0) (by omega)]
  simp only [eq, ek, ev, bk, bv, blk5, blk6, blk7, blk8]

/-- Row `p` of block `t`. -/
def rowOf (t : ℕ) (p : Fin 512) : Fin 8192 := ⟨(t * 512 + p.val) % 8192, Nat.mod_lt _ (by norm_num)⟩

theorem rowOf_val (t : ℕ) (h : t < 16) (p : Fin 512) : (rowOf t p).val = t * 512 + p.val :=
  Nat.mod_eq_of_lt (by have := p.isLt; omega)

/-- The goal of the arguments. -/
abbrev G : FVec Ideal S8192x512 .f32 := goal (Z m c) (B m c) (Sk m c) (Qg m c) (Kg m c)

theorem tile_eq (t : Fin cfg0.N) (p j : Fin 512) :
    tile t.val (X0_0 m c t) (iblk m c 1 t) (iblk m c 2 t) (iblk m c 3 t) (iblk m c 4 t) (iblk m c 5 t) (iblk m c 6 t) (iblk m c 7 t) (iblk m c 8 t) p j
      = G m c (ix2 (rowOf t.val p) j) := by
  have ht : t.val < 16 := lt_of_lt_of_eq t.isLt N_0
  have hp := p.isLt
  have e1 : (rowOf t.val p).val / 128 = 4 * t.val + p.val / 128 := by rw [rowOf_val _ ht]; omega
  have e2 : (rowOf t.val p).val % 128 = p.val % 128 := by rw [rowOf_val _ ht]; omega
  unfold tile
  rw [row_eq m c t (p.val / 128) (by omega) _ _ _ (by omega) (by omega)]
  show _ = whole (Z m c) (B m c) (Sk m c) (Qg m c) (Kg m c) ((rowOf t.val p).val / 128) _ (j.val / 64 % 4) ((rowOf t.val p).val % 128) ⟨128 * (j.val / 64 % 4) + (rowOf t.val p).val % 128, _⟩ _
  simp only [e1, e2]

theorem final9 : (dats m 0 c).arrAt 9 cfg0.N = G m c :=
  (dats m 0 c).arrAt_eq_of_cover 9 (G m c) (fun t _ => by
    have hi := (idx t).2.2.2.2.2
    have ht : t.val < 16 := lt_of_lt_of_eq t.isLt N_0
    rw [Value.flushed9_A]
    funext j
    rw [View.read_apply]
    obtain ⟨p, k, rfl⟩ : ∃ p k, j = ix2 p k := ⟨j 0, j 1, eq_ix2 j⟩
    refine ((out_at c (grid0.coords t) _ _ _ _ _ _ _ _ _ _ _ _ _ _ _ _ _ _ _ _ _ _ _ _ _ _ _ _ _ t.val ht hi.2 p k).trans (tile_eq m c t p k)).trans ?_
    refine congrArg (G m c) (funext fun a => Fin.ext ?_)
    match a with
    | ⟨0, _⟩ =>
      show (rowOf t.val p).val = win0_9.index t 0 * 512 + 1 * p.val
      rw [rowOf_val _ ht, hi.1.1]; omega
    | ⟨1, _⟩ =>
      show k.val = win0_9.index t 1 * 512 + 1 * k.val
      rw [hi.1.2]; omega) fun i => by
    have hN : cfg0.N = 16 := N_0
    have h0 : (i 0 : Nat) < 8192 := (i 0).isLt
    have h1 : (i 1 : Nat) < 512 := (i 1).isLt
    have ht : (i 0 : Nat) / 512 < cfg0.N := by omega
    have hi := (idx ⟨(i 0 : Nat) / 512, ht⟩).2.2.2.2.2.1
    refine ⟨⟨(i 0 : Nat) / 512, ht⟩, flush0_9 _, ?_⟩
    show i ∈ ((View.whole main_v5).slice (win0_9.rect ⟨(i 0 : Nat) / 512, ht⟩)).set
    rw [View.set_slice_whole, Rect.mem_set_unit]
    intro x
    match x with
    | ⟨0, _⟩ =>
      show win0_9.index _ 0 * 512 ≤ (i 0 : Nat) ∧ (i 0 : Nat) < win0_9.index _ 0 * 512 + 512
      rw [hi.1]; dsimp only; omega
    | ⟨1, _⟩ =>
      show win0_9.index _ 1 * 512 ≤ (i 1 : Nat) ∧ (i 1 : Nat) < win0_9.index _ 1 * 512 + 512
      rw [hi.2]; omega

end Cert.AttnGoal

end
-- ==== Proof.AttnBand.lean ====
/- What the reference's attention looks at: its queries, keys and values, the two stretches of keys and values that a block
   of rows sees, the biases, and which keys a row may look at. -/
module

public import proofs.«01_k».proof.Proof.AttnGoal
public import proofs.«01_k».proof.Proof.Gen.Reference20Ideal.Read
public import Idealize.ShloMosaic.Lib.KernelVsHost

@[expose] public section

set_option maxRecDepth 16384

noncomputable section

namespace Cert.AttnBand

open Idealize.ShloMosaic Idealize.ShloMosaic.ValueIdx Idealize.ShloMosaic.TcCoe
open Cert.AttnMath Cert.AttnOut Cert.AttnGoal Cert.Reference20Ideal Cert.Reference20Ideal.Gen Cert.Reference20Ideal.Read

variable (Z : FVec Ideal S8192x1792 .f32) (B : FVec Ideal S2x512x128 .f32) (Qg Kg : FVec Ideal S64 .f32)

/-! ## Queries, keys and values -/

theorem v1_at (r : Fin 8192) (h : Fin 8) (d : Fin 64) :
    val_main_v1 (F := Ideal) Z (ix3 r h d) = cell Z r.val (64 * h.val + d.val) := by
  rw [val_main_v1_apply, val_main_v0_apply, cell_eq Z r.val (64 * h.val + d.val) r ⟨64 * h.val + d.val, by omega⟩ rfl rfl]
  refine congrArg Z (funext fun a => Fin.ext ?_)
  match a with
  | ⟨0, _⟩ => show ((r.val * 8 + h.val) * 64 + d.val) / 512 = r.val; omega
  | ⟨1, _⟩ => show ((r.val * 8 + h.val) * 64 + d.val) % 512 = 64 * h.val + d.val; omega

theorem v14_at (r : Fin 8192) (h : Fin 8) (d : Fin 64) :
    val_main_v14 (F := Ideal) Z Qg (ix3 r h d) = query Z Qg r.val h.val d := by
  rw [val_main_v14_apply, val_main_v11_apply, val_main_v10_apply, val_main_v9_apply, val_main_v8_apply, val_main_v6_apply,
    val_main_v4_apply, val_main_v3_apply, val_main_v13_apply, val_main_v12_apply, val_main_v5_apply, val_main_v7_apply]
  unfold query AttnMath.unit
  refine congrArg₂ (· * ·) (congrArg₂ (· * ·) (v1_at Z r h d) (congrArg Ideal.rsqrt (congrArg₂ (· + ·) (congrArg₂ Ideal.div
    ((congrArg₂ (· + ·) Ideal.ofBits_zero_f32 (Finset.sum_congr rfl fun q _ => ?_)).trans (zero_add _)) rfl) rfl)))
    (congrArg Qg (funext fun a => match a with | ⟨0, _⟩ => rfl))
  have e : val_main_v1 (F := Ideal) Z (idx_main_v3 (idx_main_v4 (idx_main_v10 (ix3 r h d))) q) = _ :=
    (congrArg (val_main_v1 (F := Ideal) Z) (funext fun a => match a with | ⟨0, _⟩ => rfl | ⟨1, _⟩ => rfl | ⟨2, _⟩ => rfl)).trans (v1_at Z r h q)
  rw [val_main_v2_apply]
  exact congrArg₂ (· * ·) e e

theorem v16_at (r : Fin 8192) (k : Fin 2) (d : Fin 64) :
    val_main_v16 (F := Ideal) Z (ix3 r k d) = cell Z r.val (512 + (64 * k.val + d.val)) := by
  rw [val_main_v16_apply, val_main_v15_apply, cell_eq Z r.val (512 + (64 * k.val + d.val)) r ⟨512 + (64 * k.val + d.val), by omega⟩ rfl rfl]
  refine congrArg Z (funext fun a => Fin.ext ?_)
  match a with
  | ⟨0, _⟩ => show ((r.val * 2 + k.val) * 64 + d.val) / 128 = r.val; omega
  | ⟨1, _⟩ => show 512 + ((r.val * 2 + k.val) * 64 + d.val) % 128 = 512 + (64 * k.val + d.val); omega

theorem v29_at (r : Fin 8192) (k : Fin 2) (d : Fin 64) :
    val_main_v29 (F := Ideal) Z Kg (ix3 r k d) = key Z Kg r.val k.val d := by
  rw [val_main_v29_apply, val_main_v26_apply, val_main_v25_apply, val_main_v24_apply, val_main_v23_apply, val_main_v21_apply,
    val_main_v19_apply, val_main_v18_apply, val_main_v28_apply, val_main_v27_apply, val_main_v20_apply, val_main_v22_apply]
  unfold key AttnMath.unit
  refine congrArg₂ (· * ·) (congrArg₂ (· * ·) (v16_at Z r k d) (congrArg Ideal.rsqrt (congrArg₂ (· + ·) (congrArg₂ Ideal.div
    ((congrArg₂ (· + ·) Ideal.ofBits_zero_f32 (Finset.sum_congr rfl fun q _ => ?_)).trans (zero_add _)) rfl) rfl)))
    (congrArg Kg (funext fun a => match a with | ⟨0, _⟩ => rfl))
  have e : val_main_v16 (F := Ideal) Z (idx_main_v18 (idx_main_v19 (idx_main_v25 (ix3 r k d))) q) = _ :=
    (congrArg (val_main_v16 (F := Ideal) Z) (funext fun a => match a with | ⟨0, _⟩ => rfl | ⟨1, _⟩ => rfl | ⟨2, _⟩ => rfl)).trans (v16_at Z r k q)
  rw [val_main_v17_apply]
  exact congrArg₂ (· * ·) e e

theorem v31_at (r : Fin 8192) (k : Fin 2) (d : Fin 64) :
    val_main_v31 (F := Ideal) Z (ix3 r k d) = value Z r.val k.val d := by
  unfold value
  rw [val_main_v31_apply, val_main_v30_apply, cell_eq Z r.val (640 + (64 * k.val + d.val)) r ⟨640 + (64 * k.val + d.val), by omega⟩ rfl rfl]
  refine congrArg Z (funext fun a => Fin.ext ?_)
  match a with
  | ⟨0, _⟩ => show ((r.val * 2 + k.val) * 64 + d.val) / 128 = r.val; omega
  | ⟨1, _⟩ => show 640 + ((r.val * 2 + k.val) * 64 + d.val) % 128 = 640 + (64 * k.val + d.val); omega

/-! ## The two stretches of keys and values -/

/-- A row of the padded array that lies behind the padding. -/
theorem pad_at (x : FVec Ideal S8192x2x64 .f32) (v : FVec Ideal S_ .f32) (P : Fin 8320) (R : Fin 8192) (hR : P.val = 128 + R.val) (k : Fin 2) (d : Fin 64) :
    pad S8320x2x64 ![128, 0, 0] ![0, 0, 0] ![0, 0, 0] x v pads_S8192x2x64_S8320x2x64_12800_000_000 h_S_ (ix3 P k d) = x (ix3 R k d) := by
  refine pad_apply_of_inside _ _ _ x v _ _ _ (ix3 R k d) fun a => ?_
  match a with
  | ⟨0, _⟩ => show P.val = 128 + R.val * (0 + 1); omega
  | ⟨1, _⟩ => show k.val = 0 + k.val * (0 + 1); omega
  | ⟨2, _⟩ => show d.val = 0 + d.val * (0 + 1); omega

theorem v56_at (b : Fin 64) (hb : b.val ≠ 0) (j : Fin 128) (k : Fin 2) (d : Fin 64) :
    val_main_v56 (F := Ideal) Z Kg (ix4 b j k d) = key Z Kg (128 * (b.val - 1) + j.val) k.val d := by
  rw [val_main_v56_apply, val_main_v55_apply]
  refine Eq.trans ?_ (v29_at Z Kg ⟨128 * (b.val - 1) + j.val, by omega⟩ k d)
  refine Eq.trans (congrArg (val_main_v54 (F := Ideal) Z Kg) (a₂ := ix3 (⟨128 * b.val + j.val, by omega⟩ : Fin 8320) k d) (funext fun a => Fin.ext ?_))
    (pad_at _ _ _ _ (by show 128 * b.val + j.val = 128 + (128 * (b.val - 1) + j.val); omega) k d)
  match a with
  | ⟨0, _⟩ => show (((b.val * 128 + j.val) * 2 + k.val) * 64 + d.val) / 128 = 128 * b.val + j.val; omega
  | ⟨1, _⟩ => show (((b.val * 128 + j.val) * 2 + k.val) * 64 + d.val) / 64 % 2 = k.val; omega
  | ⟨2, _⟩ => show (((b.val * 128 + j.val) * 2 + k.val) * 64 + d.val) % 64 = d.val; omega

theorem v57_at (b : Fin 64) (j : Fin 128) (k : Fin 2) (d : Fin 64) :
    val_main_v57 (F := Ideal) Z Kg (ix4 b j k d) = key Z Kg (128 * b.val + j.val) k.val d := by
  rw [val_main_v57_apply]
  refine Eq.trans (congrArg (val_main_v29 (F := Ideal) Z Kg) (funext fun a => Fin.ext ?_)) (v29_at Z Kg ⟨128 * b.val + j.val, by omega⟩ k d)
  match a with
  | ⟨0, _⟩ => show (((b.val * 128 + j.val) * 2 + k.val) * 64 + d.val) / 128 = 128 * b.val + j.val; omega
  | ⟨1, _⟩ => show (((b.val * 128 + j.val) * 2 + k.val) * 64 + d.val) / 64 % 2 = k.val; omega
  | ⟨2, _⟩ => show (((b.val * 128 + j.val) * 2 + k.val) * 64 + d.val) % 64 = d.val; omega

theorem v86_at (b : Fin 64) (hb : b.val ≠ 0) (j : Fin 128) (k : Fin 2) (d : Fin 64) :
    val_main_v86 (F := Ideal) Z (ix4 b j k d) = value Z (128 * (b.val - 1) + j.val) k.val d := by
  rw [val_main_v86_apply, val_main_v85_apply]
  refine Eq.trans ?_ (v31_at Z ⟨128 * (b.val - 1) + j.val, by omega⟩ k d)
  refine Eq.trans (congrArg (val_main_v84 (F := Ideal) Z) (a₂ := ix3 (⟨128 * b.val + j.val, by omega⟩ : Fin 8320) k d) (funext fun a => Fin.ext ?_))
    (pad_at _ _ _ _ (by show 128 * b.val + j.val = 128 + (128 * (b.val - 1) + j.val); omega) k d)
  match a with
  | ⟨0, _⟩ => show (((b.val * 128 + j.val) * 2 + k.val) * 64 + d.val) / 128 = 128 * b.val + j.val; omega
  | ⟨1, _⟩ => show (((b.val * 128 + j.val) * 2 + k.val) * 64 + d.val) / 64 % 2 = k.val; omega
  | ⟨2, _⟩ => show (((b.val * 128 + j.val) * 2 + k.val) * 64 + d.val) % 64 = d.val; omega

theorem v87_at (b : Fin 64) (j : Fin 128) (k : Fin 2) (d : Fin 64) :
    val_main_v87 (F := Ideal) Z (ix4 b j k d) = value Z (128 * b.val + j.val) k.val d := by
  rw [val_main_v87_apply]
  refine Eq.trans (congrArg (val_main_v31 (F := Ideal) Z) (funext fun a => Fin.ext ?_)) (v31_at Z ⟨128 * b.val + j.val, by omega⟩ k d)
  match a with
  | ⟨0, _⟩ => show (((b.val * 128 + j.val) * 2 + k.val) * 64 + d.val) / 128 = 128 * b.val + j.val; omega
  | ⟨1, _⟩ => show (((b.val * 128 + j.val) * 2 + k.val) * 64 + d.val) / 64 % 2 = k.val; omega
  | ⟨2, _⟩ => show (((b.val * 128 + j.val) * 2 + k.val) * 64 + d.val) % 64 = d.val; omega

section Two

variable (x y : FVec Ideal S64x128x2x64 .f32) (b : Fin 64) (s : Fin 256) (j : Fin 128) (k : Fin 2) (d : Fin 64)

theorem two_lo (hs : s.val = j.val) :
    concatenate S64x256x2x64 1 [⟨S64x128x2x64, x⟩, ⟨S64x128x2x64, y⟩] concatenates_S64x128x2x64_S64x128x2x64_S64x256x2x64_d1 (ix4 b s k d) = x (ix4 b j k d) := by
  refine concatenate_pair_apply_left (t := S64x256x2x64) (s₁ := S64x128x2x64) (s₂ := S64x128x2x64) (1 : Fin 4) _ _ _ (ix4 b s k d) rfl (ix4 b j k d) fun a => ?_
  match a with
  | ⟨0, _⟩ => rfl
  | ⟨1, _⟩ => exact hs.symm
  | ⟨2, _⟩ => rfl
  | ⟨3, _⟩ => rfl

theorem two_hi (hs : s.val = 128 + j.val) :
    concatenate S64x256x2x64 1 [⟨S64x128x2x64, x⟩, ⟨S64x128x2x64, y⟩] concatenates_S64x128x2x64_S64x128x2x64_S64x256x2x64_d1 (ix4 b s k d) = y (ix4 b j k d) := by
  refine concatenate_pair_apply_right (t := S64x256x2x64) (s₁ := S64x128x2x64) (s₂ := S64x128x2x64) (1 : Fin 4) _ _ _ (ix4 b s k d) rfl rfl (ix4 b j k d) (fun a => ?_) ?_
  · match a with
    | ⟨0, _⟩ => exact fun _ => rfl
    | ⟨1, _⟩ => exact fun h => absurd rfl h
    | ⟨2, _⟩ => exact fun _ => rfl
    | ⟨3, _⟩ => exact fun _ => rfl
  · show j.val + 128 = s.val; omega

end Two

/-! ## The biases -/

theorem v33_at (k : Fin 2) (g : Fin 4) (q : Fin 128) (s : Fin 256) (j : Fin 128) (hs : s.val = j.val ∨ s.val = 128 + j.val) :
    val_main_v33 (F := Ideal) B (ix4 k g q s) = B (ix3 k (⟨128 * g.val + q.val, by omega⟩ : Fin 512) j) := by
  rw [val_main_v33_apply]
  have hk := k.isLt
  have hg := g.isLt
  have hq := q.isLt
  have hj := s.isLt
  refine Eq.trans (congrArg (val_main_v32 (F := Ideal) B) (a₂ := ix3 k (⟨128 * g.val + q.val, by omega⟩ : Fin 512) s) (funext fun a => Fin.ext ?_)) ?_
  · match a with
    | ⟨0, _⟩ => show (((k.val * 4 + g.val) * 128 + q.val) * 256 + s.val) / 131072 = k.val; omega
    | ⟨1, _⟩ => show (((k.val * 4 + g.val) * 128 + q.val) * 256 + s.val) / 256 % 512 = 128 * g.val + q.val; omega
    | ⟨2, _⟩ => show (((k.val * 4 + g.val) * 128 + q.val) * 256 + s.val) % 256 = s.val; omega
  · unfold val_main_v32
    rcases hs with hs | hs
    · refine concatenate_pair_apply_left (t := S2x512x256) (s₁ := S2x512x128) (s₂ := S2x512x128) (2 : Fin 3) _ _ _ (ix3 k _ s) rfl (ix3 k _ j) fun a => ?_
      match a with
      | ⟨0, _⟩ => rfl
      | ⟨1, _⟩ => rfl
      | ⟨2, _⟩ => exact hs.symm
    · refine concatenate_pair_apply_right (t := S2x512x256) (s₁ := S2x512x128) (s₂ := S2x512x128) (2 : Fin 3) _ _ _ (ix3 k _ s) rfl rfl (ix3 k _ j) (fun a => ?_) ?_
      · match a with
        | ⟨0, _⟩ => exact fun _ => rfl
        | ⟨1, _⟩ => exact fun _ => rfl
        | ⟨2, _⟩ => exact fun h => absurd rfl h
      · show j.val + 128 = s.val; omega

/-! ## Which keys a row may look at -/

theorem small {a : ℤ} (h : -2147483648 ≤ a) (h' : a < 2147483648) : a.bmod (2 ^ 32) = a := by
  apply Int.bmod_eq_of_le <;> omega

theorem add_int {x y : BitVec 32} {a b : ℤ} (hx : x.toInt = a) (hy : y.toInt = b) (h : -2147483648 ≤ a + b) (h' : a + b < 2147483648) :
    (IntOp.addi x y).toInt = a + b := by
  show (x + y).toInt = _
  rw [BitVec.toInt_add, hx, hy, small h h']

theorem sub_int {x y : BitVec 32} {a b : ℤ} (hx : x.toInt = a) (hy : y.toInt = b) (h : -2147483648 ≤ a - b) (h' : a - b < 2147483648) :
    (IntOp.subi x y).toInt = a - b := by
  show (x - y).toInt = _
  rw [BitVec.toInt_sub, hx, hy, small h h']

theorem mul_int {x y : BitVec 32} {a b : ℤ} (hx : x.toInt = a) (hy : y.toInt = b) (h : -2147483648 ≤ a * b) (h' : a * b < 2147483648) :
    (IntOp.muli x y).toInt = a * b := by
  show (x * y).toInt = _
  rw [BitVec.toInt_mul, hx, hy, small h h']

theorem nat_int {a : ℕ} (h : a < 2147483648) : (BitVec.ofNat 32 a).toInt = (a : ℤ) :=
  WordCmp.toInt_ofNat_of_lt (w := 32) h

theorem mask_at (b : Fin 64) (k : Fin 2) (g : Fin 4) (q : Fin 128) (s : Fin 256) :
    val_main_v52 (F := Ideal) (ix5 b k g q s) = BitVec.ofBool (decide (s.val ≤ q.val + 128 ∧ q.val < s.val ∧ 128 ≤ 128 * b.val + s.val)) := by
  have hq := q.isLt
  have hs := s.isLt
  have hb := b.isLt
  have e39 : (val_main_v39 (F := Ideal) (ix5 b k g q s)).toInt = (q.val : ℤ) + 128 - s.val := by
    rw [val_main_v39_apply, val_main_v38_apply, val_main_v35_apply, val_main_v37_apply, val_main_v36_apply]
    refine sub_int (add_int (nat_int ?_) (nat_int (a := 128) (by omega)) ?_ ?_) (nat_int ?_) ?_ ?_
    · show q.val < _; omega
    · show -2147483648 ≤ (q.val : ℤ) + 128; omega
    · show (q.val : ℤ) + 128 < _; omega
    · show s.val < _; omega
    · show -2147483648 ≤ (q.val : ℤ) + 128 - s.val; omega
    · show (q.val : ℤ) + 128 - s.val < _; omega
  have e49 : (val_main_v49 (F := Ideal) (ix5 b k g q s)).toInt = ((b.val : ℤ) - 1) * 128 + s.val := by
    rw [val_main_v49_apply, val_main_v48_apply, val_main_v46_apply, val_main_v34_apply, val_main_v45_apply, val_main_v47_apply, val_main_v36_apply]
    refine add_int (mul_int (sub_int (nat_int ?_) (nat_int (a := 1) (by omega)) ?_ ?_) (nat_int (a := 128) (by omega)) ?_ ?_) (nat_int ?_) ?_ ?_
    · show b.val < _; omega
    · show -2147483648 ≤ (b.val : ℤ) - 1; omega
    · show (b.val : ℤ) - 1 < _; omega
    · show -2147483648 ≤ ((b.val : ℤ) - 1) * 128; omega
    · show ((b.val : ℤ) - 1) * 128 < _; omega
    · show s.val < _; omega
    · show -2147483648 ≤ ((b.val : ℤ) - 1) * 128 + s.val; omega
    · show ((b.val : ℤ) - 1) * 128 + s.val < _; omega
  have e40 : (val_main_v40 (F := Ideal) (ix5 b k g q s)).toInt = 0 := by rw [val_main_v40_apply]; rfl
  have e42 : (val_main_v42 (F := Ideal) (ix5 b k g q s)).toInt = 128 := by rw [val_main_v42_apply]; rfl
  have e50 : (val_main_v50 (F := Ideal) (ix5 b k g q s)).toInt = 0 := by rw [val_main_v50_apply]; rfl
  rw [val_main_v52_apply, val_main_v44_apply, val_main_v41_apply, val_main_v43_apply, val_main_v51_apply, WordCmp.cmpi_sge_eq, WordCmp.cmpi_slt_eq,
    WordCmp.cmpi_sge_eq, e39, e49, e40, e42, e50, WordCmp.andi_ofBool, WordCmp.andi_ofBool, ← Bool.decide_and, ← Bool.decide_and]
  refine congrArg BitVec.ofBool (decide_eq_decide.mpr ?_)
  omega

end Cert.AttnBand

end
-- ==== Proof.AttnFwd.lean ====
/- The attention's forward kernel and its reference have the same results. The reference lets each row look at two
   stretches of 128 keys, minus infinity where the row may not look; the kernel folds the two into one stretch, since a row
   looks at exactly one of the two keys that share a place. With finite arguments a key that may not be looked at has no
   weight, and the two ways agree. -/
module

public import proofs.«01_k».proof.Proof.AttnBand
public import proofs.«01_k».proof.Proof.Gen.Reference20Ideal.Run
public import proofs.«01_k».proof.Proof.Gen.Pre_finite20
public import proofs.«01_k».proof.Proof.Finite
public import Idealize.ShloMosaic.Lib.Pointwise.Reduce
public import proofs.«01_k».proof.Defs

@[expose] public section

set_option maxRecDepth 16384

noncomputable section

namespace Cert.AttnFwd

open Idealize.ShloMosaic hiding ix1 ix2 ix3 ix4 ix5 eq_ix1 eq_ix2 eq_ix3 eq_ix4 eq_ix5
open Idealize.ShloMosaic.ValueIdx Idealize.ShloMosaic.TcCoe Idealize.SL.Sem
open Cert.AttnMath Cert.AttnOut Cert.AttnGoal Cert.AttnBand

section Reference

open Cert.Reference20Ideal Cert.Reference20Ideal.Gen Cert.Reference20Ideal.Read

variable (Z : FVec Ideal S8192x1792 .f32) (B : FVec Ideal S2x512x128 .f32) (Sk : FVec Ideal S8 .f32) (Qg Kg : FVec Ideal S64 .f32)

/-! ## The logits -/

theorem v53_at (b : Fin 64) (q : Fin 128) (k : Fin 2) (g : Fin 4) (e : Fin 64) :
    val_main_v53 (F := Ideal) Z Qg (ix5 b q k g e) = query Z Qg (128 * b.val + q.val) (4 * k.val + g.val) e := by
  rw [val_main_v53_apply]
  have hb := b.isLt
  have hq := q.isLt
  have hk := k.isLt
  have hg := g.isLt
  have he := e.isLt
  refine Eq.trans (congrArg (val_main_v14 (F := Ideal) Z Qg) (funext fun a => Fin.ext ?_))
    (v14_at Z Qg ⟨128 * b.val + q.val, by omega⟩ ⟨4 * k.val + g.val, by omega⟩ e)
  match a with
  | ⟨0, _⟩ => show ((((b.val * 128 + q.val) * 2 + k.val) * 4 + g.val) * 64 + e.val) / 512 = 128 * b.val + q.val; omega
  | ⟨1, _⟩ => show ((((b.val * 128 + q.val) * 2 + k.val) * 4 + g.val) * 64 + e.val) / 64 % 8 = 4 * k.val + g.val; omega
  | ⟨2, _⟩ => show ((((b.val * 128 + q.val) * 2 + k.val) * 4 + g.val) * 64 + e.val) % 64 = e.val; omega

/-- A logit before the mask, in terms of the key at its place. -/
theorem v65_at (b : Fin 64) (k : Fin 2) (g : Fin 4) (q : Fin 128) (s : Fin 256) (j : Fin 128) (hs : s.val = j.val ∨ s.val = 128 + j.val)
    (K : Fin 64 → EReal) (hK : ∀ e, val_main_v58 (F := Ideal) Z Kg (ix4 b s k e) = K e) :
    val_main_v65 (F := Ideal) Z B Qg Kg (ix5 b k g q s)
      = dot (query Z Qg (128 * b.val + q.val) (4 * k.val + g.val)) K * eighth + B (ix3 k (⟨128 * g.val + q.val, by omega⟩ : Fin 512) j) := by
  rw [val_main_v65_apply, val_main_v62_apply, val_main_v60_apply, val_main_v59_apply, val_main_v61_apply, val_main_v64_apply, val_main_v63_apply]
  refine congrArg₂ (· + ·) (congrArg₂ (· * ·) (Finset.sum_congr rfl fun e _ => ?_) rfl) ?_
  · refine (congrArg₂ (· * ·) ((congrArg (val_main_v58 (F := Ideal) Z Kg) (funext fun a => ?_)).trans (hK e))
      ((congrArg (val_main_v53 (F := Ideal) Z Qg) (funext fun a => ?_)).trans (v53_at Z Qg b q k g e))).trans (mul_comm _ _)
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
      | ⟨4, _⟩ => rfl
  · refine (congrArg (val_main_v33 (F := Ideal) B) (funext fun a => ?_)).trans (v33_at B k g q s j hs)
    match a with
    | ⟨0, _⟩ => rfl
    | ⟨1, _⟩ => rfl
    | ⟨2, _⟩ => rfl
    | ⟨3, _⟩ => rfl

theorem minus_infinity : (FloatOps.ofBits (F := Ideal) .f32 0xFF800000#32 : EReal) = ⊥ := by
  show Ideal.ofBits .f32 0xFF800000#32 = ⊥
  simp [Ideal.ofBits, Ideal.ieee]

/-- Where the row may not look the logit is minus infinity. -/
theorem v66_bot (b : Fin 64) (k : Fin 2) (g : Fin 4) (q : Fin 128) (s : Fin 256)
    (h : ¬ (s.val ≤ q.val + 128 ∧ q.val < s.val ∧ 128 ≤ 128 * b.val + s.val)) :
    val_main_v66 (F := Ideal) Z B Qg Kg (ix5 b k g q s) = (⊥ : EReal) := by
  rw [val_main_v66_apply, mask_at, decide_eq_false h, val_main_call1_v1_apply, val_main_call1_v0_apply, val_main_cst_12_apply]
  exact minus_infinity

/-- Where the row may look the logit stays. -/
theorem v66_val (b : Fin 64) (k : Fin 2) (g : Fin 4) (q : Fin 128) (s : Fin 256)
    (h : s.val ≤ q.val + 128 ∧ q.val < s.val ∧ 128 ≤ 128 * b.val + s.val) :
    val_main_v66 (F := Ideal) Z B Qg Kg (ix5 b k g q s) = val_main_v65 (F := Ideal) Z B Qg Kg (ix5 b k g q s) := by
  rw [val_main_v66_apply, mask_at, decide_eq_true h]
  rfl

section Row

variable (b : Fin 64) (k : Fin 2) (g : Fin 4) (q : Fin 128)

/-- The folded logits of a row. -/
abbrev folded : Fin 128 → EReal := logits Z B Qg Kg b.val k g.val q.val ⟨128 * g.val + q.val, by omega⟩
/-- The 256 logits of a row. -/
abbrev full (s : Fin 256) : EReal := val_main_v66 (F := Ideal) Z B Qg Kg (ix5 b k g q s)
/-- The sink's logit of a head. -/
abbrev sunk : EReal := Sk (ix1 (⟨4 * k.val + g.val, by omega⟩ : Fin 8))

theorem full_lo (s : Fin 256) (j : Fin 128) (hs : s.val = j.val) :
    full Z B Qg Kg b k g q s = if j.val ≤ q.val then ⊥ else folded Z B Qg Kg b k g q j := by
  have hj := j.isLt
  by_cases h : j.val ≤ q.val
  · rw [if_pos h]
    exact v66_bot Z B Qg Kg b k g q s (by omega)
  · rw [if_neg h]
    unfold folded logits logit
    rw [if_neg h]
    by_cases h0 : b.val = 0
    · rw [if_pos h0]
      exact v66_bot Z B Qg Kg b k g q s (by omega)
    · rw [if_neg h0]
      refine (v66_val Z B Qg Kg b k g q s (by omega)).trans (v65_at Z B Qg Kg b k g q s j (Or.inl hs) _ fun e => ?_)
      exact (two_lo _ _ b s j k e hs).trans (v56_at Z Kg b h0 j k e)

theorem full_hi (s : Fin 256) (j : Fin 128) (hs : s.val = 128 + j.val) :
    full Z B Qg Kg b k g q s = if j.val ≤ q.val then folded Z B Qg Kg b k g q j else ⊥ := by
  have hq := q.isLt
  by_cases h : j.val ≤ q.val
  · rw [if_pos h]
    unfold folded logits logit
    rw [if_pos h]
    refine (v66_val Z B Qg Kg b k g q s (by omega)).trans (v65_at Z B Qg Kg b k g q s j (Or.inr hs) _ fun e => ?_)
    exact (two_hi _ _ b s j k e hs).trans (v57_at Z Kg b j k e)
  · rw [if_neg h]
    exact v66_bot Z B Qg Kg b k g q s (by omega)

/-! ## The weights -/

theorem v69_at : val_main_v69 (F := Ideal) Z B Qg Kg (ix4 b k g q) = Finset.univ.sup (full Z B Qg Kg b k g q) := by
  unfold val_main_v69
  refine (Host.reduce_eq_fold _ _ _ _ _ _).trans ?_
  refine (Shape.ReducesTo.fold_fiber_r5_a4 reducesTo_S64x2x4x128x256_S64x2x4x128_d4 _ _ _ _).trans ?_
  rw [val_main_cst_13_apply, minus_infinity]
  show (Finset.univ : Finset (Fin 256)).sup _ = _
  refine congrArg (Finset.univ : Finset (Fin 256)).sup (funext fun s => ?_)
  refine congrArg (val_main_v66 (F := Ideal) Z B Qg Kg) (funext fun a => ?_)
  match a with
  | ⟨0, _⟩ => rfl
  | ⟨1, _⟩ => rfl
  | ⟨2, _⟩ => rfl
  | ⟨3, _⟩ => rfl
  | ⟨4, _⟩ => rfl

theorem sink_at (j : S1x2x4x1x1.Idx) (h1 : (j 1).val = k.val) (h2 : (j 2).val = g.val) : val_main_v68 (F := Ideal) Sk j = sunk Sk k g := by
  rw [val_main_v68_apply, val_main_v67_apply]
  refine congrArg Sk (funext fun a => Fin.ext ?_)
  match a with
  | ⟨0, _⟩ => show (j 1).val * 4 + (j 2).val = 4 * k.val + g.val; omega

theorem v72_at (u : Fin 1) : val_main_v72 (F := Ideal) Z B Sk Qg Kg (ix5 b k g q u) = peak (full Z B Qg Kg b k g q) (sunk Sk k g) := by
  rw [val_main_v72_apply, val_main_v70_apply, val_main_v71_apply, sink_at Sk k g _ rfl rfl]
  refine congrArg₂ max ((congrArg (val_main_v69 (F := Ideal) Z B Qg Kg) (funext fun a => ?_)).trans (v69_at Z B Qg Kg b k g q)) rfl
  match a with
  | ⟨0, _⟩ => rfl
  | ⟨1, _⟩ => rfl
  | ⟨2, _⟩ => rfl
  | ⟨3, _⟩ => rfl

theorem v75_at (s : Fin 256) : val_main_v75 (F := Ideal) Z B Sk Qg Kg (ix5 b k g q s)
    = Ideal.exp (full Z B Qg Kg b k g q s - peak (full Z B Qg Kg b k g q) (sunk Sk k g)) := by
  rw [val_main_v75_apply, val_main_v74_apply, val_main_v73_apply]
  refine congrArg Ideal.exp (congrArg₂ (· - ·) rfl ((congrArg (val_main_v72 (F := Ideal) Z B Sk Qg Kg) (funext fun a => ?_)).trans (v72_at Z B Sk Qg Kg b k g q 0)))
  match a with
  | ⟨0, _⟩ => rfl
  | ⟨1, _⟩ => rfl
  | ⟨2, _⟩ => rfl
  | ⟨3, _⟩ => rfl
  | ⟨4, _⟩ => rfl

theorem v81_at (u : Fin 1) : val_main_v81 (F := Ideal) Z B Sk Qg Kg (ix5 b k g q u) = total (full Z B Qg Kg b k g q) (sunk Sk k g) := by
  rw [val_main_v81_apply, val_main_v77_apply, val_main_v76_apply, val_main_v80_apply, val_main_v79_apply, val_main_v78_apply, v72_at, sink_at Sk k g _ rfl rfl]
  refine congrArg₂ (· + ·) ((congrArg₂ (· + ·) Ideal.ofBits_zero_f32 (Finset.sum_congr rfl fun s _ => ?_)).trans (zero_add _)) rfl
  refine (congrArg (val_main_v75 (F := Ideal) Z B Sk Qg Kg) (funext fun a => ?_)).trans (v75_at Z B Sk Qg Kg b k g q s)
  match a with
  | ⟨0, _⟩ => rfl
  | ⟨1, _⟩ => rfl
  | ⟨2, _⟩ => rfl
  | ⟨3, _⟩ => rfl
  | ⟨4, _⟩ => rfl

theorem v83_at (s : Fin 256) : val_main_v83 (F := Ideal) Z B Sk Qg Kg (ix5 b k g q s) = prob (full Z B Qg Kg b k g q) (sunk Sk k g) s := by
  rw [val_main_v83_apply, v75_at, val_main_v82_apply]
  refine congrArg₂ Ideal.div rfl ((congrArg (val_main_v81 (F := Ideal) Z B Sk Qg Kg) (funext fun a => ?_)).trans (v81_at Z B Sk Qg Kg b k g q 0))
  match a with
  | ⟨0, _⟩ => rfl
  | ⟨1, _⟩ => rfl
  | ⟨2, _⟩ => rfl
  | ⟨3, _⟩ => rfl
  | ⟨4, _⟩ => rfl

/-! ## The results -/

theorem v89_at (d : Fin 64) : val_main_v89 (F := Ideal) Z B Sk Qg Kg (ix5 b k d g q)
    = wide (full Z B Qg Kg b k g q) (sunk Sk k g) fun s => val_main_v88 (F := Ideal) Z (ix4 b s k d) := by
  rw [val_main_v89_apply]
  refine Finset.sum_congr rfl fun s _ => ?_
  refine (congrArg₂ (· * ·) (congrArg (val_main_v88 (F := Ideal) Z) (funext fun a => ?_))
    ((congrArg (val_main_v83 (F := Ideal) Z B Sk Qg Kg) (funext fun a => ?_)).trans (v83_at Z B Sk Qg Kg b k g q s))).trans (mul_comm _ _)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl
    | ⟨4, _⟩ => rfl

end Row

/-! ## Finite arguments -/

variable (hZ : ∀ i, ∃ x : ℝ, (Z i : EReal) = (x : EReal)) (hB : ∀ i, ∃ x : ℝ, (B i : EReal) = (x : EReal)) (hS : ∀ i, ∃ x : ℝ, (Sk i : EReal) = (x : EReal))
  (hQ : ∀ i, ∃ x : ℝ, (Qg i : EReal) = (x : EReal)) (hK : ∀ i, ∃ x : ℝ, (Kg i : EReal) = (x : EReal))

theorem pick {n : ℕ} {t : Fin n → EReal} (h : ∀ e, ∃ x : ℝ, t e = (x : EReal)) : ∃ f : Fin n → ℝ, t = fun d => (f d : EReal) :=
  ⟨fun d => (h d).choose, funext fun d => (h d).choose_spec⟩

include hZ hQ in
theorem query_real (r h : ℕ) : ∃ f : Fin 64 → ℝ, query Z Qg r h = fun d => (f d : EReal) :=
  unit_real (pick fun e => hZ _) (pick fun e => hQ _)

include hZ hK in
theorem key_real (r k : ℕ) : ∃ f : Fin 64 → ℝ, key Z Kg r k = fun d => (f d : EReal) :=
  unit_real (pick fun e => hZ _) (pick fun e => hK _)

include hZ hB hQ hK in
theorem folded_ne_top (b : Fin 64) (k : Fin 2) (g : Fin 4) (q : Fin 128) (j : Fin 128) : folded Z B Qg Kg b k g q j ≠ ⊤ := by
  unfold folded logits logit
  split
  · exact scaled_ne_top (dot_real (query_real Z Qg hZ hQ _ _) (key_real Z Kg hZ hK _ _)) (hB _)
  · split
    · exact bot_ne_top
    · exact scaled_ne_top (dot_real (query_real Z Qg hZ hQ _ _) (key_real Z Kg hZ hK _ _)) (hB _)

include hZ hB hS hQ hK in
theorem row_eq (b : Fin 64) (k : Fin 2) (g : Fin 4) (q : Fin 128) (d : Fin 64) :
    val_main_v89 (F := Ideal) Z B Sk Qg Kg (ix5 b k d g q)
      = whole Z B Sk Qg Kg b.val k g.val q.val ⟨128 * g.val + q.val, by omega⟩ d := by
  have hq := q.isLt
  refine (v89_at Z B Sk Qg Kg b k g q d).trans ?_
  refine (wide_fold q.val (folded Z B Qg Kg b k g q) (full Z B Qg Kg b k g q) (sunk Sk k g) (fun j => full_lo Z B Qg Kg b k g q _ j rfl)
    (fun j => full_hi Z B Qg Kg b k g q _ j rfl) (folded_ne_top Z B Qg Kg hZ hB hQ hK b k g q) (hS _) _
    (fun j => value Z (128 * b.val + j.val) k.val d) (fun j => value Z (128 * (b.val - 1) + j.val) k.val d) (fun j => ?_) (fun j hj => ?_)).trans ?_
  · exact (two_hi _ _ b _ j k d rfl).trans (v87_at Z b j k d)
  · by_cases h0 : b.val = 0
    · refine Or.inr ?_
      unfold folded logits logit
      rw [if_neg hj, if_pos h0]
    · exact Or.inl ((two_lo _ _ b _ j k d rfl).trans (v86_at Z b h0 j k d))
  · unfold whole
    refine congrArg (fun t => entry q.val _ t _ _) (congrArg Sk (congrArg ix1 (Fin.ext ?_)))
    show 4 * k.val + g.val = 4 * k.val + (128 * g.val + q.val) / 128
    omega

include hZ hB hS hQ hK in
theorem result_eq : val_main_v91 (F := Ideal) Z B Sk Qg Kg = goal Z B Sk Qg Kg := by
  funext i
  have h0 : (i 0).val < 8192 := (i 0).isLt
  have h1 : (i 1).val < 512 := (i 1).isLt
  rw [val_main_v91_apply, val_main_v90_apply]
  refine Eq.trans (congrArg (val_main_v89 (F := Ideal) Z B Sk Qg Kg) (a₂ := ix5 (⟨(i 0).val / 128, by omega⟩ : Fin 64) (⟨(i 1).val / 256, by omega⟩ : Fin 2)
    (⟨(i 1).val % 64, by omega⟩ : Fin 64) (⟨(i 1).val / 64 % 4, by omega⟩ : Fin 4) (⟨(i 0).val % 128, by omega⟩ : Fin 128)) (funext fun a => Fin.ext ?_))
    (row_eq Z B Sk Qg Kg hZ hB hS hQ hK _ _ _ _ _)
  match a with
  | ⟨0, _⟩ => show ((i 0).val * 512 + (i 1).val) / 65536 = (i 0).val / 128; omega
  | ⟨1, _⟩ => show ((i 0).val * 512 + (i 1).val) / 256 % 2 = (i 1).val / 256; omega
  | ⟨2, _⟩ => show ((i 0).val * 512 + (i 1).val) % 64 = (i 1).val % 64; omega
  | ⟨3, _⟩ => show ((i 0).val * 512 + (i 1).val) / 64 % 4 = (i 1).val / 64 % 4; omega
  | ⟨4, _⟩ => show ((i 0).val * 512 + (i 1).val) / 512 % 128 = (i 0).val % 128; omega

end Reference

/-! ## The claims -/

open Cert.Kernel20Ideal Cert.Kernel20Ideal.Gen
open Idealize.ShloMosaic.Pipeline (Dat)

theorem args_real [Cert.Pre_finite20.Facts] (x0 : FVec Ideal Cert.Pre_finite20.S8192x1792 .f32) (x1 : FVec Ideal Cert.Pre_finite20.S2x512x128 .f32)
    (x2 : FVec Ideal Cert.Pre_finite20.S8 .f32) (x3 : FVec Ideal Cert.Pre_finite20.S64 .f32) (x4 : FVec Ideal Cert.Pre_finite20.S64 .f32)
    (h : Cert.Pre_finite20.fn (F := Ideal) x0 x1 x2 x3 x4 = fun _ => 1#1) :
    (∀ i, ((EReal.toReal (x0 i) : ℝ) : EReal) = x0 i) ∧ (∀ i, ((EReal.toReal (x1 i) : ℝ) : EReal) = x1 i) ∧ (∀ i, ((EReal.toReal (x2 i) : ℝ) : EReal) = x2 i)
      ∧ (∀ i, ((EReal.toReal (x3 i) : ℝ) : EReal) = x3 i) ∧ (∀ i, ((EReal.toReal (x4 i) : ℝ) : EReal) = x4 i) := by
  have e := fun p => congrFun h (ix1 p)
  unfold Cert.Pre_finite20.fn Cert.Pre_finite20.fn_part1 at e
  dsimp only at e
  refine ⟨?_, ?_, ?_, ?_, ?_⟩
  · exact Cert.Finite.all_real x0 _ _ _ _ _ ((Cert.Finite.piece _ _ 0 (Nat.le_of_ble_eq_true rfl) _ _ rfl rfl (Nat.le_of_ble_eq_true rfl)).symm.trans (e 0))
  · exact Cert.Finite.all_real x1 _ _ _ _ _ ((Cert.Finite.piece _ _ 1 (Nat.le_of_ble_eq_true rfl) _ _ rfl rfl (Nat.le_of_ble_eq_true rfl)).symm.trans (e 1))
  · exact Cert.Finite.all_real x2 _ _ _ _ _ ((Cert.Finite.piece _ _ 2 (Nat.le_of_ble_eq_true rfl) _ _ rfl rfl (Nat.le_of_ble_eq_true rfl)).symm.trans (e 2))
  · exact Cert.Finite.all_real x3 _ _ _ _ _ ((Cert.Finite.piece _ _ 3 (Nat.le_of_ble_eq_true rfl) _ _ rfl rfl (Nat.le_of_ble_eq_true rfl)).symm.trans (e 3))
  · exact Cert.Finite.all_real x4 _ _ _ _ _ ((Cert.Finite.piece _ _ 4 (Nat.le_of_ble_eq_true rfl) _ _ rfl rfl (Nat.le_of_ble_eq_true rfl)).symm.trans (e 4))

/-- The reference ends with its arguments as they were; it has no semaphore. -/
theorem frame : quiescent_Reference20Ideal (hReference20Ideal := Cert.Reference20Ideal.Gen.facts) := fun m g _ =>
  (θ_run Cert.Reference20Ideal.defs _ _).mono (fun r h => ⟨fun c => (h c).2, sem_eq_zero_of_no_sems (by decide) r.2⟩) (Cert.Reference20Ideal.Value.run m g)

/-- The same under the precondition. -/
theorem frame_finite [Cert.Pre_finite20.Facts] :
    quiescent_Reference20Ideal_pre_finite20 (hReference20Ideal := Cert.Reference20Ideal.Gen.facts) := fun m g _ =>
  (θ_run Cert.Reference20Ideal.defs _ _).mono (fun r h => ⟨fun c => (h c).2, sem_eq_zero_of_no_sems (by decide) r.2⟩) (Cert.Reference20Ideal.Value.run m g)

/-- The mask's literal stands for minus infinity. -/
theorem preserves : preserves_Kernel20_Kernel20Ideal :=
  IdealRules.named_const.statement Cert.Kernel20Ideal.κ "mask" .f32 0xF149F2CA#32 ⊥ rfl

theorem algebraic [Cert.Pre_finite20.Facts] :
    algebraic_Kernel20Ideal_Reference20Ideal_pre_finite20 (hKernel20Ideal := Cert.Kernel20Ideal.Gen.facts) (hReference20Ideal := Cert.Reference20Ideal.Gen.facts) := by
  intro m g m' g' hp hargs
  refine ⟨fun c => (dats m 0 c).arrAt 9 cfg0.N, Cert.Kernel20Ideal.Value.run_blocks m g, ?_⟩
  refine (θ_run Cert.Reference20Ideal.defs _ _).mono (fun r h c => ?_) (Cert.Reference20Ideal.Value.run m' g')
  obtain ⟨h0, h1, h2, h3, h4⟩ := args_real _ _ _ _ _ (hp c)
  obtain ⟨e0, e1, e2, e3, e4⟩ := hargs c
  obtain ⟨r0, k⟩ := h c
  refine ⟨r0.trans ?_, k⟩
  refine (Cert.Reference20Ideal.Read.val_main_v91_eq m' c).trans ?_
  rw [e0, e1, e2, e3, e4]
  exact (result_eq _ _ _ _ _ (fun i => ⟨_, (h0 i).symm⟩) (fun i => ⟨_, (h1 i).symm⟩) (fun i => ⟨_, (h2 i).symm⟩) (fun i => ⟨_, (h3 i).symm⟩)
    (fun i => ⟨_, (h4 i).symm⟩)).trans (final9 m c).symm

end Cert.AttnFwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_finite
public import proofs.«01_k».proof.Proof.Gen.Pre_finite5
public import proofs.«01_k».proof.Proof.Gen.Pre_finite8
public import proofs.«01_k».proof.Proof.Gen.Pre_finite20
public import proofs.«01_k».proof.Proof.MixClaim
public import proofs.«01_k».proof.Proof.Dact
public import proofs.«01_k».proof.Proof.GwDown
public import proofs.«01_k».proof.Proof.GwUp
public import proofs.«01_k».proof.Proof.MlpIn
public import proofs.«01_k».proof.Proof.GwOut
public import proofs.«01_k».proof.Proof.GwIn
public import proofs.«01_k».proof.Proof.MixIn
public import proofs.«01_k».proof.Proof.MlpUp
public import proofs.«01_k».proof.Proof.MlpDown
public import proofs.«01_k».proof.Proof.MixProj
public import proofs.«01_k».proof.Proof.MixOut
public import proofs.«01_k».proof.Proof.AdamIn
public import proofs.«01_k».proof.Proof.AdamOut
public import proofs.«01_k».proof.Proof.AdamMlp
public import proofs.«01_k».proof.Proof.AdamSmall
public import proofs.«01_k».proof.Proof.LossGrad
public import proofs.«01_k».proof.Proof.MixNorm
public import proofs.«01_k».proof.Proof.ConvFwd
public import proofs.«01_k».proof.Proof.AttnFwd
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Pre_finite.Gen.facts, Cert.Pre_finite5.Gen.facts, Cert.Pre_finite8.Gen.facts, Cert.Pre_finite20.Gen.facts,
    fun m ρ _ => Cert.Kernel.Gen.frame m ρ,
    fun m ρ _ => Cert.KernelIdeal.Gen.frame m ρ,
    fun m ρ _ => Cert.KernelIdeal.Gen.frame m ρ,
    MixClaim.frame,
    MixClaim.frame_finite,
    fun m ρ _ => Cert.Kernel2.Gen.frame m ρ,
    fun m ρ _ => Cert.Kernel2Ideal.Gen.frame m ρ,
    Cert.Dact.frame,
    fun m ρ _ => Cert.Kernel3.Gen.frame m ρ,
    fun m ρ _ => Cert.Kernel3Ideal.Gen.frame m ρ,
    Cert.GwDown.frame,
    fun m ρ _ => Cert.Kernel4.Gen.frame m ρ,
    fun m ρ _ => Cert.Kernel4Ideal.Gen.frame m ρ,
    Cert.GwUp.frame,
    fun m ρ _ => Cert.Kernel5.Gen.frame m ρ,
    fun m ρ _ => Cert.Kernel5Ideal.Gen.frame m ρ,
    fun m ρ _ => Cert.Kernel5Ideal.Gen.frame m ρ,
    Cert.MlpIn.frame,
    Cert.MlpIn.frame_finite,
    fun m ρ _ => Cert.Kernel6.Gen.frame m ρ,
    fun m ρ _ => Cert.Kernel6Ideal.Gen.frame m ρ,
    Cert.GwOut.frame,
    fun m ρ _ => Cert.Kernel7.Gen.frame m ρ,
    fun m ρ _ => Cert.Kernel7Ideal.Gen.frame m ρ,
    Cert.GwIn.frame,
    fun m ρ _ => Cert.Kernel8.Gen.frame m ρ,
    fun m ρ _ => Cert.Kernel8Ideal.Gen.frame m ρ,
    fun m ρ _ => Cert.Kernel8Ideal.Gen.frame m ρ,
    Cert.MixIn.frame,
    Cert.MixIn.frame_finite,
    fun m ρ _ => Cert.Kernel9.Gen.frame m ρ,
    fun m ρ _ => Cert.Kernel9Ideal.Gen.frame m ρ,
    Cert.MlpUp.frame,
    fun m ρ _ => Cert.Kernel10.Gen.frame m ρ,
    fun m ρ _ => Cert.Kernel10Ideal.Gen.frame m ρ,
    Cert.MlpDown.frame,
    fun m ρ _ => Cert.Kernel11.Gen.frame m ρ,
    fun m ρ _ => Cert.Kernel11Ideal.Gen.frame m ρ,
    Cert.MixProj.frame,
    fun m ρ _ => Cert.Kernel12.Gen.frame m ρ,
    fun m ρ _ => Cert.Kernel12Ideal.Gen.frame m ρ,
    Cert.MixOut.frame,
    fun m ρ _ => Cert.Kernel13.Gen.frame m ρ,
    fun m ρ _ => Cert.Kernel13Ideal.Gen.frame m ρ,
    Cert.AdamIn.frame,
    fun m ρ _ => Cert.Kernel14.Gen.frame m ρ,
    fun m ρ _ => Cert.Kernel14Ideal.Gen.frame m ρ,
    Cert.AdamOut.frame,
    fun m ρ _ => Cert.Kernel15.Gen.frame m ρ,
    fun m ρ _ => Cert.Kernel15Ideal.Gen.frame m ρ,
    Cert.AdamMlp.frame,
    fun m ρ _ => Cert.Kernel16.Gen.frame m ρ,
    fun m ρ _ => Cert.Kernel16Ideal.Gen.frame m ρ,
    Cert.AdamSmall.frame,
    fun m ρ _ => Cert.Kernel17.Gen.frame m ρ,
    fun m ρ _ => Cert.Kernel17Ideal.Gen.frame m ρ,
    Cert.LossGrad.frame,
    fun m ρ _ => Cert.Kernel18.Gen.frame m ρ,
    fun m ρ _ => Cert.Kernel18Ideal.Gen.frame m ρ,
    Cert.MixNorm.frame,
    fun m ρ _ => Cert.Kernel19.Gen.frame m ρ,
    fun m ρ _ => Cert.Kernel19Ideal.Gen.frame m ρ,
    Cert.ConvFwd.frame,
    fun m ρ _ => Cert.Kernel20.Gen.frame m ρ,
    fun m ρ _ => Cert.Kernel20Ideal.Gen.frame m ρ,
    fun m ρ _ => Cert.Kernel20Ideal.Gen.frame m ρ,
    Cert.AttnFwd.frame,
    Cert.AttnFwd.frame_finite,
    trivial,
    MixClaim.algebraic,
    trivial,
    Cert.Dact.algebraic,
    trivial,
    Cert.GwDown.algebraic,
    trivial,
    Cert.GwUp.algebraic,
    trivial,
    Cert.MlpIn.algebraic,
    trivial,
    Cert.GwOut.algebraic,
    trivial,
    Cert.GwIn.algebraic,
    trivial,
    Cert.MixIn.algebraic,
    trivial,
    Cert.MlpUp.algebraic,
    trivial,
    Cert.MlpDown.algebraic,
    trivial,
    Cert.MixProj.algebraic,
    trivial,
    Cert.MixOut.algebraic,
    trivial,
    Cert.AdamIn.algebraic,
    trivial,
    Cert.AdamOut.algebraic,
    trivial,
    Cert.AdamMlp.algebraic,
    trivial,
    Cert.AdamSmall.algebraic,
    trivial,
    Cert.LossGrad.algebraic,
    trivial,
    Cert.MixNorm.algebraic,
    trivial,
    Cert.ConvFwd.algebraic,
    Cert.AttnFwd.preserves,
    Cert.AttnFwd.algebraic⟩

end Cert.Proof

end
